-- ==== Defs.lean ====
def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_mix_finite [hPre_mix_finite : Cert.Pre_mix_finite.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6))).1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6))).2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6))).2.2.1 = (fun _ => 1#1)
    ∧ (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6))).2.2.2 = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_mix_finite [hPre_mix_finite : Cert.Pre_mix_finite.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6))).1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6))).2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6))).2.2.1 = (fun _ => 1#1)
    ∧ (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6))).2.2.2 = (fun _ => 1#1)

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutKernelIdeal_out_finite [hPre_out_finite : Cert.Pre_out_finite.Facts] (m : (ℓ : Loc Cert.OutKernelIdeal.nD Cert.OutKernelIdeal.τ Cert.OutKernelIdeal.sig) → Buf (Elt Ideal) ℓ) : Prop :=
  ∀ c : Dev Cert.OutKernelIdeal.nD,
    (Cert.Pre_out_finite.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6))).1 = (fun _ => 1#1)
    ∧ (Cert.Pre_out_finite.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6))).2.1 = (fun _ => 1#1)
    ∧ (Cert.Pre_out_finite.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5)) (m ((c.tc : Thread Cert.OutKernelIdeal.nD Cert.OutKernelIdeal.τ).loc Cert.OutKernelIdeal.main_arg6))).2.2 = (fun _ => 1#1)

def Pre_OutReferenceIdeal (m : (ℓ : Loc Cert.OutReferenceIdeal.nD Cert.OutReferenceIdeal.τ Cert.OutReferenceIdeal.sig) → Buf (Elt Ideal) ℓ) : Prop :=
  True

def Pre_OutReferenceIdeal_out_finite [hPre_out_finite : Cert.Pre_out_finite.Facts] (m : (ℓ : Loc Cert.OutReferenceIdeal.nD Cert.OutReferenceIdeal.τ Cert.OutReferenceIdeal.sig) → Buf (Elt Ideal) ℓ) : Prop :=
  ∀ c : Dev Cert.OutReferenceIdeal.nD,
    (Cert.Pre_out_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6))).1 = (fun _ => 1#1)
    ∧ (Cert.Pre_out_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6))).2.1 = (fun _ => 1#1)
    ∧ (Cert.Pre_out_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5)) (m ((c.tc : Thread Cert.OutReferenceIdeal.nD Cert.OutReferenceIdeal.τ).loc Cert.OutReferenceIdeal.main_arg6))).2.2 = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InKernelIdeal_in_finite [hPre_in_finite : Cert.Pre_in_finite.Facts] (m : (ℓ : Loc Cert.InKernelIdeal.nD Cert.InKernelIdeal.τ Cert.InKernelIdeal.sig) → Buf (Elt Ideal) ℓ) : Prop :=
  ∀ c : Dev Cert.InKernelIdeal.nD,
    (Cert.Pre_in_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7)) (m ((c.tc : Thread Cert.InKernelIdeal.nD Cert.InKernelIdeal.τ).loc Cert.InKernelIdeal.main_arg8)) (m ((c.tc : Thread Cert.InKernelIdeal.nD Cert.InKernelIdeal.τ).loc Cert.InKernelIdeal.main_arg9)) (m ((c.tc : Thread Cert.InKernelIdeal.nD Cert.InKernelIdeal.τ).loc Cert.InKernelIdeal.main_arg10))).1 = (fun _ => 1#1)
    ∧ (Cert.Pre_in_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7)) (m ((c.tc : Thread Cert.InKernelIdeal.nD Cert.InKernelIdeal.τ).loc Cert.InKernelIdeal.main_arg8)) (m ((c.tc : Thread Cert.InKernelIdeal.nD Cert.InKernelIdeal.τ).loc Cert.InKernelIdeal.main_arg9)) (m ((c.tc : Thread Cert.InKernelIdeal.nD Cert.InKernelIdeal.τ).loc Cert.InKernelIdeal.main_arg10))).2.1 = (fun _ => 1#1)
    ∧ (Cert.Pre_in_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7)) (m ((c.tc : Thread Cert.InKernelIdeal.nD Cert.InKernelIdeal.τ).loc Cert.InKernelIdeal.main_arg8)) (m ((c.tc : Thread Cert.InKernelIdeal.nD Cert.InKernelIdeal.τ).loc Cert.InKernelIdeal.main_arg9)) (m ((c.tc : Thread Cert.InKernelIdeal.nD Cert.InKernelIdeal.τ).loc Cert.InKernelIdeal.main_arg10))).2.2.1 = (fun _ => 1#1)
    ∧ (Cert.Pre_in_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)) (m ((c.tc : Thread Cert.InKernelIdeal.nD Cert.InKernelIdeal.τ).loc Cert.InKernelIdeal.main_arg7)) (m ((c.tc : Thread Cert.InKernelIdeal.nD Cert.InKernelIdeal.τ).loc Cert.InKernelIdeal.main_arg8)) (m ((c.tc : Thread Cert.InKernelIdeal.nD Cert.InKernelIdeal.τ).loc Cert.InKernelIdeal.main_arg9)) (m ((c.tc : Thread Cert.InKernelIdeal.nD Cert.InKernelIdeal.τ).loc Cert.InKernelIdeal.main_arg10))).2.2.2 = (fun _ => 1#1)

def Pre_InReferenceIdeal (m : (ℓ : Loc Cert.InReferenceIdeal.nD Cert.InReferenceIdeal.τ Cert.InReferenceIdeal.sig) → Buf (Elt Ideal) ℓ) : Prop :=
  True

def Pre_InReferenceIdeal_in_finite [hPre_in_finite : Cert.Pre_in_finite.Facts] (m : (ℓ : Loc Cert.InReferenceIdeal.nD Cert.InReferenceIdeal.τ Cert.InReferenceIdeal.sig) → Buf (Elt Ideal) ℓ) : Prop :=
  ∀ c : Dev Cert.InReferenceIdeal.nD,
    (Cert.Pre_in_finite.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7)) (m ((c.tc : Thread Cert.InReferenceIdeal.nD Cert.InReferenceIdeal.τ).loc Cert.InReferenceIdeal.main_arg8)) (m ((c.tc : Thread Cert.InReferenceIdeal.nD Cert.InReferenceIdeal.τ).loc Cert.InReferenceIdeal.main_arg9)) (m ((c.tc : Thread Cert.InReferenceIdeal.nD Cert.InReferenceIdeal.τ).loc Cert.InReferenceIdeal.main_arg10))).1 = (fun _ => 1#1)
    ∧ (Cert.Pre_in_finite.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7)) (m ((c.tc : Thread Cert.InReferenceIdeal.nD Cert.InReferenceIdeal.τ).loc Cert.InReferenceIdeal.main_arg8)) (m ((c.tc : Thread Cert.InReferenceIdeal.nD Cert.InReferenceIdeal.τ).loc Cert.InReferenceIdeal.main_arg9)) (m ((c.tc : Thread Cert.InReferenceIdeal.nD Cert.InReferenceIdeal.τ).loc Cert.InReferenceIdeal.main_arg10))).2.1 = (fun _ => 1#1)
    ∧ (Cert.Pre_in_finite.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7)) (m ((c.tc : Thread Cert.InReferenceIdeal.nD Cert.InReferenceIdeal.τ).loc Cert.InReferenceIdeal.main_arg8)) (m ((c.tc : Thread Cert.InReferenceIdeal.nD Cert.InReferenceIdeal.τ).loc Cert.InReferenceIdeal.main_arg9)) (m ((c.tc : Thread Cert.InReferenceIdeal.nD Cert.InReferenceIdeal.τ).loc Cert.InReferenceIdeal.main_arg10))).2.2.1 = (fun _ => 1#1)
    ∧ (Cert.Pre_in_finite.fn (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6)) (m ((c.tc : Thread Cert.InReferenceIdeal.nD Cert.InReferenceIdeal.τ).loc Cert.InReferenceIdeal.main_arg7)) (m ((c.tc : Thread Cert.InReferenceIdeal.nD Cert.InReferenceIdeal.τ).loc Cert.InReferenceIdeal.main_arg8)) (m ((c.tc : Thread Cert.InReferenceIdeal.nD Cert.InReferenceIdeal.τ).loc Cert.InReferenceIdeal.main_arg9)) (m ((c.tc : Thread Cert.InReferenceIdeal.nD Cert.InReferenceIdeal.τ).loc Cert.InReferenceIdeal.main_arg10))).2.2.2 = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdReferenceIdeal (m : (ℓ : Loc Cert.FwdReferenceIdeal.nD Cert.FwdReferenceIdeal.τ Cert.FwdReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_MfwdKernel (m : (ℓ : Loc Cert.MfwdKernel.nD Cert.MfwdKernel.τ Cert.MfwdKernel.sig) → Buf (Elt Bits) ℓ) : Prop :=
  True

def Pre_MfwdKernelIdeal (m : (ℓ : Loc Cert.MfwdKernelIdeal.nD Cert.MfwdKernelIdeal.τ Cert.MfwdKernelIdeal.sig) → Buf (Elt Ideal) ℓ) : Prop :=
  True

def Pre_MfwdReferenceIdeal (m : (ℓ : Loc Cert.MfwdReferenceIdeal.nD Cert.MfwdReferenceIdeal.τ Cert.MfwdReferenceIdeal.sig) → Buf (Elt Ideal) ℓ) : Prop :=
  True

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6))
      ∧ r.2.sem = fun _ => 0)

def quiescent_MixKernelIdeal_pre_mix_finite [hMixKernelIdeal : Cert.MixKernelIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_mix_finite m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6))
      ∧ r.2.sem = fun _ => 0)

def quiescent_MixReferenceIdeal_pre_mix_finite [hMixReferenceIdeal : Cert.MixReferenceIdeal.Facts] [hPre_mix_finite : Cert.Pre_mix_finite.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_mix_finite m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ r.2.sem = fun _ => 0)

def quiescent_OutKernelIdeal_pre_out_finite [hOutKernelIdeal : Cert.OutKernelIdeal.Facts] [hPre_out_finite : Cert.Pre_out_finite.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal_out_finite m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6))
      ∧ r.2.sem = fun _ => 0)

def quiescent_OutReferenceIdeal_pre_out_finite [hOutReferenceIdeal : Cert.OutReferenceIdeal.Facts] [hPre_out_finite : Cert.Pre_out_finite.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal_out_finite m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5)
      ∧ r.2.mem ((c.tc : Thread Cert.InKernel.nD Cert.InKernel.τ).loc Cert.InKernel.main_arg6) = m ((c.tc : Thread Cert.InKernel.nD Cert.InKernel.τ).loc Cert.InKernel.main_arg6)
      ∧ r.2.mem ((c.tc : Thread Cert.InKernel.nD Cert.InKernel.τ).loc Cert.InKernel.main_arg7) = m ((c.tc : Thread Cert.InKernel.nD Cert.InKernel.τ).loc Cert.InKernel.main_arg7)
      ∧ r.2.mem ((c.tc : Thread Cert.InKernel.nD Cert.InKernel.τ).loc Cert.InKernel.main_arg8) = m ((c.tc : Thread Cert.InKernel.nD Cert.InKernel.τ).loc Cert.InKernel.main_arg8)
      ∧ r.2.mem ((c.tc : Thread Cert.InKernel.nD Cert.InKernel.τ).loc Cert.InKernel.main_arg9) = m ((c.tc : Thread Cert.InKernel.nD Cert.InKernel.τ).loc Cert.InKernel.main_arg9)
      ∧ r.2.mem ((c.tc : Thread Cert.InKernel.nD Cert.InKernel.τ).loc Cert.InKernel.main_arg10) = m ((c.tc : Thread Cert.InKernel.nD Cert.InKernel.τ).loc Cert.InKernel.main_arg10))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
      ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
      ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8)
      ∧ r.2.mem ((c.tc : Thread Cert.InKernelIdeal.nD Cert.InKernelIdeal.τ).loc Cert.InKernelIdeal.main_arg9) = m ((c.tc : Thread Cert.InKernelIdeal.nD Cert.InKernelIdeal.τ).loc Cert.InKernelIdeal.main_arg9)
      ∧ r.2.mem ((c.tc : Thread Cert.InKernelIdeal.nD Cert.InKernelIdeal.τ).loc Cert.InKernelIdeal.main_arg10) = m ((c.tc : Thread Cert.InKernelIdeal.nD Cert.InKernelIdeal.τ).loc Cert.InKernelIdeal.main_arg10))
      ∧ r.2.sem = fun _ => 0)

def quiescent_InKernelIdeal_pre_in_finite [hInKernelIdeal : Cert.InKernelIdeal.Facts] [hPre_in_finite : Cert.Pre_in_finite.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal_in_finite m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
      ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
      ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8)
      ∧ r.2.mem ((c.tc : Thread Cert.InKernelIdeal.nD Cert.InKernelIdeal.τ).loc Cert.InKernelIdeal.main_arg9) = m ((c.tc : Thread Cert.InKernelIdeal.nD Cert.InKernelIdeal.τ).loc Cert.InKernelIdeal.main_arg9)
      ∧ r.2.mem ((c.tc : Thread Cert.InKernelIdeal.nD Cert.InKernelIdeal.τ).loc Cert.InKernelIdeal.main_arg10) = m ((c.tc : Thread Cert.InKernelIdeal.nD Cert.InKernelIdeal.τ).loc Cert.InKernelIdeal.main_arg10))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7)
      ∧ r.2.mem ((c.tc : Thread Cert.InReferenceIdeal.nD Cert.InReferenceIdeal.τ).loc Cert.InReferenceIdeal.main_arg8) = m ((c.tc : Thread Cert.InReferenceIdeal.nD Cert.InReferenceIdeal.τ).loc Cert.InReferenceIdeal.main_arg8)
      ∧ r.2.mem ((c.tc : Thread Cert.InReferenceIdeal.nD Cert.InReferenceIdeal.τ).loc Cert.InReferenceIdeal.main_arg9) = m ((c.tc : Thread Cert.InReferenceIdeal.nD Cert.InReferenceIdeal.τ).loc Cert.InReferenceIdeal.main_arg9)
      ∧ r.2.mem ((c.tc : Thread Cert.InReferenceIdeal.nD Cert.InReferenceIdeal.τ).loc Cert.InReferenceIdeal.main_arg10) = m ((c.tc : Thread Cert.InReferenceIdeal.nD Cert.InReferenceIdeal.τ).loc Cert.InReferenceIdeal.main_arg10))
      ∧ r.2.sem = fun _ => 0)

def quiescent_InReferenceIdeal_pre_in_finite [hInReferenceIdeal : Cert.InReferenceIdeal.Facts] [hPre_in_finite : Cert.Pre_in_finite.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal_in_finite m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7)
      ∧ r.2.mem ((c.tc : Thread Cert.InReferenceIdeal.nD Cert.InReferenceIdeal.τ).loc Cert.InReferenceIdeal.main_arg8) = m ((c.tc : Thread Cert.InReferenceIdeal.nD Cert.InReferenceIdeal.τ).loc Cert.InReferenceIdeal.main_arg8)
      ∧ r.2.mem ((c.tc : Thread Cert.InReferenceIdeal.nD Cert.InReferenceIdeal.τ).loc Cert.InReferenceIdeal.main_arg9) = m ((c.tc : Thread Cert.InReferenceIdeal.nD Cert.InReferenceIdeal.τ).loc Cert.InReferenceIdeal.main_arg9)
      ∧ r.2.mem ((c.tc : Thread Cert.InReferenceIdeal.nD Cert.InReferenceIdeal.τ).loc Cert.InReferenceIdeal.main_arg10) = m ((c.tc : Thread Cert.InReferenceIdeal.nD Cert.InReferenceIdeal.τ).loc Cert.InReferenceIdeal.main_arg10))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2)
      ∧ r.2.mem ((c.tc : Thread Cert.FwdKernel.nD Cert.FwdKernel.τ).loc Cert.FwdKernel.main_arg3) = m ((c.tc : Thread Cert.FwdKernel.nD Cert.FwdKernel.τ).loc Cert.FwdKernel.main_arg3)
      ∧ r.2.mem ((c.tc : Thread Cert.FwdKernel.nD Cert.FwdKernel.τ).loc Cert.FwdKernel.main_arg4) = m ((c.tc : Thread Cert.FwdKernel.nD Cert.FwdKernel.τ).loc Cert.FwdKernel.main_arg4)
      ∧ r.2.mem ((c.tc : Thread Cert.FwdKernel.nD Cert.FwdKernel.τ).loc Cert.FwdKernel.main_arg5) = m ((c.tc : Thread Cert.FwdKernel.nD Cert.FwdKernel.τ).loc Cert.FwdKernel.main_arg5)
      ∧ r.2.mem ((c.tc : Thread Cert.FwdKernel.nD Cert.FwdKernel.τ).loc Cert.FwdKernel.main_arg6) = m ((c.tc : Thread Cert.FwdKernel.nD Cert.FwdKernel.τ).loc Cert.FwdKernel.main_arg6))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
      ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
      ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5)
      ∧ r.2.mem ((c.tc : Thread Cert.FwdKernelIdeal.nD Cert.FwdKernelIdeal.τ).loc Cert.FwdKernelIdeal.main_arg6) = m ((c.tc : Thread Cert.FwdKernelIdeal.nD Cert.FwdKernelIdeal.τ).loc Cert.FwdKernelIdeal.main_arg6))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4)
      ∧ r.2.mem ((c.tc : Thread Cert.FwdReferenceIdeal.nD Cert.FwdReferenceIdeal.τ).loc Cert.FwdReferenceIdeal.main_arg5) = m ((c.tc : Thread Cert.FwdReferenceIdeal.nD Cert.FwdReferenceIdeal.τ).loc Cert.FwdReferenceIdeal.main_arg5)
      ∧ r.2.mem ((c.tc : Thread Cert.FwdReferenceIdeal.nD Cert.FwdReferenceIdeal.τ).loc Cert.FwdReferenceIdeal.main_arg6) = m ((c.tc : Thread Cert.FwdReferenceIdeal.nD Cert.FwdReferenceIdeal.τ).loc Cert.FwdReferenceIdeal.main_arg6))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4)
      ∧ r.2.mem ((c.tc : Thread Cert.LossKernel.nD Cert.LossKernel.τ).loc Cert.LossKernel.main_arg5) = m ((c.tc : Thread Cert.LossKernel.nD Cert.LossKernel.τ).loc Cert.LossKernel.main_arg5)
      ∧ r.2.mem ((c.tc : Thread Cert.LossKernel.nD Cert.LossKernel.τ).loc Cert.LossKernel.main_arg6) = m ((c.tc : Thread Cert.LossKernel.nD Cert.LossKernel.τ).loc Cert.LossKernel.main_arg6))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
      ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5)
      ∧ r.2.mem ((c.tc : Thread Cert.LossKernelIdeal.nD Cert.LossKernelIdeal.τ).loc Cert.LossKernelIdeal.main_arg6) = m ((c.tc : Thread Cert.LossKernelIdeal.nD Cert.LossKernelIdeal.τ).loc Cert.LossKernelIdeal.main_arg6))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5)
      ∧ r.2.mem ((c.tc : Thread Cert.LossReferenceIdeal.nD Cert.LossReferenceIdeal.τ).loc Cert.LossReferenceIdeal.main_arg6) = m ((c.tc : Thread Cert.LossReferenceIdeal.nD Cert.LossReferenceIdeal.τ).loc Cert.LossReferenceIdeal.main_arg6))
      ∧ r.2.sem = fun _ => 0)

def quiescent_MfwdKernel [hMfwdKernel : Cert.MfwdKernel.Facts] : Prop :=
  ∀ (m : (ℓ : Loc Cert.MfwdKernel.nD Cert.MfwdKernel.τ Cert.MfwdKernel.sig) → Buf (Elt Bits) ℓ) (g : Dev Cert.MfwdKernel.nD → PrngReg), Pre_MfwdKernel m →
    θ_run (Cert.MfwdKernel.defs (F := Bits)) (onTc (τ := Cert.MfwdKernel.τ) (Cert.MfwdKernel.main (F := Bits))) ⟨m, fun _ => 0, g⟩ (fun r => (∀ c : Dev Cert.MfwdKernel.nD,
      r.2.mem ((c.tc : Thread Cert.MfwdKernel.nD Cert.MfwdKernel.τ).loc Cert.MfwdKernel.main_arg0) = m ((c.tc : Thread Cert.MfwdKernel.nD Cert.MfwdKernel.τ).loc Cert.MfwdKernel.main_arg0)
      ∧ r.2.mem ((c.tc : Thread Cert.MfwdKernel.nD Cert.MfwdKernel.τ).loc Cert.MfwdKernel.main_arg1) = m ((c.tc : Thread Cert.MfwdKernel.nD Cert.MfwdKernel.τ).loc Cert.MfwdKernel.main_arg1)
      ∧ r.2.mem ((c.tc : Thread Cert.MfwdKernel.nD Cert.MfwdKernel.τ).loc Cert.MfwdKernel.main_arg2) = m ((c.tc : Thread Cert.MfwdKernel.nD Cert.MfwdKernel.τ).loc Cert.MfwdKernel.main_arg2)
      ∧ r.2.mem ((c.tc : Thread Cert.MfwdKernel.nD Cert.MfwdKernel.τ).loc Cert.MfwdKernel.main_arg3) = m ((c.tc : Thread Cert.MfwdKernel.nD Cert.MfwdKernel.τ).loc Cert.MfwdKernel.main_arg3))
      ∧ r.2.sem = fun _ => 0)

def quiescent_MfwdKernelIdeal [hMfwdKernelIdeal : Cert.MfwdKernelIdeal.Facts] : Prop :=
  ∀ (m : (ℓ : Loc Cert.MfwdKernelIdeal.nD Cert.MfwdKernelIdeal.τ Cert.MfwdKernelIdeal.sig) → Buf (Elt Ideal) ℓ) (g : Dev Cert.MfwdKernelIdeal.nD → PrngReg), Pre_MfwdKernelIdeal m →
    θ_run (Cert.MfwdKernelIdeal.defs (F := Ideal)) (onTc (τ := Cert.MfwdKernelIdeal.τ) (Cert.MfwdKernelIdeal.main (F := Ideal))) ⟨m, fun _ => 0, g⟩ (fun r => (∀ c : Dev Cert.MfwdKernelIdeal.nD,
      r.2.mem ((c.tc : Thread Cert.MfwdKernelIdeal.nD Cert.MfwdKernelIdeal.τ).loc Cert.MfwdKernelIdeal.main_arg0) = m ((c.tc : Thread Cert.MfwdKernelIdeal.nD Cert.MfwdKernelIdeal.τ).loc Cert.MfwdKernelIdeal.main_arg0)
      ∧ r.2.mem ((c.tc : Thread Cert.MfwdKernelIdeal.nD Cert.MfwdKernelIdeal.τ).loc Cert.MfwdKernelIdeal.main_arg1) = m ((c.tc : Thread Cert.MfwdKernelIdeal.nD Cert.MfwdKernelIdeal.τ).loc Cert.MfwdKernelIdeal.main_arg1)
      ∧ r.2.mem ((c.tc : Thread Cert.MfwdKernelIdeal.nD Cert.MfwdKernelIdeal.τ).loc Cert.MfwdKernelIdeal.main_arg2) = m ((c.tc : Thread Cert.MfwdKernelIdeal.nD Cert.MfwdKernelIdeal.τ).loc Cert.MfwdKernelIdeal.main_arg2)
      ∧ r.2.mem ((c.tc : Thread Cert.MfwdKernelIdeal.nD Cert.MfwdKernelIdeal.τ).loc Cert.MfwdKernelIdeal.main_arg3) = m ((c.tc : Thread Cert.MfwdKernelIdeal.nD Cert.MfwdKernelIdeal.τ).loc Cert.MfwdKernelIdeal.main_arg3))
      ∧ r.2.sem = fun _ => 0)

def quiescent_MfwdReferenceIdeal [hMfwdReferenceIdeal : Cert.MfwdReferenceIdeal.Facts] : Prop :=
  ∀ (m : (ℓ : Loc Cert.MfwdReferenceIdeal.nD Cert.MfwdReferenceIdeal.τ Cert.MfwdReferenceIdeal.sig) → Buf (Elt Ideal) ℓ) (g : Dev Cert.MfwdReferenceIdeal.nD → PrngReg), Pre_MfwdReferenceIdeal m →
    θ_run (Cert.MfwdReferenceIdeal.defs (F := Ideal)) (onTc (τ := Cert.MfwdReferenceIdeal.τ) (Cert.MfwdReferenceIdeal.main (F := Ideal))) ⟨m, fun _ => 0, g⟩ (fun r => (∀ c : Dev Cert.MfwdReferenceIdeal.nD,
      r.2.mem ((c.tc : Thread Cert.MfwdReferenceIdeal.nD Cert.MfwdReferenceIdeal.τ).loc Cert.MfwdReferenceIdeal.main_arg0) = m ((c.tc : Thread Cert.MfwdReferenceIdeal.nD Cert.MfwdReferenceIdeal.τ).loc Cert.MfwdReferenceIdeal.main_arg0)
      ∧ r.2.mem ((c.tc : Thread Cert.MfwdReferenceIdeal.nD Cert.MfwdReferenceIdeal.τ).loc Cert.MfwdReferenceIdeal.main_arg1) = m ((c.tc : Thread Cert.MfwdReferenceIdeal.nD Cert.MfwdReferenceIdeal.τ).loc Cert.MfwdReferenceIdeal.main_arg1)
      ∧ r.2.mem ((c.tc : Thread Cert.MfwdReferenceIdeal.nD Cert.MfwdReferenceIdeal.τ).loc Cert.MfwdReferenceIdeal.main_arg2) = m ((c.tc : Thread Cert.MfwdReferenceIdeal.nD Cert.MfwdReferenceIdeal.τ).loc Cert.MfwdReferenceIdeal.main_arg2)
      ∧ r.2.mem ((c.tc : Thread Cert.MfwdReferenceIdeal.nD Cert.MfwdReferenceIdeal.τ).loc Cert.MfwdReferenceIdeal.main_arg3) = m ((c.tc : Thread Cert.MfwdReferenceIdeal.nD Cert.MfwdReferenceIdeal.τ).loc Cert.MfwdReferenceIdeal.main_arg3))
      ∧ r.2.sem = fun _ => 0)

def preserves_MixKernel_MixKernelIdeal : Prop :=
  True

def algebraic_MixKernelIdeal_MixReferenceIdeal_pre_mix_finite [hMixKernelIdeal : Cert.MixKernelIdeal.Facts] [hMixReferenceIdeal : Cert.MixReferenceIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_mix_finite m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)) →
    ∃ (v0 : (c : Dev Cert.MixKernelIdeal.nD) → Buf (Elt Ideal) ((c.tc : Thread Cert.MixKernelIdeal.nD Cert.MixKernelIdeal.τ).loc Cert.MixKernelIdeal.main_v111_0)) (v1 : (c : Dev Cert.MixKernelIdeal.nD) → Buf (Elt Ideal) ((c.tc : Thread Cert.MixKernelIdeal.nD Cert.MixKernelIdeal.τ).loc Cert.MixKernelIdeal.main_v111_1)) (v2 : (c : Dev Cert.MixKernelIdeal.nD) → Buf (Elt Ideal) ((c.tc : Thread Cert.MixKernelIdeal.nD Cert.MixKernelIdeal.τ).loc Cert.MixKernelIdeal.main_v111_2)) (v3 : (c : Dev Cert.MixKernelIdeal.nD) → Buf (Elt Ideal) ((c.tc : Thread Cert.MixKernelIdeal.nD Cert.MixKernelIdeal.τ).loc Cert.MixKernelIdeal.main_v111_3)) (v4 : (c : Dev Cert.MixKernelIdeal.nD) → Buf (Elt Ideal) ((c.tc : Thread Cert.MixKernelIdeal.nD Cert.MixKernelIdeal.τ).loc Cert.MixKernelIdeal.main_v111_4)) (v5 : (c : Dev Cert.MixKernelIdeal.nD) → Buf (Elt Ideal) ((c.tc : Thread Cert.MixKernelIdeal.nD Cert.MixKernelIdeal.τ).loc Cert.MixKernelIdeal.main_v111_5)) (v6 : (c : Dev Cert.MixKernelIdeal.nD) → Buf (Elt Ideal) ((c.tc : Thread Cert.MixKernelIdeal.nD Cert.MixKernelIdeal.τ).loc Cert.MixKernelIdeal.main_v111_6)) (v7 : (c : Dev Cert.MixKernelIdeal.nD) → Buf (Elt Ideal) ((c.tc : Thread Cert.MixKernelIdeal.nD Cert.MixKernelIdeal.τ).loc Cert.MixKernelIdeal.main_v111_7)) (v8 : (c : Dev Cert.MixKernelIdeal.nD) → Buf (Elt Ideal) ((c.tc : Thread Cert.MixKernelIdeal.nD Cert.MixKernelIdeal.τ).loc Cert.MixKernelIdeal.main_v111_8)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v111_0) = v0 c
          ∧ r.2.mem ((c.tc : Thread Cert.MixKernelIdeal.nD Cert.MixKernelIdeal.τ).loc Cert.MixKernelIdeal.main_v111_1) = v1 c
          ∧ r.2.mem ((c.tc : Thread Cert.MixKernelIdeal.nD Cert.MixKernelIdeal.τ).loc Cert.MixKernelIdeal.main_v111_2) = v2 c
          ∧ r.2.mem ((c.tc : Thread Cert.MixKernelIdeal.nD Cert.MixKernelIdeal.τ).loc Cert.MixKernelIdeal.main_v111_3) = v3 c
          ∧ r.2.mem ((c.tc : Thread Cert.MixKernelIdeal.nD Cert.MixKernelIdeal.τ).loc Cert.MixKernelIdeal.main_v111_4) = v4 c
          ∧ r.2.mem ((c.tc : Thread Cert.MixKernelIdeal.nD Cert.MixKernelIdeal.τ).loc Cert.MixKernelIdeal.main_v111_5) = v5 c
          ∧ r.2.mem ((c.tc : Thread Cert.MixKernelIdeal.nD Cert.MixKernelIdeal.τ).loc Cert.MixKernelIdeal.main_v111_6) = v6 c
          ∧ r.2.mem ((c.tc : Thread Cert.MixKernelIdeal.nD Cert.MixKernelIdeal.τ).loc Cert.MixKernelIdeal.main_v111_7) = v7 c
          ∧ r.2.mem ((c.tc : Thread Cert.MixKernelIdeal.nD Cert.MixKernelIdeal.τ).loc Cert.MixKernelIdeal.main_v111_8) = v8 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v336) = v0 c
          ∧ r.2.mem ((c.tc : Thread Cert.MixReferenceIdeal.nD Cert.MixReferenceIdeal.τ).loc Cert.MixReferenceIdeal.main_v337) = v1 c
          ∧ r.2.mem ((c.tc : Thread Cert.MixReferenceIdeal.nD Cert.MixReferenceIdeal.τ).loc Cert.MixReferenceIdeal.main_v338) = v2 c
          ∧ r.2.mem ((c.tc : Thread Cert.MixReferenceIdeal.nD Cert.MixReferenceIdeal.τ).loc Cert.MixReferenceIdeal.main_v339) = v3 c
          ∧ r.2.mem ((c.tc : Thread Cert.MixReferenceIdeal.nD Cert.MixReferenceIdeal.τ).loc Cert.MixReferenceIdeal.main_v340) = v4 c
          ∧ r.2.mem ((c.tc : Thread Cert.MixReferenceIdeal.nD Cert.MixReferenceIdeal.τ).loc Cert.MixReferenceIdeal.main_v341) = v5 c
          ∧ r.2.mem ((c.tc : Thread Cert.MixReferenceIdeal.nD Cert.MixReferenceIdeal.τ).loc Cert.MixReferenceIdeal.main_v343) = v6 c
          ∧ r.2.mem ((c.tc : Thread Cert.MixReferenceIdeal.nD Cert.MixReferenceIdeal.τ).loc Cert.MixReferenceIdeal.main_v344) = v7 c
          ∧ r.2.mem ((c.tc : Thread Cert.MixReferenceIdeal.nD Cert.MixReferenceIdeal.τ).loc Cert.MixReferenceIdeal.main_v345) = v8 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6))

def preserves_OutKernel_OutKernelIdeal : Prop :=
  True

def algebraic_OutKernelIdeal_OutReferenceIdeal_pre_out_finite [hOutKernelIdeal : Cert.OutKernelIdeal.Facts] [hOutReferenceIdeal : Cert.OutReferenceIdeal.Facts] [hPre_out_finite : Cert.Pre_out_finite.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal_out_finite m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)) →
    ∃ (v0 : (c : Dev Cert.OutKernelIdeal.nD) → Buf (Elt Ideal) ((c.tc : Thread Cert.OutKernelIdeal.nD Cert.OutKernelIdeal.τ).loc Cert.OutKernelIdeal.main_v6_0)) (v1 : (c : Dev Cert.OutKernelIdeal.nD) → Buf (Elt Ideal) ((c.tc : Thread Cert.OutKernelIdeal.nD Cert.OutKernelIdeal.τ).loc Cert.OutKernelIdeal.main_v6_1)) (v2 : (c : Dev Cert.OutKernelIdeal.nD) → Buf (Elt Ideal) ((c.tc : Thread Cert.OutKernelIdeal.nD Cert.OutKernelIdeal.τ).loc Cert.OutKernelIdeal.main_v6_2)) (v3 : (c : Dev Cert.OutKernelIdeal.nD) → Buf (Elt Ideal) ((c.tc : Thread Cert.OutKernelIdeal.nD Cert.OutKernelIdeal.τ).loc Cert.OutKernelIdeal.main_v6_3)) (v4 : (c : Dev Cert.OutKernelIdeal.nD) → Buf (Elt Ideal) ((c.tc : Thread Cert.OutKernelIdeal.nD Cert.OutKernelIdeal.τ).loc Cert.OutKernelIdeal.main_v6_4)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v6_0) = v0 c
          ∧ r.2.mem ((c.tc : Thread Cert.OutKernelIdeal.nD Cert.OutKernelIdeal.τ).loc Cert.OutKernelIdeal.main_v6_1) = v1 c
          ∧ r.2.mem ((c.tc : Thread Cert.OutKernelIdeal.nD Cert.OutKernelIdeal.τ).loc Cert.OutKernelIdeal.main_v6_2) = v2 c
          ∧ r.2.mem ((c.tc : Thread Cert.OutKernelIdeal.nD Cert.OutKernelIdeal.τ).loc Cert.OutKernelIdeal.main_v6_3) = v3 c
          ∧ r.2.mem ((c.tc : Thread Cert.OutKernelIdeal.nD Cert.OutKernelIdeal.τ).loc Cert.OutKernelIdeal.main_v6_4) = v4 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v59) = v0 c
          ∧ r.2.mem ((c.tc : Thread Cert.OutReferenceIdeal.nD Cert.OutReferenceIdeal.τ).loc Cert.OutReferenceIdeal.main_v60) = v1 c
          ∧ r.2.mem ((c.tc : Thread Cert.OutReferenceIdeal.nD Cert.OutReferenceIdeal.τ).loc Cert.OutReferenceIdeal.main_v61) = v2 c
          ∧ r.2.mem ((c.tc : Thread Cert.OutReferenceIdeal.nD Cert.OutReferenceIdeal.τ).loc Cert.OutReferenceIdeal.main_v62) = v3 c
          ∧ r.2.mem ((c.tc : Thread Cert.OutReferenceIdeal.nD Cert.OutReferenceIdeal.τ).loc Cert.OutReferenceIdeal.main_v63) = v4 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6))

def preserves_InKernel_InKernelIdeal : Prop :=
  True

def algebraic_InKernelIdeal_InReferenceIdeal_pre_in_finite [hInKernelIdeal : Cert.InKernelIdeal.Facts] [hInReferenceIdeal : Cert.InReferenceIdeal.Facts] [hPre_in_finite : Cert.Pre_in_finite.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal_in_finite m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)
      ∧ m' ((c.tc : Thread Cert.InReferenceIdeal.nD Cert.InReferenceIdeal.τ).loc Cert.InReferenceIdeal.main_arg7) = m ((c.tc : Thread Cert.InKernelIdeal.nD Cert.InKernelIdeal.τ).loc Cert.InKernelIdeal.main_arg7)
      ∧ m' ((c.tc : Thread Cert.InReferenceIdeal.nD Cert.InReferenceIdeal.τ).loc Cert.InReferenceIdeal.main_arg8) = m ((c.tc : Thread Cert.InKernelIdeal.nD Cert.InKernelIdeal.τ).loc Cert.InKernelIdeal.main_arg8)
      ∧ m' ((c.tc : Thread Cert.InReferenceIdeal.nD Cert.InReferenceIdeal.τ).loc Cert.InReferenceIdeal.main_arg9) = m ((c.tc : Thread Cert.InKernelIdeal.nD Cert.InKernelIdeal.τ).loc Cert.InKernelIdeal.main_arg9)
      ∧ m' ((c.tc : Thread Cert.InReferenceIdeal.nD Cert.InReferenceIdeal.τ).loc Cert.InReferenceIdeal.main_arg10) = m ((c.tc : Thread Cert.InKernelIdeal.nD Cert.InKernelIdeal.τ).loc Cert.InKernelIdeal.main_arg10)) →
    ∃ (v0 : (c : Dev Cert.InKernelIdeal.nD) → Buf (Elt Ideal) ((c.tc : Thread Cert.InKernelIdeal.nD Cert.InKernelIdeal.τ).loc Cert.InKernelIdeal.main_v1_0)) (v1 : (c : Dev Cert.InKernelIdeal.nD) → Buf (Elt Ideal) ((c.tc : Thread Cert.InKernelIdeal.nD Cert.InKernelIdeal.τ).loc Cert.InKernelIdeal.main_v1_1)) (v2 : (c : Dev Cert.InKernelIdeal.nD) → Buf (Elt Ideal) ((c.tc : Thread Cert.InKernelIdeal.nD Cert.InKernelIdeal.τ).loc Cert.InKernelIdeal.main_v1_2)) (v3 : (c : Dev Cert.InKernelIdeal.nD) → Buf (Elt Ideal) ((c.tc : Thread Cert.InKernelIdeal.nD Cert.InKernelIdeal.τ).loc Cert.InKernelIdeal.main_v1_3)) (v4 : (c : Dev Cert.InKernelIdeal.nD) → Buf (Elt Ideal) ((c.tc : Thread Cert.InKernelIdeal.nD Cert.InKernelIdeal.τ).loc Cert.InKernelIdeal.main_v1_4)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v1_0) = v0 c
          ∧ r.2.mem ((c.tc : Thread Cert.InKernelIdeal.nD Cert.InKernelIdeal.τ).loc Cert.InKernelIdeal.main_v1_1) = v1 c
          ∧ r.2.mem ((c.tc : Thread Cert.InKernelIdeal.nD Cert.InKernelIdeal.τ).loc Cert.InKernelIdeal.main_v1_2) = v2 c
          ∧ r.2.mem ((c.tc : Thread Cert.InKernelIdeal.nD Cert.InKernelIdeal.τ).loc Cert.InKernelIdeal.main_v1_3) = v3 c
          ∧ r.2.mem ((c.tc : Thread Cert.InKernelIdeal.nD Cert.InKernelIdeal.τ).loc Cert.InKernelIdeal.main_v1_4) = v4 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
          ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
          ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
          ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8)
          ∧ r.2.mem ((c.tc : Thread Cert.InKernelIdeal.nD Cert.InKernelIdeal.τ).loc Cert.InKernelIdeal.main_arg9) = m ((c.tc : Thread Cert.InKernelIdeal.nD Cert.InKernelIdeal.τ).loc Cert.InKernelIdeal.main_arg9)
          ∧ r.2.mem ((c.tc : Thread Cert.InKernelIdeal.nD Cert.InKernelIdeal.τ).loc Cert.InKernelIdeal.main_arg10) = m ((c.tc : Thread Cert.InKernelIdeal.nD Cert.InKernelIdeal.τ).loc Cert.InKernelIdeal.main_arg10))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v68) = v0 c
          ∧ r.2.mem ((c.tc : Thread Cert.InReferenceIdeal.nD Cert.InReferenceIdeal.τ).loc Cert.InReferenceIdeal.main_v69) = v1 c
          ∧ r.2.mem ((c.tc : Thread Cert.InReferenceIdeal.nD Cert.InReferenceIdeal.τ).loc Cert.InReferenceIdeal.main_v70) = v2 c
          ∧ r.2.mem ((c.tc : Thread Cert.InReferenceIdeal.nD Cert.InReferenceIdeal.τ).loc Cert.InReferenceIdeal.main_v71) = v3 c
          ∧ r.2.mem ((c.tc : Thread Cert.InReferenceIdeal.nD Cert.InReferenceIdeal.τ).loc Cert.InReferenceIdeal.main_v72) = v4 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6)
          ∧ r.2.mem ((c.tc : Thread Cert.InReferenceIdeal.nD Cert.InReferenceIdeal.τ).loc Cert.InReferenceIdeal.main_arg7) = m' ((c.tc : Thread Cert.InReferenceIdeal.nD Cert.InReferenceIdeal.τ).loc Cert.InReferenceIdeal.main_arg7)
          ∧ r.2.mem ((c.tc : Thread Cert.InReferenceIdeal.nD Cert.InReferenceIdeal.τ).loc Cert.InReferenceIdeal.main_arg8) = m' ((c.tc : Thread Cert.InReferenceIdeal.nD Cert.InReferenceIdeal.τ).loc Cert.InReferenceIdeal.main_arg8)
          ∧ r.2.mem ((c.tc : Thread Cert.InReferenceIdeal.nD Cert.InReferenceIdeal.τ).loc Cert.InReferenceIdeal.main_arg9) = m' ((c.tc : Thread Cert.InReferenceIdeal.nD Cert.InReferenceIdeal.τ).loc Cert.InReferenceIdeal.main_arg9)
          ∧ r.2.mem ((c.tc : Thread Cert.InReferenceIdeal.nD Cert.InReferenceIdeal.τ).loc Cert.InReferenceIdeal.main_arg10) = m' ((c.tc : Thread Cert.InReferenceIdeal.nD Cert.InReferenceIdeal.τ).loc Cert.InReferenceIdeal.main_arg10))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)) →
    ∃ (v0 : (c : Dev Cert.ProjKernelIdeal.nD) → Buf (Elt Ideal) ((c.tc : Thread Cert.ProjKernelIdeal.nD Cert.ProjKernelIdeal.τ).loc Cert.ProjKernelIdeal.main_v1)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v1) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v29) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def preserves_FwdKernel_FwdKernelIdeal : Prop :=
  True

def algebraic_FwdKernelIdeal_FwdReferenceIdeal [hFwdKernelIdeal : Cert.FwdKernelIdeal.Facts] [hFwdReferenceIdeal : Cert.FwdReferenceIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)
      ∧ m' ((c.tc : Thread Cert.FwdReferenceIdeal.nD Cert.FwdReferenceIdeal.τ).loc Cert.FwdReferenceIdeal.main_arg3) = m ((c.tc : Thread Cert.FwdKernelIdeal.nD Cert.FwdKernelIdeal.τ).loc Cert.FwdKernelIdeal.main_arg3)
      ∧ m' ((c.tc : Thread Cert.FwdReferenceIdeal.nD Cert.FwdReferenceIdeal.τ).loc Cert.FwdReferenceIdeal.main_arg4) = m ((c.tc : Thread Cert.FwdKernelIdeal.nD Cert.FwdKernelIdeal.τ).loc Cert.FwdKernelIdeal.main_arg4)
      ∧ m' ((c.tc : Thread Cert.FwdReferenceIdeal.nD Cert.FwdReferenceIdeal.τ).loc Cert.FwdReferenceIdeal.main_arg5) = m ((c.tc : Thread Cert.FwdKernelIdeal.nD Cert.FwdKernelIdeal.τ).loc Cert.FwdKernelIdeal.main_arg5)
      ∧ m' ((c.tc : Thread Cert.FwdReferenceIdeal.nD Cert.FwdReferenceIdeal.τ).loc Cert.FwdReferenceIdeal.main_arg6) = m ((c.tc : Thread Cert.FwdKernelIdeal.nD Cert.FwdKernelIdeal.τ).loc Cert.FwdKernelIdeal.main_arg6)) →
    ∃ (v0 : (c : Dev Cert.FwdKernelIdeal.nD) → Buf (Elt Ideal) ((c.tc : Thread Cert.FwdKernelIdeal.nD Cert.FwdKernelIdeal.τ).loc Cert.FwdKernelIdeal.main_v1_0)) (v1 : (c : Dev Cert.FwdKernelIdeal.nD) → Buf (Elt Ideal) ((c.tc : Thread Cert.FwdKernelIdeal.nD Cert.FwdKernelIdeal.τ).loc Cert.FwdKernelIdeal.main_v1_1)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v1_0) = v0 c
          ∧ r.2.mem ((c.tc : Thread Cert.FwdKernelIdeal.nD Cert.FwdKernelIdeal.τ).loc Cert.FwdKernelIdeal.main_v1_1) = v1 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
          ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
          ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
          ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5)
          ∧ r.2.mem ((c.tc : Thread Cert.FwdKernelIdeal.nD Cert.FwdKernelIdeal.τ).loc Cert.FwdKernelIdeal.main_arg6) = m ((c.tc : Thread Cert.FwdKernelIdeal.nD Cert.FwdKernelIdeal.τ).loc Cert.FwdKernelIdeal.main_arg6))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v24) = v0 c
          ∧ r.2.mem ((c.tc : Thread Cert.FwdReferenceIdeal.nD Cert.FwdReferenceIdeal.τ).loc Cert.FwdReferenceIdeal.main_v25) = v1 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4)
          ∧ r.2.mem ((c.tc : Thread Cert.FwdReferenceIdeal.nD Cert.FwdReferenceIdeal.τ).loc Cert.FwdReferenceIdeal.main_arg5) = m' ((c.tc : Thread Cert.FwdReferenceIdeal.nD Cert.FwdReferenceIdeal.τ).loc Cert.FwdReferenceIdeal.main_arg5)
          ∧ r.2.mem ((c.tc : Thread Cert.FwdReferenceIdeal.nD Cert.FwdReferenceIdeal.τ).loc Cert.FwdReferenceIdeal.main_arg6) = m' ((c.tc : Thread Cert.FwdReferenceIdeal.nD Cert.FwdReferenceIdeal.τ).loc Cert.FwdReferenceIdeal.main_arg6))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)
      ∧ m' ((c.tc : Thread Cert.LossReferenceIdeal.nD Cert.LossReferenceIdeal.τ).loc Cert.LossReferenceIdeal.main_arg5) = m ((c.tc : Thread Cert.LossKernelIdeal.nD Cert.LossKernelIdeal.τ).loc Cert.LossKernelIdeal.main_arg5)
      ∧ m' ((c.tc : Thread Cert.LossReferenceIdeal.nD Cert.LossReferenceIdeal.τ).loc Cert.LossReferenceIdeal.main_arg6) = m ((c.tc : Thread Cert.LossKernelIdeal.nD Cert.LossKernelIdeal.τ).loc Cert.LossKernelIdeal.main_arg6)) →
    ∃ (v0 : (c : Dev Cert.LossKernelIdeal.nD) → Buf (Elt Ideal) ((c.tc : Thread Cert.LossKernelIdeal.nD Cert.LossKernelIdeal.τ).loc Cert.LossKernelIdeal.main_v1_0)) (v1 : (c : Dev Cert.LossKernelIdeal.nD) → Buf (Elt Ideal) ((c.tc : Thread Cert.LossKernelIdeal.nD Cert.LossKernelIdeal.τ).loc Cert.LossKernelIdeal.main_v1_1)) (v2 : (c : Dev Cert.LossKernelIdeal.nD) → Buf (Elt Ideal) ((c.tc : Thread Cert.LossKernelIdeal.nD Cert.LossKernelIdeal.τ).loc Cert.LossKernelIdeal.main_v1_2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v1_0) = v0 c
          ∧ r.2.mem ((c.tc : Thread Cert.LossKernelIdeal.nD Cert.LossKernelIdeal.τ).loc Cert.LossKernelIdeal.main_v1_1) = v1 c
          ∧ r.2.mem ((c.tc : Thread Cert.LossKernelIdeal.nD Cert.LossKernelIdeal.τ).loc Cert.LossKernelIdeal.main_v1_2) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
          ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5)
          ∧ r.2.mem ((c.tc : Thread Cert.LossKernelIdeal.nD Cert.LossKernelIdeal.τ).loc Cert.LossKernelIdeal.main_arg6) = m ((c.tc : Thread Cert.LossKernelIdeal.nD Cert.LossKernelIdeal.τ).loc Cert.LossKernelIdeal.main_arg6))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v39) = v0 c
          ∧ r.2.mem ((c.tc : Thread Cert.LossReferenceIdeal.nD Cert.LossReferenceIdeal.τ).loc Cert.LossReferenceIdeal.main_v40) = v1 c
          ∧ r.2.mem ((c.tc : Thread Cert.LossReferenceIdeal.nD Cert.LossReferenceIdeal.τ).loc Cert.LossReferenceIdeal.main_v41) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4)
          ∧ r.2.mem ((c.tc : Thread Cert.LossReferenceIdeal.nD Cert.LossReferenceIdeal.τ).loc Cert.LossReferenceIdeal.main_arg5) = m' ((c.tc : Thread Cert.LossReferenceIdeal.nD Cert.LossReferenceIdeal.τ).loc Cert.LossReferenceIdeal.main_arg5)
          ∧ r.2.mem ((c.tc : Thread Cert.LossReferenceIdeal.nD Cert.LossReferenceIdeal.τ).loc Cert.LossReferenceIdeal.main_arg6) = m' ((c.tc : Thread Cert.LossReferenceIdeal.nD Cert.LossReferenceIdeal.τ).loc Cert.LossReferenceIdeal.main_arg6))

def preserves_MfwdKernel_MfwdKernelIdeal : Prop :=
  True

def algebraic_MfwdKernelIdeal_MfwdReferenceIdeal [hMfwdKernelIdeal : Cert.MfwdKernelIdeal.Facts] [hMfwdReferenceIdeal : Cert.MfwdReferenceIdeal.Facts] : Prop :=
  ∀ (m : (ℓ : Loc Cert.MfwdKernelIdeal.nD Cert.MfwdKernelIdeal.τ Cert.MfwdKernelIdeal.sig) → Buf (Elt Ideal) ℓ) (g : Dev Cert.MfwdKernelIdeal.nD → PrngReg)
    (m' : (ℓ : Loc Cert.MfwdReferenceIdeal.nD Cert.MfwdReferenceIdeal.τ Cert.MfwdReferenceIdeal.sig) → Buf (Elt Ideal) ℓ) (g' : Dev Cert.MfwdReferenceIdeal.nD → PrngReg), Pre_MfwdKernelIdeal m →
    (∀ c : Dev Cert.MfwdKernelIdeal.nD,
      m' ((c.tc : Thread Cert.MfwdReferenceIdeal.nD Cert.MfwdReferenceIdeal.τ).loc Cert.MfwdReferenceIdeal.main_arg0) = m ((c.tc : Thread Cert.MfwdKernelIdeal.nD Cert.MfwdKernelIdeal.τ).loc Cert.MfwdKernelIdeal.main_arg0)
      ∧ m' ((c.tc : Thread Cert.MfwdReferenceIdeal.nD Cert.MfwdReferenceIdeal.τ).loc Cert.MfwdReferenceIdeal.main_arg1) = m ((c.tc : Thread Cert.MfwdKernelIdeal.nD Cert.MfwdKernelIdeal.τ).loc Cert.MfwdKernelIdeal.main_arg1)
      ∧ m' ((c.tc : Thread Cert.MfwdReferenceIdeal.nD Cert.MfwdReferenceIdeal.τ).loc Cert.MfwdReferenceIdeal.main_arg2) = m ((c.tc : Thread Cert.MfwdKernelIdeal.nD Cert.MfwdKernelIdeal.τ).loc Cert.MfwdKernelIdeal.main_arg2)
      ∧ m' ((c.tc : Thread Cert.MfwdReferenceIdeal.nD Cert.MfwdReferenceIdeal.τ).loc Cert.MfwdReferenceIdeal.main_arg3) = m ((c.tc : Thread Cert.MfwdKernelIdeal.nD Cert.MfwdKernelIdeal.τ).loc Cert.MfwdKernelIdeal.main_arg3)) →
    ∃ (v0 : (c : Dev Cert.MfwdKernelIdeal.nD) → Buf (Elt Ideal) ((c.tc : Thread Cert.MfwdKernelIdeal.nD Cert.MfwdKernelIdeal.τ).loc Cert.MfwdKernelIdeal.main_v3_0)) (v1 : (c : Dev Cert.MfwdKernelIdeal.nD) → Buf (Elt Ideal) ((c.tc : Thread Cert.MfwdKernelIdeal.nD Cert.MfwdKernelIdeal.τ).loc Cert.MfwdKernelIdeal.main_v3_1)) (v2 : (c : Dev Cert.MfwdKernelIdeal.nD) → Buf (Elt Ideal) ((c.tc : Thread Cert.MfwdKernelIdeal.nD Cert.MfwdKernelIdeal.τ).loc Cert.MfwdKernelIdeal.main_v3_2)),
      θ_run (Cert.MfwdKernelIdeal.defs (F := Ideal)) (onTc (τ := Cert.MfwdKernelIdeal.τ) (Cert.MfwdKernelIdeal.main (F := Ideal))) ⟨m, fun _ => 0, g⟩ (fun r => ∀ c : Dev Cert.MfwdKernelIdeal.nD,
          r.2.mem ((c.tc : Thread Cert.MfwdKernelIdeal.nD Cert.MfwdKernelIdeal.τ).loc Cert.MfwdKernelIdeal.main_v3_0) = v0 c
          ∧ r.2.mem ((c.tc : Thread Cert.MfwdKernelIdeal.nD Cert.MfwdKernelIdeal.τ).loc Cert.MfwdKernelIdeal.main_v3_1) = v1 c
          ∧ r.2.mem ((c.tc : Thread Cert.MfwdKernelIdeal.nD Cert.MfwdKernelIdeal.τ).loc Cert.MfwdKernelIdeal.main_v3_2) = v2 c
          ∧ r.2.mem ((c.tc : Thread Cert.MfwdKernelIdeal.nD Cert.MfwdKernelIdeal.τ).loc Cert.MfwdKernelIdeal.main_arg0) = m ((c.tc : Thread Cert.MfwdKernelIdeal.nD Cert.MfwdKernelIdeal.τ).loc Cert.MfwdKernelIdeal.main_arg0)
          ∧ r.2.mem ((c.tc : Thread Cert.MfwdKernelIdeal.nD Cert.MfwdKernelIdeal.τ).loc Cert.MfwdKernelIdeal.main_arg1) = m ((c.tc : Thread Cert.MfwdKernelIdeal.nD Cert.MfwdKernelIdeal.τ).loc Cert.MfwdKernelIdeal.main_arg1)
          ∧ r.2.mem ((c.tc : Thread Cert.MfwdKernelIdeal.nD Cert.MfwdKernelIdeal.τ).loc Cert.MfwdKernelIdeal.main_arg2) = m ((c.tc : Thread Cert.MfwdKernelIdeal.nD Cert.MfwdKernelIdeal.τ).loc Cert.MfwdKernelIdeal.main_arg2)
          ∧ r.2.mem ((c.tc : Thread Cert.MfwdKernelIdeal.nD Cert.MfwdKernelIdeal.τ).loc Cert.MfwdKernelIdeal.main_arg3) = m ((c.tc : Thread Cert.MfwdKernelIdeal.nD Cert.MfwdKernelIdeal.τ).loc Cert.MfwdKernelIdeal.main_arg3))
      ∧ θ_run (Cert.MfwdReferenceIdeal.defs (F := Ideal)) (onTc (τ := Cert.MfwdReferenceIdeal.τ) (Cert.MfwdReferenceIdeal.main (F := Ideal))) ⟨m', fun _ => 0, g'⟩ (fun r => ∀ c : Dev Cert.MfwdReferenceIdeal.nD,
          r.2.mem ((c.tc : Thread Cert.MfwdReferenceIdeal.nD Cert.MfwdReferenceIdeal.τ).loc Cert.MfwdReferenceIdeal.main_v271) = v0 c
          ∧ r.2.mem ((c.tc : Thread Cert.MfwdReferenceIdeal.nD Cert.MfwdReferenceIdeal.τ).loc Cert.MfwdReferenceIdeal.main_v272) = v1 c
          ∧ r.2.mem ((c.tc : Thread Cert.MfwdReferenceIdeal.nD Cert.MfwdReferenceIdeal.τ).loc Cert.MfwdReferenceIdeal.main_v273) = v2 c
          ∧ r.2.mem ((c.tc : Thread Cert.MfwdReferenceIdeal.nD Cert.MfwdReferenceIdeal.τ).loc Cert.MfwdReferenceIdeal.main_arg0) = m' ((c.tc : Thread Cert.MfwdReferenceIdeal.nD Cert.MfwdReferenceIdeal.τ).loc Cert.MfwdReferenceIdeal.main_arg0)
          ∧ r.2.mem ((c.tc : Thread Cert.MfwdReferenceIdeal.nD Cert.MfwdReferenceIdeal.τ).loc Cert.MfwdReferenceIdeal.main_arg1) = m' ((c.tc : Thread Cert.MfwdReferenceIdeal.nD Cert.MfwdReferenceIdeal.τ).loc Cert.MfwdReferenceIdeal.main_arg1)
          ∧ r.2.mem ((c.tc : Thread Cert.MfwdReferenceIdeal.nD Cert.MfwdReferenceIdeal.τ).loc Cert.MfwdReferenceIdeal.main_arg2) = m' ((c.tc : Thread Cert.MfwdReferenceIdeal.nD Cert.MfwdReferenceIdeal.τ).loc Cert.MfwdReferenceIdeal.main_arg2)
          ∧ r.2.mem ((c.tc : Thread Cert.MfwdReferenceIdeal.nD Cert.MfwdReferenceIdeal.τ).loc Cert.MfwdReferenceIdeal.main_arg3) = m' ((c.tc : Thread Cert.MfwdReferenceIdeal.nD Cert.MfwdReferenceIdeal.τ).loc Cert.MfwdReferenceIdeal.main_arg3))

def Claim : Prop :=
  ∃ (hMixKernel : Cert.MixKernel.Facts) (hMixKernelIdeal : Cert.MixKernelIdeal.Facts) (hMixReferenceIdeal : Cert.MixReferenceIdeal.Facts) (hOutKernel : Cert.OutKernel.Facts) (hOutKernelIdeal : Cert.OutKernelIdeal.Facts) (hOutReferenceIdeal : Cert.OutReferenceIdeal.Facts) (hInKernel : Cert.InKernel.Facts) (hInKernelIdeal : Cert.InKernelIdeal.Facts) (hInReferenceIdeal : Cert.InReferenceIdeal.Facts) (hProjKernel : Cert.ProjKernel.Facts) (hProjKernelIdeal : Cert.ProjKernelIdeal.Facts) (hProjReferenceIdeal : Cert.ProjReferenceIdeal.Facts) (hFwdKernel : Cert.FwdKernel.Facts) (hFwdKernelIdeal : Cert.FwdKernelIdeal.Facts) (hFwdReferenceIdeal : Cert.FwdReferenceIdeal.Facts) (hLossKernel : Cert.LossKernel.Facts) (hLossKernelIdeal : Cert.LossKernelIdeal.Facts) (hLossReferenceIdeal : Cert.LossReferenceIdeal.Facts) (hMfwdKernel : Cert.MfwdKernel.Facts) (hMfwdKernelIdeal : Cert.MfwdKernelIdeal.Facts) (hMfwdReferenceIdeal : Cert.MfwdReferenceIdeal.Facts) (hPre_mix_finite : Cert.Pre_mix_finite.Facts) (hPre_out_finite : Cert.Pre_out_finite.Facts) (hPre_in_finite : Cert.Pre_in_finite.Facts),
    quiescent_MixKernel (hMixKernel := hMixKernel)
    ∧ quiescent_MixKernelIdeal (hMixKernelIdeal := hMixKernelIdeal)
    ∧ quiescent_MixKernelIdeal_pre_mix_finite (hMixKernelIdeal := hMixKernelIdeal) (hPre_mix_finite := hPre_mix_finite)
    ∧ quiescent_MixReferenceIdeal (hMixReferenceIdeal := hMixReferenceIdeal)
    ∧ quiescent_MixReferenceIdeal_pre_mix_finite (hMixReferenceIdeal := hMixReferenceIdeal) (hPre_mix_finite := hPre_mix_finite)
    ∧ quiescent_OutKernel (hOutKernel := hOutKernel)
    ∧ quiescent_OutKernelIdeal (hOutKernelIdeal := hOutKernelIdeal)
    ∧ quiescent_OutKernelIdeal_pre_out_finite (hOutKernelIdeal := hOutKernelIdeal) (hPre_out_finite := hPre_out_finite)
    ∧ quiescent_OutReferenceIdeal (hOutReferenceIdeal := hOutReferenceIdeal)
    ∧ quiescent_OutReferenceIdeal_pre_out_finite (hOutReferenceIdeal := hOutReferenceIdeal) (hPre_out_finite := hPre_out_finite)
    ∧ quiescent_InKernel (hInKernel := hInKernel)
    ∧ quiescent_InKernelIdeal (hInKernelIdeal := hInKernelIdeal)
    ∧ quiescent_InKernelIdeal_pre_in_finite (hInKernelIdeal := hInKernelIdeal) (hPre_in_finite := hPre_in_finite)
    ∧ quiescent_InReferenceIdeal (hInReferenceIdeal := hInReferenceIdeal)
    ∧ quiescent_InReferenceIdeal_pre_in_finite (hInReferenceIdeal := hInReferenceIdeal) (hPre_in_finite := hPre_in_finite)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_FwdKernel (hFwdKernel := hFwdKernel)
    ∧ quiescent_FwdKernelIdeal (hFwdKernelIdeal := hFwdKernelIdeal)
    ∧ quiescent_FwdReferenceIdeal (hFwdReferenceIdeal := hFwdReferenceIdeal)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_MfwdKernel (hMfwdKernel := hMfwdKernel)
    ∧ quiescent_MfwdKernelIdeal (hMfwdKernelIdeal := hMfwdKernelIdeal)
    ∧ quiescent_MfwdReferenceIdeal (hMfwdReferenceIdeal := hMfwdReferenceIdeal)
    ∧ preserves_MixKernel_MixKernelIdeal
    ∧ algebraic_MixKernelIdeal_MixReferenceIdeal_pre_mix_finite (hMixKernelIdeal := hMixKernelIdeal) (hMixReferenceIdeal := hMixReferenceIdeal) (hPre_mix_finite := hPre_mix_finite)
    ∧ preserves_OutKernel_OutKernelIdeal
    ∧ algebraic_OutKernelIdeal_OutReferenceIdeal_pre_out_finite (hOutKernelIdeal := hOutKernelIdeal) (hOutReferenceIdeal := hOutReferenceIdeal) (hPre_out_finite := hPre_out_finite)
    ∧ preserves_InKernel_InKernelIdeal
    ∧ algebraic_InKernelIdeal_InReferenceIdeal_pre_in_finite (hInKernelIdeal := hInKernelIdeal) (hInReferenceIdeal := hInReferenceIdeal) (hPre_in_finite := hPre_in_finite)
    ∧ preserves_ProjKernel_ProjKernelIdeal
    ∧ algebraic_ProjKernelIdeal_ProjReferenceIdeal (hProjKernelIdeal := hProjKernelIdeal) (hProjReferenceIdeal := hProjReferenceIdeal)
    ∧ preserves_FwdKernel_FwdKernelIdeal
    ∧ algebraic_FwdKernelIdeal_FwdReferenceIdeal (hFwdKernelIdeal := hFwdKernelIdeal) (hFwdReferenceIdeal := hFwdReferenceIdeal)
    ∧ preserves_LossKernel_LossKernelIdeal
    ∧ algebraic_LossKernelIdeal_LossReferenceIdeal (hLossKernelIdeal := hLossKernelIdeal) (hLossReferenceIdeal := hLossReferenceIdeal)
    ∧ preserves_MfwdKernel_MfwdKernelIdeal
    ∧ algebraic_MfwdKernelIdeal_MfwdReferenceIdeal (hMfwdKernelIdeal := hMfwdKernelIdeal) (hMfwdReferenceIdeal := hMfwdReferenceIdeal)
-- ==== Pre_in_finite.lean ====
abbrev S2048x512 : Shape := ⟨2, ![2048, 512]⟩
abbrev S1024x3072 : Shape := ⟨2, ![1024, 3072]⟩
abbrev S2048x1024 : Shape := ⟨2, ![2048, 1024]⟩
abbrev S4x3x1x1024 : Shape := ⟨4, ![4, 3, 1, 1024]⟩
abbrev S4x1024 : Shape := ⟨2, ![4, 1024]⟩
abbrev S2048x3072 : Shape := ⟨2, ![2048, 3072]⟩
abbrev S_ : Shape := ⟨0, ![]⟩
abbrev S1x1x1x1024 : Shape := ⟨4, ![1, 1, 1, 1024]⟩
abbrev S1024 : Shape := ⟨1, ![1024]⟩
abbrev S1x1024 : Shape := ⟨2, ![1, 1024]⟩

class Facts : Prop where
  concatenates_S2048x512_S2048x512_S2048x512_S2048x512_S2048x512_S2048x512_S2048x3072_d1 : Shape.Concatenates [S2048x512, S2048x512, S2048x512, S2048x512, S2048x512, S2048x512] S2048x3072 1
  bitsLt_bf16_f32 : FTy.bits .bf16 < FTy.bits .f32
  bcast_S_S2048x3072 : S_.BroadcastsInDim S2048x3072 (![] : Fin 0 → Fin S2048x3072.rank)
  bcast_S_S1024x3072 : S_.BroadcastsInDim S1024x3072 (![] : Fin 0 → Fin S1024x3072.rank)
  slices_S4x3x1x1024_S1x1x1x1024_3_1_0_0 : S4x3x1x1024.Slices ![3, 1, 0, 0] S1x1x1x1024
  shapeCasts_S1x1x1x1024_S1024 : S1x1x1x1024.ShapeCasts S1024
  bcast_S_S1024 : S_.BroadcastsInDim S1024 (![] : Fin 0 → Fin S1024.rank)
  slices_S4x1024_S1x1024_3_0 : S4x1024.Slices ![3, 0] S1x1024
  shapeCasts_S1x1024_S1024 : S1x1024.ShapeCasts S1024

variable [Facts]

def fn {F : FTy → Type} [FloatOps F] (main_arg0 : FVec F S2048x512 .bf16) (main_arg1 : FVec F S2048x512 .bf16) (main_arg2 : FVec F S2048x512 .bf16) (main_arg3 : FVec F S2048x512 .bf16) (main_arg4 : FVec F S2048x512 .bf16) (main_arg5 : FVec F S2048x512 .bf16) (main_arg6 : FVec F S1024x3072 .bf16) (main_arg7 : FVec F S2048x1024 .f32) (main_arg8 : FVec F S2048x1024 .f32) (main_arg9 : FVec F S4x3x1x1024 .f32) (main_arg10 : FVec F S4x1024 .f32) : IVec S2048x3072 1 × IVec S1024x3072 1 × IVec S1024 1 × IVec S1024 1 :=
  let main_v0 : FVec F S2048x3072 .bf16 := concatenate S2048x3072 1 [⟨S2048x512, main_arg0⟩, ⟨S2048x512, main_arg1⟩, ⟨S2048x512, main_arg2⟩, ⟨S2048x512, main_arg3⟩, ⟨S2048x512, main_arg4⟩, ⟨S2048x512, main_arg5⟩] concatenates_S2048x512_S2048x512_S2048x512_S2048x512_S2048x512_S2048x512_S2048x3072_d1
  let main_v1 : FVec F S2048x3072 .f32 := (extf .f32 · bitsLt_bf16_f32) main_v0
  let main_v2 : FVec F S1024x3072 .f32 := (extf .f32 · bitsLt_bf16_f32) main_arg6
  let main_v3 : FVec F S2048x3072 .f32 := Host.absf main_v1
  let main_cst : FVec F S_ .f32 := constant S_ .f32 0x7F800000#32
  let main_v4 : FVec F S2048x3072 .f32 := broadcastInDim S2048x3072 ![] bcast_S_S2048x3072 main_cst
  let main_v5 : IVec S2048x3072 1 := cmpf .olt main_v3 main_v4
  let main_v6 : FVec F S1024x3072 .f32 := Host.absf main_v2
  let main_cst_0 : FVec F S_ .f32 := constant S_ .f32 0x7F800000#32
  let main_v7 : FVec F S1024x3072 .f32 := broadcastInDim S1024x3072 ![] bcast_S_S1024x3072 main_cst_0
  let main_v8 : IVec S1024x3072 1 := cmpf .olt main_v6 main_v7
  let main_v9 : FVec F S1x1x1x1024 .f32 := (extractStridedSlice S1x1x1x1024 ![3, 1, 0, 0] · slices_S4x3x1x1024_S1x1x1x1024_3_1_0_0) main_arg9
  let main_v10 : FVec F S1024 .f32 := shapeCast S1024 main_v9 shapeCasts_S1x1x1x1024_S1024
  let main_v11 : FVec F S1024 .f32 := Host.absf main_v10
  let main_cst_1 : FVec F S_ .f32 := constant S_ .f32 0x7F800000#32
  let main_v12 : FVec F S1024 .f32 := broadcastInDim S1024 ![] bcast_S_S1024 main_cst_1
  let main_v13 : IVec S1024 1 := cmpf .olt main_v11 main_v12
  let main_v14 : FVec F S1x1024 .f32 := (extractStridedSlice S1x1024 ![3, 0] · slices_S4x1024_S1x1024_3_0) main_arg10
  let main_v15 : FVec F S1024 .f32 := shapeCast S1024 main_v14 shapeCasts_S1x1024_S1024
  let main_v16 : FVec F S1024 .f32 := Host.absf main_v15
  let main_cst_2 : FVec F S_ .f32 := constant S_ .f32 0x7F800000#32
  let main_v17 : FVec F S1024 .f32 := broadcastInDim S1024 ![] bcast_S_S1024 main_cst_2
  let main_v18 : IVec S1024 1 := cmpf .olt main_v16 main_v17
  (main_v5, main_v8, main_v13, main_v18)
-- ==== Pre_mix_finite.lean ====
abbrev S2048x3072 : Shape := ⟨2, ![2048, 3072]⟩
abbrev S2048x512 : Shape := ⟨2, ![2048, 512]⟩
abbrev S4x3x512 : Shape := ⟨3, ![4, 3, 512]⟩
abbrev S4x4x128x128 : Shape := ⟨4, ![4, 4, 128, 128]⟩
abbrev S4x512 : Shape := ⟨2, ![4, 512]⟩
abbrev S8x128 : Shape := ⟨2, ![8, 128]⟩
abbrev S2048x4096 : Shape := ⟨2, ![2048, 4096]⟩
abbrev S_ : Shape := ⟨0, ![]⟩
abbrev S1x3x512 : Shape := ⟨3, ![1, 3, 512]⟩
abbrev S3x512 : Shape := ⟨2, ![3, 512]⟩
abbrev S1x4x128x128 : Shape := ⟨4, ![1, 4, 128, 128]⟩
abbrev S4x128x128 : Shape := ⟨3, ![4, 128, 128]⟩
abbrev S1x512 : Shape := ⟨2, ![1, 512]⟩
abbrev S512 : Shape := ⟨1, ![512]⟩

class Facts : Prop where
  concatenates_S2048x3072_S2048x512_S2048x512_S2048x4096_d1 : Shape.Concatenates [S2048x3072, S2048x512, S2048x512] S2048x4096 1
  bitsLt_bf16_f32 : FTy.bits .bf16 < FTy.bits .f32
  bcast_S_S2048x4096 : S_.BroadcastsInDim S2048x4096 (![] : Fin 0 → Fin S2048x4096.rank)
  slices_S4x3x512_S1x3x512_3_0_0 : S4x3x512.Slices ![3, 0, 0] S1x3x512
  shapeCasts_S1x3x512_S3x512 : S1x3x512.ShapeCasts S3x512
  bcast_S_S3x512 : S_.BroadcastsInDim S3x512 (![] : Fin 0 → Fin S3x512.rank)
  slices_S4x4x128x128_S1x4x128x128_3_0_0_0 : S4x4x128x128.Slices ![3, 0, 0, 0] S1x4x128x128
  shapeCasts_S1x4x128x128_S4x128x128 : S1x4x128x128.ShapeCasts S4x128x128
  bcast_S_S4x128x128 : S_.BroadcastsInDim S4x128x128 (![] : Fin 0 → Fin S4x128x128.rank)
  slices_S4x512_S1x512_3_0 : S4x512.Slices ![3, 0] S1x512
  shapeCasts_S1x512_S512 : S1x512.ShapeCasts S512
  bcast_S_S512 : S_.BroadcastsInDim S512 (![] : Fin 0 → Fin S512.rank)

variable [Facts]

def fn {F : FTy → Type} [FloatOps F] (main_arg0 : FVec F S2048x3072 .bf16) (main_arg1 : FVec F S2048x512 .bf16) (main_arg2 : FVec F S2048x512 .bf16) (main_arg3 : FVec F S4x3x512 .f32) (main_arg4 : FVec F S4x4x128x128 .f32) (main_arg5 : FVec F S4x512 .f32) (main_arg6 : FVec F S8x128 .f32) : IVec S2048x4096 1 × IVec S3x512 1 × IVec S4x128x128 1 × IVec S512 1 :=
  let main_v0 : FVec F S2048x4096 .bf16 := concatenate S2048x4096 1 [⟨S2048x3072, main_arg0⟩, ⟨S2048x512, main_arg1⟩, ⟨S2048x512, main_arg2⟩] concatenates_S2048x3072_S2048x512_S2048x512_S2048x4096_d1
  let main_v1 : FVec F S2048x4096 .f32 := (extf .f32 · bitsLt_bf16_f32) main_v0
  let main_v2 : FVec F S2048x4096 .f32 := Host.absf main_v1
  let main_cst : FVec F S_ .f32 := constant S_ .f32 0x7F800000#32
  let main_v3 : FVec F S2048x4096 .f32 := broadcastInDim S2048x4096 ![] bcast_S_S2048x4096 main_cst
  let main_v4 : IVec S2048x4096 1 := cmpf .olt main_v2 main_v3
  let main_v5 : FVec F S1x3x512 .f32 := (extractStridedSlice S1x3x512 ![3, 0, 0] · slices_S4x3x512_S1x3x512_3_0_0) main_arg3
  let main_v6 : FVec F S3x512 .f32 := shapeCast S3x512 main_v5 shapeCasts_S1x3x512_S3x512
  let main_v7 : FVec F S3x512 .f32 := Host.absf main_v6
  let main_cst_0 : FVec F S_ .f32 := constant S_ .f32 0x7F800000#32
  let main_v8 : FVec F S3x512 .f32 := broadcastInDim S3x512 ![] bcast_S_S3x512 main_cst_0
  let main_v9 : IVec S3x512 1 := cmpf .olt main_v7 main_v8
  let main_v10 : FVec F S1x4x128x128 .f32 := (extractStridedSlice S1x4x128x128 ![3, 0, 0, 0] · slices_S4x4x128x128_S1x4x128x128_3_0_0_0) main_arg4
  let main_v11 : FVec F S4x128x128 .f32 := shapeCast S4x128x128 main_v10 shapeCasts_S1x4x128x128_S4x128x128
  let main_v12 : FVec F S4x128x128 .f32 := Host.absf main_v11
  let main_cst_1 : FVec F S_ .f32 := constant S_ .f32 0x7F800000#32
  let main_v13 : FVec F S4x128x128 .f32 := broadcastInDim S4x128x128 ![] bcast_S_S4x128x128 main_cst_1
  let main_v14 : IVec S4x128x128 1 := cmpf .olt main_v12 main_v13
  let main_v15 : FVec F S1x512 .f32 := (extractStridedSlice S1x512 ![3, 0] · slices_S4x512_S1x512_3_0) main_arg5
  let main_v16 : FVec F S512 .f32 := shapeCast S512 main_v15 shapeCasts_S1x512_S512
  let main_v17 : FVec F S512 .f32 := Host.absf main_v16
  let main_cst_2 : FVec F S_ .f32 := constant S_ .f32 0x7F800000#32
  let main_v18 : FVec F S512 .f32 := broadcastInDim S512 ![] bcast_S_S512 main_cst_2
  let main_v19 : IVec S512 1 := cmpf .olt main_v17 main_v18
  (main_v4, main_v9, main_v14, main_v19)
-- ==== Pre_out_finite.lean ====
abbrev S2048x1024 : Shape := ⟨2, ![2048, 1024]⟩
abbrev S2048x512 : Shape := ⟨2, ![2048, 512]⟩
abbrev S1024x1024 : Shape := ⟨2, ![1024, 1024]⟩
abbrev S4x3x1x1024 : Shape := ⟨4, ![4, 3, 1, 1024]⟩
abbrev S4x1024 : Shape := ⟨2, ![4, 1024]⟩
abbrev S8x128 : Shape := ⟨2, ![8, 128]⟩
abbrev S_ : Shape := ⟨0, ![]⟩
abbrev S1x1x1x1024 : Shape := ⟨4, ![1, 1, 1, 1024]⟩
abbrev S1024 : Shape := ⟨1, ![1024]⟩
abbrev S1x1024 : Shape := ⟨2, ![1, 1024]⟩

class Facts : Prop where
  bcast_S_S2048x1024 : S_.BroadcastsInDim S2048x1024 (![] : Fin 0 → Fin S2048x1024.rank)
  slices_S4x3x1x1024_S1x1x1x1024_3_2_0_0 : S4x3x1x1024.Slices ![3, 2, 0, 0] S1x1x1x1024
  shapeCasts_S1x1x1x1024_S1024 : S1x1x1x1024.ShapeCasts S1024
  bcast_S_S1024 : S_.BroadcastsInDim S1024 (![] : Fin 0 → Fin S1024.rank)
  slices_S4x1024_S1x1024_3_0 : S4x1024.Slices ![3, 0] S1x1024
  shapeCasts_S1x1024_S1024 : S1x1024.ShapeCasts S1024

variable [Facts]

def fn {F : FTy → Type} [FloatOps F] (main_arg0 : FVec F S2048x1024 .f32) (main_arg1 : FVec F S2048x512 .bf16) (main_arg2 : FVec F S2048x512 .bf16) (main_arg3 : FVec F S1024x1024 .bf16) (main_arg4 : FVec F S4x3x1x1024 .f32) (main_arg5 : FVec F S4x1024 .f32) (main_arg6 : FVec F S8x128 .f32) : IVec S2048x1024 1 × IVec S1024 1 × IVec S1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1x1x1024 .f32 := (extractStridedSlice S1x1x1x1024 ![3, 2, 0, 0] · slices_S4x3x1x1024_S1x1x1x1024_3_2_0_0) main_arg4
  let main_v4 : FVec F S1024 .f32 := shapeCast S1024 main_v3 shapeCasts_S1x1x1x1024_S1024
  let main_v5 : FVec F S1024 .f32 := Host.absf main_v4
  let main_cst_0 : FVec F S_ .f32 := constant S_ .f32 0x7F800000#32
  let main_v6 : FVec F S1024 .f32 := broadcastInDim S1024 ![] bcast_S_S1024 main_cst_0
  let main_v7 : IVec S1024 1 := cmpf .olt main_v5 main_v6
  let main_v8 : FVec F S1x1024 .f32 := (extractStridedSlice S1x1024 ![3, 0] · slices_S4x1024_S1x1024_3_0) main_arg5
  let main_v9 : FVec F S1024 .f32 := shapeCast S1024 main_v8 shapeCasts_S1x1024_S1024
  let main_v10 : FVec F S1024 .f32 := Host.absf main_v9
  let main_cst_1 : FVec F S_ .f32 := constant S_ .f32 0x7F800000#32
  let main_v11 : FVec F S1024 .f32 := broadcastInDim S1024 ![] bcast_S_S1024 main_cst_1
  let main_v12 : IVec S1024 1 := cmpf .olt main_v10 main_v11
  (main_v2, main_v7, main_v12)
-- ==== MixKernel.lean ====
abbrev S2048x3072 : Shape := ⟨2, ![2048, 3072]⟩
abbrev S2048x512 : Shape := ⟨2, ![2048, 512]⟩
abbrev S4x3x512 : Shape := ⟨3, ![4, 3, 512]⟩
abbrev S4x4x128x128 : Shape := ⟨4, ![4, 4, 128, 128]⟩
abbrev S4x512 : Shape := ⟨2, ![4, 512]⟩
abbrev S8x128 : Shape := ⟨2, ![8, 128]⟩
abbrev S2048x128 : Shape := ⟨2, ![2048, 128]⟩
abbrev S2048 : Shape := ⟨1, ![2048]⟩
abbrev S_ : Shape := ⟨0, ![]⟩
abbrev S2048x1 : Shape := ⟨2, ![2048, 1]⟩
abbrev S1x128 : Shape := ⟨2, ![1, 128]⟩
abbrev S2049x128 : Shape := ⟨2, ![2049, 128]⟩
abbrev S3x128 : Shape := ⟨2, ![3, 128]⟩
abbrev S2051x128 : Shape := ⟨2, ![2051, 128]⟩
abbrev S7x128 : Shape := ⟨2, ![7, 128]⟩
abbrev S2055x128 : Shape := ⟨2, ![2055, 128]⟩
abbrev S15x128 : Shape := ⟨2, ![15, 128]⟩
abbrev S2063x128 : Shape := ⟨2, ![2063, 128]⟩
abbrev S4x3x4x128 : Shape := ⟨4, ![4, 3, 4, 128]⟩
abbrev S4x4x3x128 : Shape := ⟨4, ![4, 4, 3, 128]⟩
abbrev S4x1x512 : Shape := ⟨3, ![4, 1, 512]⟩
abbrev S4x3x128 : Shape := ⟨3, ![4, 3, 128]⟩
abbrev S4x128x128 : Shape := ⟨3, ![4, 128, 128]⟩
abbrev S1x512 : Shape := ⟨2, ![1, 512]⟩
abbrev S1x1x3x128 : Shape := ⟨4, ![1, 1, 3, 128]⟩
abbrev S1x1x128x128 : Shape := ⟨4, ![1, 1, 128, 128]⟩
abbrev S1x1x128 : Shape := ⟨3, ![1, 1, 128]⟩
abbrev S1x3x128 : Shape := ⟨3, ![1, 3, 128]⟩
abbrev S1x128x128 : Shape := ⟨3, ![1, 128, 128]⟩
abbrev S2064x128 : Shape := ⟨2, ![2064, 128]⟩
abbrev S1x1x1x128 : Shape := ⟨4, ![1, 1, 1, 128]⟩
abbrev S16x128 : Shape := ⟨2, ![16, 128]⟩
abbrev S64x128 : Shape := ⟨2, ![64, 128]⟩
abbrev S80x128 : Shape := ⟨2, ![80, 128]⟩
abbrev S8x8x128 : Shape := ⟨3, ![8, 8, 128]⟩
abbrev S72x128 : Shape := ⟨2, ![72, 128]⟩
abbrev S128 : Shape := ⟨1, ![128]⟩
abbrev S128x128 : Shape := ⟨2, ![128, 128]⟩
abbrev S16x8x128 : Shape := ⟨3, ![16, 8, 128]⟩
abbrev S144x128 : Shape := ⟨2, ![144, 128]⟩

abbrev nBuf : Space → Nat
  | .hbm => 139
  | .vmem => 43
  | .smem => 0
  | _ => 0

abbrev hbmTy0_0 (i : Nat) : BufTy := match i % 128 with
  | 0 => ⟨S2048x3072, .bf16⟩
  | 1 => ⟨S2048x512, .bf16⟩
  | 2 => ⟨S2048x512, .bf16⟩
  | 3 => ⟨S4x3x512, .f32⟩
  | 4 => ⟨S4x4x128x128, .f32⟩
  | 5 => ⟨S4x512, .f32⟩
  | 6 => ⟨S8x128, .f32⟩
  | 7 => ⟨S2048x512, .bf16⟩
  | 8 => ⟨S2048x512, .f32⟩
  | 9 => ⟨S2048x128, .f32⟩
  | 10 => ⟨S2048x128, .f32⟩
  | 11 => ⟨S2048x128, .f32⟩
  | 12 => ⟨S2048x128, .f32⟩
  | 13 => ⟨S2048, .f32⟩
  | 14 => ⟨S_, .f32⟩
  | 15 => ⟨S2048, .f32⟩
  | 16 => ⟨S2048, .f32⟩
  | 17 => ⟨S2048x1, .f32⟩
  | 18 => ⟨S_, .f32⟩
  | 19 => ⟨S1x128, .f32⟩
  | 20 => ⟨S2049x128, .f32⟩
  | 21 => ⟨S2048x128, .f32⟩
  | 22 => ⟨S2048x128, .f32⟩
  | 23 => ⟨S2048x128, .f32⟩
  | 24 => ⟨S_, .f32⟩
  | 25 => ⟨S2048x1, .f32⟩
  | 26 => ⟨S2048x1, .f32⟩
  | 27 => ⟨S2048x128, .f32⟩
  | 28 => ⟨S2048x128, .f32⟩
  | 29 => ⟨S2048x128, .f32⟩
  | 30 => ⟨S2048, .f32⟩
  | 31 => ⟨S_, .f32⟩
  | 32 => ⟨S2048, .f32⟩
  | 33 => ⟨S2048, .f32⟩
  | 34 => ⟨S2048x1, .f32⟩
  | 35 => ⟨S_, .f32⟩
  | 36 => ⟨S3x128, .f32⟩
  | 37 => ⟨S2051x128, .f32⟩
  | 38 => ⟨S2048x128, .f32⟩
  | 39 => ⟨S2048x128, .f32⟩
  | 40 => ⟨S2048x128, .f32⟩
  | 41 => ⟨S2048x128, .f32⟩
  | 42 => ⟨S2048x128, .f32⟩
  | 43 => ⟨S2048x128, .f32⟩
  | 44 => ⟨S2048x128, .f32⟩
  | 45 => ⟨S_, .f32⟩
  | 46 => ⟨S2048x1, .f32⟩
  | 47 => ⟨S2048x1, .f32⟩
  | 48 => ⟨S2048x128, .f32⟩
  | 49 => ⟨S2048x128, .f32⟩
  | 50 => ⟨S2048x128, .f32⟩
  | 51 => ⟨S2048, .f32⟩
  | 52 => ⟨S_, .f32⟩
  | 53 => ⟨S2048, .f32⟩
  | 54 => ⟨S2048, .f32⟩
  | 55 => ⟨S2048x1, .f32⟩
  | 56 => ⟨S_, .f32⟩
  | 57 => ⟨S7x128, .f32⟩
  | 58 => ⟨S2055x128, .f32⟩
  | 59 => ⟨S2048x128, .f32⟩
  | 60 => ⟨S2048x128, .f32⟩
  | 61 => ⟨S2048x128, .f32⟩
  | 62 => ⟨S2048x128, .f32⟩
  | 63 => ⟨S2048x128, .f32⟩
  | 64 => ⟨S2048x128, .f32⟩
  | 65 => ⟨S2048x128, .f32⟩
  | 66 => ⟨S2048x128, .f32⟩
  | 67 => ⟨S2048x128, .f32⟩
  | 68 => ⟨S2048x128, .f32⟩
  | 69 => ⟨S2048x128, .f32⟩
  | 70 => ⟨S2048x128, .f32⟩
  | 71 => ⟨S2048x128, .f32⟩
  | 72 => ⟨S2048x128, .f32⟩
  | 73 => ⟨S2048x128, .f32⟩
  | 74 => ⟨S_, .f32⟩
  | 75 => ⟨S2048x1, .f32⟩
  | 76 => ⟨S2048x1, .f32⟩
  | 77 => ⟨S2048x128, .f32⟩
  | 78 => ⟨S2048x128, .f32⟩
  | 79 => ⟨S2048x128, .f32⟩
  | 80 => ⟨S2048, .f32⟩
  | 81 => ⟨S_, .f32⟩
  | 82 => ⟨S2048, .f32⟩
  | 83 => ⟨S2048, .f32⟩
  | 84 => ⟨S2048x1, .f32⟩
  | 85 => ⟨S_, .f32⟩
  | 86 => ⟨S15x128, .f32⟩
  | 87 => ⟨S2063x128, .f32⟩
  | 88 => ⟨S2048x128, .f32⟩
  | 89 => ⟨S2048x128, .f32⟩
  | 90 => ⟨S2048x128, .f32⟩
  | 91 => ⟨S2048x128, .f32⟩
  | 92 => ⟨S2048x128, .f32⟩
  | 93 => ⟨S2048x128, .f32⟩
  | 94 => ⟨S2048x128, .f32⟩
  | 95 => ⟨S2048x128, .f32⟩
  | 96 => ⟨S2048x128, .f32⟩
  | 97 => ⟨S2048x128, .f32⟩
  | 98 => ⟨S2048x128, .f32⟩
  | 99 => ⟨S2048x128, .f32⟩
  | 100 => ⟨S2048x128, .f32⟩
  | 101 => ⟨S2048x128, .f32⟩
  | 102 => ⟨S2048x128, .f32⟩
  | 103 => ⟨S2048x128, .f32⟩
  | 104 => ⟨S2048x128, .f32⟩
  | 105 => ⟨S2048x128, .f32⟩
  | 106 => ⟨S2048x128, .f32⟩
  | 107 => ⟨S2048x128, .f32⟩
  | 108 => ⟨S2048x128, .f32⟩
  | 109 => ⟨S2048x128, .f32⟩
  | 110 => ⟨S2048x128, .f32⟩
  | 111 => ⟨S2048x128, .f32⟩
  | 112 => ⟨S2048x128, .f32⟩
  | 113 => ⟨S2048x128, .f32⟩
  | 114 => ⟨S2048x128, .f32⟩
  | 115 => ⟨S2048x128, .f32⟩
  | 116 => ⟨S2048x128, .f32⟩
  | 117 => ⟨S2048x128, .f32⟩
  | 118 => ⟨S2048x128, .f32⟩
  | 119 => ⟨S_, .f32⟩
  | 120 => ⟨S2048x1, .f32⟩
  | 121 => ⟨S2048x1, .f32⟩
  | 122 => ⟨S2048x128, .f32⟩
  | 123 => ⟨S2048x128, .f32⟩
  | 124 => ⟨S2048x128, .f32⟩
  | 125 => ⟨S2048x512, .f32⟩
  | 126 => ⟨S2048x512, .bf16⟩
  | 127 => ⟨S4x3x4x128, .f32⟩
  | _ => ⟨S2048x3072, .bf16⟩

abbrev hbmTy0_1 (i : Nat) : BufTy := match i % 128 with
  | 0 => ⟨S4x4x3x128, .f32⟩
  | 1 => ⟨S4x1x512, .f32⟩
  | 2 => ⟨S2048x512, .bf16⟩
  | 3 => ⟨S2048x512, .bf16⟩
  | 4 => ⟨S2048x512, .bf16⟩
  | 5 => ⟨S2048x512, .bf16⟩
  | 6 => ⟨S2048x512, .bf16⟩
  | 7 => ⟨S2048x512, .bf16⟩
  | 8 => ⟨S4x3x128, .f32⟩
  | 9 => ⟨S4x128x128, .bf16⟩
  | 10 => ⟨S1x512, .f32⟩
  | _ => ⟨S2048x3072, .bf16⟩

abbrev hbmTy (i : Nat) : BufTy := match i / 128 with
  | 0 => hbmTy0_0 i
  | 1 => hbmTy0_1 i
  | _ => ⟨S2048x3072, .bf16⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S1x1x3x128, .f32⟩
  | .local _ .vmem, ⟨17, _⟩ => ⟨S1x1x3x128, .f32⟩
  | .local _ .vmem, ⟨18, _⟩ => ⟨S1x1x128x128, .f32⟩
  | .local _ .vmem, ⟨19, _⟩ => ⟨S1x1x128x128, .f32⟩
  | .local _ .vmem, ⟨20, _⟩ => ⟨S1x1x128, .f32⟩
  | .local _ .vmem, ⟨21, _⟩ => ⟨S1x1x128, .f32⟩
  | .local _ .vmem, ⟨22, _⟩ => ⟨S2048x128, .bf16⟩
  | .local _ .vmem, ⟨23, _⟩ => ⟨S2048x128, .bf16⟩
  | .local _ .vmem, ⟨24, _⟩ => ⟨S2048x128, .bf16⟩
  | .local _ .vmem, ⟨25, _⟩ => ⟨S2048x128, .bf16⟩
  | .local _ .vmem, ⟨26, _⟩ => ⟨S2048x128, .bf16⟩
  | .local _ .vmem, ⟨27, _⟩ => ⟨S2048x128, .bf16⟩
  | .local _ .vmem, ⟨28, _⟩ => ⟨S2048x128, .bf16⟩
  | .local _ .vmem, ⟨29, _⟩ => ⟨S2048x128, .bf16⟩
  | .local _ .vmem, ⟨30, _⟩ => ⟨S2048x128, .bf16⟩
  | .local _ .vmem, ⟨31, _⟩ => ⟨S2048x128, .bf16⟩
  | .local _ .vmem, ⟨32, _⟩ => ⟨S2048x128, .bf16⟩
  | .local _ .vmem, ⟨33, _⟩ => ⟨S2048x128, .bf16⟩
  | .local _ .vmem, ⟨34, _⟩ => ⟨S1x3x128, .f32⟩
  | .local _ .vmem, ⟨35, _⟩ => ⟨S1x3x128, .f32⟩
  | .local _ .vmem, ⟨36, _⟩ => ⟨S1x128x128, .bf16⟩
  | .local _ .vmem, ⟨37, _⟩ => ⟨S1x128x128, .bf16⟩
  | .local _ .vmem, ⟨38, _⟩ => ⟨S1x128, .f32⟩
  | .local _ .vmem, ⟨39, _⟩ => ⟨S1x128, .f32⟩
  | .local _ .vmem, ⟨40, _⟩ => ⟨S2048x128, .f32⟩
  | .local _ .vmem, ⟨41, _⟩ => ⟨S2048x128, .bf16⟩
  | .local _ .vmem, ⟨42, _⟩ => ⟨S2064x128, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_7 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_8 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_9 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_cst_10 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111_0 : Ref sig .tc := ⟨.hbm, 130, rfl⟩
abbrev main_v111_1 : Ref sig .tc := ⟨.hbm, 131, rfl⟩
abbrev main_v111_2 : Ref sig .tc := ⟨.hbm, 132, rfl⟩
abbrev main_v111_3 : Ref sig .tc := ⟨.hbm, 133, rfl⟩
abbrev main_v111_4 : Ref sig .tc := ⟨.hbm, 134, rfl⟩
abbrev main_v111_5 : Ref sig .tc := ⟨.hbm, 135, rfl⟩
abbrev main_v111_6 : Ref sig .tc := ⟨.hbm, 136, rfl⟩
abbrev main_v111_7 : Ref sig .tc := ⟨.hbm, 137, rfl⟩
abbrev main_v111_8 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

@[reducible] def k0_t1_loop : Scf.Loop 32 :=
  let c0_i32_14 : BitVec 32 := 0#32
  let c32_i32 : BitVec 32 := 32#32
  let v22 : BitVec 32 := Scalar.addi c0_i32_14 c32_i32
  let c1_i32 : BitVec 32 := 1#32
  ⟨c0_i32_14, v22, c1_i32⟩
def k0_mult1 (k0_t1 : Fin k0_t1_loop.trips) : BitVec 32 :=
  let c31_i32 : BitVec 32 := 31#32
  let c0_i32_14 : BitVec 32 := 0#32
  let c1_i32 : BitVec 32 := 1#32
  let arg25 : BitVec 32 := Scf.iv c0_i32_14 c1_i32 k0_t1
  let v39 : BitVec 32 := Scalar.subi c31_i32 arg25
  let c64_i32 : BitVec 32 := 64#32
  let v40 : BitVec 32 := Scalar.muli v39 c64_i32
  v40
def k0_mult2 (k0_t1 : Fin k0_t1_loop.trips) : BitVec 32 :=
  let c31_i32 : BitVec 32 := 31#32
  let c0_i32_14 : BitVec 32 := 0#32
  let c1_i32 : BitVec 32 := 1#32
  let arg25 : BitVec 32 := Scf.iv c0_i32_14 c1_i32 k0_t1
  let v39 : BitVec 32 := Scalar.subi c31_i32 arg25
  let c64_i32 : BitVec 32 := 64#32
  let v40 : BitVec 32 := Scalar.muli v39 c64_i32
  let v41 : BitVec 32 := v40
  let c16_i32 : BitVec 32 := 16#32
  let v42 : BitVec 32 := Scalar.subi v41 c16_i32
  let c0_i32_28 : BitVec 32 := 0#32
  let v43 : BitVec 32 := Scalar.maxsi v42 c0_i32_28
  v43
def k0_off1 (k0_t1 : Fin k0_t1_loop.trips) : Fin 2 → Nat :=
  let c31_i32 : BitVec 32 := 31#32
  let c0_i32_14 : BitVec 32 := 0#32
  let c1_i32 : BitVec 32 := 1#32
  let arg25 : BitVec 32 := Scf.iv c0_i32_14 c1_i32 k0_t1
  let v39 : BitVec 32 := Scalar.subi c31_i32 arg25
  let c64_i32 : BitVec 32 := 64#32
  let v40 : BitVec 32 := Scalar.muli v39 c64_i32
  let v41 : BitVec 32 := v40
  let c16_i32 : BitVec 32 := 16#32
  let v42 : BitVec 32 := Scalar.subi v41 c16_i32
  let c0_i32_28 : BitVec 32 := 0#32
  let v43 : BitVec 32 := Scalar.maxsi v42 c0_i32_28
  let v44 : BitVec 32 := v43
  let v46 : Index := Scalar.indexCast v44
  let c0_30 : Index := 0#32
  ![v46.toNat, 0]
def k0_off2 (k0_t1 : Fin k0_t1_loop.trips) : Fin 2 → Nat :=
  let c31_i32 : BitVec 32 := 31#32
  let c0_i32_14 : BitVec 32 := 0#32
  let c1_i32 : BitVec 32 := 1#32
  let arg25 : BitVec 32 := Scf.iv c0_i32_14 c1_i32 k0_t1
  let v39 : BitVec 32 := Scalar.subi c31_i32 arg25
  let c64_i32 : BitVec 32 := 64#32
  let v40 : BitVec 32 := Scalar.muli v39 c64_i32
  let v41 : BitVec 32 := v40
  let v51 : Index := Scalar.indexCast v41
  let c0_32 : Index := 0#32
  ![v51.toNat, 0]
def k0_cond2 (i : grid0.Coords) : BitVec 1 :=
  let arg0 : BitVec 32 := BitVec.ofNat 32 (i 0).val
  let c4_i32_0 : BitVec 32 := 4#32
  let v3 : BitVec 1 := Scalar.cmpi .eq arg0 c4_i32_0
  let v4 : BitVec 32 := Scalar.extui v3
  let c0_i32_1 : BitVec 32 := 0#32
  let v5 : BitVec 1 := Scalar.cmpi .ne v4 c0_i32_1
  v5

@[reducible] def k0_t2_loop : Scf.Loop 32 :=
  let c0_i32_16 : BitVec 32 := 0#32
  let c16_i32 : BitVec 32 := 16#32
  let v27 : BitVec 32 := Scalar.addi c0_i32_16 c16_i32
  let c1_i32 : BitVec 32 := 1#32
  ⟨c0_i32_16, v27, c1_i32⟩
def k0_mult3 (k0_t2 : Fin k0_t2_loop.trips) : BitVec 32 :=
  let c0_i32_16 : BitVec 32 := 0#32
  let c1_i32 : BitVec 32 := 1#32
  let arg25 : BitVec 32 := Scf.iv c0_i32_16 c1_i32 k0_t2
  let c128_i32 : BitVec 32 := 128#32
  let v50 : BitVec 32 := Scalar.muli arg25 c128_i32
  v50
def k0_off3 (k0_t2 : Fin k0_t2_loop.trips) : Fin 2 → Nat :=
  let c0_i32_16 : BitVec 32 := 0#32
  let c1_i32 : BitVec 32 := 1#32
  let arg25 : BitVec 32 := Scf.iv c0_i32_16 c1_i32 k0_t2
  let c128_i32 : BitVec 32 := 128#32
  let v50 : BitVec 32 := Scalar.muli arg25 c128_i32
  let v51 : BitVec 32 := v50
  let v52 : Index := Scalar.indexCast v51
  let c0_40 : Index := 0#32
  ![v52.toNat, 0]
@[reducible] def k0_t3_loop : Scf.Loop 32 :=
  let c0_i32_36 : BitVec 32 := 0#32
  let c16_i32_37 : BitVec 32 := 16#32
  let v49 : BitVec 32 := Scalar.addi c0_i32_36 c16_i32_37
  let c1_i32_38 : BitVec 32 := 1#32
  ⟨c0_i32_36, v49, c1_i32_38⟩
def k0_mult4 (k0_t3 : Fin k0_t3_loop.trips) : BitVec 32 :=
  let c0_i32_36 : BitVec 32 := 0#32
  let c1_i32_38 : BitVec 32 := 1#32
  let arg25 : BitVec 32 := Scf.iv c0_i32_36 c1_i32_38 k0_t3
  let c128_i32 : BitVec 32 := 128#32
  let v50 : BitVec 32 := Scalar.muli arg25 c128_i32
  v50
def k0_off4 (k0_t3 : Fin k0_t3_loop.trips) : Fin 2 → Nat :=
  let c0_i32_36 : BitVec 32 := 0#32
  let c1_i32_38 : BitVec 32 := 1#32
  let arg25 : BitVec 32 := Scf.iv c0_i32_36 c1_i32_38 k0_t3
  let c128_i32 : BitVec 32 := 128#32
  let v50 : BitVec 32 := Scalar.muli arg25 c128_i32
  let v51 : BitVec 32 := v50
  let v52 : Index := Scalar.indexCast v51
  let c0_40 : Index := 0#32
  ![v52.toNat, 0]
def k0_off5 (k0_t3 : Fin k0_t3_loop.trips) : Fin 2 → Nat :=
  let c0_i32_36 : BitVec 32 := 0#32
  let c1_i32_38 : BitVec 32 := 1#32
  let arg25 : BitVec 32 := Scf.iv c0_i32_36 c1_i32_38 k0_t3
  let c128_i32 : BitVec 32 := 128#32
  let v50 : BitVec 32 := Scalar.muli arg25 c128_i32
  let v51 : BitVec 32 := v50
  let v69 : Index := Scalar.indexCast v51
  let c0_42 : Index := 0#32
  ![v69.toNat, 0]
def k0_cond3 (i : grid0.Coords) : BitVec 1 :=
  let arg0 : BitVec 32 := BitVec.ofNat 32 (i 0).val
  let c5_i32 : BitVec 32 := 5#32
  let v6 : BitVec 1 := Scalar.cmpi .eq arg0 c5_i32
  let v7 : BitVec 32 := Scalar.extui v6
  let c0_i32_2 : BitVec 32 := 0#32
  let v8 : BitVec 1 := Scalar.cmpi .ne v7 c0_i32_2
  v8

@[reducible] def k0_t4_loop : Scf.Loop 32 :=
  let c0_i32_16 : BitVec 32 := 0#32
  let c16_i32 : BitVec 32 := 16#32
  let v27 : BitVec 32 := Scalar.addi c0_i32_16 c16_i32
  let c1_i32 : BitVec 32 := 1#32
  ⟨c0_i32_16, v27, c1_i32⟩
def k0_mult5 (k0_t4 : Fin k0_t4_loop.trips) : BitVec 32 :=
  let c0_i32_16 : BitVec 32 := 0#32
  let c1_i32 : BitVec 32 := 1#32
  let arg25 : BitVec 32 := Scf.iv c0_i32_16 c1_i32 k0_t4
  let c128_i32 : BitVec 32 := 128#32
  let v50 : BitVec 32 := Scalar.muli arg25 c128_i32
  v50
def k0_off6 (k0_t4 : Fin k0_t4_loop.trips) : Fin 2 → Nat :=
  let c0_i32_16 : BitVec 32 := 0#32
  let c1_i32 : BitVec 32 := 1#32
  let arg25 : BitVec 32 := Scf.iv c0_i32_16 c1_i32 k0_t4
  let c128_i32 : BitVec 32 := 128#32
  let v50 : BitVec 32 := Scalar.muli arg25 c128_i32
  let v51 : BitVec 32 := v50
  let v52 : Index := Scalar.indexCast v51
  let c0_40 : Index := 0#32
  ![v52.toNat, 0]
@[reducible] def k0_t5_loop : Scf.Loop 32 :=
  let c0_i32_36 : BitVec 32 := 0#32
  let c16_i32_37 : BitVec 32 := 16#32
  let v49 : BitVec 32 := Scalar.addi c0_i32_36 c16_i32_37
  let c1_i32_38 : BitVec 32 := 1#32
  ⟨c0_i32_36, v49, c1_i32_38⟩
def k0_mult6 (k0_t5 : Fin k0_t5_loop.trips) : BitVec 32 :=
  let c0_i32_36 : BitVec 32 := 0#32
  let c1_i32_38 : BitVec 32 := 1#32
  let arg25 : BitVec 32 := Scf.iv c0_i32_36 c1_i32_38 k0_t5
  let c128_i32 : BitVec 32 := 128#32
  let v50 : BitVec 32 := Scalar.muli arg25 c128_i32
  v50
def k0_off7 (k0_t5 : Fin k0_t5_loop.trips) : Fin 2 → Nat :=
  let c0_i32_36 : BitVec 32 := 0#32
  let c1_i32_38 : BitVec 32 := 1#32
  let arg25 : BitVec 32 := Scf.iv c0_i32_36 c1_i32_38 k0_t5
  let c128_i32 : BitVec 32 := 128#32
  let v50 : BitVec 32 := Scalar.muli arg25 c128_i32
  let v51 : BitVec 32 := v50
  let v52 : Index := Scalar.indexCast v51
  let c0_40 : Index := 0#32
  ![v52.toNat, 0]
def k0_off8 (k0_t5 : Fin k0_t5_loop.trips) : Fin 2 → Nat :=
  let c0_i32_36 : BitVec 32 := 0#32
  let c1_i32_38 : BitVec 32 := 1#32
  let arg25 : BitVec 32 := Scf.iv c0_i32_36 c1_i32_38 k0_t5
  let c128_i32 : BitVec 32 := 128#32
  let v50 : BitVec 32 := Scalar.muli arg25 c128_i32
  let v51 : BitVec 32 := v50
  let v71 : Index := Scalar.indexCast v51
  let c0_43 : Index := 0#32
  ![v71.toNat, 0]
def k0_cond4 (i : grid0.Coords) : BitVec 1 :=
  let arg0 : BitVec 32 := BitVec.ofNat 32 (i 0).val
  let c6_i32 : BitVec 32 := 6#32
  let v9 : BitVec 1 := Scalar.cmpi .eq arg0 c6_i32
  let v10 : BitVec 32 := Scalar.extui v9
  let c0_i32_3 : BitVec 32 := 0#32
  let v11 : BitVec 1 := Scalar.cmpi .ne v10 c0_i32_3
  v11

@[reducible] def k0_t6_loop : Scf.Loop 32 :=
  let c0_i32_16 : BitVec 32 := 0#32
  let c16_i32 : BitVec 32 := 16#32
  let v27 : BitVec 32 := Scalar.addi c0_i32_16 c16_i32
  let c1_i32 : BitVec 32 := 1#32
  ⟨c0_i32_16, v27, c1_i32⟩
def k0_mult7 (k0_t6 : Fin k0_t6_loop.trips) : BitVec 32 :=
  let c0_i32_16 : BitVec 32 := 0#32
  let c1_i32 : BitVec 32 := 1#32
  let arg25 : BitVec 32 := Scf.iv c0_i32_16 c1_i32 k0_t6
  let c128_i32 : BitVec 32 := 128#32
  let v50 : BitVec 32 := Scalar.muli arg25 c128_i32
  v50
def k0_off9 (k0_t6 : Fin k0_t6_loop.trips) : Fin 2 → Nat :=
  let c0_i32_16 : BitVec 32 := 0#32
  let c1_i32 : BitVec 32 := 1#32
  let arg25 : BitVec 32 := Scf.iv c0_i32_16 c1_i32 k0_t6
  let c128_i32 : BitVec 32 := 128#32
  let v50 : BitVec 32 := Scalar.muli arg25 c128_i32
  let v51 : BitVec 32 := v50
  let v52 : Index := Scalar.indexCast v51
  let c0_40 : Index := 0#32
  ![v52.toNat, 0]
@[reducible] def k0_t7_loop : Scf.Loop 32 :=
  let c0_i32_36 : BitVec 32 := 0#32
  let c16_i32_37 : BitVec 32 := 16#32
  let v49 : BitVec 32 := Scalar.addi c0_i32_36 c16_i32_37
  let c1_i32_38 : BitVec 32 := 1#32
  ⟨c0_i32_36, v49, c1_i32_38⟩
def k0_mult8 (k0_t7 : Fin k0_t7_loop.trips) : BitVec 32 :=
  let c0_i32_36 : BitVec 32 := 0#32
  let c1_i32_38 : BitVec 32 := 1#32
  let arg25 : BitVec 32 := Scf.iv c0_i32_36 c1_i32_38 k0_t7
  let c128_i32 : BitVec 32 := 128#32
  let v50 : BitVec 32 := Scalar.muli arg25 c128_i32
  v50
def k0_off10 (k0_t7 : Fin k0_t7_loop.trips) : Fin 2 → Nat :=
  let c0_i32_36 : BitVec 32 := 0#32
  let c1_i32_38 : BitVec 32 := 1#32
  let arg25 : BitVec 32 := Scf.iv c0_i32_36 c1_i32_38 k0_t7
  let c128_i32 : BitVec 32 := 128#32
  let v50 : BitVec 32 := Scalar.muli arg25 c128_i32
  let v51 : BitVec 32 := v50
  let v52 : Index := Scalar.indexCast v51
  let c0_40 : Index := 0#32
  ![v52.toNat, 0]
def k0_off11 (k0_t7 : Fin k0_t7_loop.trips) : Fin 2 → Nat :=
  let c0_i32_36 : BitVec 32 := 0#32
  let c1_i32_38 : BitVec 32 := 1#32
  let arg25 : BitVec 32 := Scf.iv c0_i32_36 c1_i32_38 k0_t7
  let c128_i32 : BitVec 32 := 128#32
  let v50 : BitVec 32 := Scalar.muli arg25 c128_i32
  let v51 : BitVec 32 := v50
  let v73 : Index := Scalar.indexCast v51
  let c0_42 : Index := 0#32
  ![v73.toNat, 0]
def k0_cond5 (i : grid0.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_4 : BitVec 32 := 0#32
  let v14 : BitVec 1 := Scalar.cmpi .ne v13 c0_i32_4
  v14

@[reducible] def k0_t8_loop : Scf.Loop 32 :=
  let c0_i32_16 : BitVec 32 := 0#32
  let c16_i32 : BitVec 32 := 16#32
  let v27 : BitVec 32 := Scalar.addi c0_i32_16 c16_i32
  let c1_i32 : BitVec 32 := 1#32
  ⟨c0_i32_16, v27, c1_i32⟩
def k0_mult9 (k0_t8 : Fin k0_t8_loop.trips) : BitVec 32 :=
  let c0_i32_16 : BitVec 32 := 0#32
  let c1_i32 : BitVec 32 := 1#32
  let arg25 : BitVec 32 := Scf.iv c0_i32_16 c1_i32 k0_t8
  let c128_i32 : BitVec 32 := 128#32
  let v50 : BitVec 32 := Scalar.muli arg25 c128_i32
  v50
def k0_off12 (k0_t8 : Fin k0_t8_loop.trips) : Fin 2 → Nat :=
  let c0_i32_16 : BitVec 32 := 0#32
  let c1_i32 : BitVec 32 := 1#32
  let arg25 : BitVec 32 := Scf.iv c0_i32_16 c1_i32 k0_t8
  let c128_i32 : BitVec 32 := 128#32
  let v50 : BitVec 32 := Scalar.muli arg25 c128_i32
  let v51 : BitVec 32 := v50
  let v52 : Index := Scalar.indexCast v51
  let c0_40 : Index := 0#32
  ![v52.toNat, 0]
@[reducible] def k0_t9_loop : Scf.Loop 32 :=
  let c0_i32_36 : BitVec 32 := 0#32
  let c16_i32_37 : BitVec 32 := 16#32
  let v49 : BitVec 32 := Scalar.addi c0_i32_36 c16_i32_37
  let c1_i32_38 : BitVec 32 := 1#32
  ⟨c0_i32_36, v49, c1_i32_38⟩
def k0_mult10 (k0_t9 : Fin k0_t9_loop.trips) : BitVec 32 :=
  let c0_i32_36 : BitVec 32 := 0#32
  let c1_i32_38 : BitVec 32 := 1#32
  let arg25 : BitVec 32 := Scf.iv c0_i32_36 c1_i32_38 k0_t9
  let c128_i32 : BitVec 32 := 128#32
  let v50 : BitVec 32 := Scalar.muli arg25 c128_i32
  v50
def k0_off13 (k0_t9 : Fin k0_t9_loop.trips) : Fin 2 → Nat :=
  let c0_i32_36 : BitVec 32 := 0#32
  let c1_i32_38 : BitVec 32 := 1#32
  let arg25 : BitVec 32 := Scf.iv c0_i32_36 c1_i32_38 k0_t9
  let c128_i32 : BitVec 32 := 128#32
  let v50 : BitVec 32 := Scalar.muli arg25 c128_i32
  let v51 : BitVec 32 := v50
  let v52 : Index := Scalar.indexCast v51
  let c0_40 : Index := 0#32
  ![v52.toNat, 0]
def k0_off14 (k0_t9 : Fin k0_t9_loop.trips) : Fin 2 → Nat :=
  let c0_i32_36 : BitVec 32 := 0#32
  let c1_i32_38 : BitVec 32 := 1#32
  let arg25 : BitVec 32 := Scf.iv c0_i32_36 c1_i32_38 k0_t9
  let c128_i32 : BitVec 32 := 128#32
  let v50 : BitVec 32 := Scalar.muli arg25 c128_i32
  let v51 : BitVec 32 := v50
  let v75 : Index := Scalar.indexCast v51
  let c0_43 : Index := 0#32
  ![v75.toNat, 0]
def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c4_i32 : BitVec 32 := 4#32
  let v1 : BitVec 32 := Scalar.addi v0 c4_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c3_i32 : BitVec 32 := 3#32
  let v0 : BitVec 32 := Scalar.minsi arg0 c3_i32
  let c8_i32 : BitVec 32 := 8#32
  let v1 : BitVec 32 := Scalar.addi v0 c8_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c3_i32 : BitVec 32 := 3#32
  let v0 : BitVec 32 := Scalar.minsi arg0 c3_i32
  let c12_i32 : BitVec 32 := 12#32
  let v1 : BitVec 32 := Scalar.addi v0 c12_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c20_i32 : BitVec 32 := 20#32
  let v2 : BitVec 32 := Scalar.addi v1 c20_i32
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (i : grid0.Coords) : Fin 4 → Nat :=
  let arg0 : BitVec 32 := BitVec.ofNat 32 (i 0).val
  let c3_i32 : BitVec 32 := 3#32
  let v0 : BitVec 32 := Scalar.minsi arg0 c3_i32
  let c3_i32_0 : BitVec 32 := 3#32
  let c0_i32 : BitVec 32 := 0#32
  let c0_i32_1 : BitVec 32 := 0#32
  let c0_i32_2 : BitVec 32 := 0#32
  ![v0.toNat, c3_i32_0.toNat, c0_i32.toNat, c0_i32_1.toNat]

def cc0_transform_9 (i : grid0.Coords) : Fin 4 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c3_i32 : BitVec 32 := 3#32
  let c0_i32_0 : BitVec 32 := 0#32
  let c0_i32_1 : BitVec 32 := 0#32
  let c0_i32_2 : BitVec 32 := 0#32
  ![c3_i32.toNat, v1.toNat, c0_i32_0.toNat, c0_i32_1.toNat]

def cc0_transform_10 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c3_i32 : BitVec 32 := 3#32
  let c0_i32_0 : BitVec 32 := 0#32
  let c0_i32_1 : BitVec 32 := 0#32
  ![c3_i32.toNat, c0_i32_0.toNat, v1.toNat]

def cc0_transform_12 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_15 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_16 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_17 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_18 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![v0.toNat, c0_i32.toNat, c0_i32_0.toNat]

def cc0_transform_19 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_20 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2048x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x3x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x128x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MixReferenceIdeal.lean ====
abbrev S2048x3072 : Shape := ⟨2, ![2048, 3072]⟩
abbrev S2048x512 : Shape := ⟨2, ![2048, 512]⟩
abbrev S4x3x512 : Shape := ⟨3, ![4, 3, 512]⟩
abbrev S4x4x128x128 : Shape := ⟨4, ![4, 4, 128, 128]⟩
abbrev S4x512 : Shape := ⟨2, ![4, 512]⟩
abbrev S8x128 : Shape := ⟨2, ![8, 128]⟩
abbrev S1x3x512 : Shape := ⟨3, ![1, 3, 512]⟩
abbrev S3x512 : Shape := ⟨2, ![3, 512]⟩
abbrev S_ : Shape := ⟨0, ![]⟩
abbrev S2x512 : Shape := ⟨2, ![2, 512]⟩
abbrev S2050x512 : Shape := ⟨2, ![2050, 512]⟩
abbrev S1x512 : Shape := ⟨2, ![1, 512]⟩
abbrev S512 : Shape := ⟨1, ![512]⟩
abbrev S1x4x128x128 : Shape := ⟨4, ![1, 4, 128, 128]⟩
abbrev S4x128x128 : Shape := ⟨3, ![4, 128, 128]⟩
abbrev S2048x128 : Shape := ⟨2, ![2048, 128]⟩
abbrev S2048 : Shape := ⟨1, ![2048]⟩
abbrev S2048x1 : Shape := ⟨2, ![2048, 1]⟩
abbrev S1x128 : Shape := ⟨2, ![1, 128]⟩
abbrev S2049x128 : Shape := ⟨2, ![2049, 128]⟩
abbrev S3x128 : Shape := ⟨2, ![3, 128]⟩
abbrev S2051x128 : Shape := ⟨2, ![2051, 128]⟩
abbrev S7x128 : Shape := ⟨2, ![7, 128]⟩
abbrev S2055x128 : Shape := ⟨2, ![2055, 128]⟩
abbrev S15x128 : Shape := ⟨2, ![15, 128]⟩
abbrev S2063x128 : Shape := ⟨2, ![2063, 128]⟩
abbrev S1x128x128 : Shape := ⟨3, ![1, 128, 128]⟩
abbrev S128x128 : Shape := ⟨2, ![128, 128]⟩
abbrev S3x4x128 : Shape := ⟨3, ![3, 4, 128]⟩
abbrev S4x3x128 : Shape := ⟨3, ![4, 3, 128]⟩

abbrev nBuf : Space → Nat
  | .hbm => 453
  | .vmem => 0
  | .smem => 0
  | _ => 0

abbrev hbmTy0_0 (i : Nat) : BufTy := match i % 128 with
  | 0 => ⟨S2048x3072, .bf16⟩
  | 1 => ⟨S2048x512, .bf16⟩
  | 2 => ⟨S2048x512, .bf16⟩
  | 3 => ⟨S4x3x512, .f32⟩
  | 4 => ⟨S4x4x128x128, .f32⟩
  | 5 => ⟨S4x512, .f32⟩
  | 6 => ⟨S8x128, .f32⟩
  | 7 => ⟨S2048x512, .bf16⟩
  | 8 => ⟨S2048x512, .f32⟩
  | 9 => ⟨S2048x512, .bf16⟩
  | 10 => ⟨S2048x512, .f32⟩
  | 11 => ⟨S2048x512, .bf16⟩
  | 12 => ⟨S2048x512, .f32⟩
  | 13 => ⟨S2048x512, .bf16⟩
  | 14 => ⟨S2048x512, .f32⟩
  | 15 => ⟨S2048x512, .bf16⟩
  | 16 => ⟨S2048x512, .f32⟩
  | 17 => ⟨S2048x512, .bf16⟩
  | 18 => ⟨S2048x512, .f32⟩
  | 19 => ⟨S1x3x512, .f32⟩
  | 20 => ⟨S3x512, .f32⟩
  | 21 => ⟨S_, .f32⟩
  | 22 => ⟨S2x512, .f32⟩
  | 23 => ⟨S2048x512, .f32⟩
  | 24 => ⟨S2050x512, .f32⟩
  | 25 => ⟨S_, .f32⟩
  | 26 => ⟨S2x512, .f32⟩
  | 27 => ⟨S1x512, .f32⟩
  | 28 => ⟨S512, .f32⟩
  | 29 => ⟨S2048x512, .f32⟩
  | 30 => ⟨S1x512, .f32⟩
  | 31 => ⟨S2048x512, .f32⟩
  | 32 => ⟨S2048x512, .f32⟩
  | 33 => ⟨S1x512, .f32⟩
  | 34 => ⟨S512, .f32⟩
  | 35 => ⟨S2048x512, .f32⟩
  | 36 => ⟨S1x512, .f32⟩
  | 37 => ⟨S2048x512, .f32⟩
  | 38 => ⟨S2048x512, .f32⟩
  | 39 => ⟨S2048x512, .f32⟩
  | 40 => ⟨S1x512, .f32⟩
  | 41 => ⟨S512, .f32⟩
  | 42 => ⟨S2048x512, .f32⟩
  | 43 => ⟨S1x512, .f32⟩
  | 44 => ⟨S2048x512, .f32⟩
  | 45 => ⟨S2048x512, .f32⟩
  | 46 => ⟨S2048x512, .f32⟩
  | 47 => ⟨S2048x512, .f32⟩
  | 48 => ⟨S2048x512, .f32⟩
  | 49 => ⟨S2048x512, .f32⟩
  | 50 => ⟨S_, .f32⟩
  | 51 => ⟨S2048x512, .f32⟩
  | 52 => ⟨S2048x512, .f32⟩
  | 53 => ⟨S_, .f32⟩
  | 54 => ⟨S2048x512, .f32⟩
  | 55 => ⟨S2048x512, .f32⟩
  | 56 => ⟨S_, .f32⟩
  | 57 => ⟨S2048x512, .f32⟩
  | 58 => ⟨S2048x512, .f32⟩
  | 59 => ⟨S2048x512, .f32⟩
  | 60 => ⟨S2048x512, .f32⟩
  | 61 => ⟨S2048x512, .f32⟩
  | 62 => ⟨S2048x512, .f32⟩
  | 63 => ⟨S2048x512, .f32⟩
  | 64 => ⟨S2048x512, .f32⟩
  | 65 => ⟨S2048x512, .f32⟩
  | 66 => ⟨S2048x512, .f32⟩
  | 67 => ⟨S2048x512, .f32⟩
  | 68 => ⟨S2048x512, .f32⟩
  | 69 => ⟨S2048x512, .f32⟩
  | 70 => ⟨S2048x512, .f32⟩
  | 71 => ⟨S2048x512, .f32⟩
  | 72 => ⟨S2048x512, .f32⟩
  | 73 => ⟨S2048x512, .f32⟩
  | 74 => ⟨S_, .f32⟩
  | 75 => ⟨S512, .f32⟩
  | 76 => ⟨S1x512, .f32⟩
  | 77 => ⟨S_, .f32⟩
  | 78 => ⟨S512, .f32⟩
  | 79 => ⟨S_, .f32⟩
  | 80 => ⟨S2050x512, .f32⟩
  | 81 => ⟨S1x512, .f32⟩
  | 82 => ⟨S_, .f32⟩
  | 83 => ⟨S3x512, .f32⟩
  | 84 => ⟨S2048x512, .f32⟩
  | 85 => ⟨S2048x512, .f32⟩
  | 86 => ⟨S2048x512, .f32⟩
  | 87 => ⟨S_, .f32⟩
  | 88 => ⟨S512, .f32⟩
  | 89 => ⟨S1x512, .f32⟩
  | 90 => ⟨S_, .f32⟩
  | 91 => ⟨S512, .f32⟩
  | 92 => ⟨S_, .f32⟩
  | 93 => ⟨S2050x512, .f32⟩
  | 94 => ⟨S2050x512, .f32⟩
  | 95 => ⟨S1x512, .f32⟩
  | 96 => ⟨S_, .f32⟩
  | 97 => ⟨S3x512, .f32⟩
  | 98 => ⟨S3x512, .f32⟩
  | 99 => ⟨S2048x512, .f32⟩
  | 100 => ⟨S2048x512, .f32⟩
  | 101 => ⟨S2048x512, .f32⟩
  | 102 => ⟨S_, .f32⟩
  | 103 => ⟨S512, .f32⟩
  | 104 => ⟨S1x512, .f32⟩
  | 105 => ⟨S_, .f32⟩
  | 106 => ⟨S512, .f32⟩
  | 107 => ⟨S_, .f32⟩
  | 108 => ⟨S2050x512, .f32⟩
  | 109 => ⟨S2050x512, .f32⟩
  | 110 => ⟨S1x512, .f32⟩
  | 111 => ⟨S_, .f32⟩
  | 112 => ⟨S3x512, .f32⟩
  | 113 => ⟨S3x512, .f32⟩
  | 114 => ⟨S2x512, .f32⟩
  | 115 => ⟨S2048x512, .f32⟩
  | 116 => ⟨S2048x512, .f32⟩
  | 117 => ⟨S2048x512, .f32⟩
  | 118 => ⟨S1x4x128x128, .f32⟩
  | 119 => ⟨S4x128x128, .f32⟩
  | 120 => ⟨S1x512, .f32⟩
  | 121 => ⟨S512, .f32⟩
  | 122 => ⟨S2048x128, .f32⟩
  | 123 => ⟨S2048x128, .f32⟩
  | 124 => ⟨S2048x128, .f32⟩
  | 125 => ⟨S2048x128, .f32⟩
  | 126 => ⟨S2048, .f32⟩
  | 127 => ⟨S_, .f32⟩
  | _ => ⟨S2048x3072, .bf16⟩

abbrev hbmTy0_1 (i : Nat) : BufTy := match i % 128 with
  | 0 => ⟨S2048, .f32⟩
  | 1 => ⟨S2048, .f32⟩
  | 2 => ⟨S2048x1, .f32⟩
  | 3 => ⟨S_, .f32⟩
  | 4 => ⟨S1x128, .f32⟩
  | 5 => ⟨S2049x128, .f32⟩
  | 6 => ⟨S_, .f32⟩
  | 7 => ⟨S1x128, .f32⟩
  | 8 => ⟨S2048x128, .f32⟩
  | 9 => ⟨S2048x128, .f32⟩
  | 10 => ⟨S2048x128, .f32⟩
  | 11 => ⟨S_, .f32⟩
  | 12 => ⟨S2048x1, .f32⟩
  | 13 => ⟨S2048x1, .f32⟩
  | 14 => ⟨S2048x128, .f32⟩
  | 15 => ⟨S2048x128, .f32⟩
  | 16 => ⟨S2048x128, .f32⟩
  | 17 => ⟨S2048, .f32⟩
  | 18 => ⟨S_, .f32⟩
  | 19 => ⟨S2048, .f32⟩
  | 20 => ⟨S2048, .f32⟩
  | 21 => ⟨S2048x1, .f32⟩
  | 22 => ⟨S_, .f32⟩
  | 23 => ⟨S3x128, .f32⟩
  | 24 => ⟨S2051x128, .f32⟩
  | 25 => ⟨S_, .f32⟩
  | 26 => ⟨S3x128, .f32⟩
  | 27 => ⟨S2048x128, .f32⟩
  | 28 => ⟨S2048x128, .f32⟩
  | 29 => ⟨S2048x128, .f32⟩
  | 30 => ⟨S2048x128, .f32⟩
  | 31 => ⟨S2048x128, .f32⟩
  | 32 => ⟨S2048x128, .f32⟩
  | 33 => ⟨S2048x128, .f32⟩
  | 34 => ⟨S_, .f32⟩
  | 35 => ⟨S2048x1, .f32⟩
  | 36 => ⟨S2048x1, .f32⟩
  | 37 => ⟨S2048x128, .f32⟩
  | 38 => ⟨S2048x128, .f32⟩
  | 39 => ⟨S2048x128, .f32⟩
  | 40 => ⟨S2048, .f32⟩
  | 41 => ⟨S_, .f32⟩
  | 42 => ⟨S2048, .f32⟩
  | 43 => ⟨S2048, .f32⟩
  | 44 => ⟨S2048x1, .f32⟩
  | 45 => ⟨S_, .f32⟩
  | 46 => ⟨S7x128, .f32⟩
  | 47 => ⟨S2055x128, .f32⟩
  | 48 => ⟨S_, .f32⟩
  | 49 => ⟨S7x128, .f32⟩
  | 50 => ⟨S2048x128, .f32⟩
  | 51 => ⟨S2048x128, .f32⟩
  | 52 => ⟨S2048x128, .f32⟩
  | 53 => ⟨S2048x128, .f32⟩
  | 54 => ⟨S2048x128, .f32⟩
  | 55 => ⟨S2048x128, .f32⟩
  | 56 => ⟨S2048x128, .f32⟩
  | 57 => ⟨S2048x128, .f32⟩
  | 58 => ⟨S2048x128, .f32⟩
  | 59 => ⟨S2048x128, .f32⟩
  | 60 => ⟨S2048x128, .f32⟩
  | 61 => ⟨S2048x128, .f32⟩
  | 62 => ⟨S2048x128, .f32⟩
  | 63 => ⟨S2048x128, .f32⟩
  | 64 => ⟨S2048x128, .f32⟩
  | 65 => ⟨S_, .f32⟩
  | 66 => ⟨S2048x1, .f32⟩
  | 67 => ⟨S2048x1, .f32⟩
  | 68 => ⟨S2048x128, .f32⟩
  | 69 => ⟨S2048x128, .f32⟩
  | 70 => ⟨S2048x128, .f32⟩
  | 71 => ⟨S2048, .f32⟩
  | 72 => ⟨S_, .f32⟩
  | 73 => ⟨S2048, .f32⟩
  | 74 => ⟨S2048, .f32⟩
  | 75 => ⟨S2048x1, .f32⟩
  | 76 => ⟨S_, .f32⟩
  | 77 => ⟨S15x128, .f32⟩
  | 78 => ⟨S2063x128, .f32⟩
  | 79 => ⟨S_, .f32⟩
  | 80 => ⟨S15x128, .f32⟩
  | 81 => ⟨S2048x128, .f32⟩
  | 82 => ⟨S2048x128, .f32⟩
  | 83 => ⟨S2048x128, .f32⟩
  | 84 => ⟨S2048x128, .f32⟩
  | 85 => ⟨S2048x128, .f32⟩
  | 86 => ⟨S2048x128, .f32⟩
  | 87 => ⟨S2048x128, .f32⟩
  | 88 => ⟨S2048x128, .f32⟩
  | 89 => ⟨S2048x128, .f32⟩
  | 90 => ⟨S2048x128, .f32⟩
  | 91 => ⟨S2048x128, .f32⟩
  | 92 => ⟨S2048x128, .f32⟩
  | 93 => ⟨S2048x128, .f32⟩
  | 94 => ⟨S2048x128, .f32⟩
  | 95 => ⟨S2048x128, .f32⟩
  | 96 => ⟨S2048x128, .f32⟩
  | 97 => ⟨S2048x128, .f32⟩
  | 98 => ⟨S2048x128, .f32⟩
  | 99 => ⟨S2048x128, .f32⟩
  | 100 => ⟨S2048x128, .f32⟩
  | 101 => ⟨S2048x128, .f32⟩
  | 102 => ⟨S2048x128, .f32⟩
  | 103 => ⟨S2048x128, .f32⟩
  | 104 => ⟨S2048x128, .f32⟩
  | 105 => ⟨S2048x128, .f32⟩
  | 106 => ⟨S2048x128, .f32⟩
  | 107 => ⟨S2048x128, .f32⟩
  | 108 => ⟨S2048x128, .f32⟩
  | 109 => ⟨S2048x128, .f32⟩
  | 110 => ⟨S2048x128, .f32⟩
  | 111 => ⟨S2048x128, .f32⟩
  | 112 => ⟨S_, .f32⟩
  | 113 => ⟨S2048x1, .f32⟩
  | 114 => ⟨S2048x1, .f32⟩
  | 115 => ⟨S2048x128, .f32⟩
  | 116 => ⟨S2048x128, .f32⟩
  | 117 => ⟨S2048x128, .f32⟩
  | 118 => ⟨S1x128x128, .f32⟩
  | 119 => ⟨S128x128, .f32⟩
  | 120 => ⟨S2048x128, .f32⟩
  | 121 => ⟨S1x128x128, .f32⟩
  | 122 => ⟨S128x128, .f32⟩
  | 123 => ⟨S2048x128, .f32⟩
  | 124 => ⟨S1x128x128, .f32⟩
  | 125 => ⟨S128x128, .f32⟩
  | 126 => ⟨S2048x128, .f32⟩
  | 127 => ⟨S1x128x128, .f32⟩
  | _ => ⟨S2048x3072, .bf16⟩

abbrev hbmTy0_2 (i : Nat) : BufTy := match i % 128 with
  | 0 => ⟨S128x128, .f32⟩
  | 1 => ⟨S2048x128, .f32⟩
  | 2 => ⟨S2048x512, .f32⟩
  | 3 => ⟨S1x512, .f32⟩
  | 4 => ⟨S2048x512, .f32⟩
  | 5 => ⟨S2048x512, .f32⟩
  | 6 => ⟨S2048x512, .f32⟩
  | 7 => ⟨S2048x512, .f32⟩
  | 8 => ⟨S_, .f32⟩
  | 9 => ⟨S2048x512, .f32⟩
  | 10 => ⟨S2048x512, .f32⟩
  | 11 => ⟨S_, .f32⟩
  | 12 => ⟨S2048x512, .f32⟩
  | 13 => ⟨S2048x512, .f32⟩
  | 14 => ⟨S_, .f32⟩
  | 15 => ⟨S2048x512, .f32⟩
  | 16 => ⟨S2048x512, .f32⟩
  | 17 => ⟨S2048x512, .f32⟩
  | 18 => ⟨S2048x512, .f32⟩
  | 19 => ⟨S2048x512, .f32⟩
  | 20 => ⟨S2048x512, .f32⟩
  | 21 => ⟨S2048x512, .f32⟩
  | 22 => ⟨S2048x512, .f32⟩
  | 23 => ⟨S2048x512, .f32⟩
  | 24 => ⟨S2048x512, .f32⟩
  | 25 => ⟨S2048x512, .f32⟩
  | 26 => ⟨S2048x512, .f32⟩
  | 27 => ⟨S2048x512, .f32⟩
  | 28 => ⟨S_, .f32⟩
  | 29 => ⟨S512, .f32⟩
  | 30 => ⟨S1x512, .f32⟩
  | 31 => ⟨S2048x512, .f32⟩
  | 32 => ⟨S2048x512, .f32⟩
  | 33 => ⟨S_, .f32⟩
  | 34 => ⟨S512, .f32⟩
  | 35 => ⟨S2048x128, .f32⟩
  | 36 => ⟨S2048x128, .f32⟩
  | 37 => ⟨S2048x128, .f32⟩
  | 38 => ⟨S2048x128, .f32⟩
  | 39 => ⟨S128x128, .f32⟩
  | 40 => ⟨S128x128, .f32⟩
  | 41 => ⟨S2048x128, .f32⟩
  | 42 => ⟨S1x128x128, .f32⟩
  | 43 => ⟨S_, .f32⟩
  | 44 => ⟨S4x128x128, .f32⟩
  | 45 => ⟨S128x128, .f32⟩
  | 46 => ⟨S128x128, .f32⟩
  | 47 => ⟨S2048x128, .f32⟩
  | 48 => ⟨S1x128x128, .f32⟩
  | 49 => ⟨S_, .f32⟩
  | 50 => ⟨S4x128x128, .f32⟩
  | 51 => ⟨S4x128x128, .f32⟩
  | 52 => ⟨S128x128, .f32⟩
  | 53 => ⟨S128x128, .f32⟩
  | 54 => ⟨S2048x128, .f32⟩
  | 55 => ⟨S1x128x128, .f32⟩
  | 56 => ⟨S_, .f32⟩
  | 57 => ⟨S4x128x128, .f32⟩
  | 58 => ⟨S4x128x128, .f32⟩
  | 59 => ⟨S128x128, .f32⟩
  | 60 => ⟨S128x128, .f32⟩
  | 61 => ⟨S2048x128, .f32⟩
  | 62 => ⟨S1x128x128, .f32⟩
  | 63 => ⟨S_, .f32⟩
  | 64 => ⟨S4x128x128, .f32⟩
  | 65 => ⟨S4x128x128, .f32⟩
  | 66 => ⟨S2048x128, .f32⟩
  | 67 => ⟨S2048x128, .f32⟩
  | 68 => ⟨S2048x128, .f32⟩
  | 69 => ⟨S_, .f32⟩
  | 70 => ⟨S2063x128, .f32⟩
  | 71 => ⟨S_, .f32⟩
  | 72 => ⟨S2063x128, .f32⟩
  | 73 => ⟨S2063x128, .f32⟩
  | 74 => ⟨S_, .f32⟩
  | 75 => ⟨S2063x128, .f32⟩
  | 76 => ⟨S2063x128, .f32⟩
  | 77 => ⟨S_, .f32⟩
  | 78 => ⟨S2063x128, .f32⟩
  | 79 => ⟨S2063x128, .f32⟩
  | 80 => ⟨S_, .f32⟩
  | 81 => ⟨S2063x128, .f32⟩
  | 82 => ⟨S2063x128, .f32⟩
  | 83 => ⟨S_, .f32⟩
  | 84 => ⟨S2063x128, .f32⟩
  | 85 => ⟨S2063x128, .f32⟩
  | 86 => ⟨S_, .f32⟩
  | 87 => ⟨S2063x128, .f32⟩
  | 88 => ⟨S2063x128, .f32⟩
  | 89 => ⟨S_, .f32⟩
  | 90 => ⟨S2063x128, .f32⟩
  | 91 => ⟨S2063x128, .f32⟩
  | 92 => ⟨S_, .f32⟩
  | 93 => ⟨S2063x128, .f32⟩
  | 94 => ⟨S2063x128, .f32⟩
  | 95 => ⟨S_, .f32⟩
  | 96 => ⟨S2063x128, .f32⟩
  | 97 => ⟨S2063x128, .f32⟩
  | 98 => ⟨S_, .f32⟩
  | 99 => ⟨S2063x128, .f32⟩
  | 100 => ⟨S2063x128, .f32⟩
  | 101 => ⟨S_, .f32⟩
  | 102 => ⟨S2063x128, .f32⟩
  | 103 => ⟨S2063x128, .f32⟩
  | 104 => ⟨S_, .f32⟩
  | 105 => ⟨S2063x128, .f32⟩
  | 106 => ⟨S2063x128, .f32⟩
  | 107 => ⟨S_, .f32⟩
  | 108 => ⟨S2063x128, .f32⟩
  | 109 => ⟨S2063x128, .f32⟩
  | 110 => ⟨S_, .f32⟩
  | 111 => ⟨S2063x128, .f32⟩
  | 112 => ⟨S2063x128, .f32⟩
  | 113 => ⟨S_, .f32⟩
  | 114 => ⟨S2063x128, .f32⟩
  | 115 => ⟨S2063x128, .f32⟩
  | 116 => ⟨S15x128, .f32⟩
  | 117 => ⟨S2048x128, .f32⟩
  | 118 => ⟨S2048x128, .f32⟩
  | 119 => ⟨S2048x128, .f32⟩
  | 120 => ⟨S2048x128, .f32⟩
  | 121 => ⟨S2048x128, .f32⟩
  | 122 => ⟨S_, .f32⟩
  | 123 => ⟨S2055x128, .f32⟩
  | 124 => ⟨S_, .f32⟩
  | 125 => ⟨S2055x128, .f32⟩
  | 126 => ⟨S2055x128, .f32⟩
  | 127 => ⟨S_, .f32⟩
  | _ => ⟨S2048x3072, .bf16⟩

abbrev hbmTy0_3 (i : Nat) : BufTy := match i % 128 with
  | 0 => ⟨S2055x128, .f32⟩
  | 1 => ⟨S2055x128, .f32⟩
  | 2 => ⟨S_, .f32⟩
  | 3 => ⟨S2055x128, .f32⟩
  | 4 => ⟨S2055x128, .f32⟩
  | 5 => ⟨S_, .f32⟩
  | 6 => ⟨S2055x128, .f32⟩
  | 7 => ⟨S2055x128, .f32⟩
  | 8 => ⟨S_, .f32⟩
  | 9 => ⟨S2055x128, .f32⟩
  | 10 => ⟨S2055x128, .f32⟩
  | 11 => ⟨S_, .f32⟩
  | 12 => ⟨S2055x128, .f32⟩
  | 13 => ⟨S2055x128, .f32⟩
  | 14 => ⟨S_, .f32⟩
  | 15 => ⟨S2055x128, .f32⟩
  | 16 => ⟨S2055x128, .f32⟩
  | 17 => ⟨S7x128, .f32⟩
  | 18 => ⟨S2048x128, .f32⟩
  | 19 => ⟨S2048x128, .f32⟩
  | 20 => ⟨S2048x128, .f32⟩
  | 21 => ⟨S2048x128, .f32⟩
  | 22 => ⟨S2048x128, .f32⟩
  | 23 => ⟨S_, .f32⟩
  | 24 => ⟨S2051x128, .f32⟩
  | 25 => ⟨S_, .f32⟩
  | 26 => ⟨S2051x128, .f32⟩
  | 27 => ⟨S2051x128, .f32⟩
  | 28 => ⟨S_, .f32⟩
  | 29 => ⟨S2051x128, .f32⟩
  | 30 => ⟨S2051x128, .f32⟩
  | 31 => ⟨S_, .f32⟩
  | 32 => ⟨S2051x128, .f32⟩
  | 33 => ⟨S2051x128, .f32⟩
  | 34 => ⟨S3x128, .f32⟩
  | 35 => ⟨S2048x128, .f32⟩
  | 36 => ⟨S2048x128, .f32⟩
  | 37 => ⟨S2048x128, .f32⟩
  | 38 => ⟨S2048x128, .f32⟩
  | 39 => ⟨S2048x128, .f32⟩
  | 40 => ⟨S_, .f32⟩
  | 41 => ⟨S2049x128, .f32⟩
  | 42 => ⟨S_, .f32⟩
  | 43 => ⟨S2049x128, .f32⟩
  | 44 => ⟨S2049x128, .f32⟩
  | 45 => ⟨S1x128, .f32⟩
  | 46 => ⟨S2048x128, .f32⟩
  | 47 => ⟨S2048x128, .f32⟩
  | 48 => ⟨S_, .f32⟩
  | 49 => ⟨S2048x512, .f32⟩
  | 50 => ⟨S_, .f32⟩
  | 51 => ⟨S2048x512, .f32⟩
  | 52 => ⟨S2048x512, .f32⟩
  | 53 => ⟨S_, .f32⟩
  | 54 => ⟨S2048x512, .f32⟩
  | 55 => ⟨S2048x512, .f32⟩
  | 56 => ⟨S_, .f32⟩
  | 57 => ⟨S2048x512, .f32⟩
  | 58 => ⟨S2048x512, .f32⟩
  | 59 => ⟨S2048x512, .bf16⟩
  | 60 => ⟨S2048x512, .bf16⟩
  | 61 => ⟨S2048x512, .bf16⟩
  | 62 => ⟨S2048x512, .bf16⟩
  | 63 => ⟨S2048x512, .bf16⟩
  | 64 => ⟨S2048x512, .bf16⟩
  | 65 => ⟨S3x4x128, .f32⟩
  | 66 => ⟨S4x3x128, .f32⟩
  | 67 => ⟨S4x128x128, .bf16⟩
  | 68 => ⟨S1x512, .f32⟩
  | _ => ⟨S2048x3072, .bf16⟩

abbrev hbmTy (i : Nat) : BufTy := match i / 128 with
  | 0 => hbmTy0_0 i
  | 1 => hbmTy0_1 i
  | 2 => hbmTy0_2 i
  | 3 => hbmTy0_3 i
  | _ => ⟨S2048x3072, .bf16⟩

abbrev bufTy : (tb : Table) → Fin (tcTables nBuf tb) → BufTy
  | .hbm, ⟨i, _⟩ => hbmTy i
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v39_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v39_1 : Ref sig .tc := ⟨.hbm, 59, rfl⟩
abbrev main_v39_0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_1 : Ref sig .tc := ⟨.hbm, 74, rfl⟩
abbrev main_v50 : Ref sig .tc := ⟨.hbm, 75, rfl⟩
abbrev main_v51 : Ref sig .tc := ⟨.hbm, 76, rfl⟩
abbrev main_cst_2 : Ref sig .tc := ⟨.hbm, 77, rfl⟩
abbrev main_v52 : Ref sig .tc := ⟨.hbm, 78, rfl⟩
abbrev main_cst_3 : Ref sig .tc := ⟨.hbm, 79, rfl⟩
abbrev main_v53 : Ref sig .tc := ⟨.hbm, 80, rfl⟩
abbrev main_v54 : Ref sig .tc := ⟨.hbm, 81, rfl⟩
abbrev main_cst_4 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_5 : Ref sig .tc := ⟨.hbm, 87, rfl⟩
abbrev main_v59 : Ref sig .tc := ⟨.hbm, 88, rfl⟩
abbrev main_v60 : Ref sig .tc := ⟨.hbm, 89, rfl⟩
abbrev main_cst_6 : Ref sig .tc := ⟨.hbm, 90, rfl⟩
abbrev main_v61 : Ref sig .tc := ⟨.hbm, 91, rfl⟩
abbrev main_cst_7 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_8 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_9 : Ref sig .tc := ⟨.hbm, 102, rfl⟩
abbrev main_v70 : Ref sig .tc := ⟨.hbm, 103, rfl⟩
abbrev main_v71 : Ref sig .tc := ⟨.hbm, 104, rfl⟩
abbrev main_cst_10 : Ref sig .tc := ⟨.hbm, 105, rfl⟩
abbrev main_v72 : Ref sig .tc := ⟨.hbm, 106, rfl⟩
abbrev main_cst_11 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_12 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_13 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_14 : Ref sig .tc := ⟨.hbm, 131, rfl⟩
abbrev main_v94 : Ref sig .tc := ⟨.hbm, 132, rfl⟩
abbrev main_v95 : Ref sig .tc := ⟨.hbm, 133, rfl⟩
abbrev main_cst_15 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_16 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_17 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_18 : Ref sig .tc := ⟨.hbm, 150, rfl⟩
abbrev main_v109 : Ref sig .tc := ⟨.hbm, 151, rfl⟩
abbrev main_v110 : Ref sig .tc := ⟨.hbm, 152, rfl⟩
abbrev main_cst_19 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_20 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_21 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_22 : Ref sig .tc := ⟨.hbm, 173, rfl⟩
abbrev main_v128 : Ref sig .tc := ⟨.hbm, 174, rfl⟩
abbrev main_v129 : Ref sig .tc := ⟨.hbm, 175, rfl⟩
abbrev main_cst_23 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_cst_24 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_cst_25 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_cst_26 : Ref sig .tc := ⟨.hbm, 204, rfl⟩
abbrev main_v155 : Ref sig .tc := ⟨.hbm, 205, rfl⟩
abbrev main_v156 : Ref sig .tc := ⟨.hbm, 206, rfl⟩
abbrev main_cst_27 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_cst_28 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_call2_v0 : Ref sig .tc := ⟨.hbm, 262, rfl⟩
abbrev main_call2_v1 : Ref sig .tc := ⟨.hbm, 263, rfl⟩
abbrev main_call2_cst : Ref sig .tc := ⟨.hbm, 264, rfl⟩
abbrev main_call2_v2 : Ref sig .tc := ⟨.hbm, 265, rfl⟩
abbrev main_call2_v3 : Ref sig .tc := ⟨.hbm, 266, rfl⟩
abbrev main_call2_cst_0 : Ref sig .tc := ⟨.hbm, 267, rfl⟩
abbrev main_call2_v4 : Ref sig .tc := ⟨.hbm, 268, rfl⟩
abbrev main_v210_2 : Ref sig .tc := ⟨.hbm, 269, rfl⟩
abbrev main_call2_cst_1 : Ref sig .tc := ⟨.hbm, 270, rfl⟩
abbrev main_call2_v6 : Ref sig .tc := ⟨.hbm, 271, rfl⟩
abbrev main_call2_v7 : Ref sig .tc := ⟨.hbm, 272, rfl⟩
abbrev main_v210_1 : Ref sig .tc := ⟨.hbm, 273, rfl⟩
abbrev main_v210_0 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_call3_v0 : Ref sig .tc := ⟨.hbm, 279, rfl⟩
abbrev main_call3_v1 : Ref sig .tc := ⟨.hbm, 280, rfl⟩
abbrev main_call3_v2 : Ref sig .tc := ⟨.hbm, 281, rfl⟩
abbrev main_v215 : Ref sig .tc := ⟨.hbm, 282, rfl⟩
abbrev main_v216 : Ref sig .tc := ⟨.hbm, 283, rfl⟩
abbrev main_cst_29 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_cst_30 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_cst_31 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_cst_32 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_v240 : Ref sig .tc := ⟨.hbm, 311, rfl⟩
abbrev main_cst_33 : Ref sig .tc := ⟨.hbm, 312, rfl⟩
abbrev main_v241 : Ref sig .tc := ⟨.hbm, 313, rfl⟩
abbrev main_v242 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_cst_34 : Ref sig .tc := ⟨.hbm, 319, rfl⟩
abbrev main_v247 : Ref sig .tc := ⟨.hbm, 320, rfl⟩
abbrev main_v248 : Ref sig .tc := ⟨.hbm, 321, rfl⟩
abbrev main_v249 : Ref sig .tc := ⟨.hbm, 322, rfl⟩
abbrev main_v250 : Ref sig .tc := ⟨.hbm, 323, rfl⟩
abbrev main_v251 : Ref sig .tc := ⟨.hbm, 324, rfl⟩
abbrev main_cst_35 : Ref sig .tc := ⟨.hbm, 325, rfl⟩
abbrev main_v252 : Ref sig .tc := ⟨.hbm, 326, rfl⟩
abbrev main_cst_36 : Ref sig .tc := ⟨.hbm, 327, rfl⟩
abbrev main_v253 : Ref sig .tc := ⟨.hbm, 328, rfl⟩
abbrev main_v254 : Ref sig .tc := ⟨.hbm, 329, rfl⟩
abbrev main_cst_37 : Ref sig .tc := ⟨.hbm, 330, rfl⟩
abbrev main_v255 : Ref sig .tc := ⟨.hbm, 331, rfl⟩
abbrev main_v256 : Ref sig .tc := ⟨.hbm, 332, rfl⟩
abbrev main_cst_38 : Ref sig .tc := ⟨.hbm, 333, rfl⟩
abbrev main_v257 : Ref sig .tc := ⟨.hbm, 334, rfl⟩
abbrev main_v258 : Ref sig .tc := ⟨.hbm, 335, rfl⟩
abbrev main_cst_39 : Ref sig .tc := ⟨.hbm, 336, rfl⟩
abbrev main_v259 : Ref sig .tc := ⟨.hbm, 337, rfl⟩
abbrev main_v260 : Ref sig .tc := ⟨.hbm, 338, rfl⟩
abbrev main_cst_40 : Ref sig .tc := ⟨.hbm, 339, rfl⟩
abbrev main_v261 : Ref sig .tc := ⟨.hbm, 340, rfl⟩
abbrev main_v262 : Ref sig .tc := ⟨.hbm, 341, rfl⟩
abbrev main_cst_41 : Ref sig .tc := ⟨.hbm, 342, rfl⟩
abbrev main_v263 : Ref sig .tc := ⟨.hbm, 343, rfl⟩
abbrev main_v264 : Ref sig .tc := ⟨.hbm, 344, rfl⟩
abbrev main_cst_42 : Ref sig .tc := ⟨.hbm, 345, rfl⟩
abbrev main_v265 : Ref sig .tc := ⟨.hbm, 346, rfl⟩
abbrev main_v266 : Ref sig .tc := ⟨.hbm, 347, rfl⟩
abbrev main_cst_43 : Ref sig .tc := ⟨.hbm, 348, rfl⟩
abbrev main_v267 : Ref sig .tc := ⟨.hbm, 349, rfl⟩
abbrev main_v268 : Ref sig .tc := ⟨.hbm, 350, rfl⟩
abbrev main_cst_44 : Ref sig .tc := ⟨.hbm, 351, rfl⟩
abbrev main_v269 : Ref sig .tc := ⟨.hbm, 352, rfl⟩
abbrev main_v270 : Ref sig .tc := ⟨.hbm, 353, rfl⟩
abbrev main_cst_45 : Ref sig .tc := ⟨.hbm, 354, rfl⟩
abbrev main_v271 : Ref sig .tc := ⟨.hbm, 355, rfl⟩
abbrev main_v272 : Ref sig .tc := ⟨.hbm, 356, rfl⟩
abbrev main_cst_46 : Ref sig .tc := ⟨.hbm, 357, rfl⟩
abbrev main_v273 : Ref sig .tc := ⟨.hbm, 358, rfl⟩
abbrev main_v274 : Ref sig .tc := ⟨.hbm, 359, rfl⟩
abbrev main_cst_47 : Ref sig .tc := ⟨.hbm, 360, rfl⟩
abbrev main_v275 : Ref sig .tc := ⟨.hbm, 361, rfl⟩
abbrev main_v276 : Ref sig .tc := ⟨.hbm, 362, rfl⟩
abbrev main_cst_48 : Ref sig .tc := ⟨.hbm, 363, rfl⟩
abbrev main_v277 : Ref sig .tc := ⟨.hbm, 364, rfl⟩
abbrev main_v278 : Ref sig .tc := ⟨.hbm, 365, rfl⟩
abbrev main_cst_49 : Ref sig .tc := ⟨.hbm, 366, rfl⟩
abbrev main_v279 : Ref sig .tc := ⟨.hbm, 367, rfl⟩
abbrev main_v280 : Ref sig .tc := ⟨.hbm, 368, rfl⟩
abbrev main_cst_50 : Ref sig .tc := ⟨.hbm, 369, rfl⟩
abbrev main_v281 : Ref sig .tc := ⟨.hbm, 370, rfl⟩
abbrev main_v282 : Ref sig .tc := ⟨.hbm, 371, rfl⟩
abbrev main_v283 : Ref sig .tc := ⟨.hbm, 372, rfl⟩
abbrev main_v284 : Ref sig .tc := ⟨.hbm, 373, rfl⟩
abbrev main_v285 : Ref sig .tc := ⟨.hbm, 374, rfl⟩
abbrev main_v286 : Ref sig .tc := ⟨.hbm, 375, rfl⟩
abbrev main_v287 : Ref sig .tc := ⟨.hbm, 376, rfl⟩
abbrev main_v288 : Ref sig .tc := ⟨.hbm, 377, rfl⟩
abbrev main_cst_51 : Ref sig .tc := ⟨.hbm, 378, rfl⟩
abbrev main_v289 : Ref sig .tc := ⟨.hbm, 379, rfl⟩
abbrev main_cst_52 : Ref sig .tc := ⟨.hbm, 380, rfl⟩
abbrev main_v290 : Ref sig .tc := ⟨.hbm, 381, rfl⟩
abbrev main_v291 : Ref sig .tc := ⟨.hbm, 382, rfl⟩
abbrev main_cst_53 : Ref sig .tc := ⟨.hbm, 383, rfl⟩
abbrev main_v292 : Ref sig .tc := ⟨.hbm, 384, rfl⟩
abbrev main_v293 : Ref sig .tc := ⟨.hbm, 385, rfl⟩
abbrev main_cst_54 : Ref sig .tc := ⟨.hbm, 386, rfl⟩
abbrev main_v294 : Ref sig .tc := ⟨.hbm, 387, rfl⟩
abbrev main_v295 : Ref sig .tc := ⟨.hbm, 388, rfl⟩
abbrev main_cst_55 : Ref sig .tc := ⟨.hbm, 389, rfl⟩
abbrev main_v296 : Ref sig .tc := ⟨.hbm, 390, rfl⟩
abbrev main_v297 : Ref sig .tc := ⟨.hbm, 391, rfl⟩
abbrev main_cst_56 : Ref sig .tc := ⟨.hbm, 392, rfl⟩
abbrev main_v298 : Ref sig .tc := ⟨.hbm, 393, rfl⟩
abbrev main_v299 : Ref sig .tc := ⟨.hbm, 394, rfl⟩
abbrev main_cst_57 : Ref sig .tc := ⟨.hbm, 395, rfl⟩
abbrev main_v300 : Ref sig .tc := ⟨.hbm, 396, rfl⟩
abbrev main_v301 : Ref sig .tc := ⟨.hbm, 397, rfl⟩
abbrev main_cst_58 : Ref sig .tc := ⟨.hbm, 398, rfl⟩
abbrev main_v302 : Ref sig .tc := ⟨.hbm, 399, rfl⟩
abbrev main_v303 : Ref sig .tc := ⟨.hbm, 400, rfl⟩
abbrev main_v304 : Ref sig .tc := ⟨.hbm, 401, rfl⟩
abbrev main_v305 : Ref sig .tc := ⟨.hbm, 402, rfl⟩
abbrev main_v306 : Ref sig .tc := ⟨.hbm, 403, rfl⟩
abbrev main_v307 : Ref sig .tc := ⟨.hbm, 404, rfl⟩
abbrev main_v308 : Ref sig .tc := ⟨.hbm, 405, rfl⟩
abbrev main_v309 : Ref sig .tc := ⟨.hbm, 406, rfl⟩
abbrev main_cst_59 : Ref sig .tc := ⟨.hbm, 407, rfl⟩
abbrev main_v310 : Ref sig .tc := ⟨.hbm, 408, rfl⟩
abbrev main_cst_60 : Ref sig .tc := ⟨.hbm, 409, rfl⟩
abbrev main_v311 : Ref sig .tc := ⟨.hbm, 410, rfl⟩
abbrev main_v312 : Ref sig .tc := ⟨.hbm, 411, rfl⟩
abbrev main_cst_61 : Ref sig .tc := ⟨.hbm, 412, rfl⟩
abbrev main_v313 : Ref sig .tc := ⟨.hbm, 413, rfl⟩
abbrev main_v314 : Ref sig .tc := ⟨.hbm, 414, rfl⟩
abbrev main_cst_62 : Ref sig .tc := ⟨.hbm, 415, rfl⟩
abbrev main_v315 : Ref sig .tc := ⟨.hbm, 416, rfl⟩
abbrev main_v316 : Ref sig .tc := ⟨.hbm, 417, rfl⟩
abbrev main_v317 : Ref sig .tc := ⟨.hbm, 418, rfl⟩
abbrev main_v318 : Ref sig .tc := ⟨.hbm, 419, rfl⟩
abbrev main_v319 : Ref sig .tc := ⟨.hbm, 420, rfl⟩
abbrev main_v320 : Ref sig .tc := ⟨.hbm, 421, rfl⟩
abbrev main_v321 : Ref sig .tc := ⟨.hbm, 422, rfl⟩
abbrev main_v322 : Ref sig .tc := ⟨.hbm, 423, rfl⟩
abbrev main_cst_63 : Ref sig .tc := ⟨.hbm, 424, rfl⟩
abbrev main_v323 : Ref sig .tc := ⟨.hbm, 425, rfl⟩
abbrev main_cst_64 : Ref sig .tc := ⟨.hbm, 426, rfl⟩
abbrev main_v324 : Ref sig .tc := ⟨.hbm, 427, rfl⟩
abbrev main_v325 : Ref sig .tc := ⟨.hbm, 428, rfl⟩
abbrev main_v326 : Ref sig .tc := ⟨.hbm, 429, rfl⟩
abbrev main_v327 : Ref sig .tc := ⟨.hbm, 430, rfl⟩
abbrev main_v328 : Ref sig .tc := ⟨.hbm, 431, rfl⟩
abbrev main_cst_65 : Ref sig .tc := ⟨.hbm, 432, rfl⟩
abbrev main_v329 : Ref sig .tc := ⟨.hbm, 433, rfl⟩
abbrev main_cst_66 : Ref sig .tc := ⟨.hbm, 434, rfl⟩
abbrev main_v330 : Ref sig .tc := ⟨.hbm, 435, rfl⟩
abbrev main_v331 : Ref sig .tc := ⟨.hbm, 436, rfl⟩
abbrev main_cst_67 : Ref sig .tc := ⟨.hbm, 437, rfl⟩
abbrev main_v332 : Ref sig .tc := ⟨.hbm, 438, rfl⟩
abbrev main_v333 : Ref sig .tc := ⟨.hbm, 439, rfl⟩
abbrev main_cst_68 : Ref sig .tc := ⟨.hbm, 440, rfl⟩
abbrev main_v334 : Ref sig .tc := ⟨.hbm, 441, rfl⟩
abbrev main_v335 : Ref sig .tc := ⟨.hbm, 442, rfl⟩
abbrev main_v336 : Ref sig .tc := ⟨.hbm, 443, rfl⟩
abbrev main_v337 : Ref sig .tc := ⟨.hbm, 444, rfl⟩
abbrev main_v338 : Ref sig .tc := ⟨.hbm, 445, rfl⟩
abbrev main_v339 : Ref sig .tc := ⟨.hbm, 446, rfl⟩
abbrev main_v340 : Ref sig .tc := ⟨.hbm, 447, rfl⟩
abbrev main_v341 : Ref sig .tc := ⟨.hbm, 448, rfl⟩
abbrev main_v342 : Ref sig .tc := ⟨.hbm, 449, rfl⟩
abbrev main_v343 : Ref sig .tc := ⟨.hbm, 450, rfl⟩
abbrev main_v344 : Ref sig .tc := ⟨.hbm, 451, rfl⟩
abbrev main_v345 : Ref sig .tc := ⟨.hbm, 452, rfl⟩

abbrev nD : Nat := 1
abbrev τ : Topo := Topo.v7x

variable {F : FTy → Type} [FloatOps F]
-- ==== OutKernel.lean ====
abbrev S2048x1024 : Shape := ⟨2, ![2048, 1024]⟩
abbrev S2048x512 : Shape := ⟨2, ![2048, 512]⟩
abbrev S1024x1024 : Shape := ⟨2, ![1024, 1024]⟩
abbrev S4x3x1x1024 : Shape := ⟨4, ![4, 3, 1, 1024]⟩
abbrev S4x1024 : Shape := ⟨2, ![4, 1024]⟩
abbrev S8x128 : Shape := ⟨2, ![8, 128]⟩
abbrev S4x1x1024 : Shape := ⟨3, ![4, 1, 1024]⟩
abbrev S1x1024 : Shape := ⟨2, ![1, 1024]⟩
abbrev S512x1024 : Shape := ⟨2, ![512, 1024]⟩
abbrev S512x512 : Shape := ⟨2, ![512, 512]⟩
abbrev S1x1x1x1024 : Shape := ⟨4, ![1, 1, 1, 1024]⟩
abbrev S1x1x1024 : Shape := ⟨3, ![1, 1, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 18
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .bf16⟩
  | .hbm, ⟨3, _⟩ => ⟨S1024x1024, .bf16⟩
  | .hbm, ⟨4, _⟩ => ⟨S4x3x1x1024, .f32⟩
  | .hbm, ⟨5, _⟩ => ⟨S4x1024, .f32⟩
  | .hbm, ⟨6, _⟩ => ⟨S8x128, .f32⟩
  | .hbm, ⟨7, _⟩ => ⟨S2048x1024, .bf16⟩
  | .hbm, ⟨8, _⟩ => ⟨S2048x1024, .f32⟩
  | .hbm, ⟨9, _⟩ => ⟨S1024x1024, .f32⟩
  | .hbm, ⟨10, _⟩ => ⟨S2048x1024, .f32⟩
  | .hbm, ⟨11, _⟩ => ⟨S2048x1024, .bf16⟩
  | .hbm, ⟨12, _⟩ => ⟨S4x1x1024, .f32⟩
  | .hbm, ⟨13, _⟩ => ⟨S2048x512, .bf16⟩
  | .hbm, ⟨14, _⟩ => ⟨S2048x512, .bf16⟩
  | .hbm, ⟨15, _⟩ => ⟨S1024x1024, .bf16⟩
  | .hbm, ⟨16, _⟩ => ⟨S1x1024, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S1x1x1x1024, .f32⟩
  | .local _ .vmem, ⟨10, _⟩ => ⟨S1x1x1024, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S1024x1024, .f32⟩
  | .local _ .vmem, ⟨19, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v66 : BitVec 1 := Scalar.cmpi .eq arg0 c3_i32
  let v67 : BitVec 32 := Scalar.extui v66
  let c0_i32_40 : BitVec 32 := 0#32
  let v68 : BitVec 1 := Scalar.cmpi .ne v67 c0_i32_40
  v68

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c3_i32 : BitVec 32 := 3#32
  let c2_i32 : BitVec 32 := 2#32
  let c0_i32 : BitVec 32 := 0#32
  let c0_i32_0 : BitVec 32 := 0#32
  let c0_i32_1 : BitVec 32 := 0#32
  ![c3_i32.toNat, c2_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== OutReferenceIdeal.lean ====
abbrev S2048x1024 : Shape := ⟨2, ![2048, 1024]⟩
abbrev S2048x512 : Shape := ⟨2, ![2048, 512]⟩
abbrev S1024x1024 : Shape := ⟨2, ![1024, 1024]⟩
abbrev S4x3x1x1024 : Shape := ⟨4, ![4, 3, 1, 1024]⟩
abbrev S4x1024 : Shape := ⟨2, ![4, 1024]⟩
abbrev S8x128 : Shape := ⟨2, ![8, 128]⟩
abbrev S1x1x1x1024 : Shape := ⟨4, ![1, 1, 1, 1024]⟩
abbrev S1024 : Shape := ⟨1, ![1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 82
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .bf16⟩
  | .hbm, ⟨3, _⟩ => ⟨S1024x1024, .bf16⟩
  | .hbm, ⟨4, _⟩ => ⟨S4x3x1x1024, .f32⟩
  | .hbm, ⟨5, _⟩ => ⟨S4x1024, .f32⟩
  | .hbm, ⟨6, _⟩ => ⟨S8x128, .f32⟩
  | .hbm, ⟨7, _⟩ => ⟨S2048x512, .f32⟩
  | .hbm, ⟨8, _⟩ => ⟨S2048x512, .f32⟩
  | .hbm, ⟨9, _⟩ => ⟨S1024x1024, .f32⟩
  | .hbm, ⟨10, _⟩ => ⟨S1x1x1x1024, .f32⟩
  | .hbm, ⟨11, _⟩ => ⟨S1024, .f32⟩
  | .hbm, ⟨12, _⟩ => ⟨S1x1024, .f32⟩
  | .hbm, ⟨13, _⟩ => ⟨S1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S2048x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S2048x1024, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x1024, .f32⟩
  | .hbm, ⟨60, _⟩ => ⟨S2048x1024, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S1024x1024, .f32⟩
  | .hbm, ⟨73, _⟩ => ⟨S1024x1024, .f32⟩
  | .hbm, ⟨74, _⟩ => ⟨S2048x1024, .f32⟩
  | .hbm, ⟨75, _⟩ => ⟨S2048x512, .f32⟩
  | .hbm, ⟨76, _⟩ => ⟨S2048x512, .f32⟩
  | .hbm, ⟨77, _⟩ => ⟨S2048x512, .bf16⟩
  | .hbm, ⟨78, _⟩ => ⟨S2048x512, .bf16⟩
  | .hbm, ⟨79, _⟩ => ⟨S1024x1024, .bf16⟩
  | .hbm, ⟨80, _⟩ => ⟨S1x1024, .f32⟩
  | .hbm, ⟨81, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== InKernel.lean ====
abbrev S2048x512 : Shape := ⟨2, ![2048, 512]⟩
abbrev S1024x3072 : Shape := ⟨2, ![1024, 3072]⟩
abbrev S2048x1024 : Shape := ⟨2, ![2048, 1024]⟩
abbrev S4x3x1x1024 : Shape := ⟨4, ![4, 3, 1, 1024]⟩
abbrev S4x1024 : Shape := ⟨2, ![4, 1024]⟩
abbrev S4x1x1024 : Shape := ⟨3, ![4, 1, 1024]⟩
abbrev S4x1024x768 : Shape := ⟨3, ![4, 1024, 768]⟩
abbrev S1x1024 : Shape := ⟨2, ![1, 1024]⟩
abbrev S256x512 : Shape := ⟨2, ![256, 512]⟩
abbrev S256x1024 : Shape := ⟨2, ![256, 1024]⟩
abbrev S1x1x1x1024 : Shape := ⟨4, ![1, 1, 1, 1024]⟩
abbrev S1x1x1024 : Shape := ⟨3, ![1, 1, 1024]⟩
abbrev S8x1024 : Shape := ⟨2, ![8, 1024]⟩
abbrev S256 : Shape := ⟨1, ![256]⟩
abbrev S256x1 : Shape := ⟨2, ![256, 1]⟩
abbrev S1024x512 : Shape := ⟨2, ![1024, 512]⟩
abbrev S1x1024x256 : Shape := ⟨3, ![1, 1024, 256]⟩
abbrev S1024x256 : Shape := ⟨2, ![1024, 256]⟩
abbrev S256x256 : Shape := ⟨2, ![256, 256]⟩
abbrev S32x8x1024 : Shape := ⟨3, ![32, 8, 1024]⟩
abbrev S1024 : Shape := ⟨1, ![1024]⟩

abbrev nBuf : Space → Nat
  | .hbm => 17
  | .vmem => 29
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S1024x3072, .bf16⟩
  | .hbm, ⟨7, _⟩ => ⟨S2048x1024, .f32⟩
  | .hbm, ⟨8, _⟩ => ⟨S2048x1024, .f32⟩
  | .hbm, ⟨9, _⟩ => ⟨S4x3x1x1024, .f32⟩
  | .hbm, ⟨10, _⟩ => ⟨S4x1024, .f32⟩
  | .hbm, ⟨11, _⟩ => ⟨S4x1x1024, .f32⟩
  | .hbm, ⟨12, _⟩ => ⟨S2048x1024, .f32⟩
  | .hbm, ⟨13, _⟩ => ⟨S4x1024x768, .bf16⟩
  | .hbm, ⟨14, _⟩ => ⟨S1x1024, .f32⟩
  | .hbm, ⟨15, _⟩ => ⟨S1x1024, .f32⟩
  | .hbm, ⟨16, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S1024x3072, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1x1x1x1024, .f32⟩
  | .local _ .vmem, ⟨18, _⟩ => ⟨S1x1x1x1024, .f32⟩
  | .local _ .vmem, ⟨19, _⟩ => ⟨S1x1x1024, .f32⟩
  | .local _ .vmem, ⟨20, _⟩ => ⟨S256x1024, .f32⟩
  | .local _ .vmem, ⟨21, _⟩ => ⟨S256x1024, .f32⟩
  | .local _ .vmem, ⟨22, _⟩ => ⟨S4x1024x768, .bf16⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S4x1024x768, .f32⟩
  | .local _ .vmem, ⟨27, _⟩ => ⟨S8x1024, .f32⟩
  | .local _ .vmem, ⟨28, _⟩ => ⟨S8x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem16_0 : DmaSem sig := 25

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v178 : BitVec 1 := Scalar.cmpi .eq arg0 c7_i32
  let v179 : BitVec 32 := Scalar.extui v178
  let c0_i32_161 : BitVec 32 := 0#32
  let v180 : BitVec 1 := Scalar.cmpi .ne v179 c0_i32_161
  v180

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_10 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x1024x768 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== InReferenceIdeal.lean ====
abbrev S2048x512 : Shape := ⟨2, ![2048, 512]⟩
abbrev S1024x3072 : Shape := ⟨2, ![1024, 3072]⟩
abbrev S2048x1024 : Shape := ⟨2, ![2048, 1024]⟩
abbrev S4x3x1x1024 : Shape := ⟨4, ![4, 3, 1, 1024]⟩
abbrev S4x1024 : Shape := ⟨2, ![4, 1024]⟩
abbrev S2048x3072 : Shape := ⟨2, ![2048, 3072]⟩
abbrev S1x1x1x1024 : Shape := ⟨4, ![1, 1, 1, 1024]⟩
abbrev S1024 : Shape := ⟨1, ![1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 98
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S1024x3072, .bf16⟩
  | .hbm, ⟨7, _⟩ => ⟨S2048x1024, .f32⟩
  | .hbm, ⟨8, _⟩ => ⟨S2048x1024, .f32⟩
  | .hbm, ⟨9, _⟩ => ⟨S4x3x1x1024, .f32⟩
  | .hbm, ⟨10, _⟩ => ⟨S4x1024, .f32⟩
  | .hbm, ⟨11, _⟩ => ⟨S2048x3072, .bf16⟩
  | .hbm, ⟨12, _⟩ => ⟨S2048x3072, .f32⟩
  | .hbm, ⟨13, _⟩ => ⟨S1024x3072, .f32⟩
  | .hbm, ⟨14, _⟩ => ⟨S1x1x1x1024, .f32⟩
  | .hbm, ⟨15, _⟩ => ⟨S1024, .f32⟩
  | .hbm, ⟨16, _⟩ => ⟨S1x1x1x1024, .f32⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S2048x1024, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1024, .f32⟩
  | .hbm, ⟨36, _⟩ => ⟨S2048x1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S1024, .f32⟩
  | .hbm, ⟨43, _⟩ => ⟨S1x1024, .f32⟩
  | .hbm, ⟨44, _⟩ => ⟨S2048x1024, .f32⟩
  | .hbm, ⟨45, _⟩ => ⟨S2048x1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x3072, .f32⟩
  | .hbm, ⟨50, _⟩ => ⟨S3072x1024, .f32⟩
  | .hbm, ⟨51, _⟩ => ⟨S1024x3072, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S2048x1024, .f32⟩
  | .hbm, ⟨63, _⟩ => ⟨S2048x1024, .f32⟩
  | .hbm, ⟨64, _⟩ => ⟨S_, .f32⟩
  | .hbm, ⟨65, _⟩ => ⟨S1024, .f32⟩
  | .hbm, ⟨66, _⟩ => ⟨S2048x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S2048x1024, .f32⟩
  | .hbm, ⟨71, _⟩ => ⟨S2048x1024, .f32⟩
  | .hbm, ⟨72, _⟩ => ⟨S_, .f32⟩
  | .hbm, ⟨73, _⟩ => ⟨S1024, .f32⟩
  | .hbm, ⟨74, _⟩ => ⟨S2048x1024, .f32⟩
  | .hbm, ⟨75, _⟩ => ⟨S_, .f32⟩
  | .hbm, ⟨76, _⟩ => ⟨S2048, .f32⟩
  | .hbm, ⟨77, _⟩ => ⟨S2048x1, .f32⟩
  | .hbm, ⟨78, _⟩ => ⟨S2048x1024, .f32⟩
  | .hbm, ⟨79, _⟩ => ⟨S2048x1024, .f32⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S_, .f32⟩
  | .hbm, ⟨85, _⟩ => ⟨S2048, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S1024x4x768, .f32⟩
  | .hbm, ⟨92, _⟩ => ⟨S4x1024x768, .f32⟩
  | .hbm, ⟨93, _⟩ => ⟨S2048x1024, .f32⟩
  | .hbm, ⟨94, _⟩ => ⟨S4x1024x768, .bf16⟩
  | .hbm, ⟨95, _⟩ => ⟨S1x1024, .f32⟩
  | .hbm, ⟨96, _⟩ => ⟨S1x1024, .f32⟩
  | .hbm, ⟨97, _⟩ => ⟨S1x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩

abbrev nD : Nat := 1
abbrev τ : Topo := Topo.v7x

variable {F : FTy → Type} [FloatOps F]
-- ==== ProjKernel.lean ====
abbrev S2048x1024 : Shape := ⟨2, ![2048, 1024]⟩
abbrev S4x3x1x1024 : Shape := ⟨4, ![4, 3, 1, 1024]⟩
abbrev S4x1024 : Shape := ⟨2, ![4, 1024]⟩
abbrev S1024x3072 : Shape := ⟨2, ![1024, 3072]⟩
abbrev S4x1x1024 : Shape := ⟨3, ![4, 1, 1024]⟩
abbrev S2048x3072 : Shape := ⟨2, ![2048, 3072]⟩
abbrev S512x1024 : Shape := ⟨2, ![512, 1024]⟩
abbrev S1x1x1x1024 : Shape := ⟨4, ![1, 1, 1, 1024]⟩
abbrev S1x1x1024 : Shape := ⟨3, ![1, 1, 1024]⟩
abbrev S512x3072 : Shape := ⟨2, ![512, 3072]⟩
abbrev S512 : Shape := ⟨1, ![512]⟩
abbrev S512x1 : Shape := ⟨2, ![512, 1]⟩
abbrev S1x1024 : Shape := ⟨2, ![1, 1024]⟩
abbrev S1024x768 : Shape := ⟨2, ![1024, 768]⟩
abbrev S512x768 : Shape := ⟨2, ![512, 768]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S4x3x1x1024, .f32⟩
  | .hbm, ⟨2, _⟩ => ⟨S4x1024, .f32⟩
  | .hbm, ⟨3, _⟩ => ⟨S1024x3072, .bf16⟩
  | .hbm, ⟨4, _⟩ => ⟨S4x1x1024, .f32⟩
  | .hbm, ⟨5, _⟩ => ⟨S2048x3072, .bf16⟩
  | .local _ .vmem, ⟨0, _⟩ => ⟨S512x1024, .f32⟩
  | .local _ .vmem, ⟨1, _⟩ => ⟨S512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1024, .f32⟩
  | .local _ .vmem, ⟨5, _⟩ => ⟨S1024x3072, .bf16⟩
  | .local _ .vmem, ⟨6, _⟩ => ⟨S512x3072, .bf16⟩
  | .local _ .vmem, ⟨7, _⟩ => ⟨S512x3072, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, c0_i32.toNat, c0_i32_0.toNat, c0_i32_1.toNat]

def cc0_transform_2 (i : grid0.Coords) : Fin 4 → Nat :=
  let arg0 : BitVec 32 := BitVec.ofNat 32 (i 0).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjReferenceIdeal.lean ====
abbrev S2048x1024 : Shape := ⟨2, ![2048, 1024]⟩
abbrev S4x3x1x1024 : Shape := ⟨4, ![4, 3, 1, 1024]⟩
abbrev S4x1024 : Shape := ⟨2, ![4, 1024]⟩
abbrev S1024x3072 : Shape := ⟨2, ![1024, 3072]⟩
abbrev S1x1x1x1024 : Shape := ⟨4, ![1, 1, 1, 1024]⟩
abbrev S1024 : Shape := ⟨1, ![1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x3072 : Shape := ⟨2, ![2048, 3072]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x3x1x1024, .f32⟩
  | .hbm, ⟨2, _⟩ => ⟨S4x1024, .f32⟩
  | .hbm, ⟨3, _⟩ => ⟨S1024x3072, .bf16⟩
  | .hbm, ⟨4, _⟩ => ⟨S1024x3072, .f32⟩
  | .hbm, ⟨5, _⟩ => ⟨S1x1x1x1024, .f32⟩
  | .hbm, ⟨6, _⟩ => ⟨S1024, .f32⟩
  | .hbm, ⟨7, _⟩ => ⟨S1x1x1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x3072, .f32⟩
  | .hbm, ⟨37, _⟩ => ⟨S2048x3072, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== FwdKernel.lean ====
abbrev S2048x512 : Shape := ⟨2, ![2048, 512]⟩
abbrev S1024x1024 : Shape := ⟨2, ![1024, 1024]⟩
abbrev S2048x1024 : Shape := ⟨2, ![2048, 1024]⟩
abbrev S4x3x1x1024 : Shape := ⟨4, ![4, 3, 1, 1024]⟩
abbrev S4x1024 : Shape := ⟨2, ![4, 1024]⟩
abbrev S8x128 : Shape := ⟨2, ![8, 128]⟩
abbrev S4x1x1024 : Shape := ⟨3, ![4, 1, 1024]⟩
abbrev S512x512 : Shape := ⟨2, ![512, 512]⟩
abbrev S512x1024 : Shape := ⟨2, ![512, 1024]⟩
abbrev S1x1x1x1024 : Shape := ⟨4, ![1, 1, 1, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S1024x1024, .bf16⟩
  | .hbm, ⟨3, _⟩ => ⟨S2048x1024, .f32⟩
  | .hbm, ⟨4, _⟩ => ⟨S4x3x1x1024, .f32⟩
  | .hbm, ⟨5, _⟩ => ⟨S4x1024, .f32⟩
  | .hbm, ⟨6, _⟩ => ⟨S8x128, .f32⟩
  | .hbm, ⟨7, _⟩ => ⟨S4x1x1024, .f32⟩
  | .hbm, ⟨8, _⟩ => ⟨S2048x1024, .f32⟩
  | .hbm, ⟨9, _⟩ => ⟨S2048x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1x1x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c2_i32 : BitVec 32 := 2#32
  let c2_i32_0 : BitVec 32 := 2#32
  let c0_i32 : BitVec 32 := 0#32
  let c0_i32_1 : BitVec 32 := 0#32
  let c0_i32_2 : BitVec 32 := 0#32
  ![c2_i32.toNat, c2_i32_0.toNat, c0_i32.toNat, c0_i32_1.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FwdReferenceIdeal.lean ====
abbrev S2048x512 : Shape := ⟨2, ![2048, 512]⟩
abbrev S1024x1024 : Shape := ⟨2, ![1024, 1024]⟩
abbrev S2048x1024 : Shape := ⟨2, ![2048, 1024]⟩
abbrev S4x3x1x1024 : Shape := ⟨4, ![4, 3, 1, 1024]⟩
abbrev S4x1024 : Shape := ⟨2, ![4, 1024]⟩
abbrev S8x128 : Shape := ⟨2, ![8, 128]⟩
abbrev S1x1x1x1024 : Shape := ⟨4, ![1, 1, 1, 1024]⟩
abbrev S1024 : Shape := ⟨1, ![1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S1024x1024, .bf16⟩
  | .hbm, ⟨3, _⟩ => ⟨S2048x1024, .f32⟩
  | .hbm, ⟨4, _⟩ => ⟨S4x3x1x1024, .f32⟩
  | .hbm, ⟨5, _⟩ => ⟨S4x1024, .f32⟩
  | .hbm, ⟨6, _⟩ => ⟨S8x128, .f32⟩
  | .hbm, ⟨7, _⟩ => ⟨S2048x1024, .bf16⟩
  | .hbm, ⟨8, _⟩ => ⟨S2048x1024, .f32⟩
  | .hbm, ⟨9, _⟩ => ⟨S1024x1024, .f32⟩
  | .hbm, ⟨10, _⟩ => ⟨S2048x1024, .f32⟩
  | .hbm, ⟨11, _⟩ => ⟨S1x1x1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== LossKernel.lean ====
abbrev S2048x512 : Shape := ⟨2, ![2048, 512]⟩
abbrev S1024x1024 : Shape := ⟨2, ![1024, 1024]⟩
abbrev S2048x1024 : Shape := ⟨2, ![2048, 1024]⟩
abbrev S4x3x1x1024 : Shape := ⟨4, ![4, 3, 1, 1024]⟩
abbrev S4x1024 : Shape := ⟨2, ![4, 1024]⟩
abbrev S4x1x1024 : Shape := ⟨3, ![4, 1, 1024]⟩
abbrev S8x128 : Shape := ⟨2, ![8, 128]⟩
abbrev S512x512 : Shape := ⟨2, ![512, 512]⟩
abbrev S512x1024 : Shape := ⟨2, ![512, 1024]⟩
abbrev S1x1x1x1024 : Shape := ⟨4, ![1, 1, 1, 1024]⟩
abbrev S1x1x1024 : Shape := ⟨3, ![1, 1, 1024]⟩
abbrev S8x1024 : Shape := ⟨2, ![8, 1024]⟩
abbrev S1x1024 : Shape := ⟨2, ![1, 1024]⟩
abbrev S512 : Shape := ⟨1, ![512]⟩
abbrev S512x1 : Shape := ⟨2, ![512, 1]⟩
abbrev S64x8x1024 : Shape := ⟨3, ![64, 8, 1024]⟩
abbrev S1x8x1024 : Shape := ⟨3, ![1, 8, 1024]⟩
abbrev S1 : Shape := ⟨1, ![1]⟩
abbrev S1x1x1 : Shape := ⟨3, ![1, 1, 1]⟩

abbrev nBuf : Space → Nat
  | .hbm => 11
  | .vmem => 17
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S1024x1024, .bf16⟩
  | .hbm, ⟨3, _⟩ => ⟨S2048x1024, .f32⟩
  | .hbm, ⟨4, _⟩ => ⟨S4x3x1x1024, .f32⟩
  | .hbm, ⟨5, _⟩ => ⟨S4x1024, .f32⟩
  | .hbm, ⟨6, _⟩ => ⟨S2048x1024, .f32⟩
  | .hbm, ⟨7, _⟩ => ⟨S4x1x1024, .f32⟩
  | .hbm, ⟨8, _⟩ => ⟨S2048x1024, .f32⟩
  | .hbm, ⟨9, _⟩ => ⟨S2048x1024, .bf16⟩
  | .hbm, ⟨10, _⟩ => ⟨S8x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1x1x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x128, .f32⟩
  | .local _ .vmem, ⟨16, _⟩ => ⟨S8x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v45 : BitVec 1 := Scalar.cmpi .eq arg0 c3_i32
  let v46 : BitVec 32 := Scalar.extui v45
  let c0_i32_32 : BitVec 32 := 0#32
  let v47 : BitVec 1 := Scalar.cmpi .ne v46 c0_i32_32
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c3_i32 : BitVec 32 := 3#32
  let c2_i32 : BitVec 32 := 2#32
  let c0_i32 : BitVec 32 := 0#32
  let c0_i32_0 : BitVec 32 := 0#32
  let c0_i32_1 : BitVec 32 := 0#32
  ![c3_i32.toNat, c2_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossReferenceIdeal.lean ====
abbrev S2048x512 : Shape := ⟨2, ![2048, 512]⟩
abbrev S1024x1024 : Shape := ⟨2, ![1024, 1024]⟩
abbrev S2048x1024 : Shape := ⟨2, ![2048, 1024]⟩
abbrev S4x3x1x1024 : Shape := ⟨4, ![4, 3, 1, 1024]⟩
abbrev S4x1024 : Shape := ⟨2, ![4, 1024]⟩
abbrev S1x1x1x1024 : Shape := ⟨4, ![1, 1, 1, 1024]⟩
abbrev S1024 : Shape := ⟨1, ![1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S8x128 : Shape := ⟨2, ![8, 128]⟩

abbrev nBuf : Space → Nat
  | .hbm => 60
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S1024x1024, .bf16⟩
  | .hbm, ⟨3, _⟩ => ⟨S2048x1024, .f32⟩
  | .hbm, ⟨4, _⟩ => ⟨S4x3x1x1024, .f32⟩
  | .hbm, ⟨5, _⟩ => ⟨S4x1024, .f32⟩
  | .hbm, ⟨6, _⟩ => ⟨S2048x1024, .f32⟩
  | .hbm, ⟨7, _⟩ => ⟨S2048x1024, .bf16⟩
  | .hbm, ⟨8, _⟩ => ⟨S2048x1024, .f32⟩
  | .hbm, ⟨9, _⟩ => ⟨S1024x1024, .f32⟩
  | .hbm, ⟨10, _⟩ => ⟨S2048x1024, .f32⟩
  | .hbm, ⟨11, _⟩ => ⟨S1x1x1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S2048, .f32⟩
  | .hbm, ⟨53, _⟩ => ⟨S_, .f32⟩
  | .hbm, ⟨54, _⟩ => ⟨S2048, .f32⟩
  | .hbm, ⟨55, _⟩ => ⟨S2048, .f32⟩
  | .hbm, ⟨56, _⟩ => ⟨S2048x1024, .f32⟩
  | .hbm, ⟨57, _⟩ => ⟨S2048x1024, .f32⟩
  | .hbm, ⟨58, _⟩ => ⟨S2048x1024, .bf16⟩
  | .hbm, ⟨59, _⟩ => ⟨S8x128, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_cst_7 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== MfwdKernel.lean ====
abbrev S2048x3072 : Shape := ⟨2, ![2048, 3072]⟩
abbrev S4x3x512 : Shape := ⟨3, ![4, 3, 512]⟩
abbrev S4x4x128x128 : Shape := ⟨4, ![4, 4, 128, 128]⟩
abbrev S4x512 : Shape := ⟨2, ![4, 512]⟩
abbrev S4x3x4x128 : Shape := ⟨4, ![4, 3, 4, 128]⟩
abbrev S4x4x3x128 : Shape := ⟨4, ![4, 4, 3, 128]⟩
abbrev S4x1x512 : Shape := ⟨3, ![4, 1, 512]⟩
abbrev S2048x512 : Shape := ⟨2, ![2048, 512]⟩
abbrev S2048x128 : Shape := ⟨2, ![2048, 128]⟩
abbrev S1x1x3x128 : Shape := ⟨4, ![1, 1, 3, 128]⟩
abbrev S1x1x128x128 : Shape := ⟨4, ![1, 1, 128, 128]⟩
abbrev S1x1x128 : Shape := ⟨3, ![1, 1, 128]⟩
abbrev S1x1x1x128 : Shape := ⟨4, ![1, 1, 1, 128]⟩
abbrev S1x128 : Shape := ⟨2, ![1, 128]⟩
abbrev S16x128 : Shape := ⟨2, ![16, 128]⟩
abbrev S128x128 : Shape := ⟨2, ![128, 128]⟩
abbrev S144x128 : Shape := ⟨2, ![144, 128]⟩

abbrev nBuf : Space → Nat
  | .hbm => 10
  | .vmem => 25
  | .smem => 0
  | _ => 0

abbrev bufTy : (tb : Table) → Fin (tcTables nBuf tb) → BufTy
  | .hbm, ⟨0, _⟩ => ⟨S2048x3072, .bf16⟩
  | .hbm, ⟨1, _⟩ => ⟨S4x3x512, .f32⟩
  | .hbm, ⟨2, _⟩ => ⟨S4x4x128x128, .f32⟩
  | .hbm, ⟨3, _⟩ => ⟨S4x512, .f32⟩
  | .hbm, ⟨4, _⟩ => ⟨S4x3x4x128, .f32⟩
  | .hbm, ⟨5, _⟩ => ⟨S4x4x3x128, .f32⟩
  | .hbm, ⟨6, _⟩ => ⟨S4x1x512, .f32⟩
  | .hbm, ⟨7, _⟩ => ⟨S2048x512, .bf16⟩
  | .hbm, ⟨8, _⟩ => ⟨S2048x512, .bf16⟩
  | .hbm, ⟨9, _⟩ => ⟨S2048x512, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S1x1x3x128, .f32⟩
  | .local _ .vmem, ⟨13, _⟩ => ⟨S1x1x3x128, .f32⟩
  | .local _ .vmem, ⟨14, _⟩ => ⟨S1x1x128x128, .f32⟩
  | .local _ .vmem, ⟨15, _⟩ => ⟨S1x1x128x128, .f32⟩
  | .local _ .vmem, ⟨16, _⟩ => ⟨S1x1x128, .f32⟩
  | .local _ .vmem, ⟨17, _⟩ => ⟨S1x1x128, .f32⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S2048x128, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

@[reducible] def k0_t1_loop : Scf.Loop 32 :=
  let c0_i32_14 : BitVec 32 := 0#32
  let c16_i32 : BitVec 32 := 16#32
  let v21 : BitVec 32 := Scalar.addi c0_i32_14 c16_i32
  let c1_i32 : BitVec 32 := 1#32
  ⟨c0_i32_14, v21, c1_i32⟩
def k0_mult1 (k0_t1 : Fin k0_t1_loop.trips) : BitVec 32 :=
  let c0_i32_14 : BitVec 32 := 0#32
  let c1_i32 : BitVec 32 := 1#32
  let arg14 : BitVec 32 := Scf.iv c0_i32_14 c1_i32 k0_t1
  let c128_i32 : BitVec 32 := 128#32
  let v22 : BitVec 32 := Scalar.muli arg14 c128_i32
  v22
def k0_mult2 (k0_t1 : Fin k0_t1_loop.trips) : BitVec 32 :=
  let c0_i32_14 : BitVec 32 := 0#32
  let c1_i32 : BitVec 32 := 1#32
  let arg14 : BitVec 32 := Scf.iv c0_i32_14 c1_i32 k0_t1
  let c128_i32 : BitVec 32 := 128#32
  let v22 : BitVec 32 := Scalar.muli arg14 c128_i32
  let v23 : BitVec 32 := v22
  let c16_i32_16 : BitVec 32 := 16#32
  let v24 : BitVec 32 := Scalar.subi v23 c16_i32_16
  let c0_i32_17 : BitVec 32 := 0#32
  let v25 : BitVec 32 := Scalar.maxsi v24 c0_i32_17
  v25
def k0_off1 (k0_t1 : Fin k0_t1_loop.trips) : Fin 2 → Nat :=
  let c0_i32_14 : BitVec 32 := 0#32
  let c1_i32 : BitVec 32 := 1#32
  let arg14 : BitVec 32 := Scf.iv c0_i32_14 c1_i32 k0_t1
  let c128_i32 : BitVec 32 := 128#32
  let v22 : BitVec 32 := Scalar.muli arg14 c128_i32
  let v23 : BitVec 32 := v22
  let c16_i32_16 : BitVec 32 := 16#32
  let v24 : BitVec 32 := Scalar.subi v23 c16_i32_16
  let c0_i32_17 : BitVec 32 := 0#32
  let v25 : BitVec 32 := Scalar.maxsi v24 c0_i32_17
  let v26 : BitVec 32 := v25
  let v28 : Index := Scalar.indexCast v26
  let c0_19 : Index := 0#32
  ![v28.toNat, 0]
def k0_off2 (k0_t1 : Fin k0_t1_loop.trips) : Fin 2 → Nat :=
  let c0_i32_14 : BitVec 32 := 0#32
  let c1_i32 : BitVec 32 := 1#32
  let arg14 : BitVec 32 := Scf.iv c0_i32_14 c1_i32 k0_t1
  let c128_i32 : BitVec 32 := 128#32
  let v22 : BitVec 32 := Scalar.muli arg14 c128_i32
  let v23 : BitVec 32 := v22
  let v33 : Index := Scalar.indexCast v23
  let c0_20 : Index := 0#32
  ![v33.toNat, 0]
def k0_cond2 (i : grid0.Coords) : BitVec 1 :=
  let arg0 : BitVec 32 := BitVec.ofNat 32 (i 0).val
  let c4_i32_0 : BitVec 32 := 4#32
  let v3 : BitVec 1 := Scalar.cmpi .eq arg0 c4_i32_0
  let v4 : BitVec 32 := Scalar.extui v3
  let c0_i32_1 : BitVec 32 := 0#32
  let v5 : BitVec 1 := Scalar.cmpi .ne v4 c0_i32_1
  v5

@[reducible] def k0_t2_loop : Scf.Loop 32 :=
  let c0_i32_5 : BitVec 32 := 0#32
  let c16_i32 : BitVec 32 := 16#32
  let v15 : BitVec 32 := Scalar.addi c0_i32_5 c16_i32
  let c1_i32 : BitVec 32 := 1#32
  ⟨c0_i32_5, v15, c1_i32⟩
def k0_mult3 (k0_t2 : Fin k0_t2_loop.trips) : BitVec 32 :=
  let c0_i32_5 : BitVec 32 := 0#32
  let c1_i32 : BitVec 32 := 1#32
  let arg14 : BitVec 32 := Scf.iv c0_i32_5 c1_i32 k0_t2
  let c128_i32 : BitVec 32 := 128#32
  let v28 : BitVec 32 := Scalar.muli arg14 c128_i32
  v28
def k0_mult4 (k0_t2 : Fin k0_t2_loop.trips) : BitVec 32 :=
  let c0_i32_5 : BitVec 32 := 0#32
  let c1_i32 : BitVec 32 := 1#32
  let arg14 : BitVec 32 := Scf.iv c0_i32_5 c1_i32 k0_t2
  let c128_i32 : BitVec 32 := 128#32
  let v28 : BitVec 32 := Scalar.muli arg14 c128_i32
  let v29 : BitVec 32 := v28
  let c16_i32_21 : BitVec 32 := 16#32
  let v30 : BitVec 32 := Scalar.subi v29 c16_i32_21
  let c0_i32_22 : BitVec 32 := 0#32
  let v31 : BitVec 32 := Scalar.maxsi v30 c0_i32_22
  v31
def k0_off3 (k0_t2 : Fin k0_t2_loop.trips) : Fin 2 → Nat :=
  let c0_i32_5 : BitVec 32 := 0#32
  let c1_i32 : BitVec 32 := 1#32
  let arg14 : BitVec 32 := Scf.iv c0_i32_5 c1_i32 k0_t2
  let c128_i32 : BitVec 32 := 128#32
  let v28 : BitVec 32 := Scalar.muli arg14 c128_i32
  let v29 : BitVec 32 := v28
  let c16_i32_21 : BitVec 32 := 16#32
  let v30 : BitVec 32 := Scalar.subi v29 c16_i32_21
  let c0_i32_22 : BitVec 32 := 0#32
  let v31 : BitVec 32 := Scalar.maxsi v30 c0_i32_22
  let v32 : BitVec 32 := v31
  let v34 : Index := Scalar.indexCast v32
  let c0_24 : Index := 0#32
  ![v34.toNat, 0]
def k0_off4 (k0_t2 : Fin k0_t2_loop.trips) : Fin 2 → Nat :=
  let c0_i32_5 : BitVec 32 := 0#32
  let c1_i32 : BitVec 32 := 1#32
  let arg14 : BitVec 32 := Scf.iv c0_i32_5 c1_i32 k0_t2
  let c128_i32 : BitVec 32 := 128#32
  let v28 : BitVec 32 := Scalar.muli arg14 c128_i32
  let v29 : BitVec 32 := v28
  let v39 : Index := Scalar.indexCast v29
  let c0_26 : Index := 0#32
  ![v39.toNat, 0]
@[reducible] def k0_t3_loop : Scf.Loop 32 :=
  let c0_i32_17 : BitVec 32 := 0#32
  let c16_i32_18 : BitVec 32 := 16#32
  let v27 : BitVec 32 := Scalar.addi c0_i32_17 c16_i32_18
  let c1_i32_19 : BitVec 32 := 1#32
  ⟨c0_i32_17, v27, c1_i32_19⟩
def k0_mult5 (k0_t3 : Fin k0_t3_loop.trips) : BitVec 32 :=
  let c0_i32_17 : BitVec 32 := 0#32
  let c1_i32_19 : BitVec 32 := 1#32
  let arg14 : BitVec 32 := Scf.iv c0_i32_17 c1_i32_19 k0_t3
  let c128_i32 : BitVec 32 := 128#32
  let v28 : BitVec 32 := Scalar.muli arg14 c128_i32
  v28
def k0_off5 (k0_t3 : Fin k0_t3_loop.trips) : Fin 2 → Nat :=
  let c0_i32_17 : BitVec 32 := 0#32
  let c1_i32_19 : BitVec 32 := 1#32
  let arg14 : BitVec 32 := Scf.iv c0_i32_17 c1_i32_19 k0_t3
  let c128_i32 : BitVec 32 := 128#32
  let v28 : BitVec 32 := Scalar.muli arg14 c128_i32
  let v29 : BitVec 32 := v28
  let v30 : Index := Scalar.indexCast v29
  let c0_21 : Index := 0#32
  ![v30.toNat, 0]
def k0_cond3 (i : grid0.Coords) : BitVec 1 :=
  let arg0 : BitVec 32 := BitVec.ofNat 32 (i 0).val
  let c5_i32 : BitVec 32 := 5#32
  let v6 : BitVec 1 := Scalar.cmpi .eq arg0 c5_i32
  let v7 : BitVec 32 := Scalar.extui v6
  let c0_i32_2 : BitVec 32 := 0#32
  let v8 : BitVec 1 := Scalar.cmpi .ne v7 c0_i32_2
  v8

@[reducible] def k0_t4_loop : Scf.Loop 32 :=
  let c0_i32_5 : BitVec 32 := 0#32
  let c16_i32 : BitVec 32 := 16#32
  let v15 : BitVec 32 := Scalar.addi c0_i32_5 c16_i32
  let c1_i32 : BitVec 32 := 1#32
  ⟨c0_i32_5, v15, c1_i32⟩
def k0_mult6 (k0_t4 : Fin k0_t4_loop.trips) : BitVec 32 :=
  let c0_i32_5 : BitVec 32 := 0#32
  let c1_i32 : BitVec 32 := 1#32
  let arg14 : BitVec 32 := Scf.iv c0_i32_5 c1_i32 k0_t4
  let c128_i32 : BitVec 32 := 128#32
  let v28 : BitVec 32 := Scalar.muli arg14 c128_i32
  v28
def k0_mult7 (k0_t4 : Fin k0_t4_loop.trips) : BitVec 32 :=
  let c0_i32_5 : BitVec 32 := 0#32
  let c1_i32 : BitVec 32 := 1#32
  let arg14 : BitVec 32 := Scf.iv c0_i32_5 c1_i32 k0_t4
  let c128_i32 : BitVec 32 := 128#32
  let v28 : BitVec 32 := Scalar.muli arg14 c128_i32
  let v29 : BitVec 32 := v28
  let c16_i32_21 : BitVec 32 := 16#32
  let v30 : BitVec 32 := Scalar.subi v29 c16_i32_21
  let c0_i32_22 : BitVec 32 := 0#32
  let v31 : BitVec 32 := Scalar.maxsi v30 c0_i32_22
  v31
def k0_off6 (k0_t4 : Fin k0_t4_loop.trips) : Fin 2 → Nat :=
  let c0_i32_5 : BitVec 32 := 0#32
  let c1_i32 : BitVec 32 := 1#32
  let arg14 : BitVec 32 := Scf.iv c0_i32_5 c1_i32 k0_t4
  let c128_i32 : BitVec 32 := 128#32
  let v28 : BitVec 32 := Scalar.muli arg14 c128_i32
  let v29 : BitVec 32 := v28
  let c16_i32_21 : BitVec 32 := 16#32
  let v30 : BitVec 32 := Scalar.subi v29 c16_i32_21
  let c0_i32_22 : BitVec 32 := 0#32
  let v31 : BitVec 32 := Scalar.maxsi v30 c0_i32_22
  let v32 : BitVec 32 := v31
  let v34 : Index := Scalar.indexCast v32
  let c0_24 : Index := 0#32
  ![v34.toNat, 0]
def k0_off7 (k0_t4 : Fin k0_t4_loop.trips) : Fin 2 → Nat :=
  let c0_i32_5 : BitVec 32 := 0#32
  let c1_i32 : BitVec 32 := 1#32
  let arg14 : BitVec 32 := Scf.iv c0_i32_5 c1_i32 k0_t4
  let c128_i32 : BitVec 32 := 128#32
  let v28 : BitVec 32 := Scalar.muli arg14 c128_i32
  let v29 : BitVec 32 := v28
  let v39 : Index := Scalar.indexCast v29
  let c0_26 : Index := 0#32
  ![v39.toNat, 0]
@[reducible] def k0_t5_loop : Scf.Loop 32 :=
  let c0_i32_17 : BitVec 32 := 0#32
  let c16_i32_18 : BitVec 32 := 16#32
  let v27 : BitVec 32 := Scalar.addi c0_i32_17 c16_i32_18
  let c1_i32_19 : BitVec 32 := 1#32
  ⟨c0_i32_17, v27, c1_i32_19⟩
def k0_mult8 (k0_t5 : Fin k0_t5_loop.trips) : BitVec 32 :=
  let c0_i32_17 : BitVec 32 := 0#32
  let c1_i32_19 : BitVec 32 := 1#32
  let arg14 : BitVec 32 := Scf.iv c0_i32_17 c1_i32_19 k0_t5
  let c128_i32 : BitVec 32 := 128#32
  let v28 : BitVec 32 := Scalar.muli arg14 c128_i32
  v28
def k0_off8 (k0_t5 : Fin k0_t5_loop.trips) : Fin 2 → Nat :=
  let c0_i32_17 : BitVec 32 := 0#32
  let c1_i32_19 : BitVec 32 := 1#32
  let arg14 : BitVec 32 := Scf.iv c0_i32_17 c1_i32_19 k0_t5
  let c128_i32 : BitVec 32 := 128#32
  let v28 : BitVec 32 := Scalar.muli arg14 c128_i32
  let v29 : BitVec 32 := v28
  let v30 : Index := Scalar.indexCast v29
  let c0_21 : Index := 0#32
  ![v30.toNat, 0]
def k0_cond4 (i : grid0.Coords) : BitVec 1 :=
  let arg0 : BitVec 32 := BitVec.ofNat 32 (i 0).val
  let c6_i32 : BitVec 32 := 6#32
  let v9 : BitVec 1 := Scalar.cmpi .eq arg0 c6_i32
  let v10 : BitVec 32 := Scalar.extui v9
  let c0_i32_3 : BitVec 32 := 0#32
  let v11 : BitVec 1 := Scalar.cmpi .ne v10 c0_i32_3
  v11

@[reducible] def k0_t6_loop : Scf.Loop 32 :=
  let c0_i32_5 : BitVec 32 := 0#32
  let c16_i32 : BitVec 32 := 16#32
  let v15 : BitVec 32 := Scalar.addi c0_i32_5 c16_i32
  let c1_i32 : BitVec 32 := 1#32
  ⟨c0_i32_5, v15, c1_i32⟩
def k0_mult9 (k0_t6 : Fin k0_t6_loop.trips) : BitVec 32 :=
  let c0_i32_5 : BitVec 32 := 0#32
  let c1_i32 : BitVec 32 := 1#32
  let arg14 : BitVec 32 := Scf.iv c0_i32_5 c1_i32 k0_t6
  let c128_i32 : BitVec 32 := 128#32
  let v28 : BitVec 32 := Scalar.muli arg14 c128_i32
  v28
def k0_mult10 (k0_t6 : Fin k0_t6_loop.trips) : BitVec 32 :=
  let c0_i32_5 : BitVec 32 := 0#32
  let c1_i32 : BitVec 32 := 1#32
  let arg14 : BitVec 32 := Scf.iv c0_i32_5 c1_i32 k0_t6
  let c128_i32 : BitVec 32 := 128#32
  let v28 : BitVec 32 := Scalar.muli arg14 c128_i32
  let v29 : BitVec 32 := v28
  let c16_i32_21 : BitVec 32 := 16#32
  let v30 : BitVec 32 := Scalar.subi v29 c16_i32_21
  let c0_i32_22 : BitVec 32 := 0#32
  let v31 : BitVec 32 := Scalar.maxsi v30 c0_i32_22
  v31
def k0_off9 (k0_t6 : Fin k0_t6_loop.trips) : Fin 2 → Nat :=
  let c0_i32_5 : BitVec 32 := 0#32
  let c1_i32 : BitVec 32 := 1#32
  let arg14 : BitVec 32 := Scf.iv c0_i32_5 c1_i32 k0_t6
  let c128_i32 : BitVec 32 := 128#32
  let v28 : BitVec 32 := Scalar.muli arg14 c128_i32
  let v29 : BitVec 32 := v28
  let c16_i32_21 : BitVec 32 := 16#32
  let v30 : BitVec 32 := Scalar.subi v29 c16_i32_21
  let c0_i32_22 : BitVec 32 := 0#32
  let v31 : BitVec 32 := Scalar.maxsi v30 c0_i32_22
  let v32 : BitVec 32 := v31
  let v34 : Index := Scalar.indexCast v32
  let c0_24 : Index := 0#32
  ![v34.toNat, 0]
def k0_off10 (k0_t6 : Fin k0_t6_loop.trips) : Fin 2 → Nat :=
  let c0_i32_5 : BitVec 32 := 0#32
  let c1_i32 : BitVec 32 := 1#32
  let arg14 : BitVec 32 := Scf.iv c0_i32_5 c1_i32 k0_t6
  let c128_i32 : BitVec 32 := 128#32
  let v28 : BitVec 32 := Scalar.muli arg14 c128_i32
  let v29 : BitVec 32 := v28
  let v39 : Index := Scalar.indexCast v29
  let c0_26 : Index := 0#32
  ![v39.toNat, 0]
@[reducible] def k0_t7_loop : Scf.Loop 32 :=
  let c0_i32_17 : BitVec 32 := 0#32
  let c16_i32_18 : BitVec 32 := 16#32
  let v27 : BitVec 32 := Scalar.addi c0_i32_17 c16_i32_18
  let c1_i32_19 : BitVec 32 := 1#32
  ⟨c0_i32_17, v27, c1_i32_19⟩
def k0_mult11 (k0_t7 : Fin k0_t7_loop.trips) : BitVec 32 :=
  let c0_i32_17 : BitVec 32 := 0#32
  let c1_i32_19 : BitVec 32 := 1#32
  let arg14 : BitVec 32 := Scf.iv c0_i32_17 c1_i32_19 k0_t7
  let c128_i32 : BitVec 32 := 128#32
  let v28 : BitVec 32 := Scalar.muli arg14 c128_i32
  v28
def k0_off11 (k0_t7 : Fin k0_t7_loop.trips) : Fin 2 → Nat :=
  let c0_i32_17 : BitVec 32 := 0#32
  let c1_i32_19 : BitVec 32 := 1#32
  let arg14 : BitVec 32 := Scf.iv c0_i32_17 c1_i32_19 k0_t7
  let c128_i32 : BitVec 32 := 128#32
  let v28 : BitVec 32 := Scalar.muli arg14 c128_i32
  let v29 : BitVec 32 := v28
  let v30 : Index := Scalar.indexCast v29
  let c0_21 : Index := 0#32
  ![v30.toNat, 0]
def k0_cond5 (i : grid0.Coords) : BitVec 1 :=
  let arg0 : BitVec 32 := BitVec.ofNat 32 (i 0).val
  let c7_i32 : BitVec 32 := 7#32
  let v12 : BitVec 1 := Scalar.cmpi .eq arg0 c7_i32
  let v13 : BitVec 32 := Scalar.extui v12
  let c0_i32_4 : BitVec 32 := 0#32
  let v14 : BitVec 1 := Scalar.cmpi .ne v13 c0_i32_4
  v14

@[reducible] def k0_t8_loop : Scf.Loop 32 :=
  let c0_i32_5 : BitVec 32 := 0#32
  let c16_i32 : BitVec 32 := 16#32
  let v15 : BitVec 32 := Scalar.addi c0_i32_5 c16_i32
  let c1_i32 : BitVec 32 := 1#32
  ⟨c0_i32_5, v15, c1_i32⟩
def k0_mult12 (k0_t8 : Fin k0_t8_loop.trips) : BitVec 32 :=
  let c0_i32_5 : BitVec 32 := 0#32
  let c1_i32 : BitVec 32 := 1#32
  let arg14 : BitVec 32 := Scf.iv c0_i32_5 c1_i32 k0_t8
  let c128_i32 : BitVec 32 := 128#32
  let v28 : BitVec 32 := Scalar.muli arg14 c128_i32
  v28
def k0_mult13 (k0_t8 : Fin k0_t8_loop.trips) : BitVec 32 :=
  let c0_i32_5 : BitVec 32 := 0#32
  let c1_i32 : BitVec 32 := 1#32
  let arg14 : BitVec 32 := Scf.iv c0_i32_5 c1_i32 k0_t8
  let c128_i32 : BitVec 32 := 128#32
  let v28 : BitVec 32 := Scalar.muli arg14 c128_i32
  let v29 : BitVec 32 := v28
  let c16_i32_21 : BitVec 32 := 16#32
  let v30 : BitVec 32 := Scalar.subi v29 c16_i32_21
  let c0_i32_22 : BitVec 32 := 0#32
  let v31 : BitVec 32 := Scalar.maxsi v30 c0_i32_22
  v31
def k0_off12 (k0_t8 : Fin k0_t8_loop.trips) : Fin 2 → Nat :=
  let c0_i32_5 : BitVec 32 := 0#32
  let c1_i32 : BitVec 32 := 1#32
  let arg14 : BitVec 32 := Scf.iv c0_i32_5 c1_i32 k0_t8
  let c128_i32 : BitVec 32 := 128#32
  let v28 : BitVec 32 := Scalar.muli arg14 c128_i32
  let v29 : BitVec 32 := v28
  let c16_i32_21 : BitVec 32 := 16#32
  let v30 : BitVec 32 := Scalar.subi v29 c16_i32_21
  let c0_i32_22 : BitVec 32 := 0#32
  let v31 : BitVec 32 := Scalar.maxsi v30 c0_i32_22
  let v32 : BitVec 32 := v31
  let v34 : Index := Scalar.indexCast v32
  let c0_24 : Index := 0#32
  ![v34.toNat, 0]
def k0_off13 (k0_t8 : Fin k0_t8_loop.trips) : Fin 2 → Nat :=
  let c0_i32_5 : BitVec 32 := 0#32
  let c1_i32 : BitVec 32 := 1#32
  let arg14 : BitVec 32 := Scf.iv c0_i32_5 c1_i32 k0_t8
  let c128_i32 : BitVec 32 := 128#32
  let v28 : BitVec 32 := Scalar.muli arg14 c128_i32
  let v29 : BitVec 32 := v28
  let v39 : Index := Scalar.indexCast v29
  let c0_26 : Index := 0#32
  ![v39.toNat, 0]
@[reducible] def k0_t9_loop : Scf.Loop 32 :=
  let c0_i32_17 : BitVec 32 := 0#32
  let c16_i32_18 : BitVec 32 := 16#32
  let v27 : BitVec 32 := Scalar.addi c0_i32_17 c16_i32_18
  let c1_i32_19 : BitVec 32 := 1#32
  ⟨c0_i32_17, v27, c1_i32_19⟩
def k0_mult14 (k0_t9 : Fin k0_t9_loop.trips) : BitVec 32 :=
  let c0_i32_17 : BitVec 32 := 0#32
  let c1_i32_19 : BitVec 32 := 1#32
  let arg14 : BitVec 32 := Scf.iv c0_i32_17 c1_i32_19 k0_t9
  let c128_i32 : BitVec 32 := 128#32
  let v28 : BitVec 32 := Scalar.muli arg14 c128_i32
  v28
def k0_off14 (k0_t9 : Fin k0_t9_loop.trips) : Fin 2 → Nat :=
  let c0_i32_17 : BitVec 32 := 0#32
  let c1_i32_19 : BitVec 32 := 1#32
  let arg14 : BitVec 32 := Scf.iv c0_i32_17 c1_i32_19 k0_t9
  let c128_i32 : BitVec 32 := 128#32
  let v28 : BitVec 32 := Scalar.muli arg14 c128_i32
  let v29 : BitVec 32 := v28
  let v30 : Index := Scalar.indexCast v29
  let c0_21 : Index := 0#32
  ![v30.toNat, 0]
def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c4_i32 : BitVec 32 := 4#32
  let v1 : BitVec 32 := Scalar.addi v0 c4_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c3_i32 : BitVec 32 := 3#32
  let v0 : BitVec 32 := Scalar.minsi arg0 c3_i32
  let c8_i32 : BitVec 32 := 8#32
  let v1 : BitVec 32 := Scalar.addi v0 c8_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c3_i32 : BitVec 32 := 3#32
  let v0 : BitVec 32 := Scalar.minsi arg0 c3_i32
  let c12_i32 : BitVec 32 := 12#32
  let v1 : BitVec 32 := Scalar.addi v0 c12_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c16_i32 : BitVec 32 := 16#32
  let v2 : BitVec 32 := Scalar.addi v1 c16_i32
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c20_i32 : BitVec 32 := 20#32
  let v2 : BitVec 32 := Scalar.addi v1 c20_i32
  let c0_i32_0 : BitVec 32 := 0#32
  let c0_i32_1 : BitVec 32 := 0#32
  ![c0_i32_0.toNat, v2.toNat]

def cc0_transform_6 (i : grid0.Coords) : Fin 4 → Nat :=
  let arg0 : BitVec 32 := BitVec.ofNat 32 (i 0).val
  let c3_i32 : BitVec 32 := 3#32
  let v0 : BitVec 32 := Scalar.minsi arg0 c3_i32
  let c3_i32_0 : BitVec 32 := 3#32
  let c0_i32 : BitVec 32 := 0#32
  let c0_i32_1 : BitVec 32 := 0#32
  let c0_i32_2 : BitVec 32 := 0#32
  ![v0.toNat, c3_i32_0.toNat, c0_i32.toNat, c0_i32_1.toNat]

def cc0_transform_7 (i : grid0.Coords) : Fin 4 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c3_i32 : BitVec 32 := 3#32
  let c0_i32_0 : BitVec 32 := 0#32
  let c0_i32_1 : BitVec 32 := 0#32
  let c0_i32_2 : BitVec 32 := 0#32
  ![c3_i32.toNat, v1.toNat, c0_i32_0.toNat, c0_i32_1.toNat]

def cc0_transform_8 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c3_i32 : BitVec 32 := 3#32
  let c0_i32_0 : BitVec 32 := 0#32
  let c0_i32_1 : BitVec 32 := 0#32
  ![c3_i32.toNat, c0_i32_0.toNat, v1.toNat]

def cc0_transform_9 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_11 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MfwdReferenceIdeal.lean ====
abbrev S2048x3072 : Shape := ⟨2, ![2048, 3072]⟩
abbrev S4x3x512 : Shape := ⟨3, ![4, 3, 512]⟩
abbrev S4x4x128x128 : Shape := ⟨4, ![4, 4, 128, 128]⟩
abbrev S4x512 : Shape := ⟨2, ![4, 512]⟩
abbrev S2048x512 : Shape := ⟨2, ![2048, 512]⟩
abbrev S2048x128 : Shape := ⟨2, ![2048, 128]⟩
abbrev S2048 : Shape := ⟨1, ![2048]⟩
abbrev S_ : Shape := ⟨0, ![]⟩
abbrev S2048x1 : Shape := ⟨2, ![2048, 1]⟩
abbrev S1x128 : Shape := ⟨2, ![1, 128]⟩
abbrev S2049x128 : Shape := ⟨2, ![2049, 128]⟩
abbrev S3x128 : Shape := ⟨2, ![3, 128]⟩
abbrev S2051x128 : Shape := ⟨2, ![2051, 128]⟩
abbrev S7x128 : Shape := ⟨2, ![7, 128]⟩
abbrev S2055x128 : Shape := ⟨2, ![2055, 128]⟩
abbrev S15x128 : Shape := ⟨2, ![15, 128]⟩
abbrev S2063x128 : Shape := ⟨2, ![2063, 128]⟩
abbrev S1x3x512 : Shape := ⟨3, ![1, 3, 512]⟩
abbrev S3x512 : Shape := ⟨2, ![3, 512]⟩
abbrev S2x512 : Shape := ⟨2, ![2, 512]⟩
abbrev S2050x512 : Shape := ⟨2, ![2050, 512]⟩
abbrev S1x512 : Shape := ⟨2, ![1, 512]⟩
abbrev S512 : Shape := ⟨1, ![512]⟩
abbrev S1x4x128x128 : Shape := ⟨4, ![1, 4, 128, 128]⟩
abbrev S4x128x128 : Shape := ⟨3, ![4, 128, 128]⟩
abbrev S1x128x128 : Shape := ⟨3, ![1, 128, 128]⟩
abbrev S128x128 : Shape := ⟨2, ![128, 128]⟩

abbrev nBuf : Space → Nat
  | .hbm => 319
  | .vmem => 0
  | .smem => 0
  | _ => 0

abbrev hbmTy0_0 (i : Nat) : BufTy := match i % 128 with
  | 0 => ⟨S2048x3072, .bf16⟩
  | 1 => ⟨S4x3x512, .f32⟩
  | 2 => ⟨S4x4x128x128, .f32⟩
  | 3 => ⟨S4x512, .f32⟩
  | 4 => ⟨S2048x512, .bf16⟩
  | 5 => ⟨S2048x512, .f32⟩
  | 6 => ⟨S2048x512, .bf16⟩
  | 7 => ⟨S2048x512, .f32⟩
  | 8 => ⟨S2048x512, .bf16⟩
  | 9 => ⟨S2048x512, .f32⟩
  | 10 => ⟨S2048x512, .bf16⟩
  | 11 => ⟨S2048x512, .f32⟩
  | 12 => ⟨S2048x512, .bf16⟩
  | 13 => ⟨S2048x512, .f32⟩
  | 14 => ⟨S2048x512, .bf16⟩
  | 15 => ⟨S2048x512, .f32⟩
  | 16 => ⟨S2048x128, .f32⟩
  | 17 => ⟨S2048x128, .f32⟩
  | 18 => ⟨S2048x128, .f32⟩
  | 19 => ⟨S2048x128, .f32⟩
  | 20 => ⟨S2048, .f32⟩
  | 21 => ⟨S_, .f32⟩
  | 22 => ⟨S2048, .f32⟩
  | 23 => ⟨S2048, .f32⟩
  | 24 => ⟨S2048x1, .f32⟩
  | 25 => ⟨S_, .f32⟩
  | 26 => ⟨S1x128, .f32⟩
  | 27 => ⟨S2049x128, .f32⟩
  | 28 => ⟨S2048x128, .f32⟩
  | 29 => ⟨S2048x128, .f32⟩
  | 30 => ⟨S2048x128, .f32⟩
  | 31 => ⟨S_, .f32⟩
  | 32 => ⟨S2048x1, .f32⟩
  | 33 => ⟨S2048x1, .f32⟩
  | 34 => ⟨S2048x128, .f32⟩
  | 35 => ⟨S2048x128, .f32⟩
  | 36 => ⟨S2048x128, .f32⟩
  | 37 => ⟨S2048, .f32⟩
  | 38 => ⟨S_, .f32⟩
  | 39 => ⟨S2048, .f32⟩
  | 40 => ⟨S2048, .f32⟩
  | 41 => ⟨S2048x1, .f32⟩
  | 42 => ⟨S_, .f32⟩
  | 43 => ⟨S3x128, .f32⟩
  | 44 => ⟨S2051x128, .f32⟩
  | 45 => ⟨S2048x128, .f32⟩
  | 46 => ⟨S2048x128, .f32⟩
  | 47 => ⟨S2048x128, .f32⟩
  | 48 => ⟨S2048x128, .f32⟩
  | 49 => ⟨S2048x128, .f32⟩
  | 50 => ⟨S2048x128, .f32⟩
  | 51 => ⟨S2048x128, .f32⟩
  | 52 => ⟨S_, .f32⟩
  | 53 => ⟨S2048x1, .f32⟩
  | 54 => ⟨S2048x1, .f32⟩
  | 55 => ⟨S2048x128, .f32⟩
  | 56 => ⟨S2048x128, .f32⟩
  | 57 => ⟨S2048x128, .f32⟩
  | 58 => ⟨S2048, .f32⟩
  | 59 => ⟨S_, .f32⟩
  | 60 => ⟨S2048, .f32⟩
  | 61 => ⟨S2048, .f32⟩
  | 62 => ⟨S2048x1, .f32⟩
  | 63 => ⟨S_, .f32⟩
  | 64 => ⟨S7x128, .f32⟩
  | 65 => ⟨S2055x128, .f32⟩
  | 66 => ⟨S2048x128, .f32⟩
  | 67 => ⟨S2048x128, .f32⟩
  | 68 => ⟨S2048x128, .f32⟩
  | 69 => ⟨S2048x128, .f32⟩
  | 70 => ⟨S2048x128, .f32⟩
  | 71 => ⟨S2048x128, .f32⟩
  | 72 => ⟨S2048x128, .f32⟩
  | 73 => ⟨S2048x128, .f32⟩
  | 74 => ⟨S2048x128, .f32⟩
  | 75 => ⟨S2048x128, .f32⟩
  | 76 => ⟨S2048x128, .f32⟩
  | 77 => ⟨S2048x128, .f32⟩
  | 78 => ⟨S2048x128, .f32⟩
  | 79 => ⟨S2048x128, .f32⟩
  | 80 => ⟨S2048x128, .f32⟩
  | 81 => ⟨S_, .f32⟩
  | 82 => ⟨S2048x1, .f32⟩
  | 83 => ⟨S2048x1, .f32⟩
  | 84 => ⟨S2048x128, .f32⟩
  | 85 => ⟨S2048x128, .f32⟩
  | 86 => ⟨S2048x128, .f32⟩
  | 87 => ⟨S2048, .f32⟩
  | 88 => ⟨S_, .f32⟩
  | 89 => ⟨S2048, .f32⟩
  | 90 => ⟨S2048, .f32⟩
  | 91 => ⟨S2048x1, .f32⟩
  | 92 => ⟨S_, .f32⟩
  | 93 => ⟨S15x128, .f32⟩
  | 94 => ⟨S2063x128, .f32⟩
  | 95 => ⟨S2048x128, .f32⟩
  | 96 => ⟨S2048x128, .f32⟩
  | 97 => ⟨S2048x128, .f32⟩
  | 98 => ⟨S2048x128, .f32⟩
  | 99 => ⟨S2048x128, .f32⟩
  | 100 => ⟨S2048x128, .f32⟩
  | 101 => ⟨S2048x128, .f32⟩
  | 102 => ⟨S2048x128, .f32⟩
  | 103 => ⟨S2048x128, .f32⟩
  | 104 => ⟨S2048x128, .f32⟩
  | 105 => ⟨S2048x128, .f32⟩
  | 106 => ⟨S2048x128, .f32⟩
  | 107 => ⟨S2048x128, .f32⟩
  | 108 => ⟨S2048x128, .f32⟩
  | 109 => ⟨S2048x128, .f32⟩
  | 110 => ⟨S2048x128, .f32⟩
  | 111 => ⟨S2048x128, .f32⟩
  | 112 => ⟨S2048x128, .f32⟩
  | 113 => ⟨S2048x128, .f32⟩
  | 114 => ⟨S2048x128, .f32⟩
  | 115 => ⟨S2048x128, .f32⟩
  | 116 => ⟨S2048x128, .f32⟩
  | 117 => ⟨S2048x128, .f32⟩
  | 118 => ⟨S2048x128, .f32⟩
  | 119 => ⟨S2048x128, .f32⟩
  | 120 => ⟨S2048x128, .f32⟩
  | 121 => ⟨S2048x128, .f32⟩
  | 122 => ⟨S2048x128, .f32⟩
  | 123 => ⟨S2048x128, .f32⟩
  | 124 => ⟨S2048x128, .f32⟩
  | 125 => ⟨S2048x128, .f32⟩
  | 126 => ⟨S_, .f32⟩
  | 127 => ⟨S2048x1, .f32⟩
  | _ => ⟨S2048x3072, .bf16⟩

abbrev hbmTy0_1 (i : Nat) : BufTy := match i % 128 with
  | 0 => ⟨S2048x1, .f32⟩
  | 1 => ⟨S2048x128, .f32⟩
  | 2 => ⟨S2048x128, .f32⟩
  | 3 => ⟨S2048x128, .f32⟩
  | 4 => ⟨S2048x512, .f32⟩
  | 5 => ⟨S1x3x512, .f32⟩
  | 6 => ⟨S3x512, .f32⟩
  | 7 => ⟨S_, .f32⟩
  | 8 => ⟨S2x512, .f32⟩
  | 9 => ⟨S2048x512, .f32⟩
  | 10 => ⟨S2050x512, .f32⟩
  | 11 => ⟨S1x512, .f32⟩
  | 12 => ⟨S512, .f32⟩
  | 13 => ⟨S2048x512, .f32⟩
  | 14 => ⟨S1x512, .f32⟩
  | 15 => ⟨S2048x512, .f32⟩
  | 16 => ⟨S2048x512, .f32⟩
  | 17 => ⟨S1x512, .f32⟩
  | 18 => ⟨S512, .f32⟩
  | 19 => ⟨S2048x512, .f32⟩
  | 20 => ⟨S1x512, .f32⟩
  | 21 => ⟨S2048x512, .f32⟩
  | 22 => ⟨S2048x512, .f32⟩
  | 23 => ⟨S2048x512, .f32⟩
  | 24 => ⟨S1x512, .f32⟩
  | 25 => ⟨S512, .f32⟩
  | 26 => ⟨S2048x512, .f32⟩
  | 27 => ⟨S1x512, .f32⟩
  | 28 => ⟨S2048x512, .f32⟩
  | 29 => ⟨S2048x512, .f32⟩
  | 30 => ⟨S2048x512, .f32⟩
  | 31 => ⟨S2048x512, .f32⟩
  | 32 => ⟨S2048x512, .f32⟩
  | 33 => ⟨S2048x512, .f32⟩
  | 34 => ⟨S_, .f32⟩
  | 35 => ⟨S2048x512, .f32⟩
  | 36 => ⟨S2048x512, .f32⟩
  | 37 => ⟨S_, .f32⟩
  | 38 => ⟨S2048x512, .f32⟩
  | 39 => ⟨S2048x512, .f32⟩
  | 40 => ⟨S2048x512, .f32⟩
  | 41 => ⟨S2048x512, .f32⟩
  | 42 => ⟨S1x4x128x128, .f32⟩
  | 43 => ⟨S4x128x128, .f32⟩
  | 44 => ⟨S1x512, .f32⟩
  | 45 => ⟨S512, .f32⟩
  | 46 => ⟨S2048x128, .f32⟩
  | 47 => ⟨S2048x128, .f32⟩
  | 48 => ⟨S2048x128, .f32⟩
  | 49 => ⟨S2048x128, .f32⟩
  | 50 => ⟨S2048, .f32⟩
  | 51 => ⟨S_, .f32⟩
  | 52 => ⟨S2048, .f32⟩
  | 53 => ⟨S2048, .f32⟩
  | 54 => ⟨S2048x1, .f32⟩
  | 55 => ⟨S_, .f32⟩
  | 56 => ⟨S1x128, .f32⟩
  | 57 => ⟨S2049x128, .f32⟩
  | 58 => ⟨S2048x128, .f32⟩
  | 59 => ⟨S2048x128, .f32⟩
  | 60 => ⟨S2048x128, .f32⟩
  | 61 => ⟨S_, .f32⟩
  | 62 => ⟨S2048x1, .f32⟩
  | 63 => ⟨S2048x1, .f32⟩
  | 64 => ⟨S2048x128, .f32⟩
  | 65 => ⟨S2048x128, .f32⟩
  | 66 => ⟨S2048x128, .f32⟩
  | 67 => ⟨S2048, .f32⟩
  | 68 => ⟨S_, .f32⟩
  | 69 => ⟨S2048, .f32⟩
  | 70 => ⟨S2048, .f32⟩
  | 71 => ⟨S2048x1, .f32⟩
  | 72 => ⟨S_, .f32⟩
  | 73 => ⟨S3x128, .f32⟩
  | 74 => ⟨S2051x128, .f32⟩
  | 75 => ⟨S2048x128, .f32⟩
  | 76 => ⟨S2048x128, .f32⟩
  | 77 => ⟨S2048x128, .f32⟩
  | 78 => ⟨S2048x128, .f32⟩
  | 79 => ⟨S2048x128, .f32⟩
  | 80 => ⟨S2048x128, .f32⟩
  | 81 => ⟨S2048x128, .f32⟩
  | 82 => ⟨S_, .f32⟩
  | 83 => ⟨S2048x1, .f32⟩
  | 84 => ⟨S2048x1, .f32⟩
  | 85 => ⟨S2048x128, .f32⟩
  | 86 => ⟨S2048x128, .f32⟩
  | 87 => ⟨S2048x128, .f32⟩
  | 88 => ⟨S2048, .f32⟩
  | 89 => ⟨S_, .f32⟩
  | 90 => ⟨S2048, .f32⟩
  | 91 => ⟨S2048, .f32⟩
  | 92 => ⟨S2048x1, .f32⟩
  | 93 => ⟨S_, .f32⟩
  | 94 => ⟨S7x128, .f32⟩
  | 95 => ⟨S2055x128, .f32⟩
  | 96 => ⟨S2048x128, .f32⟩
  | 97 => ⟨S2048x128, .f32⟩
  | 98 => ⟨S2048x128, .f32⟩
  | 99 => ⟨S2048x128, .f32⟩
  | 100 => ⟨S2048x128, .f32⟩
  | 101 => ⟨S2048x128, .f32⟩
  | 102 => ⟨S2048x128, .f32⟩
  | 103 => ⟨S2048x128, .f32⟩
  | 104 => ⟨S2048x128, .f32⟩
  | 105 => ⟨S2048x128, .f32⟩
  | 106 => ⟨S2048x128, .f32⟩
  | 107 => ⟨S2048x128, .f32⟩
  | 108 => ⟨S2048x128, .f32⟩
  | 109 => ⟨S2048x128, .f32⟩
  | 110 => ⟨S2048x128, .f32⟩
  | 111 => ⟨S_, .f32⟩
  | 112 => ⟨S2048x1, .f32⟩
  | 113 => ⟨S2048x1, .f32⟩
  | 114 => ⟨S2048x128, .f32⟩
  | 115 => ⟨S2048x128, .f32⟩
  | 116 => ⟨S2048x128, .f32⟩
  | 117 => ⟨S2048, .f32⟩
  | 118 => ⟨S_, .f32⟩
  | 119 => ⟨S2048, .f32⟩
  | 120 => ⟨S2048, .f32⟩
  | 121 => ⟨S2048x1, .f32⟩
  | 122 => ⟨S_, .f32⟩
  | 123 => ⟨S15x128, .f32⟩
  | 124 => ⟨S2063x128, .f32⟩
  | 125 => ⟨S2048x128, .f32⟩
  | 126 => ⟨S2048x128, .f32⟩
  | 127 => ⟨S2048x128, .f32⟩
  | _ => ⟨S2048x3072, .bf16⟩

abbrev hbmTy0_2 (i : Nat) : BufTy := match i % 128 with
  | 0 => ⟨S2048x128, .f32⟩
  | 1 => ⟨S2048x128, .f32⟩
  | 2 => ⟨S2048x128, .f32⟩
  | 3 => ⟨S2048x128, .f32⟩
  | 4 => ⟨S2048x128, .f32⟩
  | 5 => ⟨S2048x128, .f32⟩
  | 6 => ⟨S2048x128, .f32⟩
  | 7 => ⟨S2048x128, .f32⟩
  | 8 => ⟨S2048x128, .f32⟩
  | 9 => ⟨S2048x128, .f32⟩
  | 10 => ⟨S2048x128, .f32⟩
  | 11 => ⟨S2048x128, .f32⟩
  | 12 => ⟨S2048x128, .f32⟩
  | 13 => ⟨S2048x128, .f32⟩
  | 14 => ⟨S2048x128, .f32⟩
  | 15 => ⟨S2048x128, .f32⟩
  | 16 => ⟨S2048x128, .f32⟩
  | 17 => ⟨S2048x128, .f32⟩
  | 18 => ⟨S2048x128, .f32⟩
  | 19 => ⟨S2048x128, .f32⟩
  | 20 => ⟨S2048x128, .f32⟩
  | 21 => ⟨S2048x128, .f32⟩
  | 22 => ⟨S2048x128, .f32⟩
  | 23 => ⟨S2048x128, .f32⟩
  | 24 => ⟨S2048x128, .f32⟩
  | 25 => ⟨S2048x128, .f32⟩
  | 26 => ⟨S2048x128, .f32⟩
  | 27 => ⟨S2048x128, .f32⟩
  | 28 => ⟨S_, .f32⟩
  | 29 => ⟨S2048x1, .f32⟩
  | 30 => ⟨S2048x1, .f32⟩
  | 31 => ⟨S2048x128, .f32⟩
  | 32 => ⟨S2048x128, .f32⟩
  | 33 => ⟨S2048x128, .f32⟩
  | 34 => ⟨S1x128x128, .f32⟩
  | 35 => ⟨S128x128, .f32⟩
  | 36 => ⟨S2048x128, .f32⟩
  | 37 => ⟨S1x128x128, .f32⟩
  | 38 => ⟨S128x128, .f32⟩
  | 39 => ⟨S2048x128, .f32⟩
  | 40 => ⟨S1x128x128, .f32⟩
  | 41 => ⟨S128x128, .f32⟩
  | 42 => ⟨S2048x128, .f32⟩
  | 43 => ⟨S1x128x128, .f32⟩
  | 44 => ⟨S128x128, .f32⟩
  | 45 => ⟨S2048x128, .f32⟩
  | 46 => ⟨S2048x512, .f32⟩
  | 47 => ⟨S1x512, .f32⟩
  | 48 => ⟨S2048x512, .f32⟩
  | 49 => ⟨S2048x512, .f32⟩
  | 50 => ⟨S2048x512, .f32⟩
  | 51 => ⟨S2048x512, .f32⟩
  | 52 => ⟨S_, .f32⟩
  | 53 => ⟨S2048x512, .f32⟩
  | 54 => ⟨S2048x512, .f32⟩
  | 55 => ⟨S_, .f32⟩
  | 56 => ⟨S2048x512, .f32⟩
  | 57 => ⟨S2048x512, .f32⟩
  | 58 => ⟨S2048x512, .f32⟩
  | 59 => ⟨S2048x512, .f32⟩
  | 60 => ⟨S2048x512, .bf16⟩
  | 61 => ⟨S2048x512, .bf16⟩
  | 62 => ⟨S2048x512, .bf16⟩
  | _ => ⟨S2048x3072, .bf16⟩

abbrev hbmTy (i : Nat) : BufTy := match i / 128 with
  | 0 => hbmTy0_0 i
  | 1 => hbmTy0_1 i
  | 2 => hbmTy0_2 i
  | _ => ⟨S2048x3072, .bf16⟩

abbrev bufTy : (tb : Table) → Fin (tcTables nBuf tb) → BufTy
  | .hbm, ⟨i, _⟩ => hbmTy i
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_cst_7 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_8 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_9 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_cst_10 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_cst_11 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_call0_v0 : Ref sig .tc := ⟨.hbm, 160, rfl⟩
abbrev main_call0_v1 : Ref sig .tc := ⟨.hbm, 161, rfl⟩
abbrev main_call0_cst : Ref sig .tc := ⟨.hbm, 162, rfl⟩
abbrev main_call0_v2 : Ref sig .tc := ⟨.hbm, 163, rfl⟩
abbrev main_call0_v3 : Ref sig .tc := ⟨.hbm, 164, rfl⟩
abbrev main_call0_cst_0 : Ref sig .tc := ⟨.hbm, 165, rfl⟩
abbrev main_call0_v4 : Ref sig .tc := ⟨.hbm, 166, rfl⟩
abbrev main_call0_v5 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_cst_12 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_cst_13 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_cst_14 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_cst_15 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_cst_16 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_cst_17 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_cst_18 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_cst_19 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_cst_20 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_cst_21 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_cst_22 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_v233 : Ref sig .tc := ⟨.hbm, 269, rfl⟩
abbrev main_v234 : Ref sig .tc := ⟨.hbm, 270, rfl⟩
abbrev main_v235 : Ref sig .tc := ⟨.hbm, 271, rfl⟩
abbrev main_v236 : Ref sig .tc := ⟨.hbm, 272, rfl⟩
abbrev main_v237 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_v241 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_cst_23 : Ref sig .tc := ⟨.hbm, 284, rfl⟩
abbrev main_v248 : Ref sig .tc := ⟨.hbm, 285, rfl⟩
abbrev main_v249 : Ref sig .tc := ⟨.hbm, 286, rfl⟩
abbrev main_v250 : Ref sig .tc := ⟨.hbm, 287, rfl⟩
abbrev main_v251 : Ref sig .tc := ⟨.hbm, 288, rfl⟩
abbrev main_v252 : Ref sig .tc := ⟨.hbm, 289, rfl⟩
abbrev main_v253 : Ref sig .tc := ⟨.hbm, 290, rfl⟩
abbrev main_v254 : Ref sig .tc := ⟨.hbm, 291, rfl⟩
abbrev main_v255 : Ref sig .tc := ⟨.hbm, 292, rfl⟩
abbrev main_v256 : Ref sig .tc := ⟨.hbm, 293, rfl⟩
abbrev main_v257 : Ref sig .tc := ⟨.hbm, 294, rfl⟩
abbrev main_v258 : Ref sig .tc := ⟨.hbm, 295, rfl⟩
abbrev main_v259 : Ref sig .tc := ⟨.hbm, 296, rfl⟩
abbrev main_v260 : Ref sig .tc := ⟨.hbm, 297, rfl⟩
abbrev main_v261 : Ref sig .tc := ⟨.hbm, 298, rfl⟩
abbrev main_v262 : Ref sig .tc := ⟨.hbm, 299, rfl⟩
abbrev main_v263 : Ref sig .tc := ⟨.hbm, 300, rfl⟩
abbrev main_v264 : Ref sig .tc := ⟨.hbm, 301, rfl⟩
abbrev main_v265 : Ref sig .tc := ⟨.hbm, 302, rfl⟩
abbrev main_v266 : Ref sig .tc := ⟨.hbm, 303, rfl⟩
abbrev main_v267 : Ref sig .tc := ⟨.hbm, 304, rfl⟩
abbrev main_v268 : Ref sig .tc := ⟨.hbm, 305, rfl⟩
abbrev main_call1_v0 : Ref sig .tc := ⟨.hbm, 306, rfl⟩
abbrev main_call1_v1 : Ref sig .tc := ⟨.hbm, 307, rfl⟩
abbrev main_call1_cst : Ref sig .tc := ⟨.hbm, 308, rfl⟩
abbrev main_call1_v2 : Ref sig .tc := ⟨.hbm, 309, rfl⟩
abbrev main_call1_v3 : Ref sig .tc := ⟨.hbm, 310, rfl⟩
abbrev main_call1_cst_0 : Ref sig .tc := ⟨.hbm, 311, rfl⟩
abbrev main_call1_v4 : Ref sig .tc := ⟨.hbm, 312, rfl⟩
abbrev main_call1_v5 : Ref sig .tc := ⟨.hbm, 313, rfl⟩
abbrev main_v269 : Ref sig .tc := ⟨.hbm, 314, rfl⟩
abbrev main_v270 : Ref sig .tc := ⟨.hbm, 315, rfl⟩
abbrev main_v271 : Ref sig .tc := ⟨.hbm, 316, rfl⟩
abbrev main_v272 : Ref sig .tc := ⟨.hbm, 317, rfl⟩
abbrev main_v273 : Ref sig .tc := ⟨.hbm, 318, rfl⟩

abbrev nD : Nat := 1
abbrev τ : Topo := Topo.v7x

variable {F : FTy → Type} [FloatOps F]
-- ==== Proof.RmsGrad.lean ====
module

public import Idealize.ShloMosaic.PureOps.Ideal
public import Idealize.ShloMosaic.PureOps.Ideal.Laws
public import Mathlib.Data.EReal.Operations
public import Mathlib.Data.EReal.Inv
public import Mathlib.Tactic.FieldSimp
public import Mathlib.Tactic.Ring
public import Mathlib.Tactic.Positivity
public import Mathlib.Analysis.SpecialFunctions.Pow.Real

@[expose] public section

noncomputable section

namespace RmsGrad

open Idealize.ShloMosaic

/-- The mean square of a row, plus the constant under the root. -/
def meanSq {n : ℕ} (N e : EReal) (y : Fin n → EReal) : EReal := Ideal.div (∑ k, y k * y k) N + e

/-- A sum of squares with an infinite entry is infinite. -/
theorem sum_sq_top {n : ℕ} (y : Fin n → EReal) (k : Fin n) (hk : y k = ⊤ ∨ y k = ⊥) : ∑ k, y k * y k = ⊤ := by
  have hnn : ∀ i ∈ Finset.univ, 0 ≤ y i * y i := fun i _ => by
    rcases le_total 0 (y i) with h | h
    · exact mul_nonneg h h
    · have := mul_nonneg (EReal.neg_nonneg.mpr h) (EReal.neg_nonneg.mpr h)
      simpa using this
  have h1 := Finset.single_le_sum hnn (Finset.mem_univ k)
  have h2 : y k * y k = ⊤ := by
    rcases hk with h | h <;> rw [h] <;> rfl
  rw [h2] at h1
  exact top_le_iff.mp h1

/-- A row is finite or has an infinite entry. -/
theorem finite_or {n : ℕ} (y : Fin n → EReal) : (∃ a : Fin n → ℝ, ∀ k, y k = (a k : EReal)) ∨ ∃ k, y k = ⊤ ∨ y k = ⊥ := by
  by_cases h : ∃ k, y k = ⊤ ∨ y k = ⊥
  · exact Or.inr h
  · left
    push Not at h
    exact ⟨fun k => (y k).toReal, fun k => (EReal.coe_toReal (h k).1 (h k).2).symm⟩

/-- A finite sum of reals, read in the extended reals. -/
theorem coe_sum {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

/-- The mean square of a finite row is the real one. -/
theorem meanSq_coe {n : ℕ} {N e : ℝ} (hN : 0 < N) (a : Fin n → ℝ) (y : Fin n → EReal) (hy : ∀ k, y k = (a k : EReal)) :
    meanSq (N : EReal) (e : EReal) y = (((∑ k, a k * a k) / N + e : ℝ) : EReal) := by
  unfold meanSq
  rw [Ideal.div_coe hN.ne']
  simp only [hy, ← EReal.coe_mul, coe_sum]
  rw [← EReal.coe_add]
  congr 2
  ring

/-- The mean square of a row with an infinite entry is infinite. -/
theorem meanSq_top {n : ℕ} {N e : ℝ} (hN : 0 < N) (y : Fin n → EReal) (k : Fin n) (hk : y k = ⊤ ∨ y k = ⊥) :
    meanSq (N : EReal) (e : EReal) y = ⊤ := by
  unfold meanSq
  rw [Ideal.div_coe hN.ne', sum_sq_top y k hk, EReal.top_mul_coe_of_pos (by positivity)]
  exact EReal.top_add_coe e

/-- The gradient of a normalised row, in the two ways it is written: with the row factored out (`r · (w − ŷ · mean(w ŷ))`),
    and as the derivative of `y · rsqrt(mean(y²) + e)` taken product by product. `w` is the finite cotangent row; `y` is any
    row: where it has an infinite entry the root's reciprocal is zero and both sides are. -/
theorem grad_row {n : ℕ} {N e : ℝ} (hN : 0 < N) (he : 0 < e) (y w : Fin n → EReal) (hw : ∀ k, ∃ b : ℝ, w k = (b : EReal)) (j : Fin n) :
    Ideal.rsqrt (meanSq (N : EReal) (e : EReal) y)
        * (w j - y j * Ideal.rsqrt (meanSq (N : EReal) (e : EReal) y)
            * Ideal.div (∑ k, w k * (y k * Ideal.rsqrt (meanSq (N : EReal) (e : EReal) y))) (N : EReal))
      = (w j * Ideal.rsqrt (meanSq (N : EReal) (e : EReal) y)
          + y j * Ideal.div ((∑ k, y k * w k)
              * (((-(1/2) : ℝ) : EReal) * Ideal.div (Ideal.rsqrt (meanSq (N : EReal) (e : EReal) y)) (meanSq (N : EReal) (e : EReal) y))) (N : EReal))
        + Ideal.div ((∑ k, y k * w k)
              * (((-(1/2) : ℝ) : EReal) * Ideal.div (Ideal.rsqrt (meanSq (N : EReal) (e : EReal) y)) (meanSq (N : EReal) (e : EReal) y))) (N : EReal) * y j := by
  choose b hb using hw
  rcases finite_or y with ⟨a, ha⟩ | ⟨k, hk⟩
  · rw [meanSq_coe hN a y ha]
    have hs : 0 < (∑ k, a k * a k) / N + e := by
      have : 0 ≤ ∑ k, a k * a k := Finset.sum_nonneg fun k _ => mul_self_nonneg _
      positivity
    generalize (∑ k, a k * a k) / N + e = s at hs
    have hq : 0 < Real.sqrt s := Real.sqrt_pos.mpr hs
    have hqq : Real.sqrt s * Real.sqrt s = s := Real.mul_self_sqrt hs.le
    rw [Ideal.rsqrt_coe, if_neg (not_lt.mpr hs.le), if_neg hs.ne']
    simp only [Ideal.div_coe hN.ne', Ideal.div_coe hs.ne', ha, hb, ← EReal.coe_mul, coe_sum, ← EReal.coe_add, ← EReal.coe_sub]
    congr 1
    have h1 : ∑ k, b k * (a k * (Real.sqrt s)⁻¹) = (∑ k, a k * b k) * (Real.sqrt s)⁻¹ := by
      rw [Finset.sum_mul]; exact Finset.sum_congr rfl fun k _ => by ring
    rw [h1]
    generalize ∑ k, a k * b k = S
    generalize Real.sqrt s = q at hq hqq
    subst hqq
    field_simp
    ring
  · rw [meanSq_top hN y k hk]
    have hd : Ideal.div (0 : EReal) ⊤ = 0 := by
      unfold Ideal.div; rw [if_neg (by simp)]; simp
    have hz : Ideal.div (0 : EReal) (N : EReal) = 0 := by rw [Ideal.div_coe hN.ne', zero_mul]
    simp only [Ideal.rsqrt_top, hd, mul_zero, zero_mul, hz, add_zero]

/-- The gradient of `y · rsqrt (mean of squares + e)` along a row, as differentiation writes it (`h` is the literal `-1/2`). -/
def refRow {n : ℕ} (N e h : EReal) (y w : Fin n → EReal) (j : Fin n) : EReal :=
  w j * Ideal.rsqrt (meanSq N e y)
    + y j * Ideal.div ((∑ k, y k * w k) * (h * Ideal.div (Ideal.rsqrt (meanSq N e y)) (meanSq N e y))) N
    + Ideal.div ((∑ k, y k * w k) * (h * Ideal.div (Ideal.rsqrt (meanSq N e y)) (meanSq N e y))) N * y j

/-- A normalised entry is real, whatever the row. -/
theorem normed_coe {n : ℕ} {N e : ℝ} (hN : 0 < N) (he : 0 < e) (y : Fin n → EReal) (j : Fin n) :
    ∃ b : ℝ, y j * Ideal.rsqrt (meanSq (N : EReal) (e : EReal) y) = (b : EReal) := by
  rcases finite_or y with ⟨a, ha⟩ | ⟨k, hk⟩
  · rw [meanSq_coe hN a y ha]
    have hs : 0 < (∑ k, a k * a k) / N + e := by
      have : 0 ≤ ∑ k, a k * a k := Finset.sum_nonneg fun k _ => mul_self_nonneg _
      positivity
    rw [Ideal.rsqrt_coe, if_neg (not_lt.mpr hs.le), if_neg hs.ne', ha, ← EReal.coe_mul]
    exact ⟨_, rfl⟩
  · rw [meanSq_top hN y k hk, Ideal.rsqrt_top, mul_zero]
    exact ⟨0, rfl⟩

/-- A real factor goes into a finite sum of reals. -/
theorem mul_sum_real {n : ℕ} (c : EReal) (f : Fin n → EReal) (hc : ∃ r : ℝ, c = (r : EReal)) (hf : ∀ i, ∃ r : ℝ, f i = (r : EReal)) :
    c * ∑ i, f i = ∑ i, c * f i := by
  obtain ⟨r, rfl⟩ := hc
  choose g hg using hf
  simp only [hg, coe_sum, ← EReal.coe_mul, Finset.mul_sum]

/-- Products and sums of reals are real. -/
theorem mul_real {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

theorem add_real {x y : EReal} (hx : ∃ r : ℝ, x = (r : EReal)) (hy : ∃ r : ℝ, y = (r : EReal)) : ∃ r : ℝ, x + y = (r : EReal) := by
  obtain ⟨a, rfl⟩ := hx
  obtain ⟨b, rfl⟩ := hy
  exact ⟨a + b, (EReal.coe_add a b).symm⟩

theorem sum_real {n : ℕ} (f : Fin n → EReal) (hf : ∀ i, ∃ r : ℝ, f i = (r : EReal)) : ∃ r : ℝ, ∑ i, f i = (r : EReal) := by
  choose g hg using hf
  simp only [hg, coe_sum]
  exact ⟨_, rfl⟩

end RmsGrad

end
-- ==== Proof.Halves.lean ====
module

public import Idealize.ShloMosaic.Lib.Pipeline.ValueKit.Point
public import Idealize.ShloMosaic.Lib.Pipeline.ReadBack
public import Idealize.ShloMosaic.Lib.ValueIdx

@[expose] public section

noncomputable section

namespace Halves

open Idealize.ShloMosaic Idealize.SL

variable {Val : EltTy → Type} {S : Shape} {e : EltTy} [∀ e, Nonempty (Val e)]

/-- What a buffer holds at an index inside the last stored rectangle: that store's value at the index's place in it. -/
theorem canon_in (off size : Fin S.rank → Nat) (inb : ∀ a, off a + size a ≤ S.size a)
    (w : (Rect.unit off size inb).shape.Idx → Val e) (L : List (View.Piece Val S e)) (y : S.Idx) (x : (Rect.unit off size inb).shape.Idx)
    (h : ∀ a, (y a : Nat) = off a + x a) : View.canon ((⟨Rect.unit off size inb, w⟩ : View.Piece Val S e) :: L) y = w x := by
  have hy : (Rect.unit off size inb).emb x = y := funext fun a => Fin.ext (by
    rw [Rect.emb_apply]; exact (Rect.idx_unit_val off size inb x a).trans (h a).symm)
  rw [← hy]
  exact View.canon_cons_emb _ w L x

/-- What it holds at an index outside that rectangle: what the earlier stores left. -/
theorem canon_out (off size : Fin S.rank → Nat) (inb : ∀ a, off a + size a ≤ S.size a)
    (w : (Rect.unit off size inb).shape.Idx → Val e) (L : List (View.Piece Val S e)) (y : S.Idx)
    (h : ∃ a, (y a : Nat) < off a ∨ off a + size a ≤ y a) :
    View.canon ((⟨Rect.unit off size inb, w⟩ : View.Piece Val S e) :: L) y = View.canon L y := by
  refine View.canon_cons_of_not_mem _ L ?_
  rw [Rect.mem_set_unit]
  obtain ⟨a, ha⟩ := h
  intro hh
  have := hh a
  omega

end Halves

end
-- ==== Proof.OutPoint.lean ====
module

public import proofs.«01_k».proof.Proof.Gen.OutKernelIdeal.Value
public import proofs.«01_k».proof.Proof.RmsGrad
public import proofs.«01_k».proof.Proof.Halves
public import Idealize.ShloMosaic.Lib.Pipeline.ValueKit.Point
public import Idealize.ShloMosaic.Lib.ValueIdx

@[expose] public section

set_option maxRecDepth 16384

noncomputable section

namespace Cert.OutKernelIdeal.OutValue

open Cert.OutKernelIdeal Cert.OutKernelIdeal.Gen
open Idealize.ShloMosaic Idealize.ShloMosaic.TcCoe Idealize.SL.Sem
open Idealize.ShloMosaic.Pipeline (Dat)

/-- The literal 1024, and the literal under the root. -/
abbrev nLit : EReal := Ideal.ofBits FTy.f32 0x44800000#32
abbrev eLit : EReal := Ideal.ofBits FTy.f32 0x358637BD#32

/-- The reciprocal root of row `a`'s mean square. -/
def rowR (Y : S2048x1024.Idx → EReal) (a : Fin 2048) : EReal :=
  Ideal.rsqrt (RmsGrad.meanSq nLit eLit fun k : Fin 1024 => Y (ix2 a k))

/-- The gradient of the product's output, the row factored out. -/
def dyK (dx Y : S2048x1024.Idx → EReal) (gt : S4x3x1x1024.Idx → EReal) (g : S4x1x1024.Idx → EReal) (a : Fin 2048) (b : Fin 1024) : EReal :=
  rowR Y a * (dx (ix2 a b) * (gt (ix4 3 2 0 b) * g (ix3 3 0 b))
    - Y (ix2 a b) * rowR Y a
      * Ideal.div (∑ k : Fin 1024, dx (ix2 a k) * (Y (ix2 a k) * rowR Y a) * (gt (ix4 3 2 0 k) * g (ix3 3 0 k))) nLit)

variable (m : (ℓ : Loc nD τ sig) → Buf (Elt Ideal) ℓ)

/-- Where each window's block lies at point `t`. -/
theorem idx (t : Fin cfg0.N) : win0_0.index t = ![t.val, 0] ∧ win0_1.index t = ![t.val, 0] ∧ win0_2.index t = ![t.val, 0]
    ∧ win0_3.index t = ![t.val, 0] ∧ win0_4.index t = ![0, 0] ∧ win0_5.index t = ![3, 2, 0, 0] ∧ win0_6.index t = ![3, 0, 0]
    ∧ win0_7.index t = ![t.val, 0] ∧ win0_8.index t = ![t.val, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![3, 2, 0, 0] ∧ win0_6.index t = ![3, 0, 0]
    ∧ win0_7.index t = ![t.val, 0] ∧ win0_8.index t = ![t.val, 0]) t

theorem lt_rows (t : Fin cfg0.N) (a : Fin 512) : 512 * t.val + a.val < 2048 := by
  have h : t.val < 4 := lt_of_lt_of_eq t.isLt N_0
  have := a.isLt
  omega

/-- Row `a` of point `t`'s block, as a row of the array. -/
abbrev row (t : Fin cfg0.N) (a : Fin 512) : Fin 2048 := ⟨512 * t.val + a.val, lt_rows t a⟩

theorem blk0 (c : Dev nD) (t : Fin cfg0.N) (a : Fin 512) (b : Fin 1024) :
    iblk m c 0 t (ix2 a b) = m ((c : Thread nD τ).loc main_arg0) (ix2 (row t a) b) := by
  have := a.isLt; have := b.isLt
  blk_ext! [iblk, V, idx t]

theorem blk1 (c : Dev nD) (t : Fin cfg0.N) (a : Fin 512) (b : Fin 1024) :
    iblk m c 1 t (ix2 a b) = V m c main_v4 (ix2 (row t a) b) := by
  blk_ext! [iblk, idx t]

theorem blk2 (c : Dev nD) (t : Fin cfg0.N) (a : Fin 512) (b : Fin 512) :
    iblk m c 2 t (ix2 a b) = m ((c : Thread nD τ).loc main_arg1) (ix2 (row t a) b) := by
  blk_ext! [iblk, V, idx t]

theorem blk3 (c : Dev nD) (t : Fin cfg0.N) (a : Fin 512) (b : Fin 512) :
    iblk m c 3 t (ix2 a b) = m ((c : Thread nD τ).loc main_arg2) (ix2 (row t a) b) := by
  blk_ext! [iblk, V, idx t]

theorem blk4 (c : Dev nD) (t : Fin cfg0.N) (a : Fin 1024) (b : Fin 1024) :
    iblk m c 4 t (ix2 a b) = m ((c : Thread nD τ).loc main_arg3) (ix2 a b) := by
  blk_ext! [iblk, V, idx t]

theorem blk5 (c : Dev nD) (t : Fin cfg0.N) (b : Fin 1024) :
    iblk m c 5 t (ix4 0 0 0 b) = m ((c : Thread nD τ).loc main_arg4) (ix4 3 2 0 b) := by
  blk_ext! [iblk, V, idx t]

theorem blk6 (c : Dev nD) (t : Fin cfg0.N) (b : Fin 1024) :
    iblk m c 6 t (ix3 0 0 b) = V m c main_v5 (ix3 3 0 b) := by
  blk_ext! [iblk, idx t]

theorem dy_block (c : Dev nD) (t : Fin cfg0.N) (a : Fin 512) (b : Fin 1024) :
    k0_pay15 (k0_pay9 (iblk m c 1 t)) (k0_pay10 (iblk m c 1 t))
            (k0_pay13 (iblk m c 0 t) (iblk m c 5 t) (iblk m c 6 t))
            (k0_pay14 (iblk m c 1 t) (iblk m c 0 t) (iblk m c 5 t) (iblk m c 6 t)) (ix2 a b)
      = dyK (m ((c : Thread nD τ).loc main_arg0)) (V m c main_v4) (m ((c : Thread nD τ).loc main_arg4)) (V m c main_v5) (row t a) b := by
  pointwise [k0_pay15, k0_pay9, k0_pay10, k0_pay13, k0_pay14, k0_pay11, k0_pay8, k0_pay7]
  unfold dyK rowR RmsGrad.meanSq
  simp only [blk0, blk1, blk5, blk6]

end Cert.OutKernelIdeal.OutValue

end
-- ==== Proof.OutAcc.lean ====
module

public import proofs.«01_k».proof.Proof.Gen.OutKernelIdeal.Value
public import proofs.«01_k».proof.Proof.OutPoint
public import proofs.«01_k».proof.Proof.Halves
public import Idealize.ShloMosaic.Lib.Pipeline.ValueKit.Point
public import Idealize.ShloMosaic.Lib.ValueIdx

@[expose] public section

set_option maxRecDepth 16384

noncomputable section

namespace Cert.OutKernelIdeal.OutValue

open Cert.OutKernelIdeal Cert.OutKernelIdeal.Gen
open Idealize.ShloMosaic Idealize.ShloMosaic.TcCoe Idealize.SL.Sem
open Idealize.ShloMosaic.Pipeline (Dat)

variable (m : (ℓ : Loc nD τ sig) → Buf (Elt Ideal) ℓ)

/-- The two halves side by side. -/
def cat (x y : S2048x512.Idx → EReal) (i : Fin 2048) (j : Fin 1024) : EReal :=
  if h : j.val < 512 then x (ix2 i ⟨j.val, h⟩) else y (ix2 i ⟨j.val - 512, by have := j.isLt; omega⟩)

/-- The gradient of the product's output at the memory `m`. -/
abbrev dyM (c : Dev nD) (i : Fin 2048) (k : Fin 1024) : EReal :=
  dyK (m ((c : Thread nD τ).loc main_arg0)) (V m c main_v4) (m ((c : Thread nD τ).loc main_arg4)) (V m c main_v5) i k

abbrev catM (c : Dev nD) (i : Fin 2048) (j : Fin 1024) : EReal :=
  cat (m ((c : Thread nD τ).loc main_arg1)) (m ((c : Thread nD τ).loc main_arg2)) i j

/-- The upper half of the weight gradient's accumulation. -/
theorem pay19_at (p : FVec Ideal S512x1 .f32) (q : FVec Ideal S512x1024 .f32) (r : FVec Ideal S512x1024 .f32) (s : FVec Ideal S512 .f32)
    (v : Vec Ideal S512x1024 .f32) (x : Vec Ideal S512x512 .bf16) (a : Fin 512) (b : Fin 1024) :
    k0_pay19 p q r s v x (ix2 a b) = v (ix2 a b) + ∑ i : Fin 512, x (ix2 i a) * k0_pay15 p q r s (ix2 i b) := by
  pointwise [k0_pay19]

/-- The lower half of the weight gradient's accumulation. -/
theorem pay20_at (p : FVec Ideal S512x1 .f32) (q : FVec Ideal S512x1024 .f32) (r : FVec Ideal S512x1024 .f32) (s : FVec Ideal S512 .f32)
    (v : Vec Ideal S512x1024 .f32) (x : Vec Ideal S512x512 .bf16) (a : Fin 512) (b : Fin 1024) :
    k0_pay20 p q r s v x (ix2 a b) = v (ix2 a b) + ∑ i : Fin 512, x (ix2 i a) * k0_pay15 p q r s (ix2 i b) := by
  pointwise [k0_pay20]

/-- The fill with zero. -/
theorem pay5_at (i : S1024x1024.Idx) : k0_pay5 (F := Ideal) i = 0 := by
  obtain ⟨a, b, rfl⟩ : ∃ a b, i = ix2 a b := ⟨i 0, i 1, by funext k; fin_cases k <;> rfl⟩
  pointwise [k0_pay5]

theorem pay6_at (i : S8x1024.Idx) : k0_pay6 (F := Ideal) i = 0 := by
  obtain ⟨a, b, rfl⟩ : ∃ a b, i = ix2 a b := ⟨i 0, i 1, by funext k; fin_cases k <;> rfl⟩
  pointwise [k0_pay6]

/-- What one point adds to the weight gradient. -/
def dwTerm (c : Dev nD) (t : Fin cfg0.N) (a b : Fin 1024) : EReal := ∑ i : Fin 512, catM m c (row t i) a * dyM m c (row t i) b

theorem dw_lo (c : Dev nD) (t : Fin cfg0.N) (a b : Fin 1024) (h : a.val < 512) (X : S512x512.Idx → EReal) (hX : X = iblk m c 2 t) :
    (∑ i : Fin 512, X (ix2 i ⟨a.val, h⟩) * dyM m c (row t i) b) = dwTerm m c t a b := by
  subst hX
  unfold dwTerm catM cat
  simp only [h, dif_pos, blk2]

theorem dw_hi (c : Dev nD) (t : Fin cfg0.N) (a b : Fin 1024) (h : ¬a.val < 512) (h' : a.val - 512 < 512) (X : S512x512.Idx → EReal)
    (hX : X = iblk m c 3 t) :
    (∑ i : Fin 512, X (ix2 i ⟨a.val - 512, h'⟩) * dyM m c (row t i) b) = dwTerm m c t a b := by
  subst hX
  unfold dwTerm catM cat
  simp only [h, dif_neg, not_false_eq_true, blk3]

/-- Two stores, the lower half last: what the buffer holds at an index. -/
theorem halves_at (inb1 : ∀ a, (![512, 0] : Fin 2 → Nat) a + (![512, 1024] : Fin 2 → Nat) a ≤ S1024x1024.size a)
    (inb0 : ∀ a, (![0, 0] : Fin 2 → Nat) a + (![512, 1024] : Fin 2 → Nat) a ≤ S1024x1024.size a)
    (w1 w0 : S512x1024.Idx → Elt Ideal .f32) (L : List (View.Piece (Elt Ideal) S1024x1024 .f32)) (a b : Fin 1024) :
    View.canon (Val := Elt Ideal) (⟨Rect.unit (s := S1024x1024) ![512, 0] ![512, 1024] inb1, w1⟩
        :: ⟨Rect.unit (s := S1024x1024) ![0, 0] ![512, 1024] inb0, w0⟩ :: L) (ix2 a b)
      = if h : a.val < 512 then w0 (ix2 ⟨a.val, h⟩ b) else w1 (ix2 ⟨a.val - 512, by have := a.isLt; omega⟩ b) := by
  have ha := a.isLt
  by_cases h : a.val < 512
  · rw [dif_pos h]
    refine (Halves.canon_out (S := S1024x1024) _ _ inb1 _ _ _ ⟨0, Or.inl h⟩).trans ?_
    exact Halves.canon_in (S := S1024x1024) ![0, 0] ![512, 1024] inb0 w0 L (ix2 a b) (ix2 (⟨a.val, h⟩ : Fin 512) b) (by intro k; fin_cases k <;> simp)
  · rw [dif_neg h]
    exact Halves.canon_in (S := S1024x1024) ![512, 0] ![512, 1024] inb1 w1 _ (ix2 a b) (ix2 (⟨a.val - 512, by omega⟩ : Fin 512) b)
      (by intro k; fin_cases k <;> simp; omega)

theorem ld_lo (X : S1024x1024.Idx → Elt Ideal .f32) (inb : ∀ a, (![0, 0] : Fin 2 → Nat) a + (![512, 1024] : Fin 2 → Nat) a ≤ S1024x1024.size a)
    (a b : Fin 1024) (h : a.val < 512) :
    View.ld (Val := Elt Ideal) (e' := .f32) X (Rect.unit (s := S1024x1024) ![0, 0] ![512, 1024] inb) (ix2 (⟨a.val, h⟩ : Fin 512) b) = X (ix2 a b) :=
  View.ld_unit_apply_of (Val := Elt Ideal) (e := .f32) X ![0, 0] ![512, 1024] inb (ix2 (⟨a.val, h⟩ : Fin 512) b) (ix2 a b)
    (by intro k; fin_cases k <;> simp)

theorem ld_hi (X : S1024x1024.Idx → Elt Ideal .f32) (inb : ∀ a, (![512, 0] : Fin 2 → Nat) a + (![512, 1024] : Fin 2 → Nat) a ≤ S1024x1024.size a)
    (a b : Fin 1024) (h : ¬a.val < 512) (h' : a.val - 512 < 512) :
    View.ld (Val := Elt Ideal) (e' := .f32) X (Rect.unit (s := S1024x1024) ![512, 0] ![512, 1024] inb) (ix2 (⟨a.val - 512, h'⟩ : Fin 512) b) = X (ix2 a b) :=
  View.ld_unit_apply_of (Val := Elt Ideal) (e := .f32) X ![512, 0] ![512, 1024] inb (ix2 (⟨a.val - 512, h'⟩ : Fin 512) b) (ix2 a b)
    (by intro k; fin_cases k <;> simp; omega)

theorem s0_A (c : Dev nD) (t : Fin cfg0.N) (h0 : (t : Nat) % 4 = 0) (h1 : ¬(t : Nat) % 4 = 3) (a b : Fin 1024) :
    (outsAt0 m c t.val t.isLt).2.2.2.2.2.1 (ix2 a b) = 0 + dwTerm m c t a b := by
  rw [outsAt0_A m c t h0 h1]
  frame_out
  rw [halves_at]
  by_cases h : a.val < 512
  · rw [dif_pos h, pay19_at, View.readCov_fill _ _ _ _ _ (by decide), ld_lo _ _ a b h, pay5_at]
    simp only [dy_block]
    exact congrArg (_ + ·) (dw_lo m c t a b h _ rfl)
  · have h' : a.val - 512 < 512 := by have := a.isLt; omega
    rw [dif_neg h, pay20_at, View.readCov_skip _ _ _ _ _ (by decide), View.readCov_fill _ _ _ _ _ (by decide), ld_hi _ _ a b h h', pay5_at]
    simp only [dy_block]
    exact congrArg (_ + ·) (dw_hi m c t a b h h' _ rfl)

/-- A later point adds its share to what the buffer held. -/
theorem s0_step (c : Dev nD) (t : Fin cfg0.N) (h0 : ¬(t : Nat) % 4 = 0) (a b : Fin 1024) :
    (outsAt0 m c t.val t.isLt).2.2.2.2.2.1 (ix2 a b)
      = (outsAt0 m c (t.val - 1) (Nat.lt_of_le_of_lt (Nat.sub_le _ _) t.isLt)).2.2.2.2.2.1 (ix2 a b) + dwTerm m c t a b := by
  by_cases h1 : (t : Nat) % 4 = 3
  · rw [outsAt0_C m c t h0 h1]
    frame_out
    rw [halves_at]
    by_cases h : a.val < 512
    · rw [dif_pos h, pay19_at, ld_lo _ _ a b h, read_unread_whole]
      simp only [dy_block]
      exact congrArg (_ + ·) (dw_lo m c t a b h _ rfl)
    · have h' : a.val - 512 < 512 := by have := a.isLt; omega
      rw [dif_neg h, pay20_at, ld_hi _ _ a b h h', read_unread_whole]
      simp only [dy_block]
      exact congrArg (_ + ·) (dw_hi m c t a b h h' _ rfl)
  · rw [outsAt0_B m c t h0 h1]
    frame_out
    rw [halves_at]
    by_cases h : a.val < 512
    · rw [dif_pos h, pay19_at, ld_lo _ _ a b h, read_unread_whole]
      simp only [dy_block]
      exact congrArg (_ + ·) (dw_lo m c t a b h _ rfl)
    · have h' : a.val - 512 < 512 := by have := a.isLt; omega
      rw [dif_neg h, pay20_at, ld_hi _ _ a b h h', read_unread_whole]
      simp only [dy_block]
      exact congrArg (_ + ·) (dw_hi m c t a b h h' _ rfl)

/-- The summand of the two vector gradients' common sum. -/
def gTerm (dx Y : S2048x1024.Idx → EReal) (i : Fin 2048) (b : Fin 1024) : EReal := dx (ix2 i b) * (Y (ix2 i b) * rowR Y i)

abbrev gM (c : Dev nD) (i : Fin 2048) (b : Fin 1024) : EReal := gTerm (m ((c : Thread nD τ).loc main_arg0)) (V m c main_v4) i b

theorem pay12_at (c : Dev nD) (t : Fin cfg0.N) (v : Vec Ideal S8x1024 .f32) (a : Fin 8) (b : Fin 1024) :
    k0_pay12 (iblk m c 1 t) (iblk m c 0 t) v (ix2 a b)
      = v (ix2 a b) + ∑ x : Fin 64, gM m c (row t ⟨x.val * 8 + a.val, by have := x.isLt; have := a.isLt; omega⟩) b := by
  pointwise [k0_pay12, k0_pay11, k0_pay10, k0_pay9, k0_pay8, k0_pay7]
  unfold gM gTerm rowR RmsGrad.meanSq
  simp only [blk0, blk1]

/-- What one point adds to the vector gradients' common sum. -/
def gPart (c : Dev nD) (t : Fin cfg0.N) (a : Fin 8) (b : Fin 1024) : EReal :=
  ∑ x : Fin 64, gM m c (row t ⟨x.val * 8 + a.val, by have := x.isLt; have := a.isLt; omega⟩) b

theorem s1_A (c : Dev nD) (t : Fin cfg0.N) (h0 : (t : Nat) % 4 = 0) (h1 : ¬(t : Nat) % 4 = 3) (a : Fin 8) (b : Fin 1024) :
    (outsAt0 m c t.val t.isLt).2.2.2.2.2.2 (ix2 a b) = 0 + gPart m c t a b := by
  rw [outsAt0_A m c t h0 h1]
  frame_out
  rw [pay12_at, pay6_at, gPart]

theorem s1_step (c : Dev nD) (t : Fin cfg0.N) (h0 : ¬(t : Nat) % 4 = 0) (a : Fin 8) (b : Fin 1024) :
    (outsAt0 m c t.val t.isLt).2.2.2.2.2.2 (ix2 a b)
      = (outsAt0 m c (t.val - 1) (Nat.lt_of_le_of_lt (Nat.sub_le _ _) t.isLt)).2.2.2.2.2.2 (ix2 a b) + gPart m c t a b := by
  by_cases h1 : (t : Nat) % 4 = 3
  · rw [outsAt0_C m c t h0 h1]
    frame_out
    rw [pay12_at, read_unread_whole, gPart]
  · rw [outsAt0_B m c t h0 h1]
    frame_out
    rw [pay12_at, read_unread_whole, gPart]

/-- The weight gradient's buffer after the last point. -/
theorem s0_last (c : Dev nD) (a b : Fin 1024) :
    (outsAt0 m c t0_3.val t0_3.isLt).2.2.2.2.2.1 (ix2 a b) = ∑ i : Fin 2048, catM m c i a * dyM m c i b := by
  refine (Pipeline.eq_sum_fin_of_reset_step_apply_last (ι := Fin 1024 × Fin 1024)
    (fun n h j => ((outsAt0 m c n h).2.2.2.2.2.1 (ix2 j.1 j.2) : EReal)) 4 (fun _ => 0)
    (fun t j => dwTerm m c t j.1 j.2) (fun t h j => s0_A m c t h (by omega) j.1 j.2) (fun t h j => s0_step m c t h j.1 j.2)
    (le_of_eq N_0) t0_3 rfl (a, b)).trans ?_
  refine (zero_add _).trans ?_
  refine Fin.sum_mul_add_congr (n := 512) (f := fun i : Fin 2048 => catM m c i a * dyM m c i b) fun t k hl => ?_
  have e : (⟨t.val * 512 + k.val, hl⟩ : Fin 2048) = row t k := Fin.ext (by show t.val * 512 + k.val = 512 * t.val + k.val; omega)
  rw [e]

/-- The common sum's buffer after the last point, its eight rows added. -/
theorem s1_last (c : Dev nD) (b : Fin 1024) :
    (∑ a : Fin 8, ((outsAt0 m c t0_3.val t0_3.isLt).2.2.2.2.2.2 (ix2 a b) : EReal)) = ∑ i : Fin 2048, gM m c i b := by
  have h : ∀ a : Fin 8, ((outsAt0 m c t0_3.val t0_3.isLt).2.2.2.2.2.2 (ix2 a b) : EReal) = ∑ t : Fin cfg0.N, gPart m c t a b := fun a => by
    refine (Pipeline.eq_sum_fin_of_reset_step_apply_last (ι := Fin 8)
      (fun n h j => ((outsAt0 m c n h).2.2.2.2.2.2 (ix2 j b) : EReal)) 4 (fun _ => 0)
      (fun t j => gPart m c t j b) (fun t h j => s1_A m c t h (by omega) j b) (fun t h j => s1_step m c t h j b)
      (le_of_eq N_0) t0_3 rfl a).trans ?_
    exact zero_add _
  simp only [h]
  rw [Finset.sum_comm]
  refine (Finset.sum_congr rfl fun t _ => ?_ : _ = ∑ t : Fin cfg0.N, ∑ k : Fin 512, gM m c (row t k) b).trans ?_
  · unfold gPart
    rw [Finset.sum_comm]
    refine Fin.sum_mul_add_congr (n := 8) (f := fun k : Fin 512 => gM m c (row t k) b) fun x a hl => ?_
    rfl
  · refine Fin.sum_mul_add_congr (n := 512) (f := fun i : Fin 2048 => gM m c i b) fun t k hl => ?_
    have e : (⟨t.val * 512 + k.val, hl⟩ : Fin 2048) = row t k := Fin.ext (by show t.val * 512 + k.val = 512 * t.val + k.val; omega)
    rw [e]

end Cert.OutKernelIdeal.OutValue

end
-- ==== Proof.OutArrays.lean ====
module

public import proofs.«01_k».proof.Proof.Gen.OutKernelIdeal.Value
public import proofs.«01_k».proof.Proof.OutAcc
public import proofs.«01_k».proof.Proof.Halves
public import Idealize.ShloMosaic.Lib.Pipeline.ValueKit.Point
public import Idealize.ShloMosaic.Lib.ValueIdx

@[expose] public section

set_option maxRecDepth 16384

noncomputable section

namespace Cert.OutKernelIdeal.OutValue

open Cert.OutKernelIdeal Cert.OutKernelIdeal.Gen
open Idealize.ShloMosaic Idealize.ShloMosaic.TcCoe Idealize.SL.Sem
open Idealize.ShloMosaic.Pipeline (Dat)

variable (m : (ℓ : Loc nD τ sig) → Buf (Elt Ideal) ℓ)

theorem pay17_at (p : FVec Ideal S512x1 .f32) (q : FVec Ideal S512x1024 .f32) (r : FVec Ideal S512x1024 .f32) (s : FVec Ideal S512 .f32)
    (w : Vec Ideal S1024x1024 .bf16) (a : Fin 512) (b : Fin 512) :
    k0_pay17 p q r s w (ix2 a b) = ∑ k : Fin 1024, k0_pay15 p q r s (ix2 a k) * w (ix2 ⟨b.val, by have := b.isLt; omega⟩ k) := by
  pointwise [k0_pay17, k0_pay16]

theorem pay18_at (p : FVec Ideal S512x1 .f32) (q : FVec Ideal S512x1024 .f32) (r : FVec Ideal S512x1024 .f32) (s : FVec Ideal S512 .f32)
    (w : Vec Ideal S1024x1024 .bf16) (a : Fin 512) (b : Fin 512) :
    k0_pay18 p q r s w (ix2 a b) = ∑ k : Fin 1024, k0_pay15 p q r s (ix2 a k) * w (ix2 ⟨512 + b.val, by have := b.isLt; omega⟩ k) := by
  pointwise [k0_pay18, k0_pay16]

theorem pay1_at (v : Vec Ideal S1024x1024 .f32) (a b : Fin 1024) : k0_pay1 v (ix2 a b) = v (ix2 a b) := by
  pointwise [k0_pay1]

theorem pay3_at (v : Vec Ideal S8x1024 .f32) (w : Vec Ideal S1x1x1024 .f32) (b : Fin 1024) :
    k0_pay3 v w (ix2 0 b) = w (ix3 0 0 b) * ∑ a : Fin 8, v (ix2 a b) := by
  pointwise [k0_pay3, k0_pay2]

theorem pay4_at (v : Vec Ideal S8x1024 .f32) (w : Vec Ideal S1x1x1x1024 .f32) (b : Fin 1024) :
    k0_pay4 v w (ix2 0 b) = w (ix4 0 0 0 b) * ∑ a : Fin 8, v (ix2 a b) := by
  pointwise [k0_pay4, k0_pay2]

theorem o7_at (c : Dev nD) (t : Fin cfg0.N) (a b : Fin 512) :
    (outsAt0 m c t.val t.isLt).1 (ix2 a b)
      = ∑ k : Fin 1024, dyM m c (row t a) k * m ((c : Thread nD τ).loc main_arg3) (ix2 ⟨b.val, by have := b.isLt; omega⟩ k) := by
  have key : k0_pay17 (k0_pay9 (iblk m c 1 t)) (k0_pay10 (iblk m c 1 t)) (k0_pay13 (iblk m c 0 t) (iblk m c 5 t) (iblk m c 6 t))
      (k0_pay14 (iblk m c 1 t) (iblk m c 0 t) (iblk m c 5 t) (iblk m c 6 t)) (iblk m c 4 t) (ix2 a b)
      = ∑ k : Fin 1024, dyM m c (row t a) k * m ((c : Thread nD τ).loc main_arg3) (ix2 ⟨b.val, by have := b.isLt; omega⟩ k) := by
    rw [pay17_at]
    simp only [dy_block, blk4]
  by_cases h0 : (t : Nat) % 4 = 0
  · rw [outsAt0_A m c t h0 (by omega)]
    frame_out
    exact key
  · by_cases h1 : (t : Nat) % 4 = 3
    · rw [outsAt0_C m c t h0 h1]
      frame_out
      exact key
    · rw [outsAt0_B m c t h0 h1]
      frame_out
      exact key

theorem o8_at (c : Dev nD) (t : Fin cfg0.N) (a b : Fin 512) :
    (outsAt0 m c t.val t.isLt).2.1 (ix2 a b)
      = ∑ k : Fin 1024, dyM m c (row t a) k * m ((c : Thread nD τ).loc main_arg3) (ix2 ⟨512 + b.val, by have := b.isLt; omega⟩ k) := by
  have key : k0_pay18 (k0_pay9 (iblk m c 1 t)) (k0_pay10 (iblk m c 1 t)) (k0_pay13 (iblk m c 0 t) (iblk m c 5 t) (iblk m c 6 t))
      (k0_pay14 (iblk m c 1 t) (iblk m c 0 t) (iblk m c 5 t) (iblk m c 6 t)) (iblk m c 4 t) (ix2 a b)
      = ∑ k : Fin 1024, dyM m c (row t a) k * m ((c : Thread nD τ).loc main_arg3) (ix2 ⟨512 + b.val, by have := b.isLt; omega⟩ k) := by
    rw [pay18_at]
    simp only [dy_block, blk4]
  by_cases h0 : (t : Nat) % 4 = 0
  · rw [outsAt0_A m c t h0 (by omega)]
    frame_out
    exact key
  · by_cases h1 : (t : Nat) % 4 = 3
    · rw [outsAt0_C m c t h0 h1]
      frame_out
      exact key
    · rw [outsAt0_B m c t h0 h1]
      frame_out
      exact key

/-- The last point's store of the weight gradient. -/
theorem o9_at (c : Dev nD) (a b : Fin 1024) :
    (outsAt0 m c t0_3.val t0_3.isLt).2.2.1 (ix2 a b) = ∑ i : Fin 2048, catM m c i a * dyM m c i b := by
  rw [← s0_last m c a b, outsAt0_C m c t0_3 (by decide) (by decide)]
  frame_out
  rw [pay1_at, View.readCov_eq_canon']
  refine congrArg _ ?_
  funext k
  fin_cases k <;> exact Fin.ext ((Rect.idx_unit_val (s := S1024x1024) _ _ _ _ _).trans (Nat.zero_add _))

abbrev gateM (c : Dev nD) : S4x3x1x1024.Idx → EReal := m ((c : Thread nD τ).loc main_arg4)

abbrev weightM (c : Dev nD) : S4x1x1024.Idx → EReal := V m c main_v5

theorem o10_at (c : Dev nD) (b : Fin 1024) :
    (outsAt0 m c t0_3.val t0_3.isLt).2.2.2.1 (ix2 0 b) = weightM m c (ix3 3 0 b) * ∑ i : Fin 2048, gM m c i b := by
  rw [← s1_last m c b, outsAt0_C m c t0_3 (by decide) (by decide)]
  frame_out
  rw [pay3_at, blk6]

theorem o11_at (c : Dev nD) (b : Fin 1024) :
    (outsAt0 m c t0_3.val t0_3.isLt).2.2.2.2.1 (ix2 0 b)
      = gateM m c (ix4 3 2 0 b) * ∑ i : Fin 2048, gM m c i b := by
  rw [← s1_last m c b, outsAt0_C m c t0_3 (by decide) (by decide)]
  frame_out
  rw [pay4_at, blk5]

/-- The input gradient of the product's first half, the whole array. -/
theorem arr7 (c : Dev nD) : (dats m 0 c).arrAt 7 cfg0.N
    = fun i : S2048x512.Idx => ∑ k : Fin 1024, dyM m c (i 0) k * m ((c : Thread nD τ).loc main_arg3) (ix2 ⟨(i 1).val, by have := (i 1).isLt; simp at this; omega⟩ k) := by
  refine (dats m 0 c).arrAt_eq_of_covers 7 _ (by decide +kernel) fun t hf y => ?_
  obtain ⟨a, b, rfl⟩ : ∃ (a : Fin 512) (b : Fin 512), y = ix2 a b := ⟨y 0, y 1, by funext k; fin_cases k <;> rfl⟩
  blk_simp
  rw [after0_7]
  have e0 : (win0_7.blk t).view.emb (ix2 a b) 0 = row t a := Fin.ext (by
    blk_simp [idx t]
    show t.val * 512 + a.val = 512 * t.val + a.val
    omega)
  have e1 : win0_7.index t 1 = 0 := congrFun (idx t).2.2.2.2.2.2.2.1 1
  refine (o7_at m c t a b).trans ?_
  simp only [e0, e1, Nat.zero_mul, Nat.zero_add]

/-- The input gradient of the product's second half, the whole array. -/
theorem arr8 (c : Dev nD) : (dats m 0 c).arrAt 8 cfg0.N
    = fun i : S2048x512.Idx => ∑ k : Fin 1024, dyM m c (i 0) k * m ((c : Thread nD τ).loc main_arg3) (ix2 ⟨512 + (i 1).val, by have := (i 1).isLt; simp at this; omega⟩ k) := by
  refine (dats m 0 c).arrAt_eq_of_covers 8 _ (by decide +kernel) fun t hf y => ?_
  obtain ⟨a, b, rfl⟩ : ∃ (a : Fin 512) (b : Fin 512), y = ix2 a b := ⟨y 0, y 1, by funext k; fin_cases k <;> rfl⟩
  blk_simp
  rw [after0_8]
  have e0 : (win0_8.blk t).view.emb (ix2 a b) 0 = row t a := Fin.ext (by
    blk_simp [idx t]
    show t.val * 512 + a.val = 512 * t.val + a.val
    omega)
  have e1 : win0_8.index t 1 = 0 := congrFun (idx t).2.2.2.2.2.2.2.2 1
  refine (o8_at m c t a b).trans ?_
  simp only [e0, e1, Nat.zero_mul, Nat.zero_add]

theorem arr9 (c : Dev nD) : (dats m 0 c).arrAt 9 cfg0.N
    = fun i : S1024x1024.Idx => ∑ k : Fin 2048, catM m c k (i 0) * dyM m c k (i 1) := by
  refine (dats m 0 c).arrAt_eq_of_after_last 9 t0_3 (by decide +kernel) _ fun j => ?_
  obtain ⟨a, b, rfl⟩ : ∃ (a : Fin 1024) (b : Fin 1024), j = ix2 a b := ⟨j 0, j 1, by funext k; fin_cases k <;> rfl⟩
  blk_simp
  rw [after0_9]
  exact o9_at m c a b

theorem arr10 (c : Dev nD) : (dats m 0 c).arrAt 10 cfg0.N
    = fun i : S1x1024.Idx => weightM m c (ix3 3 0 (i 1)) * ∑ k : Fin 2048, gM m c k (i 1) := by
  refine (dats m 0 c).arrAt_eq_of_after_last 10 t0_3 (by decide +kernel) _ fun j => ?_
  obtain ⟨b, rfl⟩ : ∃ (b : Fin 1024), j = ix2 0 b := ⟨j 1, by funext k; fin_cases k; exact Fin.eq_zero _; rfl⟩
  blk_simp
  rw [after0_10]
  exact o10_at m c b

theorem arr11 (c : Dev nD) : (dats m 0 c).arrAt 11 cfg0.N
    = fun i : S1x1024.Idx => gateM m c (ix4 3 2 0 (i 1)) * ∑ k : Fin 2048, gM m c k (i 1) := by
  refine (dats m 0 c).arrAt_eq_of_after_last 11 t0_3 (by decide +kernel) _ fun j => ?_
  obtain ⟨b, rfl⟩ : ∃ (b : Fin 1024), j = ix2 0 b := ⟨j 1, by funext k; fin_cases k; exact Fin.eq_zero _; rfl⟩
  blk_simp
  rw [after0_11]
  exact o11_at m c b

end Cert.OutKernelIdeal.OutValue

end
-- ==== Proof.OutRef.lean ====
module

public import proofs.«01_k».proof.Proof.Gen.OutReferenceIdeal.Read
public import proofs.«01_k».proof.Proof.RmsGrad
public import Idealize.ShloMosaic.Lib.Pipeline.ValueKit.Point
public import Idealize.ShloMosaic.Lib.ValueIdx

@[expose] public section

set_option maxRecDepth 16384

noncomputable section

namespace Cert.OutReferenceIdeal.OutValue

open Cert.OutReferenceIdeal Cert.OutReferenceIdeal.Gen Cert.OutReferenceIdeal.Read
open Idealize.ShloMosaic Idealize.ShloMosaic.TcCoe Idealize.SL.Sem

/-- The gradient of the product's output, as the reference's row formula. -/
theorem v53_at (x0 : S2048x1024.Idx → EReal) (x1 x2 : S2048x512.Idx → EReal) (x3 : S1024x1024.Idx → EReal) (x4 : S4x3x1x1024.Idx → EReal)
    (x5 : S4x1024.Idx → EReal) (a : Fin 2048) (b : Fin 1024) :
    val_main_v53 (F := Ideal) x0 x1 x2 x3 x4 x5 (ix2 a b)
      = RmsGrad.refRow (Ideal.ofBits FTy.f32 1149239296#32) (Ideal.ofBits FTy.f32 897988541#32) (Ideal.ofBits FTy.f32 3204448256#32)
          (fun k : Fin 1024 => val_main_v8 (F := Ideal) x1 x2 x3 (ix2 a k)) (fun k : Fin 1024 => x4 (ix4 3 2 0 k) * x0 (ix2 a k) * x5 (ix2 3 k)) b := by
  pointwise [val_main_v3, val_main_v4, val_main_v5, val_main_v6, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_cst, val_main_cst_0, val_main_cst_1, val_main_cst_2, val_main_cst_3, val_main_cst_4, val_main_cst_5, val_main_cst_6, val_main_cst_7, val_main_cst_8, val_main_cst_9]
  simp only [Finset.univ_unique, Finset.sum_singleton]
  unfold RmsGrad.refRow RmsGrad.meanSq
  rfl

theorem v59_at (x0 : S2048x1024.Idx → EReal) (x1 x2 : S2048x512.Idx → EReal) (x3 : S1024x1024.Idx → EReal) (x4 : S4x3x1x1024.Idx → EReal)
    (x5 : S4x1024.Idx → EReal) (a : Fin 2048) (b : Fin 512) :
    val_main_v59 (F := Ideal) x0 x1 x2 x3 x4 x5 (ix2 a b)
      = ∑ k : Fin 1024, val_main_v53 (F := Ideal) x0 x1 x2 x3 x4 x5 (ix2 a k) * x3 (ix2 ⟨b.val, by have := b.isLt; omega⟩ k) := by
  pointwise [val_main_v59, val_main_v57, val_main_v56, val_main_v2]

theorem v60_at (x0 : S2048x1024.Idx → EReal) (x1 x2 : S2048x512.Idx → EReal) (x3 : S1024x1024.Idx → EReal) (x4 : S4x3x1x1024.Idx → EReal)
    (x5 : S4x1024.Idx → EReal) (a : Fin 2048) (b : Fin 512) :
    val_main_v60 (F := Ideal) x0 x1 x2 x3 x4 x5 (ix2 a b)
      = ∑ k : Fin 1024, val_main_v53 (F := Ideal) x0 x1 x2 x3 x4 x5 (ix2 a k) * x3 (ix2 ⟨512 + b.val, by have := b.isLt; omega⟩ k) := by
  pointwise [val_main_v60, val_main_v58, val_main_v56, val_main_v2]

theorem v61_at (x0 : S2048x1024.Idx → EReal) (x1 x2 : S2048x512.Idx → EReal) (x3 : S1024x1024.Idx → EReal) (x4 : S4x3x1x1024.Idx → EReal)
    (x5 : S4x1024.Idx → EReal) (a b : Fin 1024) :
    val_main_v61 (F := Ideal) x0 x1 x2 x3 x4 x5 (ix2 a b)
      = ∑ i : Fin 2048, val_main_v53 (F := Ideal) x0 x1 x2 x3 x4 x5 (ix2 i b) * val_main_v7 (F := Ideal) x1 x2 (ix2 i a) := by
  pointwise [val_main_v61, val_main_v55, val_main_v54]

theorem v7_at (x1 x2 : S2048x512.Idx → EReal) (i : Fin 2048) (j : Fin 1024) :
    val_main_v7 (F := Ideal) x1 x2 (ix2 i j)
      = if h : j.val < 512 then x1 (ix2 i ⟨j.val, h⟩) else x2 (ix2 i ⟨j.val - 512, by have := j.isLt; omega⟩) := by
  pointwise [val_main_v7, val_main_v0, val_main_v1]

theorem v62_at (x0 : S2048x1024.Idx → EReal) (x1 x2 : S2048x512.Idx → EReal) (x3 : S1024x1024.Idx → EReal) (x5 : S4x1024.Idx → EReal) (b : Fin 1024) :
    val_main_v62 (F := Ideal) x0 x1 x2 x3 x5 (ix2 0 b)
      = ∑ i : Fin 2048, x0 (ix2 i b) * (val_main_v8 (F := Ideal) x1 x2 x3 (ix2 i b)
          * (Ideal.rsqrt (RmsGrad.meanSq (Ideal.ofBits FTy.f32 1149239296#32) (Ideal.ofBits FTy.f32 897988541#32) fun k : Fin 1024 => val_main_v8 (F := Ideal) x1 x2 x3 (ix2 i k))) * x5 (ix2 3 b)) := by
  pointwise [val_main_v62, val_main_v3, val_main_v4, val_main_v5, val_main_v6, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_cst, val_main_cst_0, val_main_cst_1, val_main_cst_2, val_main_cst_3, val_main_cst_4, val_main_cst_5, val_main_cst_6, val_main_cst_7, val_main_cst_8, val_main_cst_9]
  simp only [Finset.univ_unique, Finset.sum_singleton]
  unfold RmsGrad.meanSq
  rfl

theorem v63_at (x0 : S2048x1024.Idx → EReal) (x1 x2 : S2048x512.Idx → EReal) (x3 : S1024x1024.Idx → EReal) (x4 : S4x3x1x1024.Idx → EReal) (b : Fin 1024) :
    val_main_v63 (F := Ideal) x0 x1 x2 x3 x4 (ix2 0 b)
      = ∑ i : Fin 2048, val_main_v8 (F := Ideal) x1 x2 x3 (ix2 i b)
          * (Ideal.rsqrt (RmsGrad.meanSq (Ideal.ofBits FTy.f32 1149239296#32) (Ideal.ofBits FTy.f32 897988541#32) fun k : Fin 1024 => val_main_v8 (F := Ideal) x1 x2 x3 (ix2 i k))) * (x4 (ix4 3 2 0 b) * x0 (ix2 i b)) := by
  pointwise [val_main_v63, val_main_v3, val_main_v4, val_main_v5, val_main_v6, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_cst, val_main_cst_0, val_main_cst_1, val_main_cst_2, val_main_cst_3, val_main_cst_4, val_main_cst_5, val_main_cst_6, val_main_cst_7, val_main_cst_8, val_main_cst_9]
  simp only [Finset.univ_unique, Finset.sum_singleton]
  unfold RmsGrad.meanSq
  rfl

end Cert.OutReferenceIdeal.OutValue

end
-- ==== Proof.Lits.lean ====
module

public import Idealize.ShloMosaic.PureOps.Ideal.Laws
public import Idealize.ShloMosaic.Lib.IdealHost

@[expose] public section

noncomputable section

namespace Lits

open Idealize.ShloMosaic

/-- The row length's word. -/
theorem n_lit : Ideal.ofBits FTy.f32 0x44800000#32 = ((1024 : ℝ) : EReal) := by
  simp [Ideal.ofBits, Ideal.ieee, -EReal.coe_mul]; norm_num

/-- The halving's word. -/
theorem h_lit : Ideal.ofBits FTy.f32 0xBF000000#32 = ((-(1/2) : ℝ) : EReal) := by
  simp [Ideal.ofBits, Ideal.ieee, -EReal.coe_mul, -EReal.coe_neg]; norm_num

/-- The word under the root stands for a positive real. -/
theorem e_lit : ∃ e : ℝ, 0 < e ∧ Ideal.ofBits FTy.f32 0x358637BD#32 = (e : EReal) := by
  refine ⟨8796093 / 8796093022208, by norm_num, ?_⟩
  simp [Ideal.ofBits, Ideal.ieee, -EReal.coe_mul]; norm_num

/-- The infinity's word. -/
theorem inf_lit : Ideal.ofBits FTy.f32 0x7F800000#32 = ⊤ := by
  simp [Ideal.ofBits, Ideal.ieee]

/-- One's word. -/
theorem one_lit : Ideal.ofBits FTy.f32 0x3F800000#32 = 1 := by
  rw [← EReal.coe_one]
  simp [Ideal.ofBits, Ideal.ieee, -EReal.coe_mul, -EReal.coe_one]; norm_num

/-- A number below the infinity in absolute value is real. -/
theorem real_of_lt {x : EReal} (h : Ideal.cmp .olt (max x (-x)) (Ideal.ofBits FTy.f32 0x7F800000#32) = 1#1) : ∃ b : ℝ, x = (b : EReal) := by
  rw [inf_lit] at h
  induction x using EReal.rec with
  | bot => simp [Ideal.cmp] at h
  | coe b => exact ⟨b, rfl⟩
  | top => simp [Ideal.cmp] at h

end Lits

end
-- ==== Proof.OutPre.lean ====
module

public import proofs.«01_k».proof.Defs
public import proofs.«01_k».proof.Proof.Gen.Pre_out_finite
public import proofs.«01_k».proof.Proof.Lits
public import Idealize.ShloMosaic.Lib.Pipeline.ValueKit.Point
public import Idealize.ShloMosaic.Lib.ValueIdx

@[expose] public section

set_option maxRecDepth 16384

noncomputable section

namespace Cert.OutPre

open Idealize.ShloMosaic Idealize.ShloMosaic.TcCoe Idealize.SL.Sem Cert.OutKernelIdeal

variable (x0 : S2048x1024.Idx → EReal) (x1 x2 : S2048x512.Idx → EReal) (x3 : S1024x1024.Idx → EReal) (x4 : S4x3x1x1024.Idx → EReal)
  (x5 : S4x1024.Idx → EReal) (x6 : S8x128.Idx → EReal)

theorem dx_real (h : (Cert.Pre_out_finite.fn (F := Ideal) x0 x1 x2 x3 x4 x5 x6).1 = fun _ => 1#1) (a : Fin 2048) (b : Fin 1024) :
    ∃ r : ℝ, x0 (ix2 a b) = (r : EReal) := by
  have h := congrFun h (ix2 a b)
  refine Lits.real_of_lt (Eq.trans ?_ h)
  unfold Cert.Pre_out_finite.fn
  pointwise []
  rfl

theorem gate_real (h : (Cert.Pre_out_finite.fn (F := Ideal) x0 x1 x2 x3 x4 x5 x6).2.1 = fun _ => 1#1) (b : Fin 1024) :
    ∃ r : ℝ, x4 (ix4 3 2 0 b) = (r : EReal) := by
  have h := congrFun h (ix1 b)
  refine Lits.real_of_lt (Eq.trans ?_ h)
  unfold Cert.Pre_out_finite.fn
  pointwise []
  rfl

theorem g_real (h : (Cert.Pre_out_finite.fn (F := Ideal) x0 x1 x2 x3 x4 x5 x6).2.2 = fun _ => 1#1) (b : Fin 1024) :
    ∃ r : ℝ, x5 (ix2 3 b) = (r : EReal) := by
  have h := congrFun h (ix1 b)
  refine Lits.real_of_lt (Eq.trans ?_ h)
  unfold Cert.Pre_out_finite.fn
  pointwise []
  rfl

end Cert.OutPre

end
-- ==== Proof.OutFinal.lean ====
module

public import proofs.«01_k».proof.Proof.OutArrays
public import proofs.«01_k».proof.Proof.OutRef
public import proofs.«01_k».proof.Proof.OutPre

@[expose] public section

set_option maxRecDepth 16384

noncomputable section

namespace Cert.OutKernelIdeal.OutValue

open Cert.OutKernelIdeal Cert.OutKernelIdeal.Gen
open Idealize.ShloMosaic Idealize.ShloMosaic.TcCoe Idealize.SL.Sem
open Cert.OutReferenceIdeal.Read Cert.OutReferenceIdeal.OutValue

section Rows

variable (x0 : S2048x1024.Idx → EReal) (x1 x2 : S2048x512.Idx → EReal) (x3 : S1024x1024.Idx → EReal) (x4 : S4x3x1x1024.Idx → EReal)
  (x5 : S4x1024.Idx → EReal) (Y : S2048x1024.Idx → EReal) (g : S4x1x1024.Idx → EReal)

/-- The row formula of the kernel is the reference's. -/
theorem dyK_eq (hY : ∀ i k, Y (ix2 i k) = val_main_v8 (F := Ideal) x1 x2 x3 (ix2 i k)) (hg : ∀ k, g (ix3 3 0 k) = x5 (ix2 3 k))
    (h0 : ∀ a b, ∃ r : ℝ, x0 (ix2 a b) = (r : EReal)) (h4 : ∀ b, ∃ r : ℝ, x4 (ix4 3 2 0 b) = (r : EReal))
    (h5 : ∀ b, ∃ r : ℝ, x5 (ix2 3 b) = (r : EReal)) (a : Fin 2048) (b : Fin 1024) :
    dyK x0 Y x4 g a b = val_main_v53 (F := Ideal) x0 x1 x2 x3 x4 x5 (ix2 a b) := by
  obtain ⟨e, he, hE⟩ := Lits.e_lit
  have key := RmsGrad.grad_row (N := 1024) (e := e) (by norm_num) he (fun k : Fin 1024 => Y (ix2 a k))
    (fun k => x4 (ix4 3 2 0 k) * x0 (ix2 a k) * x5 (ix2 3 k)) (fun k => RmsGrad.mul_real (RmsGrad.mul_real (h4 k) (h0 a k)) (h5 k)) b
  rw [v53_at]
  simp only [← hY]
  unfold RmsGrad.refRow dyK rowR nLit eLit
  rw [Lits.n_lit, Lits.h_lit, hE]
  refine Eq.trans ?_ key
  simp only [hg]
  congr 2
  · ac_rfl
  · congr 2
    exact Finset.sum_congr rfl fun k _ => by ac_rfl

theorem normed (a : Fin 2048) (b : Fin 1024) : ∃ r : ℝ, Y (ix2 a b) * rowR Y a = (r : EReal) := by
  obtain ⟨e, he, hE⟩ := Lits.e_lit
  unfold rowR nLit eLit
  rw [Lits.n_lit, hE]
  exact RmsGrad.normed_coe (by norm_num) he (fun k : Fin 1024 => Y (ix2 a k)) b

theorem gate_eq (hY : ∀ i k, Y (ix2 i k) = val_main_v8 (F := Ideal) x1 x2 x3 (ix2 i k)) (hg : ∀ k, g (ix3 3 0 k) = x5 (ix2 3 k))
    (h0 : ∀ a b, ∃ r : ℝ, x0 (ix2 a b) = (r : EReal)) (h5 : ∀ b, ∃ r : ℝ, x5 (ix2 3 b) = (r : EReal)) (b : Fin 1024) :
    g (ix3 3 0 b) * ∑ i : Fin 2048, gTerm x0 Y i b = val_main_v62 (F := Ideal) x0 x1 x2 x3 x5 (ix2 0 b) := by
  rw [v62_at, hg, RmsGrad.mul_sum_real _ (fun i => gTerm x0 Y i b) (h5 b) fun i => RmsGrad.mul_real (h0 i b) (normed Y i b)]
  simp only [← hY]
  unfold gTerm rowR nLit eLit
  exact Finset.sum_congr rfl fun i _ => by ac_rfl

theorem post_eq (hY : ∀ i k, Y (ix2 i k) = val_main_v8 (F := Ideal) x1 x2 x3 (ix2 i k))
    (h0 : ∀ a b, ∃ r : ℝ, x0 (ix2 a b) = (r : EReal)) (h4 : ∀ b, ∃ r : ℝ, x4 (ix4 3 2 0 b) = (r : EReal)) (b : Fin 1024) :
    x4 (ix4 3 2 0 b) * ∑ i : Fin 2048, gTerm x0 Y i b = val_main_v63 (F := Ideal) x0 x1 x2 x3 x4 (ix2 0 b) := by
  rw [v63_at, RmsGrad.mul_sum_real _ (fun i => gTerm x0 Y i b) (h4 b) fun i => RmsGrad.mul_real (h0 i b) (normed Y i b)]
  simp only [← hY]
  unfold gTerm rowR nLit eLit
  exact Finset.sum_congr rfl fun i _ => by ac_rfl

end Rows

variable (m : (ℓ : Loc nD τ sig) → Buf (Elt Ideal) ℓ)

/-- The saved product the host computes is the reference's. -/
theorem entry_y (c : Dev nD) (i : Fin 2048) (k : Fin 1024) : V m c main_v4 (ix2 i k)
    = val_main_v8 (F := Ideal) (m ((c : Thread nD τ).loc main_arg1)) (m ((c : Thread nD τ).loc main_arg2)) (m ((c : Thread nD τ).loc main_arg3)) (ix2 i k) := by
  entry_read
  pointwise [val_main_v8, val_main_v7, val_main_v0, val_main_v1, val_main_v2]

/-- The layer's row of the weight, reshaped by the host. -/
theorem entry_g (c : Dev nD) (k : Fin 1024) : V m c main_v5 (ix3 3 0 k) = m ((c : Thread nD τ).loc main_arg5) (ix2 3 k) := by
  entry_read
  pointwise []

/-- The whole claim: the kernel's five results are the reference's. -/
theorem algebraic : Cert.algebraic_OutKernelIdeal_OutReferenceIdeal_pre_out_finite := by
  intro m g m' g' hpre heq
  refine ⟨fun c => (dats m 0 c).arrAt 7 cfg0.N, fun c => (dats m 0 c).arrAt 8 cfg0.N, fun c => (dats m 0 c).arrAt 9 cfg0.N,
    fun c => (dats m 0 c).arrAt 10 cfg0.N, fun c => (dats m 0 c).arrAt 11 cfg0.N, Cert.OutKernelIdeal.Value.run_blocks m g, ?_⟩
  refine (θ_run Cert.OutReferenceIdeal.defs _ _).mono (fun r h c => ?_) (Cert.OutReferenceIdeal.Value.run m' g')
  obtain ⟨e59, e60, e61, e62, e63, rest⟩ := h c
  obtain ⟨p0, p4, p5⟩ := hpre c
  have hdx := Cert.OutPre.dx_real _ _ _ _ _ _ _ p0
  have hgt := Cert.OutPre.gate_real _ _ _ _ _ _ _ p4
  have hgp := Cert.OutPre.g_real _ _ _ _ _ _ _ p5
  obtain ⟨q0, q1, q2, q3, q4, q5, -⟩ := heq c
  have hd : ∀ a b, dyM m c a b = _ := dyK_eq _ _ _ _ _ _ (V m c main_v4) (V m c main_v5) (entry_y m c) (entry_g m c) hdx hgt hgp
  refine ⟨e59.trans ?_, e60.trans ?_, e61.trans ?_, e62.trans ?_, e63.trans ?_, rest⟩
  · rw [val_main_v59_eq, q0, q1, q2, q3, q4, q5]
    refine Eq.trans ?_ (arr7 m c).symm
    funext i
    obtain ⟨a, b, rfl⟩ : ∃ (a : Fin 2048) (b : Fin 512), i = ix2 a b := ⟨i 0, i 1, by funext k; fin_cases k <;> rfl⟩
    refine (v59_at _ _ _ _ _ _ a b).trans ?_
    exact Finset.sum_congr rfl fun k _ => congrArg (· * _) (hd a k).symm
  · rw [val_main_v60_eq, q0, q1, q2, q3, q4, q5]
    refine Eq.trans ?_ (arr8 m c).symm
    funext i
    obtain ⟨a, b, rfl⟩ : ∃ (a : Fin 2048) (b : Fin 512), i = ix2 a b := ⟨i 0, i 1, by funext k; fin_cases k <;> rfl⟩
    refine (v60_at _ _ _ _ _ _ a b).trans ?_
    exact Finset.sum_congr rfl fun k _ => congrArg (· * _) (hd a k).symm
  · rw [val_main_v61_eq, q0, q1, q2, q3, q4, q5]
    refine Eq.trans ?_ (arr9 m c).symm
    funext i
    obtain ⟨a, b, rfl⟩ : ∃ (a : Fin 1024) (b : Fin 1024), i = ix2 a b := ⟨i 0, i 1, by funext k; fin_cases k <;> rfl⟩
    refine (v61_at _ _ _ _ _ _ a b).trans ?_
    refine Finset.sum_congr rfl fun k _ => ?_
    refine (mul_comm _ _).trans (congrArg₂ (· * ·) (v7_at _ _ k a) (hd k b).symm)
  · refine (val_main_v62_eq _ _ _ _ _).trans ?_
    rw [q0, q1, q2, q3, q5]
    refine Eq.trans ?_ (arr10 m c).symm
    funext i
    obtain ⟨b, rfl⟩ : ∃ (b : Fin 1024), i = ix2 0 b := ⟨i 1, by funext k; fin_cases k; exact Fin.eq_zero _; rfl⟩
    exact (gate_eq _ _ _ _ _ (V m c main_v4) (V m c main_v5) (entry_y m c) (entry_g m c) hdx hgp b).symm
  · refine (val_main_v63_eq _ _ _ _ _).trans ?_
    rw [q0, q1, q2, q3, q4]
    refine Eq.trans ?_ (arr11 m c).symm
    funext i
    obtain ⟨b, rfl⟩ : ∃ (b : Fin 1024), i = ix2 0 b := ⟨i 1, by funext k; fin_cases k; exact Fin.eq_zero _; rfl⟩
    exact (post_eq _ _ _ _ _ (V m c main_v4) (entry_y m c) hdx hgt b).symm

end Cert.OutKernelIdeal.OutValue

end
-- ==== Proof.InPoint.lean ====
module

public import proofs.«01_k».proof.Proof.Gen.InKernelIdeal.Value
public import proofs.«01_k».proof.Proof.RmsGrad
public import proofs.«01_k».proof.Proof.Halves
public import Idealize.ShloMosaic.Lib.Pipeline.ValueKit.Point
public import Idealize.ShloMosaic.Lib.ValueIdx

@[expose] public section

set_option maxRecDepth 16384

noncomputable section

namespace Cert.InKernelIdeal.InValue

open Cert.InKernelIdeal Cert.InKernelIdeal.Gen
open Idealize.ShloMosaic Idealize.ShloMosaic.TcCoe Idealize.SL.Sem
open Idealize.ShloMosaic.Pipeline (Dat)

/-- The literal 1024, and the literal under the root. -/
abbrev nLit : EReal := Ideal.ofBits FTy.f32 0x44800000#32
abbrev eLit : EReal := Ideal.ofBits FTy.f32 0x358637BD#32

/-- Six sections of 512 columns side by side. -/
def cat6 (x : Fin 6 → S2048x512.Idx → EReal) (i : Fin 2048) (c : Fin 3072) : EReal :=
  x ⟨c.val / 512, by have := c.isLt; omega⟩ (ix2 i ⟨c.val % 512, by omega⟩)

/-- A column of section 0 of the six side by side. -/
theorem cat6_0 (x : Fin 6 → S2048x512.Idx → EReal) (i : Fin 2048) (b : Fin 512) (h : 0 * 512 + b.val < 3072) :
    cat6 x i ⟨0 * 512 + b.val, h⟩ = x 0 (ix2 i b) := by
  have h0 : (0 * 512 + b.val) / 512 = 0 := by have := b.isLt; omega
  have h1 : (0 * 512 + b.val) % 512 = b.val := by have := b.isLt; omega
  unfold cat6
  exact congrArg₂ (fun (s : Fin 6) (k : Fin 512) => x s (ix2 i k)) (Fin.ext h0) (Fin.ext h1)

/-- A column of section 1 of the six side by side. -/
theorem cat6_1 (x : Fin 6 → S2048x512.Idx → EReal) (i : Fin 2048) (b : Fin 512) (h : 1 * 512 + b.val < 3072) :
    cat6 x i ⟨1 * 512 + b.val, h⟩ = x 1 (ix2 i b) := by
  have h0 : (1 * 512 + b.val) / 512 = 1 := by have := b.isLt; omega
  have h1 : (1 * 512 + b.val) % 512 = b.val := by have := b.isLt; omega
  unfold cat6
  exact congrArg₂ (fun (s : Fin 6) (k : Fin 512) => x s (ix2 i k)) (Fin.ext h0) (Fin.ext h1)

/-- A column of section 2 of the six side by side. -/
theorem cat6_2 (x : Fin 6 → S2048x512.Idx → EReal) (i : Fin 2048) (b : Fin 512) (h : 2 * 512 + b.val < 3072) :
    cat6 x i ⟨2 * 512 + b.val, h⟩ = x 2 (ix2 i b) := by
  have h0 : (2 * 512 + b.val) / 512 = 2 := by have := b.isLt; omega
  have h1 : (2 * 512 + b.val) % 512 = b.val := by have := b.isLt; omega
  unfold cat6
  exact congrArg₂ (fun (s : Fin 6) (k : Fin 512) => x s (ix2 i k)) (Fin.ext h0) (Fin.ext h1)

/-- A column of section 3 of the six side by side. -/
theorem cat6_3 (x : Fin 6 → S2048x512.Idx → EReal) (i : Fin 2048) (b : Fin 512) (h : 3 * 512 + b.val < 3072) :
    cat6 x i ⟨3 * 512 + b.val, h⟩ = x 3 (ix2 i b) := by
  have h0 : (3 * 512 + b.val) / 512 = 3 := by have := b.isLt; omega
  have h1 : (3 * 512 + b.val) % 512 = b.val := by have := b.isLt; omega
  unfold cat6
  exact congrArg₂ (fun (s : Fin 6) (k : Fin 512) => x s (ix2 i k)) (Fin.ext h0) (Fin.ext h1)

/-- A column of section 4 of the six side by side. -/
theorem cat6_4 (x : Fin 6 → S2048x512.Idx → EReal) (i : Fin 2048) (b : Fin 512) (h : 4 * 512 + b.val < 3072) :
    cat6 x i ⟨4 * 512 + b.val, h⟩ = x 4 (ix2 i b) := by
  have h0 : (4 * 512 + b.val) / 512 = 4 := by have := b.isLt; omega
  have h1 : (4 * 512 + b.val) % 512 = b.val := by have := b.isLt; omega
  unfold cat6
  exact congrArg₂ (fun (s : Fin 6) (k : Fin 512) => x s (ix2 i k)) (Fin.ext h0) (Fin.ext h1)

/-- A column of section 5 of the six side by side. -/
theorem cat6_5 (x : Fin 6 → S2048x512.Idx → EReal) (i : Fin 2048) (b : Fin 512) (h : 5 * 512 + b.val < 3072) :
    cat6 x i ⟨5 * 512 + b.val, h⟩ = x 5 (ix2 i b) := by
  have h0 : (5 * 512 + b.val) / 512 = 5 := by have := b.isLt; omega
  have h1 : (5 * 512 + b.val) % 512 = b.val := by have := b.isLt; omega
  unfold cat6
  exact congrArg₂ (fun (s : Fin 6) (k : Fin 512) => x s (ix2 i k)) (Fin.ext h0) (Fin.ext h1)

/-- The gradient of the product's input. -/
def dhK (x : Fin 6 → S2048x512.Idx → EReal) (w : S1024x3072.Idx → EReal) (i : Fin 2048) (a : Fin 1024) : EReal :=
  ∑ k : Fin 3072, cat6 x i k * w (ix2 a k)

/-- It is the sum of the six sections' products. -/
theorem dhK_six (x : Fin 6 → S2048x512.Idx → EReal) (w : S1024x3072.Idx → EReal) (i : Fin 2048) (a : Fin 1024) :
    (∑ k : Fin 512, x 0 (ix2 i k) * w (ix2 a ⟨0 * 512 + k.val, by have := k.isLt; omega⟩)) + (∑ k : Fin 512, x 1 (ix2 i k) * w (ix2 a ⟨1 * 512 + k.val, by have := k.isLt; omega⟩)) + (∑ k : Fin 512, x 2 (ix2 i k) * w (ix2 a ⟨2 * 512 + k.val, by have := k.isLt; omega⟩)) + (∑ k : Fin 512, x 3 (ix2 i k) * w (ix2 a ⟨3 * 512 + k.val, by have := k.isLt; omega⟩)) + (∑ k : Fin 512, x 4 (ix2 i k) * w (ix2 a ⟨4 * 512 + k.val, by have := k.isLt; omega⟩)) + (∑ k : Fin 512, x 5 (ix2 i k) * w (ix2 a ⟨5 * 512 + k.val, by have := k.isLt; omega⟩)) = dhK x w i a := by
  unfold dhK
  rw [← Fin.sum_mul_add_congr (S := 6) (n := 512) (f := fun k : Fin 3072 => cat6 x i k * w (ix2 a k)) (F := fun s k => cat6 x i ⟨s.val * 512 + k.val, by have := s.isLt; have := k.isLt; omega⟩ * w (ix2 a ⟨s.val * 512 + k.val, by have := s.isLt; have := k.isLt; omega⟩)) (fun s k hl => rfl), Fin.sum_univ_six]
  refine congrArg₂ (· + ·) (congrArg₂ (· + ·) (congrArg₂ (· + ·) (congrArg₂ (· + ·) (congrArg₂ (· + ·) ?_ ?_) ?_) ?_) ?_) ?_
  · exact Finset.sum_congr rfl fun k _ => congrArg (· * _) (cat6_0 x i k _).symm
  · exact Finset.sum_congr rfl fun k _ => congrArg (· * _) (cat6_1 x i k _).symm
  · exact Finset.sum_congr rfl fun k _ => congrArg (· * _) (cat6_2 x i k _).symm
  · exact Finset.sum_congr rfl fun k _ => congrArg (· * _) (cat6_3 x i k _).symm
  · exact Finset.sum_congr rfl fun k _ => congrArg (· * _) (cat6_4 x i k _).symm
  · exact Finset.sum_congr rfl fun k _ => congrArg (· * _) (cat6_5 x i k _).symm

/-- The reciprocal root of row `a`'s mean square. -/
def rowR (X : S2048x1024.Idx → EReal) (a : Fin 2048) : EReal :=
  Ideal.rsqrt (RmsGrad.meanSq nLit eLit fun k : Fin 1024 => X (ix2 a k))

/-- The scale of column `b`: the weight times one plus the modulation's scale. -/
def sgK (mod : S4x3x1x1024.Idx → EReal) (g : S4x1x1024.Idx → EReal) (b : Fin 1024) : EReal :=
  g (ix3 3 0 b) * (1 + mod (ix4 3 1 0 b))

/-- The product's input: the normalised row, scaled and shifted. -/
def hbK (X : S2048x1024.Idx → EReal) (mod : S4x3x1x1024.Idx → EReal) (g : S4x1x1024.Idx → EReal) (a : Fin 2048) (b : Fin 1024) : EReal :=
  X (ix2 a b) * rowR X a * sgK mod g b + mod (ix4 3 0 0 b)

/-- The gradient of the residual stream, the row factored out, over the gradient `dh` of the product's input. -/
def dxK (dh : Fin 2048 → Fin 1024 → EReal) (X dx : S2048x1024.Idx → EReal) (sg : Fin 1024 → EReal) (a : Fin 2048) (b : Fin 1024) : EReal :=
  dx (ix2 a b) + rowR X a * (dh a b * sg b
    - X (ix2 a b) * rowR X a * Ideal.div (∑ k : Fin 1024, dh a k * (X (ix2 a k) * rowR X a) * sg k) nLit)

variable (m : (ℓ : Loc nD τ sig) → Buf (Elt Ideal) ℓ)

/-- The six sections at the memory `m`. -/
def secM (c : Dev nD) (s : Fin 6) : S2048x512.Idx → EReal :=
  match s with
  | 0 => m ((c : Thread nD τ).loc main_arg0)
  | 1 => m ((c : Thread nD τ).loc main_arg1)
  | 2 => m ((c : Thread nD τ).loc main_arg2)
  | 3 => m ((c : Thread nD τ).loc main_arg3)
  | 4 => m ((c : Thread nD τ).loc main_arg4)
  | 5 => m ((c : Thread nD τ).loc main_arg5)

/-- The weight, the residual stream, its gradient, the modulation and the layer's weight row at the memory `m`. -/
abbrev wM (c : Dev nD) : S1024x3072.Idx → EReal := m ((c : Thread nD τ).loc main_arg6)
abbrev xM (c : Dev nD) : S2048x1024.Idx → EReal := m ((c : Thread nD τ).loc main_arg7)
abbrev dxM (c : Dev nD) : S2048x1024.Idx → EReal := m ((c : Thread nD τ).loc main_arg8)
abbrev modM (c : Dev nD) : S4x3x1x1024.Idx → EReal := m ((c : Thread nD τ).loc main_arg9)
abbrev gM (c : Dev nD) : S4x1x1024.Idx → EReal := V m c main_v0

/-- Where each window's block lies at point `t`. -/
theorem idx (t : Fin cfg0.N) : win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![0, 0]
    ∧ win0_7.index t = ![t.val, 0]
    ∧ win0_8.index t = ![t.val, 0]
    ∧ win0_9.index t = ![3, 0, 0, 0]
    ∧ win0_10.index t = ![3, 1, 0, 0]
    ∧ win0_11.index t = ![3, 0, 0]
    ∧ win0_12.index t = ![t.val, 0] :=
  (by decide +kernel : ∀ t : Fin grid0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![0, 0]
    ∧ win0_7.index t = ![t.val, 0]
    ∧ win0_8.index t = ![t.val, 0]
    ∧ win0_9.index t = ![3, 0, 0, 0]
    ∧ win0_10.index t = ![3, 1, 0, 0]
    ∧ win0_11.index t = ![3, 0, 0]
    ∧ win0_12.index t = ![t.val, 0]) t

/-- A tile's row lies in the array. -/
theorem lt_rows (t : Fin cfg0.N) (a : Fin 256) : 256 * t.val + a.val < 2048 := by
  have h : t.val < 8 := lt_of_lt_of_eq t.isLt N_0
  have := a.isLt
  omega

/-- Row `a` of point `t`'s block, as a row of the array. -/
abbrev row (t : Fin cfg0.N) (a : Fin 256) : Fin 2048 := ⟨256 * t.val + a.val, lt_rows t a⟩

/-- Section 0's block, read in the section. -/
theorem blk0 (c : Dev nD) (t : Fin cfg0.N) (a : Fin 256) (b : Fin 512) :
    iblk m c 0 t (ix2 a b) = secM m c 0 (ix2 (row t a) b) := by
  have := a.isLt; have := b.isLt
  blk_ext! [iblk, V, idx t]

/-- Section 1's block, read in the section. -/
theorem blk1 (c : Dev nD) (t : Fin cfg0.N) (a : Fin 256) (b : Fin 512) :
    iblk m c 1 t (ix2 a b) = secM m c 1 (ix2 (row t a) b) := by
  have := a.isLt; have := b.isLt
  blk_ext! [iblk, V, idx t]

/-- Section 2's block, read in the section. -/
theorem blk2 (c : Dev nD) (t : Fin cfg0.N) (a : Fin 256) (b : Fin 512) :
    iblk m c 2 t (ix2 a b) = secM m c 2 (ix2 (row t a) b) := by
  have := a.isLt; have := b.isLt
  blk_ext! [iblk, V, idx t]

/-- Section 3's block, read in the section. -/
theorem blk3 (c : Dev nD) (t : Fin cfg0.N) (a : Fin 256) (b : Fin 512) :
    iblk m c 3 t (ix2 a b) = secM m c 3 (ix2 (row t a) b) := by
  have := a.isLt; have := b.isLt
  blk_ext! [iblk, V, idx t]

/-- Section 4's block, read in the section. -/
theorem blk4 (c : Dev nD) (t : Fin cfg0.N) (a : Fin 256) (b : Fin 512) :
    iblk m c 4 t (ix2 a b) = secM m c 4 (ix2 (row t a) b) := by
  have := a.isLt; have := b.isLt
  blk_ext! [iblk, V, idx t]

/-- Section 5's block, read in the section. -/
theorem blk5 (c : Dev nD) (t : Fin cfg0.N) (a : Fin 256) (b : Fin 512) :
    iblk m c 5 t (ix2 a b) = secM m c 5 (ix2 (row t a) b) := by
  have := a.isLt; have := b.isLt
  blk_ext! [iblk, V, idx t]

/-- The weight's block is the weight. -/
theorem blk6 (c : Dev nD) (t : Fin cfg0.N) (a : Fin 1024) (b : Fin 3072) : iblk m c 6 t (ix2 a b) = wM m c (ix2 a b) := by
  have := a.isLt; have := b.isLt
  blk_ext! [iblk, V, idx t]

/-- The residual stream's block. -/
theorem blk7 (c : Dev nD) (t : Fin cfg0.N) (a : Fin 256) (b : Fin 1024) : iblk m c 7 t (ix2 a b) = xM m c (ix2 (row t a) b) := by
  have := a.isLt; have := b.isLt
  blk_ext! [iblk, V, idx t]

/-- The residual gradient's block. -/
theorem blk8 (c : Dev nD) (t : Fin cfg0.N) (a : Fin 256) (b : Fin 1024) : iblk m c 8 t (ix2 a b) = dxM m c (ix2 (row t a) b) := by
  have := a.isLt; have := b.isLt
  blk_ext! [iblk, V, idx t]

/-- The modulation's shift row. -/
theorem blk9 (c : Dev nD) (t : Fin cfg0.N) (b : Fin 1024) : iblk m c 9 t (ix4 0 0 0 b) = modM m c (ix4 3 0 0 b) := by
  blk_ext! [iblk, V, idx t]

/-- The modulation's scale row. -/
theorem blk10 (c : Dev nD) (t : Fin cfg0.N) (b : Fin 1024) : iblk m c 10 t (ix4 0 0 0 b) = modM m c (ix4 3 1 0 b) := by
  blk_ext! [iblk, V, idx t]

/-- The layer's weight row. -/
theorem blk11 (c : Dev nD) (t : Fin cfg0.N) (b : Fin 1024) : iblk m c 11 t (ix3 0 0 b) = gM m c (ix3 3 0 b) := by
  blk_ext! [iblk, idx t]

/-- The weight's columns from 0, loaded. -/
theorem ldw0 (X : S1024x3072.Idx → Elt Ideal .bf16) (inb : ∀ a, (![0, 0] : Fin 2 → Nat) a + (![1024, 512] : Fin 2 → Nat) a ≤ S1024x3072.size a)
    (a : Fin 1024) (b : Fin 512) :
    View.ld (Val := Elt Ideal) (e' := .bf16) X (Rect.unit (s := S1024x3072) ![0, 0] ![1024, 512] inb) (ix2 a b)
      = X (ix2 a ⟨0 * 512 + b.val, by have := b.isLt; omega⟩) :=
  View.ld_unit_apply_of (Val := Elt Ideal) (e := .bf16) X ![0, 0] ![1024, 512] inb (ix2 a b) (ix2 a ⟨0 * 512 + b.val, by have := b.isLt; omega⟩)
    (by intro k; fin_cases k <;> simp)

/-- The weight's columns from 512, loaded. -/
theorem ldw1 (X : S1024x3072.Idx → Elt Ideal .bf16) (inb : ∀ a, (![0, 512] : Fin 2 → Nat) a + (![1024, 512] : Fin 2 → Nat) a ≤ S1024x3072.size a)
    (a : Fin 1024) (b : Fin 512) :
    View.ld (Val := Elt Ideal) (e' := .bf16) X (Rect.unit (s := S1024x3072) ![0, 512] ![1024, 512] inb) (ix2 a b)
      = X (ix2 a ⟨1 * 512 + b.val, by have := b.isLt; omega⟩) :=
  View.ld_unit_apply_of (Val := Elt Ideal) (e := .bf16) X ![0, 512] ![1024, 512] inb (ix2 a b) (ix2 a ⟨1 * 512 + b.val, by have := b.isLt; omega⟩)
    (by intro k; fin_cases k <;> simp)

/-- The weight's columns from 1024, loaded. -/
theorem ldw2 (X : S1024x3072.Idx → Elt Ideal .bf16) (inb : ∀ a, (![0, 1024] : Fin 2 → Nat) a + (![1024, 512] : Fin 2 → Nat) a ≤ S1024x3072.size a)
    (a : Fin 1024) (b : Fin 512) :
    View.ld (Val := Elt Ideal) (e' := .bf16) X (Rect.unit (s := S1024x3072) ![0, 1024] ![1024, 512] inb) (ix2 a b)
      = X (ix2 a ⟨2 * 512 + b.val, by have := b.isLt; omega⟩) :=
  View.ld_unit_apply_of (Val := Elt Ideal) (e := .bf16) X ![0, 1024] ![1024, 512] inb (ix2 a b) (ix2 a ⟨2 * 512 + b.val, by have := b.isLt; omega⟩)
    (by intro k; fin_cases k <;> simp)

/-- The weight's columns from 1536, loaded. -/
theorem ldw3 (X : S1024x3072.Idx → Elt Ideal .bf16) (inb : ∀ a, (![0, 1536] : Fin 2 → Nat) a + (![1024, 512] : Fin 2 → Nat) a ≤ S1024x3072.size a)
    (a : Fin 1024) (b : Fin 512) :
    View.ld (Val := Elt Ideal) (e' := .bf16) X (Rect.unit (s := S1024x3072) ![0, 1536] ![1024, 512] inb) (ix2 a b)
      = X (ix2 a ⟨3 * 512 + b.val, by have := b.isLt; omega⟩) :=
  View.ld_unit_apply_of (Val := Elt Ideal) (e := .bf16) X ![0, 1536] ![1024, 512] inb (ix2 a b) (ix2 a ⟨3 * 512 + b.val, by have := b.isLt; omega⟩)
    (by intro k; fin_cases k <;> simp)

/-- The weight's columns from 2048, loaded. -/
theorem ldw4 (X : S1024x3072.Idx → Elt Ideal .bf16) (inb : ∀ a, (![0, 2048] : Fin 2 → Nat) a + (![1024, 512] : Fin 2 → Nat) a ≤ S1024x3072.size a)
    (a : Fin 1024) (b : Fin 512) :
    View.ld (Val := Elt Ideal) (e' := .bf16) X (Rect.unit (s := S1024x3072) ![0, 2048] ![1024, 512] inb) (ix2 a b)
      = X (ix2 a ⟨4 * 512 + b.val, by have := b.isLt; omega⟩) :=
  View.ld_unit_apply_of (Val := Elt Ideal) (e := .bf16) X ![0, 2048] ![1024, 512] inb (ix2 a b) (ix2 a ⟨4 * 512 + b.val, by have := b.isLt; omega⟩)
    (by intro k; fin_cases k <;> simp)

/-- The weight's columns from 2560, loaded. -/
theorem ldw5 (X : S1024x3072.Idx → Elt Ideal .bf16) (inb : ∀ a, (![0, 2560] : Fin 2 → Nat) a + (![1024, 512] : Fin 2 → Nat) a ≤ S1024x3072.size a)
    (a : Fin 1024) (b : Fin 512) :
    View.ld (Val := Elt Ideal) (e' := .bf16) X (Rect.unit (s := S1024x3072) ![0, 2560] ![1024, 512] inb) (ix2 a b)
      = X (ix2 a ⟨5 * 512 + b.val, by have := b.isLt; omega⟩) :=
  View.ld_unit_apply_of (Val := Elt Ideal) (e := .bf16) X ![0, 2560] ![1024, 512] inb (ix2 a b) (ix2 a ⟨5 * 512 + b.val, by have := b.isLt; omega⟩)
    (by intro k; fin_cases k <;> simp)

/-- The sum of six products, at an index. -/
theorem pay15_at (d0 d1 d2 d3 d4 d5 : Vec Ideal S256x512 .bf16) (w0 w1 w2 w3 w4 w5 : Vec Ideal S1024x512 .bf16) (a : Fin 256) (b : Fin 1024) :
    k0_pay15 (k0_pay14 d0 w0) d1 w1 d2 w2 d3 w3 d4 w4 d5 w5 (ix2 a b)
      = (((((∑ k : Fin 512, d0 (ix2 a k) * w0 (ix2 b k)) + ∑ k : Fin 512, d1 (ix2 a k) * w1 (ix2 b k)) + ∑ k : Fin 512, d2 (ix2 a k) * w2 (ix2 b k))
        + ∑ k : Fin 512, d3 (ix2 a k) * w3 (ix2 b k)) + ∑ k : Fin 512, d4 (ix2 a k) * w4 (ix2 b k)) + ∑ k : Fin 512, d5 (ix2 a k) * w5 (ix2 b k) := by
  pointwise [k0_pay15, k0_pay14]

/-- The point's tile of the product input's gradient. -/
def dhT (c : Dev nD) (t : Fin cfg0.N) : FVec Ideal S256x1024 .f32 :=
  k0_pay15
    (k0_pay14 (iblk m c 0 t) (View.ld (iblk m c 6 t) (Rect.unit (s := S1024x3072) ![0, 0] ![1024, 512] inb_S1024x3072_S1024x512_0_0)))
    (iblk m c 1 t) (View.ld (iblk m c 6 t) (Rect.unit (s := S1024x3072) ![0, 512] ![1024, 512] inb_S1024x3072_S1024x512_0_512))
    (iblk m c 2 t) (View.ld (iblk m c 6 t) (Rect.unit (s := S1024x3072) ![0, 1024] ![1024, 512] inb_S1024x3072_S1024x512_0_1024))
    (iblk m c 3 t) (View.ld (iblk m c 6 t) (Rect.unit (s := S1024x3072) ![0, 1536] ![1024, 512] inb_S1024x3072_S1024x512_0_1536))
    (iblk m c 4 t) (View.ld (iblk m c 6 t) (Rect.unit (s := S1024x3072) ![0, 2048] ![1024, 512] inb_S1024x3072_S1024x512_0_2048))
    (iblk m c 5 t) (View.ld (iblk m c 6 t) (Rect.unit (s := S1024x3072) ![0, 2560] ![1024, 512] inb_S1024x3072_S1024x512_0_2560))

/-- The tile is the rows of the whole gradient. -/
theorem dhT_at (c : Dev nD) (t : Fin cfg0.N) (a : Fin 256) (b : Fin 1024) : dhT m c t (ix2 a b) = dhK (secM m c) (wM m c) (row t a) b := by
  unfold dhT
  rw [pay15_at, ← dhK_six]
  refine congrArg₂ (· + ·) (congrArg₂ (· + ·) (congrArg₂ (· + ·) (congrArg₂ (· + ·) (congrArg₂ (· + ·) ?_ ?_) ?_) ?_) ?_) ?_
  · exact Finset.sum_congr rfl fun k _ => congrArg₂ (· * ·) (blk0 m c t a k) ((ldw0 (iblk m c 6 t) _ b k).trans (blk6 m c t b _))
  · exact Finset.sum_congr rfl fun k _ => congrArg₂ (· * ·) (blk1 m c t a k) ((ldw1 (iblk m c 6 t) _ b k).trans (blk6 m c t b _))
  · exact Finset.sum_congr rfl fun k _ => congrArg₂ (· * ·) (blk2 m c t a k) ((ldw2 (iblk m c 6 t) _ b k).trans (blk6 m c t b _))
  · exact Finset.sum_congr rfl fun k _ => congrArg₂ (· * ·) (blk3 m c t a k) ((ldw3 (iblk m c 6 t) _ b k).trans (blk6 m c t b _))
  · exact Finset.sum_congr rfl fun k _ => congrArg₂ (· * ·) (blk4 m c t a k) ((ldw4 (iblk m c 6 t) _ b k).trans (blk6 m c t b _))
  · exact Finset.sum_congr rfl fun k _ => congrArg₂ (· * ·) (blk5 m c t a k) ((ldw5 (iblk m c 6 t) _ b k).trans (blk6 m c t b _))

/-- The point's tile of the product's input. -/
theorem hb_block (c : Dev nD) (t : Fin cfg0.N) (a : Fin 256) (b : Fin 1024) :
    k0_pay13 (iblk m c 7 t) (iblk m c 11 t) (iblk m c 10 t) (iblk m c 9 t) (ix2 a b) = hbK (xM m c) (modM m c) (gM m c) (row t a) b := by
  pointwise [k0_pay13, k0_pay12, k0_pay11, k0_pay10]
  unfold hbK rowR sgK RmsGrad.meanSq
  simp only [blk7, blk9, blk10, blk11]

/-- The point's tile of the residual gradient, over any tile of the product input's gradient. -/
theorem dx_payload (v : Vec Ideal S256x1024 .f32) (g : Vec Ideal S1x1x1024 .f32) (s : Vec Ideal S1x1x1x1024 .f32) (d dh : Vec Ideal S256x1024 .f32)
    (a : Fin 256) (b : Fin 1024) :
    k0_pay1 (k0_pay10 v) d (k0_pay33 (k0_pay12 g s) dh) (k0_pay34 (k0_pay11 v) (k0_pay12 g s) dh) (ix2 a b)
      = d (ix2 a b) + Ideal.rsqrt (RmsGrad.meanSq nLit eLit fun k : Fin 1024 => v (ix2 a k))
          * (dh (ix2 a b) * (g (ix3 0 0 b) * (1 + s (ix4 0 0 0 b)))
            - v (ix2 a b) * Ideal.rsqrt (RmsGrad.meanSq nLit eLit fun k : Fin 1024 => v (ix2 a k))
              * Ideal.div (∑ k : Fin 1024, dh (ix2 a k) * (v (ix2 a k) * Ideal.rsqrt (RmsGrad.meanSq nLit eLit fun k : Fin 1024 => v (ix2 a k)))
                  * (g (ix3 0 0 k) * (1 + s (ix4 0 0 0 k)))) nLit) := by
  pointwise [k0_pay1, k0_pay10, k0_pay33, k0_pay34, k0_pay30, k0_pay11, k0_pay12]
  rfl

/-- The point's tile of the residual gradient. -/
theorem dx_block (c : Dev nD) (t : Fin cfg0.N) (a : Fin 256) (b : Fin 1024) :
    k0_pay1 (k0_pay10 (iblk m c 7 t)) (iblk m c 8 t) (k0_pay33 (k0_pay12 (iblk m c 11 t) (iblk m c 10 t)) (dhT m c t))
        (k0_pay34 (k0_pay11 (iblk m c 7 t)) (k0_pay12 (iblk m c 11 t) (iblk m c 10 t)) (dhT m c t)) (ix2 a b)
      = dxK (dhK (secM m c) (wM m c)) (xM m c) (dxM m c) (sgK (modM m c) (gM m c)) (row t a) b := by
  rw [dx_payload]
  unfold dxK rowR sgK
  simp only [dhT_at, blk7, blk8, blk10, blk11]

end Cert.InKernelIdeal.InValue

end
-- ==== Proof.InPieces.lean ====
module

public import proofs.«01_k».proof.Proof.InPoint

@[expose] public section

set_option maxRecDepth 16384

noncomputable section

namespace Cert.InKernelIdeal.InValue

open Cert.InKernelIdeal Cert.InKernelIdeal.Gen
open Idealize.ShloMosaic Idealize.ShloMosaic.TcCoe Idealize.SL.Sem
open Idealize.ShloMosaic.Pipeline (Dat)

variable (m : (ℓ : Loc nD τ sig) → Buf (Elt Ideal) ℓ)

/-- The weight gradient's column an index of the accumulator stands for: four groups of 768. -/
def colf (y : S4x1024x768.Idx) : Fin 3072 :=
  ⟨768 * (y 0).val + (y 2).val, by have h0 : (y 0).val < 4 := (y 0).isLt; have h2 : (y 2).val < 768 := (y 2).isLt; omega⟩

/-- The stores so far hold `G` at the columns they cover. -/
def Low (G : Fin 1024 → Fin 3072 → EReal) (n : ℕ) (L : List (View.Piece (Elt Ideal) S4x1024x768 .f32)) : Prop :=
  ∀ y : S4x1024x768.Idx, (colf y).val < 256 * n → View.canon (Val := Elt Ideal) L y = G (y 1) (colf y)

/-- The stores so far hold zero at the columns they do not cover yet. -/
def High (n : ℕ) (L : List (View.Piece (Elt Ideal) S4x1024x768 .f32)) : Prop :=
  ∀ y : S4x1024x768.Idx, 256 * n ≤ (colf y).val → View.canon (Val := Elt Ideal) L y = 0

/-- An index outside a store's rectangle lies in another column. -/
theorem outside (n j jo : ℕ) (hn : 768 * j + jo = 256 * n) (y : S4x1024x768.Idx) (h : ¬(256 * n ≤ (colf y).val ∧ (colf y).val < 256 * n + 256)) (hjo : jo + 256 ≤ 768) :
    ∃ a : Fin 3, (y a : Nat) < (![j, 0, jo] : Fin 3 → ℕ) a ∨ (![j, 0, jo] : Fin 3 → ℕ) a + (![1, 1024, 256] : Fin 3 → ℕ) a ≤ y a := by
  have e : (colf y).val = 768 * (y 0).val + (y 2).val := rfl
  have h2 : (y 2).val < 768 := (y 2).isLt
  by_cases h0 : (y 0).val = j
  · refine ⟨2, ?_⟩
    show (y 2).val < jo ∨ jo + 256 ≤ (y 2).val
    omega
  · refine ⟨0, ?_⟩
    show (y 0).val < j ∨ j + 1 ≤ (y 0).val
    omega

/-- One more store, of `G`'s next 256 columns. -/
theorem low_step (G : Fin 1024 → Fin 3072 → EReal) (n j jo : ℕ) (hn : 768 * j + jo = 256 * n ∧ jo + 256 ≤ 768)
    (inb : ∀ a, (![j, 0, jo] : Fin 3 → Nat) a + (![1, 1024, 256] : Fin 3 → Nat) a ≤ S4x1024x768.size a)
    (w : S1x1024x256.Idx → Elt Ideal .f32) (L : List (View.Piece (Elt Ideal) S4x1024x768 .f32)) (hL : Low G n L)
    (hw : ∀ (a : Fin 1024) (b : Fin 256) (h : n * 256 + b.val < 3072), w (ix3 0 a b) = G a ⟨n * 256 + b.val, h⟩) :
    Low G (n + 1) (⟨Rect.unit (s := S4x1024x768) ![j, 0, jo] ![1, 1024, 256] inb, w⟩ :: L) := by
  intro y hy
  have e : (colf y).val = 768 * (y 0).val + (y 2).val := rfl
  have h2 : (y 2).val < 768 := (y 2).isLt
  by_cases h : 256 * n ≤ (colf y).val ∧ (colf y).val < 256 * n + 256
  · have hb : (y 2).val - jo < 256 := by omega
    refine (Halves.canon_in (S := S4x1024x768) ![j, 0, jo] ![1, 1024, 256] inb w L y (ix3 (0 : Fin 1) (y 1) (⟨(y 2).val - jo, hb⟩ : Fin 256)) ?_).trans ?_
    · intro k
      fin_cases k
      · show (y 0).val = j + 0
        omega
      · show (y 1).val = 0 + (y 1).val
        omega
      · show (y 2).val = jo + ((y 2).val - jo)
        omega
    · have hc := (colf y).isLt
      have hlt : n * 256 + ((y 2).val - jo) < 3072 := by omega
      refine (hw (y 1) ⟨(y 2).val - jo, hb⟩ hlt).trans (congrArg (G (y 1)) (Fin.ext ?_))
      show n * 256 + ((y 2).val - jo) = (colf y).val
      omega
  · refine (Halves.canon_out (S := S4x1024x768) _ _ inb _ _ _ (outside n j jo hn.1 y h hn.2)).trans (hL y (by omega))

/-- One more store leaves the later columns as they were. -/
theorem high_step (n j jo : ℕ) (hn : 768 * j + jo = 256 * n ∧ jo + 256 ≤ 768)
    (inb : ∀ a, (![j, 0, jo] : Fin 3 → Nat) a + (![1, 1024, 256] : Fin 3 → Nat) a ≤ S4x1024x768.size a)
    (w : S1x1024x256.Idx → Elt Ideal .f32) (L : List (View.Piece (Elt Ideal) S4x1024x768 .f32)) (hL : High n L) :
    High (n + 1) (⟨Rect.unit (s := S4x1024x768) ![j, 0, jo] ![1, 1024, 256] inb, w⟩ :: L) := fun y hy =>
  (Halves.canon_out (S := S4x1024x768) _ _ inb _ _ _ (outside n j jo hn.1 y (by omega) hn.2)).trans (hL y (by omega))

/-- A load of the next columns reads zero. -/
theorem high_load (n j jo : ℕ) (hn : 768 * j + jo = 256 * n ∧ jo + 256 ≤ 768)
    (inb : ∀ a, (![j, 0, jo] : Fin 3 → Nat) a + (![1, 1024, 256] : Fin 3 → Nat) a ≤ S4x1024x768.size a)
    (L : List (View.Piece (Elt Ideal) S4x1024x768 .f32)) (hL : High n L) (a : Fin 1024) (b : Fin 256) :
    (View.whole cc0_scratch0).readCov (Val := Elt Ideal) L (Rect.unit (s := S4x1024x768) ![j, 0, jo] ![1, 1024, 256] inb).toLoadRect (ix3 0 a b) = (0 : EReal) := by
  rw [View.readCov_eq_canon']
  refine hL _ ?_
  have e0 : ((Rect.unit (s := S4x1024x768) ![j, 0, jo] ![1, 1024, 256] inb).toLoadRect.idx (ix3 (0 : Fin 1) a b) 0).val = j := Rect.idx_unit_val (s := S4x1024x768) _ _ _ _ _
  have e2 : ((Rect.unit (s := S4x1024x768) ![j, 0, jo] ![1, 1024, 256] inb).toLoadRect.idx (ix3 (0 : Fin 1) a b) 2).val = jo + b.val := Rect.idx_unit_val (s := S4x1024x768) _ _ _ _ _
  show 256 * n ≤ 768 * _ + _
  rw [e0, e2]
  omega

/-- A load of a rectangle of the accumulator, at an index. -/
theorem ldacc (X : S4x1024x768.Idx → EReal) (n j jo : ℕ) (hn : 768 * j + jo = 256 * n ∧ jo + 256 ≤ 768)
    (inb : ∀ a, (![j, 0, jo] : Fin 3 → Nat) a + (![1, 1024, 256] : Fin 3 → Nat) a ≤ S4x1024x768.size a) (a : Fin 1024) (b : Fin 256) (h : n * 256 + b.val < 3072) :
    View.ld (Val := Elt Ideal) (e' := .f32) X (Rect.unit (s := S4x1024x768) ![j, 0, jo] ![1, 1024, 256] inb) (ix3 (0 : Fin 1) a b)
      = X (ix3 ⟨(n * 256 + b.val) / 768, by omega⟩ a ⟨(n * 256 + b.val) % 768, by omega⟩) :=
  View.ld_unit_apply_of (Val := Elt Ideal) (e := .f32) X ![j, 0, jo] ![1, 1024, 256] inb (ix3 (0 : Fin 1) a b) _ (by
    have := b.isLt
    intro k
    fin_cases k
    · show (n * 256 + b.val) / 768 = j + 0
      omega
    · show a.val = 0 + a.val
      omega
    · show (n * 256 + b.val) % 768 = jo + b.val
      omega)

/-- The product's input at the memory `m`. -/
abbrev hbM (c : Dev nD) (i : Fin 2048) (a : Fin 1024) : EReal := hbK (xM m c) (modM m c) (gM m c) i a

/-- What one point adds to the weight gradient. -/
def dwTerm (c : Dev nD) (t : Fin cfg0.N) (a : Fin 1024) (k : Fin 3072) : EReal := ∑ i : Fin 256, hbM m c (row t i) a * cat6 (secM m c) (row t i) k

/-- Piece 0 of the weight gradient's accumulation. -/
theorem piece0 (hb : FVec Ideal S256x1024 .bf16) (v : Vec Ideal S1x1024x256 .f32) (d : Vec Ideal S256x256 .bf16) (a : Fin 1024) (b : Fin 256) :
    k0_pay16 hb v d (ix3 0 a b) = v (ix3 0 a b) + ∑ i : Fin 256, hb (ix2 i a) * d (ix2 i b) := by
  pointwise [k0_pay16]

/-- Piece 1 of the weight gradient's accumulation. -/
theorem piece1 (hb : FVec Ideal S256x1024 .bf16) (v : Vec Ideal S1x1024x256 .f32) (d : Vec Ideal S256x256 .bf16) (a : Fin 1024) (b : Fin 256) :
    k0_pay17 hb v d (ix3 0 a b) = v (ix3 0 a b) + ∑ i : Fin 256, hb (ix2 i a) * d (ix2 i b) := by
  pointwise [k0_pay17]

/-- Piece 2 of the weight gradient's accumulation. -/
theorem piece2 (hb : FVec Ideal S256x1024 .bf16) (v : Vec Ideal S1x1024x256 .f32) (d : Vec Ideal S256x256 .bf16) (a : Fin 1024) (b : Fin 256) :
    k0_pay18 hb v d (ix3 0 a b) = v (ix3 0 a b) + ∑ i : Fin 256, hb (ix2 i a) * d (ix2 i b) := by
  pointwise [k0_pay18]

/-- Piece 3 of the weight gradient's accumulation. -/
theorem piece3 (hb : FVec Ideal S256x1024 .bf16) (v : Vec Ideal S1x1024x256 .f32) (d : Vec Ideal S256x256 .bf16) (a : Fin 1024) (b : Fin 256) :
    k0_pay19 hb v d (ix3 0 a b) = v (ix3 0 a b) + ∑ i : Fin 256, hb (ix2 i a) * d (ix2 i b) := by
  pointwise [k0_pay19]

/-- Piece 5 of the weight gradient's accumulation. -/
theorem piece5 (hb : FVec Ideal S256x1024 .bf16) (v : Vec Ideal S1x1024x256 .f32) (d : Vec Ideal S256x256 .bf16) (a : Fin 1024) (b : Fin 256) :
    k0_pay22 hb v d (ix3 0 a b) = v (ix3 0 a b) + ∑ i : Fin 256, hb (ix2 i a) * d (ix2 i b) := by
  pointwise [k0_pay22]

/-- Piece 6 of the weight gradient's accumulation. -/
theorem piece6 (hb : FVec Ideal S256x1024 .bf16) (v : Vec Ideal S1x1024x256 .f32) (d : Vec Ideal S256x256 .bf16) (a : Fin 1024) (b : Fin 256) :
    k0_pay23 hb v d (ix3 0 a b) = v (ix3 0 a b) + ∑ i : Fin 256, hb (ix2 i a) * d (ix2 i b) := by
  pointwise [k0_pay23]

/-- Piece 8 of the weight gradient's accumulation. -/
theorem piece8 (hb : FVec Ideal S256x1024 .bf16) (v : Vec Ideal S1x1024x256 .f32) (d : Vec Ideal S256x256 .bf16) (a : Fin 1024) (b : Fin 256) :
    k0_pay26 hb v d (ix3 0 a b) = v (ix3 0 a b) + ∑ i : Fin 256, hb (ix2 i a) * d (ix2 i b) := by
  pointwise [k0_pay26]

/-- Piece 9 of the weight gradient's accumulation. -/
theorem piece9 (hb : FVec Ideal S256x1024 .bf16) (v : Vec Ideal S1x1024x256 .f32) (d : Vec Ideal S256x256 .bf16) (a : Fin 1024) (b : Fin 256) :
    k0_pay27 hb v d (ix3 0 a b) = v (ix3 0 a b) + ∑ i : Fin 256, hb (ix2 i a) * d (ix2 i b) := by
  pointwise [k0_pay27]

/-- Piece 10 of the weight gradient's accumulation. -/
theorem piece10 (hb : FVec Ideal S256x1024 .bf16) (v : Vec Ideal S1x1024x256 .f32) (d : Vec Ideal S256x256 .bf16) (a : Fin 1024) (b : Fin 256) :
    k0_pay28 hb v d (ix3 0 a b) = v (ix3 0 a b) + ∑ i : Fin 256, hb (ix2 i a) * d (ix2 i b) := by
  pointwise [k0_pay28]

/-- Piece 11 of the weight gradient's accumulation. -/
theorem piece11 (hb : FVec Ideal S256x1024 .bf16) (v : Vec Ideal S1x1024x256 .f32) (d : Vec Ideal S256x256 .bf16) (a : Fin 1024) (b : Fin 256) :
    k0_pay29 hb v d (ix3 0 a b) = v (ix3 0 a b) + ∑ i : Fin 256, hb (ix2 i a) * d (ix2 i b) := by
  pointwise [k0_pay29]

/-- Piece 4 of the weight gradient's accumulation. -/
theorem piece4 (hb : FVec Ideal S256x1024 .bf16) (v : Vec Ideal S1x1024x256 .f32) (d : Vec Ideal S256x256 .bf16) (a : Fin 1024) (b : Fin 256) :
    k0_pay21 hb (k0_pay20 v) d (ix3 0 a b) = v (ix3 0 a b) + ∑ i : Fin 256, hb (ix2 i a) * d (ix2 i b) := by
  pointwise [k0_pay21, k0_pay20]

/-- Piece 7 of the weight gradient's accumulation. -/
theorem piece7 (hb : FVec Ideal S256x1024 .bf16) (v : Vec Ideal S1x1024x256 .f32) (d : Vec Ideal S256x256 .bf16) (a : Fin 1024) (b : Fin 256) :
    k0_pay25 (k0_pay24 hb v d) (ix3 0 a b) = v (ix3 0 a b) + ∑ i : Fin 256, hb (ix2 i a) * d (ix2 i b) := by
  pointwise [k0_pay25, k0_pay24]

/-- Piece 0's share of a point's term. -/
theorem term0 (c : Dev nD) (t : Fin cfg0.N) (inb : ∀ a, (![0, 0] : Fin 2 → Nat) a + (![256, 256] : Fin 2 → Nat) a ≤ S256x512.size a)
    (a : Fin 1024) (b : Fin 256) (h : 0 * 256 + b.val < 3072)
    (hb : FVec Ideal S256x1024 .bf16) (hh : ∀ i, hb (ix2 i a) = hbM m c (row t i) a) (d : S256x256.Idx → EReal)
    (hd : d = View.ld (Val := Elt Ideal) (e' := .bf16) (iblk m c 0 t) (Rect.unit (s := S256x512) ![0, 0] ![256, 256] inb)) :
    (∑ i : Fin 256, hb (ix2 i a) * d (ix2 i b)) = dwTerm m c t a ⟨0 * 256 + b.val, h⟩ := by
  subst hd
  unfold dwTerm
  refine Finset.sum_congr rfl fun i _ => congrArg₂ (· * ·) (hh i) ?_
  refine (View.ld_unit_apply_of (Val := Elt Ideal) (e := .bf16) (iblk m c 0 t) ![0, 0] ![256, 256] inb (ix2 i b)
    (ix2 i ⟨0 + b.val, by have := b.isLt; omega⟩) (by intro k; fin_cases k <;> simp)).trans ?_
  refine (blk0 m c t i _).trans ?_
  refine (cat6_0 (secM m c) (row t i) ⟨0 + b.val, by have := b.isLt; omega⟩ (by have := b.isLt; show 0 * 512 + (0 + b.val) < 3072; omega)).symm.trans ?_
  exact congrArg (cat6 (secM m c) (row t i)) (Fin.ext (by show 0 * 512 + (0 + b.val) = 0 * 256 + b.val; omega))

/-- Piece 1's share of a point's term. -/
theorem term1 (c : Dev nD) (t : Fin cfg0.N) (inb : ∀ a, (![0, 256] : Fin 2 → Nat) a + (![256, 256] : Fin 2 → Nat) a ≤ S256x512.size a)
    (a : Fin 1024) (b : Fin 256) (h : 1 * 256 + b.val < 3072)
    (hb : FVec Ideal S256x1024 .bf16) (hh : ∀ i, hb (ix2 i a) = hbM m c (row t i) a) (d : S256x256.Idx → EReal)
    (hd : d = View.ld (Val := Elt Ideal) (e' := .bf16) (iblk m c 0 t) (Rect.unit (s := S256x512) ![0, 256] ![256, 256] inb)) :
    (∑ i : Fin 256, hb (ix2 i a) * d (ix2 i b)) = dwTerm m c t a ⟨1 * 256 + b.val, h⟩ := by
  subst hd
  unfold dwTerm
  refine Finset.sum_congr rfl fun i _ => congrArg₂ (· * ·) (hh i) ?_
  refine (View.ld_unit_apply_of (Val := Elt Ideal) (e := .bf16) (iblk m c 0 t) ![0, 256] ![256, 256] inb (ix2 i b)
    (ix2 i ⟨256 + b.val, by have := b.isLt; omega⟩) (by intro k; fin_cases k <;> simp)).trans ?_
  refine (blk0 m c t i _).trans ?_
  refine (cat6_0 (secM m c) (row t i) ⟨256 + b.val, by have := b.isLt; omega⟩ (by have := b.isLt; show 0 * 512 + (256 + b.val) < 3072; omega)).symm.trans ?_
  exact congrArg (cat6 (secM m c) (row t i)) (Fin.ext (by show 0 * 512 + (256 + b.val) = 1 * 256 + b.val; omega))

/-- Piece 2's share of a point's term. -/
theorem term2 (c : Dev nD) (t : Fin cfg0.N) (inb : ∀ a, (![0, 0] : Fin 2 → Nat) a + (![256, 256] : Fin 2 → Nat) a ≤ S256x512.size a)
    (a : Fin 1024) (b : Fin 256) (h : 2 * 256 + b.val < 3072)
    (hb : FVec Ideal S256x1024 .bf16) (hh : ∀ i, hb (ix2 i a) = hbM m c (row t i) a) (d : S256x256.Idx → EReal)
    (hd : d = View.ld (Val := Elt Ideal) (e' := .bf16) (iblk m c 1 t) (Rect.unit (s := S256x512) ![0, 0] ![256, 256] inb)) :
    (∑ i : Fin 256, hb (ix2 i a) * d (ix2 i b)) = dwTerm m c t a ⟨2 * 256 + b.val, h⟩ := by
  subst hd
  unfold dwTerm
  refine Finset.sum_congr rfl fun i _ => congrArg₂ (· * ·) (hh i) ?_
  refine (View.ld_unit_apply_of (Val := Elt Ideal) (e := .bf16) (iblk m c 1 t) ![0, 0] ![256, 256] inb (ix2 i b)
    (ix2 i ⟨0 + b.val, by have := b.isLt; omega⟩) (by intro k; fin_cases k <;> simp)).trans ?_
  refine (blk1 m c t i _).trans ?_
  refine (cat6_1 (secM m c) (row t i) ⟨0 + b.val, by have := b.isLt; omega⟩ (by have := b.isLt; show 1 * 512 + (0 + b.val) < 3072; omega)).symm.trans ?_
  exact congrArg (cat6 (secM m c) (row t i)) (Fin.ext (by show 1 * 512 + (0 + b.val) = 2 * 256 + b.val; omega))

/-- Piece 3's share of a point's term. -/
theorem term3 (c : Dev nD) (t : Fin cfg0.N) (inb : ∀ a, (![0, 256] : Fin 2 → Nat) a + (![256, 256] : Fin 2 → Nat) a ≤ S256x512.size a)
    (a : Fin 1024) (b : Fin 256) (h : 3 * 256 + b.val < 3072)
    (hb : FVec Ideal S256x1024 .bf16) (hh : ∀ i, hb (ix2 i a) = hbM m c (row t i) a) (d : S256x256.Idx → EReal)
    (hd : d = View.ld (Val := Elt Ideal) (e' := .bf16) (iblk m c 1 t) (Rect.unit (s := S256x512) ![0, 256] ![256, 256] inb)) :
    (∑ i : Fin 256, hb (ix2 i a) * d (ix2 i b)) = dwTerm m c t a ⟨3 * 256 + b.val, h⟩ := by
  subst hd
  unfold dwTerm
  refine Finset.sum_congr rfl fun i _ => congrArg₂ (· * ·) (hh i) ?_
  refine (View.ld_unit_apply_of (Val := Elt Ideal) (e := .bf16) (iblk m c 1 t) ![0, 256] ![256, 256] inb (ix2 i b)
    (ix2 i ⟨256 + b.val, by have := b.isLt; omega⟩) (by intro k; fin_cases k <;> simp)).trans ?_
  refine (blk1 m c t i _).trans ?_
  refine (cat6_1 (secM m c) (row t i) ⟨256 + b.val, by have := b.isLt; omega⟩ (by have := b.isLt; show 1 * 512 + (256 + b.val) < 3072; omega)).symm.trans ?_
  exact congrArg (cat6 (secM m c) (row t i)) (Fin.ext (by show 1 * 512 + (256 + b.val) = 3 * 256 + b.val; omega))

/-- Piece 4's share of a point's term. -/
theorem term4 (c : Dev nD) (t : Fin cfg0.N) (inb : ∀ a, (![0, 0] : Fin 2 → Nat) a + (![256, 256] : Fin 2 → Nat) a ≤ S256x512.size a)
    (a : Fin 1024) (b : Fin 256) (h : 4 * 256 + b.val < 3072)
    (hb : FVec Ideal S256x1024 .bf16) (hh : ∀ i, hb (ix2 i a) = hbM m c (row t i) a) (d : S256x256.Idx → EReal)
    (hd : d = View.ld (Val := Elt Ideal) (e' := .bf16) (iblk m c 2 t) (Rect.unit (s := S256x512) ![0, 0] ![256, 256] inb)) :
    (∑ i : Fin 256, hb (ix2 i a) * d (ix2 i b)) = dwTerm m c t a ⟨4 * 256 + b.val, h⟩ := by
  subst hd
  unfold dwTerm
  refine Finset.sum_congr rfl fun i _ => congrArg₂ (· * ·) (hh i) ?_
  refine (View.ld_unit_apply_of (Val := Elt Ideal) (e := .bf16) (iblk m c 2 t) ![0, 0] ![256, 256] inb (ix2 i b)
    (ix2 i ⟨0 + b.val, by have := b.isLt; omega⟩) (by intro k; fin_cases k <;> simp)).trans ?_
  refine (blk2 m c t i _).trans ?_
  refine (cat6_2 (secM m c) (row t i) ⟨0 + b.val, by have := b.isLt; omega⟩ (by have := b.isLt; show 2 * 512 + (0 + b.val) < 3072; omega)).symm.trans ?_
  exact congrArg (cat6 (secM m c) (row t i)) (Fin.ext (by show 2 * 512 + (0 + b.val) = 4 * 256 + b.val; omega))

/-- Piece 5's share of a point's term. -/
theorem term5 (c : Dev nD) (t : Fin cfg0.N) (inb : ∀ a, (![0, 256] : Fin 2 → Nat) a + (![256, 256] : Fin 2 → Nat) a ≤ S256x512.size a)
    (a : Fin 1024) (b : Fin 256) (h : 5 * 256 + b.val < 3072)
    (hb : FVec Ideal S256x1024 .bf16) (hh : ∀ i, hb (ix2 i a) = hbM m c (row t i) a) (d : S256x256.Idx → EReal)
    (hd : d = View.ld (Val := Elt Ideal) (e' := .bf16) (iblk m c 2 t) (Rect.unit (s := S256x512) ![0, 256] ![256, 256] inb)) :
    (∑ i : Fin 256, hb (ix2 i a) * d (ix2 i b)) = dwTerm m c t a ⟨5 * 256 + b.val, h⟩ := by
  subst hd
  unfold dwTerm
  refine Finset.sum_congr rfl fun i _ => congrArg₂ (· * ·) (hh i) ?_
  refine (View.ld_unit_apply_of (Val := Elt Ideal) (e := .bf16) (iblk m c 2 t) ![0, 256] ![256, 256] inb (ix2 i b)
    (ix2 i ⟨256 + b.val, by have := b.isLt; omega⟩) (by intro k; fin_cases k <;> simp)).trans ?_
  refine (blk2 m c t i _).trans ?_
  refine (cat6_2 (secM m c) (row t i) ⟨256 + b.val, by have := b.isLt; omega⟩ (by have := b.isLt; show 2 * 512 + (256 + b.val) < 3072; omega)).symm.trans ?_
  exact congrArg (cat6 (secM m c) (row t i)) (Fin.ext (by show 2 * 512 + (256 + b.val) = 5 * 256 + b.val; omega))

/-- Piece 6's share of a point's term. -/
theorem term6 (c : Dev nD) (t : Fin cfg0.N) (inb : ∀ a, (![0, 0] : Fin 2 → Nat) a + (![256, 256] : Fin 2 → Nat) a ≤ S256x512.size a)
    (a : Fin 1024) (b : Fin 256) (h : 6 * 256 + b.val < 3072)
    (hb : FVec Ideal S256x1024 .bf16) (hh : ∀ i, hb (ix2 i a) = hbM m c (row t i) a) (d : S256x256.Idx → EReal)
    (hd : d = View.ld (Val := Elt Ideal) (e' := .bf16) (iblk m c 3 t) (Rect.unit (s := S256x512) ![0, 0] ![256, 256] inb)) :
    (∑ i : Fin 256, hb (ix2 i a) * d (ix2 i b)) = dwTerm m c t a ⟨6 * 256 + b.val, h⟩ := by
  subst hd
  unfold dwTerm
  refine Finset.sum_congr rfl fun i _ => congrArg₂ (· * ·) (hh i) ?_
  refine (View.ld_unit_apply_of (Val := Elt Ideal) (e := .bf16) (iblk m c 3 t) ![0, 0] ![256, 256] inb (ix2 i b)
    (ix2 i ⟨0 + b.val, by have := b.isLt; omega⟩) (by intro k; fin_cases k <;> simp)).trans ?_
  refine (blk3 m c t i _).trans ?_
  refine (cat6_3 (secM m c) (row t i) ⟨0 + b.val, by have := b.isLt; omega⟩ (by have := b.isLt; show 3 * 512 + (0 + b.val) < 3072; omega)).symm.trans ?_
  exact congrArg (cat6 (secM m c) (row t i)) (Fin.ext (by show 3 * 512 + (0 + b.val) = 6 * 256 + b.val; omega))

/-- Piece 7's share of a point's term. -/
theorem term7 (c : Dev nD) (t : Fin cfg0.N) (inb : ∀ a, (![0, 256] : Fin 2 → Nat) a + (![256, 256] : Fin 2 → Nat) a ≤ S256x512.size a)
    (a : Fin 1024) (b : Fin 256) (h : 7 * 256 + b.val < 3072)
    (hb : FVec Ideal S256x1024 .bf16) (hh : ∀ i, hb (ix2 i a) = hbM m c (row t i) a) (d : S256x256.Idx → EReal)
    (hd : d = View.ld (Val := Elt Ideal) (e' := .bf16) (iblk m c 3 t) (Rect.unit (s := S256x512) ![0, 256] ![256, 256] inb)) :
    (∑ i : Fin 256, hb (ix2 i a) * d (ix2 i b)) = dwTerm m c t a ⟨7 * 256 + b.val, h⟩ := by
  subst hd
  unfold dwTerm
  refine Finset.sum_congr rfl fun i _ => congrArg₂ (· * ·) (hh i) ?_
  refine (View.ld_unit_apply_of (Val := Elt Ideal) (e := .bf16) (iblk m c 3 t) ![0, 256] ![256, 256] inb (ix2 i b)
    (ix2 i ⟨256 + b.val, by have := b.isLt; omega⟩) (by intro k; fin_cases k <;> simp)).trans ?_
  refine (blk3 m c t i _).trans ?_
  refine (cat6_3 (secM m c) (row t i) ⟨256 + b.val, by have := b.isLt; omega⟩ (by have := b.isLt; show 3 * 512 + (256 + b.val) < 3072; omega)).symm.trans ?_
  exact congrArg (cat6 (secM m c) (row t i)) (Fin.ext (by show 3 * 512 + (256 + b.val) = 7 * 256 + b.val; omega))

/-- Piece 8's share of a point's term. -/
theorem term8 (c : Dev nD) (t : Fin cfg0.N) (inb : ∀ a, (![0, 0] : Fin 2 → Nat) a + (![256, 256] : Fin 2 → Nat) a ≤ S256x512.size a)
    (a : Fin 1024) (b : Fin 256) (h : 8 * 256 + b.val < 3072)
    (hb : FVec Ideal S256x1024 .bf16) (hh : ∀ i, hb (ix2 i a) = hbM m c (row t i) a) (d : S256x256.Idx → EReal)
    (hd : d = View.ld (Val := Elt Ideal) (e' := .bf16) (iblk m c 4 t) (Rect.unit (s := S256x512) ![0, 0] ![256, 256] inb)) :
    (∑ i : Fin 256, hb (ix2 i a) * d (ix2 i b)) = dwTerm m c t a ⟨8 * 256 + b.val, h⟩ := by
  subst hd
  unfold dwTerm
  refine Finset.sum_congr rfl fun i _ => congrArg₂ (· * ·) (hh i) ?_
  refine (View.ld_unit_apply_of (Val := Elt Ideal) (e := .bf16) (iblk m c 4 t) ![0, 0] ![256, 256] inb (ix2 i b)
    (ix2 i ⟨0 + b.val, by have := b.isLt; omega⟩) (by intro k; fin_cases k <;> simp)).trans ?_
  refine (blk4 m c t i _).trans ?_
  refine (cat6_4 (secM m c) (row t i) ⟨0 + b.val, by have := b.isLt; omega⟩ (by have := b.isLt; show 4 * 512 + (0 + b.val) < 3072; omega)).symm.trans ?_
  exact congrArg (cat6 (secM m c) (row t i)) (Fin.ext (by show 4 * 512 + (0 + b.val) = 8 * 256 + b.val; omega))

/-- Piece 9's share of a point's term. -/
theorem term9 (c : Dev nD) (t : Fin cfg0.N) (inb : ∀ a, (![0, 256] : Fin 2 → Nat) a + (![256, 256] : Fin 2 → Nat) a ≤ S256x512.size a)
    (a : Fin 1024) (b : Fin 256) (h : 9 * 256 + b.val < 3072)
    (hb : FVec Ideal S256x1024 .bf16) (hh : ∀ i, hb (ix2 i a) = hbM m c (row t i) a) (d : S256x256.Idx → EReal)
    (hd : d = View.ld (Val := Elt Ideal) (e' := .bf16) (iblk m c 4 t) (Rect.unit (s := S256x512) ![0, 256] ![256, 256] inb)) :
    (∑ i : Fin 256, hb (ix2 i a) * d (ix2 i b)) = dwTerm m c t a ⟨9 * 256 + b.val, h⟩ := by
  subst hd
  unfold dwTerm
  refine Finset.sum_congr rfl fun i _ => congrArg₂ (· * ·) (hh i) ?_
  refine (View.ld_unit_apply_of (Val := Elt Ideal) (e := .bf16) (iblk m c 4 t) ![0, 256] ![256, 256] inb (ix2 i b)
    (ix2 i ⟨256 + b.val, by have := b.isLt; omega⟩) (by intro k; fin_cases k <;> simp)).trans ?_
  refine (blk4 m c t i _).trans ?_
  refine (cat6_4 (secM m c) (row t i) ⟨256 + b.val, by have := b.isLt; omega⟩ (by have := b.isLt; show 4 * 512 + (256 + b.val) < 3072; omega)).symm.trans ?_
  exact congrArg (cat6 (secM m c) (row t i)) (Fin.ext (by show 4 * 512 + (256 + b.val) = 9 * 256 + b.val; omega))

/-- Piece 10's share of a point's term. -/
theorem term10 (c : Dev nD) (t : Fin cfg0.N) (inb : ∀ a, (![0, 0] : Fin 2 → Nat) a + (![256, 256] : Fin 2 → Nat) a ≤ S256x512.size a)
    (a : Fin 1024) (b : Fin 256) (h : 10 * 256 + b.val < 3072)
    (hb : FVec Ideal S256x1024 .bf16) (hh : ∀ i, hb (ix2 i a) = hbM m c (row t i) a) (d : S256x256.Idx → EReal)
    (hd : d = View.ld (Val := Elt Ideal) (e' := .bf16) (iblk m c 5 t) (Rect.unit (s := S256x512) ![0, 0] ![256, 256] inb)) :
    (∑ i : Fin 256, hb (ix2 i a) * d (ix2 i b)) = dwTerm m c t a ⟨10 * 256 + b.val, h⟩ := by
  subst hd
  unfold dwTerm
  refine Finset.sum_congr rfl fun i _ => congrArg₂ (· * ·) (hh i) ?_
  refine (View.ld_unit_apply_of (Val := Elt Ideal) (e := .bf16) (iblk m c 5 t) ![0, 0] ![256, 256] inb (ix2 i b)
    (ix2 i ⟨0 + b.val, by have := b.isLt; omega⟩) (by intro k; fin_cases k <;> simp)).trans ?_
  refine (blk5 m c t i _).trans ?_
  refine (cat6_5 (secM m c) (row t i) ⟨0 + b.val, by have := b.isLt; omega⟩ (by have := b.isLt; show 5 * 512 + (0 + b.val) < 3072; omega)).symm.trans ?_
  exact congrArg (cat6 (secM m c) (row t i)) (Fin.ext (by show 5 * 512 + (0 + b.val) = 10 * 256 + b.val; omega))

/-- Piece 11's share of a point's term. -/
theorem term11 (c : Dev nD) (t : Fin cfg0.N) (inb : ∀ a, (![0, 256] : Fin 2 → Nat) a + (![256, 256] : Fin 2 → Nat) a ≤ S256x512.size a)
    (a : Fin 1024) (b : Fin 256) (h : 11 * 256 + b.val < 3072)
    (hb : FVec Ideal S256x1024 .bf16) (hh : ∀ i, hb (ix2 i a) = hbM m c (row t i) a) (d : S256x256.Idx → EReal)
    (hd : d = View.ld (Val := Elt Ideal) (e' := .bf16) (iblk m c 5 t) (Rect.unit (s := S256x512) ![0, 256] ![256, 256] inb)) :
    (∑ i : Fin 256, hb (ix2 i a) * d (ix2 i b)) = dwTerm m c t a ⟨11 * 256 + b.val, h⟩ := by
  subst hd
  unfold dwTerm
  refine Finset.sum_congr rfl fun i _ => congrArg₂ (· * ·) (hh i) ?_
  refine (View.ld_unit_apply_of (Val := Elt Ideal) (e := .bf16) (iblk m c 5 t) ![0, 256] ![256, 256] inb (ix2 i b)
    (ix2 i ⟨256 + b.val, by have := b.isLt; omega⟩) (by intro k; fin_cases k <;> simp)).trans ?_
  refine (blk5 m c t i _).trans ?_
  refine (cat6_5 (secM m c) (row t i) ⟨256 + b.val, by have := b.isLt; omega⟩ (by have := b.isLt; show 5 * 512 + (256 + b.val) < 3072; omega)).symm.trans ?_
  exact congrArg (cat6 (secM m c) (row t i)) (Fin.ext (by show 5 * 512 + (256 + b.val) = 11 * 256 + b.val; omega))

end Cert.InKernelIdeal.InValue

end
-- ==== Proof.InAccW.lean ====
module

public import proofs.«01_k».proof.Proof.InPieces

@[expose] public section

set_option maxRecDepth 16384

noncomputable section

namespace Cert.InKernelIdeal.InValue

open Cert.InKernelIdeal Cert.InKernelIdeal.Gen
open Idealize.ShloMosaic Idealize.ShloMosaic.TcCoe Idealize.SL.Sem
open Idealize.ShloMosaic.Pipeline (Dat)

variable (m : (ℓ : Loc nD τ sig) → Buf (Elt Ideal) ℓ)

/-- The stores so far hold `G`, and zero beyond. -/
def LH (G : Fin 1024 → Fin 3072 → EReal) (n : ℕ) (L : List (View.Piece (Elt Ideal) S4x1024x768 .f32)) : Prop := Low G n L ∧ High n L

/-- One more store over zeros, of `G`'s next columns. -/
theorem lh_step (G : Fin 1024 → Fin 3072 → EReal) (n j jo : ℕ) (hn : 768 * j + jo = 256 * n ∧ jo + 256 ≤ 768)
    (inb : ∀ a, (![j, 0, jo] : Fin 3 → Nat) a + (![1, 1024, 256] : Fin 3 → Nat) a ≤ S4x1024x768.size a)
    (w : S1x1024x256.Idx → Elt Ideal .f32) (L : List (View.Piece (Elt Ideal) S4x1024x768 .f32)) (hL : LH G n L)
    (hw : High n L → ∀ (a : Fin 1024) (b : Fin 256) (h : n * 256 + b.val < 3072), w (ix3 0 a b) = G a ⟨n * 256 + b.val, h⟩) :
    LH G (n + 1) (⟨Rect.unit (s := S4x1024x768) ![j, 0, jo] ![1, 1024, 256] inb, w⟩ :: L) :=
  ⟨low_step G n j jo hn inb w L hL.1 (hw hL.2), high_step n j jo hn inb w L hL.2⟩

/-- After twelve stores the whole accumulator holds `G`. -/
theorem low_done (G : Fin 1024 → Fin 3072 → EReal) (L : List (View.Piece (Elt Ideal) S4x1024x768 .f32)) (h : Low G 12 L) (y : S4x1024x768.Idx) :
    View.canon (Val := Elt Ideal) L y = G (y 1) (colf y) := h y (by have := (colf y).isLt; omega)

/-- The same over zeros. -/
theorem lh_done (G : Fin 1024 → Fin 3072 → EReal) (L : List (View.Piece (Elt Ideal) S4x1024x768 .f32)) (h : LH G 12 L) (y : S4x1024x768.Idx) :
    View.canon (Val := Elt Ideal) L y = G (y 1) (colf y) := low_done G L h.1 y

/-- The fill with zero. -/
theorem pay7_at (i : S4x1024x768.Idx) : k0_pay7 (F := Ideal) i = 0 := by
  obtain ⟨a, b, d, rfl⟩ : ∃ a b d, i = ix3 a b d := ⟨i 0, i 1, i 2, by funext k; fin_cases k <;> rfl⟩
  pointwise [k0_pay7]

/-- The fill leaves zeros everywhere. -/
theorem lh_fill (G : Fin 1024 → Fin 3072 → EReal) (inb : ∀ a, (![0, 0, 0] : Fin 3 → Nat) a + S4x1024x768.size a ≤ S4x1024x768.size a) :
    LH G 0 [⟨Rect.unit (s := S4x1024x768) ![0, 0, 0] S4x1024x768.size inb, k0_pay7 (F := Ideal)⟩] := by
  refine ⟨fun y hy => absurd hy (by omega), fun y _ => ?_⟩
  refine (Halves.canon_in (S := S4x1024x768) ![0, 0, 0] S4x1024x768.size inb _ _ y y ?_).trans (pay7_at y)
  intro k
  fin_cases k <;> exact (Nat.zero_add _).symm

/-- The first point leaves its term. -/
theorem s0_A (c : Dev nD) (t : Fin cfg0.N) (h0 : (t : Nat) % 8 = 0) (h1 : ¬(t : Nat) % 8 = 7) (y : S4x1024x768.Idx) :
    (outsAt0 m c t.val t.isLt).2.2.2.2.2.1 y = 0 + dwTerm m c t (y 1) (colf y) := by
  rw [outsAt0_A m c t h0 h1]
  frame_out
  refine lh_done (fun a k => 0 + dwTerm m c t a k) _ ?_ y
  refine lh_step _ 11 3 512 (by decide) _ _ _ ?_ fun hH a b h => (piece11 _ _ _ a b).trans (congrArg₂ (· + ·)
    (high_load 11 3 512 (by decide) _ _ hH a b) (term11 m c t _ a b h _ (fun i => hb_block m c t i a) _ rfl))
  refine lh_step _ 10 3 256 (by decide) _ _ _ ?_ fun hH a b h => (piece10 _ _ _ a b).trans (congrArg₂ (· + ·)
    (high_load 10 3 256 (by decide) _ _ hH a b) (term10 m c t _ a b h _ (fun i => hb_block m c t i a) _ rfl))
  refine lh_step _ 9 3 0 (by decide) _ _ _ ?_ fun hH a b h => (piece9 _ _ _ a b).trans (congrArg₂ (· + ·)
    (high_load 9 3 0 (by decide) _ _ hH a b) (term9 m c t _ a b h _ (fun i => hb_block m c t i a) _ rfl))
  refine lh_step _ 8 2 512 (by decide) _ _ _ ?_ fun hH a b h => (piece8 _ _ _ a b).trans (congrArg₂ (· + ·)
    (high_load 8 2 512 (by decide) _ _ hH a b) (term8 m c t _ a b h _ (fun i => hb_block m c t i a) _ rfl))
  refine lh_step _ 7 2 256 (by decide) _ _ _ ?_ fun hH a b h => (piece7 _ _ _ a b).trans (congrArg₂ (· + ·)
    (high_load 7 2 256 (by decide) _ _ hH a b) (term7 m c t _ a b h _ (fun i => hb_block m c t i a) _ rfl))
  refine lh_step _ 6 2 0 (by decide) _ _ _ ?_ fun hH a b h => (piece6 _ _ _ a b).trans (congrArg₂ (· + ·)
    (high_load 6 2 0 (by decide) _ _ hH a b) (term6 m c t _ a b h _ (fun i => hb_block m c t i a) _ rfl))
  refine lh_step _ 5 1 512 (by decide) _ _ _ ?_ fun hH a b h => (piece5 _ _ _ a b).trans (congrArg₂ (· + ·)
    (high_load 5 1 512 (by decide) _ _ hH a b) (term5 m c t _ a b h _ (fun i => hb_block m c t i a) _ rfl))
  refine lh_step _ 4 1 256 (by decide) _ _ _ ?_ fun hH a b h => (piece4 _ _ _ a b).trans (congrArg₂ (· + ·)
    (high_load 4 1 256 (by decide) _ _ hH a b) (term4 m c t _ a b h _ (fun i => hb_block m c t i a) _ rfl))
  refine lh_step _ 3 1 0 (by decide) _ _ _ ?_ fun hH a b h => (piece3 _ _ _ a b).trans (congrArg₂ (· + ·)
    (high_load 3 1 0 (by decide) _ _ hH a b) (term3 m c t _ a b h _ (fun i => hb_block m c t i a) _ rfl))
  refine lh_step _ 2 0 512 (by decide) _ _ _ ?_ fun hH a b h => (piece2 _ _ _ a b).trans (congrArg₂ (· + ·)
    (high_load 2 0 512 (by decide) _ _ hH a b) (term2 m c t _ a b h _ (fun i => hb_block m c t i a) _ rfl))
  refine lh_step _ 1 0 256 (by decide) _ _ _ ?_ fun hH a b h => (piece1 _ _ _ a b).trans (congrArg₂ (· + ·)
    (high_load 1 0 256 (by decide) _ _ hH a b) (term1 m c t _ a b h _ (fun i => hb_block m c t i a) _ rfl))
  refine lh_step _ 0 0 0 (by decide) _ _ _ ?_ fun hH a b h => (piece0 _ _ _ a b).trans (congrArg₂ (· + ·)
    (high_load 0 0 0 (by decide) _ _ hH a b) (term0 m c t _ a b h _ (fun i => hb_block m c t i a) _ rfl))
  exact lh_fill _ _

/-- The accumulator's index of a column. -/
def idxOf (a : Fin 1024) (k : Fin 3072) : S4x1024x768.Idx :=
  ix3 ⟨k.val / 768, by have := k.isLt; omega⟩ a ⟨k.val % 768, by omega⟩

/-- An index is its column's. -/
theorem idxOf_colf (y : S4x1024x768.Idx) : idxOf (y 1) (colf y) = y := by
  have e : (colf y).val = 768 * (y 0).val + (y 2).val := rfl
  have h2 : (y 2).val < 768 := (y 2).isLt
  funext k
  fin_cases k
  · refine Fin.ext ?_
    show (colf y).val / 768 = (y 0).val
    omega
  · rfl
  · refine Fin.ext ?_
    show (colf y).val % 768 = (y 2).val
    omega

/-- The twelve stores of a later point, over the earlier contents `X`. -/
theorem s0_B (c : Dev nD) (t : Fin cfg0.N) (h0 : ¬(t : Nat) % 8 = 0) (h1 : ¬(t : Nat) % 8 = 7) (X : S4x1024x768.Idx → EReal)
    (hX : X = (outsAt0 m c (t.val - 1) (Nat.lt_of_le_of_lt (Nat.sub_le _ _) t.isLt)).2.2.2.2.2.1) (y : S4x1024x768.Idx) :
    (outsAt0 m c t.val t.isLt).2.2.2.2.2.1 y = X (idxOf (y 1) (colf y)) + dwTerm m c t (y 1) (colf y) := by
  rw [outsAt0_B m c t h0 h1]
  frame_out
  rw [read_unread_whole, ← hX]
  refine low_done (fun a k => X (idxOf a k) + dwTerm m c t a k) _ ?_ y
  refine low_step _ 11 3 512 (by decide) _ _ _ ?_ fun a b h => (piece11 _ _ _ a b).trans (congrArg₂ (· + ·)
    (ldacc X 11 3 512 (by decide) _ a b h) (term11 m c t _ a b h _ (fun i => hb_block m c t i a) _ rfl))
  refine low_step _ 10 3 256 (by decide) _ _ _ ?_ fun a b h => (piece10 _ _ _ a b).trans (congrArg₂ (· + ·)
    (ldacc X 10 3 256 (by decide) _ a b h) (term10 m c t _ a b h _ (fun i => hb_block m c t i a) _ rfl))
  refine low_step _ 9 3 0 (by decide) _ _ _ ?_ fun a b h => (piece9 _ _ _ a b).trans (congrArg₂ (· + ·)
    (ldacc X 9 3 0 (by decide) _ a b h) (term9 m c t _ a b h _ (fun i => hb_block m c t i a) _ rfl))
  refine low_step _ 8 2 512 (by decide) _ _ _ ?_ fun a b h => (piece8 _ _ _ a b).trans (congrArg₂ (· + ·)
    (ldacc X 8 2 512 (by decide) _ a b h) (term8 m c t _ a b h _ (fun i => hb_block m c t i a) _ rfl))
  refine low_step _ 7 2 256 (by decide) _ _ _ ?_ fun a b h => (piece7 _ _ _ a b).trans (congrArg₂ (· + ·)
    (ldacc X 7 2 256 (by decide) _ a b h) (term7 m c t _ a b h _ (fun i => hb_block m c t i a) _ rfl))
  refine low_step _ 6 2 0 (by decide) _ _ _ ?_ fun a b h => (piece6 _ _ _ a b).trans (congrArg₂ (· + ·)
    (ldacc X 6 2 0 (by decide) _ a b h) (term6 m c t _ a b h _ (fun i => hb_block m c t i a) _ rfl))
  refine low_step _ 5 1 512 (by decide) _ _ _ ?_ fun a b h => (piece5 _ _ _ a b).trans (congrArg₂ (· + ·)
    (ldacc X 5 1 512 (by decide) _ a b h) (term5 m c t _ a b h _ (fun i => hb_block m c t i a) _ rfl))
  refine low_step _ 4 1 256 (by decide) _ _ _ ?_ fun a b h => (piece4 _ _ _ a b).trans (congrArg₂ (· + ·)
    (ldacc X 4 1 256 (by decide) _ a b h) (term4 m c t _ a b h _ (fun i => hb_block m c t i a) _ rfl))
  refine low_step _ 3 1 0 (by decide) _ _ _ ?_ fun a b h => (piece3 _ _ _ a b).trans (congrArg₂ (· + ·)
    (ldacc X 3 1 0 (by decide) _ a b h) (term3 m c t _ a b h _ (fun i => hb_block m c t i a) _ rfl))
  refine low_step _ 2 0 512 (by decide) _ _ _ ?_ fun a b h => (piece2 _ _ _ a b).trans (congrArg₂ (· + ·)
    (ldacc X 2 0 512 (by decide) _ a b h) (term2 m c t _ a b h _ (fun i => hb_block m c t i a) _ rfl))
  refine low_step _ 1 0 256 (by decide) _ _ _ ?_ fun a b h => (piece1 _ _ _ a b).trans (congrArg₂ (· + ·)
    (ldacc X 1 0 256 (by decide) _ a b h) (term1 m c t _ a b h _ (fun i => hb_block m c t i a) _ rfl))
  refine low_step _ 0 0 0 (by decide) _ _ _ ?_ fun a b h => (piece0 _ _ _ a b).trans (congrArg₂ (· + ·)
    (ldacc X 0 0 0 (by decide) _ a b h) (term0 m c t _ a b h _ (fun i => hb_block m c t i a) _ rfl))
  exact fun y hy => absurd hy (by omega)

/-- The same at the last point. -/
theorem s0_C (c : Dev nD) (t : Fin cfg0.N) (h0 : ¬(t : Nat) % 8 = 0) (h1 : (t : Nat) % 8 = 7) (X : S4x1024x768.Idx → EReal)
    (hX : X = (outsAt0 m c (t.val - 1) (Nat.lt_of_le_of_lt (Nat.sub_le _ _) t.isLt)).2.2.2.2.2.1) (y : S4x1024x768.Idx) :
    (outsAt0 m c t.val t.isLt).2.2.2.2.2.1 y = X (idxOf (y 1) (colf y)) + dwTerm m c t (y 1) (colf y) := by
  rw [outsAt0_C m c t h0 h1]
  frame_out
  rw [read_unread_whole, ← hX]
  refine low_done (fun a k => X (idxOf a k) + dwTerm m c t a k) _ ?_ y
  refine low_step _ 11 3 512 (by decide) _ _ _ ?_ fun a b h => (piece11 _ _ _ a b).trans (congrArg₂ (· + ·)
    (ldacc X 11 3 512 (by decide) _ a b h) (term11 m c t _ a b h _ (fun i => hb_block m c t i a) _ rfl))
  refine low_step _ 10 3 256 (by decide) _ _ _ ?_ fun a b h => (piece10 _ _ _ a b).trans (congrArg₂ (· + ·)
    (ldacc X 10 3 256 (by decide) _ a b h) (term10 m c t _ a b h _ (fun i => hb_block m c t i a) _ rfl))
  refine low_step _ 9 3 0 (by decide) _ _ _ ?_ fun a b h => (piece9 _ _ _ a b).trans (congrArg₂ (· + ·)
    (ldacc X 9 3 0 (by decide) _ a b h) (term9 m c t _ a b h _ (fun i => hb_block m c t i a) _ rfl))
  refine low_step _ 8 2 512 (by decide) _ _ _ ?_ fun a b h => (piece8 _ _ _ a b).trans (congrArg₂ (· + ·)
    (ldacc X 8 2 512 (by decide) _ a b h) (term8 m c t _ a b h _ (fun i => hb_block m c t i a) _ rfl))
  refine low_step _ 7 2 256 (by decide) _ _ _ ?_ fun a b h => (piece7 _ _ _ a b).trans (congrArg₂ (· + ·)
    (ldacc X 7 2 256 (by decide) _ a b h) (term7 m c t _ a b h _ (fun i => hb_block m c t i a) _ rfl))
  refine low_step _ 6 2 0 (by decide) _ _ _ ?_ fun a b h => (piece6 _ _ _ a b).trans (congrArg₂ (· + ·)
    (ldacc X 6 2 0 (by decide) _ a b h) (term6 m c t _ a b h _ (fun i => hb_block m c t i a) _ rfl))
  refine low_step _ 5 1 512 (by decide) _ _ _ ?_ fun a b h => (piece5 _ _ _ a b).trans (congrArg₂ (· + ·)
    (ldacc X 5 1 512 (by decide) _ a b h) (term5 m c t _ a b h _ (fun i => hb_block m c t i a) _ rfl))
  refine low_step _ 4 1 256 (by decide) _ _ _ ?_ fun a b h => (piece4 _ _ _ a b).trans (congrArg₂ (· + ·)
    (ldacc X 4 1 256 (by decide) _ a b h) (term4 m c t _ a b h _ (fun i => hb_block m c t i a) _ rfl))
  refine low_step _ 3 1 0 (by decide) _ _ _ ?_ fun a b h => (piece3 _ _ _ a b).trans (congrArg₂ (· + ·)
    (ldacc X 3 1 0 (by decide) _ a b h) (term3 m c t _ a b h _ (fun i => hb_block m c t i a) _ rfl))
  refine low_step _ 2 0 512 (by decide) _ _ _ ?_ fun a b h => (piece2 _ _ _ a b).trans (congrArg₂ (· + ·)
    (ldacc X 2 0 512 (by decide) _ a b h) (term2 m c t _ a b h _ (fun i => hb_block m c t i a) _ rfl))
  refine low_step _ 1 0 256 (by decide) _ _ _ ?_ fun a b h => (piece1 _ _ _ a b).trans (congrArg₂ (· + ·)
    (ldacc X 1 0 256 (by decide) _ a b h) (term1 m c t _ a b h _ (fun i => hb_block m c t i a) _ rfl))
  refine low_step _ 0 0 0 (by decide) _ _ _ ?_ fun a b h => (piece0 _ _ _ a b).trans (congrArg₂ (· + ·)
    (ldacc X 0 0 0 (by decide) _ a b h) (term0 m c t _ a b h _ (fun i => hb_block m c t i a) _ rfl))
  exact fun y hy => absurd hy (by omega)

/-- A later point adds its term to what the accumulator held. -/
theorem s0_step (c : Dev nD) (t : Fin cfg0.N) (h0 : ¬(t : Nat) % 8 = 0) (y : S4x1024x768.Idx) :
    (outsAt0 m c t.val t.isLt).2.2.2.2.2.1 y
      = (outsAt0 m c (t.val - 1) (Nat.lt_of_le_of_lt (Nat.sub_le _ _) t.isLt)).2.2.2.2.2.1 y + dwTerm m c t (y 1) (colf y) := by
  by_cases h1 : (t : Nat) % 8 = 7
  · refine (s0_C m c t h0 h1 _ rfl y).trans ?_
    rw [idxOf_colf]
  · refine (s0_B m c t h0 h1 _ rfl y).trans ?_
    rw [idxOf_colf]

/-- The accumulator after the last point. -/
theorem s0_last (c : Dev nD) (y : S4x1024x768.Idx) :
    (outsAt0 m c t0_7.val t0_7.isLt).2.2.2.2.2.1 y = ∑ i : Fin 2048, hbM m c i (y 1) * cat6 (secM m c) i (colf y) := by
  refine (Pipeline.eq_sum_fin_of_reset_step_apply_last (ι := S4x1024x768.Idx)
    (fun n h j => ((outsAt0 m c n h).2.2.2.2.2.1 j : EReal)) 8 (fun _ => 0)
    (fun t j => dwTerm m c t (j 1) (colf j)) (fun t h j => s0_A m c t h (by omega) j) (fun t h j => s0_step m c t h j)
    (le_of_eq N_0) t0_7 rfl y).trans ?_
  refine (zero_add _).trans ?_
  refine Fin.sum_mul_add_congr (n := 256) (f := fun i : Fin 2048 => hbM m c i (y 1) * cat6 (secM m c) i (colf y)) fun t k hl => ?_
  have e : (⟨t.val * 256 + k.val, hl⟩ : Fin 2048) = row t k := Fin.ext (by show t.val * 256 + k.val = 256 * t.val + k.val; omega)
  rw [e]

end Cert.InKernelIdeal.InValue

end
-- ==== Proof.InAccV.lean ====
module

public import proofs.«01_k».proof.Proof.InPieces

@[expose] public section

set_option maxRecDepth 16384

noncomputable section

namespace Cert.InKernelIdeal.InValue

open Cert.InKernelIdeal Cert.InKernelIdeal.Gen
open Idealize.ShloMosaic Idealize.ShloMosaic.TcCoe Idealize.SL.Sem
open Idealize.ShloMosaic.Pipeline (Dat)

variable (m : (ℓ : Loc nD τ sig) → Buf (Elt Ideal) ℓ)

/-- The product input's gradient at the memory `m`. -/
abbrev dhM (c : Dev nD) (i : Fin 2048) (b : Fin 1024) : EReal := dhK (secM m c) (wM m c) i b

/-- The summand of the scale's and the weight's gradients: the gradient times the normalised row. -/
abbrev qM (c : Dev nD) (i : Fin 2048) (b : Fin 1024) : EReal := dhM m c i b * (xM m c (ix2 i b) * rowR (xM m c) i)

/-- The fills with zero. -/
theorem pay8_at (i : S8x1024.Idx) : k0_pay8 (F := Ideal) i = 0 := by
  obtain ⟨a, b, rfl⟩ : ∃ a b, i = ix2 a b := ⟨i 0, i 1, by funext k; fin_cases k <;> rfl⟩
  pointwise [k0_pay8]

/-- The fills with zero. -/
theorem pay9_at (i : S8x1024.Idx) : k0_pay9 (F := Ideal) i = 0 := by
  obtain ⟨a, b, rfl⟩ : ∃ a b, i = ix2 a b := ⟨i 0, i 1, by funext k; fin_cases k <;> rfl⟩
  pointwise [k0_pay9]

/-- One accumulation of the gradient's column sums. -/
theorem pay31_at (dh : FVec Ideal S256x1024 .f32) (v : Vec Ideal S8x1024 .f32) (a : Fin 8) (b : Fin 1024) :
    k0_pay31 dh v (ix2 a b) = v (ix2 a b) + ∑ x : Fin 32, dh (ix2 ⟨x.val * 8 + a.val, by have := x.isLt; have := a.isLt; omega⟩ b) := by
  pointwise [k0_pay31]

/-- One accumulation of the column sums of the gradient times the normalised row. -/
theorem pay32_at (x : Vec Ideal S256x1024 .f32) (dh : FVec Ideal S256x1024 .f32) (v : Vec Ideal S8x1024 .f32) (a : Fin 8) (b : Fin 1024) :
    k0_pay32 (k0_pay11 x) dh v (ix2 a b)
      = v (ix2 a b) + ∑ k : Fin 32, (fun i : Fin 256 => dh (ix2 i b) * (x (ix2 i b) * Ideal.rsqrt (RmsGrad.meanSq nLit eLit fun j : Fin 1024 => x (ix2 i j))))
          ⟨k.val * 8 + a.val, by have := k.isLt; have := a.isLt; omega⟩ := by
  pointwise [k0_pay32, k0_pay30, k0_pay11, k0_pay10]
  rfl

/-- What one point adds, of the array's rows `f`, to row `a` of eight. -/
def part (f : Fin 2048 → EReal) (t : Fin cfg0.N) (a : Fin 8) : EReal :=
  ∑ x : Fin 32, f (row t ⟨x.val * 8 + a.val, by have := x.isLt; have := a.isLt; omega⟩)

/-- The eight rows and the points together add the whole array. -/
theorem part_sum (f : Fin 2048 → EReal) : ∑ a : Fin 8, ∑ t : Fin cfg0.N, part f t a = ∑ i : Fin 2048, f i := by
  rw [Finset.sum_comm]
  refine (Finset.sum_congr rfl fun t _ => ?_ : _ = ∑ t : Fin cfg0.N, ∑ k : Fin 256, f (row t k)).trans ?_
  · unfold part
    rw [Finset.sum_comm]
    exact Fin.sum_mul_add_congr (n := 8) (f := fun k : Fin 256 => f (row t k)) fun x a hl => rfl
  · refine Fin.sum_mul_add_congr (n := 256) (f := f) fun t k hl => ?_
    have e : (⟨t.val * 256 + k.val, hl⟩ : Fin 2048) = row t k := Fin.ext (by show t.val * 256 + k.val = 256 * t.val + k.val; omega)
    rw [e]

/-- A point's accumulation of the gradient. -/
theorem sh_point (c : Dev nD) (t : Fin cfg0.N) (v : Vec Ideal S8x1024 .f32) (a : Fin 8) (b : Fin 1024) :
    k0_pay31 (dhT m c t) v (ix2 a b) = v (ix2 a b) + part (fun i => dhM m c i b) t a := by
  rw [pay31_at, part]
  simp only [dhT_at]

/-- A point's accumulation of the gradient times the normalised row. -/
theorem q_point (c : Dev nD) (t : Fin cfg0.N) (v : Vec Ideal S8x1024 .f32) (a : Fin 8) (b : Fin 1024) :
    k0_pay32 (k0_pay11 (iblk m c 7 t)) (dhT m c t) v (ix2 a b) = v (ix2 a b) + part (fun i => qM m c i b) t a := by
  rw [pay32_at, part]
  simp only [dhT_at, blk7]
  rfl

/-- The first point, over the fill. -/
theorem s1_A (c : Dev nD) (t : Fin cfg0.N) (h0 : (t : Nat) % 8 = 0) (h1 : ¬(t : Nat) % 8 = 7) (a : Fin 8) (b : Fin 1024) :
    (outsAt0 m c t.val t.isLt).2.2.2.2.2.2.1 (ix2 a b) = 0 + part (fun i => dhM m c i b) t a := by
  rw [outsAt0_A m c t h0 h1]
  frame_out
  refine (sh_point m c t _ a b).trans ?_
  rw [pay8_at]

/-- A later point adds its part. -/
theorem s1_step (c : Dev nD) (t : Fin cfg0.N) (h0 : ¬(t : Nat) % 8 = 0) (a : Fin 8) (b : Fin 1024) :
    (outsAt0 m c t.val t.isLt).2.2.2.2.2.2.1 (ix2 a b)
      = (outsAt0 m c (t.val - 1) (Nat.lt_of_le_of_lt (Nat.sub_le _ _) t.isLt)).2.2.2.2.2.2.1 (ix2 a b) + part (fun i => dhM m c i b) t a := by
  by_cases h1 : (t : Nat) % 8 = 7
  · rw [outsAt0_C m c t h0 h1]
    frame_out
    refine (sh_point m c t _ a b).trans ?_
    rw [read_unread_whole]
  · rw [outsAt0_B m c t h0 h1]
    frame_out
    refine (sh_point m c t _ a b).trans ?_
    rw [read_unread_whole]

/-- The first point, over the fill. -/
theorem s2_A (c : Dev nD) (t : Fin cfg0.N) (h0 : (t : Nat) % 8 = 0) (h1 : ¬(t : Nat) % 8 = 7) (a : Fin 8) (b : Fin 1024) :
    (outsAt0 m c t.val t.isLt).2.2.2.2.2.2.2 (ix2 a b) = 0 + part (fun i => qM m c i b) t a := by
  rw [outsAt0_A m c t h0 h1]
  frame_out
  refine (q_point m c t _ a b).trans ?_
  rw [pay9_at]

/-- A later point adds its part. -/
theorem s2_step (c : Dev nD) (t : Fin cfg0.N) (h0 : ¬(t : Nat) % 8 = 0) (a : Fin 8) (b : Fin 1024) :
    (outsAt0 m c t.val t.isLt).2.2.2.2.2.2.2 (ix2 a b)
      = (outsAt0 m c (t.val - 1) (Nat.lt_of_le_of_lt (Nat.sub_le _ _) t.isLt)).2.2.2.2.2.2.2 (ix2 a b) + part (fun i => qM m c i b) t a := by
  by_cases h1 : (t : Nat) % 8 = 7
  · rw [outsAt0_C m c t h0 h1]
    frame_out
    refine (q_point m c t _ a b).trans ?_
    rw [read_unread_whole]
  · rw [outsAt0_B m c t h0 h1]
    frame_out
    refine (q_point m c t _ a b).trans ?_
    rw [read_unread_whole]

/-- The gradient's column sums after the last point, the eight rows added. -/
theorem s1_last (c : Dev nD) (b : Fin 1024) :
    (∑ a : Fin 8, ((outsAt0 m c t0_7.val t0_7.isLt).2.2.2.2.2.2.1 (ix2 a b) : EReal)) = ∑ i : Fin 2048, dhM m c i b := by
  refine (Finset.sum_congr rfl fun a _ => ?_).trans (part_sum fun i => dhM m c i b)
  exact (Pipeline.eq_sum_fin_of_reset_step_apply_last (ι := Fin 8)
    (fun n h j => ((outsAt0 m c n h).2.2.2.2.2.2.1 (ix2 j b) : EReal)) 8 (fun _ => 0)
    (fun t j => part (fun i => dhM m c i b) t j) (fun t h j => s1_A m c t h (by omega) j b) (fun t h j => s1_step m c t h j b)
    (le_of_eq N_0) t0_7 rfl a).trans (zero_add _)

/-- The other column sums after the last point, the eight rows added. -/
theorem s2_last (c : Dev nD) (b : Fin 1024) :
    (∑ a : Fin 8, ((outsAt0 m c t0_7.val t0_7.isLt).2.2.2.2.2.2.2 (ix2 a b) : EReal)) = ∑ i : Fin 2048, qM m c i b := by
  refine (Finset.sum_congr rfl fun a _ => ?_).trans (part_sum fun i => qM m c i b)
  exact (Pipeline.eq_sum_fin_of_reset_step_apply_last (ι := Fin 8)
    (fun n h j => ((outsAt0 m c n h).2.2.2.2.2.2.2 (ix2 j b) : EReal)) 8 (fun _ => 0)
    (fun t j => part (fun i => qM m c i b) t j) (fun t h j => s2_A m c t h (by omega) j b) (fun t h j => s2_step m c t h j b)
    (le_of_eq N_0) t0_7 rfl a).trans (zero_add _)

end Cert.InKernelIdeal.InValue

end
-- ==== Proof.InArrays.lean ====
module

public import proofs.«01_k».proof.Proof.InAccW
public import proofs.«01_k».proof.Proof.InAccV

@[expose] public section

set_option maxRecDepth 16384

noncomputable section

namespace Cert.InKernelIdeal.InValue

open Cert.InKernelIdeal Cert.InKernelIdeal.Gen
open Idealize.ShloMosaic Idealize.ShloMosaic.TcCoe Idealize.SL.Sem
open Idealize.ShloMosaic.Pipeline (Dat)

variable (m : (ℓ : Loc nD τ sig) → Buf (Elt Ideal) ℓ)

/-- The weight gradient's rounding, over the reals, changes nothing. -/
theorem pay2_at (v : Vec Ideal S4x1024x768 .f32) (y : S4x1024x768.Idx) : k0_pay2 v y = v y := by
  obtain ⟨a, b, d, rfl⟩ : ∃ a b d, y = ix3 a b d := ⟨y 0, y 1, y 2, by funext k; fin_cases k <;> rfl⟩
  pointwise [k0_pay2]

/-- The shift's gradient: the eight rows added. -/
theorem pay4_at (v : Vec Ideal S8x1024 .f32) (b : Fin 1024) : k0_pay4 v (ix2 0 b) = ∑ a : Fin 8, v (ix2 a b) := by
  pointwise [k0_pay4]

/-- The scale's gradient: the eight rows added, times the weight. -/
theorem pay5_at (v : Vec Ideal S8x1024 .f32) (w : Vec Ideal S1x1x1024 .f32) (b : Fin 1024) :
    k0_pay5 v w (ix2 0 b) = w (ix3 0 0 b) * ∑ a : Fin 8, v (ix2 a b) := by
  pointwise [k0_pay5, k0_pay3]

/-- The weight row's gradient: the eight rows added, times one plus the scale. -/
theorem pay6_at (v : Vec Ideal S8x1024 .f32) (w : Vec Ideal S1x1x1x1024 .f32) (b : Fin 1024) :
    k0_pay6 v w (ix2 0 b) = (1 + w (ix4 0 0 0 b)) * ∑ a : Fin 8, v (ix2 a b) := by
  pointwise [k0_pay6, k0_pay3]

/-- The residual gradient's stores. -/
theorem o12_at (c : Dev nD) (t : Fin cfg0.N) (a : Fin 256) (b : Fin 1024) :
    (outsAt0 m c t.val t.isLt).1 (ix2 a b) = dxK (dhM m c) (xM m c) (dxM m c) (sgK (modM m c) (gM m c)) (row t a) b := by
  by_cases h0 : (t : Nat) % 8 = 0
  · rw [outsAt0_A m c t h0 (by omega)]
    frame_out
    exact dx_block m c t a b
  · by_cases h1 : (t : Nat) % 8 = 7
    · rw [outsAt0_C m c t h0 h1]
      frame_out
      exact dx_block m c t a b
    · rw [outsAt0_B m c t h0 h1]
      frame_out
      exact dx_block m c t a b

/-- The last point's store of the weight gradient. -/
theorem o13_at (c : Dev nD) (y : S4x1024x768.Idx) :
    (outsAt0 m c t0_7.val t0_7.isLt).2.1 y = ∑ i : Fin 2048, hbM m c i (y 1) * cat6 (secM m c) i (colf y) := by
  rw [← s0_last m c y, outsAt0_C m c t0_7 (by decide) (by decide)]
  frame_out
  rw [pay2_at, View.readCov_eq_canon']
  refine congrArg _ ?_
  funext k
  fin_cases k <;> exact Fin.ext ((Rect.idx_unit_val (s := S4x1024x768) _ _ _ _ _).trans (Nat.zero_add _))

/-- The last point's store of the shift's gradient. -/
theorem o14_at (c : Dev nD) (b : Fin 1024) : (outsAt0 m c t0_7.val t0_7.isLt).2.2.1 (ix2 0 b) = ∑ i : Fin 2048, dhM m c i b := by
  rw [← s1_last m c b, outsAt0_C m c t0_7 (by decide) (by decide)]
  frame_out
  rw [pay4_at]

/-- The last point's store of the scale's gradient. -/
theorem o15_at (c : Dev nD) (b : Fin 1024) :
    (outsAt0 m c t0_7.val t0_7.isLt).2.2.2.1 (ix2 0 b) = gM m c (ix3 3 0 b) * ∑ i : Fin 2048, qM m c i b := by
  rw [← s2_last m c b, outsAt0_C m c t0_7 (by decide) (by decide)]
  frame_out
  rw [pay5_at, blk11]

/-- The last point's store of the weight row's gradient. -/
theorem o16_at (c : Dev nD) (b : Fin 1024) :
    (outsAt0 m c t0_7.val t0_7.isLt).2.2.2.2.1 (ix2 0 b) = (1 + modM m c (ix4 3 1 0 b)) * ∑ i : Fin 2048, qM m c i b := by
  rw [← s2_last m c b, outsAt0_C m c t0_7 (by decide) (by decide)]
  frame_out
  rw [pay6_at, blk10]

/-- The residual gradient, the whole array. -/
theorem arr12 (c : Dev nD) : (dats m 0 c).arrAt 12 cfg0.N
    = fun i : S2048x1024.Idx => dxK (dhM m c) (xM m c) (dxM m c) (sgK (modM m c) (gM m c)) (i 0) (i 1) := by
  refine (dats m 0 c).arrAt_eq_of_covers 12 _ (by decide +kernel) fun t hf y => ?_
  obtain ⟨a, b, rfl⟩ : ∃ (a : Fin 256) (b : Fin 1024), y = ix2 a b := ⟨y 0, y 1, by funext k; fin_cases k <;> rfl⟩
  blk_simp
  rw [after0_12]
  have e0 : (win0_12.blk t).view.emb (ix2 a b) 0 = row t a := Fin.ext (by
    blk_simp [idx t]
    show t.val * 256 + a.val = 256 * t.val + a.val
    omega)
  have e1 : (win0_12.blk t).view.emb (ix2 a b) 1 = b := Fin.ext (by
    blk_simp [idx t])
  refine (o12_at m c t a b).trans ?_
  exact congrArg₂ (dxK (dhM m c) (xM m c) (dxM m c) (sgK (modM m c) (gM m c))) e0.symm e1.symm

/-- The weight gradient, the whole array. -/
theorem arr13 (c : Dev nD) : (dats m 0 c).arrAt 13 cfg0.N
    = fun i : S4x1024x768.Idx => ∑ k : Fin 2048, hbM m c k (i 1) * cat6 (secM m c) k (colf i) := by
  refine (dats m 0 c).arrAt_eq_of_after_last 13 t0_7 (by decide +kernel) _ fun j => ?_
  blk_simp
  rw [after0_13]
  exact o13_at m c j

/-- The shift's gradient, the whole row. -/
theorem arr14 (c : Dev nD) : (dats m 0 c).arrAt 14 cfg0.N = fun i : S1x1024.Idx => ∑ k : Fin 2048, dhM m c k (i 1) := by
  refine (dats m 0 c).arrAt_eq_of_after_last 14 t0_7 (by decide +kernel) _ fun j => ?_
  obtain ⟨b, rfl⟩ : ∃ (b : Fin 1024), j = ix2 0 b := ⟨j 1, by funext k; fin_cases k; exact Fin.eq_zero _; rfl⟩
  blk_simp
  rw [after0_14]
  exact o14_at m c b

/-- The scale's gradient, the whole row. -/
theorem arr15 (c : Dev nD) : (dats m 0 c).arrAt 15 cfg0.N
    = fun i : S1x1024.Idx => gM m c (ix3 3 0 (i 1)) * ∑ k : Fin 2048, qM m c k (i 1) := by
  refine (dats m 0 c).arrAt_eq_of_after_last 15 t0_7 (by decide +kernel) _ fun j => ?_
  obtain ⟨b, rfl⟩ : ∃ (b : Fin 1024), j = ix2 0 b := ⟨j 1, by funext k; fin_cases k; exact Fin.eq_zero _; rfl⟩
  blk_simp
  rw [after0_15]
  exact o15_at m c b

/-- The weight row's gradient, the whole row. -/
theorem arr16 (c : Dev nD) : (dats m 0 c).arrAt 16 cfg0.N
    = fun i : S1x1024.Idx => (1 + modM m c (ix4 3 1 0 (i 1))) * ∑ k : Fin 2048, qM m c k (i 1) := by
  refine (dats m 0 c).arrAt_eq_of_after_last 16 t0_7 (by decide +kernel) _ fun j => ?_
  obtain ⟨b, rfl⟩ : ∃ (b : Fin 1024), j = ix2 0 b := ⟨j 1, by funext k; fin_cases k; exact Fin.eq_zero _; rfl⟩
  blk_simp
  rw [after0_16]
  exact o16_at m c b

end Cert.InKernelIdeal.InValue

end
-- ==== Proof.InJoin.lean ====
module

public import Idealize.ShloMosaic.PureOps.Ideal
public import Idealize.ShloMosaic.Lib.Pipeline.ValueKit.Point
public import Idealize.ShloMosaic.Lib.ValueIdx

@[expose] public section

noncomputable section

namespace InJoin

open Idealize.ShloMosaic

/-- A section: 2048 rows of 512. -/
abbrev Sec : Shape := ⟨2, ![2048, 512]⟩

/-- Six sections joined along the columns, at an index: which section a column falls in, tested one by one. -/
def join6 (x0 x1 x2 x3 x4 x5 : Sec.Idx → EReal) (i : Fin 2048) (c : Fin 3072) : EReal :=
  if h : c.val < 512 then x0 (ix2 i ⟨c.val, by omega⟩)
  else if h : c.val - 512 < 512 then x1 (ix2 i ⟨c.val - 512, by omega⟩)
  else if h : c.val - 512 - 512 < 512 then x2 (ix2 i ⟨c.val - 512 - 512, by omega⟩)
  else if h : c.val - 512 - 512 - 512 < 512 then x3 (ix2 i ⟨c.val - 512 - 512 - 512, by omega⟩)
  else if h : c.val - 512 - 512 - 512 - 512 < 512 then x4 (ix2 i ⟨c.val - 512 - 512 - 512 - 512, by omega⟩)
  else x5 (ix2 i ⟨c.val - 512 - 512 - 512 - 512 - 512, by have := c.isLt; omega⟩)

end InJoin

end
-- ==== Proof.InRef.lean ====
module

public import proofs.«01_k».proof.Proof.Gen.InReferenceIdeal.Read
public import proofs.«01_k».proof.Proof.RmsGrad
public import proofs.«01_k».proof.Proof.InJoin
public import Idealize.ShloMosaic.Lib.Pipeline.ValueKit.Point
public import Idealize.ShloMosaic.Lib.ValueIdx

@[expose] public section

set_option maxRecDepth 16384

noncomputable section

namespace Cert.InReferenceIdeal.InValue

open Cert.InReferenceIdeal Cert.InReferenceIdeal.Gen Cert.InReferenceIdeal.Read
open Idealize.ShloMosaic Idealize.ShloMosaic.TcCoe Idealize.SL.Sem

/-- The six sections joined, at an index. -/
theorem v0_at (x0 x1 x2 x3 x4 x5 : S2048x512.Idx → EReal) (i : Fin 2048) (c : Fin 3072) :
    val_main_v0 (F := Ideal) x0 x1 x2 x3 x4 x5 (ix2 i c)
      = InJoin.join6 x0 x1 x2 x3 x4 x5 i c := by
  unfold InJoin.join6
  pointwise [val_main_v0]

/-- The gradient of the product's input. -/
theorem v36_at (x0 x1 x2 x3 x4 x5 : S2048x512.Idx → EReal) (x6 : S1024x3072.Idx → EReal) (i : Fin 2048) (a : Fin 1024) :
    val_main_v36 (F := Ideal) x0 x1 x2 x3 x4 x5 x6 (ix2 i a)
      = ∑ k : Fin 3072, val_main_v0 (F := Ideal) x0 x1 x2 x3 x4 x5 (ix2 i k) * x6 (ix2 a k) := by
  pointwise [val_main_v36, val_main_v1, val_main_v2]

/-- The product's input. -/
theorem v32_at (x7 : S2048x1024.Idx → EReal) (x9 : S4x3x1x1024.Idx → EReal) (x10 : S4x1024.Idx → EReal) (i : Fin 2048) (b : Fin 1024) :
    val_main_v32 (F := Ideal) x7 x9 x10 (ix2 i b)
      = x7 (ix2 i b) * Ideal.rsqrt (RmsGrad.meanSq (Ideal.ofBits FTy.f32 1149239296#32) (Ideal.ofBits FTy.f32 897988541#32) fun k : Fin 1024 => x7 (ix2 i k)) * x10 (ix2 3 b) * (1 + x9 (ix4 3 1 0 b)) + x9 (ix4 3 0 0 b) := by
  pointwise [val_main_v32, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v70, val_main_v71, val_main_v72, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  rfl

/-- The residual gradient, as the reference's row formula. -/
theorem v68_at (x0 x1 x2 x3 x4 x5 : S2048x512.Idx → EReal) (x6 : S1024x3072.Idx → EReal) (x7 x8 : S2048x1024.Idx → EReal) (x9 : S4x3x1x1024.Idx → EReal)
    (x10 : S4x1024.Idx → EReal) (i : Fin 2048) (b : Fin 1024) :
    val_main_v68 (F := Ideal) x0 x1 x2 x3 x4 x5 x6 x7 x8 x9 x10 (ix2 i b)
      = x8 (ix2 i b) + RmsGrad.refRow (Ideal.ofBits FTy.f32 1149239296#32) (Ideal.ofBits FTy.f32 897988541#32) (Ideal.ofBits FTy.f32 3204448256#32)
          (fun k : Fin 1024 => x7 (ix2 i k)) (fun k : Fin 1024 => val_main_v36 (F := Ideal) x0 x1 x2 x3 x4 x5 x6 (ix2 i k) * (1 + x9 (ix4 3 1 0 k)) * x10 (ix2 3 k)) b := by
  pointwise [val_main_v68, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v70, val_main_v71, val_main_v72, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  simp only [Finset.univ_unique, Finset.sum_singleton]
  unfold RmsGrad.refRow RmsGrad.meanSq
  rfl

/-- The weight's gradient, four groups of columns. -/
theorem v69_at (x0 x1 x2 x3 x4 x5 : S2048x512.Idx → EReal) (x7 : S2048x1024.Idx → EReal) (x9 : S4x3x1x1024.Idx → EReal)
    (x10 : S4x1024.Idx → EReal) (j : Fin 4) (a : Fin 1024) (k : Fin 768) :
    val_main_v69 (F := Ideal) x0 x1 x2 x3 x4 x5 x7 x9 x10 (ix3 j a k)
      = ∑ i : Fin 2048, val_main_v0 (F := Ideal) x0 x1 x2 x3 x4 x5 (ix2 i ⟨j.val * 768 + k.val, by have := j.isLt; have := k.isLt; omega⟩)
          * val_main_v32 (F := Ideal) x7 x9 x10 (ix2 i a) := by
  pointwise [val_main_v69, val_main_v67, val_main_v66, val_main_v35, val_main_v34, val_main_v1]

/-- The shift's gradient. -/
theorem v70_at (x0 x1 x2 x3 x4 x5 : S2048x512.Idx → EReal) (x6 : S1024x3072.Idx → EReal) (b : Fin 1024) :
    val_main_v70 (F := Ideal) x0 x1 x2 x3 x4 x5 x6 (ix2 0 b) = ∑ i : Fin 2048, val_main_v36 (F := Ideal) x0 x1 x2 x3 x4 x5 x6 (ix2 i b) := by
  pointwise [val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v70, val_main_v71, val_main_v72, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  simp only [Finset.univ_unique, Finset.sum_singleton]

/-- The scale's gradient. -/
theorem v71_at (x0 x1 x2 x3 x4 x5 : S2048x512.Idx → EReal) (x6 : S1024x3072.Idx → EReal) (x7 : S2048x1024.Idx → EReal)
    (x10 : S4x1024.Idx → EReal) (b : Fin 1024) :
    val_main_v71 (F := Ideal) x0 x1 x2 x3 x4 x5 x6 x7 x10 (ix2 0 b)
      = ∑ i : Fin 2048, x7 (ix2 i b) * Ideal.rsqrt (RmsGrad.meanSq (Ideal.ofBits FTy.f32 1149239296#32) (Ideal.ofBits FTy.f32 897988541#32) fun k : Fin 1024 => x7 (ix2 i k)) * x10 (ix2 3 b) * val_main_v36 (F := Ideal) x0 x1 x2 x3 x4 x5 x6 (ix2 i b) := by
  pointwise [val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v70, val_main_v71, val_main_v72, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  simp only [Finset.univ_unique, Finset.sum_singleton]
  unfold RmsGrad.meanSq
  rfl

/-- The weight row's gradient. -/
theorem v72_at (x0 x1 x2 x3 x4 x5 : S2048x512.Idx → EReal) (x6 : S1024x3072.Idx → EReal) (x7 : S2048x1024.Idx → EReal)
    (x9 : S4x3x1x1024.Idx → EReal) (b : Fin 1024) :
    val_main_v72 (F := Ideal) x0 x1 x2 x3 x4 x5 x6 x7 x9 (ix2 0 b)
      = ∑ i : Fin 2048, x7 (ix2 i b) * Ideal.rsqrt (RmsGrad.meanSq (Ideal.ofBits FTy.f32 1149239296#32) (Ideal.ofBits FTy.f32 897988541#32) fun k : Fin 1024 => x7 (ix2 i k)) * (val_main_v36 (F := Ideal) x0 x1 x2 x3 x4 x5 x6 (ix2 i b) * (1 + x9 (ix4 3 1 0 b))) := by
  pointwise [val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v70, val_main_v71, val_main_v72, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  simp only [Finset.univ_unique, Finset.sum_singleton]
  unfold RmsGrad.meanSq
  rfl

end Cert.InReferenceIdeal.InValue

end
-- ==== Proof.InPre.lean ====
module

public import proofs.«01_k».proof.Defs
public import proofs.«01_k».proof.Proof.Gen.Pre_in_finite
public import proofs.«01_k».proof.Proof.Lits
public import proofs.«01_k».proof.Proof.InJoin
public import Idealize.ShloMosaic.Lib.Pipeline.ValueKit.Point
public import Idealize.ShloMosaic.Lib.ValueIdx

@[expose] public section

set_option maxRecDepth 16384

noncomputable section

namespace Cert.InPre

open Idealize.ShloMosaic Idealize.ShloMosaic.TcCoe Idealize.SL.Sem Cert.InKernelIdeal

variable (x0 x1 x2 x3 x4 x5 : S2048x512.Idx → EReal) (x6 : S1024x3072.Idx → EReal) (x7 x8 : S2048x1024.Idx → EReal) (x9 : S4x3x1x1024.Idx → EReal)
  (x10 : S4x1024.Idx → EReal)

/-- Every entry of the six sections, joined, is real. -/
theorem ct_real (h : (Cert.Pre_in_finite.fn (F := Ideal) x0 x1 x2 x3 x4 x5 x6 x7 x8 x9 x10).1 = fun _ => 1#1) (i : Fin 2048) (c : Fin 3072) :
    ∃ r : ℝ, InJoin.join6 x0 x1 x2 x3 x4 x5 i c = (r : EReal) := by
  have h := congrFun h (ix2 i c)
  refine Lits.real_of_lt (Eq.trans ?_ h)
  unfold Cert.Pre_in_finite.fn InJoin.join6
  pointwise []
  rfl

/-- Every entry of the weight is real. -/
theorem w_real (h : (Cert.Pre_in_finite.fn (F := Ideal) x0 x1 x2 x3 x4 x5 x6 x7 x8 x9 x10).2.1 = fun _ => 1#1) (a : Fin 1024) (c : Fin 3072) :
    ∃ r : ℝ, x6 (ix2 a c) = (r : EReal) := by
  have h := congrFun h (ix2 a c)
  refine Lits.real_of_lt (Eq.trans ?_ h)
  unfold Cert.Pre_in_finite.fn
  pointwise []
  rfl

/-- Every entry of the scale is real. -/
theorem scale_real (h : (Cert.Pre_in_finite.fn (F := Ideal) x0 x1 x2 x3 x4 x5 x6 x7 x8 x9 x10).2.2.1 = fun _ => 1#1) (b : Fin 1024) :
    ∃ r : ℝ, x9 (ix4 3 1 0 b) = (r : EReal) := by
  have h := congrFun h (ix1 b)
  refine Lits.real_of_lt (Eq.trans ?_ h)
  unfold Cert.Pre_in_finite.fn
  pointwise []
  rfl

/-- Every entry of the weight row is real. -/
theorem g_real (h : (Cert.Pre_in_finite.fn (F := Ideal) x0 x1 x2 x3 x4 x5 x6 x7 x8 x9 x10).2.2.2 = fun _ => 1#1) (b : Fin 1024) :
    ∃ r : ℝ, x10 (ix2 3 b) = (r : EReal) := by
  have h := congrFun h (ix1 b)
  refine Lits.real_of_lt (Eq.trans ?_ h)
  unfold Cert.Pre_in_finite.fn
  pointwise []
  rfl

end Cert.InPre

end
-- ==== Proof.InFinal.lean ====
module

public import proofs.«01_k».proof.Proof.InArrays
public import proofs.«01_k».proof.Proof.InRef
public import proofs.«01_k».proof.Proof.InPre

@[expose] public section

set_option maxRecDepth 16384

noncomputable section

namespace Cert.InKernelIdeal.InValue

open Cert.InKernelIdeal Cert.InKernelIdeal.Gen
open Idealize.ShloMosaic Idealize.ShloMosaic.TcCoe Idealize.SL.Sem
open Cert.InReferenceIdeal.Read Cert.InReferenceIdeal.InValue

/-- The six sections side by side, the section found by dividing or by testing. -/
theorem cat6_join (x : Fin 6 → S2048x512.Idx → EReal) (i : Fin 2048) (c : Fin 3072) :
    cat6 x i c = InJoin.join6 (x 0) (x 1) (x 2) (x 3) (x 4) (x 5) i c := by
  have hc := c.isLt
  unfold InJoin.join6
  split_ifs with h0 h1 h2 h3 h4
  · have e : c = ⟨0 * 512 + (c.val), by omega⟩ := Fin.ext (by show c.val = 0 * 512 + (c.val); omega)
    exact (congrArg (cat6 x i) e).trans (cat6_0 x i ⟨c.val, by omega⟩ _)
  · have e : c = ⟨1 * 512 + (c.val - 512), by omega⟩ := Fin.ext (by show c.val = 1 * 512 + (c.val - 512); omega)
    exact (congrArg (cat6 x i) e).trans (cat6_1 x i ⟨c.val - 512, by omega⟩ _)
  · have e : c = ⟨2 * 512 + (c.val - 512 - 512), by omega⟩ := Fin.ext (by show c.val = 2 * 512 + (c.val - 512 - 512); omega)
    exact (congrArg (cat6 x i) e).trans (cat6_2 x i ⟨c.val - 512 - 512, by omega⟩ _)
  · have e : c = ⟨3 * 512 + (c.val - 512 - 512 - 512), by omega⟩ := Fin.ext (by show c.val = 3 * 512 + (c.val - 512 - 512 - 512); omega)
    exact (congrArg (cat6 x i) e).trans (cat6_3 x i ⟨c.val - 512 - 512 - 512, by omega⟩ _)
  · have e : c = ⟨4 * 512 + (c.val - 512 - 512 - 512 - 512), by omega⟩ := Fin.ext (by show c.val = 4 * 512 + (c.val - 512 - 512 - 512 - 512); omega)
    exact (congrArg (cat6 x i) e).trans (cat6_4 x i ⟨c.val - 512 - 512 - 512 - 512, by omega⟩ _)
  · have e : c = ⟨5 * 512 + (c.val - 512 - 512 - 512 - 512 - 512), by omega⟩ := Fin.ext (by show c.val = 5 * 512 + (c.val - 512 - 512 - 512 - 512 - 512); omega)
    exact (congrArg (cat6 x i) e).trans (cat6_5 x i ⟨c.val - 512 - 512 - 512 - 512 - 512, by omega⟩ _)

section Rows

variable (x0 x1 x2 x3 x4 x5 : S2048x512.Idx → EReal) (x6 : S1024x3072.Idx → EReal) (x7 x8 : S2048x1024.Idx → EReal) (x9 : S4x3x1x1024.Idx → EReal)
  (x10 : S4x1024.Idx → EReal) (dh : Fin 2048 → Fin 1024 → EReal) (g : S4x1x1024.Idx → EReal)

/-- One plus a real is real. -/
theorem one_add_real {x : EReal} (h : ∃ r : ℝ, x = (r : EReal)) : ∃ r : ℝ, 1 + x = (r : EReal) :=
  RmsGrad.add_real ⟨1, EReal.coe_one.symm⟩ h

/-- The row formula of the kernel is the reference's. -/
theorem dxK_eq (hd : ∀ i k, dh i k = val_main_v36 (F := Ideal) x0 x1 x2 x3 x4 x5 x6 (ix2 i k)) (hg : ∀ k, g (ix3 3 0 k) = x10 (ix2 3 k))
    (hr : ∀ i k, ∃ r : ℝ, dh i k = (r : EReal)) (h9 : ∀ b, ∃ r : ℝ, x9 (ix4 3 1 0 b) = (r : EReal))
    (h10 : ∀ b, ∃ r : ℝ, x10 (ix2 3 b) = (r : EReal)) (a : Fin 2048) (b : Fin 1024) :
    dxK dh x7 x8 (sgK x9 g) a b = val_main_v68 (F := Ideal) x0 x1 x2 x3 x4 x5 x6 x7 x8 x9 x10 (ix2 a b) := by
  obtain ⟨e, he, hE⟩ := Lits.e_lit
  have key := RmsGrad.grad_row (N := 1024) (e := e) (by norm_num) he (fun k : Fin 1024 => x7 (ix2 a k))
    (fun k => dh a k * (1 + x9 (ix4 3 1 0 k)) * x10 (ix2 3 k))
    (fun k => RmsGrad.mul_real (RmsGrad.mul_real (hr a k) (one_add_real (h9 k))) (h10 k)) b
  rw [v68_at]
  simp only [← hd]
  unfold RmsGrad.refRow dxK rowR sgK nLit eLit
  rw [Lits.n_lit, Lits.h_lit, hE]
  refine congrArg (_ + ·) (Eq.trans ?_ key)
  simp only [hg]
  congr 2
  · ac_rfl
  · congr 2
    exact Finset.sum_congr rfl fun k _ => by ac_rfl

/-- A normalised entry is real, whatever the row. -/
theorem normed (a : Fin 2048) (b : Fin 1024) : ∃ r : ℝ, x7 (ix2 a b) * rowR x7 a = (r : EReal) := by
  obtain ⟨e, he, hE⟩ := Lits.e_lit
  unfold rowR nLit eLit
  rw [Lits.n_lit, hE]
  exact RmsGrad.normed_coe (by norm_num) he (fun k : Fin 1024 => x7 (ix2 a k)) b

/-- The product's input is the reference's. -/
theorem hb_eq (hg : ∀ k, g (ix3 3 0 k) = x10 (ix2 3 k)) (i : Fin 2048) (b : Fin 1024) :
    hbK x7 x9 g i b = val_main_v32 (F := Ideal) x7 x9 x10 (ix2 i b) := by
  rw [v32_at]
  unfold hbK rowR sgK nLit eLit
  rw [hg]
  exact congrArg (· + _) (by ac_rfl)

/-- The scale's gradient is the reference's. -/
theorem scale_eq (hd : ∀ i k, dh i k = val_main_v36 (F := Ideal) x0 x1 x2 x3 x4 x5 x6 (ix2 i k)) (hg : ∀ k, g (ix3 3 0 k) = x10 (ix2 3 k))
    (hr : ∀ i k, ∃ r : ℝ, dh i k = (r : EReal)) (h10 : ∀ b, ∃ r : ℝ, x10 (ix2 3 b) = (r : EReal)) (b : Fin 1024) :
    g (ix3 3 0 b) * ∑ i : Fin 2048, dh i b * (x7 (ix2 i b) * rowR x7 i) = val_main_v71 (F := Ideal) x0 x1 x2 x3 x4 x5 x6 x7 x10 (ix2 0 b) := by
  rw [v71_at, hg, RmsGrad.mul_sum_real _ (fun i => dh i b * (x7 (ix2 i b) * rowR x7 i)) (h10 b) fun i => RmsGrad.mul_real (hr i b) (normed x7 i b)]
  simp only [← hd]
  unfold rowR nLit eLit
  exact Finset.sum_congr rfl fun i _ => by ac_rfl

/-- The weight row's gradient is the reference's. -/
theorem pre_eq (hd : ∀ i k, dh i k = val_main_v36 (F := Ideal) x0 x1 x2 x3 x4 x5 x6 (ix2 i k))
    (hr : ∀ i k, ∃ r : ℝ, dh i k = (r : EReal)) (h9 : ∀ b, ∃ r : ℝ, x9 (ix4 3 1 0 b) = (r : EReal)) (b : Fin 1024) :
    (1 + x9 (ix4 3 1 0 b)) * ∑ i : Fin 2048, dh i b * (x7 (ix2 i b) * rowR x7 i) = val_main_v72 (F := Ideal) x0 x1 x2 x3 x4 x5 x6 x7 x9 (ix2 0 b) := by
  rw [v72_at, RmsGrad.mul_sum_real _ (fun i => dh i b * (x7 (ix2 i b) * rowR x7 i)) (one_add_real (h9 b)) fun i => RmsGrad.mul_real (hr i b) (normed x7 i b)]
  simp only [← hd]
  unfold rowR nLit eLit
  exact Finset.sum_congr rfl fun i _ => by ac_rfl

end Rows

variable (m : (ℓ : Loc nD τ sig) → Buf (Elt Ideal) ℓ)

/-- The layer's row of the weight, reshaped by the host. -/
theorem entry_g (c : Dev nD) (k : Fin 1024) : gM m c (ix3 3 0 k) = m ((c : Thread nD τ).loc main_arg10) (ix2 3 k) := by
  unfold gM
  entry_read
  pointwise []

/-- The sections joined are the reference's cotangent. -/
theorem entry_ct (c : Dev nD) (i : Fin 2048) (k : Fin 3072) : cat6 (secM m c) i k
    = val_main_v0 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (ix2 i k) :=
  (cat6_join (secM m c) i k).trans (v0_at _ _ _ _ _ _ i k).symm

/-- The product input's gradient is the reference's. -/
theorem entry_dh (c : Dev nD) (i : Fin 2048) (a : Fin 1024) : dhM m c i a
    = val_main_v36 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (ix2 i a) := by
  refine Eq.trans ?_ (v36_at _ _ _ _ _ _ _ i a).symm
  exact Finset.sum_congr rfl fun k _ => congrArg (· * _) (entry_ct m c i k)

set_option maxHeartbeats 4000000 in
/-- The whole claim: the kernel's five results are the reference's. -/
theorem algebraic : Cert.algebraic_InKernelIdeal_InReferenceIdeal_pre_in_finite := by
  intro m g m' g' hpre heq
  refine ⟨fun c => (dats m 0 c).arrAt 12 cfg0.N, fun c => (dats m 0 c).arrAt 13 cfg0.N, fun c => (dats m 0 c).arrAt 14 cfg0.N,
    fun c => (dats m 0 c).arrAt 15 cfg0.N, fun c => (dats m 0 c).arrAt 16 cfg0.N, Cert.InKernelIdeal.Value.run_blocks m g, ?_⟩
  refine (θ_run Cert.InReferenceIdeal.defs _ _).mono (fun r h c => ?_) (Cert.InReferenceIdeal.Value.run m' g')
  obtain ⟨e68, e69, e70, e71, e72, rest⟩ := h c
  obtain ⟨pct, pw, psc, pg⟩ := hpre c
  have hct := Cert.InPre.ct_real _ _ _ _ _ _ _ _ _ _ _ pct
  have hw := Cert.InPre.w_real _ _ _ _ _ _ _ _ _ _ _ pw
  have hsc := Cert.InPre.scale_real _ _ _ _ _ _ _ _ _ _ _ psc
  have hgp := Cert.InPre.g_real _ _ _ _ _ _ _ _ _ _ _ pg
  obtain ⟨q0, q1, q2, q3, q4, q5, q6, q7, q8, q9, q10⟩ := heq c
  have hr : ∀ i a, ∃ r : ℝ, dhM m c i a = (r : EReal) := fun i a =>
    RmsGrad.sum_real _ fun k => RmsGrad.mul_real ((cat6_join (secM m c) i k).symm ▸ hct i k) (hw a k)
  refine ⟨e68.trans ?_, e69.trans ?_, e70.trans ?_, e71.trans ?_, e72.trans ?_, rest⟩
  · rw [val_main_v68_eq, q0, q1, q2, q3, q4, q5, q6, q7, q8, q9, q10]
    refine Eq.trans ?_ (arr12 m c).symm
    funext i
    obtain ⟨a, b, rfl⟩ : ∃ (a : Fin 2048) (b : Fin 1024), i = ix2 a b := ⟨i 0, i 1, by funext k; fin_cases k <;> rfl⟩
    exact (dxK_eq _ _ _ _ _ _ _ _ _ _ _ (dhM m c) (gM m c) (entry_dh m c) (entry_g m c) hr hsc hgp a b).symm
  · refine (val_main_v69_eq _ _ _ _ _ _ _ _ _).trans ?_
    rw [q0, q1, q2, q3, q4, q5, q7, q9, q10]
    refine Eq.trans ?_ (arr13 m c).symm
    funext i
    obtain ⟨j, a, k, rfl⟩ : ∃ (j : Fin 4) (a : Fin 1024) (k : Fin 768), i = ix3 j a k := ⟨i 0, i 1, i 2, by funext k; fin_cases k <;> rfl⟩
    refine (v69_at _ _ _ _ _ _ _ _ _ j a k).trans ?_
    have ec : (⟨j.val * 768 + k.val, by have := j.isLt; have := k.isLt; omega⟩ : Fin 3072) = colf (ix3 j a k) :=
      Fin.ext (by show j.val * 768 + k.val = 768 * j.val + k.val; omega)
    refine Finset.sum_congr rfl fun i _ => (mul_comm _ _).trans ?_
    rw [ec]
    exact congrArg₂ (· * ·) (hb_eq _ _ _ (gM m c) (entry_g m c) i a).symm (entry_ct m c i _).symm
  · refine (val_main_v70_eq _ _ _ _ _ _ _).trans ?_
    rw [q0, q1, q2, q3, q4, q5, q6]
    refine Eq.trans ?_ (arr14 m c).symm
    funext i
    obtain ⟨b, rfl⟩ : ∃ (b : Fin 1024), i = ix2 0 b := ⟨i 1, by funext k; fin_cases k; exact Fin.eq_zero _; rfl⟩
    refine (v70_at _ _ _ _ _ _ _ b).trans ?_
    exact Finset.sum_congr rfl fun k _ => (entry_dh m c k b).symm
  · refine (val_main_v71_eq _ _ _ _ _ _ _ _ _).trans ?_
    rw [q0, q1, q2, q3, q4, q5, q6, q7, q10]
    refine Eq.trans ?_ (arr15 m c).symm
    funext i
    obtain ⟨b, rfl⟩ : ∃ (b : Fin 1024), i = ix2 0 b := ⟨i 1, by funext k; fin_cases k; exact Fin.eq_zero _; rfl⟩
    exact (scale_eq _ _ _ _ _ _ _ _ _ (dhM m c) (gM m c) (entry_dh m c) (entry_g m c) hr hgp b).symm
  · refine (val_main_v72_eq _ _ _ _ _ _ _ _ _).trans ?_
    rw [q0, q1, q2, q3, q4, q5, q6, q7, q9]
    refine Eq.trans ?_ (arr16 m c).symm
    funext i
    obtain ⟨b, rfl⟩ : ∃ (b : Fin 1024), i = ix2 0 b := ⟨i 1, by funext k; fin_cases k; exact Fin.eq_zero _; rfl⟩
    exact (pre_eq _ _ _ _ _ _ _ _ _ (dhM m c) (entry_dh m c) hr hsc b).symm

end Cert.InKernelIdeal.InValue

end
-- ==== Proof.ProjValue.lean ====
module

public import proofs.«01_k».proof.Proof.Gen.ProjKernelIdeal.Value
public import proofs.«01_k».proof.Proof.Gen.ProjReferenceIdeal.Read
public import proofs.«01_k».proof.Defs
public import proofs.«01_k».proof.Proof.RmsGrad
public import proofs.«01_k».proof.Proof.Halves
public import Idealize.ShloMosaic.Lib.Pipeline.ValueKit.Point
public import Idealize.ShloMosaic.Lib.ValueIdx

@[expose] public section

set_option maxRecDepth 16384

noncomputable section

namespace Cert.ProjKernelIdeal.ProjValue

open Cert.ProjKernelIdeal Cert.ProjKernelIdeal.Gen
open Idealize.ShloMosaic Idealize.ShloMosaic.TcCoe Idealize.SL.Sem
open Idealize.ShloMosaic.Pipeline (Dat)

/-- The normalised, modulated row: the product's input. -/
def hidden (X : S2048x1024.Idx → EReal) (md : S4x3x1x1024.Idx → EReal) (g : S4x1x1024.Idx → EReal) (a : Fin 2048) (b : Fin 1024) : EReal :=
  X (ix2 a b) * Ideal.rsqrt (RmsGrad.meanSq (Ideal.ofBits FTy.f32 1149239296#32) (Ideal.ofBits FTy.f32 897988541#32) fun k : Fin 1024 => X (ix2 a k))
    * (g (ix3 3 0 b) * (1 + md (ix4 3 1 0 b))) + md (ix4 3 0 0 b)

variable (m : (ℓ : Loc nD τ sig) → Buf (Elt Ideal) ℓ)

/-- Where each window's block lies at point `t`. -/
theorem idx (t : Fin cfg0.N) : win0_0.index t = ![t.val, 0] ∧ win0_1.index t = ![3, 0, 0, 0] ∧ win0_2.index t = ![3, 1, 0, 0]
    ∧ win0_3.index t = ![3, 0, 0] ∧ win0_4.index t = ![0, 0] ∧ win0_5.index t = ![t.val, 0] :=
  (by decide +kernel : ∀ t : Fin grid0.N, win0_0.index t = ![t.val, 0] ∧ win0_1.index t = ![3, 0, 0, 0] ∧ win0_2.index t = ![3, 1, 0, 0]
    ∧ win0_3.index t = ![3, 0, 0] ∧ win0_4.index t = ![0, 0] ∧ win0_5.index t = ![t.val, 0]) t

/-- A row of a point's block is a row of the array. -/
theorem lt_rows (t : Fin cfg0.N) (a : Fin 512) : 512 * t.val + a.val < 2048 := by
  have h : t.val < 4 := lt_of_lt_of_eq t.isLt N_0
  have := a.isLt
  omega

/-- Row `a` of point `t`'s block, as a row of the array. -/
abbrev row (t : Fin cfg0.N) (a : Fin 512) : Fin 2048 := ⟨512 * t.val + a.val, lt_rows t a⟩

/-- The input's block. -/
theorem blk0 (c : Dev nD) (t : Fin cfg0.N) (a : Fin 512) (b : Fin 1024) :
    iblk m c 0 t (ix2 a b) = m ((c : Thread nD τ).loc main_arg0) (ix2 (row t a) b) := by
  have := a.isLt; have := b.isLt
  blk_ext! [iblk, V, idx t]

/-- The shift's block. -/
theorem blk1 (c : Dev nD) (t : Fin cfg0.N) (b : Fin 1024) :
    iblk m c 1 t (ix4 0 0 0 b) = m ((c : Thread nD τ).loc main_arg1) (ix4 3 0 0 b) := by
  blk_ext! [iblk, V, idx t]

/-- The scale's block. -/
theorem blk2 (c : Dev nD) (t : Fin cfg0.N) (b : Fin 1024) :
    iblk m c 2 t (ix4 0 0 0 b) = m ((c : Thread nD τ).loc main_arg1) (ix4 3 1 0 b) := by
  blk_ext! [iblk, V, idx t]

/-- The norm weight's block. -/
theorem blk3 (c : Dev nD) (t : Fin cfg0.N) (b : Fin 1024) :
    iblk m c 3 t (ix3 0 0 b) = V m c main_v0 (ix3 3 0 b) := by
  blk_ext! [iblk, idx t]

/-- The weight's block, the whole weight. -/
theorem blk4 (c : Dev nD) (t : Fin cfg0.N) (a : Fin 1024) (b : Fin 3072) :
    iblk m c 4 t (ix2 a b) = m ((c : Thread nD τ).loc main_arg3) (ix2 a b) := by
  blk_ext! [iblk, V, idx t]

abbrev xM (c : Dev nD) : S2048x1024.Idx → EReal := m ((c : Thread nD τ).loc main_arg0)
abbrev mdM (c : Dev nD) : S4x3x1x1024.Idx → EReal := m ((c : Thread nD τ).loc main_arg1)
abbrev gM (c : Dev nD) : S4x1x1024.Idx → EReal := V m c main_v0
abbrev wM (c : Dev nD) : S1024x3072.Idx → EReal := m ((c : Thread nD τ).loc main_arg3)
abbrev hM (c : Dev nD) : Fin 2048 → Fin 1024 → EReal := hidden (xM m c) (mdM m c) (gM m c)

/-- The product's input at a point. -/
theorem pay3_at (c : Dev nD) (t : Fin cfg0.N) (a : Fin 512) (b : Fin 1024) :
    k0_pay3 (iblk m c 0 t) (iblk m c 3 t) (iblk m c 2 t) (iblk m c 1 t) (ix2 a b) = hM m c (row t a) b := by
  pointwise [k0_pay3]
  unfold hM hidden RmsGrad.meanSq
  simp only [blk0, blk1, blk2, blk3]

/-- The four products. -/
theorem pay1_at (h : FVec Ideal S512x1024 .bf16) (w : Vec Ideal S1024x768 .bf16) (a : Fin 512) (b : Fin 768) :
    k0_pay1 h w (ix2 a b) = ∑ k : Fin 1024, h (ix2 a k) * w (ix2 k b) := by
  pointwise [k0_pay1]

theorem pay2_at (h : FVec Ideal S512x1024 .bf16) (w : Vec Ideal S1024x768 .bf16) (a : Fin 512) (b : Fin 768) :
    k0_pay2 h w (ix2 a b) = ∑ k : Fin 1024, h (ix2 a k) * w (ix2 k b) := by
  pointwise [k0_pay2]

theorem pay4_at (x : Vec Ideal S512x1024 .f32) (g : Vec Ideal S1x1x1024 .f32) (sc sh : Vec Ideal S1x1x1x1024 .f32)
    (w : Vec Ideal S1024x768 .bf16) (a : Fin 512) (b : Fin 768) :
    k0_pay4 x g sc sh w (ix2 a b) = ∑ k : Fin 1024, k0_pay3 x g sc sh (ix2 a k) * w (ix2 k b) := by
  pointwise [k0_pay4]

theorem pay5_at (x : Vec Ideal S512x1024 .f32) (g : Vec Ideal S1x1x1024 .f32) (sc sh : Vec Ideal S1x1x1x1024 .f32)
    (w : Vec Ideal S1024x768 .bf16) (a : Fin 512) (b : Fin 768) :
    k0_pay5 x g sc sh w (ix2 a b) = ∑ k : Fin 1024, k0_pay3 x g sc sh (ix2 a k) * w (ix2 k b) := by
  pointwise [k0_pay5]

/-- A group of columns read back from the last store. -/
theorem sec_in (o : ℕ) (inb : ∀ a, (![0, o] : Fin 2 → Nat) a + S512x768.size a ≤ S512x3072.size a) (w : S512x768.Idx → Elt Ideal .bf16)
    (L : List (View.Piece (Elt Ideal) S512x3072 .bf16)) (a : Fin 512) (b : Fin 3072) (h : o ≤ b.val) (h' : b.val - o < 768) :
    View.canon ((⟨Rect.unit (s := S512x3072) ![0, o] S512x768.size inb, w⟩ : View.Piece (Elt Ideal) S512x3072 .bf16) :: L) (ix2 a b)
      = w (ix2 a ⟨b.val - o, h'⟩) := by
  refine Halves.canon_in (S := S512x3072) ![0, o] S512x768.size inb w L (ix2 a b) (ix2 a (⟨b.val - o, h'⟩ : Fin 768)) fun k => ?_
  fin_cases k
  · show a.val = 0 + a.val
    omega
  · show b.val = o + (b.val - o)
    omega

/-- Columns before the last store's. -/
theorem sec_out (o : ℕ) (inb : ∀ a, (![0, o] : Fin 2 → Nat) a + S512x768.size a ≤ S512x3072.size a) (w : S512x768.Idx → Elt Ideal .bf16)
    (L : List (View.Piece (Elt Ideal) S512x3072 .bf16)) (a : Fin 512) (b : Fin 3072) (h : b.val < o) :
    View.canon ((⟨Rect.unit (s := S512x3072) ![0, o] S512x768.size inb, w⟩ : View.Piece (Elt Ideal) S512x3072 .bf16) :: L) (ix2 a b)
      = View.canon L (ix2 a b) :=
  Halves.canon_out (S := S512x3072) _ _ inb _ _ _ ⟨1, Or.inl h⟩

/-- A group of the weight's columns, loaded. -/
theorem w_load (o : ℕ) (inb : ∀ a, (![0, o] : Fin 2 → Nat) a + S1024x768.size a ≤ S1024x3072.size a) (W : S1024x3072.Idx → Elt Ideal .bf16)
    (k : Fin 1024) (b : Fin 3072) (h : o ≤ b.val) (h' : b.val - o < 768) :
    View.ld (Val := Elt Ideal) (e' := .bf16) W (Rect.unit (s := S1024x3072) ![0, o] S1024x768.size inb) (ix2 k (⟨b.val - o, h'⟩ : Fin 768)) = W (ix2 k b) :=
  View.ld_unit_apply_of (Val := Elt Ideal) (e := .bf16) W ![0, o] S1024x768.size inb (ix2 k (⟨b.val - o, h'⟩ : Fin 768)) _ (fun i => by
    fin_cases i
    · show k.val = 0 + k.val
      omega
    · show b.val = o + (b.val - o)
      omega)

/-- The whole-block loads read the block. -/
theorem ld0 (X : S512x1024.Idx → Elt Ideal .f32) : View.ld (Val := Elt Ideal) (e' := .f32) X r0_0 = X :=
  View.ld_unit_zero (by decide +kernel) _ X

theorem ld1 (X : S1x1x1024.Idx → Elt Ideal .f32) : View.ld (Val := Elt Ideal) (e' := .f32) X r0_1 = X :=
  View.ld_unit_zero (by decide +kernel) _ X

theorem ld2 (X : S1x1x1x1024.Idx → Elt Ideal .f32) : View.ld (Val := Elt Ideal) (e' := .f32) X r0_2 = X :=
  View.ld_unit_zero (by decide +kernel) _ X

/-- What a point leaves in the output's block. -/
theorem out_at (c : Dev nD) (t : Fin cfg0.N) (a : Fin 512) (b : Fin 3072) :
    out0_5 (iblk m c 0 t) (iblk m c 1 t) (iblk m c 2 t) (iblk m c 3 t) (iblk m c 4 t) (ix2 a b)
      = ∑ k : Fin 1024, hM m c (row t a) k * wM m c (ix2 k b) := by
  have hb := b.isLt
  unfold out0_5 k0_pay6
  rw [ld0, ld1, ld2, ld2]
  by_cases h3 : 2304 ≤ b.val
  · refine (sec_in 2304 _ _ _ a b h3 (by omega)).trans ((pay2_at _ _ _ _).trans (Finset.sum_congr rfl fun k _ => ?_))
    rw [pay3_at]
    exact congrArg (_ * ·) ((w_load 2304 _ _ k b h3 (by omega)).trans (blk4 m c t k b))
  refine (sec_out 2304 _ _ _ a b (by omega)).trans ?_
  by_cases h2 : 1536 ≤ b.val
  · refine (sec_in 1536 _ _ _ a b h2 (by omega)).trans ((pay1_at _ _ _ _).trans (Finset.sum_congr rfl fun k _ => ?_))
    rw [pay3_at]
    exact congrArg (_ * ·) ((w_load 1536 _ _ k b h2 (by omega)).trans (blk4 m c t k b))
  refine (sec_out 1536 _ _ _ a b (by omega)).trans ?_
  by_cases h1 : 768 ≤ b.val
  · refine (sec_in 768 _ _ _ a b h1 (by omega)).trans ((pay5_at _ _ _ _ _ _ _).trans (Finset.sum_congr rfl fun k _ => ?_))
    rw [pay3_at]
    exact congrArg (_ * ·) ((w_load 768 _ _ k b h1 (by omega)).trans (blk4 m c t k b))
  refine (sec_out 768 _ _ _ a b (by omega)).trans ?_
  refine (sec_in 0 _ _ _ a b (by omega) (by omega)).trans ((pay4_at _ _ _ _ _ _ _).trans (Finset.sum_congr rfl fun k _ => ?_))
  rw [pay3_at]
  exact congrArg (_ * ·) ((w_load 0 _ _ k b (by omega) (by omega)).trans (blk4 m c t k b))

/-- The output, the whole array. -/
theorem arr5 (c : Dev nD) : (dats m 0 c).arrAt 5 cfg0.N
    = fun i : S2048x3072.Idx => ∑ k : Fin 1024, hM m c (i 0) k * wM m c (ix2 k (i 1)) := by
  refine (dats m 0 c).arrAt_eq_of_covers 5 _ (by decide +kernel) fun t hf y => ?_
  obtain ⟨a, b, rfl⟩ : ∃ (a : Fin 512) (b : Fin 3072), y = ix2 a b := ⟨y 0, y 1, by funext k; fin_cases k <;> rfl⟩
  blk_simp
  rw [after0_5]
  have e0 : (win0_5.blk t).view.emb (ix2 a b) 0 = row t a := Fin.ext (by
    blk_simp [idx t]
    show t.val * 512 + a.val = 512 * t.val + a.val
    omega)
  have e1 : (win0_5.blk t).view.emb (ix2 a b) 1 = b := Fin.ext (by
    blk_simp [idx t])
  refine (out_at m c t a b).trans ?_
  exact Finset.sum_congr rfl fun k _ => congrArg₂ (· * ·) (congrArg (fun r => hM m c r k) e0.symm) (congrArg (fun r => wM m c (ix2 k r)) e1.symm)

open Cert.ProjReferenceIdeal.Read in
/-- The reference's result at an index. -/
theorem ref_at (x0 : S2048x1024.Idx → EReal) (x1 : S4x3x1x1024.Idx → EReal) (x2 : S4x1024.Idx → EReal) (x3 : S1024x3072.Idx → EReal)
    (a : Fin 2048) (b : Fin 3072) :
    val_main_v29 (F := Ideal) x0 x1 x2 x3 (ix2 a b) = ∑ k : Fin 1024, val_main_v27 (F := Ideal) x0 x1 x2 (ix2 a k) * x3 (ix2 k b) := by
  pointwise [val_main_v29, val_main_v28, val_main_v0]

open Cert.ProjReferenceIdeal.Read in
/-- The reference's product input. -/
theorem ref_hidden (x0 : S2048x1024.Idx → EReal) (x1 : S4x3x1x1024.Idx → EReal) (x2 : S4x1024.Idx → EReal) (a : Fin 2048) (b : Fin 1024) :
    val_main_v27 (F := Ideal) x0 x1 x2 (ix2 a b)
      = x0 (ix2 a b) * Ideal.rsqrt (RmsGrad.meanSq (Ideal.ofBits FTy.f32 1149239296#32) (Ideal.ofBits FTy.f32 897988541#32) fun k : Fin 1024 => x0 (ix2 a k)) * x2 (ix2 3 b) * (1 + x1 (ix4 3 1 0 b)) + x1 (ix4 3 0 0 b) := by
  pointwise [val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_cst_2, val_main_v20, val_main_v21, val_main_v22, val_main_v23, val_main_v24, val_main_v25, val_main_v26, val_main_v27]
  unfold RmsGrad.meanSq
  rfl

/-- The norm weight as the call is given it. -/
theorem entry_g (c : Dev nD) (k : Fin 1024) : gM m c (ix3 3 0 k) = m ((c : Thread nD τ).loc main_arg2) (ix2 3 k) := by
  unfold gM
  entry_read
  pointwise []

set_option maxHeartbeats 4000000 in
/-- The whole claim: the kernel's result is the reference's. -/
theorem algebraic : Cert.algebraic_ProjKernelIdeal_ProjReferenceIdeal := by
  intro m g m' g' _ heq
  refine ⟨fun c => (dats m 0 c).arrAt 5 cfg0.N, Cert.ProjKernelIdeal.Value.run_blocks m g, ?_⟩
  refine (θ_run Cert.ProjReferenceIdeal.defs _ _).mono (fun r h c => ?_) (Cert.ProjReferenceIdeal.Value.run m' g')
  obtain ⟨e29, rest⟩ := h c
  obtain ⟨q0, q1, q2, q3⟩ := heq c
  refine ⟨e29.trans ?_, rest⟩
  rw [Cert.ProjReferenceIdeal.Read.val_main_v29_eq, q0, q1, q2, q3]
  refine Eq.trans ?_ (arr5 m c).symm
  funext i
  obtain ⟨a, b, rfl⟩ : ∃ (a : Fin 2048) (b : Fin 3072), i = ix2 a b := ⟨i 0, i 1, by funext k; fin_cases k <;> rfl⟩
  refine (ref_at _ _ _ _ a b).trans (Finset.sum_congr rfl fun k _ => congrArg (· * _) ?_)
  refine (ref_hidden _ _ _ a k).trans ?_
  show _ = hidden _ _ _ a k
  unfold hidden
  rw [entry_g, mul_assoc (_ * _)]

end Cert.ProjKernelIdeal.ProjValue

end
-- ==== Proof.OutFwd.lean ====
module

public import proofs.«01_k».proof.Proof.RmsGrad
public import Idealize.ShloMosaic.Lib.ValueIdx

@[expose] public section

noncomputable section

namespace OutFwd

open Idealize.ShloMosaic

/-- The product of the two mixers' outputs with the two halves of the weight's rows. -/
def prod2 (A B : Fin 2048 → Fin 512 → EReal) (W : Fin 1024 → Fin 1024 → EReal) (i : Fin 2048) (b : Fin 1024) : EReal :=
  ∑ k : Fin 512, A i k * W ⟨k.val, by have := k.isLt; omega⟩ b + ∑ k : Fin 512, B i k * W ⟨512 + k.val, by have := k.isLt; omega⟩ b

/-- The two mixers' outputs side by side. -/
def cat (A B : Fin 2048 → Fin 512 → EReal) (i : Fin 2048) (j : Fin 1024) : EReal :=
  if h : j.val < 512 then A i ⟨j.val, h⟩ else B i ⟨j.val - 512, by have := j.isLt; omega⟩

/-- The product of the two side by side is the sum of the two halves' products. -/
theorem sum_cat (A B : Fin 2048 → Fin 512 → EReal) (W : Fin 1024 → Fin 1024 → EReal) (i : Fin 2048) (b : Fin 1024) :
    ∑ k : Fin 1024, cat A B i k * W k b = prod2 A B W i b := by
  refine (Fin.sum_univ_add (M := EReal) (a := 512) (b := 512) fun k : Fin 1024 => cat A B i k * W k b).trans ?_
  unfold prod2
  refine congrArg₂ (· + ·) (Finset.sum_congr rfl fun k _ => ?_) (Finset.sum_congr rfl fun k _ => ?_)
  · have e : cat A B i (Fin.castAdd 512 k) = A i k := by
      unfold cat
      exact dif_pos k.isLt
    exact congrArg (· * _) e
  · have e : cat A B i (Fin.natAdd 512 k) = B i k := by
      unfold cat
      refine (dif_neg (by show ¬ (512 + k.val < 512); omega)).trans (congrArg (B i) (Fin.ext ?_))
      show 512 + k.val - 512 = k.val
      omega
    exact congrArg (· * _) e

/-- The layer's output: the residual and the gated, normalised product. -/
def layer (Y X : Fin 2048 → Fin 1024 → EReal) (gt g : Fin 1024 → EReal) (i : Fin 2048) (b : Fin 1024) : EReal :=
  X i b + gt b * (Y i b * Ideal.rsqrt (RmsGrad.meanSq (Ideal.ofBits FTy.f32 1149239296#32) (Ideal.ofBits FTy.f32 897988541#32) (Y i)) * g b)

end OutFwd

end
-- ==== Proof.FwdValue.lean ====
module

public import proofs.«01_k».proof.Proof.Gen.FwdKernelIdeal.Value
public import proofs.«01_k».proof.Proof.Gen.FwdReferenceIdeal.Read
public import proofs.«01_k».proof.Defs
public import proofs.«01_k».proof.Proof.OutFwd
public import proofs.«01_k».proof.Proof.Halves
public import Idealize.ShloMosaic.Lib.Pipeline.ValueKit.Point
public import Idealize.ShloMosaic.Lib.ValueIdx

@[expose] public section

set_option maxRecDepth 16384

noncomputable section

namespace Cert.FwdKernelIdeal.FwdValue

open Cert.FwdKernelIdeal Cert.FwdKernelIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block lies at point `t`. -/
theorem idx (t : Fin cfg0.N) : win0_0.index t = ![t.val, 0] ∧ win0_1.index t = ![t.val, 0] ∧ win0_2.index t = ![0, 0]
    ∧ win0_3.index t = ![t.val, 0] ∧ win0_4.index t = ![2, 2, 0, 0] ∧ win0_5.index t = ![2, 0, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![0, 0]
    ∧ win0_3.index t = ![t.val, 0] ∧ win0_4.index t = ![2, 2, 0, 0] ∧ win0_5.index t = ![2, 0, 0] ∧ win0_6.index t = ![t.val, 0] ∧ win0_7.index t = ![t.val, 0]) t

/-- A row of a point's block is a row of the array. -/
theorem lt_rows (t : Fin cfg0.N) (a : Fin 512) : 512 * t.val + a.val < 2048 := by
  have h : t.val < 4 := lt_of_lt_of_eq t.isLt N_0
  have := a.isLt
  omega

/-- Row `a` of point `t`'s block, as a row of the array. -/
abbrev row (t : Fin cfg0.N) (a : Fin 512) : Fin 2048 := ⟨512 * t.val + a.val, lt_rows t a⟩

/-- The first mixer's block. -/
theorem blk0 (c : Dev nD) (t : Fin cfg0.N) (a : Fin 512) (b : Fin 512) :
    iblk m c 0 t (ix2 a b) = m ((c : Thread nD τ).loc main_arg0) (ix2 (row t a) b) := by
  have := a.isLt; have := b.isLt
  blk_ext! [iblk, V, idx t]

/-- The second mixer's block. -/
theorem blk1 (c : Dev nD) (t : Fin cfg0.N) (a : Fin 512) (b : Fin 512) :
    iblk m c 1 t (ix2 a b) = m ((c : Thread nD τ).loc main_arg1) (ix2 (row t a) b) := by
  have := a.isLt; have := b.isLt
  blk_ext! [iblk, V, idx t]

/-- The weight's block, the whole weight. -/
theorem blk2 (c : Dev nD) (t : Fin cfg0.N) (a : Fin 1024) (b : Fin 1024) :
    iblk m c 2 t (ix2 a b) = m ((c : Thread nD τ).loc main_arg2) (ix2 a b) := by
  blk_ext! [iblk, V, idx t]

/-- The residual's block. -/
theorem blk3 (c : Dev nD) (t : Fin cfg0.N) (a : Fin 512) (b : Fin 1024) :
    iblk m c 3 t (ix2 a b) = m ((c : Thread nD τ).loc main_arg3) (ix2 (row t a) b) := by
  have := a.isLt; have := b.isLt
  blk_ext! [iblk, V, idx t]

/-- The gate's block. -/
theorem blk4 (c : Dev nD) (t : Fin cfg0.N) (b : Fin 1024) :
    iblk m c 4 t (ix4 0 0 0 b) = m ((c : Thread nD τ).loc main_arg4) (ix4 2 2 0 b) := by
  blk_ext! [iblk, V, idx t]

/-- The norm weight's block. -/
theorem blk5 (c : Dev nD) (t : Fin cfg0.N) (b : Fin 1024) :
    iblk m c 5 t (ix3 0 0 b) = V m c main_v0 (ix3 2 0 b) := by
  blk_ext! [iblk, idx t]

abbrev aM (c : Dev nD) : S2048x512.Idx → EReal := m ((c : Thread nD τ).loc main_arg0)
abbrev bM (c : Dev nD) : S2048x512.Idx → EReal := m ((c : Thread nD τ).loc main_arg1)
abbrev wM (c : Dev nD) : S1024x1024.Idx → EReal := m ((c : Thread nD τ).loc main_arg2)
abbrev xM (c : Dev nD) : S2048x1024.Idx → EReal := m ((c : Thread nD τ).loc main_arg3)
abbrev mdM (c : Dev nD) : S4x3x1x1024.Idx → EReal := m ((c : Thread nD τ).loc main_arg4)
abbrev gM (c : Dev nD) : S4x1x1024.Idx → EReal := V m c main_v0
abbrev yM (c : Dev nD) : Fin 2048 → Fin 1024 → EReal :=
  OutFwd.prod2 (fun i k => aM m c (ix2 i k)) (fun i k => bM m c (ix2 i k)) (fun k b => wM m c (ix2 k b))
abbrev oM (c : Dev nD) : Fin 2048 → Fin 1024 → EReal :=
  OutFwd.layer (yM m c) (fun i k => xM m c (ix2 i k)) (fun b => mdM m c (ix4 2 2 0 b)) (fun b => gM m c (ix3 2 0 b))

/-- The product at an index. -/
theorem pay1_at (A : Vec Ideal S512x512 .bf16) (W : Vec Ideal S512x1024 .bf16) (B : Vec Ideal S512x512 .bf16) (W' : Vec Ideal S512x1024 .bf16)
    (a : Fin 512) (b : Fin 1024) :
    k0_pay1 A W B W' (ix2 a b) = ∑ k : Fin 512, A (ix2 a k) * W (ix2 k b) + ∑ k : Fin 512, B (ix2 a k) * W' (ix2 k b) := by
  pointwise [k0_pay1]

/-- The output at an index, over the product. -/
theorem pay2_at (A : Vec Ideal S512x512 .bf16) (W : Vec Ideal S512x1024 .bf16) (B : Vec Ideal S512x512 .bf16) (W' : Vec Ideal S512x1024 .bf16)
    (x : Vec Ideal S512x1024 .f32) (gt : Vec Ideal S1x1x1x1024 .f32) (g : Vec Ideal S1x1x1024 .f32) (a : Fin 512) (b : Fin 1024) :
    k0_pay2 A W B W' x gt g (ix2 a b)
      = x (ix2 a b) + gt (ix4 0 0 0 b) * (k0_pay1 A W B W' (ix2 a b)
        * Ideal.rsqrt (RmsGrad.meanSq (Ideal.ofBits FTy.f32 1149239296#32) (Ideal.ofBits FTy.f32 897988541#32) fun k : Fin 1024 => k0_pay1 A W B W' (ix2 a k)) * g (ix3 0 0 b)) := by
  pointwise [k0_pay2]
  rfl

theorem pay3_at (A : Vec Ideal S512x512 .bf16) (W : Vec Ideal S512x1024 .bf16) (B : Vec Ideal S512x512 .bf16) (W' : Vec Ideal S512x1024 .bf16)
    (a : Fin 512) (b : Fin 1024) : k0_pay3 A W B W' (ix2 a b) = k0_pay1 A W B W' (ix2 a b) := by
  pointwise [k0_pay3]

/-- A half of the weight's rows, loaded. -/
theorem w_load (o : ℕ) (inb : ∀ a, (![o, 0] : Fin 2 → Nat) a + S512x1024.size a ≤ S1024x1024.size a) (W : S1024x1024.Idx → Elt Ideal .bf16)
    (k : Fin 512) (b : Fin 1024) (h : o + k.val < 1024) :
    View.ld (Val := Elt Ideal) (e' := .bf16) W (Rect.unit (s := S1024x1024) ![o, 0] S512x1024.size inb) (ix2 k b) = W (ix2 ⟨o + k.val, h⟩ b) :=
  View.ld_unit_apply_of (Val := Elt Ideal) (e := .bf16) W ![o, 0] S512x1024.size inb (ix2 k b) _ (fun i => by
    fin_cases i
    · rfl
    · show b.val = 0 + b.val
      omega)

/-- The product of a point's blocks. -/
theorem y_at (c : Dev nD) (t : Fin cfg0.N) (inb) (inb') (a : Fin 512) (b : Fin 1024) :
    k0_pay1 (iblk m c 0 t) (View.ld (Val := Elt Ideal) (e' := .bf16) (iblk m c 2 t) (Rect.unit (s := S1024x1024) ![0, 0] S512x1024.size inb)) (iblk m c 1 t)
      (View.ld (Val := Elt Ideal) (e' := .bf16) (iblk m c 2 t) (Rect.unit (s := S1024x1024) ![512, 0] S512x1024.size inb')) (ix2 a b) = yM m c (row t a) b := by
  refine (pay1_at _ _ _ _ a b).trans ?_
  unfold yM OutFwd.prod2
  refine congrArg₂ (· + ·) (Finset.sum_congr rfl fun k _ => ?_) (Finset.sum_congr rfl fun k _ => ?_)
  · refine congrArg₂ (· * ·) (blk0 m c t a k) ((w_load 0 inb (iblk m c 2 t) k b (by have := k.isLt; omega)).trans ((blk2 m c t _ b).trans ?_))
    refine congrArg (fun r => wM m c (ix2 r b)) (Fin.ext ?_)
    show 0 + k.val = k.val
    omega
  · exact congrArg₂ (· * ·) (blk1 m c t a k) ((w_load 512 inb' (iblk m c 2 t) k b (by have := k.isLt; omega)).trans (blk2 m c t _ b))

/-- What a point leaves in the second output's block. -/
theorem o7_at (c : Dev nD) (t : Fin cfg0.N) (a : Fin 512) (b : Fin 1024) :
    (outsAt0 m c t).2 (ix2 a b) = yM m c (row t a) b := by
  unfold outsAt0
  frame_out
  exact (pay3_at _ _ _ _ a b).trans (y_at m c t _ _ a b)

/-- What a point leaves in the first output's block. -/
theorem o6_at (c : Dev nD) (t : Fin cfg0.N) (a : Fin 512) (b : Fin 1024) :
    (outsAt0 m c t).1 (ix2 a b) = oM m c (row t a) b := by
  unfold outsAt0
  frame_out
  refine (pay2_at _ _ _ _ _ _ _ a b).trans ?_
  unfold oM OutFwd.layer
  have e : ∀ k : Fin 1024, _ = yM m c (row t a) k := fun k => y_at m c t inb_S1024x1024_S512x1024_0_0 inb_S1024x1024_S512x1024_512_0 a k
  refine congrArg₂ (fun p q : EReal => p + q) (blk3 m c t a b) (congrArg₂ (fun p q : EReal => p * q) (blk4 m c t b)
    (congrArg₂ (fun p q : EReal => p * q) (congrArg₂ (fun p q : EReal => p * q) (e b) ?_) (blk5 m c t b)))
  exact congrArg (fun f => Ideal.rsqrt (RmsGrad.meanSq _ _ f)) (funext e)

/-- The first output, the whole array. -/
theorem arr6 (c : Dev nD) : (dats m 0 c).arrAt 6 cfg0.N = fun i : S2048x1024.Idx => oM m c (i 0) (i 1) := by
  refine (dats m 0 c).arrAt_eq_of_covers 6 _ (by decide +kernel) fun t hf y => ?_
  obtain ⟨a, b, rfl⟩ : ∃ (a : Fin 512) (b : Fin 1024), y = ix2 a b := ⟨y 0, y 1, by funext k; fin_cases k <;> rfl⟩
  blk_simp
  rw [after0_6]
  have e0 : (win0_6.blk t).view.emb (ix2 a b) 0 = row t a := Fin.ext (by
    blk_simp [idx t]
    show t.val * 512 + a.val = 512 * t.val + a.val
    omega)
  have e1 : (win0_6.blk t).view.emb (ix2 a b) 1 = b := Fin.ext (by
    blk_simp [idx t])
  refine (o6_at m c t a b).trans ?_
  exact congrArg₂ (oM m c) e0.symm e1.symm

/-- The second output, the whole array. -/
theorem arr7 (c : Dev nD) : (dats m 0 c).arrAt 7 cfg0.N = fun i : S2048x1024.Idx => yM m c (i 0) (i 1) := by
  refine (dats m 0 c).arrAt_eq_of_covers 7 _ (by decide +kernel) fun t hf y => ?_
  obtain ⟨a, b, rfl⟩ : ∃ (a : Fin 512) (b : Fin 1024), y = ix2 a b := ⟨y 0, y 1, by funext k; fin_cases k <;> rfl⟩
  blk_simp
  rw [after0_7]
  have e0 : (win0_7.blk t).view.emb (ix2 a b) 0 = row t a := Fin.ext (by
    blk_simp [idx t]
    show t.val * 512 + a.val = 512 * t.val + a.val
    omega)
  have e1 : (win0_7.blk t).view.emb (ix2 a b) 1 = b := Fin.ext (by
    blk_simp [idx t])
  refine (o7_at m c t a b).trans ?_
  exact congrArg₂ (yM m c) e0.symm e1.symm

section Ref

open Cert.FwdReferenceIdeal.Read

/-- The reference's product, the two mixers' outputs side by side. -/
theorem ref_y (x0 x1 : S2048x512.Idx → EReal) (x2 : S1024x1024.Idx → EReal) (a : Fin 2048) (b : Fin 1024) :
    val_main_v3 (F := Ideal) x0 x1 x2 (ix2 a b)
      = OutFwd.prod2 (fun i k => x0 (ix2 i k)) (fun i k => x1 (ix2 i k)) (fun k b => x2 (ix2 k b)) a b := by
  rw [← OutFwd.sum_cat]
  unfold OutFwd.cat
  pointwise [val_main_v3, val_main_v2, val_main_v1, val_main_v0]

/-- The reference's output at an index. -/
theorem ref_o (x0 x1 : S2048x512.Idx → EReal) (x2 : S1024x1024.Idx → EReal) (x3 : S2048x1024.Idx → EReal) (x4 : S4x3x1x1024.Idx → EReal)
    (x5 : S4x1024.Idx → EReal) (a : Fin 2048) (b : Fin 1024) :
    val_main_v24 (F := Ideal) x0 x1 x2 x3 x4 x5 (ix2 a b)
      = OutFwd.layer (fun i k => val_main_v3 (F := Ideal) x0 x1 x2 (ix2 i k)) (fun i k => x3 (ix2 i k)) (fun b => x4 (ix4 2 2 0 b)) (fun b => x5 (ix2 2 b)) a b := by
  unfold OutFwd.layer RmsGrad.meanSq
  pointwise [val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_v19, val_main_v20, val_main_v21, val_main_v22, val_main_v23, val_main_v24]

theorem ref_y16 (x0 x1 : S2048x512.Idx → EReal) (x2 : S1024x1024.Idx → EReal) (a : Fin 2048) (b : Fin 1024) :
    val_main_v25 (F := Ideal) x0 x1 x2 (ix2 a b) = val_main_v3 (F := Ideal) x0 x1 x2 (ix2 a b) := by
  pointwise [val_main_v25]

end Ref

/-- The norm weight as the call is given it. -/
theorem entry_g (c : Dev nD) (k : Fin 1024) : gM m c (ix3 2 0 k) = m ((c : Thread nD τ).loc main_arg5) (ix2 2 k) := by
  unfold gM
  entry_read
  pointwise []

set_option maxHeartbeats 4000000 in
/-- The whole claim: the kernel's two results are the reference's. -/
theorem algebraic : Cert.algebraic_FwdKernelIdeal_FwdReferenceIdeal := by
  intro m g m' g' _ heq
  refine ⟨fun c => (dats m 0 c).arrAt 6 cfg0.N, fun c => (dats m 0 c).arrAt 7 cfg0.N, Cert.FwdKernelIdeal.Value.run_blocks m g, ?_⟩
  refine (θ_run Cert.FwdReferenceIdeal.defs _ _).mono (fun r h c => ?_) (Cert.FwdReferenceIdeal.Value.run m' g')
  obtain ⟨e24, e25, rest⟩ := h c
  obtain ⟨q0, q1, q2, q3, q4, q5, -⟩ := heq c
  refine ⟨e24.trans ?_, e25.trans ?_, rest⟩
  · rw [Cert.FwdReferenceIdeal.Read.val_main_v24_eq, q0, q1, q2, q3, q4, q5]
    refine Eq.trans ?_ (arr6 m c).symm
    funext i
    obtain ⟨a, b, rfl⟩ : ∃ (a : Fin 2048) (b : Fin 1024), i = ix2 a b := ⟨i 0, i 1, by funext k; fin_cases k <;> rfl⟩
    refine (ref_o _ _ _ _ _ _ a b).trans ?_
    have ey : (fun (i : Fin 2048) (k : Fin 1024) => Cert.FwdReferenceIdeal.Read.val_main_v3 (F := Ideal) (aM m c) (bM m c) (wM m c) (ix2 i k)) = yM m c :=
      funext fun i => funext fun k => ref_y _ _ _ i k
    have eg : (fun b : Fin 1024 => (m ((c : Thread nD τ).loc main_arg5) : S4x1024.Idx → EReal) (ix2 2 b)) = fun b => gM m c (ix3 2 0 b) :=
      funext fun b => (entry_g m c b).symm
    exact congrArg₂ (fun Y g => OutFwd.layer Y (fun i k => xM m c (ix2 i k)) (fun b => mdM m c (ix4 2 2 0 b)) g a b) ey eg
  · rw [Cert.FwdReferenceIdeal.Read.val_main_v25_eq, q0, q1, q2]
    refine Eq.trans ?_ (arr7 m c).symm
    funext i
    obtain ⟨a, b, rfl⟩ : ∃ (a : Fin 2048) (b : Fin 1024), i = ix2 a b := ⟨i 0, i 1, by funext k; fin_cases k <;> rfl⟩
    exact (ref_y16 _ _ _ a b).trans (ref_y _ _ _ a b)

end Cert.FwdKernelIdeal.FwdValue

end
-- ==== Proof.LossValue.lean ====
module

public import proofs.«01_k».proof.Proof.Gen.LossKernelIdeal.Value
public import proofs.«01_k».proof.Proof.Gen.LossReferenceIdeal.Read
public import proofs.«01_k».proof.Defs
public import proofs.«01_k».proof.Proof.OutFwd
public import proofs.«01_k».proof.Proof.Lits
public import Idealize.ShloMosaic.Lib.Pipeline.ValueKit.Point
public import Idealize.ShloMosaic.Lib.Pipeline.ReadBack
public import Idealize.ShloMosaic.Lib.ValueIdx

@[expose] public section

set_option maxRecDepth 16384

noncomputable section

namespace Cert.LossKernelIdeal.LossValue

open Cert.LossKernelIdeal Cert.LossKernelIdeal.Gen
open Idealize.ShloMosaic Idealize.ShloMosaic.TcCoe Idealize.SL.Sem
open Idealize.ShloMosaic.Pipeline (Dat)

variable (m : (ℓ : Loc nD τ sig) → Buf (Elt Ideal) ℓ)

/-- Where each window's block lies at point `t`. -/
theorem idx (t : Fin cfg0.N) : win0_0.index t = ![t.val, 0] ∧ win0_1.index t = ![t.val, 0] ∧ win0_2.index t = ![0, 0]
    ∧ win0_3.index t = ![t.val, 0] ∧ win0_4.index t = ![3, 2, 0, 0] ∧ win0_5.index t = ![3, 0, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![t.val, 0] ∧ win0_2.index t = ![0, 0]
    ∧ win0_3.index t = ![t.val, 0] ∧ win0_4.index t = ![3, 2, 0, 0] ∧ win0_5.index t = ![3, 0, 0] ∧ win0_6.index t = ![t.val, 0] ∧ win0_7.index t = ![t.val, 0] ∧ win0_8.index t = ![t.val, 0]) t

/-- A row of a point's block is a row of the array. -/
theorem lt_rows (t : Fin cfg0.N) (a : Fin 512) : 512 * t.val + a.val < 2048 := by
  have h : t.val < 4 := lt_of_lt_of_eq t.isLt N_0
  have := a.isLt
  omega

/-- Row `a` of point `t`'s block, as a row of the array. -/
abbrev row (t : Fin cfg0.N) (a : Fin 512) : Fin 2048 := ⟨512 * t.val + a.val, lt_rows t a⟩

/-- The first mixer's block. -/
theorem blk0 (c : Dev nD) (t : Fin cfg0.N) (a : Fin 512) (b : Fin 512) :
    iblk m c 0 t (ix2 a b) = m ((c : Thread nD τ).loc main_arg0) (ix2 (row t a) b) := by
  have := a.isLt; have := b.isLt
  blk_ext! [iblk, V, idx t]

/-- The second mixer's block. -/
theorem blk1 (c : Dev nD) (t : Fin cfg0.N) (a : Fin 512) (b : Fin 512) :
    iblk m c 1 t (ix2 a b) = m ((c : Thread nD τ).loc main_arg1) (ix2 (row t a) b) := by
  have := a.isLt; have := b.isLt
  blk_ext! [iblk, V, idx t]

/-- The weight's block, the whole weight. -/
theorem blk2 (c : Dev nD) (t : Fin cfg0.N) (a : Fin 1024) (b : Fin 1024) :
    iblk m c 2 t (ix2 a b) = m ((c : Thread nD τ).loc main_arg2) (ix2 a b) := by
  blk_ext! [iblk, V, idx t]

/-- The residual's block. -/
theorem blk3 (c : Dev nD) (t : Fin cfg0.N) (a : Fin 512) (b : Fin 1024) :
    iblk m c 3 t (ix2 a b) = m ((c : Thread nD τ).loc main_arg3) (ix2 (row t a) b) := by
  have := a.isLt; have := b.isLt
  blk_ext! [iblk, V, idx t]

/-- The gate's block. -/
theorem blk4 (c : Dev nD) (t : Fin cfg0.N) (b : Fin 1024) :
    iblk m c 4 t (ix4 0 0 0 b) = m ((c : Thread nD τ).loc main_arg4) (ix4 3 2 0 b) := by
  blk_ext! [iblk, V, idx t]

/-- The norm weight's block. -/
theorem blk5 (c : Dev nD) (t : Fin cfg0.N) (b : Fin 1024) :
    iblk m c 5 t (ix3 0 0 b) = V m c main_v0 (ix3 3 0 b) := by
  blk_ext! [iblk, idx t]

/-- The target's block. -/
theorem blk6 (c : Dev nD) (t : Fin cfg0.N) (a : Fin 512) (b : Fin 1024) :
    iblk m c 6 t (ix2 a b) = m ((c : Thread nD τ).loc main_arg6) (ix2 (row t a) b) := by
  have := a.isLt; have := b.isLt
  blk_ext! [iblk, V, idx t]

abbrev aM (c : Dev nD) : S2048x512.Idx → EReal := m ((c : Thread nD τ).loc main_arg0)
abbrev bM (c : Dev nD) : S2048x512.Idx → EReal := m ((c : Thread nD τ).loc main_arg1)
abbrev wM (c : Dev nD) : S1024x1024.Idx → EReal := m ((c : Thread nD τ).loc main_arg2)
abbrev xM (c : Dev nD) : S2048x1024.Idx → EReal := m ((c : Thread nD τ).loc main_arg3)
abbrev mdM (c : Dev nD) : S4x3x1x1024.Idx → EReal := m ((c : Thread nD τ).loc main_arg4)
abbrev gM (c : Dev nD) : S4x1x1024.Idx → EReal := V m c main_v0
abbrev yM (c : Dev nD) : Fin 2048 → Fin 1024 → EReal :=
  OutFwd.prod2 (fun i k => aM m c (ix2 i k)) (fun i k => bM m c (ix2 i k)) (fun k b => wM m c (ix2 k b))
abbrev oM (c : Dev nD) : Fin 2048 → Fin 1024 → EReal :=
  OutFwd.layer (yM m c) (fun i k => xM m c (ix2 i k)) (fun b => mdM m c (ix4 3 2 0 b)) (fun b => gM m c (ix3 3 0 b))

abbrev tM (c : Dev nD) : S2048x1024.Idx → EReal := m ((c : Thread nD τ).loc main_arg6)

/-- The difference of the output and the target. -/
abbrev dM (c : Dev nD) (i : Fin 2048) (b : Fin 1024) : EReal := oM m c i b - tM m c (ix2 i b)

/-- The product at an index. -/
theorem pay6_at (A : Vec Ideal S512x512 .bf16) (W : Vec Ideal S512x1024 .bf16) (B : Vec Ideal S512x512 .bf16) (W' : Vec Ideal S512x1024 .bf16)
    (a : Fin 512) (b : Fin 1024) :
    k0_pay6 A W B W' (ix2 a b) = ∑ k : Fin 512, A (ix2 a k) * W (ix2 k b) + ∑ k : Fin 512, B (ix2 a k) * W' (ix2 k b) := by
  pointwise [k0_pay6]

/-- The gated, normalised product at an index. -/
theorem pay8_at (A : Vec Ideal S512x512 .bf16) (W : Vec Ideal S512x1024 .bf16) (B : Vec Ideal S512x512 .bf16) (W' : Vec Ideal S512x1024 .bf16)
    (gt : Vec Ideal S1x1x1x1024 .f32) (g : Vec Ideal S1x1x1024 .f32) (a : Fin 512) (b : Fin 1024) :
    k0_pay8 A W B W' gt g (ix2 a b)
      = gt (ix4 0 0 0 b) * (k0_pay6 A W B W' (ix2 a b)
        * Ideal.rsqrt (RmsGrad.meanSq (Ideal.ofBits FTy.f32 1149239296#32) (Ideal.ofBits FTy.f32 897988541#32) fun k : Fin 1024 => k0_pay6 A W B W' (ix2 a k)) * g (ix3 0 0 b)) := by
  pointwise [k0_pay8]
  rfl

theorem pay7_at (A : Vec Ideal S512x512 .bf16) (W : Vec Ideal S512x1024 .bf16) (B : Vec Ideal S512x512 .bf16) (W' : Vec Ideal S512x1024 .bf16)
    (a : Fin 512) (b : Fin 1024) : k0_pay7 A W B W' (ix2 a b) = k0_pay6 A W B W' (ix2 a b) := by
  pointwise [k0_pay7]

/-- The difference at an index. -/
theorem pay1_at (x : Vec Ideal S512x1024 .f32) (p : FVec Ideal S512x1024 .f32) (tg : Vec Ideal S512x1024 .f32) (a : Fin 512) (b : Fin 1024) :
    k0_pay1 x p tg (ix2 a b) = x (ix2 a b) + p (ix2 a b) - tg (ix2 a b) := by
  pointwise [k0_pay1]

/-- The loss's gradient at an index. -/
theorem pay2_at (x : Vec Ideal S512x1024 .f32) (p : FVec Ideal S512x1024 .f32) (tg : Vec Ideal S512x1024 .f32) (a : Fin 512) (b : Fin 1024) :
    k0_pay2 x p tg (ix2 a b) = k0_pay1 x p tg (ix2 a b) * Ideal.ofBits FTy.f32 0x3A800000#32 := by
  pointwise [k0_pay2]

/-- The squares' sums, eight rows of them. -/
theorem pay3_at (x : Vec Ideal S512x1024 .f32) (p : FVec Ideal S512x1024 .f32) (tg : Vec Ideal S512x1024 .f32) (v : Vec Ideal S8x1024 .f32) (a : Fin 8) (b : Fin 1024) :
    k0_pay3 x p tg v (ix2 a b)
      = v (ix2 a b) + ∑ r : Fin 64, k0_pay1 x p tg (ix2 ⟨r.val * 8 + a.val, by have := r.isLt; have := a.isLt; omega⟩ b)
          * k0_pay1 x p tg (ix2 ⟨r.val * 8 + a.val, by have := r.isLt; have := a.isLt; omega⟩ b) := by
  pointwise [k0_pay3]

/-- The fill with zero. -/
theorem pay5_at (a : Fin 8) (b : Fin 1024) : k0_pay5 (F := Ideal) (ix2 a b) = 0 := by
  pointwise [k0_pay5]

/-- The loss. -/
theorem pay4_at (v : Vec Ideal S8x1024 .f32) (a : Fin 8) (b : Fin 128) :
    k0_pay4 v (ix2 a b) = (∑ r : Fin 8, ∑ k : Fin 1024, v (ix2 r k)) * Ideal.ofBits FTy.f32 0x3A000000#32 := by
  pointwise [k0_pay4]

/-- A half of the weight's rows, loaded. -/
theorem w_load (o : ℕ) (inb : ∀ a, (![o, 0] : Fin 2 → Nat) a + S512x1024.size a ≤ S1024x1024.size a) (W : S1024x1024.Idx → Elt Ideal .bf16)
    (k : Fin 512) (b : Fin 1024) (h : o + k.val < 1024) :
    View.ld (Val := Elt Ideal) (e' := .bf16) W (Rect.unit (s := S1024x1024) ![o, 0] S512x1024.size inb) (ix2 k b) = W (ix2 ⟨o + k.val, h⟩ b) :=
  View.ld_unit_apply_of (Val := Elt Ideal) (e := .bf16) W ![o, 0] S512x1024.size inb (ix2 k b) _ (fun i => by
    fin_cases i
    · rfl
    · show b.val = 0 + b.val
      omega)

/-- The product of a point's blocks. -/
theorem y_at (c : Dev nD) (t : Fin cfg0.N) (inb) (inb') (a : Fin 512) (b : Fin 1024) :
    k0_pay6 (iblk m c 0 t) (View.ld (Val := Elt Ideal) (e' := .bf16) (iblk m c 2 t) (Rect.unit (s := S1024x1024) ![0, 0] S512x1024.size inb)) (iblk m c 1 t)
      (View.ld (Val := Elt Ideal) (e' := .bf16) (iblk m c 2 t) (Rect.unit (s := S1024x1024) ![512, 0] S512x1024.size inb')) (ix2 a b) = yM m c (row t a) b := by
  refine (pay6_at _ _ _ _ a b).trans ?_
  unfold yM OutFwd.prod2
  refine congrArg₂ (· + ·) (Finset.sum_congr rfl fun k _ => ?_) (Finset.sum_congr rfl fun k _ => ?_)
  · refine congrArg₂ (· * ·) (blk0 m c t a k) ((w_load 0 inb (iblk m c 2 t) k b (by have := k.isLt; omega)).trans ((blk2 m c t _ b).trans ?_))
    refine congrArg (fun r => wM m c (ix2 r b)) (Fin.ext ?_)
    show 0 + k.val = k.val
    omega
  · exact congrArg₂ (· * ·) (blk1 m c t a k) ((w_load 512 inb' (iblk m c 2 t) k b (by have := k.isLt; omega)).trans (blk2 m c t _ b))

/-- What a point leaves in the second output's block. -/
theorem o8_at (c : Dev nD) (t : Fin cfg0.N) (a : Fin 512) (b : Fin 1024) :
    (outsAt0 m c t.val t.isLt).2.1 (ix2 a b) = yM m c (row t a) b := by
  by_cases h0 : (t : Nat) % 4 = 0
  · rw [outsAt0_A m c t h0 (by omega)]
    frame_out
    exact (pay7_at _ _ _ _ a b).trans (y_at m c t _ _ a b)
  · by_cases h1 : (t : Nat) % 4 = 3
    · rw [outsAt0_C m c t h0 h1]
      frame_out
      exact (pay7_at _ _ _ _ a b).trans (y_at m c t _ _ a b)
    · rw [outsAt0_B m c t h0 h1]
      frame_out
      exact (pay7_at _ _ _ _ a b).trans (y_at m c t _ _ a b)

/-- The difference of a point's blocks. -/
theorem d_at (c : Dev nD) (t : Fin cfg0.N) (inb) (inb') (a : Fin 512) (b : Fin 1024) :
    k0_pay1 (iblk m c 3 t) (k0_pay8 (iblk m c 0 t) (View.ld (Val := Elt Ideal) (e' := .bf16) (iblk m c 2 t) (Rect.unit (s := S1024x1024) ![0, 0] S512x1024.size inb)) (iblk m c 1 t)
      (View.ld (Val := Elt Ideal) (e' := .bf16) (iblk m c 2 t) (Rect.unit (s := S1024x1024) ![512, 0] S512x1024.size inb')) (iblk m c 4 t) (iblk m c 5 t)) (iblk m c 6 t) (ix2 a b)
      = dM m c (row t a) b := by
  refine (pay1_at _ _ _ a b).trans ?_
  unfold dM oM OutFwd.layer
  have e : ∀ k : Fin 1024, _ = yM m c (row t a) k := fun k => y_at m c t inb inb' a k
  refine congrArg₂ (fun p q : EReal => p - q) (congrArg₂ (fun p q : EReal => p + q) (blk3 m c t a b) ((pay8_at _ _ _ _ _ _ a b).trans
    (congrArg₂ (fun p q : EReal => p * q) (blk4 m c t b)
    (congrArg₂ (fun p q : EReal => p * q) (congrArg₂ (fun p q : EReal => p * q) (e b) ?_) (blk5 m c t b))))) (blk6 m c t a b)
  exact congrArg (fun f => Ideal.rsqrt (RmsGrad.meanSq _ _ f)) (funext e)

/-- What a point leaves in the first output's block. -/
theorem o7_at (c : Dev nD) (t : Fin cfg0.N) (a : Fin 512) (b : Fin 1024) :
    (outsAt0 m c t.val t.isLt).1 (ix2 a b) = dM m c (row t a) b * Ideal.ofBits FTy.f32 0x3A800000#32 := by
  by_cases h0 : (t : Nat) % 4 = 0
  · rw [outsAt0_A m c t h0 (by omega)]
    frame_out
    exact (pay2_at _ _ _ a b).trans (congrArg (fun p : EReal => p * _) (d_at m c t _ _ a b))
  · by_cases h1 : (t : Nat) % 4 = 3
    · rw [outsAt0_C m c t h0 h1]
      frame_out
      exact (pay2_at _ _ _ a b).trans (congrArg (fun p : EReal => p * _) (d_at m c t _ _ a b))
    · rw [outsAt0_B m c t h0 h1]
      frame_out
      exact (pay2_at _ _ _ a b).trans (congrArg (fun p : EReal => p * _) (d_at m c t _ _ a b))

/-- What one point adds to the squares' sums. -/
def sqPart (c : Dev nD) (t : Fin cfg0.N) (a : Fin 8) (b : Fin 1024) : EReal :=
  ∑ r : Fin 64, dM m c (row t ⟨r.val * 8 + a.val, by have := r.isLt; have := a.isLt; omega⟩) b
    * dM m c (row t ⟨r.val * 8 + a.val, by have := r.isLt; have := a.isLt; omega⟩) b

/-- The squares' sums after the first point. -/
theorem s_A (c : Dev nD) (t : Fin cfg0.N) (h0 : (t : Nat) % 4 = 0) (h1 : ¬(t : Nat) % 4 = 3) (a : Fin 8) (b : Fin 1024) :
    (outsAt0 m c t.val t.isLt).2.2.2 (ix2 a b) = 0 + sqPart m c t a b := by
  rw [outsAt0_A m c t h0 h1]
  frame_out
  refine (pay3_at _ _ _ _ a b).trans (congrArg₂ (fun p q : EReal => p + q) (pay5_at a b) (Finset.sum_congr rfl fun r _ => ?_))
  exact congrArg₂ (fun p q : EReal => p * q) (d_at m c t _ _ _ b) (d_at m c t _ _ _ b)

/-- The squares' sums after a later point. -/
theorem s_step (c : Dev nD) (t : Fin cfg0.N) (h0 : ¬(t : Nat) % 4 = 0) (a : Fin 8) (b : Fin 1024) :
    (outsAt0 m c t.val t.isLt).2.2.2 (ix2 a b)
      = (outsAt0 m c (t.val - 1) (Nat.lt_of_le_of_lt (Nat.sub_le _ _) t.isLt)).2.2.2 (ix2 a b) + sqPart m c t a b := by
  by_cases h1 : (t : Nat) % 4 = 3
  · rw [outsAt0_C m c t h0 h1]
    frame_out
    rw [read_unread_whole]
    refine (pay3_at _ _ _ _ a b).trans (congrArg (fun q : EReal => _ + q) (Finset.sum_congr rfl fun r _ => ?_))
    exact congrArg₂ (fun p q : EReal => p * q) (d_at m c t _ _ _ b) (d_at m c t _ _ _ b)
  · rw [outsAt0_B m c t h0 h1]
    frame_out
    rw [read_unread_whole]
    refine (pay3_at _ _ _ _ a b).trans (congrArg (fun q : EReal => _ + q) (Finset.sum_congr rfl fun r _ => ?_))
    exact congrArg₂ (fun p q : EReal => p * q) (d_at m c t _ _ _ b) (d_at m c t _ _ _ b)

/-- The squares' sums after the last point, all added. -/
theorem s_last (c : Dev nD) :
    (∑ a : Fin 8, ∑ b : Fin 1024, ((outsAt0 m c t0_3.val t0_3.isLt).2.2.2 (ix2 a b) : EReal)) = ∑ i : Fin 2048, ∑ b : Fin 1024, dM m c i b * dM m c i b := by
  have h : ∀ (a : Fin 8) (b : Fin 1024), ((outsAt0 m c t0_3.val t0_3.isLt).2.2.2 (ix2 a b) : EReal) = ∑ t : Fin cfg0.N, sqPart m c t a b := fun a b => by
    refine (Pipeline.eq_sum_fin_of_reset_step_apply_last (ι := Fin 8)
      (fun n h j => ((outsAt0 m c n h).2.2.2 (ix2 j b) : EReal)) 4 (fun _ => 0)
      (fun t j => sqPart m c t j b) (fun t h j => s_A m c t h (by omega) j b) (fun t h j => s_step m c t h j b)
      (le_of_eq N_0) t0_3 rfl a).trans ?_
    exact zero_add _
  simp only [h]
  rw [Finset.sum_comm, Finset.sum_comm (s := (Finset.univ : Finset (Fin 2048)))]
  refine Finset.sum_congr rfl fun b _ => ?_
  rw [Finset.sum_comm]
  refine (Finset.sum_congr rfl fun t _ => ?_ : _ = ∑ t : Fin cfg0.N, ∑ k : Fin 512, dM m c (row t k) b * dM m c (row t k) b).trans ?_
  · unfold sqPart
    rw [Finset.sum_comm]
    refine Fin.sum_mul_add_congr (n := 8) (f := fun k : Fin 512 => dM m c (row t k) b * dM m c (row t k) b) fun x a hl => ?_
    rfl
  · refine Fin.sum_mul_add_congr (n := 512) (f := fun i : Fin 2048 => dM m c i b * dM m c i b) fun t k hl => ?_
    have e : (⟨t.val * 512 + k.val, hl⟩ : Fin 2048) = row t k := Fin.ext (by show t.val * 512 + k.val = 512 * t.val + k.val; omega)
    rw [e]

/-- The loss the last point leaves. -/
theorem o9_at (c : Dev nD) (a : Fin 8) (b : Fin 128) :
    (outsAt0 m c t0_3.val t0_3.isLt).2.2.1 (ix2 a b) = (∑ i : Fin 2048, ∑ b : Fin 1024, dM m c i b * dM m c i b) * Ideal.ofBits FTy.f32 0x3A000000#32 := by
  rw [← s_last m c, outsAt0_C m c t0_3 (by decide) (by decide)]
  frame_out
  exact pay4_at _ a b

/-- The first output, the whole array. -/
theorem arr7 (c : Dev nD) : (dats m 0 c).arrAt 7 cfg0.N = fun i : S2048x1024.Idx => dM m c (i 0) (i 1) * Ideal.ofBits FTy.f32 0x3A800000#32 := by
  refine (dats m 0 c).arrAt_eq_of_covers 7 _ (by decide +kernel) fun t hf y => ?_
  obtain ⟨a, b, rfl⟩ : ∃ (a : Fin 512) (b : Fin 1024), y = ix2 a b := ⟨y 0, y 1, by funext k; fin_cases k <;> rfl⟩
  blk_simp
  rw [after0_7]
  have e0 : (win0_7.blk t).view.emb (ix2 a b) 0 = row t a := Fin.ext (by
    blk_simp [idx t]
    show t.val * 512 + a.val = 512 * t.val + a.val
    omega)
  have e1 : (win0_7.blk t).view.emb (ix2 a b) 1 = b := Fin.ext (by
    blk_simp [idx t])
  refine (o7_at m c t a b).trans ?_
  exact congrArg (fun p : EReal => p * _) (congrArg₂ (dM m c) e0.symm e1.symm)

/-- The second output, the whole array. -/
theorem arr8 (c : Dev nD) : (dats m 0 c).arrAt 8 cfg0.N = fun i : S2048x1024.Idx => yM m c (i 0) (i 1) := by
  refine (dats m 0 c).arrAt_eq_of_covers 8 _ (by decide +kernel) fun t hf y => ?_
  obtain ⟨a, b, rfl⟩ : ∃ (a : Fin 512) (b : Fin 1024), y = ix2 a b := ⟨y 0, y 1, by funext k; fin_cases k <;> rfl⟩
  blk_simp
  rw [after0_8]
  have e0 : (win0_8.blk t).view.emb (ix2 a b) 0 = row t a := Fin.ext (by
    blk_simp [idx t]
    show t.val * 512 + a.val = 512 * t.val + a.val
    omega)
  have e1 : (win0_8.blk t).view.emb (ix2 a b) 1 = b := Fin.ext (by
    blk_simp [idx t])
  refine (o8_at m c t a b).trans ?_
  exact congrArg₂ (yM m c) e0.symm e1.symm

/-- The loss, the whole array. -/
theorem arr9 (c : Dev nD) : (dats m 0 c).arrAt 9 cfg0.N
    = fun _ : S8x128.Idx => (∑ i : Fin 2048, ∑ b : Fin 1024, dM m c i b * dM m c i b) * Ideal.ofBits FTy.f32 0x3A000000#32 := by
  refine (dats m 0 c).arrAt_eq_of_after_last 9 t0_3 (by decide +kernel) _ fun j => ?_
  obtain ⟨a, b, rfl⟩ : ∃ (a : Fin 8) (b : Fin 128), j = ix2 a b := ⟨j 0, j 1, by funext k; fin_cases k <;> rfl⟩
  rw [after0_9]
  exact o9_at m c a b

section Ref

open Cert.LossReferenceIdeal.Read

variable (x0 x1 : S2048x512.Idx → EReal) (x2 : S1024x1024.Idx → EReal) (x3 : S2048x1024.Idx → EReal) (x4 : S4x3x1x1024.Idx → EReal)
  (x5 : S4x1024.Idx → EReal) (x6 : S2048x1024.Idx → EReal)

/-- The reference's product, the two mixers' outputs side by side. -/
theorem ref_y (a : Fin 2048) (b : Fin 1024) :
    val_main_v3 (F := Ideal) x0 x1 x2 (ix2 a b)
      = OutFwd.prod2 (fun i k => x0 (ix2 i k)) (fun i k => x1 (ix2 i k)) (fun k b => x2 (ix2 k b)) a b := by
  rw [← OutFwd.sum_cat]
  unfold OutFwd.cat
  pointwise [val_main_v3, val_main_v2, val_main_v1, val_main_v0]

/-- The reference's output at an index. -/
theorem ref_o (a : Fin 2048) (b : Fin 1024) :
    val_main_v24 (F := Ideal) x0 x1 x2 x3 x4 x5 (ix2 a b)
      = OutFwd.layer (fun i k => val_main_v3 (F := Ideal) x0 x1 x2 (ix2 i k)) (fun i k => x3 (ix2 i k)) (fun b => x4 (ix4 3 2 0 b)) (fun b => x5 (ix2 3 b)) a b := by
  unfold OutFwd.layer RmsGrad.meanSq
  pointwise [val_main_v4, val_main_v5, val_main_v6, val_main_v7, val_main_v8, val_main_cst, val_main_v9, val_main_v10, val_main_cst_0, val_main_v11, val_main_v12, val_main_cst_1, val_main_v13, val_main_v14, val_main_v15, val_main_v16, val_main_v17, val_main_v18, val_main_v19, val_main_v20, val_main_v21, val_main_v22, val_main_v23, val_main_v24]

theorem ref_y16 (a : Fin 2048) (b : Fin 1024) :
    val_main_v40 (F := Ideal) x0 x1 x2 (ix2 a b) = val_main_v3 (F := Ideal) x0 x1 x2 (ix2 a b) := by
  pointwise [val_main_v40]

/-- The reference's difference. -/
theorem ref_d (a : Fin 2048) (b : Fin 1024) :
    val_main_v25 (F := Ideal) x0 x1 x2 x3 x4 x5 x6 (ix2 a b) = val_main_v24 (F := Ideal) x0 x1 x2 x3 x4 x5 (ix2 a b) - x6 (ix2 a b) := by
  pointwise [val_main_v25]

/-- The reference's gradient of the loss. -/
theorem ref_dx (a : Fin 2048) (b : Fin 1024) :
    val_main_v39 (F := Ideal) x0 x1 x2 x3 x4 x5 x6 (ix2 a b)
      = Ideal.div (Ideal.ofBits FTy.f32 0x3F000000#32 * 1) (Ideal.ofBits FTy.f32 0x44800000#32)
        * (Ideal.ofBits FTy.f32 0x40000000#32 * val_main_v25 (F := Ideal) x0 x1 x2 x3 x4 x5 x6 (ix2 a b)) := by
  pointwise [val_main_v39, val_main_v38, val_main_v37, val_main_v36, val_main_v35, val_main_v34, val_main_cst_9, val_main_cst_8, val_main_cst_7, val_main_v28, val_main_v27, val_main_cst_2]

/-- The reference's loss. -/
theorem ref_loss (a : Fin 8) (b : Fin 128) :
    val_main_v41 (F := Ideal) x0 x1 x2 x3 x4 x5 x6 (ix2 a b)
      = Ideal.ofBits FTy.f32 0x3F000000#32 * ∑ i : Fin 2048, Ideal.div (∑ k : Fin 1024, val_main_v25 (F := Ideal) x0 x1 x2 x3 x4 x5 x6 (ix2 i k)
          * val_main_v25 (F := Ideal) x0 x1 x2 x3 x4 x5 x6 (ix2 i k)) (Ideal.ofBits FTy.f32 0x44800000#32) := by
  pointwise [val_main_v41, val_main_v33, val_main_cst_6, val_main_v32, val_main_cst_5, val_main_v31, val_main_v30, val_main_cst_4, val_main_v29, val_main_cst_3, val_main_v26]

end Ref

/-- The words for a half, for two, and for a 1024th and a 2048th. -/
theorem half_lit : Ideal.ofBits FTy.f32 0x3F000000#32 = ((1/2 : ℝ) : EReal) := by
  simp [Ideal.ofBits, Ideal.ieee, -EReal.coe_mul]; norm_num

theorem two_lit : Ideal.ofBits FTy.f32 0x40000000#32 = ((2 : ℝ) : EReal) := by
  simp [Ideal.ofBits, Ideal.ieee, -EReal.coe_mul]; norm_num

theorem inv_lit : Ideal.ofBits FTy.f32 0x3A800000#32 = ((1/1024 : ℝ) : EReal) := by
  simp [Ideal.ofBits, Ideal.ieee, -EReal.coe_mul]; norm_num

theorem inv2_lit : Ideal.ofBits FTy.f32 0x3A000000#32 = ((1/2048 : ℝ) : EReal) := by
  simp [Ideal.ofBits, Ideal.ieee, -EReal.coe_mul]; norm_num

/-- Division by 1024 is multiplication by its reciprocal. -/
theorem div_n (x : EReal) : Ideal.div x ((1024 : ℝ) : EReal) = x * ((1/1024 : ℝ) : EReal) := by
  unfold Ideal.div
  rw [if_neg (by exact_mod_cast (by norm_num : (1024 : ℝ) ≠ 0)), ← EReal.coe_inv]
  norm_num

/-- A positive real factor goes into any finite sum. -/
theorem mul_sum_pos {n : ℕ} (r : ℝ) (hr : 0 ≤ r) (f : Fin n → EReal) : (r : EReal) * ∑ i, f i = ∑ i, (r : EReal) * f i := by
  induction n with
  | zero => simp
  | succ n ih =>
    rw [Fin.sum_univ_succ, Fin.sum_univ_succ, EReal.left_distrib_of_nonneg_of_ne_top (by exact_mod_cast hr) (EReal.coe_ne_top r), ih]

/-- The gradient's factors, joined. -/
theorem dx_eq (d : EReal) : Ideal.div (Ideal.ofBits FTy.f32 0x3F000000#32 * 1) (Ideal.ofBits FTy.f32 0x44800000#32) * (Ideal.ofBits FTy.f32 0x40000000#32 * d)
    = d * Ideal.ofBits FTy.f32 0x3A800000#32 := by
  rw [Lits.n_lit, half_lit, two_lit, inv_lit, div_n, mul_one, ← mul_assoc, ← EReal.coe_mul, ← EReal.coe_mul, mul_comm d]
  norm_num

/-- The loss's factors, joined. -/
theorem loss_eq (f : Fin 2048 → EReal) : Ideal.ofBits FTy.f32 0x3F000000#32 * ∑ i : Fin 2048, Ideal.div (f i) (Ideal.ofBits FTy.f32 0x44800000#32)
    = (∑ i : Fin 2048, f i) * Ideal.ofBits FTy.f32 0x3A000000#32 := by
  rw [Lits.n_lit, half_lit, inv2_lit, mul_comm (∑ i : Fin 2048, f i), mul_sum_pos _ (by norm_num), mul_sum_pos _ (by norm_num)]
  refine Finset.sum_congr rfl fun i _ => ?_
  rw [div_n, mul_comm (f i), ← mul_assoc, ← EReal.coe_mul]
  norm_num

/-- The norm weight as the call is given it. -/
theorem entry_g (c : Dev nD) (k : Fin 1024) : gM m c (ix3 3 0 k) = m ((c : Thread nD τ).loc main_arg5) (ix2 3 k) := by
  unfold gM
  entry_read
  pointwise []

/-- The reference's difference is the kernel's. -/
theorem ref_d_eq (c : Dev nD) (i : Fin 2048) (b : Fin 1024) :
    Cert.LossReferenceIdeal.Read.val_main_v25 (F := Ideal) (aM m c) (bM m c) (wM m c) (xM m c) (mdM m c) (m ((c : Thread nD τ).loc main_arg5)) (tM m c) (ix2 i b)
      = dM m c i b := by
  refine (ref_d _ _ _ _ _ _ _ i b).trans (congrArg (fun p : EReal => p - _) ((ref_o _ _ _ _ _ _ i b).trans ?_))
  have ey : (fun (i : Fin 2048) (k : Fin 1024) => Cert.LossReferenceIdeal.Read.val_main_v3 (F := Ideal) (aM m c) (bM m c) (wM m c) (ix2 i k)) = yM m c :=
    funext fun i => funext fun k => ref_y _ _ _ i k
  have eg : (fun b : Fin 1024 => (m ((c : Thread nD τ).loc main_arg5) : S4x1024.Idx → EReal) (ix2 3 b)) = fun b => gM m c (ix3 3 0 b) :=
    funext fun b => (entry_g m c b).symm
  exact congrArg₂ (fun Y g => OutFwd.layer Y (fun i k => xM m c (ix2 i k)) (fun b => mdM m c (ix4 3 2 0 b)) g i b) ey eg

set_option maxHeartbeats 4000000 in
/-- The whole claim: the kernel's three results are the reference's. -/
theorem algebraic : Cert.algebraic_LossKernelIdeal_LossReferenceIdeal := by
  intro m g m' g' _ heq
  refine ⟨fun c => (dats m 0 c).arrAt 7 cfg0.N, fun c => (dats m 0 c).arrAt 8 cfg0.N, fun c => (dats m 0 c).arrAt 9 cfg0.N,
    Cert.LossKernelIdeal.Value.run_blocks m g, ?_⟩
  refine (θ_run Cert.LossReferenceIdeal.defs _ _).mono (fun r h c => ?_) (Cert.LossReferenceIdeal.Value.run m' g')
  obtain ⟨e39, e40, e41, rest⟩ := h c
  obtain ⟨q0, q1, q2, q3, q4, q5, q6⟩ := heq c
  refine ⟨e39.trans ?_, e40.trans ?_, e41.trans ?_, rest⟩
  · rw [Cert.LossReferenceIdeal.Read.val_main_v39_eq, q0, q1, q2, q3, q4, q5, q6]
    refine Eq.trans ?_ (arr7 m c).symm
    funext i
    obtain ⟨a, b, rfl⟩ : ∃ (a : Fin 2048) (b : Fin 1024), i = ix2 a b := ⟨i 0, i 1, by funext k; fin_cases k <;> rfl⟩
    refine (ref_dx _ _ _ _ _ _ _ a b).trans ((dx_eq _).trans ?_)
    exact congrArg (fun p : EReal => p * _) (ref_d_eq m c a b)
  · rw [Cert.LossReferenceIdeal.Read.val_main_v40_eq, q0, q1, q2]
    refine Eq.trans ?_ (arr8 m c).symm
    funext i
    obtain ⟨a, b, rfl⟩ : ∃ (a : Fin 2048) (b : Fin 1024), i = ix2 a b := ⟨i 0, i 1, by funext k; fin_cases k <;> rfl⟩
    exact (ref_y16 _ _ _ a b).trans (ref_y _ _ _ a b)
  · refine (Cert.LossReferenceIdeal.Read.val_main_v41_eq _ _).trans ?_
    rw [q0, q1, q2, q3, q4, q5, q6]
    refine Eq.trans ?_ (arr9 m c).symm
    funext i
    obtain ⟨a, b, rfl⟩ : ∃ (a : Fin 8) (b : Fin 128), i = ix2 a b := ⟨i 0, i 1, by funext k; fin_cases k <;> rfl⟩
    refine (ref_loss _ _ _ _ _ _ _ a b).trans ((loss_eq _).trans (congrArg (fun p : EReal => p * _) ?_))
    exact Finset.sum_congr rfl fun i _ => Finset.sum_congr rfl fun k _ => congrArg₂ (fun p q : EReal => p * q) (ref_d_eq m c i k) (ref_d_eq m c i k)

end Cert.LossKernelIdeal.LossValue

end
-- ==== Proof.MixRefs.lean ====
module

public import proofs.«01_k».proof.Proof.Gen.MixKernelIdeal.Frame
public import proofs.«01_k».proof.Proof.Gen.MixKernelIdeal.Loops
public import proofs.«01_k».proof.Proof.Gen.MixKernelIdeal.Points

@[expose] public section

set_option maxRecDepth 16384

noncomputable section

namespace Cert.MixKernelIdeal.Mix

open Cert.MixKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers one call of the body is given (its fetched inputs, the blocks it may write, its scratch), each whole. -/
structure Refs where
  a1 : Memref sig .tc .vmem S2048x128 .bf16
  h1 : a1.IsWhole
  a2 : Memref sig .tc .vmem S2048x128 .bf16
  h2 : a2.IsWhole
  a3 : Memref sig .tc .vmem S2048x128 .bf16
  h3 : a3.IsWhole
  a4 : Memref sig .tc .vmem S2048x128 .bf16
  h4 : a4.IsWhole
  a5 : Memref sig .tc .vmem S2048x128 .bf16
  h5 : a5.IsWhole
  a6 : Memref sig .tc .vmem S2048x128 .bf16
  h6 : a6.IsWhole
  a7 : Memref sig .tc .vmem S2048x128 .bf16
  h7 : a7.IsWhole
  a8 : Memref sig .tc .vmem S2048x128 .bf16
  h8 : a8.IsWhole
  a9 : Memref sig .tc .vmem S1x1x3x128 .f32
  h9 : a9.IsWhole
  a10 : Memref sig .tc .vmem S1x1x128x128 .f32
  h10 : a10.IsWhole
  a11 : Memref sig .tc .vmem S1x1x128 .f32
  h11 : a11.IsWhole
  a13 : Memref sig .tc .vmem S2048x128 .bf16
  h13 : a13.IsWhole
  a14 : Memref sig .tc .vmem S2048x128 .bf16
  h14 : a14.IsWhole
  a15 : Memref sig .tc .vmem S2048x128 .bf16
  h15 : a15.IsWhole
  a16 : Memref sig .tc .vmem S2048x128 .bf16
  h16 : a16.IsWhole
  a17 : Memref sig .tc .vmem S2048x128 .bf16
  h17 : a17.IsWhole
  a18 : Memref sig .tc .vmem S2048x128 .bf16
  h18 : a18.IsWhole
  a19 : Memref sig .tc .vmem S1x3x128 .f32
  h19 : a19.IsWhole
  a20 : Memref sig .tc .vmem S1x128x128 .bf16
  h20 : a20.IsWhole
  a21 : Memref sig .tc .vmem S1x128 .f32
  h21 : a21.IsWhole
  a22 : Memref sig .tc .vmem S2048x128 .f32
  h22 : a22.IsWhole
  a23 : Memref sig .tc .vmem S2048x128 .bf16
  h23 : a23.IsWhole
  a24 : Memref sig .tc .vmem S2064x128 .f32
  h24 : a24.IsWhole

/-- The body of the call at grid coordinates `i` on the buffers `R`. -/
abbrev bodyOf (i : grid0.Coords) (R : Refs) := cc0_mix_bwd (F := F) i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24

/-- A whole buffer holding exactly the contents that read as `x`. -/
abbrev holds (c : Dev nD) {s : Shape} {e : EltTy} {M : Memref sig .tc .vmem s e} (h : M.IsWhole) (x : Vec F s e) : sProp 𝕄 :=
  iprop(M.view.loc (c : Thread nD τ) ↦[M.view.set]{fullShare} h.unread x)

/-- Owning a whole buffer at `x` is holding exactly those contents. -/
theorem owns_eq_holds (c : Dev nD) {s : Shape} {e : EltTy} {M : Memref sig .tc .vmem s e} (h : M.IsWhole) (x : Vec F s e) :
    (owns (c : Thread nD τ) M fullShare x : sProp 𝕄) ⊣⊢ holds c h x := by
  constructor
  · unfold owns
    iintro ⟨%f, %hf, H⟩
    obtain rfl := h.eq_unread hf
    iexact H
  · unfold owns
    iintro H
    iexists _
    isplitr
    · ipureintro; exact h.read_unread _
    iexact H

end Cert.MixKernelIdeal.Mix

end
-- ==== Proof.MixBlocks.lean ====
module

public import Idealize.ShloMosaic.Lib.Pipeline.Frame
public import Idealize.ShloMosaic.Lib.Pipeline.ReadBack
public import Idealize.ShloMosaic.Lib.Pipeline.ValueKit.Tiles
public import Idealize.ShloMosaic.Lib.ValueIdx
public import Idealize.ShloMosaic.Lib.Pointwise
public import Idealize.ShloMosaic.Lib.Writes
public import Idealize.ShloMosaic.Lib.WholeRead

@[expose] public section

noncomputable section

namespace MixBlocks

open Idealize.ShloMosaic

variable {Val : EltTy → Type} {e : EltTy} {sig : RefSig} {κ : Kind} {sp : Space}

/-- Arrays of `n` rows of 128 lanes. -/
abbrev Mat (Val : EltTy → Type) (n : ℕ) (e : EltTy) : Type := (⟨2, ![n, 128]⟩ : Shape).Idx → Val e

/-- The `n` rows from row `o` on of an array of `N` rows. -/
def chunk {N : ℕ} [NeZero N] (n : ℕ) (X : Mat Val N e) (o : ℕ) : Mat Val n e := fun j => X (ix2 (Fin.ofNat N (o + (j 0).val)) (j 1))

/-- The array of `N` rows whose rows from `B * k` on are the block `blk k`. -/
def stack {N : ℕ} (B : ℕ) [NeZero B] (blk : ℕ → Mat Val B e) : Mat Val N e := fun y => blk ((y 0).val / B) (ix2 (Fin.ofNat B (y 0).val) (y 1))

/-- A load of rows from a whole buffer holding `X` gives those rows of `X`. -/
theorem readAt_chunk {N n : ℕ} [NeZero N] {m : Memref sig κ sp ⟨2, ![N, 128]⟩ e} (h : m.IsWhole) (X : Mat Val N e)
    (off : Fin 2 → ℕ) (o : ℕ) (ho : off = ![o, 0]) (inb : ∀ a, off a + (![n, 128] : Fin 2 → ℕ) a ≤ (⟨2, ![N, 128]⟩ : Shape).size a) :
    View.readAt Val m.view (Rect.unit (s := ⟨2, ![N, 128]⟩) off ![n, 128] inb).toLoadRect (h.unread X) = chunk n X o := by
  subst ho
  funext x
  refine (h.readAt_unread X _ x).trans (congrArg X ?_)
  funext a
  apply Fin.ext
  refine (Rect.idx_unit_val _ _ inb x a).trans ?_
  have hx : (x 0).val < n := (x 0).isLt
  have h0 : o + n ≤ N := inb 0
  fin_cases a
  · show o + (x 0).val = (o + (x 0).val) % N
    rw [Nat.mod_eq_of_lt (by omega)]
  · show 0 + (x 1).val = (x 1).val
    omega

/-- Stores of all the blocks, one after another over anything, leave the stacked blocks. -/
theorem writes_stack {N B K : ℕ} [NeZero B] (hN : N = B * K) {m : Memref sig κ sp ⟨2, ![N, 128]⟩ e} (h : m.IsWhole)
    (f : m.view.ty.Contents Val) (blk : ℕ → Mat Val B e) (L : List (View.Piece Val ⟨2, ![N, 128]⟩ e))
    (hL : ∀ p ∈ L, ∃ (k : ℕ) (off : Fin 2 → ℕ) (inb : ∀ a, off a + (![B, 128] : Fin 2 → ℕ) a ≤ (⟨2, ![N, 128]⟩ : Shape).size a),
      off = ![B * k, 0] ∧ p = ⟨Rect.unit off ![B, 128] inb, blk k⟩)
    (hC : ∀ k < K, ∃ (off : Fin 2 → ℕ) (inb : ∀ a, off a + (![B, 128] : Fin 2 → ℕ) a ≤ (⟨2, ![N, 128]⟩ : Shape).size a),
      off = ![B * k, 0] ∧ (⟨Rect.unit off ![B, 128] inb, blk k⟩ : View.Piece Val ⟨2, ![N, 128]⟩ e) ∈ L) :
    m.view.writes Val f L = h.unread (stack B blk) := by
  refine h.eq_unread (funext fun y => View.read_writes_apply_of_pieces m.view f (stack B blk) L ?_ y ?_)
  · intro p hp x
    obtain ⟨k, off, inb, rfl, rfl⟩ := hL p hp
    have hx : (x 0).val < B := (x 0).isLt
    have e0 : ((((Rect.unit (s := ⟨2, ![N, 128]⟩) ![B * k, 0] ![B, 128] inb).emb x) 0) : ℕ) = B * k + (x 0).val := by
      rw [Rect.emb_apply]; exact Rect.idx_unit_val _ _ inb x 0
    have e1 : ((((Rect.unit (s := ⟨2, ![N, 128]⟩) ![B * k, 0] ![B, 128] inb).emb x) 1) : ℕ) = (x 1).val := by
      rw [Rect.emb_apply]; exact (Rect.idx_unit_val _ _ inb x 1).trans (Nat.zero_add _)
    show blk k x = blk (_ / B) (ix2 (Fin.ofNat B _) _)
    have hB : 0 < B := Nat.pos_of_ne_zero (NeZero.ne B)
    rw [e0, Nat.mul_add_div hB, Nat.div_eq_of_lt hx, Nat.add_zero]
    refine congrArg (blk k) (funext fun a => Fin.ext ?_)
    fin_cases a
    · show (x 0).val = (B * k + (x 0).val) % B
      rw [Nat.mul_add_mod, Nat.mod_eq_of_lt hx]
    · exact e1.symm
  · have hy : (y 0).val < N := (y 0).isLt
    have hB : 0 < B := Nat.pos_of_ne_zero (NeZero.ne B)
    obtain ⟨off, inb, rfl, hm⟩ := hC ((y 0).val / B) (Nat.div_lt_of_lt_mul (by omega))
    refine ⟨_, hm, ?_⟩
    rw [Rect.mem_set_unit]
    have := Nat.div_add_mod (y 0).val B
    have := Nat.mod_lt (y 0).val hB
    intro a
    fin_cases a
    · show B * ((y 0).val / B) ≤ (y 0).val ∧ (y 0).val < B * ((y 0).val / B) + B
      omega
    · exact ⟨Nat.zero_le _, by show (y 1).val < 0 + 128; have : (y 1).val < 128 := (y 1).isLt; omega⟩

/-- The pieces that blocks of rows stored one after another leave: the last is first. -/
theorem mem_blocks {N B T : ℕ} (off : Fin T → Fin 2 → ℕ) (inb : ∀ k a, off k a + (![B, 128] : Fin 2 → ℕ) a ≤ (⟨2, ![N, 128]⟩ : Shape).size a)
    (w : Fin T → Mat Val B e) (P : ℕ → List (View.Piece Val ⟨2, ![N, 128]⟩ e)) (h0 : P 0 = [])
    (hs : ∀ k : Fin T, P (k.val + 1) = (⟨Rect.unit (s := ⟨2, ![N, 128]⟩) (off k) ![B, 128] (inb k), w k⟩ : View.Piece Val ⟨2, ![N, 128]⟩ e) :: P k.val) :
    ∀ n ≤ T, (∀ p ∈ P n, ∃ k : Fin T, p = ⟨Rect.unit (s := ⟨2, ![N, 128]⟩) (off k) ![B, 128] (inb k), w k⟩)
      ∧ ∀ k : Fin T, k.val < n → (⟨Rect.unit (s := ⟨2, ![N, 128]⟩) (off k) ![B, 128] (inb k), w k⟩ : View.Piece Val ⟨2, ![N, 128]⟩ e) ∈ P n
  | 0, _ => ⟨fun p hp => by rw [h0] at hp; exact absurd hp List.not_mem_nil, fun k hk => absurd hk (Nat.not_lt_zero _)⟩
  | n + 1, hn => by
    obtain ⟨ih1, ih2⟩ := mem_blocks off inb w P h0 hs n (by omega)
    have e := hs ⟨n, hn⟩
    refine ⟨fun p hp => ?_, fun k hk => ?_⟩
    · rw [show n + 1 = (⟨n, hn⟩ : Fin T).val + 1 from rfl, e] at hp
      rcases List.mem_cons.mp hp with rfl | hp
      · exact ⟨_, rfl⟩
      · exact ih1 p hp
    · rw [show n + 1 = (⟨n, hn⟩ : Fin T).val + 1 from rfl, e]
      rcases Nat.lt_succ_iff_lt_or_eq.mp hk with h | h
      · exact List.mem_cons_of_mem _ (ih2 k h)
      · obtain rfl : k = ⟨n, hn⟩ := Fin.ext h
        exact List.mem_cons_self

/-- So the buffer holds the stacked blocks, whatever it held before (`σ` is the order the blocks come in). -/
theorem blocks_done {N B T K : ℕ} [NeZero B] (hN : N = B * K) (off : Fin T → Fin 2 → ℕ) (σ : Fin T → ℕ) (hσ : ∀ j < K, ∃ k, σ k = j) (hoff : ∀ k, off k = ![B * σ k, 0])
    (inb : ∀ k a, off k a + (![B, 128] : Fin 2 → ℕ) a ≤ (⟨2, ![N, 128]⟩ : Shape).size a) (w : Fin T → Mat Val B e) (blk : ℕ → Mat Val B e) (hw : ∀ k, w k = blk (σ k))
    (P : ℕ → List (View.Piece Val ⟨2, ![N, 128]⟩ e)) (h0 : P 0 = [])
    (hs : ∀ k : Fin T, P (k.val + 1) = (⟨Rect.unit (s := ⟨2, ![N, 128]⟩) (off k) ![B, 128] (inb k), w k⟩ : View.Piece Val ⟨2, ![N, 128]⟩ e) :: P k.val)
    {a : Memref sig κ sp ⟨2, ![N, 128]⟩ e} (h : a.IsWhole) (f : a.view.ty.Contents Val) :
    a.view.writes Val f (P T) = h.unread (stack B blk) := by
  obtain ⟨h1, h2⟩ := mem_blocks off inb w P h0 hs T le_rfl
  refine writes_stack hN h f blk _ (fun p hp => ?_) (fun j hj => ?_)
  · obtain ⟨k, rfl⟩ := h1 p hp
    exact ⟨σ k, off k, inb k, hoff k, by rw [hw]⟩
  · obtain ⟨k, rfl⟩ := hσ j hj
    refine ⟨off k, inb _, hoff _, ?_⟩
    have := h2 k k.isLt
    rw [hw] at this
    exact this

/-- A load of all of a whole buffer holding `X` gives `X`. -/
theorem readAt_all {s : Shape} {m : Memref sig κ sp s e} (h : m.IsWhole) (X : s.Idx → Val e) (off : Fin s.rank → ℕ) (ho : ∀ a, off a = 0)
    (inb : ∀ a, off a + s.size a ≤ s.size a) : View.readAt Val m.view (Rect.unit (s := s) off s.size inb).toLoadRect (h.unread X) = X := by
  funext x
  refine (h.readAt_unread X _ x).trans (congrArg X ?_)
  funext a
  apply Fin.ext
  refine (Rect.idx_unit_val _ _ inb x a).trans ?_
  rw [ho a, Nat.zero_add]

/-- A store of all of a whole buffer leaves what was stored. -/
theorem writes_all {s : Shape} {m : Memref sig κ sp s e} (h : m.IsWhole) (f : m.view.ty.Contents Val) (X : s.Idx → Val e) (off : Fin s.rank → ℕ) (ho : ∀ a, off a = 0)
    (inb : ∀ a, off a + s.size a ≤ s.size a) : m.view.writes Val f [⟨Rect.unit (s := s) off s.size inb, X⟩] = h.unread X := by
  refine h.eq_unread (funext fun y => View.read_writes_apply_of_pieces m.view f X _ ?_ y ?_)
  · intro p hp x
    obtain rfl := List.mem_singleton.mp hp
    refine congrArg X (funext fun a => Fin.ext ?_)
    rw [Rect.emb_apply]
    refine ((Rect.idx_unit_val _ _ inb x a).trans ?_).symm
    rw [ho a, Nat.zero_add]
  · refine ⟨_, List.mem_singleton.mpr rfl, ?_⟩
    rw [Rect.mem_set_unit]
    intro a
    rw [ho a]
    exact ⟨Nat.zero_le _, by rw [Nat.zero_add]; exact (y a).isLt⟩

/-- Two stores, of the first `A` rows and of the rest, leave the one above the other. -/
theorem writes_two {N A B : ℕ} [NeZero B] (hN : N = A + B) {m : Memref sig κ sp ⟨2, ![N, 128]⟩ e} (h : m.IsWhole)
    (f : m.view.ty.Contents Val) (X : Mat Val A e) (Y : Mat Val B e)
    (inb : ∀ a, (![0, 0] : Fin 2 → ℕ) a + (![A, 128] : Fin 2 → ℕ) a ≤ (⟨2, ![N, 128]⟩ : Shape).size a)
    (inb' : ∀ a, (![A, 0] : Fin 2 → ℕ) a + (![B, 128] : Fin 2 → ℕ) a ≤ (⟨2, ![N, 128]⟩ : Shape).size a) :
    m.view.writes Val f [⟨Rect.unit (s := ⟨2, ![N, 128]⟩) ![A, 0] ![B, 128] inb', Y⟩, ⟨Rect.unit (s := ⟨2, ![N, 128]⟩) ![0, 0] ![A, 128] inb, X⟩]
      = h.unread fun y => if h : (y 0).val < A then X (ix2 ⟨(y 0).val, h⟩ (y 1)) else Y (ix2 (Fin.ofNat B ((y 0).val - A)) (y 1)) := by
  refine h.eq_unread (funext fun y => View.read_writes_apply_of_pieces m.view f (fun y => if h : (y 0).val < A then X (ix2 ⟨(y 0).val, h⟩ (y 1)) else Y (ix2 (Fin.ofNat B ((y 0).val - A)) (y 1))) _ ?_ y ?_)
  · intro p hp x
    rcases List.mem_cons.mp hp with rfl | hp
    · have hx : (x 0).val < B := (x 0).isLt
      have e0 : ((((Rect.unit (s := ⟨2, ![N, 128]⟩) ![A, 0] ![B, 128] inb').emb x) 0) : ℕ) = A + (x 0).val := by
        rw [Rect.emb_apply]; exact Rect.idx_unit_val _ _ inb' x 0
      have e1 : ((((Rect.unit (s := ⟨2, ![N, 128]⟩) ![A, 0] ![B, 128] inb').emb x) 1) : ℕ) = (x 1).val := by
        rw [Rect.emb_apply]; exact (Rect.idx_unit_val _ _ inb' x 1).trans (Nat.zero_add _)
      dsimp only
      rw [dif_neg (by rw [e0]; omega), e0]
      refine congrArg Y (funext fun a => Fin.ext ?_)
      fin_cases a
      · show (x 0).val = (A + (x 0).val - A) % B
        rw [Nat.add_sub_cancel_left, Nat.mod_eq_of_lt hx]
      · exact e1.symm
    · obtain rfl := List.mem_singleton.mp hp
      have hx : (x 0).val < A := (x 0).isLt
      have e0 : ((((Rect.unit (s := ⟨2, ![N, 128]⟩) ![0, 0] ![A, 128] inb).emb x) 0) : ℕ) = (x 0).val := by
        rw [Rect.emb_apply]; exact (Rect.idx_unit_val _ _ inb x 0).trans (Nat.zero_add _)
      have e1 : ((((Rect.unit (s := ⟨2, ![N, 128]⟩) ![0, 0] ![A, 128] inb).emb x) 1) : ℕ) = (x 1).val := by
        rw [Rect.emb_apply]; exact (Rect.idx_unit_val _ _ inb x 1).trans (Nat.zero_add _)
      dsimp only
      rw [dif_pos (by rw [e0]; omega)]
      refine congrArg X (funext fun a => Fin.ext ?_)
      fin_cases a
      · exact e0.symm
      · exact e1.symm
  · have hy : (y 0).val < N := (y 0).isLt
    by_cases hA : (y 0).val < A
    · refine ⟨_, List.mem_cons_of_mem _ List.mem_cons_self, ?_⟩
      rw [Rect.mem_set_unit]
      intro a
      fin_cases a
      · exact ⟨Nat.zero_le _, by show (y 0).val < 0 + A; omega⟩
      · exact ⟨Nat.zero_le _, by show (y 1).val < 0 + 128; have : (y 1).val < 128 := (y 1).isLt; omega⟩
    · refine ⟨_, List.mem_cons_self, ?_⟩
      rw [Rect.mem_set_unit]
      intro a
      fin_cases a
      · exact ⟨by show A ≤ (y 0).val; omega, by show (y 0).val < A + B; omega⟩
      · exact ⟨Nat.zero_le _, by show (y 1).val < 0 + 128; have : (y 1).val < 128 := (y 1).isLt; omega⟩

end MixBlocks

end
-- ==== Proof.MixSpec.lean ====
module

public import proofs.«01_k».proof.Proof.MixRefs
public import proofs.«01_k».proof.Proof.MixBlocks

@[expose] public section

set_option maxRecDepth 16384

noncomputable section

namespace Cert.MixKernelIdeal.Mix

open Cert.MixKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open MixBlocks

variable {F : FTy → Type} [FloatOps F]

local notation "𝕄" => MT nD τ sig Unit (Elt F) ℕ (UR sig nD τ) ℕ

/-- The pooled section times the group's matrix. -/
abbrev gMixed (xp : Vec F S2048x128 .bf16) (xw : Vec F S1x1x128x128 .f32) : Vec F S2048x128 .f32 := k0_pay43 xw xp

/-- The gradient of the gate of a pooling group, block by block of 128 rows. -/
def gDg (xs : Vec F S1x1x128 .f32) (xg xd : Vec F S2048x128 .bf16) (xm : Vec F S2048x128 .f32) : Vec F S2048x128 .bf16 :=
  stack (Val := Elt F) 128 fun k => k0_pay50 xs (chunk (Val := Elt F) (e := .bf16) 128 xg (128 * k)) (chunk (Val := Elt F) (e := .bf16) 128 xd (128 * k)) (chunk (Val := Elt F) (e := .f32) 128 xm (128 * k))

/-- The gradient of the mixed section, block by block of 128 rows. -/
def gDm (xs : Vec F S1x1x128 .f32) (xg xd : Vec F S2048x128 .bf16) : Vec F S2048x128 .bf16 :=
  stack (Val := Elt F) 128 fun k => k0_pay52 xs (chunk (Val := Elt F) (e := .bf16) 128 xg (128 * k)) (chunk (Val := Elt F) (e := .bf16) 128 xd (128 * k))

/-- The sums of the scale's gradient over the first `k` blocks, eight rows apart. -/
def gAcc (xg xd : Vec F S2048x128 .bf16) (xm : Vec F S2048x128 .f32) : ℕ → FVec F S8x128 .f32
  | 0 => k0_pay45
  | k + 1 => k0_pay53 (gAcc xg xd xm k) (chunk (Val := Elt F) (e := .bf16) 128 xg (128 * k)) (chunk (Val := Elt F) (e := .bf16) 128 xd (128 * k)) (chunk (Val := Elt F) (e := .f32) 128 xm (128 * k))

/-- The scale's gradient. -/
abbrev gDs (xg xd : Vec F S2048x128 .bf16) (xm : Vec F S2048x128 .f32) : Vec F S1x128 .f32 := k0_pay54 (gAcc xg xd xm 16)

/-- The matrix's gradient. -/
abbrev gDw (xp dm : Vec F S2048x128 .bf16) : Vec F S1x128x128 .bf16 := k0_pay12 xp dm

/-- The gradient of the pooled section, with sixteen rows of zeros below it. -/
def gDp (xw : Vec F S1x1x128x128 .f32) (dm : Vec F S2048x128 .bf16) : Vec F S2064x128 .f32 := fun y =>
  if h : (y 0).val < 2048 then k0_pay55 xw dm (ix2 ⟨(y 0).val, h⟩ (y 1)) else k0_pay56 (F := F) (ix2 (Fin.ofNat 16 ((y 0).val - 2048)) (y 1))

/-- The gradient of a pooling group's section, block by block of 128 rows, each from its rows and the sixteen below
    (`pay` is what one step makes of them). -/
def gDu {T : ℕ} [NeZero T] (pay : Fin T → Vec F S144x128 .f32 → FVec F S128x128 .bf16) (dp : Vec F S2064x128 .f32) : Vec F S2048x128 .bf16 :=
  stack (Val := Elt F) 128 fun k => pay (Fin.ofNat T k) (chunk (Val := Elt F) (e := .f32) 144 dp (128 * k))

/-- The gate's loop: what it carries and stores, from the rows it loads. -/
theorem gate_done {T : ℕ} (hT : T = 16) (R : Refs) (off : Fin T → Fin 2 → ℕ) (hoff : ∀ k, off k = ![128 * k.val, 0])
    (inb : ∀ k a, off k a + S128x128.size a ≤ S2048x128.size a) (v : Vec F S1x1x128 .f32) (xg xd : Vec F S2048x128 .bf16) (xm : Vec F S2048x128 .f32)
    (st : ℕ → FVec F S8x128 .f32 × List (View.Piece (Elt F) S2048x128 .bf16) × List (View.Piece (Elt F) S2048x128 .bf16))
    (h0 : st 0 = (k0_pay45, [], []))
    (hs : ∀ k : Fin T, st (k.val + 1) =
      (k0_pay53 (st k.val).1 (View.readAt (Elt F) R.a6.view (Rect.unit (s := S2048x128) (off k) S128x128.size (inb k)).toLoadRect (R.h6.unread xg))
         (View.readAt (Elt F) R.a8.view (Rect.unit (s := S2048x128) (off k) S128x128.size (inb k)).toLoadRect (R.h8.unread xd))
         (View.readAt (Elt F) R.a22.view (Rect.unit (s := S2048x128) (off k) S128x128.size (inb k)).toLoadRect (R.h22.unread xm)),
       (⟨Rect.unit (s := S2048x128) (off k) S128x128.size (inb k), k0_pay50 v
         (View.readAt (Elt F) R.a6.view (Rect.unit (s := S2048x128) (off k) S128x128.size (inb k)).toLoadRect (R.h6.unread xg))
         (View.readAt (Elt F) R.a8.view (Rect.unit (s := S2048x128) (off k) S128x128.size (inb k)).toLoadRect (R.h8.unread xd))
         (View.readAt (Elt F) R.a22.view (Rect.unit (s := S2048x128) (off k) S128x128.size (inb k)).toLoadRect (R.h22.unread xm))⟩ : View.Piece (Elt F) S2048x128 .bf16) :: (st k.val).2.1,
       (⟨Rect.unit (s := S2048x128) (off k) S128x128.size (inb k), k0_pay52 v
         (View.readAt (Elt F) R.a6.view (Rect.unit (s := S2048x128) (off k) S128x128.size (inb k)).toLoadRect (R.h6.unread xg))
         (View.readAt (Elt F) R.a8.view (Rect.unit (s := S2048x128) (off k) S128x128.size (inb k)).toLoadRect (R.h8.unread xd))⟩ : View.Piece (Elt F) S2048x128 .bf16) :: (st k.val).2.2)) :
    (st T).1 = gAcc xg xd xm 16 ∧ (∀ f, R.a18.view.writes (Elt F) f (st T).2.1 = R.h18.unread (gDg v xg xd xm))
      ∧ ∀ f, R.a23.view.writes (Elt F) f (st T).2.2 = R.h23.unread (gDm v xg xd) := by
  have r6 : ∀ k, View.readAt (Elt F) R.a6.view (Rect.unit (s := S2048x128) (off k) S128x128.size (inb k)).toLoadRect (R.h6.unread xg) = chunk (Val := Elt F) (e := .bf16) 128 xg (128 * k.val) :=
    fun k => readAt_chunk (N := 2048) (n := 128) R.h6 xg (off k) _ (hoff k) (inb k)
  have r8 : ∀ k, View.readAt (Elt F) R.a8.view (Rect.unit (s := S2048x128) (off k) S128x128.size (inb k)).toLoadRect (R.h8.unread xd) = chunk (Val := Elt F) (e := .bf16) 128 xd (128 * k.val) :=
    fun k => readAt_chunk (N := 2048) (n := 128) R.h8 xd (off k) _ (hoff k) (inb k)
  have r22 : ∀ k, View.readAt (Elt F) R.a22.view (Rect.unit (s := S2048x128) (off k) S128x128.size (inb k)).toLoadRect (R.h22.unread xm) = chunk (Val := Elt F) (e := .f32) 128 xm (128 * k.val) :=
    fun k => readAt_chunk (N := 2048) (n := 128) R.h22 xm (off k) _ (hoff k) (inb k)
  refine ⟨?_, fun f => ?_, fun f => ?_⟩
  · have : ∀ n ≤ T, (st n).1 = gAcc xg xd xm n := by
      intro n
      induction n with
      | zero => intro _; rw [h0]; rfl
      | succ n ih =>
        intro hn
        have e := hs ⟨n, hn⟩
        rw [r6, r8, r22] at e
        exact (congrArg Prod.fst e).trans (congrArg (fun z => k0_pay53 z _ _ _) (ih (by omega)))
    rw [this T le_rfl, hT]
  · refine blocks_done (N := 2048) (B := 128) (K := 16) rfl off (fun k => k.val) (fun j hj => ⟨⟨j, by omega⟩, rfl⟩) hoff inb _ _ (fun k => ?_) (fun n => (st n).2.1) (by rw [h0]) (fun k => congrArg (fun z => z.2.1) (hs k)) R.h18 f
    rw [r6, r8, r22]
  · refine blocks_done (N := 2048) (B := 128) (K := 16) rfl off (fun k => k.val) (fun j hj => ⟨⟨j, by omega⟩, rfl⟩) hoff inb _ _ (fun k => ?_) (fun n => (st n).2.2) (by rw [h0]) (fun k => congrArg (fun z => z.2.2) (hs k)) R.h23 f
    rw [r6, r8]

/-- The last loop: what it stores, from the rows it loads. -/
theorem back_done {T : ℕ} [NeZero T] (hT : T = 16) (R : Refs) (off off' : Fin T → Fin 2 → ℕ) (hoff : ∀ k, off k = ![128 * k.val, 0]) (hoff' : ∀ k, off' k = ![128 * k.val, 0])
    (inb : ∀ k a, off k a + S144x128.size a ≤ S2064x128.size a) (inb' : ∀ k a, off' k a + S128x128.size a ≤ S2048x128.size a)
    (pay : Fin T → Vec F S144x128 .f32 → FVec F S128x128 .bf16) (dp : Vec F S2064x128 .f32) (P : ℕ → List (View.Piece (Elt F) S2048x128 .bf16)) (h0 : P 0 = [])
    (hs : ∀ k : Fin T, P (k.val + 1) = (⟨Rect.unit (s := S2048x128) (off' k) S128x128.size (inb' k),
      pay k (View.readAt (Elt F) R.a24.view (Rect.unit (s := S2064x128) (off k) S144x128.size (inb k)).toLoadRect (R.h24.unread dp))⟩ : View.Piece (Elt F) S2048x128 .bf16) :: P k.val)
    (f : BufTy.Contents (Elt F) R.a17.view.ty) :
    R.a17.view.writes (Elt F) f (P T) = R.h17.unread (gDu pay dp) := by
  refine blocks_done (N := 2048) (B := 128) (K := 16) rfl off' (fun k => k.val) (fun j hj => ⟨⟨j, by omega⟩, rfl⟩) hoff' inb' _ _ (fun k => ?_) P h0 hs R.h17 f
  have e : Fin.ofNat T k.val = k := Fin.ext (Nat.mod_eq_of_lt k.isLt)
  rw [e]
  exact congrArg (pay k) (readAt_chunk (N := 2064) (n := 144) R.h24 dp (off k) _ (hoff k) (inb k))

/-- A buffer held at some contents is held at equal ones. -/
theorem holds_congr (c : Dev nD) {s : Shape} {e : EltTy} {M : Memref sig .tc .vmem s e} (h : M.IsWhole) (x : Vec F s e) (f : BufTy.Contents (Elt F) M.view.ty) (hf : f = h.unread x) :
    iprop(M.view.loc (c : Thread nD τ) ↦[M.view.set]{fullShare} f) ⊢ (holds c h x : sProp 𝕄) := by
  subst hf; exact Entails.refl _

/-- What a run of the pooling part does: from the five inputs it reads, whatever its results and its scratch hold, the
    body runs to the inputs as they were and the four results of those inputs. -/
abbrev PoolRun (c : Dev nD) (i : grid0.Coords) (R : Refs)
    (xp : Vec F S2048x128 .bf16) (xg : Vec F S2048x128 .bf16) (xd : Vec F S2048x128 .bf16) (xw : Vec F S1x1x128x128 .f32) (xs : Vec F S1x1x128 .f32)
    (y17 : Vec F S2048x128 .bf16) : Prop :=
  ∀ (E : Set ℕ) (K : PUnit → sProp 𝕄),
    iprop(holds c R.h5 xp ∗ holds c R.h6 xg ∗ holds c R.h8 xd ∗ holds c R.h10 xw ∗ holds c R.h11 xs ∗ (∃ d, owns (c : Thread nD τ) R.a17 fullShare d) ∗ (∃ d, owns (c : Thread nD τ) R.a18 fullShare d) ∗ (∃ d, owns (c : Thread nD τ) R.a20 fullShare d) ∗ (∃ d, owns (c : Thread nD τ) R.a21 fullShare d) ∗ (∃ d, owns (c : Thread nD τ) R.a22 fullShare d) ∗ (∃ d, owns (c : Thread nD τ) R.a23 fullShare d) ∗ (∃ d, owns (c : Thread nD τ) R.a24 fullShare d)
        ∗ (iprop(holds c R.h5 xp ∗ holds c R.h6 xg ∗ holds c R.h8 xd ∗ holds c R.h10 xw ∗ holds c R.h11 xs ∗ holds c R.h17 y17 ∗ holds c R.h18 (gDg xs xg xd (gMixed xp xw)) ∗ holds c R.h20 (gDw xp (gDm xs xg xd)) ∗ holds c R.h21 (gDs xg xd (gMixed xp xw)) ∗ (∃ d, owns (c : Thread nD τ) R.a22 fullShare d) ∗ (∃ d, owns (c : Thread nD τ) R.a23 fullShare d) ∗ (∃ d, owns (c : Thread nD τ) R.a24 fullShare d)) -∗ K ⟨⟩))
      ⊢ wp frame (wpE (defs₀ (F := F)) Variants.none c none) E (bodyOf i R) K

end Cert.MixKernelIdeal.Mix

end
-- ==== Proof.MixConv.lean ====
module

public import proofs.«01_k».proof.Proof.MixSpec

@[expose] public section

set_option maxRecDepth 16384

noncomputable section

namespace Cert.MixKernelIdeal.Mix

open Cert.MixKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open MixBlocks

variable {F : FTy → Type} [FloatOps F]

local notation "𝕄" => MT nD τ sig Unit (Elt F) ℕ (UR sig nD τ) ℕ

/-- The convolution's loop makes thirty-two steps, from the last block of 64 rows to the first. -/
theorem trips_conv : k0_t1_loop.trips = 32 := by decide

instance : NeZero k0_t1_loop.trips := ⟨by rw [trips_conv]; decide⟩

/-- Step `k` loads the sixteen rows above its block (its own first rows at the top). -/
theorem off_hist : ∀ k : Fin k0_t1_loop.trips, k0_off1 k = ![1968 - 64 * k.val, 0] := by decide +kernel

/-- Step `k` works on the block of 64 rows that is `k` blocks from the end. -/
theorem off_rows (k : Fin k0_t1_loop.trips) : k0_off2 k = ![64 * (31 - k.val), 0] := by
  have h : k.val < 32 := lt_of_lt_of_eq k.isLt trips_conv
  rw [k0_off2_eq]
  congr 1
  omega

/-- The number `k` as a step of the loop. -/
abbrev step (k : ℕ) : Fin k0_t1_loop.trips := Fin.ofNat _ k
/-- The block of step `k`. -/
abbrev rows (X : Vec F S2048x128 .bf16) (k : ℕ) : Vec F S64x128 .bf16 := chunk (Val := Elt F) (e := .bf16) 64 X (64 * (31 - k))
/-- The sixteen rows above it. -/
abbrev hist (X : Vec F S2048x128 .bf16) (k : ℕ) : Vec F S16x128 .bf16 := chunk (Val := Elt F) (e := .bf16) 16 X (1968 - 64 * k)

/-- What the loop carries: the first eight rows of the gradient of the convolution in the block below, and the three sums
    of the filter's gradient, eight rows apart. -/
abbrev Carry (F : FTy → Type) : Type := FVec F S8x128 .f32 × FVec F S8x128 .f32 × FVec F S8x128 .f32 × FVec F S8x128 .f32

/-- The carried value before step `k`. -/
def cCarry (xu xb xc xg xd : Vec F S2048x128 .bf16) : ℕ → Carry F
  | 0 => (k0_pay4, k0_pay4, k0_pay4, k0_pay4)
  | k + 1 =>
    (k0_pay8 (k0_pay35 (k0_pay27 (rows xg k)) (rows xb k) (rows xd k)),
     k0_pay38 (cCarry xu xb xc xg xd k).2.1 (k0_pay25 0#32 1#32 (step k) (hist xu k) (rows xu k) (hist xc k) (rows xc k)) (k0_pay27 (rows xg k)) (rows xb k) (rows xd k),
     k0_pay37 (cCarry xu xb xc xg xd k).2.2.1 (k0_pay24 0#32 1#32 (step k) (hist xu k) (rows xu k) (hist xc k) (rows xc k)) (k0_pay27 (rows xg k)) (rows xb k) (rows xd k),
     k0_pay36 (cCarry xu xb xc xg xd k).2.2.2 (k0_pay23 0#32 1#32 (step k) (hist xu k) (rows xu k) (hist xc k) (rows xc k)) (k0_pay27 (rows xg k)) (rows xb k) (rows xd k))

/-- The convolution in the block of step `k`. -/
abbrev cConv (w0 w1 w2 : Vec F S1x1x1x128 .f32) (xu xc : Vec F S2048x128 .bf16) (k : ℕ) : FVec F S64x128 .f32 :=
  k0_pay26 (k0_pay1 w0) (k0_pay2 w1) (k0_pay3 w2) 0#32 1#32 (step k) (hist xu k) (rows xu k) (hist xc k) (rows xc k)

/-- The gradient of `b`. -/
def cDb (w0 w1 w2 : Vec F S1x1x1x128 .f32) (xu xb xc xg xd : Vec F S2048x128 .bf16) : Vec F S2048x128 .bf16 := stack (Val := Elt F) 64 fun j =>
  k0_pay33 (cConv w0 w1 w2 xu xc (31 - j)) (k0_pay27 (rows xg (31 - j))) (rows xd (31 - j))

/-- The gradient of the gate. -/
def cDg (w0 w1 w2 : Vec F S1x1x1x128 .f32) (xu xb xc xg xd : Vec F S2048x128 .bf16) : Vec F S2048x128 .bf16 := stack (Val := Elt F) 64 fun j =>
  k0_pay34 (cConv w0 w1 w2 xu xc (31 - j)) (k0_pay27 (rows xg (31 - j))) (rows xb (31 - j)) (rows xd (31 - j))

/-- The gradient of `u`. -/
def cDu (w0 w1 w2 : Vec F S1x1x1x128 .f32) (xu xb xc xg xd : Vec F S2048x128 .bf16) : Vec F S2048x128 .bf16 := stack (Val := Elt F) 64 fun j =>
  k0_pay6 w0 (k0_pay21 0#32 1#32 (step (31 - j)) (hist xc (31 - j)) (rows xc (31 - j))) (k0_pay39 (cCarry xu xb xc xg xd (31 - j)).1 (k0_pay27 (rows xg (31 - j))) (rows xb (31 - j)) (rows xd (31 - j)))
    (k0_pay40 (k0_pay3 w2) (k0_pay27 (rows xg (31 - j))) (rows xb (31 - j)) (rows xd (31 - j))) (k0_pay41 (k0_pay2 w1) (cCarry xu xb xc xg xd (31 - j)).1 (k0_pay27 (rows xg (31 - j))) (rows xb (31 - j)) (rows xd (31 - j)))

/-- The gradient of `c`. -/
def cDc (w0 w1 w2 : Vec F S1x1x1x128 .f32) (xu xb xc xg xd : Vec F S2048x128 .bf16) : Vec F S2048x128 .bf16 := stack (Val := Elt F) 64 fun j =>
  k0_pay7 w0 (k0_pay20 0#32 1#32 (step (31 - j)) (hist xu (31 - j)) (rows xu (31 - j))) (k0_pay39 (cCarry xu xb xc xg xd (31 - j)).1 (k0_pay27 (rows xg (31 - j))) (rows xb (31 - j)) (rows xd (31 - j)))
    (k0_pay40 (k0_pay3 w2) (k0_pay27 (rows xg (31 - j))) (rows xb (31 - j)) (rows xd (31 - j))) (k0_pay41 (k0_pay2 w1) (cCarry xu xb xc xg xd (31 - j)).1 (k0_pay27 (rows xg (31 - j))) (rows xb (31 - j)) (rows xd (31 - j)))

/-- The gradient of the filter: its three taps. -/
def cDw (xu xb xc xg xd : Vec F S2048x128 .bf16) : Vec F S1x3x128 .f32 := fun y =>
  if (y 1).val = 0 then k0_pay9 (cCarry xu xb xc xg xd 32).2.1 (ix3 0 0 (y 2)) else
  if (y 1).val = 1 then k0_pay10 (cCarry xu xb xc xg xd 32).2.2.1 (ix3 0 0 (y 2)) else k0_pay11 (cCarry xu xb xc xg xd 32).2.2.2 (ix3 0 0 (y 2))

/-- Tap `q` of the filter. -/
def tap (xw : Vec F S1x1x3x128 .f32) (q : Fin 3) : Vec F S1x1x1x128 .f32 := fun x => xw (ix4 0 0 q (x 3))

/-- A load of one tap gives it. -/
theorem readAt_tap (R : Refs) (xw : Vec F S1x1x3x128 .f32) (q : Fin 3) (inb : ∀ a, (![0, 0, q.val, 0] : Fin 4 → ℕ) a + S1x1x1x128.size a ≤ S1x1x3x128.size a) :
    View.readAt (Elt F) R.a9.view (Rect.unit (s := S1x1x3x128) ![0, 0, q.val, 0] S1x1x1x128.size inb).toLoadRect (R.h9.unread xw) = tap xw q := by
  funext x
  refine (R.h9.readAt_unread xw _ x).trans (congrArg xw ?_)
  funext a
  apply Fin.ext
  refine (Rect.idx_unit_val _ _ inb x a).trans ?_
  have h0 : (x 0).val < 1 := (x 0).isLt
  have h1 : (x 1).val < 1 := (x 1).isLt
  have h2 : (x 2).val < 1 := (x 2).isLt
  fin_cases a
  · show 0 + (x 0).val = 0; omega
  · show 0 + (x 1).val = 0; omega
  · show q.val + (x 2).val = q.val; omega
  · show 0 + (x 3).val = (x 3).val; omega

/-- Three stores, one of each tap, leave the three taps. -/
theorem writes_taps (R : Refs) (f : BufTy.Contents (Elt F) R.a19.view.ty) (p0 p1 p2 : Vec F S1x1x128 .f32)
    (i0 : ∀ a, (![0, 0, 0] : Fin 3 → ℕ) a + S1x1x128.size a ≤ S1x3x128.size a) (i1 : ∀ a, (![0, 1, 0] : Fin 3 → ℕ) a + S1x1x128.size a ≤ S1x3x128.size a)
    (i2 : ∀ a, (![0, 2, 0] : Fin 3 → ℕ) a + S1x1x128.size a ≤ S1x3x128.size a) :
    R.a19.view.writes (Elt F) f [⟨Rect.unit (s := S1x3x128) ![0, 2, 0] S1x1x128.size i2, p2⟩, ⟨Rect.unit (s := S1x3x128) ![0, 1, 0] S1x1x128.size i1, p1⟩, ⟨Rect.unit (s := S1x3x128) ![0, 0, 0] S1x1x128.size i0, p0⟩]
      = R.h19.unread (fun y => if (y 1).val = 0 then p0 (ix3 0 0 (y 2)) else if (y 1).val = 1 then p1 (ix3 0 0 (y 2)) else p2 (ix3 0 0 (y 2))) := by
  have key : ∀ (q : ℕ) (iq : ∀ a, (![0, q, 0] : Fin 3 → ℕ) a + S1x1x128.size a ≤ S1x3x128.size a) (x : S1x1x128.Idx),
      ((((Rect.unit (s := S1x3x128) ![0, q, 0] S1x1x128.size iq).emb x) 1) : ℕ) = q ∧ (ix3 0 0 (((Rect.unit (s := S1x3x128) ![0, q, 0] S1x1x128.size iq).emb x) 2) : S1x1x128.Idx) = x := by
    intro q iq x
    have h0 : (x 0).val < 1 := (x 0).isLt
    have h1 : (x 1).val < 1 := (x 1).isLt
    refine ⟨?_, funext fun a => Fin.ext ?_⟩
    · rw [Rect.emb_apply]
      refine (Rect.idx_unit_val (s := S1x3x128) ![0, q, 0] S1x1x128.size iq x 1).trans ?_
      show q + (x 1).val = q; omega
    · fin_cases a
      · show 0 = (x 0).val; omega
      · show 0 = (x 1).val; omega
      · show ((((Rect.unit (s := S1x3x128) ![0, q, 0] S1x1x128.size iq).emb x) 2) : ℕ) = (x 2).val
        rw [Rect.emb_apply]
        refine (Rect.idx_unit_val (s := S1x3x128) ![0, q, 0] S1x1x128.size iq x 2).trans ?_
        show 0 + (x 2).val = (x 2).val; omega
  refine R.h19.eq_unread (funext fun y => View.read_writes_apply_of_pieces R.a19.view f (fun y => if (y 1).val = 0 then p0 (ix3 0 0 (y 2)) else if (y 1).val = 1 then p1 (ix3 0 0 (y 2)) else p2 (ix3 0 0 (y 2))) _ ?_ y ?_)
  · intro p hp x
    rcases List.mem_cons.mp hp with rfl | hp
    · dsimp only
      rw [(key 2 i2 x).1, if_neg (by decide), if_neg (by decide), (key 2 i2 x).2]
    rcases List.mem_cons.mp hp with rfl | hp
    · dsimp only
      rw [(key 1 i1 x).1, if_neg (by decide), if_pos rfl, (key 1 i1 x).2]
    obtain rfl := List.mem_singleton.mp hp
    dsimp only
    rw [(key 0 i0 x).1, if_pos rfl, (key 0 i0 x).2]
  · have h0 : (y 0).val < 1 := (y 0).isLt
    have h1 : (y 1).val < 3 := (y 1).isLt
    have h2 : (y 2).val < 128 := (y 2).isLt
    have mem : ∀ (q : ℕ) (iq : ∀ a, (![0, q, 0] : Fin 3 → ℕ) a + S1x1x128.size a ≤ S1x3x128.size a), (y 1).val = q → y ∈ (Rect.unit (s := S1x3x128) ![0, q, 0] S1x1x128.size iq).set := by
      intro q iq hq
      rw [Rect.mem_set_unit]
      intro a
      fin_cases a
      · exact ⟨Nat.zero_le _, by show (y 0).val < 0 + 1; omega⟩
      · exact ⟨by show q ≤ (y 1).val; omega, by show (y 1).val < q + 1; omega⟩
      · exact ⟨Nat.zero_le _, by show (y 2).val < 0 + 128; omega⟩
    rcases (by omega : (y 1).val = 0 ∨ (y 1).val = 1 ∨ (y 1).val = 2) with h | h | h
    · exact ⟨_, List.mem_cons_of_mem _ (List.mem_cons_of_mem _ List.mem_cons_self), mem 0 i0 h⟩
    · exact ⟨_, List.mem_cons_of_mem _ List.mem_cons_self, mem 1 i1 h⟩
    · exact ⟨_, List.mem_cons_self, mem 2 i2 h⟩

/-- What the loop carries and the pieces it has stored, before a step. -/
abbrev cSt (c : Dev nD) (i : grid0.Coords) (R : Refs) (hc0 : k0_cond1 i = 1#1) (xu xb xc xg xd : Vec F S2048x128 .bf16) (w0 w1 w2 : Vec F S1x1x1x128 .f32) :=
  st_k0_t1 (F := F) Variants.none c none i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24 hc0 w0 w1 w2 (R.h1.unread xu) (R.h2.unread xb) (R.h3.unread xc) (R.h4.unread xg) (R.h7.unread xd) (k0_pay4, k0_pay4, k0_pay4, k0_pay4)

/-- Where a step stores. -/
abbrev cRect (i : grid0.Coords) (hc0 : k0_cond1 i = 1#1) (k : Fin k0_t1_loop.trips) : Rect S2048x128 := Rect.unit (s := S2048x128) (k0_off2 k) S64x128.size (k0_off2_inb i k hc0)

/-- The rows a step reads above its block. -/
abbrev hRect (i : grid0.Coords) (hc0 : k0_cond1 i = 1#1) (k : Fin k0_t1_loop.trips) : Rect S2048x128 := Rect.unit (s := S2048x128) (k0_off1 k) S16x128.size (k0_off1_inb i k hc0)

/-- A load of a step's block. -/
theorem readAt_rows (i : grid0.Coords) (hc0 : k0_cond1 i = 1#1) (k : Fin k0_t1_loop.trips) {a : Memref sig .tc .vmem S2048x128 .bf16} (h : a.IsWhole) (X : Vec F S2048x128 .bf16) :
    View.readAt (Elt F) a.view (cRect i hc0 k).toLoadRect (h.unread X) = rows X k.val :=
  readAt_chunk (N := 2048) (n := 64) h X (k0_off2 k) _ (off_rows k) (k0_off2_inb i k hc0)

/-- A load of the rows above it. -/
theorem readAt_hist (i : grid0.Coords) (hc0 : k0_cond1 i = 1#1) (k : Fin k0_t1_loop.trips) {a : Memref sig .tc .vmem S2048x128 .bf16} (h : a.IsWhole) (X : Vec F S2048x128 .bf16) :
    View.readAt (Elt F) a.view (hRect i hc0 k).toLoadRect (h.unread X) = hist X k.val :=
  readAt_chunk (N := 2048) (n := 16) h X (k0_off1 k) _ (off_hist k) (k0_off1_inb i k hc0)

/-- One step. -/
theorem cSt_succ (c : Dev nD) (i : grid0.Coords) (R : Refs) (hc0 : k0_cond1 i = 1#1) (xu xb xc xg xd : Vec F S2048x128 .bf16) (w0 w1 w2 : Vec F S1x1x1x128 .f32) (k : Fin k0_t1_loop.trips) :
    cSt c i R hc0 xu xb xc xg xd w0 w1 w2 (k.val + 1) =
      ((k0_pay8 (k0_pay35 (k0_pay27 (View.readAt (Elt F) R.a4.view (cRect i hc0 k).toLoadRect (R.h4.unread xg))) (View.readAt (Elt F) R.a2.view (cRect i hc0 k).toLoadRect (R.h2.unread xb)) (View.readAt (Elt F) R.a7.view (cRect i hc0 k).toLoadRect (R.h7.unread xd))),
        k0_pay38 (cSt c i R hc0 xu xb xc xg xd w0 w1 w2 k.val).1.2.1 (k0_pay25 0#32 1#32 k (View.readAt (Elt F) R.a1.view (hRect i hc0 k).toLoadRect (R.h1.unread xu)) (View.readAt (Elt F) R.a1.view (cRect i hc0 k).toLoadRect (R.h1.unread xu)) (View.readAt (Elt F) R.a3.view (hRect i hc0 k).toLoadRect (R.h3.unread xc)) (View.readAt (Elt F) R.a3.view (cRect i hc0 k).toLoadRect (R.h3.unread xc))) (k0_pay27 (View.readAt (Elt F) R.a4.view (cRect i hc0 k).toLoadRect (R.h4.unread xg))) (View.readAt (Elt F) R.a2.view (cRect i hc0 k).toLoadRect (R.h2.unread xb)) (View.readAt (Elt F) R.a7.view (cRect i hc0 k).toLoadRect (R.h7.unread xd)),
        k0_pay37 (cSt c i R hc0 xu xb xc xg xd w0 w1 w2 k.val).1.2.2.1 (k0_pay24 0#32 1#32 k (View.readAt (Elt F) R.a1.view (hRect i hc0 k).toLoadRect (R.h1.unread xu)) (View.readAt (Elt F) R.a1.view (cRect i hc0 k).toLoadRect (R.h1.unread xu)) (View.readAt (Elt F) R.a3.view (hRect i hc0 k).toLoadRect (R.h3.unread xc)) (View.readAt (Elt F) R.a3.view (cRect i hc0 k).toLoadRect (R.h3.unread xc))) (k0_pay27 (View.readAt (Elt F) R.a4.view (cRect i hc0 k).toLoadRect (R.h4.unread xg))) (View.readAt (Elt F) R.a2.view (cRect i hc0 k).toLoadRect (R.h2.unread xb)) (View.readAt (Elt F) R.a7.view (cRect i hc0 k).toLoadRect (R.h7.unread xd)),
        k0_pay36 (cSt c i R hc0 xu xb xc xg xd w0 w1 w2 k.val).1.2.2.2 (k0_pay23 0#32 1#32 k (View.readAt (Elt F) R.a1.view (hRect i hc0 k).toLoadRect (R.h1.unread xu)) (View.readAt (Elt F) R.a1.view (cRect i hc0 k).toLoadRect (R.h1.unread xu)) (View.readAt (Elt F) R.a3.view (hRect i hc0 k).toLoadRect (R.h3.unread xc)) (View.readAt (Elt F) R.a3.view (cRect i hc0 k).toLoadRect (R.h3.unread xc))) (k0_pay27 (View.readAt (Elt F) R.a4.view (cRect i hc0 k).toLoadRect (R.h4.unread xg))) (View.readAt (Elt F) R.a2.view (cRect i hc0 k).toLoadRect (R.h2.unread xb)) (View.readAt (Elt F) R.a7.view (cRect i hc0 k).toLoadRect (R.h7.unread xd))),
       (⟨cRect i hc0 k, k0_pay6 w0 (k0_pay21 0#32 1#32 k (View.readAt (Elt F) R.a3.view (hRect i hc0 k).toLoadRect (R.h3.unread xc)) (View.readAt (Elt F) R.a3.view (cRect i hc0 k).toLoadRect (R.h3.unread xc))) (k0_pay39 (cSt c i R hc0 xu xb xc xg xd w0 w1 w2 k.val).1.1 (k0_pay27 (View.readAt (Elt F) R.a4.view (cRect i hc0 k).toLoadRect (R.h4.unread xg))) (View.readAt (Elt F) R.a2.view (cRect i hc0 k).toLoadRect (R.h2.unread xb)) (View.readAt (Elt F) R.a7.view (cRect i hc0 k).toLoadRect (R.h7.unread xd))) (k0_pay40 (k0_pay3 w2) (k0_pay27 (View.readAt (Elt F) R.a4.view (cRect i hc0 k).toLoadRect (R.h4.unread xg))) (View.readAt (Elt F) R.a2.view (cRect i hc0 k).toLoadRect (R.h2.unread xb)) (View.readAt (Elt F) R.a7.view (cRect i hc0 k).toLoadRect (R.h7.unread xd))) (k0_pay41 (k0_pay2 w1) (cSt c i R hc0 xu xb xc xg xd w0 w1 w2 k.val).1.1 (k0_pay27 (View.readAt (Elt F) R.a4.view (cRect i hc0 k).toLoadRect (R.h4.unread xg))) (View.readAt (Elt F) R.a2.view (cRect i hc0 k).toLoadRect (R.h2.unread xb)) (View.readAt (Elt F) R.a7.view (cRect i hc0 k).toLoadRect (R.h7.unread xd)))⟩ : View.Piece (Elt F) S2048x128 .bf16) :: (cSt c i R hc0 xu xb xc xg xd w0 w1 w2 k.val).2.1,
       (⟨cRect i hc0 k, k0_pay33 (k0_pay26 (k0_pay1 w0) (k0_pay2 w1) (k0_pay3 w2) 0#32 1#32 k (View.readAt (Elt F) R.a1.view (hRect i hc0 k).toLoadRect (R.h1.unread xu)) (View.readAt (Elt F) R.a1.view (cRect i hc0 k).toLoadRect (R.h1.unread xu)) (View.readAt (Elt F) R.a3.view (hRect i hc0 k).toLoadRect (R.h3.unread xc)) (View.readAt (Elt F) R.a3.view (cRect i hc0 k).toLoadRect (R.h3.unread xc))) (k0_pay27 (View.readAt (Elt F) R.a4.view (cRect i hc0 k).toLoadRect (R.h4.unread xg))) (View.readAt (Elt F) R.a7.view (cRect i hc0 k).toLoadRect (R.h7.unread xd))⟩ : View.Piece (Elt F) S2048x128 .bf16) :: (cSt c i R hc0 xu xb xc xg xd w0 w1 w2 k.val).2.2.1,
       (⟨cRect i hc0 k, k0_pay7 w0 (k0_pay20 0#32 1#32 k (View.readAt (Elt F) R.a1.view (hRect i hc0 k).toLoadRect (R.h1.unread xu)) (View.readAt (Elt F) R.a1.view (cRect i hc0 k).toLoadRect (R.h1.unread xu))) (k0_pay39 (cSt c i R hc0 xu xb xc xg xd w0 w1 w2 k.val).1.1 (k0_pay27 (View.readAt (Elt F) R.a4.view (cRect i hc0 k).toLoadRect (R.h4.unread xg))) (View.readAt (Elt F) R.a2.view (cRect i hc0 k).toLoadRect (R.h2.unread xb)) (View.readAt (Elt F) R.a7.view (cRect i hc0 k).toLoadRect (R.h7.unread xd))) (k0_pay40 (k0_pay3 w2) (k0_pay27 (View.readAt (Elt F) R.a4.view (cRect i hc0 k).toLoadRect (R.h4.unread xg))) (View.readAt (Elt F) R.a2.view (cRect i hc0 k).toLoadRect (R.h2.unread xb)) (View.readAt (Elt F) R.a7.view (cRect i hc0 k).toLoadRect (R.h7.unread xd))) (k0_pay41 (k0_pay2 w1) (cSt c i R hc0 xu xb xc xg xd w0 w1 w2 k.val).1.1 (k0_pay27 (View.readAt (Elt F) R.a4.view (cRect i hc0 k).toLoadRect (R.h4.unread xg))) (View.readAt (Elt F) R.a2.view (cRect i hc0 k).toLoadRect (R.h2.unread xb)) (View.readAt (Elt F) R.a7.view (cRect i hc0 k).toLoadRect (R.h7.unread xd)))⟩ : View.Piece (Elt F) S2048x128 .bf16) :: (cSt c i R hc0 xu xb xc xg xd w0 w1 w2 k.val).2.2.2.1,
       (⟨cRect i hc0 k, k0_pay34 (k0_pay26 (k0_pay1 w0) (k0_pay2 w1) (k0_pay3 w2) 0#32 1#32 k (View.readAt (Elt F) R.a1.view (hRect i hc0 k).toLoadRect (R.h1.unread xu)) (View.readAt (Elt F) R.a1.view (cRect i hc0 k).toLoadRect (R.h1.unread xu)) (View.readAt (Elt F) R.a3.view (hRect i hc0 k).toLoadRect (R.h3.unread xc)) (View.readAt (Elt F) R.a3.view (cRect i hc0 k).toLoadRect (R.h3.unread xc))) (k0_pay27 (View.readAt (Elt F) R.a4.view (cRect i hc0 k).toLoadRect (R.h4.unread xg))) (View.readAt (Elt F) R.a2.view (cRect i hc0 k).toLoadRect (R.h2.unread xb)) (View.readAt (Elt F) R.a7.view (cRect i hc0 k).toLoadRect (R.h7.unread xd))⟩ : View.Piece (Elt F) S2048x128 .bf16) :: (cSt c i R hc0 xu xb xc xg xd w0 w1 w2 k.val).2.2.2.2) := by
  unfold cSt
  rw [st_k0_t1_succ]
  unfold tripR_k0_t1 tripL_k0_t1 trip_k0_t1
  rfl

/-- The loop carries what the specification says. -/
theorem cSt_carry (c : Dev nD) (i : grid0.Coords) (R : Refs) (hc0 : k0_cond1 i = 1#1) (xu xb xc xg xd : Vec F S2048x128 .bf16) (w0 w1 w2 : Vec F S1x1x1x128 .f32) :
    ∀ n ≤ k0_t1_loop.trips, (cSt c i R hc0 xu xb xc xg xd w0 w1 w2 n).1 = cCarry xu xb xc xg xd n
  | 0, _ => rfl
  | n + 1, hn => by
    have ih := cSt_carry c i R hc0 xu xb xc xg xd w0 w1 w2 n (by omega)
    have e := congrArg Prod.fst (cSt_succ c i R hc0 xu xb xc xg xd w0 w1 w2 ⟨n, hn⟩)
    simp only [readAt_rows, readAt_hist, ih] at e
    refine e.trans ?_
    have hk : step n = ⟨n, hn⟩ := Fin.ext (Nat.mod_eq_of_lt hn)
    simp only [cCarry, hk]

/-- What the loop carries and stores. -/
theorem conv_done (c : Dev nD) (i : grid0.Coords) (R : Refs) (hc0 : k0_cond1 i = 1#1) (xu xb xc xg xd : Vec F S2048x128 .bf16) (w0 w1 w2 : Vec F S1x1x1x128 .f32)
    (v0 v1 v2 : Vec F S1x1x1x128 .f32) (hv0 : v0 = w0) (hv1 : v1 = w1) (hv2 : v2 = w2) :
    (cSt c i R hc0 xu xb xc xg xd v0 v1 v2 k0_t1_loop.trips).1 = cCarry xu xb xc xg xd 32
      ∧ (∀ f, R.a13.view.writes (Elt F) f (cSt c i R hc0 xu xb xc xg xd v0 v1 v2 k0_t1_loop.trips).2.1 = R.h13.unread (cDu w0 w1 w2 xu xb xc xg xd))
      ∧ (∀ f, R.a14.view.writes (Elt F) f (cSt c i R hc0 xu xb xc xg xd v0 v1 v2 k0_t1_loop.trips).2.2.1 = R.h14.unread (cDb w0 w1 w2 xu xb xc xg xd))
      ∧ (∀ f, R.a15.view.writes (Elt F) f (cSt c i R hc0 xu xb xc xg xd v0 v1 v2 k0_t1_loop.trips).2.2.2.1 = R.h15.unread (cDc w0 w1 w2 xu xb xc xg xd))
      ∧ ∀ f, R.a16.view.writes (Elt F) f (cSt c i R hc0 xu xb xc xg xd v0 v1 v2 k0_t1_loop.trips).2.2.2.2 = R.h16.unread (cDg w0 w1 w2 xu xb xc xg xd) := by
  subst hv0 hv1 hv2
  have hC := cSt_carry c i R hc0 xu xb xc xg xd v0 v1 v2
  have hk : ∀ k : Fin k0_t1_loop.trips, step k.val = k := fun k => Fin.ext (Nat.mod_eq_of_lt k.isLt)
  have hn : ∀ k : Fin k0_t1_loop.trips, 31 - (31 - k.val) = k.val := fun k => by
    have h : k.val < 32 := lt_of_lt_of_eq k.isLt trips_conv
    omega
  have hσ : ∀ j < 32, ∃ k : Fin k0_t1_loop.trips, 31 - k.val = j := fun j hj => ⟨⟨31 - j, by rw [trips_conv]; omega⟩, by show 31 - (31 - j) = j; omega⟩
  refine ⟨(hC _ le_rfl).trans (congrArg _ trips_conv), fun f => ?_, fun f => ?_, fun f => ?_, fun f => ?_⟩
  · refine blocks_done (N := 2048) (B := 64) (K := 32) rfl k0_off2 (fun k => 31 - k.val) hσ off_rows (fun k => k0_off2_inb i k hc0) _ _ (fun k => ?_)
      (fun n => (cSt c i R hc0 xu xb xc xg xd v0 v1 v2 n).2.1) rfl (fun k => congrArg (fun z => z.2.1) (cSt_succ c i R hc0 xu xb xc xg xd v0 v1 v2 k)) R.h13 f
    simp only [readAt_rows, readAt_hist, hC _ k.isLt.le]
    simp only [cConv, hn, hk]
  · refine blocks_done (N := 2048) (B := 64) (K := 32) rfl k0_off2 (fun k => 31 - k.val) hσ off_rows (fun k => k0_off2_inb i k hc0) _ _ (fun k => ?_)
      (fun n => (cSt c i R hc0 xu xb xc xg xd v0 v1 v2 n).2.2.1) rfl (fun k => congrArg (fun z => z.2.2.1) (cSt_succ c i R hc0 xu xb xc xg xd v0 v1 v2 k)) R.h14 f
    simp only [readAt_rows, readAt_hist, hC _ k.isLt.le]
    simp only [cConv, hn, hk]
  · refine blocks_done (N := 2048) (B := 64) (K := 32) rfl k0_off2 (fun k => 31 - k.val) hσ off_rows (fun k => k0_off2_inb i k hc0) _ _ (fun k => ?_)
      (fun n => (cSt c i R hc0 xu xb xc xg xd v0 v1 v2 n).2.2.2.1) rfl (fun k => congrArg (fun z => z.2.2.2.1) (cSt_succ c i R hc0 xu xb xc xg xd v0 v1 v2 k)) R.h15 f
    simp only [readAt_rows, readAt_hist, hC _ k.isLt.le]
    simp only [cConv, hn, hk]
  · refine blocks_done (N := 2048) (B := 64) (K := 32) rfl k0_off2 (fun k => 31 - k.val) hσ off_rows (fun k => k0_off2_inb i k hc0) _ _ (fun k => ?_)
      (fun n => (cSt c i R hc0 xu xb xc xg xd v0 v1 v2 n).2.2.2.2) rfl (fun k => congrArg (fun z => z.2.2.2.2) (cSt_succ c i R hc0 xu xb xc xg xd v0 v1 v2 k)) R.h16 f
    simp only [readAt_rows, readAt_hist, hC _ k.isLt.le]
    simp only [cConv, hn, hk]

set_option maxHeartbeats 4000000 in
/-- The run of the convolution (grid points 0 to 3). -/
theorem convRun (c : Dev nD) (i : grid0.Coords) (R : Refs) (hc0 : k0_cond1 i = 1#1) (hc1 : ¬ k0_cond2 i = 1#1) (hc2 : ¬ k0_cond3 i = 1#1) (hc3 : ¬ k0_cond4 i = 1#1) (hc4 : ¬ k0_cond5 i = 1#1)
    (xu xb xc xg xd : Vec F S2048x128 .bf16) (xw : Vec F S1x1x3x128 .f32) (E : Set ℕ) (K : PUnit → sProp 𝕄) :
    iprop(holds c R.h1 xu ∗ holds c R.h2 xb ∗ holds c R.h3 xc ∗ holds c R.h4 xg ∗ holds c R.h7 xd ∗ holds c R.h9 xw ∗ (∃ d, owns (c : Thread nD τ) R.a13 fullShare d) ∗ (∃ d, owns (c : Thread nD τ) R.a14 fullShare d) ∗ (∃ d, owns (c : Thread nD τ) R.a15 fullShare d) ∗ (∃ d, owns (c : Thread nD τ) R.a16 fullShare d) ∗ (∃ d, owns (c : Thread nD τ) R.a19 fullShare d)
        ∗ (iprop(holds c R.h1 xu ∗ holds c R.h2 xb ∗ holds c R.h3 xc ∗ holds c R.h4 xg ∗ holds c R.h7 xd ∗ holds c R.h9 xw ∗ holds c R.h13 (cDu (tap xw 0) (tap xw 1) (tap xw 2) xu xb xc xg xd) ∗ holds c R.h14 (cDb (tap xw 0) (tap xw 1) (tap xw 2) xu xb xc xg xd) ∗ holds c R.h15 (cDc (tap xw 0) (tap xw 1) (tap xw 2) xu xb xc xg xd) ∗ holds c R.h16 (cDg (tap xw 0) (tap xw 1) (tap xw 2) xu xb xc xg xd) ∗ holds c R.h19 (cDw xu xb xc xg xd)) -∗ K ⟨⟩))
      ⊢ wp frame (wpE (defs₀ (F := F)) Variants.none c none) E (bodyOf i R) K := by
  unfold bodyOf
  simp only [cc0_mix_bwd_eq_skeleton]; unfold cc0_mix_bwd_skel
  unfold owns
  iintro ⟨H1, H2, H3, H4, H7, H9, ⟨%d13, %f13, -, H13⟩, ⟨%d14, %f14, -, H14⟩, ⟨%d15, %f15, -, H15⟩, ⟨%d16, %f16, -, H16⟩, ⟨%d19, %f19, -, H19⟩, Hk⟩
  sl_exec (disch := first | sl_exact hc0 | sl_exact hc1 | sl_exact hc2 | sl_exact hc3 | sl_exact hc4)
  sl_step
  have done := conv_done c i R hc0 xu xb xc xg xd _ _ _ _ _ _ (readAt_tap R xw 0 (by decide)) (readAt_tap R xw 1 (by decide)) (readAt_tap R xw 2 (by decide))
  iapply Hk
  isplitl [H1]; · iexact H1
  isplitl [H2]; · iexact H2
  isplitl [H3]; · iexact H3
  isplitl [H4]; · iexact H4
  isplitl [H7]; · iexact H7
  isplitl [H9]; · iexact H9
  isplitl [H13]
  · iapply (holds_congr c R.h13 _ _ ?_) $$ H13
    exact done.2.1 f13
  isplitl [H14]
  · iapply (holds_congr c R.h14 _ _ ?_) $$ H14
    exact done.2.2.1 f14
  isplitl [H15]
  · iapply (holds_congr c R.h15 _ _ ?_) $$ H15
    exact done.2.2.2.1 f15
  isplitl [H16]
  · iapply (holds_congr c R.h16 _ _ ?_) $$ H16
    exact done.2.2.2.2 f16
  iapply (holds_congr c R.h19 _ _ ?_) $$ H19
  refine (writes_taps R f19 _ _ _ _ _ _).trans (congrArg R.h19.unread ?_)
  have e : _ = cCarry xu xb xc xg xd 32 := done.1
  unfold cDw
  funext y
  refine ite_congr rfl (fun _ => congrFun (congrArg k0_pay9 (congrArg (fun z => z.2.1) e)) _) (fun _ => ?_)
  exact ite_congr rfl (fun _ => congrFun (congrArg k0_pay10 (congrArg (fun z => z.2.2.1) e)) _) (fun _ => congrFun (congrArg k0_pay11 (congrArg (fun z => z.2.2.2) e)) _)

end Cert.MixKernelIdeal.Mix

end
-- ==== Proof.MixPool2.lean ====
module

public import proofs.«01_k».proof.Proof.MixSpec

@[expose] public section

set_option maxRecDepth 16384

noncomputable section

namespace Cert.MixKernelIdeal.Mix

open Cert.MixKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open MixBlocks

variable {F : FTy → Type} [FloatOps F]

local notation "𝕄" => MT nD τ sig Unit (Elt F) ℕ (UR sig nD τ) ℕ

/-- The gate's loop with windows of 2 makes sixteen steps. -/
theorem trips_gate2 : k0_t2_loop.trips = 16 := by decide

/-- So does the last loop. -/
theorem trips_back2 : k0_t3_loop.trips = 16 := by decide

instance : NeZero k0_t3_loop.trips := ⟨by rw [trips_back2]; decide⟩

/-- The gradient of the section pooled with windows of 2. -/
abbrev gDu2 (xw : Vec F S1x1x128x128 .f32) (dm : Vec F S2048x128 .bf16) : Vec F S2048x128 .bf16 := gDu k0_pay13 (gDp xw dm)

/-- What the gate's loop leaves. -/
theorem gate2 (c : Dev nD) (i : grid0.Coords) (R : Refs) (hc1 : k0_cond2 i = 1#1) (xs : Vec F S1x1x128 .f32) (xg xd : Vec F S2048x128 .bf16) (xm : Vec F S2048x128 .f32)
    (v : Vec F S1x1x128 .f32) (X22 : BufTy.Contents (Elt F) R.a22.view.ty) (hv : v = xs) (hX : X22 = R.h22.unread xm) :
    (st_k0_t2 (F := F) Variants.none c none i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24 hc1 v (R.h6.unread xg) (R.h8.unread xd) X22 k0_pay45 k0_t2_loop.trips).1 = gAcc xg xd xm 16
      ∧ (∀ f, R.a18.view.writes (Elt F) f (st_k0_t2 (F := F) Variants.none c none i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24 hc1 v (R.h6.unread xg) (R.h8.unread xd) X22 k0_pay45 k0_t2_loop.trips).2.1 = R.h18.unread (gDg xs xg xd xm))
      ∧ ∀ f, R.a23.view.writes (Elt F) f (st_k0_t2 (F := F) Variants.none c none i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24 hc1 v (R.h6.unread xg) (R.h8.unread xd) X22 k0_pay45 k0_t2_loop.trips).2.2 = R.h23.unread (gDm xs xg xd) := by
  subst hv hX
  refine gate_done trips_gate2 R k0_off3 (fun k => k0_off3_eq k) (fun k => k0_off3_inb i k hc1) _ xg xd xm
    (fun n => st_k0_t2 (F := F) Variants.none c none i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24 hc1 v (R.h6.unread xg) (R.h8.unread xd) (R.h22.unread xm) k0_pay45 n) rfl (fun k => ?_)
  dsimp only
  rw [st_k0_t2_succ]
  unfold tripR_k0_t2 tripL_k0_t2 trip_k0_t2
  rfl

/-- What the last loop leaves. -/
theorem back2 (c : Dev nD) (i : grid0.Coords) (R : Refs) (hc1 : k0_cond2 i = 1#1) (dp : Vec F S2064x128 .f32) (f : BufTy.Contents (Elt F) R.a17.view.ty)
    (X24 : BufTy.Contents (Elt F) R.a24.view.ty) (hX : X24 = R.h24.unread dp) :
    R.a17.view.writes (Elt F) f (pb_k0_t3 (F := F) Variants.none c none i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24 hc1 X24 k0_t3_loop.trips) = R.h17.unread (gDu k0_pay13 dp) := by
  subst hX
  refine back_done trips_back2 R k0_off4 k0_off5 (fun k => k0_off4_eq k) (fun k => k0_off5_eq k) (fun k => k0_off4_inb i k hc1) (fun k => k0_off5_inb i k hc1)
    k0_pay13 dp (fun n => pb_k0_t3 (F := F) Variants.none c none i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24 hc1 (R.h24.unread dp) n) rfl (fun k => ?_) f
  dsimp only
  rw [pb_k0_t3_succ]
  unfold tripL_k0_t3 trip_k0_t3
  rfl

set_option maxHeartbeats 4000000 in
/-- The run of the pooling part with windows of 2 (grid point 4). -/
theorem poolRun2 (c : Dev nD) (i : grid0.Coords) (R : Refs) (hc0 : ¬ k0_cond1 i = 1#1) (hc1 : k0_cond2 i = 1#1) (hc2 : ¬ k0_cond3 i = 1#1) (hc3 : ¬ k0_cond4 i = 1#1) (hc4 : ¬ k0_cond5 i = 1#1)
    (xp : Vec F S2048x128 .bf16) (xg : Vec F S2048x128 .bf16) (xd : Vec F S2048x128 .bf16) (xw : Vec F S1x1x128x128 .f32) (xs : Vec F S1x1x128 .f32) :
    PoolRun c i R xp xg xd xw xs (gDu2 xw (gDm xs xg xd)) := by
  intro E K
  unfold bodyOf
  simp only [cc0_mix_bwd_eq_skeleton]; unfold cc0_mix_bwd_skel
  simp only [k0_part3_eq_skeleton]
  unfold owns
  iintro ⟨H5, H6, H8, H10, H11, ⟨%d17, %f17, -, H17⟩, ⟨%d18, %f18, -, H18⟩, ⟨%d20, %f20, -, H20⟩, ⟨%d21, %f21, -, H21⟩, ⟨%d22, %f22, -, H22⟩, ⟨%d23, %f23, -, H23⟩, ⟨%d24, %f24, -, H24⟩, Hk⟩
  sl_exec (disch := first | sl_exact hc0 | sl_exact hc1 | sl_exact hc2 | sl_exact hc3 | sl_exact hc4)
  sl_step
  have r10 := fun inb => readAt_all R.h10 xw ![0, 0, 0, 0] (by decide) inb
  have r5 := fun inb => readAt_all R.h5 xp ![0, 0] (by decide) inb
  have r11 := fun inb => readAt_all R.h11 xs ![0, 0, 0] (by decide) inb
  have r23 := fun inb => readAt_all R.h23 (gDm xs xg xd) ![0, 0] (by decide) inb
  have e22 : R.a22.view.writes (Elt F) R.a22.view.junk (poolRun2.sl.H22_1 R xp xw) = R.h22.unread (gMixed xp xw) :=
    (writes_all R.h22 _ _ _ (by decide) _).trans (congrArg R.h22.unread (congrArg₂ k0_pay43 (r10 _) (r5 _)))
  iapply Hk
  isplitl [H5]; · iexact H5
  isplitl [H6]; · iexact H6
  isplitl [H8]; · iexact H8
  isplitl [H10]; · iexact H10
  isplitl [H11]; · iexact H11
  isplitl [H17]
  · iapply (holds_congr c R.h17 _ _ ?_) $$ H17
    delta poolRun2.sl.H24_2; dsimp only; delta poolRun2.sl.v32; dsimp only
    refine back2 c i R hc1 _ f17 _ ?_
    exact (writes_two (N := 2064) (A := 2048) (B := 16) rfl R.h24 _ _ _ _ _).trans (congrArg R.h24.unread (congrArg₂ gDp (r10 _) ((congrArg (View.readAt (Elt F) R.a23.view _) ((gate2 c i R hc1 xs xg xd (gMixed xp xw) _ _ (r11 _) e22).2.2 f23)).trans (r23 _))))
  isplitl [H18]
  · iapply (holds_congr c R.h18 _ _ ?_) $$ H18
    exact (gate2 c i R hc1 xs xg xd (gMixed xp xw) _ _ (r11 _) e22).2.1 f18
  isplitl [H20]
  · iapply (holds_congr c R.h20 _ _ ?_) $$ H20
    delta poolRun2.sl.H20_1; dsimp only; delta poolRun2.sl.v43; dsimp only
    refine (writes_all R.h20 _ _ _ (by decide) _).trans (congrArg R.h20.unread (congrArg₂ k0_pay12 (r5 _) ?_))
    exact (congrArg (View.readAt (Elt F) R.a23.view _) ((gate2 c i R hc1 xs xg xd (gMixed xp xw) _ _ (r11 _) e22).2.2 f23)).trans (r23 _)
  isplitl [H21]
  · iapply (holds_congr c R.h21 _ _ ?_) $$ H21
    delta poolRun2.sl.H21_1; dsimp only
    refine (writes_all R.h21 _ _ _ (by decide) _).trans (congrArg R.h21.unread (congrArg k0_pay54 ?_))
    exact (gate2 c i R hc1 xs xg xd (gMixed xp xw) _ _ (r11 _) e22).1
  isplitl [H22]
  · iexists _, _; isplitr; swap; · iexact H22
    ipureintro; rfl
  isplitl [H23]
  · iexists _, _; isplitr; swap; · iexact H23
    ipureintro; rfl
  iexists _, _; isplitr; swap; · iexact H24
  ipureintro; rfl

end Cert.MixKernelIdeal.Mix

end
-- ==== Proof.MixPool4.lean ====
module

public import proofs.«01_k».proof.Proof.MixSpec

@[expose] public section

set_option maxRecDepth 16384

noncomputable section

namespace Cert.MixKernelIdeal.Mix

open Cert.MixKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open MixBlocks

variable {F : FTy → Type} [FloatOps F]

local notation "𝕄" => MT nD τ sig Unit (Elt F) ℕ (UR sig nD τ) ℕ

/-- The gate's loop with windows of 4 makes sixteen steps. -/
theorem trips_gate4 : k0_t4_loop.trips = 16 := by decide

/-- So does the last loop. -/
theorem trips_back4 : k0_t5_loop.trips = 16 := by decide

instance : NeZero k0_t5_loop.trips := ⟨by rw [trips_back4]; decide⟩

/-- The gradient of the section pooled with windows of 4. -/
abbrev gDu4 (xw : Vec F S1x1x128x128 .f32) (dm : Vec F S2048x128 .bf16) : Vec F S2048x128 .bf16 := gDu k0_pay15 (gDp xw dm)

/-- What the gate's loop leaves. -/
theorem gate4 (c : Dev nD) (i : grid0.Coords) (R : Refs) (hc2 : k0_cond3 i = 1#1) (xs : Vec F S1x1x128 .f32) (xg xd : Vec F S2048x128 .bf16) (xm : Vec F S2048x128 .f32)
    (v : Vec F S1x1x128 .f32) (X22 : BufTy.Contents (Elt F) R.a22.view.ty) (hv : v = xs) (hX : X22 = R.h22.unread xm) :
    (st_k0_t4 (F := F) Variants.none c none i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24 hc2 v (R.h6.unread xg) (R.h8.unread xd) X22 k0_pay45 k0_t4_loop.trips).1 = gAcc xg xd xm 16
      ∧ (∀ f, R.a18.view.writes (Elt F) f (st_k0_t4 (F := F) Variants.none c none i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24 hc2 v (R.h6.unread xg) (R.h8.unread xd) X22 k0_pay45 k0_t4_loop.trips).2.1 = R.h18.unread (gDg xs xg xd xm))
      ∧ ∀ f, R.a23.view.writes (Elt F) f (st_k0_t4 (F := F) Variants.none c none i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24 hc2 v (R.h6.unread xg) (R.h8.unread xd) X22 k0_pay45 k0_t4_loop.trips).2.2 = R.h23.unread (gDm xs xg xd) := by
  subst hv hX
  refine gate_done trips_gate4 R k0_off6 (fun k => k0_off6_eq k) (fun k => k0_off6_inb i k hc2) _ xg xd xm
    (fun n => st_k0_t4 (F := F) Variants.none c none i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24 hc2 v (R.h6.unread xg) (R.h8.unread xd) (R.h22.unread xm) k0_pay45 n) rfl (fun k => ?_)
  dsimp only
  rw [st_k0_t4_succ]
  unfold tripR_k0_t4 tripL_k0_t4 trip_k0_t4
  rfl

/-- What the last loop leaves. -/
theorem back4 (c : Dev nD) (i : grid0.Coords) (R : Refs) (hc2 : k0_cond3 i = 1#1) (dp : Vec F S2064x128 .f32) (f : BufTy.Contents (Elt F) R.a17.view.ty)
    (X24 : BufTy.Contents (Elt F) R.a24.view.ty) (hX : X24 = R.h24.unread dp) :
    R.a17.view.writes (Elt F) f (pb_k0_t5 (F := F) Variants.none c none i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24 hc2 X24 k0_t5_loop.trips) = R.h17.unread (gDu k0_pay15 dp) := by
  subst hX
  refine back_done trips_back4 R k0_off7 k0_off8 (fun k => k0_off7_eq k) (fun k => k0_off8_eq k) (fun k => k0_off7_inb i k hc2) (fun k => k0_off8_inb i k hc2)
    k0_pay15 dp (fun n => pb_k0_t5 (F := F) Variants.none c none i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24 hc2 (R.h24.unread dp) n) rfl (fun k => ?_) f
  dsimp only
  rw [pb_k0_t5_succ]
  unfold tripL_k0_t5 trip_k0_t5
  rfl

set_option maxHeartbeats 4000000 in
/-- The run of the pooling part with windows of 4 (grid point 5). -/
theorem poolRun4 (c : Dev nD) (i : grid0.Coords) (R : Refs) (hc0 : ¬ k0_cond1 i = 1#1) (hc1 : ¬ k0_cond2 i = 1#1) (hc2 : k0_cond3 i = 1#1) (hc3 : ¬ k0_cond4 i = 1#1) (hc4 : ¬ k0_cond5 i = 1#1)
    (xp : Vec F S2048x128 .bf16) (xg : Vec F S2048x128 .bf16) (xd : Vec F S2048x128 .bf16) (xw : Vec F S1x1x128x128 .f32) (xs : Vec F S1x1x128 .f32) :
    PoolRun c i R xp xg xd xw xs (gDu4 xw (gDm xs xg xd)) := by
  intro E K
  unfold bodyOf
  simp only [cc0_mix_bwd_eq_skeleton]; unfold cc0_mix_bwd_skel
  simp only [k0_part4_eq_skeleton]
  unfold owns
  iintro ⟨H5, H6, H8, H10, H11, ⟨%d17, %f17, -, H17⟩, ⟨%d18, %f18, -, H18⟩, ⟨%d20, %f20, -, H20⟩, ⟨%d21, %f21, -, H21⟩, ⟨%d22, %f22, -, H22⟩, ⟨%d23, %f23, -, H23⟩, ⟨%d24, %f24, -, H24⟩, Hk⟩
  sl_exec (disch := first | sl_exact hc0 | sl_exact hc1 | sl_exact hc2 | sl_exact hc3 | sl_exact hc4)
  sl_step
  have r10 := fun inb => readAt_all R.h10 xw ![0, 0, 0, 0] (by decide) inb
  have r5 := fun inb => readAt_all R.h5 xp ![0, 0] (by decide) inb
  have r11 := fun inb => readAt_all R.h11 xs ![0, 0, 0] (by decide) inb
  have r23 := fun inb => readAt_all R.h23 (gDm xs xg xd) ![0, 0] (by decide) inb
  have e22 : R.a22.view.writes (Elt F) R.a22.view.junk (poolRun4.sl.H22_1 R xp xw) = R.h22.unread (gMixed xp xw) :=
    (writes_all R.h22 _ _ _ (by decide) _).trans (congrArg R.h22.unread (congrArg₂ k0_pay43 (r10 _) (r5 _)))
  iapply Hk
  isplitl [H5]; · iexact H5
  isplitl [H6]; · iexact H6
  isplitl [H8]; · iexact H8
  isplitl [H10]; · iexact H10
  isplitl [H11]; · iexact H11
  isplitl [H17]
  · iapply (holds_congr c R.h17 _ _ ?_) $$ H17
    delta poolRun4.sl.H24_2; dsimp only; delta poolRun4.sl.v32; dsimp only
    refine back4 c i R hc2 _ f17 _ ?_
    exact (writes_two (N := 2064) (A := 2048) (B := 16) rfl R.h24 _ _ _ _ _).trans (congrArg R.h24.unread (congrArg₂ gDp (r10 _) ((congrArg (View.readAt (Elt F) R.a23.view _) ((gate4 c i R hc2 xs xg xd (gMixed xp xw) _ _ (r11 _) e22).2.2 f23)).trans (r23 _))))
  isplitl [H18]
  · iapply (holds_congr c R.h18 _ _ ?_) $$ H18
    exact (gate4 c i R hc2 xs xg xd (gMixed xp xw) _ _ (r11 _) e22).2.1 f18
  isplitl [H20]
  · iapply (holds_congr c R.h20 _ _ ?_) $$ H20
    delta poolRun4.sl.H20_1; dsimp only; delta poolRun4.sl.v43; dsimp only
    refine (writes_all R.h20 _ _ _ (by decide) _).trans (congrArg R.h20.unread (congrArg₂ k0_pay14 (r5 _) ?_))
    exact (congrArg (View.readAt (Elt F) R.a23.view _) ((gate4 c i R hc2 xs xg xd (gMixed xp xw) _ _ (r11 _) e22).2.2 f23)).trans (r23 _)
  isplitl [H21]
  · iapply (holds_congr c R.h21 _ _ ?_) $$ H21
    delta poolRun4.sl.H21_1; dsimp only
    refine (writes_all R.h21 _ _ _ (by decide) _).trans (congrArg R.h21.unread (congrArg k0_pay69 ?_))
    exact (gate4 c i R hc2 xs xg xd (gMixed xp xw) _ _ (r11 _) e22).1
  isplitl [H22]
  · iexists _, _; isplitr; swap; · iexact H22
    ipureintro; rfl
  isplitl [H23]
  · iexists _, _; isplitr; swap; · iexact H23
    ipureintro; rfl
  iexists _, _; isplitr; swap; · iexact H24
  ipureintro; rfl

end Cert.MixKernelIdeal.Mix

end
-- ==== Proof.MixPool8.lean ====
module

public import proofs.«01_k».proof.Proof.MixSpec

@[expose] public section

set_option maxRecDepth 16384

noncomputable section

namespace Cert.MixKernelIdeal.Mix

open Cert.MixKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open MixBlocks

variable {F : FTy → Type} [FloatOps F]

local notation "𝕄" => MT nD τ sig Unit (Elt F) ℕ (UR sig nD τ) ℕ

/-- The gate's loop with windows of 8 makes sixteen steps. -/
theorem trips_gate8 : k0_t6_loop.trips = 16 := by decide

/-- So does the last loop. -/
theorem trips_back8 : k0_t7_loop.trips = 16 := by decide

instance : NeZero k0_t7_loop.trips := ⟨by rw [trips_back8]; decide⟩

/-- The gradient of the section pooled with windows of 8. -/
abbrev gDu8 (xw : Vec F S1x1x128x128 .f32) (dm : Vec F S2048x128 .bf16) : Vec F S2048x128 .bf16 := gDu k0_pay17 (gDp xw dm)

/-- What the gate's loop leaves. -/
theorem gate8 (c : Dev nD) (i : grid0.Coords) (R : Refs) (hc3 : k0_cond4 i = 1#1) (xs : Vec F S1x1x128 .f32) (xg xd : Vec F S2048x128 .bf16) (xm : Vec F S2048x128 .f32)
    (v : Vec F S1x1x128 .f32) (X22 : BufTy.Contents (Elt F) R.a22.view.ty) (hv : v = xs) (hX : X22 = R.h22.unread xm) :
    (st_k0_t6 (F := F) Variants.none c none i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24 hc3 v (R.h6.unread xg) (R.h8.unread xd) X22 k0_pay45 k0_t6_loop.trips).1 = gAcc xg xd xm 16
      ∧ (∀ f, R.a18.view.writes (Elt F) f (st_k0_t6 (F := F) Variants.none c none i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24 hc3 v (R.h6.unread xg) (R.h8.unread xd) X22 k0_pay45 k0_t6_loop.trips).2.1 = R.h18.unread (gDg xs xg xd xm))
      ∧ ∀ f, R.a23.view.writes (Elt F) f (st_k0_t6 (F := F) Variants.none c none i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24 hc3 v (R.h6.unread xg) (R.h8.unread xd) X22 k0_pay45 k0_t6_loop.trips).2.2 = R.h23.unread (gDm xs xg xd) := by
  subst hv hX
  refine gate_done trips_gate8 R k0_off9 (fun k => k0_off9_eq k) (fun k => k0_off9_inb i k hc3) _ xg xd xm
    (fun n => st_k0_t6 (F := F) Variants.none c none i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24 hc3 v (R.h6.unread xg) (R.h8.unread xd) (R.h22.unread xm) k0_pay45 n) rfl (fun k => ?_)
  dsimp only
  rw [st_k0_t6_succ]
  unfold tripR_k0_t6 tripL_k0_t6 trip_k0_t6
  rfl

/-- What the last loop leaves. -/
theorem back8 (c : Dev nD) (i : grid0.Coords) (R : Refs) (hc3 : k0_cond4 i = 1#1) (dp : Vec F S2064x128 .f32) (f : BufTy.Contents (Elt F) R.a17.view.ty)
    (X24 : BufTy.Contents (Elt F) R.a24.view.ty) (hX : X24 = R.h24.unread dp) :
    R.a17.view.writes (Elt F) f (pb_k0_t7 (F := F) Variants.none c none i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24 hc3 X24 k0_t7_loop.trips) = R.h17.unread (gDu k0_pay17 dp) := by
  subst hX
  refine back_done trips_back8 R k0_off10 k0_off11 (fun k => k0_off10_eq k) (fun k => k0_off11_eq k) (fun k => k0_off10_inb i k hc3) (fun k => k0_off11_inb i k hc3)
    k0_pay17 dp (fun n => pb_k0_t7 (F := F) Variants.none c none i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24 hc3 (R.h24.unread dp) n) rfl (fun k => ?_) f
  dsimp only
  rw [pb_k0_t7_succ]
  unfold tripL_k0_t7 trip_k0_t7
  rfl

set_option maxHeartbeats 4000000 in
/-- The run of the pooling part with windows of 8 (grid point 6). -/
theorem poolRun8 (c : Dev nD) (i : grid0.Coords) (R : Refs) (hc0 : ¬ k0_cond1 i = 1#1) (hc1 : ¬ k0_cond2 i = 1#1) (hc2 : ¬ k0_cond3 i = 1#1) (hc3 : k0_cond4 i = 1#1) (hc4 : ¬ k0_cond5 i = 1#1)
    (xp : Vec F S2048x128 .bf16) (xg : Vec F S2048x128 .bf16) (xd : Vec F S2048x128 .bf16) (xw : Vec F S1x1x128x128 .f32) (xs : Vec F S1x1x128 .f32) :
    PoolRun c i R xp xg xd xw xs (gDu8 xw (gDm xs xg xd)) := by
  intro E K
  unfold bodyOf
  simp only [cc0_mix_bwd_eq_skeleton]; unfold cc0_mix_bwd_skel
  simp only [k0_part5_eq_skeleton]
  unfold owns
  iintro ⟨H5, H6, H8, H10, H11, ⟨%d17, %f17, -, H17⟩, ⟨%d18, %f18, -, H18⟩, ⟨%d20, %f20, -, H20⟩, ⟨%d21, %f21, -, H21⟩, ⟨%d22, %f22, -, H22⟩, ⟨%d23, %f23, -, H23⟩, ⟨%d24, %f24, -, H24⟩, Hk⟩
  sl_exec (disch := first | sl_exact hc0 | sl_exact hc1 | sl_exact hc2 | sl_exact hc3 | sl_exact hc4)
  sl_step
  have r10 := fun inb => readAt_all R.h10 xw ![0, 0, 0, 0] (by decide) inb
  have r5 := fun inb => readAt_all R.h5 xp ![0, 0] (by decide) inb
  have r11 := fun inb => readAt_all R.h11 xs ![0, 0, 0] (by decide) inb
  have r23 := fun inb => readAt_all R.h23 (gDm xs xg xd) ![0, 0] (by decide) inb
  have e22 : R.a22.view.writes (Elt F) R.a22.view.junk (poolRun8.sl.H22_1 R xp xw) = R.h22.unread (gMixed xp xw) :=
    (writes_all R.h22 _ _ _ (by decide) _).trans (congrArg R.h22.unread (congrArg₂ k0_pay43 (r10 _) (r5 _)))
  iapply Hk
  isplitl [H5]; · iexact H5
  isplitl [H6]; · iexact H6
  isplitl [H8]; · iexact H8
  isplitl [H10]; · iexact H10
  isplitl [H11]; · iexact H11
  isplitl [H17]
  · iapply (holds_congr c R.h17 _ _ ?_) $$ H17
    delta poolRun8.sl.H24_2; dsimp only; delta poolRun8.sl.v32; dsimp only
    refine back8 c i R hc3 _ f17 _ ?_
    exact (writes_two (N := 2064) (A := 2048) (B := 16) rfl R.h24 _ _ _ _ _).trans (congrArg R.h24.unread (congrArg₂ gDp (r10 _) ((congrArg (View.readAt (Elt F) R.a23.view _) ((gate8 c i R hc3 xs xg xd (gMixed xp xw) _ _ (r11 _) e22).2.2 f23)).trans (r23 _))))
  isplitl [H18]
  · iapply (holds_congr c R.h18 _ _ ?_) $$ H18
    exact (gate8 c i R hc3 xs xg xd (gMixed xp xw) _ _ (r11 _) e22).2.1 f18
  isplitl [H20]
  · iapply (holds_congr c R.h20 _ _ ?_) $$ H20
    delta poolRun8.sl.H20_1; dsimp only; delta poolRun8.sl.v43; dsimp only
    refine (writes_all R.h20 _ _ _ (by decide) _).trans (congrArg R.h20.unread (congrArg₂ k0_pay16 (r5 _) ?_))
    exact (congrArg (View.readAt (Elt F) R.a23.view _) ((gate8 c i R hc3 xs xg xd (gMixed xp xw) _ _ (r11 _) e22).2.2 f23)).trans (r23 _)
  isplitl [H21]
  · iapply (holds_congr c R.h21 _ _ ?_) $$ H21
    delta poolRun8.sl.H21_1; dsimp only
    refine (writes_all R.h21 _ _ _ (by decide) _).trans (congrArg R.h21.unread (congrArg k0_pay84 ?_))
    exact (gate8 c i R hc3 xs xg xd (gMixed xp xw) _ _ (r11 _) e22).1
  isplitl [H22]
  · iexists _, _; isplitr; swap; · iexact H22
    ipureintro; rfl
  isplitl [H23]
  · iexists _, _; isplitr; swap; · iexact H23
    ipureintro; rfl
  iexists _, _; isplitr; swap; · iexact H24
  ipureintro; rfl

end Cert.MixKernelIdeal.Mix

end
-- ==== Proof.MixPool16.lean ====
module

public import proofs.«01_k».proof.Proof.MixSpec

@[expose] public section

set_option maxRecDepth 16384

noncomputable section

namespace Cert.MixKernelIdeal.Mix

open Cert.MixKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open MixBlocks

variable {F : FTy → Type} [FloatOps F]

local notation "𝕄" => MT nD τ sig Unit (Elt F) ℕ (UR sig nD τ) ℕ

/-- The gate's loop with windows of 16 makes sixteen steps. -/
theorem trips_gate16 : k0_t8_loop.trips = 16 := by decide

/-- So does the last loop. -/
theorem trips_back16 : k0_t9_loop.trips = 16 := by decide

instance : NeZero k0_t9_loop.trips := ⟨by rw [trips_back16]; decide⟩

/-- The gradient of the section pooled with windows of 16. -/
abbrev gDu16 (xw : Vec F S1x1x128x128 .f32) (dm : Vec F S2048x128 .bf16) : Vec F S2048x128 .bf16 := gDu k0_pay19 (gDp xw dm)

/-- What the gate's loop leaves. -/
theorem gate16 (c : Dev nD) (i : grid0.Coords) (R : Refs) (hc4 : k0_cond5 i = 1#1) (xs : Vec F S1x1x128 .f32) (xg xd : Vec F S2048x128 .bf16) (xm : Vec F S2048x128 .f32)
    (v : Vec F S1x1x128 .f32) (X22 : BufTy.Contents (Elt F) R.a22.view.ty) (hv : v = xs) (hX : X22 = R.h22.unread xm) :
    (st_k0_t8 (F := F) Variants.none c none i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24 hc4 v (R.h6.unread xg) (R.h8.unread xd) X22 k0_pay45 k0_t8_loop.trips).1 = gAcc xg xd xm 16
      ∧ (∀ f, R.a18.view.writes (Elt F) f (st_k0_t8 (F := F) Variants.none c none i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24 hc4 v (R.h6.unread xg) (R.h8.unread xd) X22 k0_pay45 k0_t8_loop.trips).2.1 = R.h18.unread (gDg xs xg xd xm))
      ∧ ∀ f, R.a23.view.writes (Elt F) f (st_k0_t8 (F := F) Variants.none c none i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24 hc4 v (R.h6.unread xg) (R.h8.unread xd) X22 k0_pay45 k0_t8_loop.trips).2.2 = R.h23.unread (gDm xs xg xd) := by
  subst hv hX
  refine gate_done trips_gate16 R k0_off12 (fun k => k0_off12_eq k) (fun k => k0_off12_inb i k hc4) _ xg xd xm
    (fun n => st_k0_t8 (F := F) Variants.none c none i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24 hc4 v (R.h6.unread xg) (R.h8.unread xd) (R.h22.unread xm) k0_pay45 n) rfl (fun k => ?_)
  dsimp only
  rw [st_k0_t8_succ]
  unfold tripR_k0_t8 tripL_k0_t8 trip_k0_t8
  rfl

/-- What the last loop leaves. -/
theorem back16 (c : Dev nD) (i : grid0.Coords) (R : Refs) (hc4 : k0_cond5 i = 1#1) (dp : Vec F S2064x128 .f32) (f : BufTy.Contents (Elt F) R.a17.view.ty)
    (X24 : BufTy.Contents (Elt F) R.a24.view.ty) (hX : X24 = R.h24.unread dp) :
    R.a17.view.writes (Elt F) f (pb_k0_t9 (F := F) Variants.none c none i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24 hc4 X24 k0_t9_loop.trips) = R.h17.unread (gDu k0_pay19 dp) := by
  subst hX
  refine back_done trips_back16 R k0_off13 k0_off14 (fun k => k0_off13_eq k) (fun k => k0_off14_eq k) (fun k => k0_off13_inb i k hc4) (fun k => k0_off14_inb i k hc4)
    k0_pay19 dp (fun n => pb_k0_t9 (F := F) Variants.none c none i R.a1 R.h1 R.a2 R.h2 R.a3 R.h3 R.a4 R.h4 R.a5 R.h5 R.a6 R.h6 R.a7 R.h7 R.a8 R.h8 R.a9 R.h9 R.a10 R.h10 R.a11 R.h11 (Memref.whole main_arg6) (Memref.isWhole_whole _) R.a13 R.h13 R.a14 R.h14 R.a15 R.h15 R.a16 R.h16 R.a17 R.h17 R.a18 R.h18 R.a19 R.h19 R.a20 R.h20 R.a21 R.h21 R.a22 R.h22 R.a23 R.h23 R.a24 R.h24 hc4 (R.h24.unread dp) n) rfl (fun k => ?_) f
  dsimp only
  rw [pb_k0_t9_succ]
  unfold tripL_k0_t9 trip_k0_t9
  rfl

set_option maxHeartbeats 4000000 in
/-- The run of the pooling part with windows of 16 (grid point 7). -/
theorem poolRun16 (c : Dev nD) (i : grid0.Coords) (R : Refs) (hc0 : ¬ k0_cond1 i = 1#1) (hc1 : ¬ k0_cond2 i = 1#1) (hc2 : ¬ k0_cond3 i = 1#1) (hc3 : ¬ k0_cond4 i = 1#1) (hc4 : k0_cond5 i = 1#1)
    (xp : Vec F S2048x128 .bf16) (xg : Vec F S2048x128 .bf16) (xd : Vec F S2048x128 .bf16) (xw : Vec F S1x1x128x128 .f32) (xs : Vec F S1x1x128 .f32) :
    PoolRun c i R xp xg xd xw xs (gDu16 xw (gDm xs xg xd)) := by
  intro E K
  unfold bodyOf
  simp only [cc0_mix_bwd_eq_skeleton]; unfold cc0_mix_bwd_skel
  simp only [k0_part6_eq_skeleton]
  unfold owns
  iintro ⟨H5, H6, H8, H10, H11, ⟨%d17, %f17, -, H17⟩, ⟨%d18, %f18, -, H18⟩, ⟨%d20, %f20, -, H20⟩, ⟨%d21, %f21, -, H21⟩, ⟨%d22, %f22, -, H22⟩, ⟨%d23, %f23, -, H23⟩, ⟨%d24, %f24, -, H24⟩, Hk⟩
  sl_exec (disch := first | sl_exact hc0 | sl_exact hc1 | sl_exact hc2 | sl_exact hc3 | sl_exact hc4)
  sl_step
  have r10 := fun inb => readAt_all R.h10 xw ![0, 0, 0, 0] (by decide) inb
  have r5 := fun inb => readAt_all R.h5 xp ![0, 0] (by decide) inb
  have r11 := fun inb => readAt_all R.h11 xs ![0, 0, 0] (by decide) inb
  have r23 := fun inb => readAt_all R.h23 (gDm xs xg xd) ![0, 0] (by decide) inb
  have e22 : R.a22.view.writes (Elt F) R.a22.view.junk (poolRun16.sl.H22_1 R xp xw) = R.h22.unread (gMixed xp xw) :=
    (writes_all R.h22 _ _ _ (by decide) _).trans (congrArg R.h22.unread (congrArg₂ k0_pay43 (r10 _) (r5 _)))
  iapply Hk
  isplitl [H5]; · iexact H5
  isplitl [H6]; · iexact H6
  isplitl [H8]; · iexact H8
  isplitl [H10]; · iexact H10
  isplitl [H11]; · iexact H11
  isplitl [H17]
  · iapply (holds_congr c R.h17 _ _ ?_) $$ H17
    delta poolRun16.sl.H24_2; dsimp only; delta poolRun16.sl.v32; dsimp only
    refine back16 c i R hc4 _ f17 _ ?_
    exact (writes_two (N := 2064) (A := 2048) (B := 16) rfl R.h24 _ _ _ _ _).trans (congrArg R.h24.unread (congrArg₂ gDp (r10 _) ((congrArg (View.readAt (Elt F) R.a23.view _) ((gate16 c i R hc4 xs xg xd (gMixed xp xw) _ _ (r11 _) e22).2.2 f23)).trans (r23 _))))
  isplitl [H18]
  · iapply (holds_congr c R.h18 _ _ ?_) $$ H18
    exact (gate16 c i R hc4 xs xg xd (gMixed xp xw) _ _ (r11 _) e22).2.1 f18
  isplitl [H20]
  · iapply (holds_congr c R.h20 _ _ ?_) $$ H20
    delta poolRun16.sl.H20_1; dsimp only; delta poolRun16.sl.v43; dsimp only
    refine (writes_all R.h20 _ _ _ (by decide) _).trans (congrArg R.h20.unread (congrArg₂ k0_pay18 (r5 _) ?_))
    exact (congrArg (View.readAt (Elt F) R.a23.view _) ((gate16 c i R hc4 xs xg xd (gMixed xp xw) _ _ (r11 _) e22).2.2 f23)).trans (r23 _)
  isplitl [H21]
  · iapply (holds_congr c R.h21 _ _ ?_) $$ H21
    delta poolRun16.sl.H21_1; dsimp only
    refine (writes_all R.h21 _ _ _ (by decide) _).trans (congrArg R.h21.unread (congrArg k0_pay99 ?_))
    exact (gate16 c i R hc4 xs xg xd (gMixed xp xw) _ _ (r11 _) e22).1
  isplitl [H22]
  · iexists _, _; isplitr; swap; · iexact H22
    ipureintro; rfl
  isplitl [H23]
  · iexists _, _; isplitr; swap; · iexact H23
    ipureintro; rfl
  iexists _, _; isplitr; swap; · iexact H24
  ipureintro; rfl

end Cert.MixKernelIdeal.Mix

end
-- ==== Proof.MixFrame.lean ====
module

public import proofs.«01_k».proof.Proof.Gen.MixKernelIdeal.Frame
public import proofs.«01_k».proof.Proof.Gen.MixKernelIdeal.Loops
public import proofs.«01_k».proof.Proof.Gen.MixKernelIdeal.Points
public import proofs.«01_k».proof.Proof.MixConv
public import proofs.«01_k».proof.Proof.MixPool2
public import proofs.«01_k».proof.Proof.MixPool4
public import proofs.«01_k».proof.Proof.MixPool8
public import proofs.«01_k».proof.Proof.MixPool16
public import Idealize.ShloMosaic.Lib.Pipeline.TableIdle
public import Idealize.ShloMosaic.Lib.Claim

@[expose] public section

set_option maxRecDepth 16384

noncomputable section

namespace Cert.MixKernelIdeal.Mix

open Cert.MixKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open MixBlocks
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of the grid: four of the convolution, four of the pooling -/

/-- Point `k` of the convolution part. -/
def cPt (k : Fin 4) : Fin cfg0.N := ⟨k.val, by have := k.isLt; have : cfg0.N = 8 := N_0; omega⟩
/-- Point `k` of the pooling part. -/
def pPt (k : Fin 4) : Fin cfg0.N := ⟨4 + k.val, by have := k.isLt; have : cfg0.N = 8 := N_0; omega⟩
/-- The convolution point whose results the staging buffers hold after point `t`. -/
def cOf (t : Fin cfg0.N) : Fin 4 := ⟨min t.val 3, by omega⟩
/-- The pooling point of `t` (the first one before the pooling part begins). -/
def pOf (t : Fin cfg0.N) : Fin 4 := ⟨t.val - 4, by have := t.isLt; have : cfg0.N = 8 := N_0; omega⟩

theorem cOf_cPt (k : Fin 4) : cOf (cPt k) = k := by revert k; decide
theorem pOf_pPt (k : Fin 4) : pOf (pPt k) = k := by revert k; decide

/-- Every point is one of the two kinds. -/
theorem point_cases (t : Fin cfg0.N) : (∃ k, t = cPt k) ∨ ∃ k, t = pPt k := by
  have hN : t.val < 8 := lt_of_lt_of_eq t.isLt N_0
  by_cases h : t.val < 4
  · exact .inl ⟨⟨t.val, h⟩, rfl⟩
  · exact .inr ⟨⟨t.val - 4, by omega⟩, Fin.ext (by simp only [pPt]; omega)⟩

/-- The conditions of the body at the convolution points. -/
theorem cond_conv : ∀ k : Fin 4, k0_cond1 (grid0.coords (cPt k)) = 1#1 ∧ ¬ k0_cond2 (grid0.coords (cPt k)) = 1#1
    ∧ ¬ k0_cond3 (grid0.coords (cPt k)) = 1#1 ∧ ¬ k0_cond4 (grid0.coords (cPt k)) = 1#1 ∧ ¬ k0_cond5 (grid0.coords (cPt k)) = 1#1 := by
  decide +kernel

/-- The conditions of the body at the pooling points: the convolution's fails, and the point's own holds. -/
theorem cond_pool : ∀ k : Fin 4, ¬ k0_cond1 (grid0.coords (pPt k)) = 1#1
    ∧ (k0_cond2 (grid0.coords (pPt k)) = 1#1 ↔ k = 0) ∧ (k0_cond3 (grid0.coords (pPt k)) = 1#1 ↔ k = 1)
    ∧ (k0_cond4 (grid0.coords (pPt k)) = 1#1 ↔ k = 2) ∧ (k0_cond5 (grid0.coords (pPt k)) = 1#1 ↔ k = 3) := by
  decide +kernel

/-- The buffers the pipeline passes the body at point `t`. -/
@[reducible] def refsAt (t : Fin cfg0.N) : Refs where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a13 := win0_11.stage (cfg0.slots t 11)
  h13 := hstage0_11 ((cfg0.slots t 11).cast nbuf0_11)
  a14 := win0_12.stage (cfg0.slots t 12)
  h14 := hstage0_12 ((cfg0.slots t 12).cast nbuf0_12)
  a15 := win0_13.stage (cfg0.slots t 13)
  h15 := hstage0_13 ((cfg0.slots t 13).cast nbuf0_13)
  a16 := win0_14.stage (cfg0.slots t 14)
  h16 := hstage0_14 ((cfg0.slots t 14).cast nbuf0_14)
  a17 := win0_15.stage (cfg0.slots t 15)
  h17 := hstage0_15 ((cfg0.slots t 15).cast nbuf0_15)
  a18 := win0_16.stage (cfg0.slots t 16)
  h18 := hstage0_16 ((cfg0.slots t 16).cast nbuf0_16)
  a19 := win0_17.stage (cfg0.slots t 17)
  h19 := hstage0_17 ((cfg0.slots t 17).cast nbuf0_17)
  a20 := win0_18.stage (cfg0.slots t 18)
  h20 := hstage0_18 ((cfg0.slots t 18).cast nbuf0_18)
  a21 := win0_19.stage (cfg0.slots t 19)
  h21 := hstage0_19 ((cfg0.slots t 19).cast nbuf0_19)
  a22 := Memref.whole cc0_scratch0
  h22 := Memref.isWhole_whole _
  a23 := Memref.whole cc0_scratch1
  h23 := Memref.isWhole_whole _
  a24 := Memref.whole cc0_scratch2
  h24 := Memref.isWhole_whole _

/-! ## What the two parts leave, as functions of the blocks fetched -/

/-- The gradient of `u` at the convolution's point `k`. -/
def cuAt (c : Dev nD) (k : Fin 4) : Vec F S2048x128 .bf16 := cDu (tap (iblk m c 8 (cPt k)) 0) (tap (iblk m c 8 (cPt k)) 1) (tap (iblk m c 8 (cPt k)) 2) (iblk m c 0 (cPt k)) (iblk m c 1 (cPt k)) (iblk m c 2 (cPt k)) (iblk m c 3 (cPt k)) (iblk m c 6 (cPt k))
/-- of `b` at the convolution's point `k`. -/
def cbAt (c : Dev nD) (k : Fin 4) : Vec F S2048x128 .bf16 := cDb (tap (iblk m c 8 (cPt k)) 0) (tap (iblk m c 8 (cPt k)) 1) (tap (iblk m c 8 (cPt k)) 2) (iblk m c 0 (cPt k)) (iblk m c 1 (cPt k)) (iblk m c 2 (cPt k)) (iblk m c 3 (cPt k)) (iblk m c 6 (cPt k))
/-- of `c` at the convolution's point `k`. -/
def ccAt (c : Dev nD) (k : Fin 4) : Vec F S2048x128 .bf16 := cDc (tap (iblk m c 8 (cPt k)) 0) (tap (iblk m c 8 (cPt k)) 1) (tap (iblk m c 8 (cPt k)) 2) (iblk m c 0 (cPt k)) (iblk m c 1 (cPt k)) (iblk m c 2 (cPt k)) (iblk m c 3 (cPt k)) (iblk m c 6 (cPt k))
/-- of the gate at the convolution's point `k`. -/
def cgAt (c : Dev nD) (k : Fin 4) : Vec F S2048x128 .bf16 := cDg (tap (iblk m c 8 (cPt k)) 0) (tap (iblk m c 8 (cPt k)) 1) (tap (iblk m c 8 (cPt k)) 2) (iblk m c 0 (cPt k)) (iblk m c 1 (cPt k)) (iblk m c 2 (cPt k)) (iblk m c 3 (cPt k)) (iblk m c 6 (cPt k))
/-- of the filter at the convolution's point `k`. -/
def cwAt (c : Dev nD) (k : Fin 4) : Vec F S1x3x128 .f32 := cDw (iblk m c 0 (cPt k)) (iblk m c 1 (cPt k)) (iblk m c 2 (cPt k)) (iblk m c 3 (cPt k)) (iblk m c 6 (cPt k))
/-- What a gradient of the pooled section is, by the window. -/
def pDu (xw : Vec F S1x1x128x128 .f32) (dm : Vec F S2048x128 .bf16) : Fin 4 → Vec F S2048x128 .bf16
  | 0 => gDu2 xw dm
  | 1 => gDu4 xw dm
  | 2 => gDu8 xw dm
  | 3 => gDu16 xw dm
/-- The gradient of the pooled section at the pooling's point `k`. -/
def puAt (c : Dev nD) (k : Fin 4) : Vec F S2048x128 .bf16 := pDu (iblk m c 9 (pPt k)) (gDm (iblk m c 10 (pPt k)) (iblk m c 5 (pPt k)) (iblk m c 7 (pPt k))) k
/-- of the gate at the pooling's point `k`. -/
def pgAt (c : Dev nD) (k : Fin 4) : Vec F S2048x128 .bf16 := gDg (iblk m c 10 (pPt k)) (iblk m c 5 (pPt k)) (iblk m c 7 (pPt k)) (gMixed (iblk m c 4 (pPt k)) (iblk m c 9 (pPt k)))
/-- of the pooling's matrix at its point `k`. -/
def pwAt (c : Dev nD) (k : Fin 4) : Vec F S1x128x128 .bf16 := gDw (iblk m c 4 (pPt k)) (gDm (iblk m c 10 (pPt k)) (iblk m c 5 (pPt k)) (iblk m c 7 (pPt k)))
/-- of the scale at the pooling's point `k`. -/
def psAt (c : Dev nD) (k : Fin 4) : Vec F S1x128 .f32 := gDs (iblk m c 5 (pPt k)) (iblk m c 7 (pPt k)) (gMixed (iblk m c 4 (pPt k)) (iblk m c 9 (pPt k)))

/-- The pooling run at its point `k`, on the blocks fetched there: windows of 2, 4, 8 and 16. -/
theorem poolAt (c : Dev nD) : (k : Fin 4) → PoolRun c (grid0.coords (pPt k)) (refsAt (pPt k)) (iblk m c 4 (pPt k)) (iblk m c 5 (pPt k)) (iblk m c 7 (pPt k)) (iblk m c 9 (pPt k)) (iblk m c 10 (pPt k)) (puAt m c k)
  | 0 => poolRun2 c _ _ (cond_pool 0).1 ((cond_pool 0).2.1.mpr rfl) (fun h => absurd ((cond_pool 0).2.2.1.mp h) (by decide)) (fun h => absurd ((cond_pool 0).2.2.2.1.mp h) (by decide)) (fun h => absurd ((cond_pool 0).2.2.2.2.mp h) (by decide)) _ _ _ _ _
  | 1 => poolRun4 c _ _ (cond_pool 1).1 (fun h => absurd ((cond_pool 1).2.1.mp h) (by decide)) ((cond_pool 1).2.2.1.mpr rfl) (fun h => absurd ((cond_pool 1).2.2.2.1.mp h) (by decide)) (fun h => absurd ((cond_pool 1).2.2.2.2.mp h) (by decide)) _ _ _ _ _
  | 2 => poolRun8 c _ _ (cond_pool 2).1 (fun h => absurd ((cond_pool 2).2.1.mp h) (by decide)) (fun h => absurd ((cond_pool 2).2.2.1.mp h) (by decide)) ((cond_pool 2).2.2.2.1.mpr rfl) (fun h => absurd ((cond_pool 2).2.2.2.2.mp h) (by decide)) _ _ _ _ _
  | 3 => poolRun16 c _ _ (cond_pool 3).1 (fun h => absurd ((cond_pool 3).2.1.mp h) (by decide)) (fun h => absurd ((cond_pool 3).2.2.1.mp h) (by decide)) (fun h => absurd ((cond_pool 3).2.2.2.1.mp h) (by decide)) ((cond_pool 3).2.2.2.2.mpr rfl) _ _ _ _ _

/-! ## The proof data -/

/-- The proof data of the call on core `c`: the arrays as the region finds them; after point `t` each input's buffer at its
    block, the convolution's results at those of the last convolution point up to `t`, the pooling's at those of `t`; the
    scratch at anything throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => cuAt m c (cOf t)
    | ⟨12, _⟩ => cbAt m c (cOf t)
    | ⟨13, _⟩ => ccAt m c (cOf t)
    | ⟨14, _⟩ => cgAt m c (cOf t)
    | ⟨15, _⟩ => puAt m c (pOf t)
    | ⟨16, _⟩ => pgAt m c (pOf t)
    | ⟨17, _⟩ => cwAt m c (cOf t)
    | ⟨18, _⟩ => pwAt m c (pOf t)
    | ⟨19, _⟩ => psAt m c (pOf t)
    | ⟨_ + 20, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = cuAt m c (cOf t) := by dsimp only [dats]
theorem after_12 (c : Dev nD) (t : Fin cfg0.N) : (dats m 0 c).after 12 t = cbAt m c (cOf t) := by dsimp only [dats]
theorem after_13 (c : Dev nD) (t : Fin cfg0.N) : (dats m 0 c).after 13 t = ccAt m c (cOf t) := by dsimp only [dats]
theorem after_14 (c : Dev nD) (t : Fin cfg0.N) : (dats m 0 c).after 14 t = cgAt m c (cOf t) := by dsimp only [dats]
theorem after_15 (c : Dev nD) (t : Fin cfg0.N) : (dats m 0 c).after 15 t = puAt m c (pOf t) := by dsimp only [dats]
theorem after_16 (c : Dev nD) (t : Fin cfg0.N) : (dats m 0 c).after 16 t = pgAt m c (pOf t) := by dsimp only [dats]
theorem after_17 (c : Dev nD) (t : Fin cfg0.N) : (dats m 0 c).after 17 t = cwAt m c (cOf t) := by dsimp only [dats]
theorem after_18 (c : Dev nD) (t : Fin cfg0.N) : (dats m 0 c).after 18 t = pwAt m c (pOf t) := by dsimp only [dats]
theorem after_19 (c : Dev nD) (t : Fin cfg0.N) : (dats m 0 c).after 19 t = psAt m c (pOf t) := by dsimp only [dats]

/-! ## Where the result windows are idle, written back, and fresh -/

theorem idle_11 : ∀ t : Fin cfg0.N, cfg0.idle 11 (grid0.coords t) = decide (4 ≤ t.val) := by decide +kernel
theorem fresh_11 : ∀ n, n ≤ cfg0.N → cfg0.fresh 11 n = decide (n < 4 ∨ n = 8) :=
  Cfg.fresh_tab cfg0 11 (fun n => decide (n < 4 ∨ n = 8)) rfl (fun t => by rw [Window.flush_eq_flushF]; revert t; decide +kernel)
theorem idle_12 : ∀ t : Fin cfg0.N, cfg0.idle 12 (grid0.coords t) = decide (4 ≤ t.val) := by decide +kernel
theorem fresh_12 : ∀ n, n ≤ cfg0.N → cfg0.fresh 12 n = decide (n < 4 ∨ n = 8) :=
  Cfg.fresh_tab cfg0 12 (fun n => decide (n < 4 ∨ n = 8)) rfl (fun t => by rw [Window.flush_eq_flushF]; revert t; decide +kernel)
theorem idle_13 : ∀ t : Fin cfg0.N, cfg0.idle 13 (grid0.coords t) = decide (4 ≤ t.val) := by decide +kernel
theorem fresh_13 : ∀ n, n ≤ cfg0.N → cfg0.fresh 13 n = decide (n < 4 ∨ n = 8) :=
  Cfg.fresh_tab cfg0 13 (fun n => decide (n < 4 ∨ n = 8)) rfl (fun t => by rw [Window.flush_eq_flushF]; revert t; decide +kernel)
theorem idle_14 : ∀ t : Fin cfg0.N, cfg0.idle 14 (grid0.coords t) = decide (4 ≤ t.val) := by decide +kernel
theorem fresh_14 : ∀ n, n ≤ cfg0.N → cfg0.fresh 14 n = decide (n < 4 ∨ n = 8) :=
  Cfg.fresh_tab cfg0 14 (fun n => decide (n < 4 ∨ n = 8)) rfl (fun t => by rw [Window.flush_eq_flushF]; revert t; decide +kernel)
theorem idle_17 : ∀ t : Fin cfg0.N, cfg0.idle 17 (grid0.coords t) = decide (4 ≤ t.val) := by decide +kernel
theorem fresh_17 : ∀ n, n ≤ cfg0.N → cfg0.fresh 17 n = decide (n < 4 ∨ n = 8) :=
  Cfg.fresh_tab cfg0 17 (fun n => decide (n < 4 ∨ n = 8)) rfl (fun t => by rw [Window.flush_eq_flushF]; revert t; decide +kernel)
theorem idle_15 : ∀ t : Fin cfg0.N, cfg0.idle 15 (grid0.coords t) = decide (t.val < 4) := by decide +kernel
theorem flush_15 : ∀ t : Fin cfg0.N, t.val < 4 → (cfg0.win 15).flush t = false := fun t => by
  rw [Window.flush_eq_flushF]; revert t; decide +kernel
theorem idle_16 : ∀ t : Fin cfg0.N, cfg0.idle 16 (grid0.coords t) = decide (t.val < 4) := by decide +kernel
theorem flush_16 : ∀ t : Fin cfg0.N, t.val < 4 → (cfg0.win 16).flush t = false := fun t => by
  rw [Window.flush_eq_flushF]; revert t; decide +kernel
theorem idle_18 : ∀ t : Fin cfg0.N, cfg0.idle 18 (grid0.coords t) = decide (t.val < 4) := by decide +kernel
theorem flush_18 : ∀ t : Fin cfg0.N, t.val < 4 → (cfg0.win 18).flush t = false := fun t => by
  rw [Window.flush_eq_flushF]; revert t; decide +kernel
theorem idle_19 : ∀ t : Fin cfg0.N, cfg0.idle 19 (grid0.coords t) = decide (t.val < 4) := by decide +kernel
theorem flush_19 : ∀ t : Fin cfg0.N, t.val < 4 → (cfg0.win 19).flush t = false := fun t => by
  rw [Window.flush_eq_flushF]; revert t; decide +kernel

/-- Past the convolution points the last of them does not change. -/
theorem cOf_pred (t : Fin cfg0.N) (h0 : t.val ≠ 0) (h : 4 ≤ t.val) : cOf t = cOf ⟨t.val - 1, by omega⟩ :=
  Fin.ext (by simp only [cOf]; omega)

/-- At a pooling point a result window of the convolution holds what the last convolution point left, and after it too. -/
theorem kept (c : Dev nD) (w : Fin cfg0.W) (hw : (cfg0.win w).isOut = true) (hc : ∀ (i : cfg0.grid.Coords) a, (cfg0.win w).clip i a = none)
    (hi : ∀ t : Fin cfg0.N, cfg0.idle w (grid0.coords t) = decide (4 ≤ t.val)) (hf : ∀ n, n ≤ cfg0.N → cfg0.fresh w n = decide (n < 4 ∨ n = 8))
    (ha : ∀ s t : Fin cfg0.N, cOf s = cOf t → (dats m 0 c).after w s = (dats m 0 c).after w t)
    (t : Fin cfg0.N) (h : 4 ≤ t.val) (d) : (dats m 0 c).before w t d = (dats m 0 c).after w t := by
  have hN : t.val < 8 := lt_of_lt_of_eq t.isLt N_0
  rw [(dats m 0 c).before_out_traj w hw hc (fun t h0 hi' _ => ha _ _ (cOf_pred t h0 (of_decide_eq_true ((hi t).symm.trans hi')))) t.val t rfl d,
    hf _ (Nat.le_of_lt t.isLt), decide_eq_false (by omega), if_neg Bool.false_ne_true]
  exact (ha _ _ (cOf_pred t (by omega) h)).symm

theorem kept_11 (c : Dev nD) (t : Fin cfg0.N) (h : 4 ≤ t.val) (d) : (dats m 0 c).before 11 t d = (dats m 0 c).after 11 t :=
  kept m c 11 rfl (fun _ _ => rfl) idle_11 fresh_11 (fun s t e => by rw [after_11, after_11, e]) t h d
theorem kept_12 (c : Dev nD) (t : Fin cfg0.N) (h : 4 ≤ t.val) (d) : (dats m 0 c).before 12 t d = (dats m 0 c).after 12 t :=
  kept m c 12 rfl (fun _ _ => rfl) idle_12 fresh_12 (fun s t e => by rw [after_12, after_12, e]) t h d
theorem kept_13 (c : Dev nD) (t : Fin cfg0.N) (h : 4 ≤ t.val) (d) : (dats m 0 c).before 13 t d = (dats m 0 c).after 13 t :=
  kept m c 13 rfl (fun _ _ => rfl) idle_13 fresh_13 (fun s t e => by rw [after_13, after_13, e]) t h d
theorem kept_14 (c : Dev nD) (t : Fin cfg0.N) (h : 4 ≤ t.val) (d) : (dats m 0 c).before 14 t d = (dats m 0 c).after 14 t :=
  kept m c 14 rfl (fun _ _ => rfl) idle_14 fresh_14 (fun s t e => by rw [after_14, after_14, e]) t h d
theorem kept_17 (c : Dev nD) (t : Fin cfg0.N) (h : 4 ≤ t.val) (d) : (dats m 0 c).before 17 t d = (dats m 0 c).after 17 t :=
  kept m c 17 rfl (fun _ _ => rfl) idle_17 fresh_17 (fun s t e => by rw [after_17, after_17, e]) t h d

/-! ## What the body finds and leaves, window by window -/

/-- The class's invariant with the scratch buffers as memrefs owned at some contents. -/
theorem PhiA_eq (c : Dev nD) (t : Fin cfg0.N) :
    (Pipeline.ΦA spec0 c : sProp 𝕄)
      = iprop(iprop((∃ d, owns (c : Thread nD τ) (refsAt t).a22 fullShare d) ∗ (∃ d, owns (c : Thread nD τ) (refsAt t).a23 fullShare d) ∗ (∃ d, owns (c : Thread nD τ) (refsAt t).a24 fullShare d)) ∗ (∃ r, prngReg c r)) := by
  unfold Pipeline.ΦA; rw [scopedRest0_eq]; simp only [refsAt, owns_whole]; try rfl

/-- A staging buffer found at one of several contents, all of them `x`, holds `x`. -/
theorem take {s : Shape} {e : EltTy} {α : Type} (c : Dev nD) {M : Memref sig .tc .vmem s e} (h : M.IsWhole) (f : α → Vec F s e) (x : Vec F s e)
    (hf : ∀ d, f d = x) : (iprop(∃ d, owns (c : Thread nD τ) M fullShare (f d)) : sProp 𝕄) ⊢ holds c h x := by
  iintro ⟨%d, H⟩
  rw [hf d]
  iapply (owns_eq_holds c h x).1
  iexact H

/-- A buffer found at some contents of a family is owned at some contents. -/
theorem any_of_found {s : Shape} {e : EltTy} {α : Type} (c : Dev nD) (M : Memref sig .tc .vmem s e) (f : α → Vec F s e) :
    (iprop(∃ d, owns (c : Thread nD τ) M fullShare (f d)) : sProp 𝕄) ⊢ iprop(∃ d, owns (c : Thread nD τ) M fullShare d) := by
  iintro ⟨%d, H⟩
  iexists _
  iexact H

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-- What the body finds in window `w`'s buffer at point `t`, and what it leaves there. -/
abbrev found (c : Dev nD) (t : Fin cfg0.N) (w : Fin cfg0.W) : sProp 𝕄 :=
  iprop(∃ d, owns (c : Thread nD τ) ((cfg0.win w).stage (cfg0.slots t w)) fullShare ((dats m 0 c).before w t d))

/-- A window not idle at a point is left at `after`. -/
theorem leaves_live (c : Dev nD) (t : Fin cfg0.N) (w : Fin cfg0.W) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- A window whose found contents are `after` is left untouched, written back there or not. -/
theorem leaves_kept (c : Dev nD) (t : Fin cfg0.N) (w : Fin cfg0.W) (h : ∀ d, (dats m 0 c).before w t d = (dats m 0 c).after w t) :
    found m c t w ⊢ (dats m 0 c).leavesExact w t := by
  have key : found m c t w ⊢ owns (c : Thread nD τ) ((cfg0.win w).stage (cfg0.slots t w)) fullShare ((dats m 0 c).after w t) := by
    iintro ⟨%d, H⟩
    rw [h d]
    iexact H
  unfold Dat.leavesExact
  cases cfg0.idle w (cfg0.grid.coords t)
  · exact key
  · cases (cfg0.win w).flush t
    · exact .rfl
    · exact key

/-- An input is left at its block. -/
theorem leave_in {s : Shape} {e : EltTy} (c : Dev nD) (t : Fin cfg0.N) {M : Memref sig .tc .vmem s e} (h : M.IsWhole) (x : Vec F s e) :
    (holds c h x : sProp 𝕄) ⊢ owns (c : Thread nD τ) M fullShare x := (owns_eq_holds c h x).2

/-! ## The body at a point -/

/-- All of the windows' buffers before the body at point `t`. -/
def bodyPre (c : Dev nD) (t : Fin cfg0.N) : sProp 𝕄 :=
  iprop((dats m 0 c).Φ t.castSucc ∗ (dats m 0 c).owesAt () t.castSucc
    ∗ found m c t 0 ∗ found m c t 1 ∗ found m c t 2 ∗ found m c t 3 ∗ found m c t 4 ∗ found m c t 5 ∗ found m c t 6 ∗ found m c t 7 ∗ found m c t 8 ∗ found m c t 9 ∗ found m c t 10 ∗ found m c t 11 ∗ found m c t 12 ∗ found m c t 13 ∗ found m c t 14 ∗ found m c t 15 ∗ found m c t 16 ∗ found m c t 17 ∗ found m c t 18 ∗ found m c t 19)

/-- All of the windows' buffers after the body at point `t`. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t ∗ (dats m 0 c).leavesExact 17 t ∗ (dats m 0 c).leavesExact 18 t ∗ (dats m 0 c).leavesExact 19 t)

set_option maxHeartbeats 4000000 in
/-- The body at a convolution point. -/
theorem sound_conv (c : Dev nD) (k : Fin 4) :
    bodyPre m c (cPt k) ⊢ wp frame (wpE (defs₀ (F := F)) Variants.none c none) Set.univ (bodyAt0 (cPt k)) (fun _ => bodyPost m c (cPt k)) := by
  unfold bodyPre bodyPost
  rw [show bodyAt0 (cPt k) = bodyOf (F := F) (grid0.coords (cPt k)) (refsAt (cPt k)) from rfl]
  rw [show (dats m 0 c).Φ (Fin.succ (cPt k)) = Pipeline.ΦA spec0 c from rfl, show (dats m 0 c).Φ (Fin.castSucc (cPt k)) = Pipeline.ΦA spec0 c from rfl,
    show (dats m 0 c).owesAt () (Fin.succ (cPt k)) = (dats m 0 c).owesAt () (Fin.castSucc (cPt k)) from rfl, PhiA_eq c (cPt k)]
  iintro ⟨⟨⟨HS0, HS1, HS2⟩, Hg⟩, Ho, H0, H1, H2, H3, H4, H5, H6, H7, H8, H9, H10, H11, H12, H13, H14, H15, H16, H17, H18, H19⟩
  ihave H0 := (take c (refsAt (cPt k)).h1 ((dats m 0 c).before 0 (cPt k)) (iblk m c 0 (cPt k)) (before_0 m c (cPt k))) $$ H0
  ihave H1 := (take c (refsAt (cPt k)).h2 ((dats m 0 c).before 1 (cPt k)) (iblk m c 1 (cPt k)) (before_1 m c (cPt k))) $$ H1
  ihave H2 := (take c (refsAt (cPt k)).h3 ((dats m 0 c).before 2 (cPt k)) (iblk m c 2 (cPt k)) (before_2 m c (cPt k))) $$ H2
  ihave H3 := (take c (refsAt (cPt k)).h4 ((dats m 0 c).before 3 (cPt k)) (iblk m c 3 (cPt k)) (before_3 m c (cPt k))) $$ H3
  ihave H6 := (take c (refsAt (cPt k)).h7 ((dats m 0 c).before 6 (cPt k)) (iblk m c 6 (cPt k)) (before_6 m c (cPt k))) $$ H6
  ihave H8 := (take c (refsAt (cPt k)).h9 ((dats m 0 c).before 8 (cPt k)) (iblk m c 8 (cPt k)) (before_8 m c (cPt k))) $$ H8
  ihave H11 := (any_of_found c (refsAt (cPt k)).a13 ((dats m 0 c).before 11 (cPt k))) $$ H11
  ihave H12 := (any_of_found c (refsAt (cPt k)).a14 ((dats m 0 c).before 12 (cPt k))) $$ H12
  ihave H13 := (any_of_found c (refsAt (cPt k)).a15 ((dats m 0 c).before 13 (cPt k))) $$ H13
  ihave H14 := (any_of_found c (refsAt (cPt k)).a16 ((dats m 0 c).before 14 (cPt k))) $$ H14
  ihave H17 := (any_of_found c (refsAt (cPt k)).a19 ((dats m 0 c).before 17 (cPt k))) $$ H17
  iapply (convRun c _ (refsAt (cPt k)) (cond_conv k).1 (cond_conv k).2.1 (cond_conv k).2.2.1 (cond_conv k).2.2.2.1 (cond_conv k).2.2.2.2 _ _ _ _ _ _ Set.univ _)
  isplitl [H0]; · iexact H0
  isplitl [H1]; · iexact H1
  isplitl [H2]; · iexact H2
  isplitl [H3]; · iexact H3
  isplitl [H6]; · iexact H6
  isplitl [H8]; · iexact H8
  isplitl [H11]; · iexact H11
  isplitl [H12]; · iexact H12
  isplitl [H13]; · iexact H13
  isplitl [H14]; · iexact H14
  isplitl [H17]; · iexact H17
  iintro ⟨H0, H1, H2, H3, H6, H8, H11, H12, H13, H14, H17⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]
  · rw [leaves_live m c (cPt k) 0 rfl, after_0]; iapply (owns_eq_holds c (refsAt (cPt k)).h1 (iblk m c 0 (cPt k))).2; iexact H0
  isplitl [H1]
  · rw [leaves_live m c (cPt k) 1 rfl, after_1]; iapply (owns_eq_holds c (refsAt (cPt k)).h2 (iblk m c 1 (cPt k))).2; iexact H1
  isplitl [H2]
  · rw [leaves_live m c (cPt k) 2 rfl, after_2]; iapply (owns_eq_holds c (refsAt (cPt k)).h3 (iblk m c 2 (cPt k))).2; iexact H2
  isplitl [H3]
  · rw [leaves_live m c (cPt k) 3 rfl, after_3]; iapply (owns_eq_holds c (refsAt (cPt k)).h4 (iblk m c 3 (cPt k))).2; iexact H3
  isplitl [H4]
  · iapply (leaves_kept m c (cPt k) 4 (fun d => (before_4 m c (cPt k) d).trans (after_4 m c (cPt k)).symm)); iexact H4
  isplitl [H5]
  · iapply (leaves_kept m c (cPt k) 5 (fun d => (before_5 m c (cPt k) d).trans (after_5 m c (cPt k)).symm)); iexact H5
  isplitl [H6]
  · rw [leaves_live m c (cPt k) 6 rfl, after_6]; iapply (owns_eq_holds c (refsAt (cPt k)).h7 (iblk m c 6 (cPt k))).2; iexact H6
  isplitl [H7]
  · iapply (leaves_kept m c (cPt k) 7 (fun d => (before_7 m c (cPt k) d).trans (after_7 m c (cPt k)).symm)); iexact H7
  isplitl [H8]
  · rw [leaves_live m c (cPt k) 8 rfl, after_8]; iapply (owns_eq_holds c (refsAt (cPt k)).h9 (iblk m c 8 (cPt k))).2; iexact H8
  isplitl [H9]
  · iapply (leaves_kept m c (cPt k) 9 (fun d => (before_9 m c (cPt k) d).trans (after_9 m c (cPt k)).symm)); iexact H9
  isplitl [H10]
  · iapply (leaves_kept m c (cPt k) 10 (fun d => (before_10 m c (cPt k) d).trans (after_10 m c (cPt k)).symm)); iexact H10
  isplitl [H11]
  · rw [leaves_live m c (cPt k) 11 (by rw [idle_11]; exact decide_eq_false (by simp only [cPt]; omega)), after_11, cOf_cPt]; iapply (owns_eq_holds c (refsAt (cPt k)).h13 (cuAt m c k)).2; iexact H11
  isplitl [H12]
  · rw [leaves_live m c (cPt k) 12 (by rw [idle_12]; exact decide_eq_false (by simp only [cPt]; omega)), after_12, cOf_cPt]; iapply (owns_eq_holds c (refsAt (cPt k)).h14 (cbAt m c k)).2; iexact H12
  isplitl [H13]
  · rw [leaves_live m c (cPt k) 13 (by rw [idle_13]; exact decide_eq_false (by simp only [cPt]; omega)), after_13, cOf_cPt]; iapply (owns_eq_holds c (refsAt (cPt k)).h15 (ccAt m c k)).2; iexact H13
  isplitl [H14]
  · rw [leaves_live m c (cPt k) 14 (by rw [idle_14]; exact decide_eq_false (by simp only [cPt]; omega)), after_14, cOf_cPt]; iapply (owns_eq_holds c (refsAt (cPt k)).h16 (cgAt m c k)).2; iexact H14
  isplitl [H15]
  · rw [(dats m 0 c).leavesExact_idle 15 (cPt k) (by rw [idle_15]; exact decide_eq_true k.isLt) (flush_15 (cPt k) k.isLt)]; iexact H15
  isplitl [H16]
  · rw [(dats m 0 c).leavesExact_idle 16 (cPt k) (by rw [idle_16]; exact decide_eq_true k.isLt) (flush_16 (cPt k) k.isLt)]; iexact H16
  isplitl [H17]
  · rw [leaves_live m c (cPt k) 17 (by rw [idle_17]; exact decide_eq_false (by simp only [cPt]; omega)), after_17, cOf_cPt]; iapply (owns_eq_holds c (refsAt (cPt k)).h19 (cwAt m c k)).2; iexact H17
  isplitl [H18]
  · rw [(dats m 0 c).leavesExact_idle 18 (cPt k) (by rw [idle_18]; exact decide_eq_true k.isLt) (flush_18 (cPt k) k.isLt)]; iexact H18
  rw [(dats m 0 c).leavesExact_idle 19 (cPt k) (by rw [idle_19]; exact decide_eq_true k.isLt) (flush_19 (cPt k) k.isLt)]; iexact H19

set_option maxHeartbeats 4000000 in
/-- The body at a pooling point. -/
theorem sound_pool (c : Dev nD) (k : Fin 4) :
    bodyPre m c (pPt k) ⊢ wp frame (wpE (defs₀ (F := F)) Variants.none c none) Set.univ (bodyAt0 (pPt k)) (fun _ => bodyPost m c (pPt k)) := by
  unfold bodyPre bodyPost
  rw [show bodyAt0 (pPt k) = bodyOf (F := F) (grid0.coords (pPt k)) (refsAt (pPt k)) from rfl]
  rw [show (dats m 0 c).Φ (Fin.succ (pPt k)) = Pipeline.ΦA spec0 c from rfl, show (dats m 0 c).Φ (Fin.castSucc (pPt k)) = Pipeline.ΦA spec0 c from rfl,
    show (dats m 0 c).owesAt () (Fin.succ (pPt k)) = (dats m 0 c).owesAt () (Fin.castSucc (pPt k)) from rfl, PhiA_eq c (pPt k)]
  iintro ⟨⟨⟨HS0, HS1, HS2⟩, Hg⟩, Ho, H0, H1, H2, H3, H4, H5, H6, H7, H8, H9, H10, H11, H12, H13, H14, H15, H16, H17, H18, H19⟩
  ihave H4 := (take c (refsAt (pPt k)).h5 ((dats m 0 c).before 4 (pPt k)) (iblk m c 4 (pPt k)) (before_4 m c (pPt k))) $$ H4
  ihave H5 := (take c (refsAt (pPt k)).h6 ((dats m 0 c).before 5 (pPt k)) (iblk m c 5 (pPt k)) (before_5 m c (pPt k))) $$ H5
  ihave H7 := (take c (refsAt (pPt k)).h8 ((dats m 0 c).before 7 (pPt k)) (iblk m c 7 (pPt k)) (before_7 m c (pPt k))) $$ H7
  ihave H9 := (take c (refsAt (pPt k)).h10 ((dats m 0 c).before 9 (pPt k)) (iblk m c 9 (pPt k)) (before_9 m c (pPt k))) $$ H9
  ihave H10 := (take c (refsAt (pPt k)).h11 ((dats m 0 c).before 10 (pPt k)) (iblk m c 10 (pPt k)) (before_10 m c (pPt k))) $$ H10
  ihave H15 := (any_of_found c (refsAt (pPt k)).a17 ((dats m 0 c).before 15 (pPt k))) $$ H15
  ihave H16 := (any_of_found c (refsAt (pPt k)).a18 ((dats m 0 c).before 16 (pPt k))) $$ H16
  ihave H18 := (any_of_found c (refsAt (pPt k)).a20 ((dats m 0 c).before 18 (pPt k))) $$ H18
  ihave H19 := (any_of_found c (refsAt (pPt k)).a21 ((dats m 0 c).before 19 (pPt k))) $$ H19
  iapply (poolAt m c k Set.univ _)
  isplitl [H4]; · iexact H4
  isplitl [H5]; · iexact H5
  isplitl [H7]; · iexact H7
  isplitl [H9]; · iexact H9
  isplitl [H10]; · iexact H10
  isplitl [H15]; · iexact H15
  isplitl [H16]; · iexact H16
  isplitl [H18]; · iexact H18
  isplitl [H19]; · iexact H19
  isplitl [HS0]; · iexact HS0
  isplitl [HS1]; · iexact HS1
  isplitl [HS2]; · iexact HS2
  iintro ⟨H4, H5, H7, H9, H10, H15, H16, H18, H19, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]
  · iapply (leaves_kept m c (pPt k) 0 (fun d => (before_0 m c (pPt k) d).trans (after_0 m c (pPt k)).symm)); iexact H0
  isplitl [H1]
  · iapply (leaves_kept m c (pPt k) 1 (fun d => (before_1 m c (pPt k) d).trans (after_1 m c (pPt k)).symm)); iexact H1
  isplitl [H2]
  · iapply (leaves_kept m c (pPt k) 2 (fun d => (before_2 m c (pPt k) d).trans (after_2 m c (pPt k)).symm)); iexact H2
  isplitl [H3]
  · iapply (leaves_kept m c (pPt k) 3 (fun d => (before_3 m c (pPt k) d).trans (after_3 m c (pPt k)).symm)); iexact H3
  isplitl [H4]
  · rw [leaves_live m c (pPt k) 4 rfl, after_4]; iapply (owns_eq_holds c (refsAt (pPt k)).h5 (iblk m c 4 (pPt k))).2; iexact H4
  isplitl [H5]
  · rw [leaves_live m c (pPt k) 5 rfl, after_5]; iapply (owns_eq_holds c (refsAt (pPt k)).h6 (iblk m c 5 (pPt k))).2; iexact H5
  isplitl [H6]
  · iapply (leaves_kept m c (pPt k) 6 (fun d => (before_6 m c (pPt k) d).trans (after_6 m c (pPt k)).symm)); iexact H6
  isplitl [H7]
  · rw [leaves_live m c (pPt k) 7 rfl, after_7]; iapply (owns_eq_holds c (refsAt (pPt k)).h8 (iblk m c 7 (pPt k))).2; iexact H7
  isplitl [H8]
  · iapply (leaves_kept m c (pPt k) 8 (fun d => (before_8 m c (pPt k) d).trans (after_8 m c (pPt k)).symm)); iexact H8
  isplitl [H9]
  · rw [leaves_live m c (pPt k) 9 rfl, after_9]; iapply (owns_eq_holds c (refsAt (pPt k)).h10 (iblk m c 9 (pPt k))).2; iexact H9
  isplitl [H10]
  · rw [leaves_live m c (pPt k) 10 rfl, after_10]; iapply (owns_eq_holds c (refsAt (pPt k)).h11 (iblk m c 10 (pPt k))).2; iexact H10
  isplitl [H11]
  · iapply (leaves_kept m c (pPt k) 11 (kept_11 m c (pPt k) (by simp only [pPt]; omega))); iexact H11
  isplitl [H12]
  · iapply (leaves_kept m c (pPt k) 12 (kept_12 m c (pPt k) (by simp only [pPt]; omega))); iexact H12
  isplitl [H13]
  · iapply (leaves_kept m c (pPt k) 13 (kept_13 m c (pPt k) (by simp only [pPt]; omega))); iexact H13
  isplitl [H14]
  · iapply (leaves_kept m c (pPt k) 14 (kept_14 m c (pPt k) (by simp only [pPt]; omega))); iexact H14
  isplitl [H15]
  · rw [leaves_live m c (pPt k) 15 (by rw [idle_15]; exact decide_eq_false (by simp only [pPt]; omega)), after_15, pOf_pPt]; iapply (owns_eq_holds c (refsAt (pPt k)).h17 (puAt m c k)).2; iexact H15
  isplitl [H16]
  · rw [leaves_live m c (pPt k) 16 (by rw [idle_16]; exact decide_eq_false (by simp only [pPt]; omega)), after_16, pOf_pPt]; iapply (owns_eq_holds c (refsAt (pPt k)).h18 (pgAt m c k)).2; iexact H16
  isplitl [H17]
  · iapply (leaves_kept m c (pPt k) 17 (kept_17 m c (pPt k) (by simp only [pPt]; omega))); iexact H17
  isplitl [H18]
  · rw [leaves_live m c (pPt k) 18 (by rw [idle_18]; exact decide_eq_false (by simp only [pPt]; omega)), after_18, pOf_pPt]; iapply (owns_eq_holds c (refsAt (pPt k)).h20 (pwAt m c k)).2; iexact H18
  rw [leaves_live m c (pPt k) 19 (by rw [idle_19]; exact decide_eq_false (by simp only [pPt]; omega)), after_19, pOf_pPt]; iapply (owns_eq_holds c (refsAt (pPt k)).h21 (psAt m c k)).2; iexact H19

/-- The body table's row at point `t`'s slots is the body there. -/
theorem row (t : Fin cfg0.N) : defs₀ (F := F) .tc cfg0.body (cfg0.bodyArgs t (cfg0.slots t)) = bodyAt0 t := by
  unfold defs₀; rw [Defs.onTc_tc]

set_option maxHeartbeats 4000000 in
/-- The body obligation at every point. -/
theorem body_obligation (c : Dev nD) : BodyObligation (dats (F := F) m 0 c) (defs₀ (F := F)) Variants.none () Set.univ := fun t => by
  rw [bigSep_W0, bigSep_W0, row]
  rcases point_cases t with ⟨k, rfl⟩ | ⟨k, rfl⟩
  · exact triple_restated (sound_conv m c k) rfl .rfl fun _ => .rfl
  · exact triple_restated (sound_pool m c k) rfl .rfl fun _ => .rfl

/-! ## The run -/

set_option backward.isDefEq.respectTransparency.types false in
/-- Every weakly fair execution terminates with the arrays at what the proof data says and all counters at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => .rfl) (hout := fun _ => .rfl)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

end Cert.MixKernelIdeal.Mix

end
-- ==== Proof.MixSame.lean ====
module

public import proofs.«01_k».proof.Defs
public import proofs.«01_k».proof.Proof.Gen.MixKernel
public import proofs.«01_k».proof.Proof.Gen.MixKernelIdeal.Frame

@[expose] public section

set_option maxRecDepth 16384

noncomputable section

namespace Cert.MixKernelIdeal.Mix

open Idealize.ShloMosaic Idealize.SL.Sem

variable (F : FTy → Type) [FloatOps F]

set_option maxHeartbeats 40000000 in
/-- The host text of the kernel is the host text of the ideal program. -/
theorem main_same : Cert.MixKernel.main (F := F) = Cert.MixKernelIdeal.main (F := F) := rfl

set_option maxHeartbeats 40000000 in
/-- The body table of the kernel is the body table of the ideal program. -/
theorem defs₀_same : Cert.MixKernel.defs₀ (F := F) = Cert.MixKernelIdeal.defs₀ (F := F) := by
  refine congrArg (Defs.onTc (nD := Cert.MixKernelIdeal.nD) (τ := Cert.MixKernelIdeal.τ)) ?_
  funext l x
  match l, x with
  | 0, (t, s) => rfl
  | ⟨_ + 1, h⟩, _ => exact absurd h (Nat.not_lt.2 (Nat.le_add_left _ _))

set_option maxHeartbeats 40000000 in
/-- The whole tables agree: they are made of the body tables in one way. -/
theorem defs_same : Cert.MixKernel.defs (F := F) = Cert.MixKernelIdeal.defs (F := F) :=
  congrArg (Pipeline.defs (Cert.MixKernelIdeal.pcfgs (F := F))) (defs₀_same F)

end Cert.MixKernelIdeal.Mix

end
-- ==== Proof.MixBoth.lean ====
module

public import proofs.«01_k».proof.Proof.MixFrame
public import proofs.«01_k».proof.Proof.MixSame

@[expose] public section

set_option maxRecDepth 16384

noncomputable section

namespace Cert.MixKernelIdeal.Mix

open Idealize.ShloMosaic Idealize.SL.Sem

set_option maxHeartbeats 40000000 in
/-- The frame of the kernel: its text is the ideal program's, and the run is over any float values. -/
theorem frame_kernel : Cert.quiescent_MixKernel := by
  intro m ρ _
  rw [defs_same, main_same]
  exact frame (F := Bits) m ρ

end Cert.MixKernelIdeal.Mix

end
-- ==== Proof.MixBlk.lean ====
module

public import proofs.«01_k».proof.Proof.MixFrame
public import proofs.«01_k».proof.Proof.Gen.MixReferenceIdeal.Read
public import Idealize.ShloMosaic.Lib.Pipeline.ValueKit.Point
public import Idealize.ShloMosaic.Lib.ValueIdx

@[expose] public section

set_option maxRecDepth 16384

noncomputable section

namespace Cert.MixKernelIdeal.Mix

open Cert.MixKernelIdeal.Gen
open Idealize.ShloMosaic Idealize.ShloMosaic.TcCoe Idealize.SL.Sem
open Cert.MixReferenceIdeal.Read

variable (m : (ℓ : Loc nD τ sig) → Buf (Elt Ideal) ℓ)

/-- Where the blocks of the convolution's inputs lie at its points. -/
theorem idxC : ∀ k : Fin 4, win0_0.index (cPt k) = ![0, k.val] ∧ win0_1.index (cPt k) = ![0, 4 + k.val] ∧ win0_2.index (cPt k) = ![0, 8 + k.val]
    ∧ win0_3.index (cPt k) = ![0, 12 + k.val] ∧ win0_6.index (cPt k) = ![0, k.val] ∧ win0_8.index (cPt k) = ![k.val, 3, 0, 0] := by decide +kernel

/-- Where the blocks of the pooling's inputs lie at its points. -/
theorem idxP : ∀ k : Fin 4, win0_4.index (pPt k) = ![0, k.val] ∧ win0_5.index (pPt k) = ![0, 20 + k.val] ∧ win0_7.index (pPt k) = ![0, k.val]
    ∧ win0_9.index (pPt k) = ![3, k.val, 0, 0] ∧ win0_10.index (pPt k) = ![3, 0, k.val] := by decide +kernel

/-- Column `l` of group `k`, in an array whose groups begin at group `b`. -/
abbrev gcol {N : ℕ} (b : ℕ) (k : Fin 4) (l : Fin 128) (h : 128 * (b + 4) ≤ N := by decide) : Fin N := ⟨128 * (b + k.val) + l.val, by have := k.isLt; have := l.isLt; omega⟩

theorem blk0 (c : Dev nD) (k : Fin 4) (n : Fin 2048) (l : Fin 128) : iblk m c 0 (cPt k) (ix2 n l) = m ((c : Thread nD τ).loc main_arg0) (ix2 n (gcol 0 k l)) := by
  have := n.isLt; have := l.isLt; have := k.isLt
  blk_ext! [iblk, V, idxC k]

theorem blk1 (c : Dev nD) (k : Fin 4) (n : Fin 2048) (l : Fin 128) : iblk m c 1 (cPt k) (ix2 n l) = m ((c : Thread nD τ).loc main_arg0) (ix2 n (gcol 4 k l)) := by
  have := n.isLt; have := l.isLt; have := k.isLt
  blk_ext! [iblk, V, idxC k]

theorem blk2 (c : Dev nD) (k : Fin 4) (n : Fin 2048) (l : Fin 128) : iblk m c 2 (cPt k) (ix2 n l) = m ((c : Thread nD τ).loc main_arg0) (ix2 n (gcol 8 k l)) := by
  have := n.isLt; have := l.isLt; have := k.isLt
  blk_ext! [iblk, V, idxC k]

theorem blk3 (c : Dev nD) (k : Fin 4) (n : Fin 2048) (l : Fin 128) : iblk m c 3 (cPt k) (ix2 n l) = m ((c : Thread nD τ).loc main_arg0) (ix2 n (gcol 12 k l)) := by
  have := n.isLt; have := l.isLt; have := k.isLt
  blk_ext! [iblk, V, idxC k]

theorem blk6 (c : Dev nD) (k : Fin 4) (n : Fin 2048) (l : Fin 128) : iblk m c 6 (cPt k) (ix2 n l) = m ((c : Thread nD τ).loc main_arg1) (ix2 n (gcol 0 k l)) := by
  have := n.isLt; have := l.isLt; have := k.isLt
  blk_ext! [iblk, V, idxC k]

theorem blk5 (c : Dev nD) (k : Fin 4) (n : Fin 2048) (l : Fin 128) : iblk m c 5 (pPt k) (ix2 n l) = m ((c : Thread nD τ).loc main_arg0) (ix2 n (gcol 20 k l)) := by
  have := n.isLt; have := l.isLt; have := k.isLt
  blk_ext! [iblk, V, idxP k]

theorem blk7 (c : Dev nD) (k : Fin 4) (n : Fin 2048) (l : Fin 128) : iblk m c 7 (pPt k) (ix2 n l) = m ((c : Thread nD τ).loc main_arg2) (ix2 n (gcol 0 k l)) := by
  have := n.isLt; have := l.isLt; have := k.isLt
  blk_ext! [iblk, V, idxP k]

theorem blk9 (c : Dev nD) (k : Fin 4) (a b : Fin 128) : iblk m c 9 (pPt k) (ix4 0 0 a b) = m ((c : Thread nD τ).loc main_arg4) (ix4 3 k a b) := by
  have := a.isLt; have := b.isLt; have := k.isLt
  blk_ext! [iblk, V, idxP k]

/-- The filter as the host lays it out: group, layer, tap, column. -/
theorem host_filter (c : Dev nD) : V m c main_v109
    = (fun (x : (⟨S4x3x512, .f32⟩ : BufTy).Contents (Elt Ideal)) => transpose S4x4x3x128 [2, 0, 1, 3] (shapeCast S4x3x4x128 x shapeCasts_S4x3x512_S4x3x4x128) transposes_S4x3x4x128_S4x4x3x128_2_0_1_3) (m ((c : Thread nD τ).loc main_arg3)) := rfl

/-- The scales as the host lays them out. -/
theorem host_scale (c : Dev nD) : V m c main_v110
    = (fun (x : (⟨S4x512, .f32⟩ : BufTy).Contents (Elt Ideal)) => shapeCast S4x1x512 x shapeCasts_S4x512_S4x1x512) (m ((c : Thread nD τ).loc main_arg5)) := rfl

theorem blk8 (c : Dev nD) (k : Fin 4) (q : Fin 3) (l : Fin 128) : iblk m c 8 (cPt k) (ix4 0 0 q l) = m ((c : Thread nD τ).loc main_arg3) (ix3 3 q (gcol 0 k l)) := by
  have := q.isLt; have := l.isLt; have := k.isLt
  have e : iblk m c 8 (cPt k) (ix4 0 0 q l) = V m c main_v109 (ix4 k 3 q l) := by
    blk_ext! [iblk, idxC k]
  rw [e, host_filter]
  pointwise []
  exact congrArg (fun q' : Fin 512 => m ((c : Thread nD τ).loc main_arg3) (ix3 3 q q')) (Fin.ext (by show k.val * 128 + l.val = 128 * (0 + k.val) + l.val; omega))

theorem blk10 (c : Dev nD) (k : Fin 4) (l : Fin 128) : iblk m c 10 (pPt k) (ix3 0 0 l) = m ((c : Thread nD τ).loc main_arg5) (ix2 3 (gcol 0 k l)) := by
  have := l.isLt; have := k.isLt
  have e : iblk m c 10 (pPt k) (ix3 0 0 l) = V m c main_v110 (ix3 3 0 (gcol 0 k l)) := by
    blk_ext! [iblk, idxP k]
  rw [e, host_scale]
  pointwise []

end Cert.MixKernelIdeal.Mix

end
-- ==== Proof.MixPooled.lean ====
module

public import proofs.«01_k».proof.Proof.MixBlk
public import proofs.«01_k».proof.Proof.Gen.MixReferenceIdeal.Read
public import Idealize.ShloMosaic.Lib.Pipeline.ValueKit.Point
public import Idealize.ShloMosaic.Lib.ValueIdx

@[expose] public section

set_option maxRecDepth 16384

noncomputable section

namespace Cert.MixKernelIdeal.Mix

open Cert.MixKernelIdeal.Gen
open Idealize.ShloMosaic Idealize.ShloMosaic.TcCoe Idealize.SL.Sem
open Cert.MixReferenceIdeal.Read

variable (m : (ℓ : Loc nD τ sig) → Buf (Elt Ideal) ℓ)

set_option maxHeartbeats 40000000 in
/-- The pooled sections the host computes are the reference's. -/
theorem host_pooled (c : Dev nD) : V m c main_v107
    = (truncf (F := Ideal) .bf16 (concatenate S2048x512 1 [⟨S2048x128, val_main_v104 (F := Ideal) (m ((c : Thread nD τ).loc main_arg0))⟩, ⟨S2048x128, val_main_v123 (F := Ideal) (m ((c : Thread nD τ).loc main_arg0))⟩,
        ⟨S2048x128, val_main_v150 (F := Ideal) (m ((c : Thread nD τ).loc main_arg0))⟩, ⟨S2048x128, val_main_v193 (F := Ideal) (m ((c : Thread nD τ).loc main_arg0))⟩] concatenates_S2048x128_S2048x128_S2048x128_S2048x128_S2048x512_d1) bitsLt_bf16_f32 : (⟨S2048x512, .bf16⟩ : BufTy).Contents (Elt Ideal)) := rfl

end Cert.MixKernelIdeal.Mix

end
-- ==== Proof.MixArrays.lean ====
module

public import proofs.«01_k».proof.Proof.MixBlk
public import Idealize.ShloMosaic.Lib.Pipeline.Value

@[expose] public section

set_option maxRecDepth 16384

noncomputable section

namespace Cert.MixKernelIdeal.Mix

open Cert.MixKernelIdeal.Gen
open Idealize.ShloMosaic Idealize.ShloMosaic.TcCoe Idealize.SL.Sem

variable (m : (ℓ : Loc nD τ sig) → Buf (Elt Ideal) ℓ)

/-- Where the blocks the convolution writes lie. -/
theorem outC : ∀ t : Fin cfg0.N, win0_11.index t = ![0, (cOf t).val] ∧ win0_12.index t = ![0, (cOf t).val] ∧ win0_13.index t = ![0, (cOf t).val]
    ∧ win0_14.index t = ![0, (cOf t).val] ∧ win0_17.index t = ![(cOf t).val, 0, 0] :=
  (by decide +kernel : ∀ t : Fin grid0.N, win0_11.index t = ![0, (cOf t).val] ∧ win0_12.index t = ![0, (cOf t).val] ∧ win0_13.index t = ![0, (cOf t).val]
    ∧ win0_14.index t = ![0, (cOf t).val] ∧ win0_17.index t = ![(cOf t).val, 0, 0])

/-- Where the blocks the pooling writes lie. -/
theorem outP : ∀ t : Fin cfg0.N, win0_15.index t = ![0, (pOf t).val] ∧ win0_16.index t = ![0, (pOf t).val]
    ∧ win0_18.index t = ![(pOf t).val, 0, 0] ∧ win0_19.index t = ![0, (pOf t).val] :=
  (by decide +kernel : ∀ t : Fin grid0.N, win0_15.index t = ![0, (pOf t).val] ∧ win0_16.index t = ![0, (pOf t).val]
    ∧ win0_18.index t = ![(pOf t).val, 0, 0] ∧ win0_19.index t = ![0, (pOf t).val])

/-- The group a column lies in. -/
abbrev grp (j : Fin 512) : Fin 4 := ⟨j.val / 128, by have := j.isLt; omega⟩

/-- A column's place in its group. -/
abbrev lane (j : Fin 512) : Fin 128 := ⟨j.val % 128, Nat.mod_lt _ (by decide)⟩

/-- Output 0 as one function of row and column. -/
theorem arr11 (c : Dev nD) : (dats m 0 c).arrAt 11 cfg0.N = fun i : S2048x512.Idx => cuAt m c (grp (i 1)) (ix2 (i 0) (lane (i 1))) := by
  refine (dats m 0 c).arrAt_eq_of_covers 11 _ (by decide +kernel) fun t hf y => ?_
  obtain ⟨a, b, rfl⟩ : ∃ (a : Fin 2048) (b : Fin 128), y = ix2 a b := ⟨y 0, y 1, by funext k; fin_cases k <;> rfl⟩
  have hb := b.isLt
  blk_simp
  rw [after_11]
  have e0 : (win0_11.blk t).view.emb (ix2 a b) 0 = a := Fin.ext (by blk_simp [outC t])
  have h1 : ((win0_11.blk t).view.emb (ix2 a b) 1).val = (cOf t).val * 128 + b.val := by blk_simp [outC t]
  have e1 : grp ((win0_11.blk t).view.emb (ix2 a b) 1) = cOf t := Fin.ext (by show _ / 128 = _; omega)
  have e2 : lane ((win0_11.blk t).view.emb (ix2 a b) 1) = b := Fin.ext (by show _ % 128 = _; omega)
  rw [e0, e1, e2]

/-- Output 1 as one function of row and column. -/
theorem arr12 (c : Dev nD) : (dats m 0 c).arrAt 12 cfg0.N = fun i : S2048x512.Idx => cbAt m c (grp (i 1)) (ix2 (i 0) (lane (i 1))) := by
  refine (dats m 0 c).arrAt_eq_of_covers 12 _ (by decide +kernel) fun t hf y => ?_
  obtain ⟨a, b, rfl⟩ : ∃ (a : Fin 2048) (b : Fin 128), y = ix2 a b := ⟨y 0, y 1, by funext k; fin_cases k <;> rfl⟩
  have hb := b.isLt
  blk_simp
  rw [after_12]
  have e0 : (win0_12.blk t).view.emb (ix2 a b) 0 = a := Fin.ext (by blk_simp [outC t])
  have h1 : ((win0_12.blk t).view.emb (ix2 a b) 1).val = (cOf t).val * 128 + b.val := by blk_simp [outC t]
  have e1 : grp ((win0_12.blk t).view.emb (ix2 a b) 1) = cOf t := Fin.ext (by show _ / 128 = _; omega)
  have e2 : lane ((win0_12.blk t).view.emb (ix2 a b) 1) = b := Fin.ext (by show _ % 128 = _; omega)
  rw [e0, e1, e2]

/-- Output 2 as one function of row and column. -/
theorem arr13 (c : Dev nD) : (dats m 0 c).arrAt 13 cfg0.N = fun i : S2048x512.Idx => ccAt m c (grp (i 1)) (ix2 (i 0) (lane (i 1))) := by
  refine (dats m 0 c).arrAt_eq_of_covers 13 _ (by decide +kernel) fun t hf y => ?_
  obtain ⟨a, b, rfl⟩ : ∃ (a : Fin 2048) (b : Fin 128), y = ix2 a b := ⟨y 0, y 1, by funext k; fin_cases k <;> rfl⟩
  have hb := b.isLt
  blk_simp
  rw [after_13]
  have e0 : (win0_13.blk t).view.emb (ix2 a b) 0 = a := Fin.ext (by blk_simp [outC t])
  have h1 : ((win0_13.blk t).view.emb (ix2 a b) 1).val = (cOf t).val * 128 + b.val := by blk_simp [outC t]
  have e1 : grp ((win0_13.blk t).view.emb (ix2 a b) 1) = cOf t := Fin.ext (by show _ / 128 = _; omega)
  have e2 : lane ((win0_13.blk t).view.emb (ix2 a b) 1) = b := Fin.ext (by show _ % 128 = _; omega)
  rw [e0, e1, e2]

/-- Output 3 as one function of row and column. -/
theorem arr14 (c : Dev nD) : (dats m 0 c).arrAt 14 cfg0.N = fun i : S2048x512.Idx => cgAt m c (grp (i 1)) (ix2 (i 0) (lane (i 1))) := by
  refine (dats m 0 c).arrAt_eq_of_covers 14 _ (by decide +kernel) fun t hf y => ?_
  obtain ⟨a, b, rfl⟩ : ∃ (a : Fin 2048) (b : Fin 128), y = ix2 a b := ⟨y 0, y 1, by funext k; fin_cases k <;> rfl⟩
  have hb := b.isLt
  blk_simp
  rw [after_14]
  have e0 : (win0_14.blk t).view.emb (ix2 a b) 0 = a := Fin.ext (by blk_simp [outC t])
  have h1 : ((win0_14.blk t).view.emb (ix2 a b) 1).val = (cOf t).val * 128 + b.val := by blk_simp [outC t]
  have e1 : grp ((win0_14.blk t).view.emb (ix2 a b) 1) = cOf t := Fin.ext (by show _ / 128 = _; omega)
  have e2 : lane ((win0_14.blk t).view.emb (ix2 a b) 1) = b := Fin.ext (by show _ % 128 = _; omega)
  rw [e0, e1, e2]

/-- Output 4 as one function of row and column. -/
theorem arr15 (c : Dev nD) : (dats m 0 c).arrAt 15 cfg0.N = fun i : S2048x512.Idx => puAt m c (grp (i 1)) (ix2 (i 0) (lane (i 1))) := by
  refine (dats m 0 c).arrAt_eq_of_covers 15 _ (by decide +kernel) fun t hf y => ?_
  obtain ⟨a, b, rfl⟩ : ∃ (a : Fin 2048) (b : Fin 128), y = ix2 a b := ⟨y 0, y 1, by funext k; fin_cases k <;> rfl⟩
  have hb := b.isLt
  blk_simp
  rw [after_15]
  have e0 : (win0_15.blk t).view.emb (ix2 a b) 0 = a := Fin.ext (by blk_simp [outP t])
  have h1 : ((win0_15.blk t).view.emb (ix2 a b) 1).val = (pOf t).val * 128 + b.val := by blk_simp [outP t]
  have e1 : grp ((win0_15.blk t).view.emb (ix2 a b) 1) = pOf t := Fin.ext (by show _ / 128 = _; omega)
  have e2 : lane ((win0_15.blk t).view.emb (ix2 a b) 1) = b := Fin.ext (by show _ % 128 = _; omega)
  rw [e0, e1, e2]

/-- Output 5 as one function of row and column. -/
theorem arr16 (c : Dev nD) : (dats m 0 c).arrAt 16 cfg0.N = fun i : S2048x512.Idx => pgAt m c (grp (i 1)) (ix2 (i 0) (lane (i 1))) := by
  refine (dats m 0 c).arrAt_eq_of_covers 16 _ (by decide +kernel) fun t hf y => ?_
  obtain ⟨a, b, rfl⟩ : ∃ (a : Fin 2048) (b : Fin 128), y = ix2 a b := ⟨y 0, y 1, by funext k; fin_cases k <;> rfl⟩
  have hb := b.isLt
  blk_simp
  rw [after_16]
  have e0 : (win0_16.blk t).view.emb (ix2 a b) 0 = a := Fin.ext (by blk_simp [outP t])
  have h1 : ((win0_16.blk t).view.emb (ix2 a b) 1).val = (pOf t).val * 128 + b.val := by blk_simp [outP t]
  have e1 : grp ((win0_16.blk t).view.emb (ix2 a b) 1) = pOf t := Fin.ext (by show _ / 128 = _; omega)
  have e2 : lane ((win0_16.blk t).view.emb (ix2 a b) 1) = b := Fin.ext (by show _ % 128 = _; omega)
  rw [e0, e1, e2]

/-- Output 6 as one function of its indices. -/
theorem arr17 (c : Dev nD) : (dats m 0 c).arrAt 17 cfg0.N = fun i : S4x3x128.Idx => cwAt m c (i 0) (ix3 0 (i 1) (i 2)) := by
  refine (dats m 0 c).arrAt_eq_of_covers 17 _ (by decide +kernel) fun t hf y => ?_
  obtain ⟨a, b, rfl⟩ : ∃ (a : Fin 3) (b : Fin 128), y = ix3 0 a b := ⟨y 1, y 2, by funext k; fin_cases k; exact Fin.eq_zero _; rfl; rfl⟩
  blk_simp
  rw [after_17]
  have e0 : (win0_17.blk t).view.emb (ix3 0 a b) 0 = cOf t := Fin.ext (by blk_simp [outC t]; exact Nat.add_zero _)
  have e1 : (win0_17.blk t).view.emb (ix3 0 a b) 1 = a := Fin.ext (by blk_simp [outC t])
  have e2 : (win0_17.blk t).view.emb (ix3 0 a b) 2 = b := Fin.ext (by blk_simp [outC t])
  rw [e0, e1, e2]

/-- Output 7 as one function of its indices. -/
theorem arr18 (c : Dev nD) : (dats m 0 c).arrAt 18 cfg0.N = fun i : S4x128x128.Idx => pwAt m c (i 0) (ix3 0 (i 1) (i 2)) := by
  refine (dats m 0 c).arrAt_eq_of_covers 18 _ (by decide +kernel) fun t hf y => ?_
  obtain ⟨a, b, rfl⟩ : ∃ (a : Fin 128) (b : Fin 128), y = ix3 0 a b := ⟨y 1, y 2, by funext k; fin_cases k; exact Fin.eq_zero _; rfl; rfl⟩
  blk_simp
  rw [after_18]
  have e0 : (win0_18.blk t).view.emb (ix3 0 a b) 0 = pOf t := Fin.ext (by blk_simp [outP t]; exact Nat.add_zero _)
  have e1 : (win0_18.blk t).view.emb (ix3 0 a b) 1 = a := Fin.ext (by blk_simp [outP t])
  have e2 : (win0_18.blk t).view.emb (ix3 0 a b) 2 = b := Fin.ext (by blk_simp [outP t])
  rw [e0, e1, e2]

/-- Output 8 as one function of row and column. -/
theorem arr19 (c : Dev nD) : (dats m 0 c).arrAt 19 cfg0.N = fun i : S1x512.Idx => psAt m c (grp (i 1)) (ix2 0 (lane (i 1))) := by
  refine (dats m 0 c).arrAt_eq_of_covers 19 _ (by decide +kernel) fun t hf y => ?_
  obtain ⟨b, rfl⟩ : ∃ (b : Fin 128), y = ix2 0 b := ⟨y 1, by funext k; fin_cases k; exact Fin.eq_zero _; rfl⟩
  have hb := b.isLt
  blk_simp
  rw [after_19]
  have h1 : ((win0_19.blk t).view.emb (ix2 0 b) 1).val = (pOf t).val * 128 + b.val := by blk_simp [outP t]
  have e1 : grp ((win0_19.blk t).view.emb (ix2 0 b) 1) = pOf t := Fin.ext (by show _ / 128 = _; omega)
  have e2 : lane ((win0_19.blk t).view.emb (ix2 0 b) 1) = b := Fin.ext (by show _ % 128 = _; omega)
  rw [e1, e2]

variable (ρ : Dev nD → PrngReg)

/-- The run with its nine arrays named and the arguments unchanged. -/
theorem run_blocks : θ_run defs (onTc (τ := τ) (main (F := Ideal))) ⟨m, fun _ => 0, ρ⟩ fun r => ∀ c : Dev nD,
      r.2.mem ((c : Thread nD τ).loc main_v111_0) = (dats m 0 c).arrAt 11 cfg0.N
      ∧ r.2.mem ((c : Thread nD τ).loc main_v111_1) = (dats m 0 c).arrAt 12 cfg0.N
      ∧ r.2.mem ((c : Thread nD τ).loc main_v111_2) = (dats m 0 c).arrAt 13 cfg0.N
      ∧ r.2.mem ((c : Thread nD τ).loc main_v111_3) = (dats m 0 c).arrAt 14 cfg0.N
      ∧ r.2.mem ((c : Thread nD τ).loc main_v111_4) = (dats m 0 c).arrAt 15 cfg0.N
      ∧ r.2.mem ((c : Thread nD τ).loc main_v111_5) = (dats m 0 c).arrAt 16 cfg0.N
      ∧ r.2.mem ((c : Thread nD τ).loc main_v111_6) = (dats m 0 c).arrAt 17 cfg0.N
      ∧ r.2.mem ((c : Thread nD τ).loc main_v111_7) = (dats m 0 c).arrAt 18 cfg0.N
      ∧ r.2.mem ((c : Thread nD τ).loc main_v111_8) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h.1 c).1 11, (h.1 c).1 12, (h.1 c).1 13, (h.1 c).1 14, (h.1 c).1 15, (h.1 c).1 16, (h.1 c).1 17, (h.1 c).1 18, (h.1 c).1 19, h.2.1 c⟩)
    (θ_run_and (run_main m ρ) (frame m ρ))

end Cert.MixKernelIdeal.Mix

end
-- ==== Proof.MixColumn.lean ====
module

public import proofs.«01_k».proof.Proof.Lits
public import proofs.«01_k».proof.Proof.RmsGrad
public import Mathlib.Algebra.BigOperators.Fin
public import Mathlib.Algebra.BigOperators.Intervals

@[expose] public section

noncomputable section

namespace MixColumn

open Idealize.ShloMosaic

/-- The half's word, as the sigmoid of the programs takes it. -/
abbrev half : EReal := Ideal.ofBits FTy.f32 0x3F000000#32

/-- The sigmoid by way of the hyperbolic tangent. -/
def sg (x : EReal) : EReal := half * Ideal.tanh (half * x) + half

/-- A column moved down by `k`, zeros entering at the top. -/
def sh (k : ℕ) (a : ℕ → EReal) (n : ℕ) : EReal := if k ≤ n then a (n - k) else 0

/-- The causal filter of three taps along a column. -/
def conv (w0 w1 w2 : EReal) (a : ℕ → EReal) (n : ℕ) : EReal := w2 * a n + w1 * sh 1 a n + w0 * sh 2 a n

/-- The gradient of the filter's output. -/
def dcv (d b g : ℕ → EReal) (n : ℕ) : EReal := d n * b n * (g n * sg (g n))

/-- The filter's transpose along a column. -/
def back (w0 w1 w2 : EReal) (e : ℕ → EReal) (n : ℕ) : EReal := w2 * e n + w1 * e (n + 1) + w0 * e (n + 2)

/-- The factor of a gate's gradient. -/
def gate (x : EReal) : EReal := sg x + x * sg x * (1 - sg x)

/-- How many rows the window of `w` ending at row `n` has. -/
def cnt (w n : ℕ) : EReal := (((min (n + 1) w : ℕ) : ℤ) : ℝ)

/-- The transpose of the causal mean over `w` rows, less the row itself, along a column. -/
def win (w : ℕ) (d : ℕ → EReal) (n : ℕ) : EReal := ∑ i ∈ Finset.range w, Ideal.div (d (n + i)) (cnt w (n + i)) - d n

/-- A sum over `A` blocks of `B` is the sum over all. -/
theorem sum_blocks (A B : ℕ) (f : ℕ → EReal) : ∑ a ∈ Finset.range A, ∑ b ∈ Finset.range B, f (B * a + b) = ∑ n ∈ Finset.range (A * B), f n := by
  induction A with
  | zero => simp
  | succ A ih =>
    rw [Finset.sum_range_succ, ih, Nat.succ_mul, Finset.sum_range_add]
    simp only [Nat.mul_comm B A]

/-- The rows of all the blocks, eight apart, the last block first: the filter's sums as the loop takes them. -/
theorem sum_conv_rows (f : ℕ → EReal) : ∑ s : Fin 8, ∑ k ∈ Finset.range 32, ∑ b : Fin 8, f (64 * (31 - k) + (8 * b.val + s.val)) = ∑ n ∈ Finset.range 2048, f n := by
  rw [Finset.sum_comm]
  refine Eq.trans ?_ ((Finset.sum_range_reflect (fun a => ∑ b ∈ Finset.range 64, f (64 * a + b)) 32).trans (sum_blocks 32 64 f))
  refine Finset.sum_congr rfl fun k hk => ?_
  rw [Finset.sum_comm]
  refine Eq.trans ?_ (sum_blocks 8 8 (fun n => f (64 * (32 - 1 - k) + n)))
  rw [← Fin.sum_univ_eq_sum_range (fun a => ∑ b ∈ Finset.range 8, f (64 * (32 - 1 - k) + (8 * a + b)))]
  exact Finset.sum_congr rfl fun b _ => Fin.sum_univ_eq_sum_range (fun s => f (64 * (32 - 1 - k) + (8 * b.val + s))) 8

/-- The rows of all the blocks of 128, eight apart. -/
theorem sum_gate_rows (f : ℕ → EReal) : ∑ s : Fin 8, ∑ k ∈ Finset.range 16, ∑ b : Fin 16, f (128 * k + (8 * b.val + s.val)) = ∑ n ∈ Finset.range 2048, f n := by
  rw [Finset.sum_comm]
  refine Eq.trans ?_ (sum_blocks 16 128 f)
  refine Finset.sum_congr rfl fun k hk => ?_
  rw [Finset.sum_comm]
  refine Eq.trans ?_ (sum_blocks 16 8 (fun n => f (128 * k + n)))
  rw [← Fin.sum_univ_eq_sum_range (fun a => ∑ b ∈ Finset.range 8, f (128 * k + (8 * a + b)))]
  exact Finset.sum_congr rfl fun b _ => Fin.sum_univ_eq_sum_range (fun s => f (128 * k + (8 * b.val + s))) 8

end MixColumn

end
-- ==== Proof.MixConvValue.lean ====
module

public import proofs.«01_k».proof.Proof.MixConv
public import proofs.«01_k».proof.Proof.MixColumn
public import Idealize.ShloMosaic.Lib.ValueIdx

@[expose] public section

set_option maxRecDepth 16384

noncomputable section

namespace Cert.MixKernelIdeal.Mix

open Cert.MixKernelIdeal.Gen
open Idealize.ShloMosaic Idealize.ShloMosaic.TcCoe
open MixBlocks MixColumn

/-- Column `l` of a block, zero below its last row. -/
def col (X : S2048x128.Idx → EReal) (l : Fin 128) (n : ℕ) : EReal := if h : n < 2048 then X (ix2 ⟨n, h⟩ l) else 0

variable (V G : S64x128.Idx → EReal) (B D : S64x128.Idx → EReal) (q : Fin 64) (l : Fin 128)

theorem pay33_at : k0_pay33 (F := Ideal) V G D (ix2 q l) = D (ix2 q l) * V (ix2 q l) * (G (ix2 q l) * sg (G (ix2 q l))) := by
  pointwise [k0_pay33, k0_pay32, k0_pay29, k0_pay31, k0_pay30]
  rfl

theorem pay34_at : k0_pay34 (F := Ideal) V G B D (ix2 q l) = D (ix2 q l) * V (ix2 q l) * B (ix2 q l) * gate (G (ix2 q l)) := by
  pointwise [k0_pay34, k0_pay32, k0_pay29, k0_pay28, k0_pay31, k0_pay30]
  rfl

theorem pay35_at : k0_pay35 (F := Ideal) G B D (ix2 q l) = D (ix2 q l) * B (ix2 q l) * (G (ix2 q l) * sg (G (ix2 q l))) := by
  pointwise [k0_pay35, k0_pay29, k0_pay28, k0_pay31, k0_pay30]
  rfl

theorem pay38_at (A : S8x128.Idx → EReal) (s : Fin 8) : k0_pay38 (F := Ideal) A V G B D (ix2 s l)
    = A (ix2 s l) + ∑ b : Fin 8, k0_pay35 (F := Ideal) G B D (ix2 ⟨b.val * 8 + s.val, by omega⟩ l) * V (ix2 ⟨b.val * 8 + s.val, by omega⟩ l) := by
  pointwise [k0_pay38]

theorem pay37_at (A : S8x128.Idx → EReal) (s : Fin 8) : k0_pay37 (F := Ideal) A V G B D (ix2 s l)
    = A (ix2 s l) + ∑ b : Fin 8, k0_pay35 (F := Ideal) G B D (ix2 ⟨b.val * 8 + s.val, by omega⟩ l) * V (ix2 ⟨b.val * 8 + s.val, by omega⟩ l) := by
  pointwise [k0_pay37]

theorem pay36_at (A : S8x128.Idx → EReal) (s : Fin 8) : k0_pay36 (F := Ideal) A V G B D (ix2 s l)
    = A (ix2 s l) + ∑ b : Fin 8, k0_pay35 (F := Ideal) G B D (ix2 ⟨b.val * 8 + s.val, by omega⟩ l) * V (ix2 ⟨b.val * 8 + s.val, by omega⟩ l) := by
  pointwise [k0_pay36]

/-- The step on the first block of rows is the last one. -/
theorem at_top : ∀ k : Fin k0_t1_loop.trips, Scalar.cmpi .eq (Scalar.subi 31#32 (Scf.iv 0#32 1#32 k.val)) 0#32 = if k.val = 31 then 1#1 else 0#1 := by
  decide +kernel

theorem pay20_at (k : Fin k0_t1_loop.trips) (hu : S16x128.Idx → EReal) (ru : S64x128.Idx → EReal) (p : Fin 80) :
    k0_pay20 (F := Ideal) 0#32 1#32 k hu ru (ix2 p l)
      = if h : p.val < 16 then (if k.val = 31 then 0 else hu (ix2 ⟨p.val, h⟩ l)) else ru (ix2 ⟨p.val - 16, by omega⟩ l) := by
  pointwise [k0_pay20]
  simp only [at_top k]
  by_cases h : p.val < 16 <;> by_cases h' : k.val = 31 <;> simp [h, h', Scalar.select]

theorem pay21_at (k : Fin k0_t1_loop.trips) (hu : S16x128.Idx → EReal) (ru : S64x128.Idx → EReal) (p : Fin 80) :
    k0_pay21 (F := Ideal) 0#32 1#32 k hu ru (ix2 p l)
      = if h : p.val < 16 then (if k.val = 31 then 0 else hu (ix2 ⟨p.val, h⟩ l)) else ru (ix2 ⟨p.val - 16, by omega⟩ l) := by
  pointwise [k0_pay21]
  simp only [at_top k]
  by_cases h : p.val < 16 <;> by_cases h' : k.val = 31 <;> simp [h, h', Scalar.select]

theorem pay22_at (k : Fin k0_t1_loop.trips) (hu hc : S16x128.Idx → EReal) (ru rc : S64x128.Idx → EReal) (p : Fin 80) :
    k0_pay22 (F := Ideal) 0#32 1#32 k hu ru hc rc (ix2 p l)
      = k0_pay21 (F := Ideal) 0#32 1#32 k hc rc (ix2 p l) * k0_pay20 (F := Ideal) 0#32 1#32 k hu ru (ix2 p l) := by
  pointwise [k0_pay22]

theorem pay23_at (k : Fin k0_t1_loop.trips) (hu hc : S16x128.Idx → EReal) (ru rc : S64x128.Idx → EReal) :
    k0_pay23 (F := Ideal) 0#32 1#32 k hu ru hc rc (ix2 q l) = k0_pay22 (F := Ideal) 0#32 1#32 k hu ru hc rc (ix2 ⟨q.val + 16, by omega⟩ l) := by
  pointwise [k0_pay23]
  exact congrArg (fun z => k0_pay22 (F := Ideal) 0#32 1#32 k hu ru hc rc (ix2 z l)) (Fin.ext (by simp; omega))

theorem pay24_at (k : Fin k0_t1_loop.trips) (hu hc : S16x128.Idx → EReal) (ru rc : S64x128.Idx → EReal) :
    k0_pay24 (F := Ideal) 0#32 1#32 k hu ru hc rc (ix2 q l) = k0_pay22 (F := Ideal) 0#32 1#32 k hu ru hc rc (ix2 ⟨q.val + 15, by omega⟩ l) := by
  pointwise [k0_pay24]
  exact congrArg (fun z => k0_pay22 (F := Ideal) 0#32 1#32 k hu ru hc rc (ix2 z l)) (Fin.ext (by simp; omega))

theorem pay25_at (k : Fin k0_t1_loop.trips) (hu hc : S16x128.Idx → EReal) (ru rc : S64x128.Idx → EReal) :
    k0_pay25 (F := Ideal) 0#32 1#32 k hu ru hc rc (ix2 q l) = k0_pay22 (F := Ideal) 0#32 1#32 k hu ru hc rc (ix2 ⟨q.val + 14, by omega⟩ l) := by
  pointwise [k0_pay25]
  exact congrArg (fun z => k0_pay22 (F := Ideal) 0#32 1#32 k hu ru hc rc (ix2 z l)) (Fin.ext (by simp; omega))

theorem pay26_at (w0 w1 w2 : S1x1x1x128.Idx → EReal) (k : Fin k0_t1_loop.trips) (hu hc : S16x128.Idx → EReal) (ru rc : S64x128.Idx → EReal) :
    k0_pay26 (F := Ideal) (k0_pay1 w0) (k0_pay2 w1) (k0_pay3 w2) 0#32 1#32 k hu ru hc rc (ix2 q l)
      = w2 (ix4 0 0 0 l) * k0_pay23 (F := Ideal) 0#32 1#32 k hu ru hc rc (ix2 q l) + w1 (ix4 0 0 0 l) * k0_pay24 (F := Ideal) 0#32 1#32 k hu ru hc rc (ix2 q l)
        + w0 (ix4 0 0 0 l) * k0_pay25 (F := Ideal) 0#32 1#32 k hu ru hc rc (ix2 q l) := by
  pointwise [k0_pay26, k0_pay1, k0_pay2, k0_pay3]

theorem pay40_at (w2 : S1x1x1x128.Idx → EReal) : k0_pay40 (F := Ideal) (k0_pay3 w2) G B D (ix2 q l) = w2 (ix4 0 0 0 l) * k0_pay35 (F := Ideal) G B D (ix2 q l) := by
  pointwise [k0_pay40, k0_pay3]

theorem pay41_at (w1 : S1x1x1x128.Idx → EReal) (A : S8x128.Idx → EReal) :
    k0_pay41 (F := Ideal) (k0_pay2 w1) A G B D (ix2 q l) = w1 (ix4 0 0 0 l) * k0_pay39 (F := Ideal) A G B D (ix2 ⟨q.val + 1, by omega⟩ l) := by
  pointwise [k0_pay41, k0_pay2]
  exact congrArg (fun z => w1 (ix4 0 0 0 l) * k0_pay39 (F := Ideal) A G B D (ix2 z l)) (Fin.ext (by simp; omega))

theorem pay5_at (w0 : S1x1x1x128.Idx → EReal) (E : S72x128.Idx → EReal) (X Y : S64x128.Idx → EReal) :
    k0_pay5 (F := Ideal) w0 E X Y (ix2 q l) = X (ix2 q l) + Y (ix2 q l) + w0 (ix4 0 0 0 l) * E (ix2 ⟨q.val + 2, by omega⟩ l) := by
  pointwise [k0_pay5, k0_pay1]
  exact congrArg (fun z => X (ix2 q l) + Y (ix2 q l) + w0 (ix4 0 0 0 l) * E (ix2 z l)) (Fin.ext (by simp; omega))

theorem pay6_at (w0 : S1x1x1x128.Idx → EReal) (E : S72x128.Idx → EReal) (X Y : S64x128.Idx → EReal) (C : S80x128.Idx → EReal) :
    k0_pay6 (F := Ideal) w0 C E X Y (ix2 q l) = k0_pay5 (F := Ideal) w0 E X Y (ix2 q l) * C (ix2 ⟨q.val + 16, by omega⟩ l) := by
  pointwise [k0_pay6]
  exact congrArg (fun z => k0_pay5 (F := Ideal) w0 E X Y (ix2 q l) * C (ix2 z l)) (Fin.ext (by simp; omega))

theorem pay7_at (w0 : S1x1x1x128.Idx → EReal) (E : S72x128.Idx → EReal) (X Y : S64x128.Idx → EReal) (C : S80x128.Idx → EReal) :
    k0_pay7 (F := Ideal) w0 C E X Y (ix2 q l) = k0_pay5 (F := Ideal) w0 E X Y (ix2 q l) * C (ix2 ⟨q.val + 16, by omega⟩ l) := by
  pointwise [k0_pay7]
  exact congrArg (fun z => k0_pay5 (F := Ideal) w0 E X Y (ix2 q l) * C (ix2 z l)) (Fin.ext (by simp; omega))

theorem pay8_at (E : S64x128.Idx → EReal) (s : Fin 8) : k0_pay8 (F := Ideal) E (ix2 s l) = E (ix2 ⟨s.val, by omega⟩ l) := by
  pointwise [k0_pay8]

theorem pay9_at (A : S8x128.Idx → EReal) : k0_pay9 (F := Ideal) A (ix3 0 0 l) = ∑ s : Fin 8, A (ix2 s l) := by
  pointwise [k0_pay9]

theorem pay10_at (A : S8x128.Idx → EReal) : k0_pay10 (F := Ideal) A (ix3 0 0 l) = ∑ s : Fin 8, A (ix2 s l) := by
  pointwise [k0_pay10]

theorem pay11_at (A : S8x128.Idx → EReal) : k0_pay11 (F := Ideal) A (ix3 0 0 l) = ∑ s : Fin 8, A (ix2 s l) := by
  pointwise [k0_pay11]

theorem pay4_at (s : Fin 8) : k0_pay4 (F := Ideal) (ix2 s l) = 0 := by
  pointwise [k0_pay4]

theorem pay27_at (X : S64x128.Idx → EReal) : k0_pay27 (F := Ideal) X (ix2 q l) = X (ix2 q l) := by
  pointwise [k0_pay27]

theorem pay39_at (A : S8x128.Idx → EReal) (p : Fin 72) : k0_pay39 (F := Ideal) A G B D (ix2 p l)
    = if h : p.val < 64 then k0_pay35 (F := Ideal) G B D (ix2 ⟨p.val, h⟩ l) else A (ix2 ⟨p.val - 64, by omega⟩ l) := by
  pointwise [k0_pay39]

section Blocks

variable (X xu xb xc xg xd : S2048x128.Idx → EReal) (w0 w1 w2 : S1x1x1x128.Idx → EReal)

theorem col_lt (n : ℕ) (h : n < 2048) : col X l n = X (ix2 ⟨n, h⟩ l) := dif_pos h

/-- A row of a step's block is a row of the column. -/
theorem rows_at (k : ℕ) : rows (F := Ideal) X k (ix2 q l) = col X l (64 * (31 - k) + q.val) := by
  rw [col_lt _ _ _ (by omega)]
  exact congrArg (fun z => X (ix2 z l)) (Fin.ext (Nat.mod_eq_of_lt (by simp; omega)))

/-- A row of the sixteen above it. -/
theorem hist_at (k : ℕ) (hk : k < 31) (p : Fin 16) : hist (F := Ideal) X k (ix2 p l) = col X l (64 * (31 - k) + p.val - 16) := by
  rw [col_lt _ _ _ (by omega)]
  refine congrArg (fun z => X (ix2 z l)) (Fin.ext ((Nat.mod_eq_of_lt ?_).trans ?_))
  · simp; omega
  · simp; omega

theorem step_val (k : ℕ) (hk : k < 32) : (step k).val = k := Nat.mod_eq_of_lt (lt_of_lt_of_eq hk trips_conv.symm)

/-- The rows with sixteen above, as the column moved down. -/
theorem ext21 (k : ℕ) (hk : k < 32) (p : Fin 80) :
    k0_pay21 (F := Ideal) 0#32 1#32 (step k) (hist (F := Ideal) X k) (rows (F := Ideal) X k) (ix2 p l) = sh 16 (col X l) (64 * (31 - k) + p.val) := by
  rw [pay21_at, step_val k hk]
  unfold sh
  by_cases h : p.val < 16
  · rw [dif_pos h]
    by_cases h' : k = 31
    · rw [if_pos h', if_neg (by omega)]
    · rw [if_neg h', if_pos (by omega), hist_at _ _ _ (by omega)]
  · rw [dif_neg h, if_pos (by omega), rows_at]
    congr 1
    simp only
    omega

theorem ext20 (k : ℕ) (hk : k < 32) (p : Fin 80) :
    k0_pay20 (F := Ideal) 0#32 1#32 (step k) (hist (F := Ideal) X k) (rows (F := Ideal) X k) (ix2 p l) = sh 16 (col X l) (64 * (31 - k) + p.val) :=
  (pay20_at _ _ _ _ _).trans ((pay21_at _ _ _ _ _).symm.trans (ext21 l X k hk p))

/-- The products `c * u` down a column. -/
def ca (n : ℕ) : EReal := col xc l n * col xu l n

theorem ext22 (k : ℕ) (hk : k < 32) (p : Fin 80) :
    k0_pay22 (F := Ideal) 0#32 1#32 (step k) (hist (F := Ideal) xu k) (rows (F := Ideal) xu k) (hist (F := Ideal) xc k) (rows (F := Ideal) xc k) (ix2 p l)
      = sh 16 (ca l xu xc) (64 * (31 - k) + p.val) := by
  rw [pay22_at, ext21 l xc k hk, ext20 l xu k hk]
  unfold sh ca
  by_cases h : 16 ≤ 64 * (31 - k) + p.val
  · rw [if_pos h, if_pos h, if_pos h]
  · rw [if_neg h, if_neg h, if_neg h, mul_zero]

theorem tap0_at (k : ℕ) (hk : k < 32) :
    k0_pay23 (F := Ideal) 0#32 1#32 (step k) (hist (F := Ideal) xu k) (rows (F := Ideal) xu k) (hist (F := Ideal) xc k) (rows (F := Ideal) xc k) (ix2 q l)
      = ca l xu xc (64 * (31 - k) + q.val) := by
  rw [pay23_at, ext22 l xu xc k hk]
  unfold sh
  rw [if_pos (by simp only; omega)]
  congr 1

theorem tap1_at (k : ℕ) (hk : k < 32) :
    k0_pay24 (F := Ideal) 0#32 1#32 (step k) (hist (F := Ideal) xu k) (rows (F := Ideal) xu k) (hist (F := Ideal) xc k) (rows (F := Ideal) xc k) (ix2 q l)
      = sh 1 (ca l xu xc) (64 * (31 - k) + q.val) := by
  rw [pay24_at, ext22 l xu xc k hk]
  unfold sh
  exact if_congr (by simp only; omega) (congrArg _ (by simp only; omega)) rfl

theorem tap2_at (k : ℕ) (hk : k < 32) :
    k0_pay25 (F := Ideal) 0#32 1#32 (step k) (hist (F := Ideal) xu k) (rows (F := Ideal) xu k) (hist (F := Ideal) xc k) (rows (F := Ideal) xc k) (ix2 q l)
      = sh 2 (ca l xu xc) (64 * (31 - k) + q.val) := by
  rw [pay25_at, ext22 l xu xc k hk]
  unfold sh
  exact if_congr (by simp only; omega) (congrArg _ (by simp only; omega)) rfl

/-- The convolution down a column. -/
abbrev cv (n : ℕ) : EReal := conv (w0 (ix4 0 0 0 l)) (w1 (ix4 0 0 0 l)) (w2 (ix4 0 0 0 l)) (ca l xu xc) n

theorem cConv_at (k : ℕ) (hk : k < 32) : cConv (F := Ideal) w0 w1 w2 xu xc k (ix2 q l) = cv l xu xc w0 w1 w2 (64 * (31 - k) + q.val) := by
  refine (pay26_at _ _ _ _ _ _ _ _ _ _).trans ?_
  rw [tap0_at _ _ _ _ _ hk, tap1_at _ _ _ _ _ hk, tap2_at _ _ _ _ _ hk]
  rfl

/-- The gradient of the convolution down a column. -/
abbrev dv (n : ℕ) : EReal := dcv (col xd l) (col xb l) (col xg l) n

theorem dconv_at (k : ℕ) : k0_pay35 (F := Ideal) (k0_pay27 (rows (F := Ideal) xg k)) (rows (F := Ideal) xb k) (rows (F := Ideal) xd k) (ix2 q l)
    = dv l xb xg xd (64 * (31 - k) + q.val) := by
  rw [pay35_at, pay27_at, rows_at, rows_at, rows_at]
  rfl

/-- The carried rows are the first of the block below. -/
theorem head_at (k : ℕ) (hk : k ≤ 32) (s : Fin 8) : (cCarry (F := Ideal) xu xb xc xg xd k).1 (ix2 s l) = dv l xb xg xd (64 * (32 - k) + s.val) := by
  cases k with
  | zero =>
    refine (pay4_at l s).trans ?_
    unfold dv dcv col
    rw [dif_neg (by omega), dif_neg (by omega), zero_mul, zero_mul]
  | succ k =>
    refine (pay8_at _ _ _).trans ((dconv_at _ _ _ _ _ _).trans (congrArg _ ?_))
    simp only
    omega

theorem sum2_at (k : ℕ) (hk : k ≤ 32) (s : Fin 8) : (cCarry (F := Ideal) xu xb xc xg xd k).2.1 (ix2 s l)
    = ∑ i ∈ Finset.range k, ∑ b : Fin 8, dv l xb xg xd (64 * (31 - i) + (8 * b.val + s.val)) * sh 2 (ca l xu xc) (64 * (31 - i) + (8 * b.val + s.val)) := by
  induction k with
  | zero => exact pay4_at l s
  | succ k ih =>
    refine (pay38_at _ _ _ _ _ _ _).trans ?_
    rw [Finset.sum_range_succ, ih (by omega)]
    refine congrArg (_ + ·) (Finset.sum_congr rfl fun b _ => ?_)
    rw [dconv_at, tap2_at _ _ _ _ _ (by omega)]
    simp only [Nat.mul_comm b.val 8]

theorem sum1_at (k : ℕ) (hk : k ≤ 32) (s : Fin 8) : (cCarry (F := Ideal) xu xb xc xg xd k).2.2.1 (ix2 s l)
    = ∑ i ∈ Finset.range k, ∑ b : Fin 8, dv l xb xg xd (64 * (31 - i) + (8 * b.val + s.val)) * sh 1 (ca l xu xc) (64 * (31 - i) + (8 * b.val + s.val)) := by
  induction k with
  | zero => exact pay4_at l s
  | succ k ih =>
    refine (pay37_at _ _ _ _ _ _ _).trans ?_
    rw [Finset.sum_range_succ, ih (by omega)]
    refine congrArg (_ + ·) (Finset.sum_congr rfl fun b _ => ?_)
    rw [dconv_at, tap1_at _ _ _ _ _ (by omega)]
    simp only [Nat.mul_comm b.val 8]

theorem sum0_at (k : ℕ) (hk : k ≤ 32) (s : Fin 8) : (cCarry (F := Ideal) xu xb xc xg xd k).2.2.2 (ix2 s l)
    = ∑ i ∈ Finset.range k, ∑ b : Fin 8, dv l xb xg xd (64 * (31 - i) + (8 * b.val + s.val)) * ca l xu xc (64 * (31 - i) + (8 * b.val + s.val)) := by
  induction k with
  | zero => exact pay4_at l s
  | succ k ih =>
    refine (pay36_at _ _ _ _ _ _ _).trans ?_
    rw [Finset.sum_range_succ, ih (by omega)]
    refine congrArg (_ + ·) (Finset.sum_congr rfl fun b _ => ?_)
    rw [dconv_at, tap0_at _ _ _ _ _ (by omega)]
    simp only [Nat.mul_comm b.val 8]

/-- The gradient of the convolution on a block and the rows below it. -/
theorem below_at (k : ℕ) (hk : k < 32) (p : Fin 72) : k0_pay39 (F := Ideal) (cCarry (F := Ideal) xu xb xc xg xd k).1 (k0_pay27 (rows (F := Ideal) xg k)) (rows (F := Ideal) xb k) (rows (F := Ideal) xd k) (ix2 p l)
    = dv l xb xg xd (64 * (31 - k) + p.val) := by
  rw [pay39_at]
  by_cases h : p.val < 64
  · rw [dif_pos h, dconv_at]
  · rw [dif_neg h, head_at _ _ _ _ _ _ _ (by omega)]
    congr 1
    simp only
    omega

/-- The gradient of the product `c * u` on a block. -/
theorem dca_at (k : ℕ) (hk : k < 32) : k0_pay5 (F := Ideal) w0 (k0_pay39 (F := Ideal) (cCarry (F := Ideal) xu xb xc xg xd k).1 (k0_pay27 (rows (F := Ideal) xg k)) (rows (F := Ideal) xb k) (rows (F := Ideal) xd k))
      (k0_pay40 (F := Ideal) (k0_pay3 w2) (k0_pay27 (rows (F := Ideal) xg k)) (rows (F := Ideal) xb k) (rows (F := Ideal) xd k))
      (k0_pay41 (F := Ideal) (k0_pay2 w1) (cCarry (F := Ideal) xu xb xc xg xd k).1 (k0_pay27 (rows (F := Ideal) xg k)) (rows (F := Ideal) xb k) (rows (F := Ideal) xd k)) (ix2 q l)
    = back (w0 (ix4 0 0 0 l)) (w1 (ix4 0 0 0 l)) (w2 (ix4 0 0 0 l)) (dv l xb xg xd) (64 * (31 - k) + q.val) := by
  rw [pay5_at, pay40_at, pay41_at, below_at _ _ _ _ _ _ _ hk, below_at _ _ _ _ _ _ _ hk, dconv_at]
  rfl

theorem stack_at (B : ℕ) [NeZero B] (blk : ℕ → (⟨2, ![B, 128]⟩ : Shape).Idx → EReal) (r : Fin 2048) :
    stack (Val := Elt Ideal) (e := .bf16) (N := 2048) B blk (ix2 r l) = blk (r.val / B) (ix2 (Fin.ofNat B r.val) l) := rfl

theorem row_back (r : Fin 2048) : 64 * (31 - (31 - r.val / 64)) + (Fin.ofNat 64 r.val).val = r.val := by
  show 64 * (31 - (31 - r.val / 64)) + r.val % 64 = r.val
  omega

/-- The gradient of `b`, element by element. -/
theorem cDb_at (r : Fin 2048) : cDb (F := Ideal) w0 w1 w2 xu xb xc xg xd (ix2 r l)
    = col xd l r.val * cv l xu xc w0 w1 w2 r.val * (col xg l r.val * sg (col xg l r.val)) := by
  unfold cDb
  rw [stack_at, pay33_at, cConv_at _ _ _ _ _ _ _ _ (by omega), pay27_at, rows_at, rows_at, row_back]

/-- The gradient of the gate, element by element. -/
theorem cDg_at (r : Fin 2048) : cDg (F := Ideal) w0 w1 w2 xu xb xc xg xd (ix2 r l)
    = col xd l r.val * cv l xu xc w0 w1 w2 r.val * col xb l r.val * gate (col xg l r.val) := by
  unfold cDg
  rw [stack_at, pay34_at, cConv_at _ _ _ _ _ _ _ _ (by omega), pay27_at, rows_at, rows_at, rows_at, row_back]

/-- The gradient of `u`, element by element. -/
theorem cDu_at (r : Fin 2048) : cDu (F := Ideal) w0 w1 w2 xu xb xc xg xd (ix2 r l)
    = back (w0 (ix4 0 0 0 l)) (w1 (ix4 0 0 0 l)) (w2 (ix4 0 0 0 l)) (dv l xb xg xd) r.val * col xc l r.val := by
  unfold cDu
  rw [stack_at, pay6_at, dca_at _ _ _ _ _ _ _ _ _ _ _ (by omega), ext21 _ _ _ (by omega), row_back]
  unfold sh
  rw [if_pos (by simp only; omega)]
  refine congrArg₂ (fun a b : EReal => a * b) rfl (congrArg _ ?_)
  have := row_back r
  simp only
  omega

/-- The gradient of `c`, element by element. -/
theorem cDc_at (r : Fin 2048) : cDc (F := Ideal) w0 w1 w2 xu xb xc xg xd (ix2 r l)
    = back (w0 (ix4 0 0 0 l)) (w1 (ix4 0 0 0 l)) (w2 (ix4 0 0 0 l)) (dv l xb xg xd) r.val * col xu l r.val := by
  unfold cDc
  rw [stack_at, pay7_at, dca_at _ _ _ _ _ _ _ _ _ _ _ (by omega), ext20 _ _ _ (by omega), row_back]
  unfold sh
  rw [if_pos (by simp only; omega)]
  refine congrArg₂ (fun a b : EReal => a * b) rfl (congrArg _ ?_)
  have := row_back r
  simp only
  omega

/-- The gradient of the filter, tap by tap. -/
theorem cDw_0 : cDw (F := Ideal) xu xb xc xg xd (ix3 0 0 l) = ∑ n ∈ Finset.range 2048, dv l xb xg xd n * sh 2 (ca l xu xc) n := by
  refine (pay9_at l _).trans ?_
  rw [← sum_conv_rows (fun n => dv l xb xg xd n * sh 2 (ca l xu xc) n)]
  exact Finset.sum_congr rfl fun s _ => sum2_at _ _ _ _ _ _ 32 le_rfl s

theorem cDw_1 : cDw (F := Ideal) xu xb xc xg xd (ix3 0 1 l) = ∑ n ∈ Finset.range 2048, dv l xb xg xd n * sh 1 (ca l xu xc) n := by
  refine (pay10_at l _).trans ?_
  rw [← sum_conv_rows (fun n => dv l xb xg xd n * sh 1 (ca l xu xc) n)]
  exact Finset.sum_congr rfl fun s _ => sum1_at _ _ _ _ _ _ 32 le_rfl s

theorem cDw_2 : cDw (F := Ideal) xu xb xc xg xd (ix3 0 2 l) = ∑ n ∈ Finset.range 2048, dv l xb xg xd n * ca l xu xc n := by
  refine (pay11_at l _).trans ?_
  rw [← sum_conv_rows (fun n => dv l xb xg xd n * ca l xu xc n)]
  exact Finset.sum_congr rfl fun s _ => sum0_at _ _ _ _ _ _ 32 le_rfl s

end Blocks

end Cert.MixKernelIdeal.Mix

end
-- ==== Proof.MixPoolValue.lean ====
module

public import proofs.«01_k».proof.Proof.MixSpec
public import proofs.«01_k».proof.Proof.MixConvValue

@[expose] public section

set_option maxRecDepth 16384

noncomputable section

namespace Cert.MixKernelIdeal.Mix

open Cert.MixKernelIdeal.Gen
open Idealize.ShloMosaic Idealize.ShloMosaic.TcCoe
open MixBlocks MixColumn

section Payloads

variable (xw : S1x1x128x128.Idx → EReal) (xp dm : S2048x128.Idx → EReal) (xs : S1x1x128.Idx → EReal) (G D M : S128x128.Idx → EReal)

/-- The pooled section times the matrix, element by element. -/
theorem gMixed_at (n : Fin 2048) (l : Fin 128) : gMixed (F := Ideal) xp xw (ix2 n l) = ∑ k : Fin 128, xp (ix2 n k) * xw (ix4 0 0 k l) := by
  pointwise [k0_pay43, k0_pay42]

theorem gDw_at (k l : Fin 128) : gDw (F := Ideal) xp dm (ix3 0 k l) = ∑ n : Fin 2048, xp (ix2 n k) * dm (ix2 n l) := by
  pointwise [k0_pay12]

theorem pay55_at (n : Fin 2048) (l : Fin 128) : k0_pay55 (F := Ideal) xw dm (ix2 n l) = ∑ k : Fin 128, dm (ix2 n k) * xw (ix4 0 0 l k) := by
  pointwise [k0_pay55, k0_pay42]

theorem pay56_at (n : Fin 16) (l : Fin 128) : k0_pay56 (F := Ideal) (ix2 n l) = 0 := by
  pointwise [k0_pay56]

theorem pay50_at (q l : Fin 128) : k0_pay50 (F := Ideal) xs G D M (ix2 q l) = D (ix2 q l) * M (ix2 q l) * xs (ix3 0 0 l) * gate (G (ix2 q l)) := by
  pointwise [k0_pay50, k0_pay44, k0_pay46, k0_pay47, k0_pay48, k0_pay49]
  rfl

theorem pay52_at (q l : Fin 128) : k0_pay52 (F := Ideal) xs G D (ix2 q l) = D (ix2 q l) * (G (ix2 q l) * sg (G (ix2 q l))) * xs (ix3 0 0 l) := by
  pointwise [k0_pay52, k0_pay51, k0_pay44, k0_pay46, k0_pay47, k0_pay48, k0_pay49]
  rfl

theorem pay53_at (A : S8x128.Idx → EReal) (s : Fin 8) (l : Fin 128) : k0_pay53 (F := Ideal) A G D M (ix2 s l)
    = A (ix2 s l) + ∑ b : Fin 16, D (ix2 ⟨b.val * 8 + s.val, by omega⟩ l) * (G (ix2 ⟨b.val * 8 + s.val, by omega⟩ l) * sg (G (ix2 ⟨b.val * 8 + s.val, by omega⟩ l))) * M (ix2 ⟨b.val * 8 + s.val, by omega⟩ l) := by
  pointwise [k0_pay53, k0_pay51, k0_pay46, k0_pay47, k0_pay48, k0_pay49]
  rfl

theorem pay54_at (A : S8x128.Idx → EReal) (l : Fin 128) : k0_pay54 (F := Ideal) A (ix2 0 l) = ∑ s : Fin 8, A (ix2 s l) := by
  pointwise [k0_pay54]

theorem pay45_at (s : Fin 8) (l : Fin 128) : k0_pay45 (F := Ideal) (ix2 s l) = 0 := by
  pointwise [k0_pay45]

/-- The number of rows in a window, as the program counts it. -/
theorem count_2 : ∀ (k : Fin 16) (p : Fin 144), (IntOp.minsi (IntOp.addi (IntOp.addi (Scalar.muli (Scf.iv 0#32 1#32 k.val) 128#32) (BitVec.ofNat 32 p.val)) 1#32) 2#32).toInt = ((min (128 * k.val + p.val + 1) 2 : ℕ) : ℤ) := by decide +kernel
theorem count_4 : ∀ (k : Fin 16) (p : Fin 144), (IntOp.minsi (IntOp.addi (IntOp.addi (Scalar.muli (Scf.iv 0#32 1#32 k.val) 128#32) (BitVec.ofNat 32 p.val)) 1#32) 4#32).toInt = ((min (128 * k.val + p.val + 1) 4 : ℕ) : ℤ) := by decide +kernel
theorem count_8 : ∀ (k : Fin 16) (p : Fin 144), (IntOp.minsi (IntOp.addi (IntOp.addi (Scalar.muli (Scf.iv 0#32 1#32 k.val) 128#32) (BitVec.ofNat 32 p.val)) 1#32) 8#32).toInt = ((min (128 * k.val + p.val + 1) 8 : ℕ) : ℤ) := by decide +kernel
theorem count_16 : ∀ (k : Fin 16) (p : Fin 144), (IntOp.minsi (IntOp.addi (IntOp.addi (Scalar.muli (Scf.iv 0#32 1#32 k.val) 128#32) (BitVec.ofNat 32 p.val)) 1#32) 16#32).toInt = ((min (128 * k.val + p.val + 1) 16 : ℕ) : ℤ) := by decide +kernel

/-- The rows of a step, each over the number of rows in the window that ends at it. -/
def shares (k : ℕ) (w : BitVec 32) (V : S144x128.Idx → EReal) : S144x128.Idx → EReal :=
  divf (F := Ideal) (φ := .f32) V (sitofp (F := Ideal) .f32 (minsi (addi (addi (broadcast S144x128 (Scalar.muli (Scf.iv 0#32 1#32 k) 128#32)) (iota .tc S144x128 32 [0] iota_S144x128_d0_w32)) (broadcast S144x128 1#32)) (broadcast S144x128 w)))

/-- The rows added to themselves moved up. -/
def dbl (n : BitVec 32) (X : S144x128.Idx → EReal) : S144x128.Idx → EReal :=
  addf (F := Ideal) (φ := .f32) X (dynamicRotate 0 n none X rotates_S144x128_d0)

theorem shares_at (k : ℕ) (V : S144x128.Idx → EReal) (l : Fin 128) (w : ℕ) (w' : BitVec 32) (d : ℕ → EReal) (hV : ∀ p : Fin 144, V (ix2 p l) = d (128 * k + p.val))
    (hc : ∀ p : Fin 144, (FloatOps.sitofp (F := Ideal) FTy.f32 (IntOp.minsi (IntOp.addi (IntOp.addi (Scalar.muli (Scf.iv 0#32 1#32 k) 128#32) (BitVec.ofNat 32 p.val)) 1#32) w')) = cnt w (128 * k + p.val))
    (p : Fin 144) (_ : p.val + 1 ≤ 144) : shares k w' V (ix2 p l) = ∑ i ∈ Finset.range 1, Ideal.div (d (128 * k + p.val + i)) (cnt w (128 * k + p.val + i)) := by
  rw [Finset.sum_range_one, Nat.add_zero, ← hV, ← hc]
  pointwise [shares]

/-- Sums of `m` rows become sums of twice as many. -/
theorem dbl_at (X : S144x128.Idx → EReal) (l : Fin 128) (f : ℕ → EReal) (m : ℕ) (n : BitVec 32) (hn : n.toNat = 144 - m) (hm : 0 < m ∧ m < 144)
    {b : ℕ} (hX : ∀ p : Fin 144, p.val + m ≤ 144 → X (ix2 p l) = ∑ i ∈ Finset.range m, f (b + p.val + i)) (p : Fin 144) (hp : p.val + 2 * m ≤ 144) :
    dbl n X (ix2 p l) = ∑ i ∈ Finset.range (2 * m), f (b + p.val + i) := by
  have e : dbl n X (ix2 p l) = X (ix2 p l) + X (ix2 ⟨p.val + m, by omega⟩ l) := by
    pointwise [dbl]
    refine congrArg (fun z => X (ix2 p l) + X (ix2 z l)) (Fin.ext ?_)
    simp only [hn]
    omega
  rw [e, hX p (by omega), hX _ (by simp only; omega), two_mul, Finset.sum_range_add]
  exact congrArg (_ + ·) (Finset.sum_congr rfl fun i _ => congrArg f (by simp only; omega))

theorem less_at (Z V : S144x128.Idx → EReal) (d : ℕ → EReal) (k w : ℕ) (hw : w ≤ 16) (q l : Fin 128) (hV : ∀ p : Fin 144, V (ix2 p l) = d (128 * k + p.val))
    (hZ : ∀ p : Fin 144, p.val + w ≤ 144 → Z (ix2 p l) = ∑ i ∈ Finset.range w, Ideal.div (d (128 * k + p.val + i)) (cnt w (128 * k + p.val + i))) :
    truncf (F := Ideal) .bf16 (subf (F := Ideal) (φ := .f32) (extractStridedSlice S128x128 ![0, 0] Z slices_S144x128_o0_0_S128x128) (extractStridedSlice S128x128 ![0, 0] V slices_S144x128_o0_0_S128x128)) bitsLt_bf16_f32 (ix2 q l)
      = win w d (128 * k + q.val) := by
  have hq := q.isLt
  unfold win
  rw [← hZ ⟨q.val, by omega⟩ (by simp only; omega), ← hV ⟨q.val, by omega⟩]
  pointwise []

/-- One step of the window of 2: the rows' shares of the means they enter, less the rows. -/
theorem pay13_at (V : S144x128.Idx → EReal) (k : Fin k0_t3_loop.trips) (hk : k.val < 16) (d : ℕ → EReal) (q l : Fin 128) (hV : ∀ p : Fin 144, V (ix2 p l) = d (128 * k.val + p.val)) :
    k0_pay13 (F := Ideal) k V (ix2 q l) = win 2 d (128 * k.val + q.val) :=
  less_at (dbl 143#32 (shares k.val 2#32 V)) V d k.val 2 (by norm_num) q l hV (dbl_at _ l (fun n => Ideal.div (d n) (cnt 2 n)) 1 143#32 rfl ⟨by norm_num, by norm_num⟩ (b := 128 * k.val) (shares_at k.val V l 2 2#32 d hV (fun p => congrArg (fun z : ℤ => (((z : ℝ)) : EReal)) (count_2 ⟨k.val, hk⟩ p))))

/-- One step of the window of 4: the rows' shares of the means they enter, less the rows. -/
theorem pay15_at (V : S144x128.Idx → EReal) (k : Fin k0_t5_loop.trips) (hk : k.val < 16) (d : ℕ → EReal) (q l : Fin 128) (hV : ∀ p : Fin 144, V (ix2 p l) = d (128 * k.val + p.val)) :
    k0_pay15 (F := Ideal) k V (ix2 q l) = win 4 d (128 * k.val + q.val) :=
  less_at (dbl 142#32 (dbl 143#32 (shares k.val 4#32 V))) V d k.val 4 (by norm_num) q l hV (dbl_at _ l (fun n => Ideal.div (d n) (cnt 4 n)) 2 142#32 rfl ⟨by norm_num, by norm_num⟩ (b := 128 * k.val) (dbl_at _ l (fun n => Ideal.div (d n) (cnt 4 n)) 1 143#32 rfl ⟨by norm_num, by norm_num⟩ (b := 128 * k.val) (shares_at k.val V l 4 4#32 d hV (fun p => congrArg (fun z : ℤ => (((z : ℝ)) : EReal)) (count_4 ⟨k.val, hk⟩ p)))))

/-- One step of the window of 8: the rows' shares of the means they enter, less the rows. -/
theorem pay17_at (V : S144x128.Idx → EReal) (k : Fin k0_t7_loop.trips) (hk : k.val < 16) (d : ℕ → EReal) (q l : Fin 128) (hV : ∀ p : Fin 144, V (ix2 p l) = d (128 * k.val + p.val)) :
    k0_pay17 (F := Ideal) k V (ix2 q l) = win 8 d (128 * k.val + q.val) :=
  less_at (dbl 140#32 (dbl 142#32 (dbl 143#32 (shares k.val 8#32 V)))) V d k.val 8 (by norm_num) q l hV (dbl_at _ l (fun n => Ideal.div (d n) (cnt 8 n)) 4 140#32 rfl ⟨by norm_num, by norm_num⟩ (b := 128 * k.val) (dbl_at _ l (fun n => Ideal.div (d n) (cnt 8 n)) 2 142#32 rfl ⟨by norm_num, by norm_num⟩ (b := 128 * k.val) (dbl_at _ l (fun n => Ideal.div (d n) (cnt 8 n)) 1 143#32 rfl ⟨by norm_num, by norm_num⟩ (b := 128 * k.val) (shares_at k.val V l 8 8#32 d hV (fun p => congrArg (fun z : ℤ => (((z : ℝ)) : EReal)) (count_8 ⟨k.val, hk⟩ p))))))

/-- One step of the window of 16: the rows' shares of the means they enter, less the rows. -/
theorem pay19_at (V : S144x128.Idx → EReal) (k : Fin k0_t9_loop.trips) (hk : k.val < 16) (d : ℕ → EReal) (q l : Fin 128) (hV : ∀ p : Fin 144, V (ix2 p l) = d (128 * k.val + p.val)) :
    k0_pay19 (F := Ideal) k V (ix2 q l) = win 16 d (128 * k.val + q.val) :=
  less_at (dbl 136#32 (dbl 140#32 (dbl 142#32 (dbl 143#32 (shares k.val 16#32 V))))) V d k.val 16 (by norm_num) q l hV (dbl_at _ l (fun n => Ideal.div (d n) (cnt 16 n)) 8 136#32 rfl ⟨by norm_num, by norm_num⟩ (b := 128 * k.val) (dbl_at _ l (fun n => Ideal.div (d n) (cnt 16 n)) 4 140#32 rfl ⟨by norm_num, by norm_num⟩ (b := 128 * k.val) (dbl_at _ l (fun n => Ideal.div (d n) (cnt 16 n)) 2 142#32 rfl ⟨by norm_num, by norm_num⟩ (b := 128 * k.val) (dbl_at _ l (fun n => Ideal.div (d n) (cnt 16 n)) 1 143#32 rfl ⟨by norm_num, by norm_num⟩ (b := 128 * k.val) (shares_at k.val V l 16 16#32 d hV (fun p => congrArg (fun z : ℤ => (((z : ℝ)) : EReal)) (count_16 ⟨k.val, hk⟩ p)))))))

end Payloads

section Blocks

variable (xw : S1x1x128x128.Idx → EReal) (xp xg xd dm : S2048x128.Idx → EReal) (xm : S2048x128.Idx → EReal) (xs : S1x1x128.Idx → EReal) (l : Fin 128)

/-- A row of a block of 128. -/
theorem chunk_at (X : S2048x128.Idx → EReal) (e : EltTy) (he : Elt Ideal e = EReal) (k : ℕ) (hk : k < 16) (q : Fin 128) :
    chunk (Val := fun _ => EReal) (e := e) 128 X (128 * k) (ix2 q l) = col X l (128 * k + q.val) := by
  rw [col_lt _ _ _ (by omega)]
  exact congrArg (fun z => X (ix2 z l)) (Fin.ext (Nat.mod_eq_of_lt (by simp; omega)))

theorem row_up (r : Fin 2048) : 128 * (r.val / 128) + (Fin.ofNat 128 r.val).val = r.val := by
  show 128 * (r.val / 128) + r.val % 128 = r.val
  omega

/-- The gradient of the gate, element by element. -/
theorem gDg_at (r : Fin 2048) : gDg (F := Ideal) xs xg xd xm (ix2 r l) = col xd l r.val * col xm l r.val * xs (ix3 0 0 l) * gate (col xg l r.val) := by
  refine (pay50_at _ _ _ _ _ _).trans ?_
  have e := fun X => chunk_at l X .f32 rfl (r.val / 128) (by omega) (Fin.ofNat 128 r.val)
  rw [row_up] at e
  exact congrArg₂ (fun p q : EReal => p * q) (congrArg₂ (fun p q : EReal => p * q) (congrArg₂ (fun p q : EReal => p * q) (e xd) (e xm)) rfl) (congrArg gate (e xg))

/-- The gradient of the mixed section, element by element. -/
theorem gDm_at (r : Fin 2048) : gDm (F := Ideal) xs xg xd (ix2 r l) = col xd l r.val * (col xg l r.val * sg (col xg l r.val)) * xs (ix3 0 0 l) := by
  refine (pay52_at _ _ _ _ _).trans ?_
  have e := fun X => chunk_at l X .f32 rfl (r.val / 128) (by omega) (Fin.ofNat 128 r.val)
  rw [row_up] at e
  exact congrArg₂ (fun p q : EReal => p * q) (congrArg₂ (fun p q : EReal => p * q) (e xd) (congrArg (fun p : EReal => p * sg p) (e xg))) rfl

/-- The scale's gradient down a column. -/
abbrev ds (n : ℕ) : EReal := col xd l n * (col xg l n * sg (col xg l n)) * col xm l n

theorem gAcc_at (k : ℕ) (hk : k ≤ 16) (s : Fin 8) : gAcc (F := Ideal) xg xd xm k (ix2 s l)
    = ∑ i ∈ Finset.range k, ∑ b : Fin 16, ds xg xd xm l (128 * i + (8 * b.val + s.val)) := by
  induction k with
  | zero => exact pay45_at s l
  | succ k ih =>
    refine (pay53_at _ _ _ _ _ _).trans ?_
    rw [Finset.sum_range_succ, ih (by omega)]
    refine congrArg (_ + ·) (Finset.sum_congr rfl fun b _ => ?_)
    have e := fun X => chunk_at l X .f32 rfl k (by omega) (⟨b.val * 8 + s.val, by omega⟩ : Fin 128)
    simp only [Nat.mul_comm b.val 8] at e ⊢
    exact congrArg₂ (fun p q : EReal => p * q) (congrArg₂ (fun p q : EReal => p * q) (e xd) (congrArg (fun p : EReal => p * sg p) (e xg))) (e xm)

/-- The scale's gradient is the sum down the column. -/
theorem gDs_at : gDs (F := Ideal) xg xd xm (ix2 0 l) = ∑ n ∈ Finset.range 2048, ds xg xd xm l n := by
  refine (pay54_at _ l).trans ?_
  rw [← sum_gate_rows (ds xg xd xm l)]
  exact Finset.sum_congr rfl fun s _ => gAcc_at _ _ _ _ 16 le_rfl s

/-- The gradient of the pooled section down a column, zero below its last row. -/
def dpc (n : ℕ) : EReal := if h : n < 2048 then ∑ k : Fin 128, dm (ix2 ⟨n, h⟩ k) * xw (ix4 0 0 l k) else 0

theorem gDp_at (n : Fin 2064) : gDp (F := Ideal) xw dm (ix2 n l) = dpc xw dm l n.val := by
  unfold gDp dpc
  by_cases h : n.val < 2048
  · rw [dif_pos h]
    exact (dif_pos h).trans (pay55_at _ _ _ _)
  · rw [dif_neg h]
    exact (dif_neg h).trans (pay56_at _ _)

/-- The gradient of a pooling group's section, element by element. -/
theorem gDu_at {T : ℕ} [NeZero T] (hT : T = 16) (w : ℕ) (pay : Fin T → Vec Ideal S144x128 .f32 → FVec Ideal S128x128 .bf16)
    (hp : ∀ (V : S144x128.Idx → EReal) (k : Fin T) (hk : k.val < 16) (d : ℕ → EReal) (q l : Fin 128) (hV : ∀ p : Fin 144, V (ix2 p l) = d (128 * k.val + p.val)), pay k V (ix2 q l) = win w d (128 * k.val + q.val))
    (r : Fin 2048) : gDu (F := Ideal) pay (gDp xw dm) (ix2 r l) = win w (dpc xw dm l) r.val := by
  have hr := r.isLt
  have hv : (Fin.ofNat T (r.val / 128)).val = r.val / 128 := Nat.mod_eq_of_lt (by omega)
  refine (hp _ _ (by omega) (dpc xw dm l) (Fin.ofNat 128 r.val) l fun p => ?_).trans ?_
  · refine (gDp_at xw dm l _).trans (congrArg _ ?_)
    show (Fin.ofNat 2064 (128 * (r.val / 128) + p.val)).val = 128 * (Fin.ofNat T (r.val / 128)).val + p.val
    rw [hv]
    exact Nat.mod_eq_of_lt (show 128 * (r.val / 128) + p.val < 2064 by omega)
  · show win w (dpc xw dm l) (128 * (Fin.ofNat T (r.val / 128)).val + (Fin.ofNat 128 r.val).val) = _
    rw [hv, row_up]

end Blocks

end Cert.MixKernelIdeal.Mix

end
-- ==== Proof.MixReal.lean ====
module

public import proofs.«01_k».proof.Proof.MixColumn

@[expose] public section

noncomputable section

namespace MixColumn

open Idealize.ShloMosaic

/-- The half's word. -/
theorem half_lit : half = ((1/2 : ℝ) : EReal) := by
  simp [half, Ideal.ofBits, Ideal.ieee, -EReal.coe_mul]; norm_num

/-- The sigmoid of a real is a real. -/
theorem sg_coe (a : ℝ) : sg (a : EReal) = ((1/2 * Real.tanh (1/2 * a) + 1/2 : ℝ) : EReal) := by
  unfold sg
  rw [half_lit, ← EReal.coe_mul, Ideal.tanh_coe, ← EReal.coe_mul, ← EReal.coe_add]

theorem sg_real {x : EReal} (hx : ∃ a : ℝ, x = (a : EReal)) : ∃ a : ℝ, sg x = (a : EReal) := by
  obtain ⟨a, rfl⟩ := hx
  exact ⟨_, sg_coe a⟩

/-- The half angle's formula: the sigmoid through the hyperbolic tangent is the sigmoid through the exponential. -/
theorem half_tanh (a : ℝ) : 1/2 * Real.tanh (1/2 * a) + 1/2 = 1 * (1 / (1 + Real.exp (-a))) := by
  have h1 : Real.exp a = Real.exp (1/2 * a) * Real.exp (1/2 * a) := by rw [← Real.exp_add]; congr 1; ring
  have hp := Real.exp_pos (1/2 * a)
  rw [Real.tanh_eq_sinh_div_cosh, Real.sinh_eq, Real.cosh_eq, Real.exp_neg, Real.exp_neg, h1]
  field_simp
  ring

/-- The sigmoid, written with the exponential. -/
theorem logistic {x : EReal} (hx : ∃ a : ℝ, x = (a : EReal)) : Ideal.div 1 (1 + Ideal.exp (-x)) = sg x := by
  obtain ⟨a, rfl⟩ := hx
  rw [sg_coe, half_tanh, ← EReal.coe_neg, Ideal.exp_coe, ← EReal.coe_one, ← EReal.coe_add, Ideal.div_coe (by have := Real.exp_pos (-a); positivity), ← EReal.coe_mul]

/-- The gate's gradient, its factor taken out. -/
theorem gate_split {z x : EReal} (hz : ∃ a : ℝ, z = (a : EReal)) (hx : ∃ a : ℝ, x = (a : EReal)) :
    z * sg x + x * z * (sg x * (1 - sg x)) = z * gate x := by
  obtain ⟨s, hs⟩ := sg_real hx
  obtain ⟨a, rfl⟩ := hx
  obtain ⟨b, rfl⟩ := hz
  unfold gate
  rw [hs]
  norm_cast
  ring

/-- The filter's terms in another order. -/
theorem conv_comm (w0 w1 w2 : EReal) (a : ℕ → EReal) (n : ℕ) : w0 * sh 2 a n + w1 * sh 1 a n + w2 * a n = conv w0 w1 w2 a n := by
  unfold conv; ac_rfl

theorem sh_real {k : ℕ} {a : ℕ → EReal} (h : ∀ n, ∃ b : ℝ, a n = (b : EReal)) (n : ℕ) : ∃ b : ℝ, sh k a n = (b : EReal) := by
  unfold sh
  split
  · exact h _
  · exact ⟨0, rfl⟩

theorem conv_real {w0 w1 w2 : EReal} {a : ℕ → EReal} (h0 : ∃ b : ℝ, w0 = (b : EReal)) (h1 : ∃ b : ℝ, w1 = (b : EReal)) (h2 : ∃ b : ℝ, w2 = (b : EReal))
    (h : ∀ n, ∃ b : ℝ, a n = (b : EReal)) (n : ℕ) : ∃ b : ℝ, conv w0 w1 w2 a n = (b : EReal) :=
  RmsGrad.add_real (RmsGrad.add_real (RmsGrad.mul_real h2 (h n)) (RmsGrad.mul_real h1 (sh_real h n))) (RmsGrad.mul_real h0 (sh_real h n))

end MixColumn

end
-- ==== Proof.MixRefConv.lean ====
module

public import proofs.«01_k».proof.Proof.Gen.MixReferenceIdeal.Read
public import proofs.«01_k».proof.Proof.MixReal
public import Idealize.ShloMosaic.Lib.Pipeline.ValueKit.Point
public import Idealize.ShloMosaic.Lib.ValueIdx

@[expose] public section

set_option maxRecDepth 16384

noncomputable section

namespace Cert.MixReferenceIdeal.Mix

open Idealize.ShloMosaic Idealize.ShloMosaic.TcCoe Idealize.SL.Sem
open Cert.MixReferenceIdeal.Read MixColumn

/-- Column `j` of the section of the projection that begins at column `b`; zero below the last row. -/
def pc (x0 : S2048x3072.Idx → EReal) (b : Fin 2561) (j : Fin 512) (n : ℕ) : EReal := if h : n < 2048 then x0 (ix2 ⟨n, h⟩ ⟨b.val + j.val, by omega⟩) else 0

/-- Column `j` of a gradient; zero below the last row. -/
def yc (x : S2048x512.Idx → EReal) (j : Fin 512) (n : ℕ) : EReal := if h : n < 2048 then x (ix2 ⟨n, h⟩ j) else 0

theorem pc_at (x0 : S2048x3072.Idx → EReal) (b : Fin 2561) (j : Fin 512) (r : Fin 2048) : pc x0 b j r = x0 (ix2 r ⟨b.val + j.val, by omega⟩) := dif_pos r.isLt
theorem yc_at (x : S2048x512.Idx → EReal) (j : Fin 512) (r : Fin 2048) : yc x j r = x (ix2 r j) := dif_pos r.isLt

variable (x0 : S2048x3072.Idx → EReal) (x1 : S2048x512.Idx → EReal) (x3 : S4x3x512.Idx → EReal) (r : Fin 2048) (j : Fin 512)

/-- The column the filter runs over. -/
def ra (n : ℕ) : EReal := pc x0 1024 j n * pc x0 0 j n

theorem v1_at : val_main_v1 (F := Ideal) x0 (ix2 r j) = pc x0 0 j r := by
  rw [pc_at]; pointwise [val_main_v1, val_main_v0]
theorem v3_at : val_main_v3 (F := Ideal) x0 (ix2 r j) = pc x0 512 j r := by
  rw [pc_at]; pointwise [val_main_v3, val_main_v2]
theorem v5_at : val_main_v5 (F := Ideal) x0 (ix2 r j) = pc x0 1024 j r := by
  rw [pc_at]; pointwise [val_main_v5, val_main_v4]
theorem v7_at : val_main_v7 (F := Ideal) x0 (ix2 r j) = pc x0 1536 j r := by
  rw [pc_at]; pointwise [val_main_v7, val_main_v6]
theorem v41_at : val_main_v41 (F := Ideal) x1 (ix2 r j) = yc x1 j r := by
  rw [yc_at]; pointwise [val_main_v41]
theorem v15_at : val_main_v15 (F := Ideal) x0 (ix2 r j) = ra x0 j r := by
  pointwise [val_main_v15]
  rw [v5_at, v1_at]; rfl
theorem v33_at : val_main_v33 (F := Ideal) x0 (ix2 r j) = ra x0 j r := by
  pointwise [val_main_v33, val_main_v16, val_main_v14]
  exact v15_at x0 r j

/-- A slice of the padded column is the column moved down. -/
theorem shifted (k : ℕ) (n : ℕ) (hn : n < 2048) (hk : k ≤ 2) (h' : ¬n + (2 - k) < 2 → n + (2 - k) - 2 < 2048) :
    (if h : n + (2 - k) < 2 then (0 : EReal) else val_main_v15 (F := Ideal) x0 (ix2 ⟨n + (2 - k) - 2, h' h⟩ j)) = sh k (ra x0 j) n := by
  unfold sh
  split
  · rw [if_neg (by omega)]
  · rw [if_pos (by omega), v15_at]
    exact congrArg (ra x0 j) (by show n + (2 - k) - 2 = n - k; omega)

theorem v26_at : val_main_v26 (F := Ideal) x0 (ix2 r j) = sh 1 (ra x0 j) r := by
  refine Eq.trans ?_ (shifted x0 j 1 r.val r.isLt (by decide) (fun _ => by omega))
  pointwise [val_main_v26, val_main_v16, val_main_v14, val_main_cst]
  simp only [Nat.add_comm 1]

theorem v20_at : val_main_v20 (F := Ideal) x0 (ix2 r j) = sh 2 (ra x0 j) r := by
  refine Eq.trans ?_ (shifted x0 j 2 r.val r.isLt (by decide) (fun _ => by omega))
  pointwise [val_main_v20, val_main_v16, val_main_v14, val_main_cst]

/-- The filter's output. -/
theorem v37_at : val_main_v37 (F := Ideal) x0 x3 (ix2 r j) = conv (x3 (ix3 3 0 j)) (x3 (ix3 3 1 j)) (x3 (ix3 3 2 j)) (ra x0 j) r := by
  pointwise [val_main_v37, val_main_v30, val_main_v23, val_main_v22, val_main_v21, val_main_v19, val_main_v18, val_main_v13, val_main_v12, val_main_v29, val_main_v28, val_main_v27, val_main_v25, val_main_v24, val_main_v36, val_main_v35, val_main_v34, val_main_v32, val_main_v31]
  rw [v20_at, v26_at, v33_at, conv_comm]

variable (h0 : ∀ a b, ∃ t : ℝ, x0 (ix2 a b) = (t : EReal)) (h1 : ∀ a b, ∃ t : ℝ, x1 (ix2 a b) = (t : EReal))
  (h3 : ∀ q b, ∃ t : ℝ, x3 (ix3 3 q b) = (t : EReal))

include h0 in
theorem pc_real (b : Fin 2561) (n : ℕ) : ∃ t : ℝ, pc x0 b j n = (t : EReal) := by
  unfold pc
  split
  · exact h0 _ _
  · exact ⟨0, rfl⟩

include h0 in
/-- The gate's sigmoid. -/
theorem v39_2_at : val_main_v39_2 (F := Ideal) x0 (ix2 r j) = sg (pc x0 1536 j r) := by
  pointwise [val_main_v39_2, val_main_call0_v4, val_main_call0_v3, val_main_call0_v2, val_main_call0_v1, val_main_call0_v0, val_main_call0_cst, val_main_call0_cst_0]
  rw [v7_at, logistic (pc_real x0 j h0 1536 r)]

include h0 in
/-- The gradient of the filter's output. -/
theorem v45_at : val_main_v45 (F := Ideal) x0 x1 (ix2 r j) = dcv (yc x1 j) (pc x0 512 j) (pc x0 1536 j) r := by
  pointwise [val_main_v45, val_main_v43, val_main_v39_0]
  rw [v39_2_at x0 r j h0, v3_at, v41_at, v7_at]
  unfold dcv; ac_rfl

/-- Below the last row the gradient is zero. -/
theorem dcv_out (n : ℕ) (hn : 2048 ≤ n) : dcv (yc x1 j) (pc x0 512 j) (pc x0 1536 j) n = 0 := by
  unfold dcv yc
  rw [dif_neg (by omega), zero_mul, zero_mul]

/-- A row of the filter's transpose, whether or not it lies in the array. -/
theorem tapped (w : EReal) (n : ℕ) (h : n < 2048 → n < 2048) (X : S2048x512.Idx → EReal)
    (hX : ∀ r : Fin 2048, X (ix2 r j) = w * dcv (yc x1 j) (pc x0 512 j) (pc x0 1536 j) r) :
    (if hn : n < 2048 then X (ix2 ⟨n, h hn⟩ j) else 0) = w * dcv (yc x1 j) (pc x0 512 j) (pc x0 1536 j) n := by
  split
  · exact hX _
  · rw [dcv_out x0 x1 j n (by omega), mul_zero]

include h0 in
theorem v48_at : val_main_v48 (F := Ideal) x0 x1 x3 (ix2 r j) = x3 (ix3 3 2 j) * dcv (yc x1 j) (pc x0 512 j) (pc x0 1536 j) r := by
  pointwise [val_main_v48, val_main_v47, val_main_v34, val_main_v32, val_main_v31, val_main_v13, val_main_v12]
  rw [v45_at x0 x1 r j h0]
include h0 in
theorem v57_at : val_main_v57 (F := Ideal) x0 x1 x3 (ix2 r j) = x3 (ix3 3 1 j) * dcv (yc x1 j) (pc x0 512 j) (pc x0 1536 j) r := by
  pointwise [val_main_v57, val_main_v56, val_main_v27, val_main_v25, val_main_v24, val_main_v13, val_main_v12]
  rw [v45_at x0 x1 r j h0]
include h0 in
theorem v68_at : val_main_v68 (F := Ideal) x0 x1 x3 (ix2 r j) = x3 (ix3 3 0 j) * dcv (yc x1 j) (pc x0 512 j) (pc x0 1536 j) r := by
  pointwise [val_main_v68, val_main_v67, val_main_v21, val_main_v19, val_main_v18, val_main_v13, val_main_v12]
  rw [v45_at x0 x1 r j h0]

include h0 in
/-- The filter's transpose. -/
theorem v79_at : val_main_v79 (F := Ideal) x0 x1 x3 (ix2 r j)
    = back (x3 (ix3 3 0 j)) (x3 (ix3 3 1 j)) (x3 (ix3 3 2 j)) (dcv (yc x1 j) (pc x0 512 j) (pc x0 1536 j)) r := by
  unfold back
  rw [← v48_at x0 x1 x3 r j h0, ← tapped x0 x1 j _ (r.val + 1) id _ (fun q => v57_at x0 x1 x3 q j h0),
    ← tapped x0 x1 j _ (r.val + 2) id _ (fun q => v68_at x0 x1 x3 q j h0)]
  pointwise [val_main_v79, val_main_v74, val_main_v73, val_main_v63, val_main_v53, val_main_v62, val_main_cst_7, val_main_cst_11]
  refine congrArg₂ (fun p q : EReal => p + q) (congrArg₂ (fun p q : EReal => p + q) rfl ?_) ?_
  · by_cases h : r.val + 1 < 2048
    · rw [dif_pos (by omega), dif_pos h]
      exact congrArg (fun z => val_main_v57 (F := Ideal) x0 x1 x3 (ix2 z j)) (Fin.ext (by show 2 + r.val - 1 = r.val + 1; omega))
    · rw [dif_neg (by omega), dif_neg h]
  · by_cases h : r.val + 2 < 2048
    · rw [dif_pos (by omega), dif_pos h]
      exact congrArg (fun z => val_main_v68 (F := Ideal) x0 x1 x3 (ix2 z j)) (Fin.ext (by show 2 + r.val = r.val + 2; omega))
    · rw [dif_neg (by omega), dif_neg h]

include h0 in
/-- The first result: the gradient of the filtered branch. -/
theorem v336_at : val_main_v336 (F := Ideal) x0 x1 x3 (ix2 r j)
    = back (x3 (ix3 3 0 j)) (x3 (ix3 3 1 j)) (x3 (ix3 3 2 j)) (dcv (yc x1 j) (pc x0 512 j) (pc x0 1536 j)) r * pc x0 1024 j r := by
  pointwise [val_main_v336, val_main_v80]
  rw [v79_at x0 x1 x3 r j h0, v5_at, mul_comm]

include h0 in
/-- The second result: the gradient of the multiplier after the filter. -/
theorem v337_at : val_main_v337 (F := Ideal) x0 x1 x3 (ix2 r j)
    = yc x1 j r * conv (x3 (ix3 3 0 j)) (x3 (ix3 3 1 j)) (x3 (ix3 3 2 j)) (ra x0 j) r * (pc x0 1536 j r * sg (pc x0 1536 j r)) := by
  pointwise [val_main_v337, val_main_v46, val_main_v43, val_main_v39_0]
  rw [v39_2_at x0 r j h0, v41_at, v7_at, v37_at]
  ac_rfl

include h0 in
/-- The third result: the gradient of the multiplier before the filter. -/
theorem v338_at : val_main_v338 (F := Ideal) x0 x1 x3 (ix2 r j)
    = back (x3 (ix3 3 0 j)) (x3 (ix3 3 1 j)) (x3 (ix3 3 2 j)) (dcv (yc x1 j) (pc x0 512 j) (pc x0 1536 j)) r * pc x0 0 j r := by
  pointwise [val_main_v338, val_main_v81]
  rw [v79_at x0 x1 x3 r j h0, v1_at]

include h0 h1 h3 in
/-- The fourth result: the gradient of the gate. -/
theorem v339_at : val_main_v339 (F := Ideal) x0 x1 x3 (ix2 r j)
    = yc x1 j r * conv (x3 (ix3 3 0 j)) (x3 (ix3 3 1 j)) (x3 (ix3 3 2 j)) (ra x0 j) r * pc x0 512 j r * gate (pc x0 1536 j r) := by
  have hv : ∃ t : ℝ, conv (x3 (ix3 3 0 j)) (x3 (ix3 3 1 j)) (x3 (ix3 3 2 j)) (ra x0 j) r = (t : EReal) :=
    conv_real (h3 0 j) (h3 1 j) (h3 2 j) (fun n => RmsGrad.mul_real (pc_real x0 j h0 1024 n) (pc_real x0 j h0 0 n)) r
  have hd : ∃ t : ℝ, yc x1 j r = (t : EReal) := (yc_at x1 j r).symm ▸ h1 r j
  rw [← gate_split (RmsGrad.mul_real (RmsGrad.mul_real hd hv) (pc_real x0 j h0 512 r)) (pc_real x0 j h0 1536 r)]
  pointwise [val_main_v339, val_main_v44, val_main_call1_v0, val_main_call1_v1, val_main_call1_v2, val_main_v42, val_main_v38, val_main_v39_1, val_main_call0_v7, val_main_call0_v6, val_main_call0_cst_1]
  rw [v39_2_at x0 r j h0, v41_at, v7_at, v37_at, v3_at]
  ac_rfl

/-- The seventh result is the filter's gradient regrouped. -/
theorem v343_at (k : Fin 4) (l : Fin 128) (q : Fin 3) : val_main_v343 (F := Ideal) x0 x1 (ix3 k q l) = val_main_v77 (F := Ideal) x0 x1 (ix2 q ⟨k.val * 128 + l.val, by omega⟩) := by
  pointwise [val_main_v343, val_main_v342]

include h0 in
/-- Its row for the last tap. -/
theorem v77_2 : val_main_v77 (F := Ideal) x0 x1 (ix2 2 j) = ∑ n ∈ Finset.range 2048, dcv (yc x1 j) (pc x0 512 j) (pc x0 1536 j) n * ra x0 j n := by
  rw [← Fin.sum_univ_eq_sum_range (fun n => dcv (yc x1 j) (pc x0 512 j) (pc x0 1536 j) n * ra x0 j n)]
  pointwise [val_main_v77, val_main_v76, val_main_v75, val_main_v72, val_main_v71, val_main_v70, val_main_v66, val_main_v55, val_main_v54, val_main_v52, val_main_v51, val_main_v50,
    val_main_v65, val_main_v64, val_main_v61, val_main_v60, val_main_v59, val_main_cst_1, val_main_cst_2, val_main_cst_4, val_main_cst_5, val_main_cst_6, val_main_cst_8, val_main_cst_9, val_main_cst_10, val_main_cst_12]
  simp only [Finset.univ_unique, Finset.sum_singleton, zero_add, add_zero]
  refine Finset.sum_congr rfl fun n _ => ?_
  pointwise [val_main_v49]
  rw [v45_at x0 x1 n j h0, v33_at]

include h0 in
/-- Its row for the middle tap. -/
theorem v77_1 : val_main_v77 (F := Ideal) x0 x1 (ix2 1 j) = ∑ n ∈ Finset.range 2048, dcv (yc x1 j) (pc x0 512 j) (pc x0 1536 j) n * sh 1 (ra x0 j) n := by
  rw [← Fin.sum_univ_eq_sum_range (fun n => dcv (yc x1 j) (pc x0 512 j) (pc x0 1536 j) n * sh 1 (ra x0 j) n)]
  pointwise [val_main_v77, val_main_v76, val_main_v75, val_main_v72, val_main_v71, val_main_v70, val_main_v66, val_main_v55, val_main_v54, val_main_v52, val_main_v51, val_main_v50,
    val_main_v65, val_main_v64, val_main_v61, val_main_v60, val_main_v59, val_main_cst_1, val_main_cst_2, val_main_cst_4, val_main_cst_5, val_main_cst_6, val_main_cst_8, val_main_cst_9, val_main_cst_10, val_main_cst_12]
  simp only [Finset.univ_unique, Finset.sum_singleton, zero_add, add_zero]
  refine Finset.sum_congr rfl fun n _ => ?_
  pointwise [val_main_v58]
  rw [v45_at x0 x1 n j h0, v26_at]

include h0 in
/-- Its row for the first tap. -/
theorem v77_0 : val_main_v77 (F := Ideal) x0 x1 (ix2 0 j) = ∑ n ∈ Finset.range 2048, dcv (yc x1 j) (pc x0 512 j) (pc x0 1536 j) n * sh 2 (ra x0 j) n := by
  rw [← Fin.sum_univ_eq_sum_range (fun n => dcv (yc x1 j) (pc x0 512 j) (pc x0 1536 j) n * sh 2 (ra x0 j) n)]
  pointwise [val_main_v77, val_main_v76, val_main_v75, val_main_v72, val_main_v71, val_main_v70, val_main_v66, val_main_v55, val_main_v54, val_main_v52, val_main_v51, val_main_v50,
    val_main_v65, val_main_v64, val_main_v61, val_main_v60, val_main_v59, val_main_cst_1, val_main_cst_2, val_main_cst_4, val_main_cst_5, val_main_cst_6, val_main_cst_8, val_main_cst_9, val_main_cst_10, val_main_cst_12]
  simp only [Finset.univ_unique, Finset.sum_singleton, zero_add, add_zero]
  refine Finset.sum_congr rfl fun n _ => ?_
  pointwise [val_main_v69]
  rw [v45_at x0 x1 n j h0, v20_at]

end Cert.MixReferenceIdeal.Mix

end
-- ==== Proof.MixRefPool.lean ====
module

public import proofs.«01_k».proof.Proof.MixRefConv

@[expose] public section

set_option maxRecDepth 16384

noncomputable section

namespace Cert.MixReferenceIdeal.Mix

open Idealize.ShloMosaic Idealize.ShloMosaic.TcCoe Idealize.SL.Sem
open Cert.MixReferenceIdeal.Read MixColumn

/-- The pooled section of group `k`. -/
def pooled (x0 : S2048x3072.Idx → EReal) : Fin 4 → S2048x128.Idx → EReal
  | 0 => val_main_v104 (F := Ideal) x0
  | 1 => val_main_v123 (F := Ideal) x0
  | 2 => val_main_v150 (F := Ideal) x0
  | 3 => val_main_v193 (F := Ideal) x0

/-- Column `l` of group `k`. -/
abbrev at4 (k : Fin 4) (l : Fin 128) : Fin 512 := ⟨128 * k.val + l.val, by omega⟩

variable (x0 : S2048x3072.Idx → EReal) (x2 : S2048x512.Idx → EReal) (x4 : S4x4x128x128.Idx → EReal) (x5 : S4x512.Idx → EReal) (r : Fin 2048) (j : Fin 512) (k : Fin 4) (l : Fin 128)

theorem v11_at : val_main_v11 (F := Ideal) x0 (ix2 r j) = pc x0 2560 j r := by
  rw [pc_at]; pointwise [val_main_v11, val_main_v10]
theorem v212_at : val_main_v212 (F := Ideal) x2 (ix2 r j) = yc x2 j r := by
  rw [yc_at]; pointwise [val_main_v212]

/-- A count as a format's word and the row number give it. -/
theorem count_at (w : ℕ) (b : BitVec 32) (hb : Ideal.ofBits FTy.f32 b = (((w : ℕ) : ℝ) : EReal)) :
    min (1 + FloatOps.sitofp (F := Ideal) FTy.f32 (BitVec.ofNat 32 r.val)) (Ideal.ofBits FTy.f32 b) = cnt w r := by
  have hr := r.isLt
  have e : FloatOps.sitofp (F := Ideal) FTy.f32 (BitVec.ofNat 32 r.val) = ((r.val : ℝ) : EReal) := by
    show ((((BitVec.ofNat 32 r.val).toInt : ℝ)) : EReal) = _
    have : (BitVec.ofNat 32 r.val).toInt = (r.val : ℤ) := by
      rw [BitVec.toInt_eq_toNat_of_lt (by simp [BitVec.toNat_ofNat]; omega), BitVec.toNat_ofNat, Nat.mod_eq_of_lt (by omega)]
    rw [this]; norm_cast
  rw [hb, e, ← EReal.coe_one, ← EReal.coe_add, ← EReal.coe_strictMono.monotone.map_min]
  unfold cnt
  congr 1
  push_cast
  rw [add_comm]

theorem lit2 : Ideal.ofBits FTy.f32 0x40000000#32 = (((2 : ℕ) : ℝ) : EReal) := by
  simp [Ideal.ofBits, Ideal.ieee, -EReal.coe_mul]; norm_num
/-- The counts of the window of 2. -/
theorem count2 : val_main_v101 (F := Ideal) (ix2 r 0) = cnt 2 r := by
  refine Eq.trans ?_ (count_at r 2 0x40000000#32 lit2)
  pointwise [val_main_v101, val_main_v93, val_main_v100, val_main_v92, val_main_cst_16, val_main_v91, val_main_v90, val_main_cst_13]

theorem lit4 : Ideal.ofBits FTy.f32 0x40800000#32 = (((4 : ℕ) : ℝ) : EReal) := by
  simp [Ideal.ofBits, Ideal.ieee, -EReal.coe_mul]; norm_num
/-- The counts of the window of 4. -/
theorem count4 : val_main_v120 (F := Ideal) (ix2 r 0) = cnt 4 r := by
  refine Eq.trans ?_ (count_at r 4 0x40800000#32 lit4)
  pointwise [val_main_v120, val_main_v108, val_main_v119, val_main_v107, val_main_cst_20, val_main_v106, val_main_v105, val_main_cst_17]

theorem lit8 : Ideal.ofBits FTy.f32 0x41000000#32 = (((8 : ℕ) : ℝ) : EReal) := by
  simp [Ideal.ofBits, Ideal.ieee, -EReal.coe_mul]; norm_num
/-- The counts of the window of 8. -/
theorem count8 : val_main_v147 (F := Ideal) (ix2 r 0) = cnt 8 r := by
  refine Eq.trans ?_ (count_at r 8 0x41000000#32 lit8)
  pointwise [val_main_v147, val_main_v127, val_main_v146, val_main_v126, val_main_cst_24, val_main_v125, val_main_v124, val_main_cst_21]

theorem lit16 : Ideal.ofBits FTy.f32 0x41800000#32 = (((16 : ℕ) : ℝ) : EReal) := by
  simp [Ideal.ofBits, Ideal.ieee, -EReal.coe_mul]; norm_num
/-- The counts of the window of 16. -/
theorem count16 : val_main_v190 (F := Ideal) (ix2 r 0) = cnt 16 r := by
  refine Eq.trans ?_ (count_at r 16 0x41800000#32 lit16)
  pointwise [val_main_v190, val_main_v154, val_main_v189, val_main_v153, val_main_cst_28, val_main_v152, val_main_v151, val_main_cst_25]

theorem cnt_pos (w n : ℕ) (hw : 0 < w) : (((min (n + 1) w : ℕ) : ℤ) : ℝ) ≠ 0 := by
  have : 0 < min (n + 1) w := by omega
  exact_mod_cast this.ne'

/-- A share of zero is zero. -/
theorem share_zero (w n : ℕ) (hw : 0 < w) : Ideal.div 0 (cnt w n) = 0 := by
  unfold cnt
  rw [Ideal.div_coe (cnt_pos w n hw), zero_mul]

theorem share_real (w n : ℕ) (hw : 0 < w) {x : EReal} (hx : ∃ t : ℝ, x = (t : EReal)) : ∃ t : ℝ, Ideal.div x (cnt w n) = (t : EReal) := by
  unfold cnt
  rw [Ideal.div_coe (cnt_pos w n hw)]
  exact RmsGrad.mul_real hx ⟨_, rfl⟩

theorem sub_real {x y : EReal} (hx : ∃ t : ℝ, x = (t : EReal)) (hy : ∃ t : ℝ, y = (t : EReal)) : ∃ t : ℝ, x - y = (t : EReal) := by
  obtain ⟨a, rfl⟩ := hx
  obtain ⟨b, rfl⟩ := hy
  exact ⟨a - b, (EReal.coe_sub a b).symm⟩

theorem if_real {p : Prop} [Decidable p] {f : ¬p → EReal} (h : ∀ n, ∃ t : ℝ, f n = (t : EReal)) : ∃ t : ℝ, (if q : p then (0 : EReal) else f q) = (t : EReal) := by
  split
  · exact ⟨0, rfl⟩
  · exact h _

section Reals

variable (h0 : ∀ a b, ∃ t : ℝ, x0 (ix2 a b) = (t : EReal)) (h4 : ∀ k a b, ∃ t : ℝ, x4 (ix4 3 k a b) = (t : EReal)) (h5 : ∀ b, ∃ t : ℝ, x5 (ix2 3 b) = (t : EReal))

include h0 in
theorem u0_real : ∃ t : ℝ, val_main_v86 (F := Ideal) x0 (ix2 r l) = (t : EReal) := by
  have hl := l.isLt
  have e : val_main_v86 (F := Ideal) x0 (ix2 r l) = pc x0 2048 (at4 0 l) r := by
    rw [pc_at]; pointwise [val_main_v86, val_main_v9, val_main_v8]
  rw [e]
  exact pc_real x0 _ h0 2048 r
include h0 in
/-- The pooled section of group 0 is real. -/
theorem pool0_real : ∃ t : ℝ, val_main_v104 (F := Ideal) x0 (ix2 r l) = (t : EReal) := by
  pointwise [val_main_v104, val_main_v103, val_main_v99, val_main_v102, val_main_v97, val_main_v98, val_main_v95, val_main_v94, val_main_cst_14]
  rw [count2]
  refine sub_real (share_real 2 r (by decide) ?_) (u0_real x0 r l h0)
  repeat' first | exact u0_real x0 _ l h0 | refine RmsGrad.add_real ?_ ?_ | refine if_real fun h => ?_

include h0 in
theorem u1_real : ∃ t : ℝ, val_main_v87 (F := Ideal) x0 (ix2 r l) = (t : EReal) := by
  have hl := l.isLt
  have e : val_main_v87 (F := Ideal) x0 (ix2 r l) = pc x0 2048 (at4 1 l) r := by
    rw [pc_at]; pointwise [val_main_v87, val_main_v9, val_main_v8]
  rw [e]
  exact pc_real x0 _ h0 2048 r
include h0 in
/-- The pooled section of group 1 is real. -/
theorem pool1_real : ∃ t : ℝ, val_main_v123 (F := Ideal) x0 (ix2 r l) = (t : EReal) := by
  pointwise [val_main_v123, val_main_v122, val_main_v118, val_main_v121, val_main_v116, val_main_v117, val_main_v114, val_main_v115, val_main_v110, val_main_v112, val_main_v113, val_main_v109, val_main_cst_18]
  rw [count4]
  refine sub_real (share_real 4 r (by decide) ?_) (u1_real x0 r l h0)
  repeat' first | exact u1_real x0 _ l h0 | refine RmsGrad.add_real ?_ ?_ | refine if_real fun h => ?_

include h0 in
theorem u2_real : ∃ t : ℝ, val_main_v88 (F := Ideal) x0 (ix2 r l) = (t : EReal) := by
  have hl := l.isLt
  have e : val_main_v88 (F := Ideal) x0 (ix2 r l) = pc x0 2048 (at4 2 l) r := by
    rw [pc_at]; pointwise [val_main_v88, val_main_v9, val_main_v8]
  rw [e]
  exact pc_real x0 _ h0 2048 r
include h0 in
/-- The pooled section of group 2 is real. -/
theorem pool2_real : ∃ t : ℝ, val_main_v150 (F := Ideal) x0 (ix2 r l) = (t : EReal) := by
  pointwise [val_main_v150, val_main_v149, val_main_v145, val_main_v148, val_main_v143, val_main_v144, val_main_v141, val_main_v142, val_main_v129, val_main_v139, val_main_v140, val_main_v128, val_main_v137, val_main_v138, val_main_cst_22, val_main_v135, val_main_v136, val_main_v133, val_main_v134, val_main_v131, val_main_v132]
  rw [count8]
  refine sub_real (share_real 8 r (by decide) ?_) (u2_real x0 r l h0)
  repeat' first | exact u2_real x0 _ l h0 | refine RmsGrad.add_real ?_ ?_ | refine if_real fun h => ?_

include h0 in
theorem u3_real : ∃ t : ℝ, val_main_v89 (F := Ideal) x0 (ix2 r l) = (t : EReal) := by
  have hl := l.isLt
  have e : val_main_v89 (F := Ideal) x0 (ix2 r l) = pc x0 2048 (at4 3 l) r := by
    rw [pc_at]; pointwise [val_main_v89, val_main_v9, val_main_v8]
  rw [e]
  exact pc_real x0 _ h0 2048 r
include h0 in
/-- The pooled section of group 3 is real. -/
theorem pool3_real : ∃ t : ℝ, val_main_v193 (F := Ideal) x0 (ix2 r l) = (t : EReal) := by
  pointwise [val_main_v193, val_main_v192, val_main_v188, val_main_v191, val_main_v186, val_main_v187, val_main_v184, val_main_v185, val_main_v156, val_main_v182, val_main_v183, val_main_v155, val_main_v180, val_main_v181, val_main_cst_26, val_main_v178, val_main_v179, val_main_v176, val_main_v177, val_main_v174, val_main_v175, val_main_v172, val_main_v173, val_main_v170, val_main_v171, val_main_v168, val_main_v169, val_main_v166, val_main_v167, val_main_v164, val_main_v165, val_main_v162, val_main_v163, val_main_v160, val_main_v161, val_main_v158, val_main_v159]
  rw [count16]
  refine sub_real (share_real 16 r (by decide) ?_) (u3_real x0 r l h0)
  repeat' first | exact u3_real x0 _ l h0 | refine RmsGrad.add_real ?_ ?_ | refine if_real fun h => ?_

include h0 in
/-- The pooled sections are real. -/
theorem pooled_real : ∃ t : ℝ, pooled x0 k (ix2 r l) = (t : EReal) := by
  fin_cases k
  · exact pool0_real x0 r l h0
  · exact pool1_real x0 r l h0
  · exact pool2_real x0 r l h0
  · exact pool3_real x0 r l h0

/-- The mixed section down a column. -/
def mixed : EReal := ∑ a : Fin 128, pooled x0 k (ix2 r a) * x4 (ix4 3 k a l)

include h0 h4 in
theorem mixed_real : ∃ t : ℝ, mixed x0 x4 r k l = (t : EReal) :=
  RmsGrad.sum_real _ fun a => RmsGrad.mul_real (pooled_real x0 r k a h0) (h4 k a l)

theorem mix0_at : val_main_v196 (F := Ideal) x0 x4 (ix2 r l) = mixed x0 x4 r 0 l := by
  pointwise [val_main_v196, val_main_v195, val_main_v194, val_main_v83, val_main_v82]
  rfl
theorem mix1_at : val_main_v199 (F := Ideal) x0 x4 (ix2 r l) = mixed x0 x4 r 1 l := by
  pointwise [val_main_v199, val_main_v198, val_main_v197, val_main_v83, val_main_v82]
  rfl
theorem mix2_at : val_main_v202 (F := Ideal) x0 x4 (ix2 r l) = mixed x0 x4 r 2 l := by
  pointwise [val_main_v202, val_main_v201, val_main_v200, val_main_v83, val_main_v82]
  rfl
theorem mix3_at : val_main_v205 (F := Ideal) x0 x4 (ix2 r l) = mixed x0 x4 r 3 l := by
  pointwise [val_main_v205, val_main_v204, val_main_v203, val_main_v83, val_main_v82]
  rfl

/-- The four mixed sections side by side. -/
theorem v206_at : val_main_v206 (F := Ideal) x0 x4 (ix2 r (at4 k l)) = mixed x0 x4 r k l := by
  have hl := l.isLt
  fin_cases k
  · refine Eq.trans ?_ (mix0_at x0 x4 r l)
    pointwise [val_main_v206]
  · refine Eq.trans ?_ (mix1_at x0 x4 r l)
    pointwise [val_main_v206]
  · refine Eq.trans ?_ (mix2_at x0 x4 r l)
    pointwise [val_main_v206]
    rw [dif_neg (by omega), dif_neg (by omega), dif_pos (by omega)]
    exact congrArg (fun z => val_main_v202 (F := Ideal) x0 x4 (ix2 r z)) (Fin.ext (by show 256 + l.val - 128 - 128 = l.val; omega))
  · refine Eq.trans ?_ (mix3_at x0 x4 r l)
    pointwise [val_main_v206]
    rw [dif_neg (by omega), dif_neg (by omega), dif_neg (by omega)]
    exact congrArg (fun z => val_main_v205 (F := Ideal) x0 x4 (ix2 r z)) (Fin.ext (by show 384 + l.val - 128 - 128 - 128 = l.val; omega))

include h0 in
theorem v210_2_at : val_main_v210_2 (F := Ideal) x0 (ix2 r j) = sg (pc x0 2560 j r) := by
  pointwise [val_main_v210_2, val_main_call2_v4, val_main_call2_v3, val_main_call2_v2, val_main_call2_v1, val_main_call2_v0, val_main_call2_cst, val_main_call2_cst_0]
  rw [v11_at, logistic (pc_real x0 j h0 2560 r)]

/-- The gradient of the mixed section down a column. -/
def gdm (n : ℕ) : EReal := yc x2 j n * (pc x0 2560 j n * sg (pc x0 2560 j n)) * x5 (ix2 3 j)

include h0 in
theorem v220_at : val_main_v220 (F := Ideal) x0 x2 x5 (ix2 r j) = gdm x0 x2 x5 j r := by
  pointwise [val_main_v220, val_main_v219, val_main_v207, val_main_v85, val_main_v84, val_main_v214, val_main_v210_0]
  rw [v210_2_at x0 r j h0, v11_at, v212_at]
  rfl

end Reals

end Cert.MixReferenceIdeal.Mix

end
-- ==== Proof.MixRefGrad.lean ====
module

public import proofs.«01_k».proof.Proof.MixRefPool

@[expose] public section

set_option maxRecDepth 16384

noncomputable section

namespace Cert.MixReferenceIdeal.Mix

open Idealize.ShloMosaic Idealize.ShloMosaic.TcCoe Idealize.SL.Sem
open Cert.MixReferenceIdeal.Read MixColumn

variable (x0 : S2048x3072.Idx → EReal) (x2 : S2048x512.Idx → EReal) (x4 : S4x4x128x128.Idx → EReal) (x5 : S4x512.Idx → EReal) (r : Fin 2048) (j : Fin 512) (k : Fin 4) (l : Fin 128)

/-- The gradient of group `k`'s pooled section down a column, zero below the last row. -/
def gdp (n : ℕ) : EReal := if n < 2048 then ∑ a : Fin 128, gdm x0 x2 x5 (at4 k a) n * x4 (ix4 3 k l a) else 0

theorem gdp_at : gdp x0 x2 x4 x5 k l r = ∑ a : Fin 128, gdm x0 x2 x5 (at4 k a) r * x4 (ix4 3 k l a) := if_pos r.isLt

/-- What a row sends to each row of its window. -/
def shr (w n : ℕ) : EReal := Ideal.div (gdp x0 x2 x4 x5 k l n) (cnt w n)

theorem shr_out (w n : ℕ) (hw : 0 < w) (hn : 2048 ≤ n) : shr x0 x2 x4 x5 k l w n = 0 := by
  unfold shr gdp
  rw [if_neg (by omega), share_zero w n hw]

section Pads

variable (X : S2048x128.Idx → EReal) (q : ℕ → EReal) (hX : ∀ r : Fin 2048, X (ix2 r l) = q r) (hq : ∀ n, 2048 ≤ n → q n = 0)

include hX hq in
/-- A row of an array padded by `a` rows above and enough below. -/
theorem pad_at (A a n : ℕ) (ha : a ≤ A) (h' : a ≤ A + n ∧ A + n - a < 2048 → A + n - a < 2048) :
    (if h : a ≤ A + n ∧ A + n - a < 2048 then X (ix2 ⟨A + n - a, h' h⟩ l) else 0) = q (n + (A + 1 - 1 - a)) := by
  have e : n + (A + 1 - 1 - a) = A + n - a := by omega
  rw [e]
  split
  · exact hX _
  · exact (hq _ (by omega)).symm

include hX hq in
/-- A row of an array padded below only. -/
theorem pad_top (A n : ℕ) (h' : A + n < 2048 → A + n < 2048) :
    (if h : A + n < 2048 then X (ix2 ⟨A + n, h' h⟩ l) else 0) = q (n + (A + 1 - 1 - 0)) := by
  have e : n + (A + 1 - 1 - 0) = A + n := by omega
  rw [e]
  split
  · exact hX _
  · exact (hq _ (by omega)).symm

end Pads

/-- The window's sum taken from its far end, the row itself first. -/
theorem window (w n : ℕ) (d : ℕ → EReal) : -d n + ∑ i ∈ Finset.range w, Ideal.div (d (n + (w - 1 - i))) (cnt w (n + (w - 1 - i))) = win w d n := by
  unfold win
  rw [Finset.sum_range_reflect (fun i => Ideal.div (d (n + i)) (cnt w (n + i))) w, sub_eq_add_neg, add_comm]

variable (h0 : ∀ a b, ∃ t : ℝ, x0 (ix2 a b) = (t : EReal)) (h2 : ∀ a b, ∃ t : ℝ, x2 (ix2 a b) = (t : EReal)) (h4 : ∀ k a b, ∃ t : ℝ, x4 (ix4 3 k a b) = (t : EReal)) (h5 : ∀ b, ∃ t : ℝ, x5 (ix2 3 b) = (t : EReal))

include h0 in
theorem dm0_at : val_main_v222 (F := Ideal) x0 x2 x5 (ix2 r l) = gdm x0 x2 x5 (at4 0 l) r := by
  have hl := l.isLt
  refine Eq.trans ?_ (v220_at x0 x2 x5 r (at4 0 l) h0)
  pointwise [val_main_v222]
  exact congrArg (fun z => val_main_v220 (F := Ideal) x0 x2 x5 (ix2 r z)) (Fin.ext (by show l.val = 128 * 0 + l.val; omega))
include h0 in
/-- The gradient of group 0's pooled section. -/
theorem dp0_at : val_main_v245 (F := Ideal) x0 x2 x4 x5 (ix2 r l) = gdp x0 x2 x4 x5 0 l r := by
  rw [gdp_at]
  pointwise [val_main_v245, val_main_v195, val_main_v194, val_main_v83, val_main_v82]
  exact Finset.sum_congr rfl fun a _ => congrArg₂ (fun p q : EReal => p * q) (dm0_at x0 x2 x5 r a h0) rfl
include h0 in
theorem sh0_at : val_main_v322 (F := Ideal) x0 x2 x4 x5 (ix2 r l) = shr x0 x2 x4 x5 0 l 2 r := by
  pointwise [val_main_v322, val_main_v321]
  rw [count2, dp0_at x0 x2 x4 x5 r l h0]
  rfl
include h0 in
/-- The gradient of group 0's section. -/
theorem du0_at : val_main_v328 (F := Ideal) x0 x2 x4 x5 (ix2 r l) = win 2 (gdp x0 x2 x4 x5 0 l) r := by
  have hX := fun r => sh0_at x0 x2 x4 x5 r l h0
  have hq := fun n => shr_out x0 x2 x4 x5 0 l 2 n (by decide)
  rw [← window]
  simp only [Finset.sum_range_succ, Finset.sum_range_zero, zero_add]
  pointwise [val_main_v328, val_main_v320, val_main_v327, val_main_v325, val_main_v323, val_main_v324, val_main_cst_63, val_main_cst_64]
  rw [dp0_at x0 x2 x4 x5 r l h0, pad_top l _ _ hX hq 1 r.val id, hX]
  rfl

include h0 in
theorem dm1_at : val_main_v223 (F := Ideal) x0 x2 x5 (ix2 r l) = gdm x0 x2 x5 (at4 1 l) r := by
  have hl := l.isLt
  refine Eq.trans ?_ (v220_at x0 x2 x5 r (at4 1 l) h0)
  pointwise [val_main_v223]
  exact congrArg (fun z => val_main_v220 (F := Ideal) x0 x2 x5 (ix2 r z)) (Fin.ext (by show 128 + l.val = 128 * 1 + l.val; omega))
include h0 in
/-- The gradient of group 1's pooled section. -/
theorem dp1_at : val_main_v239 (F := Ideal) x0 x2 x4 x5 (ix2 r l) = gdp x0 x2 x4 x5 1 l r := by
  rw [gdp_at]
  pointwise [val_main_v239, val_main_v198, val_main_v197, val_main_v83, val_main_v82]
  exact Finset.sum_congr rfl fun a _ => congrArg₂ (fun p q : EReal => p * q) (dm1_at x0 x2 x5 r a h0) rfl
include h0 in
theorem sh1_at : val_main_v309 (F := Ideal) x0 x2 x4 x5 (ix2 r l) = shr x0 x2 x4 x5 1 l 4 r := by
  pointwise [val_main_v309, val_main_v308]
  rw [count4, dp1_at x0 x2 x4 x5 r l h0]
  rfl
include h0 in
/-- The gradient of group 1's section. -/
theorem du1_at : val_main_v319 (F := Ideal) x0 x2 x4 x5 (ix2 r l) = win 4 (gdp x0 x2 x4 x5 1 l) r := by
  have hX := fun r => sh1_at x0 x2 x4 x5 r l h0
  have hq := fun n => shr_out x0 x2 x4 x5 1 l 4 n (by decide)
  rw [← window]
  simp only [Finset.sum_range_succ, Finset.sum_range_zero, zero_add]
  pointwise [val_main_v319, val_main_v307, val_main_v318, val_main_v316, val_main_v314, val_main_v315, val_main_v312, val_main_v313, val_main_cst_62, val_main_v310, val_main_v311, val_main_cst_61, val_main_cst_59, val_main_cst_60]
  rw [dp1_at x0 x2 x4 x5 r l h0, pad_top l _ _ hX hq 3 r.val id, pad_at l _ _ hX hq 3 1 r.val (by decide) And.right, pad_at l _ _ hX hq 3 2 r.val (by decide) And.right, hX]
  rfl

include h0 in
theorem dm2_at : val_main_v224 (F := Ideal) x0 x2 x5 (ix2 r l) = gdm x0 x2 x5 (at4 2 l) r := by
  have hl := l.isLt
  refine Eq.trans ?_ (v220_at x0 x2 x5 r (at4 2 l) h0)
  pointwise [val_main_v224]
  exact congrArg (fun z => val_main_v220 (F := Ideal) x0 x2 x5 (ix2 r z)) (Fin.ext (by show 256 + l.val = 128 * 2 + l.val; omega))
include h0 in
/-- The gradient of group 2's pooled section. -/
theorem dp2_at : val_main_v233 (F := Ideal) x0 x2 x4 x5 (ix2 r l) = gdp x0 x2 x4 x5 2 l r := by
  rw [gdp_at]
  pointwise [val_main_v233, val_main_v201, val_main_v200, val_main_v83, val_main_v82]
  exact Finset.sum_congr rfl fun a _ => congrArg₂ (fun p q : EReal => p * q) (dm2_at x0 x2 x5 r a h0) rfl
include h0 in
theorem sh2_at : val_main_v288 (F := Ideal) x0 x2 x4 x5 (ix2 r l) = shr x0 x2 x4 x5 2 l 8 r := by
  pointwise [val_main_v288, val_main_v287]
  rw [count8, dp2_at x0 x2 x4 x5 r l h0]
  rfl
include h0 in
/-- The gradient of group 2's section. -/
theorem du2_at : val_main_v306 (F := Ideal) x0 x2 x4 x5 (ix2 r l) = win 8 (gdp x0 x2 x4 x5 2 l) r := by
  have hX := fun r => sh2_at x0 x2 x4 x5 r l h0
  have hq := fun n => shr_out x0 x2 x4 x5 2 l 8 n (by decide)
  rw [← window]
  simp only [Finset.sum_range_succ, Finset.sum_range_zero, zero_add]
  pointwise [val_main_v306, val_main_v286, val_main_v305, val_main_v303, val_main_v301, val_main_v302, val_main_v299, val_main_v300, val_main_cst_58, val_main_v297, val_main_v298, val_main_cst_57, val_main_v295, val_main_v296, val_main_cst_56, val_main_v293, val_main_v294, val_main_cst_55, val_main_v291, val_main_v292, val_main_cst_54, val_main_v289, val_main_v290, val_main_cst_53, val_main_cst_51, val_main_cst_52]
  rw [dp2_at x0 x2 x4 x5 r l h0, pad_top l _ _ hX hq 7 r.val id, pad_at l _ _ hX hq 7 1 r.val (by decide) And.right, pad_at l _ _ hX hq 7 2 r.val (by decide) And.right, pad_at l _ _ hX hq 7 3 r.val (by decide) And.right, pad_at l _ _ hX hq 7 4 r.val (by decide) And.right, pad_at l _ _ hX hq 7 5 r.val (by decide) And.right, pad_at l _ _ hX hq 7 6 r.val (by decide) And.right, hX]
  rfl

include h0 in
theorem dm3_at : val_main_v225 (F := Ideal) x0 x2 x5 (ix2 r l) = gdm x0 x2 x5 (at4 3 l) r := by
  have hl := l.isLt
  refine Eq.trans ?_ (v220_at x0 x2 x5 r (at4 3 l) h0)
  pointwise [val_main_v225]
  exact congrArg (fun z => val_main_v220 (F := Ideal) x0 x2 x5 (ix2 r z)) (Fin.ext (by show 384 + l.val = 128 * 3 + l.val; omega))
include h0 in
/-- The gradient of group 3's pooled section. -/
theorem dp3_at : val_main_v228 (F := Ideal) x0 x2 x4 x5 (ix2 r l) = gdp x0 x2 x4 x5 3 l r := by
  rw [gdp_at]
  pointwise [val_main_v228, val_main_v204, val_main_v203, val_main_v83, val_main_v82]
  exact Finset.sum_congr rfl fun a _ => congrArg₂ (fun p q : EReal => p * q) (dm3_at x0 x2 x5 r a h0) rfl
include h0 in
theorem sh3_at : val_main_v251 (F := Ideal) x0 x2 x4 x5 (ix2 r l) = shr x0 x2 x4 x5 3 l 16 r := by
  pointwise [val_main_v251, val_main_v250]
  rw [count16, dp3_at x0 x2 x4 x5 r l h0]
  rfl
include h0 in
/-- The gradient of group 3's section. -/
theorem du3_at : val_main_v285 (F := Ideal) x0 x2 x4 x5 (ix2 r l) = win 16 (gdp x0 x2 x4 x5 3 l) r := by
  have hX := fun r => sh3_at x0 x2 x4 x5 r l h0
  have hq := fun n => shr_out x0 x2 x4 x5 3 l 16 n (by decide)
  rw [← window]
  simp only [Finset.sum_range_succ, Finset.sum_range_zero, zero_add]
  pointwise [val_main_v285, val_main_v249, val_main_v284, val_main_v282, val_main_v280, val_main_v281, val_main_v278, val_main_v279, val_main_cst_50, val_main_v276, val_main_v277, val_main_cst_49, val_main_v274, val_main_v275, val_main_cst_48, val_main_v272, val_main_v273, val_main_cst_47, val_main_v270, val_main_v271, val_main_cst_46, val_main_v268, val_main_v269, val_main_cst_45, val_main_v266, val_main_v267, val_main_cst_44, val_main_v264, val_main_v265, val_main_cst_43, val_main_v262, val_main_v263, val_main_cst_42, val_main_v260, val_main_v261, val_main_cst_41, val_main_v258, val_main_v259, val_main_cst_40, val_main_v256, val_main_v257, val_main_cst_39, val_main_v254, val_main_v255, val_main_cst_38, val_main_v252, val_main_v253, val_main_cst_37, val_main_cst_35, val_main_cst_36]
  rw [dp3_at x0 x2 x4 x5 r l h0, pad_top l _ _ hX hq 15 r.val id, pad_at l _ _ hX hq 15 1 r.val (by decide) And.right, pad_at l _ _ hX hq 15 2 r.val (by decide) And.right, pad_at l _ _ hX hq 15 3 r.val (by decide) And.right, pad_at l _ _ hX hq 15 4 r.val (by decide) And.right, pad_at l _ _ hX hq 15 5 r.val (by decide) And.right, pad_at l _ _ hX hq 15 6 r.val (by decide) And.right, pad_at l _ _ hX hq 15 7 r.val (by decide) And.right, pad_at l _ _ hX hq 15 8 r.val (by decide) And.right, pad_at l _ _ hX hq 15 9 r.val (by decide) And.right, pad_at l _ _ hX hq 15 10 r.val (by decide) And.right, pad_at l _ _ hX hq 15 11 r.val (by decide) And.right, pad_at l _ _ hX hq 15 12 r.val (by decide) And.right, pad_at l _ _ hX hq 15 13 r.val (by decide) And.right, pad_at l _ _ hX hq 15 14 r.val (by decide) And.right, hX]
  rfl

include h0 in
/-- The fifth result: the gradients of the four sections side by side. -/
theorem v340_at : val_main_v340 (F := Ideal) x0 x2 x4 x5 (ix2 r (at4 k l)) = win (![2, 4, 8, 16] k) (gdp x0 x2 x4 x5 k l) r := by
  have hl := l.isLt
  fin_cases k
  · refine Eq.trans ?_ (du0_at x0 x2 x4 x5 r l h0)
    pointwise [val_main_v340, val_main_v335, val_main_v334, val_main_v333, val_main_v332, val_main_v331, val_main_v330, val_main_v329, val_main_cst_65, val_main_cst_66, val_main_cst_67, val_main_cst_68]
    rw [dif_neg (by omega), dif_neg (by omega), dif_neg (fun h => h.1)]
    simp only [zero_add, add_zero, Nat.add_sub_cancel_left, Fin.eta]
  · refine Eq.trans ?_ (du1_at x0 x2 x4 x5 r l h0)
    pointwise [val_main_v340, val_main_v335, val_main_v334, val_main_v333, val_main_v332, val_main_v331, val_main_v330, val_main_v329, val_main_cst_65, val_main_cst_66, val_main_cst_67, val_main_cst_68]
    repeat' first | rw [dif_neg (by omega)] | rw [dif_pos (by omega)]
    simp only [zero_add, add_zero, Nat.add_sub_cancel_left, Fin.eta]
  · refine Eq.trans ?_ (du2_at x0 x2 x4 x5 r l h0)
    pointwise [val_main_v340, val_main_v335, val_main_v334, val_main_v333, val_main_v332, val_main_v331, val_main_v330, val_main_v329, val_main_cst_65, val_main_cst_66, val_main_cst_67, val_main_cst_68]
    repeat' first | rw [dif_neg (by omega)] | rw [dif_pos (by omega)]
    simp only [zero_add, add_zero, Nat.add_sub_cancel_left, Fin.eta]
  · refine Eq.trans ?_ (du3_at x0 x2 x4 x5 r l h0)
    pointwise [val_main_v340, val_main_v335, val_main_v334, val_main_v333, val_main_v332, val_main_v331, val_main_v330, val_main_v329, val_main_cst_65, val_main_cst_66, val_main_cst_67, val_main_cst_68]
    repeat' first | rw [dif_neg (by omega)] | rw [dif_pos (by omega)]
    simp only [zero_add, add_zero, Nat.add_sub_cancel_left, Fin.eta]

include h0 h2 h5 in
theorem v341_row (hm : ∃ t : ℝ, val_main_v206 (F := Ideal) x0 x4 (ix2 r j) = (t : EReal)) : val_main_v341 (F := Ideal) x0 x2 x4 x5 (ix2 r j)
    = yc x2 j r * val_main_v206 (F := Ideal) x0 x4 (ix2 r j) * x5 (ix2 3 j) * gate (pc x0 2560 j r) := by
  have hd : ∃ t : ℝ, yc x2 j r = (t : EReal) := (yc_at x2 j r).symm ▸ h2 r j
  rw [← gate_split (RmsGrad.mul_real (RmsGrad.mul_real hd hm) (h5 _)) (pc_real x0 j h0 2560 r)]
  pointwise [val_main_v341, val_main_v215, val_main_call3_v0, val_main_call3_v1, val_main_call3_v2, val_main_v213, val_main_v209, val_main_v208, val_main_v207, val_main_v85, val_main_v84, val_main_v210_1, val_main_call2_v7, val_main_call2_v6, val_main_call2_cst_1]
  rw [v210_2_at x0 r _ h0, v212_at, v11_at]
  ac_rfl

include h0 h2 h4 h5 in
/-- The sixth result: the gradient of the gate. -/
theorem v341_at : val_main_v341 (F := Ideal) x0 x2 x4 x5 (ix2 r (at4 k l))
    = yc x2 (at4 k l) r * mixed x0 x4 r k l * x5 (ix2 3 (at4 k l)) * gate (pc x0 2560 (at4 k l) r) := by
  have e := v206_at x0 x4 r k l
  rw [v341_row x0 x2 x4 x5 r (at4 k l) h0 h2 h5 (e ▸ mixed_real x0 x4 r k l h0 h4), e]

include h0 in
theorem v345_row : val_main_v345 (F := Ideal) x0 x2 x4 (ix2 0 j)
    = ∑ n : Fin 2048, yc x2 j n * (pc x0 2560 j n * sg (pc x0 2560 j n)) * val_main_v206 (F := Ideal) x0 x4 (ix2 n j) := by
  pointwise [val_main_v345, val_main_v221, val_main_v218, val_main_v217, val_main_cst_29, val_main_cst_30]
  simp only [Finset.univ_unique, Finset.sum_singleton, zero_add, add_zero]
  refine Finset.sum_congr rfl fun n _ => ?_
  pointwise [val_main_v216, val_main_v214, val_main_v210_0]
  rw [v210_2_at x0 n _ h0, v11_at, v212_at]
  ac_rfl

include h0 in
/-- The ninth result: the gradient of the scales. -/
theorem v345_at : val_main_v345 (F := Ideal) x0 x2 x4 (ix2 0 (at4 k l))
    = ∑ n : Fin 2048, yc x2 (at4 k l) n * (pc x0 2560 (at4 k l) n * sg (pc x0 2560 (at4 k l) n)) * mixed x0 x4 n k l := by
  rw [v345_row x0 x2 x4 (at4 k l) h0]
  simp only [v206_at]

include h0 in
/-- The eighth result: the gradient of the pooling's matrices. -/
theorem v344_at (a : Fin 128) : val_main_v344 (F := Ideal) x0 x2 x5 (ix3 k a l) = ∑ n : Fin 2048, pooled x0 k (ix2 n a) * gdm x0 x2 x5 (at4 k l) n := by
  have hl := l.isLt
  have ha := a.isLt
  fin_cases k
  · pointwise [val_main_v344, val_main_v248, val_main_v247, val_main_v246, val_main_v244, val_main_v243, val_main_v242, val_main_v241, val_main_v240, val_main_v238, val_main_v237, val_main_v236, val_main_v235, val_main_v234, val_main_v232, val_main_v231, val_main_v230, val_main_v229, val_main_v227, val_main_v226, val_main_cst_31, val_main_cst_32, val_main_cst_33, val_main_cst_34]
    refine Finset.sum_congr rfl fun n _ => (mul_comm _ _).trans ?_
    exact congrArg₂ (fun p q : EReal => p * q) rfl (dm0_at x0 x2 x5 n l h0)
  · pointwise [val_main_v344, val_main_v248, val_main_v247, val_main_v246, val_main_v244, val_main_v243, val_main_v242, val_main_v241, val_main_v240, val_main_v238, val_main_v237, val_main_v236, val_main_v235, val_main_v234, val_main_v232, val_main_v231, val_main_v230, val_main_v229, val_main_v227, val_main_v226, val_main_cst_31, val_main_cst_32, val_main_cst_33, val_main_cst_34]
    refine Finset.sum_congr rfl fun n _ => (mul_comm _ _).trans ?_
    exact congrArg₂ (fun p q : EReal => p * q) rfl (dm1_at x0 x2 x5 n l h0)
  · pointwise [val_main_v344, val_main_v248, val_main_v247, val_main_v246, val_main_v244, val_main_v243, val_main_v242, val_main_v241, val_main_v240, val_main_v238, val_main_v237, val_main_v236, val_main_v235, val_main_v234, val_main_v232, val_main_v231, val_main_v230, val_main_v229, val_main_v227, val_main_v226, val_main_cst_31, val_main_cst_32, val_main_cst_33, val_main_cst_34]
    refine Finset.sum_congr rfl fun n _ => (mul_comm _ _).trans ?_
    exact congrArg₂ (fun p q : EReal => p * q) rfl (dm2_at x0 x2 x5 n l h0)
  · pointwise [val_main_v344, val_main_v248, val_main_v247, val_main_v246, val_main_v244, val_main_v243, val_main_v242, val_main_v241, val_main_v240, val_main_v238, val_main_v237, val_main_v236, val_main_v235, val_main_v234, val_main_v232, val_main_v231, val_main_v230, val_main_v229, val_main_v227, val_main_v226, val_main_cst_31, val_main_cst_32, val_main_cst_33, val_main_cst_34]
    refine Finset.sum_congr rfl fun n _ => (mul_comm _ _).trans ?_
    exact congrArg₂ (fun p q : EReal => p * q) rfl (dm3_at x0 x2 x5 n l h0)

end Cert.MixReferenceIdeal.Mix

end
-- ==== Proof.MixElem.lean ====
module

public import proofs.«01_k».proof.Proof.MixArrays
public import proofs.«01_k».proof.Proof.MixConvValue
public import proofs.«01_k».proof.Proof.MixPoolValue
public import proofs.«01_k».proof.Proof.MixRefGrad

@[expose] public section

set_option maxRecDepth 16384

noncomputable section

namespace Cert.MixKernelIdeal.Mix

open Cert.MixKernelIdeal.Gen
open Idealize.ShloMosaic Idealize.ShloMosaic.TcCoe Idealize.SL.Sem
open MixColumn Cert.MixReferenceIdeal.Mix

/-- A block's column is the column of the projection it was cut from. -/
theorem col_pc (X : S2048x128.Idx → EReal) (x0 : S2048x3072.Idx → EReal) (b : Fin 2561) (k : Fin 4) (l : Fin 128)
    (h : ∀ n : Fin 2048, X (ix2 n l) = x0 (ix2 n ⟨b.val + (at4 k l).val, by omega⟩)) : col X l = pc x0 b (at4 k l) := by
  funext n
  unfold col pc
  split
  · exact h _
  · rfl

/-- A block's column is the column of the gradient it was cut from. -/
theorem col_yc (X : S2048x128.Idx → EReal) (x : S2048x512.Idx → EReal) (k : Fin 4) (l : Fin 128)
    (h : ∀ n : Fin 2048, X (ix2 n l) = x (ix2 n (at4 k l))) : col X l = yc x (at4 k l) := by
  funext n
  unfold col yc
  split
  · exact h _
  · rfl

variable (m : (ℓ : Loc nD τ sig) → Buf (Elt Ideal) ℓ) (c : Dev nD) (k : Fin 4) (l : Fin 128) (r : Fin 2048)

/-- The arguments on one device. -/
abbrev A0 : S2048x3072.Idx → EReal := m ((c : Thread nD τ).loc main_arg0)
abbrev A1 : S2048x512.Idx → EReal := m ((c : Thread nD τ).loc main_arg1)
abbrev A2 : S2048x512.Idx → EReal := m ((c : Thread nD τ).loc main_arg2)
abbrev A3 : S4x3x512.Idx → EReal := m ((c : Thread nD τ).loc main_arg3)
abbrev A4 : S4x4x128x128.Idx → EReal := m ((c : Thread nD τ).loc main_arg4)
abbrev A5 : S4x512.Idx → EReal := m ((c : Thread nD τ).loc main_arg5)

theorem col0 : col (iblk m c 0 (cPt k)) l = pc (A0 m c) 0 (at4 k l) :=
  col_pc _ _ 0 k l fun n => (blk0 m c k n l).trans (congrArg (fun q => A0 m c (ix2 n q)) (Fin.ext (by show 128 * (0 + k.val) + l.val = 0 + (128 * k.val + l.val); omega)))
theorem col1 : col (iblk m c 1 (cPt k)) l = pc (A0 m c) 512 (at4 k l) :=
  col_pc _ _ 512 k l fun n => (blk1 m c k n l).trans (congrArg (fun q => A0 m c (ix2 n q)) (Fin.ext (by show 128 * (4 + k.val) + l.val = 512 + (128 * k.val + l.val); omega)))
theorem col2 : col (iblk m c 2 (cPt k)) l = pc (A0 m c) 1024 (at4 k l) :=
  col_pc _ _ 1024 k l fun n => (blk2 m c k n l).trans (congrArg (fun q => A0 m c (ix2 n q)) (Fin.ext (by show 128 * (8 + k.val) + l.val = 1024 + (128 * k.val + l.val); omega)))
theorem col3 : col (iblk m c 3 (cPt k)) l = pc (A0 m c) 1536 (at4 k l) :=
  col_pc _ _ 1536 k l fun n => (blk3 m c k n l).trans (congrArg (fun q => A0 m c (ix2 n q)) (Fin.ext (by show 128 * (12 + k.val) + l.val = 1536 + (128 * k.val + l.val); omega)))
theorem col5 : col (iblk m c 5 (pPt k)) l = pc (A0 m c) 2560 (at4 k l) :=
  col_pc _ _ 2560 k l fun n => (blk5 m c k n l).trans (congrArg (fun q => A0 m c (ix2 n q)) (Fin.ext (by show 128 * (20 + k.val) + l.val = 2560 + (128 * k.val + l.val); omega)))
theorem col6 : col (iblk m c 6 (cPt k)) l = yc (A1 m c) (at4 k l) :=
  col_yc _ _ k l fun n => (blk6 m c k n l).trans (congrArg (fun q => A1 m c (ix2 n q)) (Fin.ext (by show 128 * (0 + k.val) + l.val = 128 * k.val + l.val; omega)))
theorem col7 : col (iblk m c 7 (pPt k)) l = yc (A2 m c) (at4 k l) :=
  col_yc _ _ k l fun n => (blk7 m c k n l).trans (congrArg (fun q => A2 m c (ix2 n q)) (Fin.ext (by show 128 * (0 + k.val) + l.val = 128 * k.val + l.val; omega)))

theorem tap_at (q : Fin 3) : tap (iblk m c 8 (cPt k)) q (ix4 0 0 0 l) = A3 m c (ix3 3 q (at4 k l)) :=
  (blk8 m c k q l).trans (congrArg (fun z => A3 m c (ix3 3 q z)) (Fin.ext (by show 128 * (0 + k.val) + l.val = 128 * k.val + l.val; omega)))
theorem scale_at : iblk m c 10 (pPt k) (ix3 0 0 l) = A5 m c (ix2 3 (at4 k l)) :=
  (blk10 m c k l).trans (congrArg (fun z => A5 m c (ix2 3 z)) (Fin.ext (by show 128 * (0 + k.val) + l.val = 128 * k.val + l.val; omega)))

theorem ca_eq : ca l (iblk m c 0 (cPt k)) (iblk m c 2 (cPt k)) = ra (A0 m c) (at4 k l) := by
  funext n; unfold ca ra; rw [col0, col2]
theorem dv_eq : dv l (iblk m c 1 (cPt k)) (iblk m c 3 (cPt k)) (iblk m c 6 (cPt k)) = dcv (yc (A1 m c) (at4 k l)) (pc (A0 m c) 512 (at4 k l)) (pc (A0 m c) 1536 (at4 k l)) := by
  funext n; unfold dv; rw [col1, col3, col6]

theorem cuAt_at : cuAt m c k (ix2 r l) = back (A3 m c (ix3 3 0 (at4 k l))) (A3 m c (ix3 3 1 (at4 k l))) (A3 m c (ix3 3 2 (at4 k l)))
    (dcv (yc (A1 m c) (at4 k l)) (pc (A0 m c) 512 (at4 k l)) (pc (A0 m c) 1536 (at4 k l))) r * pc (A0 m c) 1024 (at4 k l) r := by
  refine (cDu_at _ _ _ _ _ _ _ _ _ _).trans ?_
  rw [tap_at, tap_at, tap_at, dv_eq, col2]

theorem ccAt_at : ccAt m c k (ix2 r l) = back (A3 m c (ix3 3 0 (at4 k l))) (A3 m c (ix3 3 1 (at4 k l))) (A3 m c (ix3 3 2 (at4 k l)))
    (dcv (yc (A1 m c) (at4 k l)) (pc (A0 m c) 512 (at4 k l)) (pc (A0 m c) 1536 (at4 k l))) r * pc (A0 m c) 0 (at4 k l) r := by
  refine (cDc_at _ _ _ _ _ _ _ _ _ _).trans ?_
  rw [tap_at, tap_at, tap_at, dv_eq, col0]

theorem cbAt_at : cbAt m c k (ix2 r l) = yc (A1 m c) (at4 k l) r * conv (A3 m c (ix3 3 0 (at4 k l))) (A3 m c (ix3 3 1 (at4 k l))) (A3 m c (ix3 3 2 (at4 k l)))
    (ra (A0 m c) (at4 k l)) r * (pc (A0 m c) 1536 (at4 k l) r * sg (pc (A0 m c) 1536 (at4 k l) r)) := by
  refine (cDb_at _ _ _ _ _ _ _ _ _ _).trans ?_
  unfold cv
  rw [tap_at, tap_at, tap_at, ca_eq, col6, col3]

theorem cgAt_at : cgAt m c k (ix2 r l) = yc (A1 m c) (at4 k l) r * conv (A3 m c (ix3 3 0 (at4 k l))) (A3 m c (ix3 3 1 (at4 k l))) (A3 m c (ix3 3 2 (at4 k l)))
    (ra (A0 m c) (at4 k l)) r * pc (A0 m c) 512 (at4 k l) r * gate (pc (A0 m c) 1536 (at4 k l) r) := by
  refine (cDg_at _ _ _ _ _ _ _ _ _ _).trans ?_
  unfold cv
  rw [tap_at, tap_at, tap_at, ca_eq, col6, col3, col1]

/-- The filter's gradient at tap `q`: the column moved down by `2 - q`. -/
theorem cwAt_at (q : Fin 3) : cwAt m c k (ix3 0 q l) = ∑ n ∈ Finset.range 2048,
    dcv (yc (A1 m c) (at4 k l)) (pc (A0 m c) 512 (at4 k l)) (pc (A0 m c) 1536 (at4 k l)) n * (![sh 2 (ra (A0 m c) (at4 k l)), sh 1 (ra (A0 m c) (at4 k l)), ra (A0 m c) (at4 k l)] q) n := by
  fin_cases q
  · refine (cDw_0 _ _ _ _ _ _).trans ?_; rw [dv_eq, ca_eq]; rfl
  · refine (cDw_1 _ _ _ _ _ _).trans ?_; rw [dv_eq, ca_eq]; rfl
  · refine (cDw_2 _ _ _ _ _ _).trans ?_; rw [dv_eq, ca_eq]; rfl

section Pool

variable (hP : ∀ k n l, iblk m c 4 (pPt k) (ix2 n l) = pooled (A0 m c) k (ix2 n l))

/-- The gradient of the mixed section at point `k`. -/
theorem gDm_eq : gDm (F := Ideal) (iblk m c 10 (pPt k)) (iblk m c 5 (pPt k)) (iblk m c 7 (pPt k)) (ix2 r l) = gdm (A0 m c) (A2 m c) (A5 m c) (at4 k l) r := by
  refine (gDm_at _ _ _ _ _).trans ?_
  rw [col7, col5, scale_at]
  rfl

include hP in
/-- The mixed section at point `k`. -/
theorem gMixed_eq : gMixed (F := Ideal) (iblk m c 4 (pPt k)) (iblk m c 9 (pPt k)) (ix2 r l) = mixed (A0 m c) (A4 m c) r k l := by
  refine (gMixed_at _ _ _ _).trans (Finset.sum_congr rfl fun a _ => ?_)
  rw [hP, blk9]

include hP in
theorem pwAt_at (a : Fin 128) : pwAt m c k (ix3 0 a l) = ∑ n : Fin 2048, pooled (A0 m c) k (ix2 n a) * gdm (A0 m c) (A2 m c) (A5 m c) (at4 k l) n := by
  refine (gDw_at _ _ _ _).trans (Finset.sum_congr rfl fun n _ => ?_)
  rw [hP, gDm_eq]

include hP in
theorem pgAt_at : pgAt m c k (ix2 r l) = yc (A2 m c) (at4 k l) r * mixed (A0 m c) (A4 m c) r k l * A5 m c (ix2 3 (at4 k l)) * gate (pc (A0 m c) 2560 (at4 k l) r) := by
  refine (gDg_at _ _ _ _ _ _).trans ?_
  rw [col7, col5, scale_at, col_lt _ _ _ r.isLt, gMixed_eq m c k l _ hP]

include hP in
theorem psAt_at : psAt m c k (ix2 0 l) = ∑ n : Fin 2048, yc (A2 m c) (at4 k l) n * (pc (A0 m c) 2560 (at4 k l) n * sg (pc (A0 m c) 2560 (at4 k l) n)) * mixed (A0 m c) (A4 m c) n k l := by
  refine (gDs_at _ _ _ _).trans ((Fin.sum_univ_eq_sum_range _ 2048).symm.trans (Finset.sum_congr rfl fun n _ => ?_))
  unfold ds
  rw [col7, col5, col_lt _ _ _ n.isLt, gMixed_eq m c k l _ hP]

theorem dpc_eq : dpc (iblk m c 9 (pPt k)) (gDm (F := Ideal) (iblk m c 10 (pPt k)) (iblk m c 5 (pPt k)) (iblk m c 7 (pPt k))) l = gdp (A0 m c) (A2 m c) (A4 m c) (A5 m c) k l := by
  funext n
  unfold dpc gdp
  split
  · exact Finset.sum_congr rfl fun a _ => by rw [gDm_eq, blk9]
  · rfl

theorem puAt_at : puAt m c k (ix2 r l) = win (![2, 4, 8, 16] k) (gdp (A0 m c) (A2 m c) (A4 m c) (A5 m c) k l) r := by
  rw [← dpc_eq]
  fin_cases k
  · exact gDu_at _ _ l rfl 2 k0_pay13 pay13_at r
  · exact gDu_at _ _ l rfl 4 k0_pay15 pay15_at r
  · exact gDu_at _ _ l rfl 8 k0_pay17 pay17_at r
  · exact gDu_at _ _ l rfl 16 k0_pay19 pay19_at r

end Pool

end Cert.MixKernelIdeal.Mix

end
-- ==== Proof.MixRows.lean ====
module

public import proofs.«01_k».proof.Proof.MixElem

@[expose] public section

set_option maxRecDepth 16384

noncomputable section

namespace Cert.MixKernelIdeal.Mix

open Cert.MixKernelIdeal.Gen
open Idealize.ShloMosaic Idealize.ShloMosaic.TcCoe Idealize.SL.Sem
open MixColumn Cert.MixReferenceIdeal.Mix Cert.MixReferenceIdeal.Read

/-- An element of a wide array is named by its row, its group of 128 columns and its place in the group. -/
theorem wide_idx (i : S2048x512.Idx) : ∃ (r : Fin 2048) (k : Fin 4) (l : Fin 128), i = ix2 r (at4 k l) ∧ grp (i 1) = k ∧ lane (i 1) = l := by
  have hb : (i 1).val < 512 := (i 1).isLt
  refine ⟨i 0, grp (i 1), lane (i 1), ?_, rfl, rfl⟩
  funext k
  fin_cases k
  · rfl
  · exact Fin.ext (by show (i 1).val = 128 * ((i 1).val / 128) + (i 1).val % 128; omega)

/-- The same of an array of one row. -/
theorem row_idx (i : S1x512.Idx) : ∃ (k : Fin 4) (l : Fin 128), i = ix2 0 (at4 k l) ∧ grp (i 1) = k ∧ lane (i 1) = l := by
  have hb : (i 1).val < 512 := (i 1).isLt
  refine ⟨grp (i 1), lane (i 1), ?_, rfl, rfl⟩
  funext k
  fin_cases k
  · exact Fin.eq_zero _
  · exact Fin.ext (by show (i 1).val = 128 * ((i 1).val / 128) + (i 1).val % 128; omega)

/-- An element of an array of three axes is named by its three coordinates. -/
theorem idx3 {n0 n1 n2 : ℕ} (i : (⟨3, ![n0, n1, n2]⟩ : Shape).Idx) : ∃ (a : Fin n0) (b : Fin n1) (d : Fin n2), i = ix3 a b d :=
  ⟨i 0, i 1, i 2, by funext k; fin_cases k <;> rfl⟩

variable (m : (ℓ : Loc nD τ sig) → Buf (Elt Ideal) ℓ) (c : Dev nD)
variable (h0 : ∀ a b, ∃ t : ℝ, A0 m c (ix2 a b) = (t : EReal)) (h1 : ∀ a b, ∃ t : ℝ, A1 m c (ix2 a b) = (t : EReal))
  (h2 : ∀ a b, ∃ t : ℝ, A2 m c (ix2 a b) = (t : EReal)) (h3 : ∀ q b, ∃ t : ℝ, A3 m c (ix3 3 q b) = (t : EReal))
  (h4 : ∀ k a b, ∃ t : ℝ, A4 m c (ix4 3 k a b) = (t : EReal)) (h5 : ∀ b, ∃ t : ℝ, A5 m c (ix2 3 b) = (t : EReal))
  (hP : ∀ k n l, iblk m c 4 (pPt k) (ix2 n l) = pooled (A0 m c) k (ix2 n l))

include h0 in
/-- The gradient of the first factor of the filtered column. -/
theorem res_336 : val_main_v336 (F := Ideal) (A0 m c) (A1 m c) (A3 m c) = (dats m 0 c).arrAt 11 cfg0.N := by
  refine Eq.trans ?_ (arr11 m c).symm
  funext i
  obtain ⟨r, k, l, rfl, hk, hl⟩ := wide_idx i
  refine (v336_at (A0 m c) (A1 m c) (A3 m c) r (at4 k l) h0).trans (Eq.trans ?_ (congrArg₂ (fun k' l' => cuAt m c k' (ix2 r l')) hk hl).symm)
  exact (cuAt_at m c k l r).symm

include h0 in
/-- The gradient of the output factor of the filter section. -/
theorem res_337 : val_main_v337 (F := Ideal) (A0 m c) (A1 m c) (A3 m c) = (dats m 0 c).arrAt 12 cfg0.N := by
  refine Eq.trans ?_ (arr12 m c).symm
  funext i
  obtain ⟨r, k, l, rfl, hk, hl⟩ := wide_idx i
  refine (v337_at (A0 m c) (A1 m c) (A3 m c) r (at4 k l) h0).trans (Eq.trans ?_ (congrArg₂ (fun k' l' => cbAt m c k' (ix2 r l')) hk hl).symm)
  exact (cbAt_at m c k l r).symm

include h0 in
/-- The gradient of the second factor of the filtered column. -/
theorem res_338 : val_main_v338 (F := Ideal) (A0 m c) (A1 m c) (A3 m c) = (dats m 0 c).arrAt 13 cfg0.N := by
  refine Eq.trans ?_ (arr13 m c).symm
  funext i
  obtain ⟨r, k, l, rfl, hk, hl⟩ := wide_idx i
  refine (v338_at (A0 m c) (A1 m c) (A3 m c) r (at4 k l) h0).trans (Eq.trans ?_ (congrArg₂ (fun k' l' => ccAt m c k' (ix2 r l')) hk hl).symm)
  exact (ccAt_at m c k l r).symm

include h0 h1 h3 in
/-- The gradient of the gate of the filter section. -/
theorem res_339 : val_main_v339 (F := Ideal) (A0 m c) (A1 m c) (A3 m c) = (dats m 0 c).arrAt 14 cfg0.N := by
  refine Eq.trans ?_ (arr14 m c).symm
  funext i
  obtain ⟨r, k, l, rfl, hk, hl⟩ := wide_idx i
  refine (v339_at (A0 m c) (A1 m c) (A3 m c) r (at4 k l) h0 h1 h3).trans (Eq.trans ?_ (congrArg₂ (fun k' l' => cgAt m c k' (ix2 r l')) hk hl).symm)
  exact (cgAt_at m c k l r).symm

include h0 in
/-- The gradient of the pooled section. -/
theorem res_340 : val_main_v340 (F := Ideal) (A0 m c) (A2 m c) (A4 m c) (A5 m c) = (dats m 0 c).arrAt 15 cfg0.N := by
  refine Eq.trans ?_ (arr15 m c).symm
  funext i
  obtain ⟨r, k, l, rfl, hk, hl⟩ := wide_idx i
  refine (v340_at (A0 m c) (A2 m c) (A4 m c) (A5 m c) r k l h0).trans (Eq.trans ?_ (congrArg₂ (fun k' l' => puAt m c k' (ix2 r l')) hk hl).symm)
  exact (puAt_at m c k l r).symm

include h0 h2 h4 h5 hP in
/-- The gradient of the gate of the pooled section. -/
theorem res_341 : val_main_v341 (F := Ideal) (A0 m c) (A2 m c) (A4 m c) (A5 m c) = (dats m 0 c).arrAt 16 cfg0.N := by
  refine Eq.trans ?_ (arr16 m c).symm
  funext i
  obtain ⟨r, k, l, rfl, hk, hl⟩ := wide_idx i
  refine (v341_at (A0 m c) (A2 m c) (A4 m c) (A5 m c) r k l h0 h2 h4 h5).trans (Eq.trans ?_ (congrArg₂ (fun k' l' => pgAt m c k' (ix2 r l')) hk hl).symm)
  exact (pgAt_at m c k l r hP).symm

include h0 in
/-- The gradient of the filter, group by group. -/
theorem res_343 : val_main_v343 (F := Ideal) (A0 m c) (A1 m c) = (dats m 0 c).arrAt 17 cfg0.N := by
  refine Eq.trans ?_ (arr17 m c).symm
  funext i
  obtain ⟨k, q, l, rfl⟩ := idx3 i
  refine (v343_at (A0 m c) (A1 m c) k l q).trans ?_
  have e : (⟨k.val * 128 + l.val, by omega⟩ : Fin 512) = at4 k l := Fin.ext (by show k.val * 128 + l.val = 128 * k.val + l.val; omega)
  rw [e]
  refine Eq.trans ?_ (cwAt_at m c k l q).symm
  fin_cases q
  · exact v77_0 (A0 m c) (A1 m c) (at4 k l) h0
  · exact v77_1 (A0 m c) (A1 m c) (at4 k l) h0
  · exact v77_2 (A0 m c) (A1 m c) (at4 k l) h0

include h0 hP in
/-- The gradient of the mixing weights. -/
theorem res_344 : val_main_v344 (F := Ideal) (A0 m c) (A2 m c) (A5 m c) = (dats m 0 c).arrAt 18 cfg0.N := by
  refine Eq.trans ?_ (arr18 m c).symm
  funext i
  obtain ⟨k, a, l, rfl⟩ := idx3 i
  exact (v344_at (A0 m c) (A2 m c) (A5 m c) k l h0 a).trans (pwAt_at m c k l hP a).symm

include h0 hP in
/-- The gradient of the scale of the pooled section. -/
theorem res_345 : val_main_v345 (F := Ideal) (A0 m c) (A2 m c) (A4 m c) = (dats m 0 c).arrAt 19 cfg0.N := by
  refine Eq.trans ?_ (arr19 m c).symm
  funext i
  obtain ⟨k, l, rfl, hk, hl⟩ := row_idx i
  refine (v345_at (A0 m c) (A2 m c) (A4 m c) k l h0).trans (Eq.trans ?_ (congrArg₂ (fun k' l' => psAt m c k' (ix2 0 l')) hk hl).symm)
  exact (psAt_at m c k l hP).symm

end Cert.MixKernelIdeal.Mix

end
-- ==== Proof.MixPre.lean ====
module

public import proofs.«01_k».proof.Defs
public import proofs.«01_k».proof.Proof.Gen.Pre_mix_finite
public import proofs.«01_k».proof.Proof.Lits
public import Idealize.ShloMosaic.Lib.Pipeline.ValueKit.Point
public import Idealize.ShloMosaic.Lib.ValueIdx

@[expose] public section

set_option maxRecDepth 16384

noncomputable section

namespace Cert.MixPre

open Idealize.ShloMosaic Idealize.ShloMosaic.TcCoe Idealize.SL.Sem Cert.MixKernelIdeal

variable (x0 : S2048x3072.Idx → EReal) (x1 x2 : S2048x512.Idx → EReal) (x3 : S4x3x512.Idx → EReal) (x4 : S4x4x128x128.Idx → EReal)
  (x5 : S4x512.Idx → EReal) (x6 : S8x128.Idx → EReal)

/-- The precondition makes every element of the projection a real number. -/
theorem proj_real (h : (Cert.Pre_mix_finite.fn (F := Ideal) x0 x1 x2 x3 x4 x5 x6).1 = fun _ => 1#1) (a : Fin 2048) (b : Fin 3072) :
    ∃ r : ℝ, x0 (ix2 a b) = (r : EReal) := by
  have hb := b.isLt
  have h := congrFun h (ix2 a ⟨b.val, by omega⟩)
  refine Lits.real_of_lt (Eq.trans ?_ h)
  unfold Cert.Pre_mix_finite.fn
  pointwise []
  rfl

/-- The precondition makes every element of the filter section's gradient a real number. -/
theorem dya_real (h : (Cert.Pre_mix_finite.fn (F := Ideal) x0 x1 x2 x3 x4 x5 x6).1 = fun _ => 1#1) (a : Fin 2048) (b : Fin 512) :
    ∃ r : ℝ, x1 (ix2 a b) = (r : EReal) := by
  have hb := b.isLt
  have h := congrFun h (ix2 a ⟨3072 + b.val, by omega⟩)
  refine Lits.real_of_lt (Eq.trans ?_ h)
  unfold Cert.Pre_mix_finite.fn
  pointwise []
  rfl

/-- The precondition makes every element of the pooled section's gradient a real number. -/
theorem dyp_real (h : (Cert.Pre_mix_finite.fn (F := Ideal) x0 x1 x2 x3 x4 x5 x6).1 = fun _ => 1#1) (a : Fin 2048) (b : Fin 512) :
    ∃ r : ℝ, x2 (ix2 a b) = (r : EReal) := by
  have hb := b.isLt
  have h := congrFun h (ix2 a ⟨3584 + b.val, by omega⟩)
  refine Lits.real_of_lt (Eq.trans ?_ h)
  unfold Cert.Pre_mix_finite.fn
  pointwise []
  rw [dif_neg (by omega), dif_neg (by omega)]
  have e : 3584 + b.val - 3072 - 512 = b.val := by omega
  simp only [e]
  rfl

/-- The precondition makes every coefficient of the filter of layer 3 a real number. -/
theorem filter_real (h : (Cert.Pre_mix_finite.fn (F := Ideal) x0 x1 x2 x3 x4 x5 x6).2.1 = fun _ => 1#1) (q : Fin 3) (b : Fin 512) :
    ∃ r : ℝ, x3 (ix3 3 q b) = (r : EReal) := by
  have h := congrFun h (ix2 q b)
  refine Lits.real_of_lt (Eq.trans ?_ h)
  unfold Cert.Pre_mix_finite.fn
  pointwise []
  rfl

/-- The precondition makes every mixing weight of layer 3 a real number. -/
theorem weight_real (h : (Cert.Pre_mix_finite.fn (F := Ideal) x0 x1 x2 x3 x4 x5 x6).2.2.1 = fun _ => 1#1) (k : Fin 4) (a b : Fin 128) :
    ∃ r : ℝ, x4 (ix4 3 k a b) = (r : EReal) := by
  have h := congrFun h (ix3 k a b)
  refine Lits.real_of_lt (Eq.trans ?_ h)
  unfold Cert.Pre_mix_finite.fn
  pointwise []
  rfl

/-- The precondition makes every scale of layer 3 a real number. -/
theorem scale_real (h : (Cert.Pre_mix_finite.fn (F := Ideal) x0 x1 x2 x3 x4 x5 x6).2.2.2 = fun _ => 1#1) (b : Fin 512) :
    ∃ r : ℝ, x5 (ix2 3 b) = (r : EReal) := by
  have h := congrFun h (ix1 b)
  refine Lits.real_of_lt (Eq.trans ?_ h)
  unfold Cert.Pre_mix_finite.fn
  pointwise []
  rfl

end Cert.MixPre

end
-- ==== Proof.MixValue.lean ====
module

public import proofs.«01_k».proof.Proof.MixRows
public import proofs.«01_k».proof.Proof.MixPre

@[expose] public section

set_option maxRecDepth 16384

noncomputable section

namespace Cert.MixKernelIdeal.Mix

open Cert.MixKernelIdeal.Gen
open Idealize.ShloMosaic Idealize.ShloMosaic.TcCoe Idealize.SL.Sem
open Cert.MixReferenceIdeal.Read Cert.MixReferenceIdeal.Mix

variable (m : (ℓ : Loc nD τ sig) → Buf (Elt Ideal) ℓ)

set_option maxHeartbeats 4000000 in
/-- The whole claim: the kernel's nine results are the reference's, once the pooled values the kernel reads are known. -/
theorem algebraic_of (hp : ∀ m c k n l, iblk m c 4 (pPt k) (ix2 n l) = pooled (A0 m c) k (ix2 n l)) : Cert.algebraic_MixKernelIdeal_MixReferenceIdeal_pre_mix_finite := by
  intro m g m' g' hpre heq
  refine ⟨fun c => (dats m 0 c).arrAt 11 cfg0.N, fun c => (dats m 0 c).arrAt 12 cfg0.N, fun c => (dats m 0 c).arrAt 13 cfg0.N,
    fun c => (dats m 0 c).arrAt 14 cfg0.N, fun c => (dats m 0 c).arrAt 15 cfg0.N, fun c => (dats m 0 c).arrAt 16 cfg0.N,
    fun c => (dats m 0 c).arrAt 17 cfg0.N, fun c => (dats m 0 c).arrAt 18 cfg0.N, fun c => (dats m 0 c).arrAt 19 cfg0.N, run_blocks m g, ?_⟩
  refine (θ_run Cert.MixReferenceIdeal.defs _ _).mono (fun r h c => ?_) (Cert.MixReferenceIdeal.Value.run m' g')
  obtain ⟨e336, e337, e338, e339, e340, e341, e343, e344, e345, rest⟩ := h c
  obtain ⟨p0, p3, p4, p5⟩ := hpre c
  have h0 := Cert.MixPre.proj_real _ _ _ _ _ _ _ p0
  have h1 := Cert.MixPre.dya_real _ _ _ _ _ _ _ p0
  have h2 := Cert.MixPre.dyp_real _ _ _ _ _ _ _ p0
  have h3 := Cert.MixPre.filter_real _ _ _ _ _ _ _ p3
  have h4 := Cert.MixPre.weight_real _ _ _ _ _ _ _ p4
  have h5 := Cert.MixPre.scale_real _ _ _ _ _ _ _ p5
  have hP := hp m c
  obtain ⟨q0, q1, q2, q3, q4, q5, -⟩ := heq c
  have w0 : StableHlo.launchContents m' c (Proc.tc.devRef Cert.MixReferenceIdeal.main_arg0) = A0 m c := q0
  have w1 : StableHlo.launchContents m' c (Proc.tc.devRef Cert.MixReferenceIdeal.main_arg1) = A1 m c := q1
  have w2 : StableHlo.launchContents m' c (Proc.tc.devRef Cert.MixReferenceIdeal.main_arg2) = A2 m c := q2
  have w3 : StableHlo.launchContents m' c (Proc.tc.devRef Cert.MixReferenceIdeal.main_arg3) = A3 m c := q3
  have w4 : StableHlo.launchContents m' c (Proc.tc.devRef Cert.MixReferenceIdeal.main_arg4) = A4 m c := q4
  have w5 : StableHlo.launchContents m' c (Proc.tc.devRef Cert.MixReferenceIdeal.main_arg5) = A5 m c := q5
  refine ⟨e336.trans ?_, e337.trans ?_, e338.trans ?_, e339.trans ?_, e340.trans ?_, e341.trans ?_, e343.trans ?_, e344.trans ?_, e345.trans ?_, rest⟩
  · refine (val_main_v336_eq _).trans ?_
    rw [w0, w1, w3]
    exact res_336 m c h0
  · refine (val_main_v337_eq _).trans ?_
    rw [w0, w1, w3]
    exact res_337 m c h0
  · refine (val_main_v338_eq _).trans ?_
    rw [w0, w1, w3]
    exact res_338 m c h0
  · refine (val_main_v339_eq _).trans ?_
    rw [w0, w1, w3]
    exact res_339 m c h0 h1 h3
  · refine (val_main_v340_eq _).trans ?_
    rw [w0, w2, w4, w5]
    exact res_340 m c h0
  · refine (val_main_v341_eq _).trans ?_
    rw [w0, w2, w4, w5]
    exact res_341 m c h0 h2 h4 h5 hP
  · refine (val_main_v343_eq _).trans ?_
    rw [w0, w1]
    exact res_343 m c h0
  · refine (val_main_v344_eq _).trans ?_
    rw [w0, w2, w5]
    exact res_344 m c h0 hP
  · refine (val_main_v345_eq _).trans ?_
    rw [w0, w2, w4]
    exact res_345 m c h0 hP

end Cert.MixKernelIdeal.Mix

end
-- ==== Proof.MixFinal.lean ====
module

public import proofs.«01_k».proof.Proof.MixPooled
public import proofs.«01_k».proof.Proof.MixValue

@[expose] public section

set_option maxRecDepth 16384

noncomputable section

namespace Cert.MixKernelIdeal.Mix

open Cert.MixKernelIdeal.Gen
open Idealize.ShloMosaic Idealize.ShloMosaic.TcCoe Idealize.SL.Sem
open Cert.MixReferenceIdeal.Read Cert.MixReferenceIdeal.Mix

variable (m : (ℓ : Loc nD τ sig) → Buf (Elt Ideal) ℓ)

/-- The block of pooled values the kernel reads at a point of group `k` is the reference's pooled section of that group. -/
theorem blk4 (c : Dev nD) (k : Fin 4) (n : Fin 2048) (l : Fin 128) : iblk m c 4 (pPt k) (ix2 n l) = pooled (m ((c : Thread nD τ).loc main_arg0)) k (ix2 n l) := by
  have := n.isLt; have := l.isLt
  have e : iblk m c 4 (pPt k) (ix2 n l) = V m c main_v107 (ix2 n (gcol 0 k l)) := by
    have := k.isLt
    blk_ext! [iblk, idxP k]
  rw [e, host_pooled]
  fin_cases k
  · pointwise []; rfl
  · pointwise []; rfl
  · pointwise []
    rw [dif_neg (by omega), dif_neg (by omega), dif_pos (by omega)]
    exact congrArg (fun q : Fin 128 => val_main_v150 (F := Ideal) (m ((c : Thread nD τ).loc main_arg0)) (ix2 n q)) (Fin.ext (by show 256 + l.val - 128 - 128 = l.val; omega))
  · pointwise []
    rw [dif_neg (by omega), dif_neg (by omega), dif_neg (by omega)]
    exact congrArg (fun q : Fin 128 => val_main_v193 (F := Ideal) (m ((c : Thread nD τ).loc main_arg0)) (ix2 n q)) (Fin.ext (by show 384 + l.val - 128 - 128 - 128 = l.val; omega))

/-- The whole claim: the kernel's nine results are the reference's. -/
theorem algebraic : Cert.algebraic_MixKernelIdeal_MixReferenceIdeal_pre_mix_finite := algebraic_of blk4

end Cert.MixKernelIdeal.Mix

end
-- ==== Proof.MfwdSpec.lean ====
module

public import proofs.«01_k».proof.Proof.Gen.MfwdKernelIdeal.Frame
public import proofs.«01_k».proof.Proof.Gen.MfwdKernelIdeal.Loops
public import proofs.«01_k».proof.Proof.Gen.MfwdKernelIdeal.Points
public import proofs.«01_k».proof.Proof.MixBlocks

@[expose] public section

set_option maxRecDepth 16384

noncomputable section

namespace Cert.MfwdKernelIdeal.Mix

open Cert.MfwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open MixBlocks

variable {F : FTy → Type} [FloatOps F]

local notation "𝕄" => MT nD τ sig Unit (Elt F) ℕ (UR sig nD τ) ℕ

/-- The buffers one call of the body is given (its fetched inputs, the blocks it may write, its scratch), each whole. -/
structure Refs where
  a1 : Memref sig .tc .vmem S2048x128 .bf16
  h1 : a1.IsWhole
  a2 : Memref sig .tc .vmem S2048x128 .bf16
  h2 : a2.IsWhole
  a3 : Memref sig .tc .vmem S2048x128 .bf16
  h3 : a3.IsWhole
  a4 : Memref sig .tc .vmem S2048x128 .bf16
  h4 : a4.IsWhole
  a5 : Memref sig .tc .vmem S2048x128 .bf16
  h5 : a5.IsWhole
  a6 : Memref sig .tc .vmem S2048x128 .bf16
  h6 : a6.IsWhole
  a7 : Memref sig .tc .vmem S1x1x3x128 .f32
  h7 : a7.IsWhole
  a8 : Memref sig .tc .vmem S1x1x128x128 .f32
  h8 : a8.IsWhole
  a9 : Memref sig .tc .vmem S1x1x128 .f32
  h9 : a9.IsWhole
  a10 : Memref sig .tc .vmem S2048x128 .bf16
  h10 : a10.IsWhole
  a11 : Memref sig .tc .vmem S2048x128 .bf16
  h11 : a11.IsWhole
  a12 : Memref sig .tc .vmem S2048x128 .bf16
  h12 : a12.IsWhole
  a13 : Memref sig .tc .vmem S2048x128 .f32
  h13 : a13.IsWhole

/-- The body of the call at grid coordinates `i` on the buffers `R`. -/
abbrev bodyOf (i : grid0.Coords) (R : Refs) := cc0_mix_fwd (F := F) i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13

/-- A whole buffer holding exactly the contents that read as `x`. -/
abbrev holds (c : Dev nD) {s : Shape} {e : EltTy} {M : Memref sig .tc .vmem s e} (h : M.IsWhole) (x : Vec F s e) : sProp 𝕄 :=
  iprop(M.view.loc (c : Thread nD τ) ↦[M.view.set]{fullShare} h.unread x)

/-- Owning a whole buffer at `x` is holding exactly those contents. -/
theorem owns_eq_holds (c : Dev nD) {s : Shape} {e : EltTy} {M : Memref sig .tc .vmem s e} (h : M.IsWhole) (x : Vec F s e) :
    (owns (c : Thread nD τ) M fullShare x : sProp 𝕄) ⊣⊢ holds c h x := by
  constructor
  · unfold owns
    iintro ⟨%f, %hf, H⟩
    obtain rfl := h.eq_unread hf
    iexact H
  · unfold owns
    iintro H
    iexists _
    isplitr
    · ipureintro; exact h.read_unread _
    iexact H

/-- A buffer held at some contents is held at equal ones. -/
theorem holds_congr (c : Dev nD) {s : Shape} {e : EltTy} {M : Memref sig .tc .vmem s e} (h : M.IsWhole) (x : Vec F s e) (f : BufTy.Contents (Elt F) M.view.ty) (hf : f = h.unread x) :
    iprop(M.view.loc (c : Thread nD τ) ↦[M.view.set]{fullShare} f) ⊢ (holds c h x : sProp 𝕄) := by
  subst hf; exact Entails.refl _

/-- The block of 128 rows of step `k`. -/
abbrev rows (X : Vec F S2048x128 .bf16) (k : ℕ) : Vec F S128x128 .bf16 := chunk (Val := Elt F) (e := .bf16) 128 X (128 * k)

/-- The sixteen rows above it (its own first rows at the top). -/
abbrev hist (X : Vec F S2048x128 .bf16) (k : ℕ) : Vec F S16x128 .bf16 := chunk (Val := Elt F) (e := .bf16) 16 X (128 * k - 16)

/-- The filtered rows of one step of the convolution. -/
abbrev fProd (w0 w1 w2 : Vec F S1x1x1x128 .f32) (xu xb xc : Vec F S2048x128 .bf16) (k : Fin k0_t1_loop.trips) : FVec F S128x128 .f32 :=
  k0_pay18 (k0_pay1 w0) (k0_pay2 w1) (k0_pay3 w2) 0#32 1#32 k (hist xc k.val) (rows xc k.val) (hist xu k.val) (rows xu k.val) (rows xb k.val)

/-- The convolution's loop makes sixteen steps. -/
theorem trips_conv : k0_t1_loop.trips = 16 := by decide

instance : NeZero k0_t1_loop.trips := ⟨by rw [trips_conv]; decide⟩

/-- The gated convolution, block by block of 128 rows. -/
def fYa (w0 w1 w2 : Vec F S1x1x1x128 .f32) (xu xb xc xg : Vec F S2048x128 .bf16) : Vec F S2048x128 .bf16 :=
  stack (Val := Elt F) 128 fun k => k0_pay4 (k0_pay17 (rows xg k)) (fProd w0 w1 w2 xu xb xc (Fin.ofNat _ k))

/-- The pooled section, block by block of 128 rows, each from its rows and the sixteen above (`pay` is what one step makes of them). -/
def fPool {T : ℕ} [NeZero T] (pay : Fin T → Vec F S16x128 .bf16 → Vec F S128x128 .bf16 → FVec F S128x128 .bf16) (xp : Vec F S2048x128 .bf16) : Vec F S2048x128 .bf16 :=
  stack (Val := Elt F) 128 fun k => pay (Fin.ofNat T k) (hist xp k) (rows xp k)

/-- The pooled section times the group's matrix. -/
abbrev fMixed (xw : Vec F S1x1x128x128 .f32) (pooled : Vec F S2048x128 .bf16) : Vec F S2048x128 .f32 := k0_pay6 pooled xw

/-- The scaled and gated product, block by block of 128 rows. -/
def fYp (xs : Vec F S1x1x128 .f32) (xg : Vec F S2048x128 .bf16) (xm : Vec F S2048x128 .f32) : Vec F S2048x128 .bf16 :=
  stack (Val := Elt F) 128 fun k => k0_pay7 xs (rows xg k) (chunk (Val := Elt F) (e := .f32) 128 xm (128 * k))

/-- The pooling loop: what it stores, from the rows it loads. -/
theorem pool_done {T : ℕ} [NeZero T] (hT : T = 16) (R : Refs) (off off' : Fin T → Fin 2 → ℕ) (hoff : ∀ k, off k = ![128 * k.val - 16, 0]) (hoff' : ∀ k, off' k = ![128 * k.val, 0])
    (inb : ∀ k a, off k a + S16x128.size a ≤ S2048x128.size a) (inb' : ∀ k a, off' k a + S128x128.size a ≤ S2048x128.size a)
    (pay : Fin T → Vec F S16x128 .bf16 → Vec F S128x128 .bf16 → FVec F S128x128 .bf16) (xp : Vec F S2048x128 .bf16) (P : ℕ → List (View.Piece (Elt F) S2048x128 .bf16)) (h0 : P 0 = [])
    (hs : ∀ k : Fin T, P (k.val + 1) = (⟨Rect.unit (s := S2048x128) (off' k) S128x128.size (inb' k),
      pay k (View.readAt (Elt F) R.a5.view (Rect.unit (s := S2048x128) (off k) S16x128.size (inb k)).toLoadRect (R.h5.unread xp))
        (View.readAt (Elt F) R.a5.view (Rect.unit (s := S2048x128) (off' k) S128x128.size (inb' k)).toLoadRect (R.h5.unread xp))⟩ : View.Piece (Elt F) S2048x128 .bf16) :: P k.val)
    (f : BufTy.Contents (Elt F) R.a12.view.ty) :
    R.a12.view.writes (Elt F) f (P T) = R.h12.unread (fPool pay xp) := by
  refine blocks_done (N := 2048) (B := 128) (K := 16) rfl off' (fun k => k.val) (fun j hj => ⟨⟨j, by omega⟩, rfl⟩) hoff' inb' _ _ (fun k => ?_) P h0 hs R.h12 f
  have e : Fin.ofNat T k.val = k := Fin.ext (Nat.mod_eq_of_lt k.isLt)
  rw [e]
  exact congrArg₂ (pay k) (readAt_chunk (N := 2048) (n := 16) R.h5 xp (off k) _ (hoff k) (inb k)) (readAt_chunk (N := 2048) (n := 128) R.h5 xp (off' k) _ (hoff' k) (inb' k))

/-- The gate's loop: what it stores, from the rows it loads. -/
theorem gate_done {T : ℕ} (hT : T = 16) (R : Refs) (off : Fin T → Fin 2 → ℕ) (hoff : ∀ k, off k = ![128 * k.val, 0])
    (inb : ∀ k a, off k a + S128x128.size a ≤ S2048x128.size a) (xs : Vec F S1x1x128 .f32) (xg : Vec F S2048x128 .bf16) (xm : Vec F S2048x128 .f32)
    (P : ℕ → List (View.Piece (Elt F) S2048x128 .bf16)) (h0 : P 0 = [])
    (hs : ∀ k : Fin T, P (k.val + 1) = (⟨Rect.unit (s := S2048x128) (off k) S128x128.size (inb k),
      k0_pay7 xs (View.readAt (Elt F) R.a6.view (Rect.unit (s := S2048x128) (off k) S128x128.size (inb k)).toLoadRect (R.h6.unread xg))
        (View.readAt (Elt F) R.a13.view (Rect.unit (s := S2048x128) (off k) S128x128.size (inb k)).toLoadRect (R.h13.unread xm))⟩ : View.Piece (Elt F) S2048x128 .bf16) :: P k.val)
    (f : BufTy.Contents (Elt F) R.a11.view.ty) :
    R.a11.view.writes (Elt F) f (P T) = R.h11.unread (fYp xs xg xm) := by
  refine blocks_done (N := 2048) (B := 128) (K := 16) rfl off (fun k => k.val) (fun j hj => ⟨⟨j, by omega⟩, rfl⟩) hoff inb _ _ (fun k => ?_) P h0 hs R.h11 f
  exact congrArg₂ (k0_pay7 xs) (readAt_chunk (N := 2048) (n := 128) R.h6 xg (off k) _ (hoff k) (inb k)) (readAt_chunk (N := 2048) (n := 128) R.h13 xm (off k) _ (hoff k) (inb k))

/-- What a run of the pooling part does: from the inputs it reads, whatever its results and its scratch hold, the body runs
    to the inputs as they were and the two results of those inputs (`y` the pooled section). -/
abbrev PoolRun (c : Dev nD) (i : grid0.Coords) (R : Refs) (xp xg : Vec F S2048x128 .bf16) (xw : Vec F S1x1x128x128 .f32) (xs : Vec F S1x1x128 .f32) (y : Vec F S2048x128 .bf16) : Prop :=
  ∀ (E : Set ℕ) (K : PUnit → sProp 𝕄),
    iprop(holds c R.h5 xp ∗ holds c R.h6 xg ∗ holds c R.h8 xw ∗ holds c R.h9 xs ∗ (∃ d, owns (c : Thread nD τ) R.a11 fullShare d) ∗ (∃ d, owns (c : Thread nD τ) R.a12 fullShare d) ∗ (∃ d, owns (c : Thread nD τ) R.a13 fullShare d)
        ∗ (iprop(holds c R.h5 xp ∗ holds c R.h6 xg ∗ holds c R.h8 xw ∗ holds c R.h9 xs ∗ holds c R.h11 (fYp xs xg (fMixed xw y)) ∗ holds c R.h12 y ∗ (∃ d, owns (c : Thread nD τ) R.a13 fullShare d)) -∗ K ⟨⟩))
      ⊢ wp frame (wpE (defs₀ (F := F)) Variants.none c none) E (bodyOf i R) K

end Cert.MfwdKernelIdeal.Mix

end
-- ==== Proof.MfwdConv.lean ====
module

public import proofs.«01_k».proof.Proof.MfwdSpec

@[expose] public section

set_option maxRecDepth 16384

noncomputable section

namespace Cert.MfwdKernelIdeal.Mix

open Cert.MfwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open MixBlocks

variable {F : FTy → Type} [FloatOps F]

local notation "𝕄" => MT nD τ sig Unit (Elt F) ℕ (UR sig nD τ) ℕ

/-- Step `k` loads the sixteen rows above its block (its own first rows at the top). -/
theorem off_hist : ∀ k : Fin k0_t1_loop.trips, k0_off1 k = ![128 * k.val - 16, 0] := by decide +kernel

/-- Tap `q` of the filter. -/
def tap (xw : Vec F S1x1x3x128 .f32) (q : Fin 3) : Vec F S1x1x1x128 .f32 := fun x => xw (ix4 0 0 q (x 3))

/-- A load of one tap gives it. -/
theorem readAt_tap (R : Refs) (xw : Vec F S1x1x3x128 .f32) (q : Fin 3) (inb : ∀ a, (![0, 0, q.val, 0] : Fin 4 → ℕ) a + S1x1x1x128.size a ≤ S1x1x3x128.size a) :
    View.readAt (Elt F) R.a7.view (Rect.unit (s := S1x1x3x128) ![0, 0, q.val, 0] S1x1x1x128.size inb).toLoadRect (R.h7.unread xw) = tap xw q := by
  funext x
  refine (R.h7.readAt_unread xw _ x).trans (congrArg xw ?_)
  funext a
  apply Fin.ext
  refine (Rect.idx_unit_val _ _ inb x a).trans ?_
  have h0 : (x 0).val < 1 := (x 0).isLt
  have h1 : (x 1).val < 1 := (x 1).isLt
  have h2 : (x 2).val < 1 := (x 2).isLt
  fin_cases a
  · show 0 + (x 0).val = 0; omega
  · show 0 + (x 1).val = 0; omega
  · show q.val + (x 2).val = q.val; omega
  · show 0 + (x 3).val = (x 3).val; omega

/-- The pieces the convolution's loop has stored before a step. -/
abbrev cPb (c : Dev nD) (i : grid0.Coords) (R : Refs) (hc0 : k0_cond1 i = 1#1) (xu xb xc xg : Vec F S2048x128 .bf16) (w0 w1 w2 : Vec F S1x1x1x128 .f32) :=
  pb_k0_t1 (F := F) Variants.none c none i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 hc0 w0 w1 w2 (R.h1.unread xu) (R.h2.unread xb) (R.h3.unread xc) (R.h4.unread xg)

/-- Where a step stores. -/
abbrev cRect (i : grid0.Coords) (hc0 : k0_cond1 i = 1#1) (k : Fin k0_t1_loop.trips) : Rect S2048x128 := Rect.unit (s := S2048x128) (k0_off2 k) S128x128.size (k0_off2_inb i k hc0)

/-- The rows a step reads above its block. -/
abbrev hRect (i : grid0.Coords) (hc0 : k0_cond1 i = 1#1) (k : Fin k0_t1_loop.trips) : Rect S2048x128 := Rect.unit (s := S2048x128) (k0_off1 k) S16x128.size (k0_off1_inb i k hc0)

/-- A load of a step's block. -/
theorem readAt_rows (i : grid0.Coords) (hc0 : k0_cond1 i = 1#1) (k : Fin k0_t1_loop.trips) {a : Memref sig .tc .vmem S2048x128 .bf16} (h : a.IsWhole) (X : Vec F S2048x128 .bf16) :
    View.readAt (Elt F) a.view (cRect i hc0 k).toLoadRect (h.unread X) = rows X k.val :=
  readAt_chunk (N := 2048) (n := 128) h X (k0_off2 k) _ (k0_off2_eq k) (k0_off2_inb i k hc0)

/-- A load of the rows above it. -/
theorem readAt_hist (i : grid0.Coords) (hc0 : k0_cond1 i = 1#1) (k : Fin k0_t1_loop.trips) {a : Memref sig .tc .vmem S2048x128 .bf16} (h : a.IsWhole) (X : Vec F S2048x128 .bf16) :
    View.readAt (Elt F) a.view (hRect i hc0 k).toLoadRect (h.unread X) = hist X k.val :=
  readAt_chunk (N := 2048) (n := 16) h X (k0_off1 k) _ (off_hist k) (k0_off1_inb i k hc0)

/-- One step. -/
theorem cPb_succ (c : Dev nD) (i : grid0.Coords) (R : Refs) (hc0 : k0_cond1 i = 1#1) (xu xb xc xg : Vec F S2048x128 .bf16) (w0 w1 w2 : Vec F S1x1x1x128 .f32) (k : Fin k0_t1_loop.trips) :
    cPb c i R hc0 xu xb xc xg w0 w1 w2 (k.val + 1) =
      (⟨cRect i hc0 k, k0_pay4 (k0_pay17 (View.readAt (Elt F) R.a4.view (cRect i hc0 k).toLoadRect (R.h4.unread xg)))
        (k0_pay18 (k0_pay1 w0) (k0_pay2 w1) (k0_pay3 w2) 0#32 1#32 k (View.readAt (Elt F) R.a3.view (hRect i hc0 k).toLoadRect (R.h3.unread xc)) (View.readAt (Elt F) R.a3.view (cRect i hc0 k).toLoadRect (R.h3.unread xc))
          (View.readAt (Elt F) R.a1.view (hRect i hc0 k).toLoadRect (R.h1.unread xu)) (View.readAt (Elt F) R.a1.view (cRect i hc0 k).toLoadRect (R.h1.unread xu)) (View.readAt (Elt F) R.a2.view (cRect i hc0 k).toLoadRect (R.h2.unread xb)))⟩ : View.Piece (Elt F) S2048x128 .bf16)
        :: cPb c i R hc0 xu xb xc xg w0 w1 w2 k.val := by
  unfold cPb
  rw [pb_k0_t1_succ]
  unfold tripL_k0_t1 trip_k0_t1
  rfl

/-- What the loop stores. -/
theorem conv_done (c : Dev nD) (i : grid0.Coords) (R : Refs) (hc0 : k0_cond1 i = 1#1) (xu xb xc xg : Vec F S2048x128 .bf16) (w0 w1 w2 v0 v1 v2 : Vec F S1x1x1x128 .f32)
    (hv0 : v0 = w0) (hv1 : v1 = w1) (hv2 : v2 = w2) (f : BufTy.Contents (Elt F) R.a10.view.ty) :
    R.a10.view.writes (Elt F) f (cPb c i R hc0 xu xb xc xg v0 v1 v2 k0_t1_loop.trips) = R.h10.unread (fYa w0 w1 w2 xu xb xc xg) := by
  subst hv0 hv1 hv2
  have hT := trips_conv
  refine blocks_done (N := 2048) (B := 128) (K := 16) rfl k0_off2 (fun k => k.val) (fun j hj => ⟨⟨j, by omega⟩, rfl⟩) k0_off2_eq (fun k => k0_off2_inb i k hc0) _ _ (fun k => ?_)
    (fun n => cPb c i R hc0 xu xb xc xg v0 v1 v2 n) rfl (fun k => cPb_succ c i R hc0 xu xb xc xg v0 v1 v2 k) R.h10 f
  have e : Fin.ofNat k0_t1_loop.trips k.val = k := Fin.ext (Nat.mod_eq_of_lt k.isLt)
  simp only [readAt_rows, readAt_hist]
  rw [e]

set_option maxHeartbeats 4000000 in
/-- The run of the convolution (grid points 0 to 3). -/
theorem convRun (c : Dev nD) (i : grid0.Coords) (R : Refs) (hc0 : k0_cond1 i = 1#1) (hc1 : ¬ k0_cond2 i = 1#1) (hc2 : ¬ k0_cond3 i = 1#1) (hc3 : ¬ k0_cond4 i = 1#1) (hc4 : ¬ k0_cond5 i = 1#1)
    (xu xb xc xg : Vec F S2048x128 .bf16) (xw : Vec F S1x1x3x128 .f32) (E : Set ℕ) (K : PUnit → sProp 𝕄) :
    iprop(holds c R.h1 xu ∗ holds c R.h2 xb ∗ holds c R.h3 xc ∗ holds c R.h4 xg ∗ holds c R.h7 xw ∗ (∃ d, owns (c : Thread nD τ) R.a10 fullShare d)
        ∗ (iprop(holds c R.h1 xu ∗ holds c R.h2 xb ∗ holds c R.h3 xc ∗ holds c R.h4 xg ∗ holds c R.h7 xw ∗ holds c R.h10 (fYa (tap xw 0) (tap xw 1) (tap xw 2) xu xb xc xg)) -∗ K ⟨⟩))
      ⊢ wp frame (wpE (defs₀ (F := F)) Variants.none c none) E (bodyOf i R) K := by
  unfold bodyOf
  simp only [cc0_mix_fwd_eq_skeleton]; unfold cc0_mix_fwd_skel
  unfold owns
  iintro ⟨H1, H2, H3, H4, H7, ⟨%d10, %f10, -, H10⟩, Hk⟩
  sl_exec (disch := first | sl_exact hc0 | sl_exact hc1 | sl_exact hc2 | sl_exact hc3 | sl_exact hc4)
  sl_step
  iapply Hk
  isplitl [H1]; · iexact H1
  isplitl [H2]; · iexact H2
  isplitl [H3]; · iexact H3
  isplitl [H4]; · iexact H4
  isplitl [H7]; · iexact H7
  iapply (holds_congr c R.h10 _ _ ?_) $$ H10
  exact conv_done c i R hc0 xu xb xc xg _ _ _ _ _ _ (readAt_tap R xw 0 (by decide)) (readAt_tap R xw 1 (by decide)) (readAt_tap R xw 2 (by decide)) f10

end Cert.MfwdKernelIdeal.Mix

end
-- ==== Proof.MfwdPool2.lean ====
module

public import proofs.«01_k».proof.Proof.MfwdSpec

@[expose] public section

set_option maxRecDepth 16384

noncomputable section

namespace Cert.MfwdKernelIdeal.Mix

open Cert.MfwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open MixBlocks

variable {F : FTy → Type} [FloatOps F]

local notation "𝕄" => MT nD τ sig Unit (Elt F) ℕ (UR sig nD τ) ℕ

/-- The pooling loop with windows of 2 makes sixteen steps. -/
theorem trips_pool2 : k0_t2_loop.trips = 16 := by decide

/-- So does the gate's loop. -/
theorem trips_gate2 : k0_t3_loop.trips = 16 := by decide

instance : NeZero k0_t2_loop.trips := ⟨by rw [trips_pool2]; decide⟩

/-- A step loads the sixteen rows above its block. -/
theorem off_hist2 : ∀ k : Fin k0_t2_loop.trips, k0_off3 k = ![128 * k.val - 16, 0] := by decide +kernel

/-- The section pooled with windows of 2. -/
abbrev fPool2 (xp : Vec F S2048x128 .bf16) : Vec F S2048x128 .bf16 := fPool k0_pay5 xp

/-- What the pooling loop leaves. -/
theorem pool2 (c : Dev nD) (i : grid0.Coords) (R : Refs) (hc1 : k0_cond2 i = 1#1) (xp : Vec F S2048x128 .bf16) (f : BufTy.Contents (Elt F) R.a12.view.ty) :
    R.a12.view.writes (Elt F) f (pb_k0_t2 (F := F) Variants.none c none i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 hc1 (R.h5.unread xp) k0_t2_loop.trips) = R.h12.unread (fPool2 xp) := by
  refine pool_done trips_pool2 R k0_off3 k0_off4 off_hist2 k0_off4_eq (fun k => k0_off3_inb i k hc1) (fun k => k0_off4_inb i k hc1) k0_pay5 xp
    (fun n => pb_k0_t2 (F := F) Variants.none c none i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 hc1 (R.h5.unread xp) n) rfl (fun k => ?_) f
  dsimp only
  rw [pb_k0_t2_succ]
  unfold tripL_k0_t2 trip_k0_t2
  rfl

/-- What the gate's loop leaves. -/
theorem gate2 (c : Dev nD) (i : grid0.Coords) (R : Refs) (hc1 : k0_cond2 i = 1#1) (xs : Vec F S1x1x128 .f32) (xg : Vec F S2048x128 .bf16) (xm : Vec F S2048x128 .f32)
    (v : Vec F S1x1x128 .f32) (X13 : BufTy.Contents (Elt F) R.a13.view.ty) (hv : v = xs) (hX : X13 = R.h13.unread xm) (f : BufTy.Contents (Elt F) R.a11.view.ty) :
    R.a11.view.writes (Elt F) f (pb_k0_t3 (F := F) Variants.none c none i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 hc1 v (R.h6.unread xg) X13 k0_t3_loop.trips) = R.h11.unread (fYp xs xg xm) := by
  subst hv hX
  refine gate_done trips_gate2 R k0_off5 k0_off5_eq (fun k => k0_off5_inb i k hc1) v xg xm
    (fun n => pb_k0_t3 (F := F) Variants.none c none i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 hc1 v (R.h6.unread xg) (R.h13.unread xm) n) rfl (fun k => ?_) f
  dsimp only
  rw [pb_k0_t3_succ]
  unfold tripL_k0_t3 trip_k0_t3
  rfl

set_option maxHeartbeats 4000000 in
/-- The run of the pooling part with windows of 2 (grid point 4). -/
theorem poolRun2 (c : Dev nD) (i : grid0.Coords) (R : Refs) (hc0 : ¬ k0_cond1 i = 1#1) (hc1 : k0_cond2 i = 1#1) (hc2 : ¬ k0_cond3 i = 1#1) (hc3 : ¬ k0_cond4 i = 1#1) (hc4 : ¬ k0_cond5 i = 1#1)
    (xp xg : Vec F S2048x128 .bf16) (xw : Vec F S1x1x128x128 .f32) (xs : Vec F S1x1x128 .f32) : PoolRun c i R xp xg xw xs (fPool2 xp) := by
  intro E K
  unfold bodyOf
  simp only [cc0_mix_fwd_eq_skeleton]; unfold cc0_mix_fwd_skel
  unfold owns
  iintro ⟨H5, H6, H8, H9, ⟨%d11, %f11, -, H11⟩, ⟨%d12, %f12, -, H12⟩, ⟨%d13, %f13, -, H13⟩, Hk⟩
  sl_exec (disch := first | sl_exact hc0 | sl_exact hc1 | sl_exact hc2 | sl_exact hc3 | sl_exact hc4)
  sl_step
  have r8 := fun inb => readAt_all R.h8 xw ![0, 0, 0, 0] (by decide) inb
  have r9 := fun inb => readAt_all R.h9 xs ![0, 0, 0] (by decide) inb
  have r12 := fun inb => readAt_all R.h12 (fPool2 xp) ![0, 0] (by decide) inb
  iapply Hk
  isplitl [H5]; · iexact H5
  isplitl [H6]; · iexact H6
  isplitl [H8]; · iexact H8
  isplitl [H9]; · iexact H9
  isplitl [H11]
  · iapply (holds_congr c R.h11 _ _ ?_) $$ H11
    refine gate2 c i R hc1 xs xg _ _ _ (r9 _) ?_ f11
    delta poolRun2.sl.H13_1; dsimp only
    refine (writes_all R.h13 _ _ _ (by decide) _).trans (congrArg R.h13.unread (congrArg₂ k0_pay6 ?_ (r8 _)))
    exact (congrArg (View.readAt (Elt F) R.a12.view _) (pool2 c i R hc1 xp f12)).trans (r12 _)
  isplitl [H12]
  · iapply (holds_congr c R.h12 _ _ ?_) $$ H12
    exact pool2 c i R hc1 xp f12
  iexists _, _; isplitr; swap; · iexact H13
  ipureintro; rfl

end Cert.MfwdKernelIdeal.Mix

end
-- ==== Proof.MfwdPool4.lean ====
module

public import proofs.«01_k».proof.Proof.MfwdSpec

@[expose] public section

set_option maxRecDepth 16384

noncomputable section

namespace Cert.MfwdKernelIdeal.Mix

open Cert.MfwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open MixBlocks

variable {F : FTy → Type} [FloatOps F]

local notation "𝕄" => MT nD τ sig Unit (Elt F) ℕ (UR sig nD τ) ℕ

/-- The pooling loop with windows of 4 makes sixteen steps. -/
theorem trips_pool4 : k0_t4_loop.trips = 16 := by decide

/-- So does the gate's loop. -/
theorem trips_gate4 : k0_t5_loop.trips = 16 := by decide

instance : NeZero k0_t4_loop.trips := ⟨by rw [trips_pool4]; decide⟩

/-- A step loads the sixteen rows above its block. -/
theorem off_hist4 : ∀ k : Fin k0_t4_loop.trips, k0_off6 k = ![128 * k.val - 16, 0] := by decide +kernel

/-- The section pooled with windows of 4. -/
abbrev fPool4 (xp : Vec F S2048x128 .bf16) : Vec F S2048x128 .bf16 := fPool k0_pay8 xp

/-- What the pooling loop leaves. -/
theorem pool4 (c : Dev nD) (i : grid0.Coords) (R : Refs) (hc2 : k0_cond3 i = 1#1) (xp : Vec F S2048x128 .bf16) (f : BufTy.Contents (Elt F) R.a12.view.ty) :
    R.a12.view.writes (Elt F) f (pb_k0_t4 (F := F) Variants.none c none i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 hc2 (R.h5.unread xp) k0_t4_loop.trips) = R.h12.unread (fPool4 xp) := by
  refine pool_done trips_pool4 R k0_off6 k0_off7 off_hist4 k0_off7_eq (fun k => k0_off6_inb i k hc2) (fun k => k0_off7_inb i k hc2) k0_pay8 xp
    (fun n => pb_k0_t4 (F := F) Variants.none c none i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 hc2 (R.h5.unread xp) n) rfl (fun k => ?_) f
  dsimp only
  rw [pb_k0_t4_succ]
  unfold tripL_k0_t4 trip_k0_t4
  rfl

/-- What the gate's loop leaves. -/
theorem gate4 (c : Dev nD) (i : grid0.Coords) (R : Refs) (hc2 : k0_cond3 i = 1#1) (xs : Vec F S1x1x128 .f32) (xg : Vec F S2048x128 .bf16) (xm : Vec F S2048x128 .f32)
    (v : Vec F S1x1x128 .f32) (X13 : BufTy.Contents (Elt F) R.a13.view.ty) (hv : v = xs) (hX : X13 = R.h13.unread xm) (f : BufTy.Contents (Elt F) R.a11.view.ty) :
    R.a11.view.writes (Elt F) f (pb_k0_t5 (F := F) Variants.none c none i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 hc2 v (R.h6.unread xg) X13 k0_t5_loop.trips) = R.h11.unread (fYp xs xg xm) := by
  subst hv hX
  refine gate_done trips_gate4 R k0_off8 k0_off8_eq (fun k => k0_off8_inb i k hc2) v xg xm
    (fun n => pb_k0_t5 (F := F) Variants.none c none i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 hc2 v (R.h6.unread xg) (R.h13.unread xm) n) rfl (fun k => ?_) f
  dsimp only
  rw [pb_k0_t5_succ]
  unfold tripL_k0_t5 trip_k0_t5
  rfl

set_option maxHeartbeats 4000000 in
/-- The run of the pooling part with windows of 4 (grid point 5). -/
theorem poolRun4 (c : Dev nD) (i : grid0.Coords) (R : Refs) (hc0 : ¬ k0_cond1 i = 1#1) (hc1 : ¬ k0_cond2 i = 1#1) (hc2 : k0_cond3 i = 1#1) (hc3 : ¬ k0_cond4 i = 1#1) (hc4 : ¬ k0_cond5 i = 1#1)
    (xp xg : Vec F S2048x128 .bf16) (xw : Vec F S1x1x128x128 .f32) (xs : Vec F S1x1x128 .f32) : PoolRun c i R xp xg xw xs (fPool4 xp) := by
  intro E K
  unfold bodyOf
  simp only [cc0_mix_fwd_eq_skeleton]; unfold cc0_mix_fwd_skel
  unfold owns
  iintro ⟨H5, H6, H8, H9, ⟨%d11, %f11, -, H11⟩, ⟨%d12, %f12, -, H12⟩, ⟨%d13, %f13, -, H13⟩, Hk⟩
  sl_exec (disch := first | sl_exact hc0 | sl_exact hc1 | sl_exact hc2 | sl_exact hc3 | sl_exact hc4)
  sl_step
  have r8 := fun inb => readAt_all R.h8 xw ![0, 0, 0, 0] (by decide) inb
  have r9 := fun inb => readAt_all R.h9 xs ![0, 0, 0] (by decide) inb
  have r12 := fun inb => readAt_all R.h12 (fPool4 xp) ![0, 0] (by decide) inb
  iapply Hk
  isplitl [H5]; · iexact H5
  isplitl [H6]; · iexact H6
  isplitl [H8]; · iexact H8
  isplitl [H9]; · iexact H9
  isplitl [H11]
  · iapply (holds_congr c R.h11 _ _ ?_) $$ H11
    refine gate4 c i R hc2 xs xg _ _ _ (r9 _) ?_ f11
    delta poolRun4.sl.H13_1; dsimp only
    refine (writes_all R.h13 _ _ _ (by decide) _).trans (congrArg R.h13.unread (congrArg₂ k0_pay6 ?_ (r8 _)))
    exact (congrArg (View.readAt (Elt F) R.a12.view _) (pool4 c i R hc2 xp f12)).trans (r12 _)
  isplitl [H12]
  · iapply (holds_congr c R.h12 _ _ ?_) $$ H12
    exact pool4 c i R hc2 xp f12
  iexists _, _; isplitr; swap; · iexact H13
  ipureintro; rfl

end Cert.MfwdKernelIdeal.Mix

end
-- ==== Proof.MfwdPool8.lean ====
module

public import proofs.«01_k».proof.Proof.MfwdSpec

@[expose] public section

set_option maxRecDepth 16384

noncomputable section

namespace Cert.MfwdKernelIdeal.Mix

open Cert.MfwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open MixBlocks

variable {F : FTy → Type} [FloatOps F]

local notation "𝕄" => MT nD τ sig Unit (Elt F) ℕ (UR sig nD τ) ℕ

/-- The pooling loop with windows of 8 makes sixteen steps. -/
theorem trips_pool8 : k0_t6_loop.trips = 16 := by decide

/-- So does the gate's loop. -/
theorem trips_gate8 : k0_t7_loop.trips = 16 := by decide

instance : NeZero k0_t6_loop.trips := ⟨by rw [trips_pool8]; decide⟩

/-- A step loads the sixteen rows above its block. -/
theorem off_hist8 : ∀ k : Fin k0_t6_loop.trips, k0_off9 k = ![128 * k.val - 16, 0] := by decide +kernel

/-- The section pooled with windows of 8. -/
abbrev fPool8 (xp : Vec F S2048x128 .bf16) : Vec F S2048x128 .bf16 := fPool k0_pay11 xp

/-- What the pooling loop leaves. -/
theorem pool8 (c : Dev nD) (i : grid0.Coords) (R : Refs) (hc3 : k0_cond4 i = 1#1) (xp : Vec F S2048x128 .bf16) (f : BufTy.Contents (Elt F) R.a12.view.ty) :
    R.a12.view.writes (Elt F) f (pb_k0_t6 (F := F) Variants.none c none i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 hc3 (R.h5.unread xp) k0_t6_loop.trips) = R.h12.unread (fPool8 xp) := by
  refine pool_done trips_pool8 R k0_off9 k0_off10 off_hist8 k0_off10_eq (fun k => k0_off9_inb i k hc3) (fun k => k0_off10_inb i k hc3) k0_pay11 xp
    (fun n => pb_k0_t6 (F := F) Variants.none c none i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 hc3 (R.h5.unread xp) n) rfl (fun k => ?_) f
  dsimp only
  rw [pb_k0_t6_succ]
  unfold tripL_k0_t6 trip_k0_t6
  rfl

/-- What the gate's loop leaves. -/
theorem gate8 (c : Dev nD) (i : grid0.Coords) (R : Refs) (hc3 : k0_cond4 i = 1#1) (xs : Vec F S1x1x128 .f32) (xg : Vec F S2048x128 .bf16) (xm : Vec F S2048x128 .f32)
    (v : Vec F S1x1x128 .f32) (X13 : BufTy.Contents (Elt F) R.a13.view.ty) (hv : v = xs) (hX : X13 = R.h13.unread xm) (f : BufTy.Contents (Elt F) R.a11.view.ty) :
    R.a11.view.writes (Elt F) f (pb_k0_t7 (F := F) Variants.none c none i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 hc3 v (R.h6.unread xg) X13 k0_t7_loop.trips) = R.h11.unread (fYp xs xg xm) := by
  subst hv hX
  refine gate_done trips_gate8 R k0_off11 k0_off11_eq (fun k => k0_off11_inb i k hc3) v xg xm
    (fun n => pb_k0_t7 (F := F) Variants.none c none i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 hc3 v (R.h6.unread xg) (R.h13.unread xm) n) rfl (fun k => ?_) f
  dsimp only
  rw [pb_k0_t7_succ]
  unfold tripL_k0_t7 trip_k0_t7
  rfl

set_option maxHeartbeats 4000000 in
/-- The run of the pooling part with windows of 8 (grid point 6). -/
theorem poolRun8 (c : Dev nD) (i : grid0.Coords) (R : Refs) (hc0 : ¬ k0_cond1 i = 1#1) (hc1 : ¬ k0_cond2 i = 1#1) (hc2 : ¬ k0_cond3 i = 1#1) (hc3 : k0_cond4 i = 1#1) (hc4 : ¬ k0_cond5 i = 1#1)
    (xp xg : Vec F S2048x128 .bf16) (xw : Vec F S1x1x128x128 .f32) (xs : Vec F S1x1x128 .f32) : PoolRun c i R xp xg xw xs (fPool8 xp) := by
  intro E K
  unfold bodyOf
  simp only [cc0_mix_fwd_eq_skeleton]; unfold cc0_mix_fwd_skel
  unfold owns
  iintro ⟨H5, H6, H8, H9, ⟨%d11, %f11, -, H11⟩, ⟨%d12, %f12, -, H12⟩, ⟨%d13, %f13, -, H13⟩, Hk⟩
  sl_exec (disch := first | sl_exact hc0 | sl_exact hc1 | sl_exact hc2 | sl_exact hc3 | sl_exact hc4)
  sl_step
  have r8 := fun inb => readAt_all R.h8 xw ![0, 0, 0, 0] (by decide) inb
  have r9 := fun inb => readAt_all R.h9 xs ![0, 0, 0] (by decide) inb
  have r12 := fun inb => readAt_all R.h12 (fPool8 xp) ![0, 0] (by decide) inb
  iapply Hk
  isplitl [H5]; · iexact H5
  isplitl [H6]; · iexact H6
  isplitl [H8]; · iexact H8
  isplitl [H9]; · iexact H9
  isplitl [H11]
  · iapply (holds_congr c R.h11 _ _ ?_) $$ H11
    refine gate8 c i R hc3 xs xg _ _ _ (r9 _) ?_ f11
    delta poolRun8.sl.H13_1; dsimp only
    refine (writes_all R.h13 _ _ _ (by decide) _).trans (congrArg R.h13.unread (congrArg₂ k0_pay6 ?_ (r8 _)))
    exact (congrArg (View.readAt (Elt F) R.a12.view _) (pool8 c i R hc3 xp f12)).trans (r12 _)
  isplitl [H12]
  · iapply (holds_congr c R.h12 _ _ ?_) $$ H12
    exact pool8 c i R hc3 xp f12
  iexists _, _; isplitr; swap; · iexact H13
  ipureintro; rfl

end Cert.MfwdKernelIdeal.Mix

end
-- ==== Proof.MfwdPool16.lean ====
module

public import proofs.«01_k».proof.Proof.MfwdSpec

@[expose] public section

set_option maxRecDepth 16384

noncomputable section

namespace Cert.MfwdKernelIdeal.Mix

open Cert.MfwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open MixBlocks

variable {F : FTy → Type} [FloatOps F]

local notation "𝕄" => MT nD τ sig Unit (Elt F) ℕ (UR sig nD τ) ℕ

/-- The pooling loop with windows of 16 makes sixteen steps. -/
theorem trips_pool16 : k0_t8_loop.trips = 16 := by decide

/-- So does the gate's loop. -/
theorem trips_gate16 : k0_t9_loop.trips = 16 := by decide

instance : NeZero k0_t8_loop.trips := ⟨by rw [trips_pool16]; decide⟩

/-- A step loads the sixteen rows above its block. -/
theorem off_hist16 : ∀ k : Fin k0_t8_loop.trips, k0_off12 k = ![128 * k.val - 16, 0] := by decide +kernel

/-- The section pooled with windows of 16. -/
abbrev fPool16 (xp : Vec F S2048x128 .bf16) : Vec F S2048x128 .bf16 := fPool k0_pay14 xp

/-- What the pooling loop leaves. -/
theorem pool16 (c : Dev nD) (i : grid0.Coords) (R : Refs) (hc4 : k0_cond5 i = 1#1) (xp : Vec F S2048x128 .bf16) (f : BufTy.Contents (Elt F) R.a12.view.ty) :
    R.a12.view.writes (Elt F) f (pb_k0_t8 (F := F) Variants.none c none i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 hc4 (R.h5.unread xp) k0_t8_loop.trips) = R.h12.unread (fPool16 xp) := by
  refine pool_done trips_pool16 R k0_off12 k0_off13 off_hist16 k0_off13_eq (fun k => k0_off12_inb i k hc4) (fun k => k0_off13_inb i k hc4) k0_pay14 xp
    (fun n => pb_k0_t8 (F := F) Variants.none c none i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 hc4 (R.h5.unread xp) n) rfl (fun k => ?_) f
  dsimp only
  rw [pb_k0_t8_succ]
  unfold tripL_k0_t8 trip_k0_t8
  rfl

/-- What the gate's loop leaves. -/
theorem gate16 (c : Dev nD) (i : grid0.Coords) (R : Refs) (hc4 : k0_cond5 i = 1#1) (xs : Vec F S1x1x128 .f32) (xg : Vec F S2048x128 .bf16) (xm : Vec F S2048x128 .f32)
    (v : Vec F S1x1x128 .f32) (X13 : BufTy.Contents (Elt F) R.a13.view.ty) (hv : v = xs) (hX : X13 = R.h13.unread xm) (f : BufTy.Contents (Elt F) R.a11.view.ty) :
    R.a11.view.writes (Elt F) f (pb_k0_t9 (F := F) Variants.none c none i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 hc4 v (R.h6.unread xg) X13 k0_t9_loop.trips) = R.h11.unread (fYp xs xg xm) := by
  subst hv hX
  refine gate_done trips_gate16 R k0_off14 k0_off14_eq (fun k => k0_off14_inb i k hc4) v xg xm
    (fun n => pb_k0_t9 (F := F) Variants.none c none i R.a1 R.h1 R.a2 R.h2 R.a3 R.h3 R.a4 R.h4 R.a5 R.h5 R.a6 R.h6 R.a7 R.h7 R.a8 R.h8 R.a9 R.h9 R.a10 R.h10 R.a11 R.h11 R.a12 R.h12 R.a13 R.h13 hc4 v (R.h6.unread xg) (R.h13.unread xm) n) rfl (fun k => ?_) f
  dsimp only
  rw [pb_k0_t9_succ]
  unfold tripL_k0_t9 trip_k0_t9
  rfl

set_option maxHeartbeats 4000000 in
/-- The run of the pooling part with windows of 16 (grid point 7). -/
theorem poolRun16 (c : Dev nD) (i : grid0.Coords) (R : Refs) (hc0 : ¬ k0_cond1 i = 1#1) (hc1 : ¬ k0_cond2 i = 1#1) (hc2 : ¬ k0_cond3 i = 1#1) (hc3 : ¬ k0_cond4 i = 1#1) (hc4 : k0_cond5 i = 1#1)
    (xp xg : Vec F S2048x128 .bf16) (xw : Vec F S1x1x128x128 .f32) (xs : Vec F S1x1x128 .f32) : PoolRun c i R xp xg xw xs (fPool16 xp) := by
  intro E K
  unfold bodyOf
  simp only [cc0_mix_fwd_eq_skeleton]; unfold cc0_mix_fwd_skel
  unfold owns
  iintro ⟨H5, H6, H8, H9, ⟨%d11, %f11, -, H11⟩, ⟨%d12, %f12, -, H12⟩, ⟨%d13, %f13, -, H13⟩, Hk⟩
  sl_exec (disch := first | sl_exact hc0 | sl_exact hc1 | sl_exact hc2 | sl_exact hc3 | sl_exact hc4)
  sl_step
  have r8 := fun inb => readAt_all R.h8 xw ![0, 0, 0, 0] (by decide) inb
  have r9 := fun inb => readAt_all R.h9 xs ![0, 0, 0] (by decide) inb
  have r12 := fun inb => readAt_all R.h12 (fPool16 xp) ![0, 0] (by decide) inb
  iapply Hk
  isplitl [H5]; · iexact H5
  isplitl [H6]; · iexact H6
  isplitl [H8]; · iexact H8
  isplitl [H9]; · iexact H9
  isplitl [H11]
  · iapply (holds_congr c R.h11 _ _ ?_) $$ H11
    refine gate16 c i R hc4 xs xg _ _ _ (r9 _) ?_ f11
    delta poolRun16.sl.H13_1; dsimp only
    refine (writes_all R.h13 _ _ _ (by decide) _).trans (congrArg R.h13.unread (congrArg₂ k0_pay6 ?_ (r8 _)))
    exact (congrArg (View.readAt (Elt F) R.a12.view _) (pool16 c i R hc4 xp f12)).trans (r12 _)
  isplitl [H12]
  · iapply (holds_congr c R.h12 _ _ ?_) $$ H12
    exact pool16 c i R hc4 xp f12
  iexists _, _; isplitr; swap; · iexact H13
  ipureintro; rfl

end Cert.MfwdKernelIdeal.Mix

end
-- ==== Proof.MfwdFrame.lean ====
module

public import proofs.«01_k».proof.Proof.Gen.MfwdKernelIdeal.Frame
public import proofs.«01_k».proof.Proof.Gen.MfwdKernelIdeal.Loops
public import proofs.«01_k».proof.Proof.Gen.MfwdKernelIdeal.Points
public import proofs.«01_k».proof.Proof.MfwdConv
public import proofs.«01_k».proof.Proof.MfwdPool2
public import proofs.«01_k».proof.Proof.MfwdPool4
public import proofs.«01_k».proof.Proof.MfwdPool8
public import proofs.«01_k».proof.Proof.MfwdPool16
public import Idealize.ShloMosaic.Lib.Pipeline.TableIdle
public import Idealize.ShloMosaic.Lib.Claim

@[expose] public section

set_option maxRecDepth 16384

noncomputable section

namespace Cert.MfwdKernelIdeal.Mix

open Cert.MfwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open MixBlocks
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of the grid: four of the convolution, four of the pooling -/

/-- Point `k` of the convolution part. -/
def cPt (k : Fin 4) : Fin cfg0.N := ⟨k.val, by have := k.isLt; have : cfg0.N = 8 := N_0; omega⟩
/-- Point `k` of the pooling part. -/
def pPt (k : Fin 4) : Fin cfg0.N := ⟨4 + k.val, by have := k.isLt; have : cfg0.N = 8 := N_0; omega⟩
/-- The convolution point whose results the staging buffers hold after point `t`. -/
def cOf (t : Fin cfg0.N) : Fin 4 := ⟨min t.val 3, by omega⟩
/-- The pooling point of `t` (the first one before the pooling part begins). -/
def pOf (t : Fin cfg0.N) : Fin 4 := ⟨t.val - 4, by have := t.isLt; have : cfg0.N = 8 := N_0; omega⟩

theorem cOf_cPt (k : Fin 4) : cOf (cPt k) = k := by revert k; decide
theorem pOf_pPt (k : Fin 4) : pOf (pPt k) = k := by revert k; decide

/-- Every point is one of the two kinds. -/
theorem point_cases (t : Fin cfg0.N) : (∃ k, t = cPt k) ∨ ∃ k, t = pPt k := by
  have hN : t.val < 8 := lt_of_lt_of_eq t.isLt N_0
  by_cases h : t.val < 4
  · exact .inl ⟨⟨t.val, h⟩, rfl⟩
  · exact .inr ⟨⟨t.val - 4, by omega⟩, Fin.ext (by simp only [pPt]; omega)⟩

/-- The conditions of the body at the convolution points. -/
theorem cond_conv : ∀ k : Fin 4, k0_cond1 (grid0.coords (cPt k)) = 1#1 ∧ ¬ k0_cond2 (grid0.coords (cPt k)) = 1#1
    ∧ ¬ k0_cond3 (grid0.coords (cPt k)) = 1#1 ∧ ¬ k0_cond4 (grid0.coords (cPt k)) = 1#1 ∧ ¬ k0_cond5 (grid0.coords (cPt k)) = 1#1 := by
  decide +kernel

/-- The conditions of the body at the pooling points: the convolution's fails, and the point's own holds. -/
theorem cond_pool : ∀ k : Fin 4, ¬ k0_cond1 (grid0.coords (pPt k)) = 1#1
    ∧ (k0_cond2 (grid0.coords (pPt k)) = 1#1 ↔ k = 0) ∧ (k0_cond3 (grid0.coords (pPt k)) = 1#1 ↔ k = 1)
    ∧ (k0_cond4 (grid0.coords (pPt k)) = 1#1 ↔ k = 2) ∧ (k0_cond5 (grid0.coords (pPt k)) = 1#1 ↔ k = 3) := by
  decide +kernel

/-- The buffers the pipeline passes the body at point `t`. -/
@[reducible] def refsAt (t : Fin cfg0.N) : Refs where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := win0_8.stage (cfg0.slots t 8)
  h9 := hstage0_8 ((cfg0.slots t 8).cast nbuf0_8)
  a10 := win0_9.stage (cfg0.slots t 9)
  h10 := hstage0_9 ((cfg0.slots t 9).cast nbuf0_9)
  a11 := win0_10.stage (cfg0.slots t 10)
  h11 := hstage0_10 ((cfg0.slots t 10).cast nbuf0_10)
  a12 := win0_11.stage (cfg0.slots t 11)
  h12 := hstage0_11 ((cfg0.slots t 11).cast nbuf0_11)
  a13 := Memref.whole cc0_scratch0
  h13 := Memref.isWhole_whole _

/-! ## What the two parts leave, as functions of the blocks fetched -/

/-- The gated convolution at its point `k`. -/
def yaAt (c : Dev nD) (k : Fin 4) : Vec F S2048x128 .bf16 := fYa (tap (iblk m c 6 (cPt k)) 0) (tap (iblk m c 6 (cPt k)) 1) (tap (iblk m c 6 (cPt k)) 2) (iblk m c 0 (cPt k)) (iblk m c 1 (cPt k)) (iblk m c 2 (cPt k)) (iblk m c 3 (cPt k))
/-- What a pooled section is, by the window. -/
def pPool (xp : Vec F S2048x128 .bf16) : Fin 4 → Vec F S2048x128 .bf16
  | 0 => fPool2 xp
  | 1 => fPool4 xp
  | 2 => fPool8 xp
  | 3 => fPool16 xp
/-- The pooled section at the pooling's point `k`. -/
def plAt (c : Dev nD) (k : Fin 4) : Vec F S2048x128 .bf16 := pPool (iblk m c 4 (pPt k)) k
/-- The pooling mixer's result at its point `k`. -/
def ypAt (c : Dev nD) (k : Fin 4) : Vec F S2048x128 .bf16 := fYp (iblk m c 8 (pPt k)) (iblk m c 5 (pPt k)) (fMixed (iblk m c 7 (pPt k)) (plAt m c k))

/-- The pooling run at its point `k`, on the blocks fetched there: windows of 2, 4, 8 and 16. -/
theorem poolAt (c : Dev nD) : (k : Fin 4) → PoolRun c (grid0.coords (pPt k)) (refsAt (pPt k)) (iblk m c 4 (pPt k)) (iblk m c 5 (pPt k)) (iblk m c 7 (pPt k)) (iblk m c 8 (pPt k)) (plAt m c k)
  | 0 => poolRun2 c _ _ (cond_pool 0).1 ((cond_pool 0).2.1.mpr rfl) (fun h => absurd ((cond_pool 0).2.2.1.mp h) (by decide)) (fun h => absurd ((cond_pool 0).2.2.2.1.mp h) (by decide)) (fun h => absurd ((cond_pool 0).2.2.2.2.mp h) (by decide)) _ _ _ _
  | 1 => poolRun4 c _ _ (cond_pool 1).1 (fun h => absurd ((cond_pool 1).2.1.mp h) (by decide)) ((cond_pool 1).2.2.1.mpr rfl) (fun h => absurd ((cond_pool 1).2.2.2.1.mp h) (by decide)) (fun h => absurd ((cond_pool 1).2.2.2.2.mp h) (by decide)) _ _ _ _
  | 2 => poolRun8 c _ _ (cond_pool 2).1 (fun h => absurd ((cond_pool 2).2.1.mp h) (by decide)) (fun h => absurd ((cond_pool 2).2.2.1.mp h) (by decide)) ((cond_pool 2).2.2.2.1.mpr rfl) (fun h => absurd ((cond_pool 2).2.2.2.2.mp h) (by decide)) _ _ _ _
  | 3 => poolRun16 c _ _ (cond_pool 3).1 (fun h => absurd ((cond_pool 3).2.1.mp h) (by decide)) (fun h => absurd ((cond_pool 3).2.2.1.mp h) (by decide)) (fun h => absurd ((cond_pool 3).2.2.2.1.mp h) (by decide)) ((cond_pool 3).2.2.2.2.mpr rfl) _ _ _ _

/-! ## The proof data -/

/-- The proof data of the call on core `c`: the arrays as the region finds them; after point `t` each input's buffer at its
    block, the convolution's result at that of the last convolution point up to `t`, the pooling's at those of `t`; the
    scratch at anything throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => yaAt m c (cOf t)
    | ⟨10, _⟩ => ypAt m c (pOf t)
    | ⟨11, _⟩ => plAt m c (pOf t)
    | ⟨_ + 12, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = yaAt m c (cOf t) := by dsimp only [dats]
theorem after_10 (c : Dev nD) (t : Fin cfg0.N) : (dats m 0 c).after 10 t = ypAt m c (pOf t) := by dsimp only [dats]
theorem after_11 (c : Dev nD) (t : Fin cfg0.N) : (dats m 0 c).after 11 t = plAt m c (pOf t) := by dsimp only [dats]

/-! ## Where the result windows are idle, written back, and fresh -/

theorem idle_9 : ∀ t : Fin cfg0.N, cfg0.idle 9 (grid0.coords t) = decide (4 ≤ t.val) := by decide +kernel
theorem fresh_9 : ∀ n, n ≤ cfg0.N → cfg0.fresh 9 n = decide (n < 4 ∨ n = 8) :=
  Cfg.fresh_tab cfg0 9 (fun n => decide (n < 4 ∨ n = 8)) rfl (fun t => by rw [Window.flush_eq_flushF]; revert t; decide +kernel)
theorem idle_10 : ∀ t : Fin cfg0.N, cfg0.idle 10 (grid0.coords t) = decide (t.val < 4) := by decide +kernel
theorem flush_10 : ∀ t : Fin cfg0.N, t.val < 4 → (cfg0.win 10).flush t = false := fun t => by
  rw [Window.flush_eq_flushF]; revert t; decide +kernel
theorem idle_11 : ∀ t : Fin cfg0.N, cfg0.idle 11 (grid0.coords t) = decide (t.val < 4) := by decide +kernel
theorem flush_11 : ∀ t : Fin cfg0.N, t.val < 4 → (cfg0.win 11).flush t = false := fun t => by
  rw [Window.flush_eq_flushF]; revert t; decide +kernel

/-- Past the convolution points the last of them does not change. -/
theorem cOf_pred (t : Fin cfg0.N) (h0 : t.val ≠ 0) (h : 4 ≤ t.val) : cOf t = cOf ⟨t.val - 1, by omega⟩ :=
  Fin.ext (by simp only [cOf]; omega)

/-- At a pooling point a result window of the convolution holds what the last convolution point left, and after it too. -/
theorem kept (c : Dev nD) (w : Fin cfg0.W) (hw : (cfg0.win w).isOut = true) (hc : ∀ (i : cfg0.grid.Coords) a, (cfg0.win w).clip i a = none)
    (hi : ∀ t : Fin cfg0.N, cfg0.idle w (grid0.coords t) = decide (4 ≤ t.val)) (hf : ∀ n, n ≤ cfg0.N → cfg0.fresh w n = decide (n < 4 ∨ n = 8))
    (ha : ∀ s t : Fin cfg0.N, cOf s = cOf t → (dats m 0 c).after w s = (dats m 0 c).after w t)
    (t : Fin cfg0.N) (h : 4 ≤ t.val) (d) : (dats m 0 c).before w t d = (dats m 0 c).after w t := by
  have hN : t.val < 8 := lt_of_lt_of_eq t.isLt N_0
  rw [(dats m 0 c).before_out_traj w hw hc (fun t h0 hi' _ => ha _ _ (cOf_pred t h0 (of_decide_eq_true ((hi t).symm.trans hi')))) t.val t rfl d,
    hf _ (Nat.le_of_lt t.isLt), decide_eq_false (by omega), if_neg Bool.false_ne_true]
  exact (ha _ _ (cOf_pred t (by omega) h)).symm

theorem kept_9 (c : Dev nD) (t : Fin cfg0.N) (h : 4 ≤ t.val) (d) : (dats m 0 c).before 9 t d = (dats m 0 c).after 9 t :=
  kept m c 9 rfl (fun _ _ => rfl) idle_9 fresh_9 (fun s t e => by rw [after_9, after_9, e]) t h d

/-! ## What the body finds and leaves, window by window -/

/-- The class's invariant with the scratch buffer as a memref owned at some contents. -/
theorem PhiA_eq (c : Dev nD) (t : Fin cfg0.N) :
    (Pipeline.ΦA spec0 c : sProp 𝕄)
      = iprop((∃ d, owns (c : Thread nD τ) (refsAt t).a13 fullShare d) ∗ (∃ r, prngReg c r)) := by
  unfold Pipeline.ΦA; rw [scopedRest0_eq]; simp only [refsAt, owns_whole]; try rfl

/-- A staging buffer found at one of several contents, all of them `x`, holds `x`. -/
theorem take {s : Shape} {e : EltTy} {α : Type} (c : Dev nD) {M : Memref sig .tc .vmem s e} (h : M.IsWhole) (f : α → Vec F s e) (x : Vec F s e)
    (hf : ∀ d, f d = x) : (iprop(∃ d, owns (c : Thread nD τ) M fullShare (f d)) : sProp 𝕄) ⊢ holds c h x := by
  iintro ⟨%d, H⟩
  rw [hf d]
  iapply (owns_eq_holds c h x).1
  iexact H

/-- A buffer found at some contents of a family is owned at some contents. -/
theorem any_of_found {s : Shape} {e : EltTy} {α : Type} (c : Dev nD) (M : Memref sig .tc .vmem s e) (f : α → Vec F s e) :
    (iprop(∃ d, owns (c : Thread nD τ) M fullShare (f d)) : sProp 𝕄) ⊢ iprop(∃ d, owns (c : Thread nD τ) M fullShare d) := by
  iintro ⟨%d, H⟩
  iexists _
  iexact H

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- What the body finds in window `w`'s buffer at point `t`, and what it leaves there. -/
abbrev found (c : Dev nD) (t : Fin cfg0.N) (w : Fin cfg0.W) : sProp 𝕄 :=
  iprop(∃ d, owns (c : Thread nD τ) ((cfg0.win w).stage (cfg0.slots t w)) fullShare ((dats m 0 c).before w t d))

/-- A window not idle at a point is left at `after`. -/
theorem leaves_live (c : Dev nD) (t : Fin cfg0.N) (w : Fin cfg0.W) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- A window whose found contents are `after` is left untouched, written back there or not. -/
theorem leaves_kept (c : Dev nD) (t : Fin cfg0.N) (w : Fin cfg0.W) (h : ∀ d, (dats m 0 c).before w t d = (dats m 0 c).after w t) :
    found m c t w ⊢ (dats m 0 c).leavesExact w t := by
  have key : found m c t w ⊢ owns (c : Thread nD τ) ((cfg0.win w).stage (cfg0.slots t w)) fullShare ((dats m 0 c).after w t) := by
    iintro ⟨%d, H⟩
    rw [h d]
    iexact H
  unfold Dat.leavesExact
  cases cfg0.idle w (cfg0.grid.coords t)
  · exact key
  · cases (cfg0.win w).flush t
    · exact .rfl
    · exact key

/-- An input is left at its block. -/
theorem leave_in {s : Shape} {e : EltTy} (c : Dev nD) (t : Fin cfg0.N) {M : Memref sig .tc .vmem s e} (h : M.IsWhole) (x : Vec F s e) :
    (holds c h x : sProp 𝕄) ⊢ owns (c : Thread nD τ) M fullShare x := (owns_eq_holds c h x).2

/-! ## The body at a point -/

/-- All of the windows' buffers before the body at point `t`. -/
def bodyPre (c : Dev nD) (t : Fin cfg0.N) : sProp 𝕄 :=
  iprop((dats m 0 c).Φ t.castSucc ∗ (dats m 0 c).owesAt () t.castSucc
    ∗ found m c t 0 ∗ found m c t 1 ∗ found m c t 2 ∗ found m c t 3 ∗ found m c t 4 ∗ found m c t 5 ∗ found m c t 6 ∗ found m c t 7 ∗ found m c t 8 ∗ found m c t 9 ∗ found m c t 10 ∗ found m c t 11)

/-- All of the windows' buffers after the body at point `t`. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t)

set_option maxHeartbeats 4000000 in
/-- The body at a convolution point. -/
theorem sound_conv (c : Dev nD) (k : Fin 4) :
    bodyPre m c (cPt k) ⊢ wp frame (wpE (defs₀ (F := F)) Variants.none c none) Set.univ (bodyAt0 (cPt k)) (fun _ => bodyPost m c (cPt k)) := by
  unfold bodyPre bodyPost
  rw [show bodyAt0 (cPt k) = bodyOf (F := F) (grid0.coords (cPt k)) (refsAt (cPt k)) from rfl]
  rw [show (dats m 0 c).Φ (Fin.succ (cPt k)) = Pipeline.ΦA spec0 c from rfl, show (dats m 0 c).Φ (Fin.castSucc (cPt k)) = Pipeline.ΦA spec0 c from rfl,
    show (dats m 0 c).owesAt () (Fin.succ (cPt k)) = (dats m 0 c).owesAt () (Fin.castSucc (cPt k)) from rfl, PhiA_eq c (cPt k)]
  iintro ⟨⟨HS0, Hg⟩, Ho, H0, H1, H2, H3, H4, H5, H6, H7, H8, H9, H10, H11⟩
  ihave H0 := (take c (refsAt (cPt k)).h1 ((dats m 0 c).before 0 (cPt k)) (iblk m c 0 (cPt k)) (before_0 m c (cPt k))) $$ H0
  ihave H1 := (take c (refsAt (cPt k)).h2 ((dats m 0 c).before 1 (cPt k)) (iblk m c 1 (cPt k)) (before_1 m c (cPt k))) $$ H1
  ihave H2 := (take c (refsAt (cPt k)).h3 ((dats m 0 c).before 2 (cPt k)) (iblk m c 2 (cPt k)) (before_2 m c (cPt k))) $$ H2
  ihave H3 := (take c (refsAt (cPt k)).h4 ((dats m 0 c).before 3 (cPt k)) (iblk m c 3 (cPt k)) (before_3 m c (cPt k))) $$ H3
  ihave H6 := (take c (refsAt (cPt k)).h7 ((dats m 0 c).before 6 (cPt k)) (iblk m c 6 (cPt k)) (before_6 m c (cPt k))) $$ H6
  ihave H9 := (any_of_found c (refsAt (cPt k)).a10 ((dats m 0 c).before 9 (cPt k))) $$ H9
  iapply (convRun c _ (refsAt (cPt k)) (cond_conv k).1 (cond_conv k).2.1 (cond_conv k).2.2.1 (cond_conv k).2.2.2.1 (cond_conv k).2.2.2.2 _ _ _ _ _ Set.univ _)
  isplitl [H0]; · iexact H0
  isplitl [H1]; · iexact H1
  isplitl [H2]; · iexact H2
  isplitl [H3]; · iexact H3
  isplitl [H6]; · iexact H6
  isplitl [H9]; · iexact H9
  iintro ⟨H0, H1, H2, H3, H6, H9⟩
  isplitl [HS0 Hg]
  · isplitl [HS0]; · iexact HS0
    iexact Hg
  isplitl [Ho]; · iexact Ho
  isplitl [H0]
  · rw [leaves_live m c (cPt k) 0 rfl, after_0]; iapply (owns_eq_holds c (refsAt (cPt k)).h1 (iblk m c 0 (cPt k))).2; iexact H0
  isplitl [H1]
  · rw [leaves_live m c (cPt k) 1 rfl, after_1]; iapply (owns_eq_holds c (refsAt (cPt k)).h2 (iblk m c 1 (cPt k))).2; iexact H1
  isplitl [H2]
  · rw [leaves_live m c (cPt k) 2 rfl, after_2]; iapply (owns_eq_holds c (refsAt (cPt k)).h3 (iblk m c 2 (cPt k))).2; iexact H2
  isplitl [H3]
  · rw [leaves_live m c (cPt k) 3 rfl, after_3]; iapply (owns_eq_holds c (refsAt (cPt k)).h4 (iblk m c 3 (cPt k))).2; iexact H3
  isplitl [H4]
  · iapply (leaves_kept m c (cPt k) 4 (fun d => (before_4 m c (cPt k) d).trans (after_4 m c (cPt k)).symm)); iexact H4
  isplitl [H5]
  · iapply (leaves_kept m c (cPt k) 5 (fun d => (before_5 m c (cPt k) d).trans (after_5 m c (cPt k)).symm)); iexact H5
  isplitl [H6]
  · rw [leaves_live m c (cPt k) 6 rfl, after_6]; iapply (owns_eq_holds c (refsAt (cPt k)).h7 (iblk m c 6 (cPt k))).2; iexact H6
  isplitl [H7]
  · iapply (leaves_kept m c (cPt k) 7 (fun d => (before_7 m c (cPt k) d).trans (after_7 m c (cPt k)).symm)); iexact H7
  isplitl [H8]
  · iapply (leaves_kept m c (cPt k) 8 (fun d => (before_8 m c (cPt k) d).trans (after_8 m c (cPt k)).symm)); iexact H8
  isplitl [H9]
  · rw [leaves_live m c (cPt k) 9 (by rw [idle_9]; exact decide_eq_false (by simp only [cPt]; omega)), after_9, cOf_cPt]; iapply (owns_eq_holds c (refsAt (cPt k)).h10 (yaAt m c k)).2; iexact H9
  isplitl [H10]
  · rw [(dats m 0 c).leavesExact_idle 10 (cPt k) (by rw [idle_10]; exact decide_eq_true k.isLt) (flush_10 (cPt k) k.isLt)]; iexact H10
  rw [(dats m 0 c).leavesExact_idle 11 (cPt k) (by rw [idle_11]; exact decide_eq_true k.isLt) (flush_11 (cPt k) k.isLt)]; iexact H11

set_option maxHeartbeats 4000000 in
/-- The body at a pooling point. -/
theorem sound_pool (c : Dev nD) (k : Fin 4) :
    bodyPre m c (pPt k) ⊢ wp frame (wpE (defs₀ (F := F)) Variants.none c none) Set.univ (bodyAt0 (pPt k)) (fun _ => bodyPost m c (pPt k)) := by
  unfold bodyPre bodyPost
  rw [show bodyAt0 (pPt k) = bodyOf (F := F) (grid0.coords (pPt k)) (refsAt (pPt k)) from rfl]
  rw [show (dats m 0 c).Φ (Fin.succ (pPt k)) = Pipeline.ΦA spec0 c from rfl, show (dats m 0 c).Φ (Fin.castSucc (pPt k)) = Pipeline.ΦA spec0 c from rfl,
    show (dats m 0 c).owesAt () (Fin.succ (pPt k)) = (dats m 0 c).owesAt () (Fin.castSucc (pPt k)) from rfl, PhiA_eq c (pPt k)]
  iintro ⟨⟨HS0, Hg⟩, Ho, H0, H1, H2, H3, H4, H5, H6, H7, H8, H9, H10, H11⟩
  ihave H4 := (take c (refsAt (pPt k)).h5 ((dats m 0 c).before 4 (pPt k)) (iblk m c 4 (pPt k)) (before_4 m c (pPt k))) $$ H4
  ihave H5 := (take c (refsAt (pPt k)).h6 ((dats m 0 c).before 5 (pPt k)) (iblk m c 5 (pPt k)) (before_5 m c (pPt k))) $$ H5
  ihave H7 := (take c (refsAt (pPt k)).h8 ((dats m 0 c).before 7 (pPt k)) (iblk m c 7 (pPt k)) (before_7 m c (pPt k))) $$ H7
  ihave H8 := (take c (refsAt (pPt k)).h9 ((dats m 0 c).before 8 (pPt k)) (iblk m c 8 (pPt k)) (before_8 m c (pPt k))) $$ H8
  ihave H10 := (any_of_found c (refsAt (pPt k)).a11 ((dats m 0 c).before 10 (pPt k))) $$ H10
  ihave H11 := (any_of_found c (refsAt (pPt k)).a12 ((dats m 0 c).before 11 (pPt k))) $$ H11
  iapply (poolAt m c k Set.univ _)
  isplitl [H4]; · iexact H4
  isplitl [H5]; · iexact H5
  isplitl [H7]; · iexact H7
  isplitl [H8]; · iexact H8
  isplitl [H10]; · iexact H10
  isplitl [H11]; · iexact H11
  isplitl [HS0]; · iexact HS0
  iintro ⟨H4, H5, H7, H8, H10, H11, HS0⟩
  isplitl [HS0 Hg]
  · isplitl [HS0]; · iexact HS0
    iexact Hg
  isplitl [Ho]; · iexact Ho
  isplitl [H0]
  · iapply (leaves_kept m c (pPt k) 0 (fun d => (before_0 m c (pPt k) d).trans (after_0 m c (pPt k)).symm)); iexact H0
  isplitl [H1]
  · iapply (leaves_kept m c (pPt k) 1 (fun d => (before_1 m c (pPt k) d).trans (after_1 m c (pPt k)).symm)); iexact H1
  isplitl [H2]
  · iapply (leaves_kept m c (pPt k) 2 (fun d => (before_2 m c (pPt k) d).trans (after_2 m c (pPt k)).symm)); iexact H2
  isplitl [H3]
  · iapply (leaves_kept m c (pPt k) 3 (fun d => (before_3 m c (pPt k) d).trans (after_3 m c (pPt k)).symm)); iexact H3
  isplitl [H4]
  · rw [leaves_live m c (pPt k) 4 rfl, after_4]; iapply (owns_eq_holds c (refsAt (pPt k)).h5 (iblk m c 4 (pPt k))).2; iexact H4
  isplitl [H5]
  · rw [leaves_live m c (pPt k) 5 rfl, after_5]; iapply (owns_eq_holds c (refsAt (pPt k)).h6 (iblk m c 5 (pPt k))).2; iexact H5
  isplitl [H6]
  · iapply (leaves_kept m c (pPt k) 6 (fun d => (before_6 m c (pPt k) d).trans (after_6 m c (pPt k)).symm)); iexact H6
  isplitl [H7]
  · rw [leaves_live m c (pPt k) 7 rfl, after_7]; iapply (owns_eq_holds c (refsAt (pPt k)).h8 (iblk m c 7 (pPt k))).2; iexact H7
  isplitl [H8]
  · rw [leaves_live m c (pPt k) 8 rfl, after_8]; iapply (owns_eq_holds c (refsAt (pPt k)).h9 (iblk m c 8 (pPt k))).2; iexact H8
  isplitl [H9]
  · iapply (leaves_kept m c (pPt k) 9 (kept_9 m c (pPt k) (by simp only [pPt]; omega))); iexact H9
  isplitl [H10]
  · rw [leaves_live m c (pPt k) 10 (by rw [idle_10]; exact decide_eq_false (by simp only [pPt]; omega)), after_10, pOf_pPt]; iapply (owns_eq_holds c (refsAt (pPt k)).h11 (ypAt m c k)).2; iexact H10
  rw [leaves_live m c (pPt k) 11 (by rw [idle_11]; exact decide_eq_false (by simp only [pPt]; omega)), after_11, pOf_pPt]; iapply (owns_eq_holds c (refsAt (pPt k)).h12 (plAt m c k)).2; iexact H11

/-- The body table's row at point `t`'s slots is the body there. -/
theorem row (t : Fin cfg0.N) : defs₀ (F := F) .tc cfg0.body (cfg0.bodyArgs t (cfg0.slots t)) = bodyAt0 t := by
  unfold defs₀; rw [Defs.onTc_tc]

set_option maxHeartbeats 4000000 in
/-- The body obligation at every point. -/
theorem body_obligation (c : Dev nD) : BodyObligation (dats (F := F) m 0 c) (defs₀ (F := F)) Variants.none () Set.univ := fun t => by
  rw [bigSep_W0, bigSep_W0, row]
  rcases point_cases t with ⟨k, rfl⟩ | ⟨k, rfl⟩
  · exact triple_restated (sound_conv m c k) rfl .rfl fun _ => .rfl
  · exact triple_restated (sound_pool m c k) rfl .rfl fun _ => .rfl

/-! ## The run -/

set_option backward.isDefEq.respectTransparency.types false in
/-- Every weakly fair execution terminates with the arrays at what the proof data says and all counters at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => .rfl) (hout := fun _ => .rfl)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.MfwdKernelIdeal.Mix

end
-- ==== Proof.MfwdSame.lean ====
module

public import proofs.«01_k».proof.Defs
public import proofs.«01_k».proof.Proof.Gen.MfwdKernel
public import proofs.«01_k».proof.Proof.Gen.MfwdKernelIdeal.Frame

@[expose] public section

set_option maxRecDepth 16384

noncomputable section

namespace Cert.MfwdKernelIdeal.Mix

open Idealize.ShloMosaic Idealize.SL.Sem

variable (F : FTy → Type) [FloatOps F]

set_option maxHeartbeats 40000000 in
/-- The host text of the kernel is the host text of the ideal program. -/
theorem main_same : Cert.MfwdKernel.main (F := F) = Cert.MfwdKernelIdeal.main (F := F) := rfl

set_option maxHeartbeats 40000000 in
/-- The body table of the kernel is the body table of the ideal program. -/
theorem defs₀_same : Cert.MfwdKernel.defs₀ (F := F) = Cert.MfwdKernelIdeal.defs₀ (F := F) := by
  refine congrArg (Defs.onTc (nD := Cert.MfwdKernelIdeal.nD) (τ := Cert.MfwdKernelIdeal.τ)) ?_
  funext l x
  match l, x with
  | 0, (t, s) => rfl
  | ⟨_ + 1, h⟩, _ => exact absurd h (Nat.not_lt.2 (Nat.le_add_left _ _))

set_option maxHeartbeats 40000000 in
/-- The whole tables agree: they are made of the body tables in one way. -/
theorem defs_same : Cert.MfwdKernel.defs (F := F) = Cert.MfwdKernelIdeal.defs (F := F) :=
  congrArg (Pipeline.defs (Cert.MfwdKernelIdeal.pcfgs (F := F))) (defs₀_same F)

end Cert.MfwdKernelIdeal.Mix

end
-- ==== Proof.MfwdBoth.lean ====
module

public import proofs.«01_k».proof.Proof.MfwdFrame
public import proofs.«01_k».proof.Proof.MfwdSame

@[expose] public section

set_option maxRecDepth 16384

noncomputable section

namespace Cert.MfwdKernelIdeal.Mix

open Idealize.ShloMosaic Idealize.SL.Sem

set_option maxHeartbeats 40000000 in
/-- The frame of the kernel: its text is the ideal program's, and the run is over any float values. -/
theorem frame_kernel : Cert.quiescent_MfwdKernel := by
  intro m ρ _
  rw [defs_same, main_same]
  exact frame (F := Bits) m ρ

end Cert.MfwdKernelIdeal.Mix

end
-- ==== Proof.MfwdArrays.lean ====
module

public import proofs.«01_k».proof.Proof.MfwdFrame
public import Idealize.ShloMosaic.Lib.Pipeline.Value
public import Idealize.ShloMosaic.Lib.Pipeline.ValueKit.Point
public import Idealize.ShloMosaic.Lib.ValueIdx

@[expose] public section

set_option maxRecDepth 16384

noncomputable section

namespace Cert.MfwdKernelIdeal.Mix

open Cert.MfwdKernelIdeal.Gen
open Idealize.ShloMosaic Idealize.ShloMosaic.TcCoe Idealize.SL.Sem

variable (m : (ℓ : Loc nD τ sig) → Buf (Elt Ideal) ℓ)

/-- Where the blocks of the convolution's inputs lie at its points. -/
theorem idxC : ∀ k : Fin 4, win0_0.index (cPt k) = ![0, k.val] ∧ win0_1.index (cPt k) = ![0, 4 + k.val] ∧ win0_2.index (cPt k) = ![0, 8 + k.val]
    ∧ win0_3.index (cPt k) = ![0, 12 + k.val] ∧ win0_6.index (cPt k) = ![k.val, 3, 0, 0] := by decide +kernel

/-- Where the blocks of the pooling's inputs lie at its points. -/
theorem idxP : ∀ k : Fin 4, win0_4.index (pPt k) = ![0, 16 + k.val] ∧ win0_5.index (pPt k) = ![0, 20 + k.val]
    ∧ win0_7.index (pPt k) = ![3, k.val, 0, 0] ∧ win0_8.index (pPt k) = ![3, 0, k.val] := by decide +kernel

/-- Column `l` of group `k`, in an array whose groups begin at group `b`. -/
abbrev gcol {N : ℕ} (b : ℕ) (k : Fin 4) (l : Fin 128) (h : 128 * (b + 4) ≤ N := by decide) : Fin N := ⟨128 * (b + k.val) + l.val, by have := k.isLt; have := l.isLt; omega⟩

theorem blk0 (c : Dev nD) (k : Fin 4) (n : Fin 2048) (l : Fin 128) : iblk m c 0 (cPt k) (ix2 n l) = m ((c : Thread nD τ).loc main_arg0) (ix2 n (gcol 0 k l)) := by
  have := n.isLt; have := l.isLt; have := k.isLt
  blk_ext! [iblk, V, idxC k]

theorem blk1 (c : Dev nD) (k : Fin 4) (n : Fin 2048) (l : Fin 128) : iblk m c 1 (cPt k) (ix2 n l) = m ((c : Thread nD τ).loc main_arg0) (ix2 n (gcol 4 k l)) := by
  have := n.isLt; have := l.isLt; have := k.isLt
  blk_ext! [iblk, V, idxC k]

theorem blk2 (c : Dev nD) (k : Fin 4) (n : Fin 2048) (l : Fin 128) : iblk m c 2 (cPt k) (ix2 n l) = m ((c : Thread nD τ).loc main_arg0) (ix2 n (gcol 8 k l)) := by
  have := n.isLt; have := l.isLt; have := k.isLt
  blk_ext! [iblk, V, idxC k]

theorem blk3 (c : Dev nD) (k : Fin 4) (n : Fin 2048) (l : Fin 128) : iblk m c 3 (cPt k) (ix2 n l) = m ((c : Thread nD τ).loc main_arg0) (ix2 n (gcol 12 k l)) := by
  have := n.isLt; have := l.isLt; have := k.isLt
  blk_ext! [iblk, V, idxC k]

theorem blk4 (c : Dev nD) (k : Fin 4) (n : Fin 2048) (l : Fin 128) : iblk m c 4 (pPt k) (ix2 n l) = m ((c : Thread nD τ).loc main_arg0) (ix2 n (gcol 16 k l)) := by
  have := n.isLt; have := l.isLt; have := k.isLt
  blk_ext! [iblk, V, idxP k]

theorem blk5 (c : Dev nD) (k : Fin 4) (n : Fin 2048) (l : Fin 128) : iblk m c 5 (pPt k) (ix2 n l) = m ((c : Thread nD τ).loc main_arg0) (ix2 n (gcol 20 k l)) := by
  have := n.isLt; have := l.isLt; have := k.isLt
  blk_ext! [iblk, V, idxP k]

theorem blk7 (c : Dev nD) (k : Fin 4) (a b : Fin 128) : iblk m c 7 (pPt k) (ix4 0 0 a b) = m ((c : Thread nD τ).loc main_arg2) (ix4 3 k a b) := by
  have := a.isLt; have := b.isLt; have := k.isLt
  blk_ext! [iblk, V, idxP k]

/-- The filter as the host lays it out: group, layer, tap, column. -/
theorem host_filter (c : Dev nD) : V m c main_v1
    = (fun (x : (⟨S4x3x512, .f32⟩ : BufTy).Contents (Elt Ideal)) => transpose S4x4x3x128 [2, 0, 1, 3] (shapeCast S4x3x4x128 x shapeCasts_S4x3x512_S4x3x4x128) transposes_S4x3x4x128_S4x4x3x128_2_0_1_3) (m ((c : Thread nD τ).loc main_arg1)) := rfl

/-- The scales as the host lays them out. -/
theorem host_scale (c : Dev nD) : V m c main_v2
    = (fun (x : (⟨S4x512, .f32⟩ : BufTy).Contents (Elt Ideal)) => shapeCast S4x1x512 x shapeCasts_S4x512_S4x1x512) (m ((c : Thread nD τ).loc main_arg3)) := rfl

theorem blk6 (c : Dev nD) (k : Fin 4) (q : Fin 3) (l : Fin 128) : iblk m c 6 (cPt k) (ix4 0 0 q l) = m ((c : Thread nD τ).loc main_arg1) (ix3 3 q (gcol 0 k l)) := by
  have := q.isLt; have := l.isLt; have := k.isLt
  have e : iblk m c 6 (cPt k) (ix4 0 0 q l) = V m c main_v1 (ix4 k 3 q l) := by
    blk_ext! [iblk, idxC k]
  rw [e, host_filter]
  pointwise []
  exact congrArg (fun q' : Fin 512 => m ((c : Thread nD τ).loc main_arg1) (ix3 3 q q')) (Fin.ext (by show k.val * 128 + l.val = 128 * (0 + k.val) + l.val; omega))

theorem blk8 (c : Dev nD) (k : Fin 4) (l : Fin 128) : iblk m c 8 (pPt k) (ix3 0 0 l) = m ((c : Thread nD τ).loc main_arg3) (ix2 3 (gcol 0 k l)) := by
  have := l.isLt; have := k.isLt
  have e : iblk m c 8 (pPt k) (ix3 0 0 l) = V m c main_v2 (ix3 3 0 (gcol 0 k l)) := by
    blk_ext! [iblk, idxP k]
  rw [e, host_scale]
  pointwise []

/-- Where the blocks the two parts write lie. -/
theorem outs : ∀ t : Fin cfg0.N, win0_9.index t = ![0, (cOf t).val] ∧ win0_10.index t = ![0, (pOf t).val] ∧ win0_11.index t = ![0, (pOf t).val] :=
  (by decide +kernel : ∀ t : Fin grid0.N, win0_9.index t = ![0, (cOf t).val] ∧ win0_10.index t = ![0, (pOf t).val] ∧ win0_11.index t = ![0, (pOf t).val])

/-- The group a column lies in. -/
abbrev grp (j : Fin 512) : Fin 4 := ⟨j.val / 128, by have := j.isLt; omega⟩

/-- A column's place in its group. -/
abbrev lane (j : Fin 512) : Fin 128 := ⟨j.val % 128, Nat.mod_lt _ (by decide)⟩

/-- Output 0 as one function of row and column. -/
theorem arr9 (c : Dev nD) : (dats m 0 c).arrAt 9 cfg0.N = fun i : S2048x512.Idx => yaAt m c (grp (i 1)) (ix2 (i 0) (lane (i 1))) := by
  refine (dats m 0 c).arrAt_eq_of_covers 9 _ (by decide +kernel) fun t hf y => ?_
  obtain ⟨a, b, rfl⟩ : ∃ (a : Fin 2048) (b : Fin 128), y = ix2 a b := ⟨y 0, y 1, by funext k; fin_cases k <;> rfl⟩
  have hb := b.isLt
  blk_simp
  rw [after_9]
  have e0 : (win0_9.blk t).view.emb (ix2 a b) 0 = a := Fin.ext (by blk_simp [outs t])
  have h1 : ((win0_9.blk t).view.emb (ix2 a b) 1).val = (cOf t).val * 128 + b.val := by blk_simp [outs t]
  have e1 : grp ((win0_9.blk t).view.emb (ix2 a b) 1) = cOf t := Fin.ext (by show _ / 128 = _; omega)
  have e2 : lane ((win0_9.blk t).view.emb (ix2 a b) 1) = b := Fin.ext (by show _ % 128 = _; omega)
  rw [e0, e1, e2]

/-- Output 1 as one function of row and column. -/
theorem arr10 (c : Dev nD) : (dats m 0 c).arrAt 10 cfg0.N = fun i : S2048x512.Idx => ypAt m c (grp (i 1)) (ix2 (i 0) (lane (i 1))) := by
  refine (dats m 0 c).arrAt_eq_of_covers 10 _ (by decide +kernel) fun t hf y => ?_
  obtain ⟨a, b, rfl⟩ : ∃ (a : Fin 2048) (b : Fin 128), y = ix2 a b := ⟨y 0, y 1, by funext k; fin_cases k <;> rfl⟩
  have hb := b.isLt
  blk_simp
  rw [after_10]
  have e0 : (win0_10.blk t).view.emb (ix2 a b) 0 = a := Fin.ext (by blk_simp [outs t])
  have h1 : ((win0_10.blk t).view.emb (ix2 a b) 1).val = (pOf t).val * 128 + b.val := by blk_simp [outs t]
  have e1 : grp ((win0_10.blk t).view.emb (ix2 a b) 1) = pOf t := Fin.ext (by show _ / 128 = _; omega)
  have e2 : lane ((win0_10.blk t).view.emb (ix2 a b) 1) = b := Fin.ext (by show _ % 128 = _; omega)
  rw [e0, e1, e2]

/-- Output 2 as one function of row and column. -/
theorem arr11 (c : Dev nD) : (dats m 0 c).arrAt 11 cfg0.N = fun i : S2048x512.Idx => plAt m c (grp (i 1)) (ix2 (i 0) (lane (i 1))) := by
  refine (dats m 0 c).arrAt_eq_of_covers 11 _ (by decide +kernel) fun t hf y => ?_
  obtain ⟨a, b, rfl⟩ : ∃ (a : Fin 2048) (b : Fin 128), y = ix2 a b := ⟨y 0, y 1, by funext k; fin_cases k <;> rfl⟩
  have hb := b.isLt
  blk_simp
  rw [after_11]
  have e0 : (win0_11.blk t).view.emb (ix2 a b) 0 = a := Fin.ext (by blk_simp [outs t])
  have h1 : ((win0_11.blk t).view.emb (ix2 a b) 1).val = (pOf t).val * 128 + b.val := by blk_simp [outs t]
  have e1 : grp ((win0_11.blk t).view.emb (ix2 a b) 1) = pOf t := Fin.ext (by show _ / 128 = _; omega)
  have e2 : lane ((win0_11.blk t).view.emb (ix2 a b) 1) = b := Fin.ext (by show _ % 128 = _; omega)
  rw [e0, e1, e2]

variable (ρ : Dev nD → PrngReg)

/-- The run with its three arrays named and the arguments unchanged. -/
theorem run_blocks : θ_run defs (onTc (τ := τ) (main (F := Ideal))) ⟨m, fun _ => 0, ρ⟩ fun r => ∀ c : Dev nD,
      r.2.mem ((c : Thread nD τ).loc main_v3_0) = (dats m 0 c).arrAt 9 cfg0.N
      ∧ r.2.mem ((c : Thread nD τ).loc main_v3_1) = (dats m 0 c).arrAt 10 cfg0.N
      ∧ r.2.mem ((c : Thread nD τ).loc main_v3_2) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1 9, (h.1 c).1 10, (h.1 c).1 11, h.2.1 c⟩)
    (θ_run_and (run_main m ρ) (frame m ρ))

end Cert.MfwdKernelIdeal.Mix

end
-- ==== Proof.MfwdValue.lean ====
module

public import proofs.«01_k».proof.Proof.MfwdSpec
public import proofs.«01_k».proof.Proof.MfwdPool2
public import proofs.«01_k».proof.Proof.MfwdPool4
public import proofs.«01_k».proof.Proof.MfwdPool8
public import proofs.«01_k».proof.Proof.MfwdPool16
public import proofs.«01_k».proof.Proof.MixReal
public import Idealize.ShloMosaic.Lib.ValueIdx

@[expose] public section

set_option maxRecDepth 16384

noncomputable section

namespace MixColumn

open Idealize.ShloMosaic

/-- The sigmoid with the exponential, at every extended real. -/
theorem logistic_all (x : EReal) : Ideal.div 1 (1 + Ideal.exp (-x)) = sg x := by
  induction x using EReal.rec with
  | bot =>
    unfold sg
    rw [half_lit, EReal.neg_bot, Ideal.exp_top, EReal.coe_mul_bot_of_pos (by norm_num), Ideal.tanh_bot, EReal.add_top_of_ne_bot (by exact EReal.coe_ne_bot 1)]
    have h : ((1/2 : ℝ) : EReal) * (-1) + ((1/2 : ℝ) : EReal) = 0 := by
      rw [← EReal.coe_one, ← EReal.coe_neg, ← EReal.coe_mul, ← EReal.coe_add]; norm_num
    rw [h]
    simp [Ideal.div]
  | coe a => exact logistic ⟨a, rfl⟩
  | top =>
    unfold sg
    rw [half_lit, EReal.neg_top, Ideal.exp_bot, EReal.coe_mul_top_of_pos (by norm_num), Ideal.tanh_top]
    have h : ((1/2 : ℝ) : EReal) * 1 + ((1/2 : ℝ) : EReal) = 1 := by
      rw [← EReal.coe_one, ← EReal.coe_mul, ← EReal.coe_add]; norm_num
    rw [h, add_zero, ← EReal.coe_one, Ideal.div_coe one_ne_zero]
    norm_num

/-- The causal mean over `w` rows, less the row itself, along a column. -/
def mean (w : ℕ) (a : ℕ → EReal) (n : ℕ) : EReal := Ideal.div (∑ i ∈ Finset.range w, sh i a n) (cnt w n) - a n

end MixColumn

namespace Cert.MfwdKernelIdeal.Mix

open Cert.MfwdKernelIdeal.Gen
open Idealize.ShloMosaic Idealize.ShloMosaic.TcCoe
open MixBlocks MixColumn

/-- Column `l` of a block, zero below its last row. -/
def col (X : S2048x128.Idx → EReal) (l : Fin 128) (n : ℕ) : EReal := if h : n < 2048 then X (ix2 ⟨n, h⟩ l) else 0

section Payloads

variable (q l : Fin 128) (k : ℕ)

/-- The step on the first block of rows is the first one. -/
theorem at_top : ∀ k : Fin 16, Scalar.cmpi .eq (Scf.iv 0#32 1#32 k.val) 0#32 = if k.val = 0 then 1#1 else 0#1 := by
  decide +kernel

/-- The rows of a step under the sixteen above them, these zero at the top. -/
def ext (H : S16x128.Idx → EReal) (R : S128x128.Idx → EReal) : S144x128.Idx → EReal :=
  concatenate S144x128 0 [⟨S16x128, Scalar.select (Scalar.cmpi .eq (Scf.iv 0#32 1#32 k) 0#32) (broadcast S16x128 (Scalar.ofBits (F := Ideal) .f32 0x00000000#32)) (extf (F := Ideal) .f32 (φ := .bf16) H bitsLt_bf16_f32)⟩,
    ⟨S128x128, extf (F := Ideal) .f32 (φ := .bf16) R bitsLt_bf16_f32⟩] concatenates_S16x128_S128x128_S144x128_d0

theorem ext_row (hk : k < 16) (H : S16x128.Idx → EReal) (R : S128x128.Idx → EReal) (p : Fin 144) :
    ext k H R (ix2 p l) = if h : p.val < 16 then (if k = 0 then 0 else H (ix2 ⟨p.val, h⟩ l)) else R (ix2 ⟨p.val - 16, by omega⟩ l) := by
  pointwise [ext]
  simp only [at_top ⟨k, hk⟩]
  by_cases h : p.val < 16 <;> by_cases h' : k = 0 <;> simp [h, h', Scalar.select]

/-- The rows moved down by `n`, cyclically. -/
def rot (n : BitVec 32) (X : S144x128.Idx → EReal) : S144x128.Idx → EReal := dynamicRotate 0 n none X rotates_S144x128_d0

theorem rot_at (n : BitVec 32) (m : ℕ) (hn : n.toNat = m) (X : S144x128.Idx → EReal) (p : Fin 144) (hp : m ≤ p.val) : rot n X (ix2 p l) = X (ix2 ⟨p.val - m, by omega⟩ l) := by
  have := p.isLt
  pointwise [rot]
  refine congrArg (fun z => X (ix2 z l)) (Fin.ext ?_)
  simp only [hn]
  omega

/-- The rows added to themselves moved down. -/
def dbl (n : BitVec 32) (X : S144x128.Idx → EReal) : S144x128.Idx → EReal := addf (F := Ideal) (φ := .f32) X (rot n X)

/-- Sums of `m` rows become sums of twice as many. -/
theorem dbl_at (X : S144x128.Idx → EReal) (f : ℕ → EReal) (m : ℕ) (n : BitVec 32) (hn : n.toNat = m)
    {b : ℕ} (hX : ∀ p : Fin 144, m ≤ p.val + 1 → X (ix2 p l) = ∑ i ∈ Finset.range m, f (b + p.val - i)) (p : Fin 144) (hp : 2 * m ≤ p.val + 1) :
    dbl n X (ix2 p l) = ∑ i ∈ Finset.range (2 * m), f (b + p.val - i) := by
  have e : dbl n X (ix2 p l) = X (ix2 p l) + rot n X (ix2 p l) := by
    pointwise [dbl]
  rw [e]
  rw [rot_at l n m hn X p (by omega), hX p (by omega), hX _ (by simp only; omega), two_mul, Finset.sum_range_add]
  exact congrArg (_ + ·) (Finset.sum_congr rfl fun i _ => congrArg f (by simp only; omega))

/-- The number of rows in a window, as the program counts it. -/
theorem count_2 : ∀ (k : Fin 16) (p : Fin 128), (IntOp.minsi (IntOp.addi (IntOp.addi (Scalar.muli (Scf.iv 0#32 1#32 k.val) 128#32) (BitVec.ofNat 32 p.val)) 1#32) 2#32).toInt = ((min (128 * k.val + p.val + 1) 2 : ℕ) : ℤ) := by decide +kernel
theorem count_4 : ∀ (k : Fin 16) (p : Fin 128), (IntOp.minsi (IntOp.addi (IntOp.addi (Scalar.muli (Scf.iv 0#32 1#32 k.val) 128#32) (BitVec.ofNat 32 p.val)) 1#32) 4#32).toInt = ((min (128 * k.val + p.val + 1) 4 : ℕ) : ℤ) := by decide +kernel
theorem count_8 : ∀ (k : Fin 16) (p : Fin 128), (IntOp.minsi (IntOp.addi (IntOp.addi (Scalar.muli (Scf.iv 0#32 1#32 k.val) 128#32) (BitVec.ofNat 32 p.val)) 1#32) 8#32).toInt = ((min (128 * k.val + p.val + 1) 8 : ℕ) : ℤ) := by decide +kernel
theorem count_16 : ∀ (k : Fin 16) (p : Fin 128), (IntOp.minsi (IntOp.addi (IntOp.addi (Scalar.muli (Scf.iv 0#32 1#32 k.val) 128#32) (BitVec.ofNat 32 p.val)) 1#32) 16#32).toInt = ((min (128 * k.val + p.val + 1) 16 : ℕ) : ℤ) := by decide +kernel

/-- The sums `Z` over the number of rows in the window that ends at each row, less the rows `V`. -/
def less (w : BitVec 32) (Z V : S144x128.Idx → EReal) : S128x128.Idx → EReal :=
  truncf (F := Ideal) .bf16 (subf (F := Ideal) (φ := .f32) (divf (F := Ideal) (φ := .f32) (extractStridedSlice S128x128 ![16, 0] Z slices_S144x128_o16_0_S128x128)
    (sitofp (F := Ideal) .f32 (minsi (addi (addi (broadcast S128x128 (Scalar.muli (Scf.iv 0#32 1#32 k) 128#32)) (iota .tc S128x128 32 [0] iota_S128x128_d0_w32)) (broadcast S128x128 1#32)) (broadcast S128x128 w))))
    (extractStridedSlice S128x128 ![16, 0] V slices_S144x128_o16_0_S128x128)) bitsLt_bf16_f32

theorem less_at (w' : BitVec 32) (Z V : S144x128.Idx → EReal) (a : ℕ → EReal) (w : ℕ) (hw : w ≤ 16) (hV : ∀ p : Fin 144, V (ix2 p l) = sh 16 a (128 * k + p.val))
    (hZ : ∀ p : Fin 144, w ≤ p.val + 1 → Z (ix2 p l) = ∑ i ∈ Finset.range w, sh 16 a (128 * k + p.val - i))
    (hc : ∀ p : Fin 128, (FloatOps.sitofp (F := Ideal) FTy.f32 (IntOp.minsi (IntOp.addi (IntOp.addi (Scalar.muli (Scf.iv 0#32 1#32 k) 128#32) (BitVec.ofNat 32 p.val)) 1#32) w')) = cnt w (128 * k + p.val)) :
    less k w' Z V (ix2 q l) = mean w a (128 * k + q.val) := by
  have hq := q.isLt
  have eV : V (ix2 ⟨16 + q.val, by omega⟩ l) = a (128 * k + q.val) := by
    rw [hV]
    unfold sh
    rw [if_pos (by simp only; omega)]
    exact congrArg a (by simp only; omega)
  have eZ : Z (ix2 ⟨16 + q.val, by omega⟩ l) = ∑ i ∈ Finset.range w, sh i a (128 * k + q.val) := by
    rw [hZ _ (by simp only; omega)]
    refine Finset.sum_congr rfl fun i hi => ?_
    have := Finset.mem_range.mp hi
    unfold sh
    exact if_congr (by simp only; omega) (congrArg a (by simp only; omega)) rfl
  unfold mean
  rw [← eZ, ← eV, ← hc]
  pointwise [less]

/-- One step of the window of 2: the mean of the rows the window reaches, less the row. -/
theorem pay5_at (k : Fin k0_t2_loop.trips) (hk : k.val < 16) (H : S16x128.Idx → EReal) (R : S128x128.Idx → EReal) (a : ℕ → EReal) (hV : ∀ p : Fin 144, ext k.val H R (ix2 p l) = sh 16 a (128 * k.val + p.val)) :
    k0_pay5 (F := Ideal) k H R (ix2 q l) = mean 2 a (128 * k.val + q.val) :=
  less_at q l k.val 2#32 (dbl 1#32 (ext k.val H R)) (ext k.val H R) a 2 (by norm_num) hV (dbl_at l _ (sh 16 a) 1 1#32 rfl (b := 128 * k.val) (fun p _ => by rw [Finset.sum_range_one]; exact hV p)) (fun p => congrArg (fun z : ℤ => (((z : ℝ)) : EReal)) (count_2 ⟨k.val, hk⟩ p))

/-- One step of the window of 4: the mean of the rows the window reaches, less the row. -/
theorem pay8_at (k : Fin k0_t4_loop.trips) (hk : k.val < 16) (H : S16x128.Idx → EReal) (R : S128x128.Idx → EReal) (a : ℕ → EReal) (hV : ∀ p : Fin 144, ext k.val H R (ix2 p l) = sh 16 a (128 * k.val + p.val)) :
    k0_pay8 (F := Ideal) k H R (ix2 q l) = mean 4 a (128 * k.val + q.val) :=
  less_at q l k.val 4#32 (dbl 2#32 (dbl 1#32 (ext k.val H R))) (ext k.val H R) a 4 (by norm_num) hV (dbl_at l _ (sh 16 a) 2 2#32 rfl (b := 128 * k.val) (dbl_at l _ (sh 16 a) 1 1#32 rfl (b := 128 * k.val) (fun p _ => by rw [Finset.sum_range_one]; exact hV p))) (fun p => congrArg (fun z : ℤ => (((z : ℝ)) : EReal)) (count_4 ⟨k.val, hk⟩ p))

/-- One step of the window of 8: the mean of the rows the window reaches, less the row. -/
theorem pay11_at (k : Fin k0_t6_loop.trips) (hk : k.val < 16) (H : S16x128.Idx → EReal) (R : S128x128.Idx → EReal) (a : ℕ → EReal) (hV : ∀ p : Fin 144, ext k.val H R (ix2 p l) = sh 16 a (128 * k.val + p.val)) :
    k0_pay11 (F := Ideal) k H R (ix2 q l) = mean 8 a (128 * k.val + q.val) :=
  less_at q l k.val 8#32 (dbl 4#32 (dbl 2#32 (dbl 1#32 (ext k.val H R)))) (ext k.val H R) a 8 (by norm_num) hV (dbl_at l _ (sh 16 a) 4 4#32 rfl (b := 128 * k.val) (dbl_at l _ (sh 16 a) 2 2#32 rfl (b := 128 * k.val) (dbl_at l _ (sh 16 a) 1 1#32 rfl (b := 128 * k.val) (fun p _ => by rw [Finset.sum_range_one]; exact hV p)))) (fun p => congrArg (fun z : ℤ => (((z : ℝ)) : EReal)) (count_8 ⟨k.val, hk⟩ p))

/-- One step of the window of 16: the mean of the rows the window reaches, less the row. -/
theorem pay14_at (k : Fin k0_t8_loop.trips) (hk : k.val < 16) (H : S16x128.Idx → EReal) (R : S128x128.Idx → EReal) (a : ℕ → EReal) (hV : ∀ p : Fin 144, ext k.val H R (ix2 p l) = sh 16 a (128 * k.val + p.val)) :
    k0_pay14 (F := Ideal) k H R (ix2 q l) = mean 16 a (128 * k.val + q.val) :=
  less_at q l k.val 16#32 (dbl 8#32 (dbl 4#32 (dbl 2#32 (dbl 1#32 (ext k.val H R))))) (ext k.val H R) a 16 (by norm_num) hV (dbl_at l _ (sh 16 a) 8 8#32 rfl (b := 128 * k.val) (dbl_at l _ (sh 16 a) 4 4#32 rfl (b := 128 * k.val) (dbl_at l _ (sh 16 a) 2 2#32 rfl (b := 128 * k.val) (dbl_at l _ (sh 16 a) 1 1#32 rfl (b := 128 * k.val) (fun p _ => by rw [Finset.sum_range_one]; exact hV p))))) (fun p => congrArg (fun z : ℤ => (((z : ℝ)) : EReal)) (count_16 ⟨k.val, hk⟩ p))

/-- The products of the rows moved down, slice by slice. -/
def down (n : BitVec 32) (Z : S144x128.Idx → EReal) : S128x128.Idx → EReal := extractStridedSlice S128x128 ![16, 0] (rot n Z) slices_S144x128_o16_0_S128x128

theorem down_at (n : BitVec 32) (m : ℕ) (hm : m ≤ 16) (hn : n.toNat = m) (Z : S144x128.Idx → EReal) (a : ℕ → EReal) (hZ : ∀ p : Fin 144, Z (ix2 p l) = sh 16 a (128 * k + p.val)) :
    down n Z (ix2 q l) = sh m a (128 * k + q.val) := by
  have hq := q.isLt
  have e : down n Z (ix2 q l) = rot n Z (ix2 ⟨16 + q.val, by omega⟩ l) := by
    pointwise [down]
  rw [e, rot_at l n m hn Z _ (by simp only; omega), hZ]
  unfold sh
  exact if_congr (by simp only; omega) (congrArg a (by simp only; omega)) rfl

theorem pay18_row (w0 w1 w2 : S1x1x1x128.Idx → EReal) (k : Fin k0_t1_loop.trips) (hc hu : S16x128.Idx → EReal) (rc ru rb : S128x128.Idx → EReal) :
    k0_pay18 (F := Ideal) (k0_pay1 w0) (k0_pay2 w1) (k0_pay3 w2) 0#32 1#32 k hc rc hu ru rb (ix2 q l)
      = rb (ix2 q l) * (w2 (ix4 0 0 0 l) * extractStridedSlice S128x128 ![16, 0] (mulf (F := Ideal) (φ := .f32) (ext k.val hc rc) (ext k.val hu ru)) slices_S144x128_o16_0_S128x128 (ix2 q l)
          + w1 (ix4 0 0 0 l) * down 1#32 (mulf (F := Ideal) (φ := .f32) (ext k.val hc rc) (ext k.val hu ru)) (ix2 q l)
          + w0 (ix4 0 0 0 l) * down 2#32 (mulf (F := Ideal) (φ := .f32) (ext k.val hc rc) (ext k.val hu ru)) (ix2 q l)) := by
  have e (w : S1x1x1x128.Idx → EReal) : k0_pay1 (F := Ideal) w (ix2 0 l) = w (ix4 0 0 0 l) ∧ k0_pay2 (F := Ideal) w (ix2 0 l) = w (ix4 0 0 0 l) ∧ k0_pay3 (F := Ideal) w (ix2 0 l) = w (ix4 0 0 0 l) := by
    refine ⟨?_, ?_, ?_⟩
    · pointwise [k0_pay1]
    · pointwise [k0_pay2]
    · pointwise [k0_pay3]
  rw [← (e w0).1, ← (e w1).2.1, ← (e w2).2.2]
  rfl

/-- One step of the filter. -/
theorem pay18_at (w0 w1 w2 : S1x1x1x128.Idx → EReal) (k : Fin k0_t1_loop.trips) (hc hu : S16x128.Idx → EReal) (rc ru rb : S128x128.Idx → EReal) (a b : ℕ → EReal)
    (hC : ∀ p : Fin 144, ext k.val hc rc (ix2 p l) = sh 16 a (128 * k.val + p.val)) (hU : ∀ p : Fin 144, ext k.val hu ru (ix2 p l) = sh 16 b (128 * k.val + p.val)) :
    k0_pay18 (F := Ideal) (k0_pay1 w0) (k0_pay2 w1) (k0_pay3 w2) 0#32 1#32 k hc rc hu ru rb (ix2 q l)
      = rb (ix2 q l) * conv (w0 (ix4 0 0 0 l)) (w1 (ix4 0 0 0 l)) (w2 (ix4 0 0 0 l)) (fun n => a n * b n) (128 * k.val + q.val) := by
  have hq := q.isLt
  have hZ (p : Fin 144) : mulf (F := Ideal) (φ := .f32) (ext k.val hc rc) (ext k.val hu ru) (ix2 p l) = sh 16 (fun n => a n * b n) (128 * k.val + p.val) := by
    refine (congrArg₂ (fun x y : EReal => x * y) (hC p) (hU p)).trans ?_
    unfold sh
    split
    · rfl
    · exact mul_zero _
  have e : extractStridedSlice S128x128 ![16, 0] (mulf (F := Ideal) (φ := .f32) (ext k.val hc rc) (ext k.val hu ru)) slices_S144x128_o16_0_S128x128 (ix2 q l)
      = mulf (F := Ideal) (φ := .f32) (ext k.val hc rc) (ext k.val hu ru) (ix2 ⟨16 + q.val, by omega⟩ l) := by
    pointwise []
  rw [pay18_row, down_at q l k.val 1#32 1 (by norm_num) rfl _ _ hZ, down_at q l k.val 2#32 2 (by norm_num) rfl _ _ hZ, e, hZ]
  unfold conv
  have f : sh 16 (fun n => a n * b n) (128 * k.val + (16 + q.val)) = a (128 * k.val + q.val) * b (128 * k.val + q.val) := by
    unfold sh
    rw [if_pos (by omega)]
    exact congrArg (fun n => a n * b n) (by omega)
  rw [show (128 * k.val + (⟨16 + q.val, by omega⟩ : Fin 144).val) = 128 * k.val + (16 + q.val) from rfl, f]

theorem pay4_at (G : S128x128.Idx → EReal) (Z : S128x128.Idx → EReal) : k0_pay4 (F := Ideal) (k0_pay17 G) Z (ix2 q l) = Z (ix2 q l) * (G (ix2 q l) * sg (G (ix2 q l))) := by
  pointwise [k0_pay4, k0_pay17]
  rfl

theorem pay7_at (xs : S1x1x128.Idx → EReal) (G M : S128x128.Idx → EReal) : k0_pay7 (F := Ideal) xs G M (ix2 q l) = M (ix2 q l) * xs (ix3 0 0 l) * (G (ix2 q l) * sg (G (ix2 q l))) := by
  pointwise [k0_pay7]
  rfl

theorem pay6_at (P : S2048x128.Idx → EReal) (xw : S1x1x128x128.Idx → EReal) (n : Fin 2048) : k0_pay6 (F := Ideal) P xw (ix2 n l) = ∑ b : Fin 128, P (ix2 n b) * xw (ix4 0 0 b l) := by
  pointwise [k0_pay6]

end Payloads

section Blocks

variable (X xu xb xc xg xp xm : S2048x128.Idx → EReal) (w0 w1 w2 : S1x1x1x128.Idx → EReal) (xw : S1x1x128x128.Idx → EReal) (xs : S1x1x128.Idx → EReal) (l : Fin 128) (r : Fin 2048)

theorem col_lt (n : ℕ) (h : n < 2048) : col X l n = X (ix2 ⟨n, h⟩ l) := dif_pos h

/-- A row of a block of 128. -/
theorem chunk_at (e : EltTy) (k : ℕ) (hk : k < 16) (q : Fin 128) :
    chunk (Val := fun _ => EReal) (e := e) 128 X (128 * k) (ix2 q l) = col X l (128 * k + q.val) := by
  rw [col_lt _ _ _ (by omega)]
  exact congrArg (fun z => X (ix2 z l)) (Fin.ext (Nat.mod_eq_of_lt (by simp; omega)))

/-- A row of the sixteen above it. -/
theorem hist_at (k : ℕ) (hk : k < 16) (h0 : k ≠ 0) (p : Fin 16) : hist (F := Ideal) X k (ix2 p l) = col X l (128 * k + p.val - 16) := by
  rw [col_lt _ _ _ (by omega)]
  refine congrArg (fun z => X (ix2 z l)) (Fin.ext ((Nat.mod_eq_of_lt ?_).trans ?_))
  · simp; omega
  · simp; omega

/-- The rows of a step with sixteen above, as the column moved down. -/
theorem ext_at (k : ℕ) (hk : k < 16) (p : Fin 144) : ext k (hist (F := Ideal) X k) (rows (F := Ideal) X k) (ix2 p l) = sh 16 (col X l) (128 * k + p.val) := by
  have hp := p.isLt
  rw [ext_row l k hk]
  unfold sh
  by_cases h : p.val < 16
  · rw [dif_pos h]
    by_cases h' : k = 0
    · rw [if_pos h', if_neg (by omega)]
    · rw [if_neg h', if_pos (by omega), hist_at _ _ _ hk h']
  · rw [dif_neg h, if_pos (by omega)]
    refine (chunk_at X l .bf16 k hk _).trans (congrArg _ ?_)
    simp only
    omega

theorem row_up : 128 * (r.val / 128) + (Fin.ofNat 128 r.val).val = r.val := by
  show 128 * (r.val / 128) + r.val % 128 = r.val
  omega

theorem step_val {T : ℕ} [NeZero T] (hT : T = 16) : (Fin.ofNat T (r.val / 128)).val = r.val / 128 := Nat.mod_eq_of_lt (by have := r.isLt; omega)

/-- The gated convolution, element by element. -/
theorem fYa_at : fYa (F := Ideal) w0 w1 w2 xu xb xc xg (ix2 r l)
    = col xb l r.val * conv (w0 (ix4 0 0 0 l)) (w1 (ix4 0 0 0 l)) (w2 (ix4 0 0 0 l)) (fun n => col xc l n * col xu l n) r.val * (col xg l r.val * sg (col xg l r.val)) := by
  have hr := r.isLt
  have hv := step_val (T := k0_t1_loop.trips) r trips_conv
  have hC (X : S2048x128.Idx → EReal) (p : Fin 144) := ext_at X l (Fin.ofNat k0_t1_loop.trips (r.val / 128)).val (by omega) p
  refine (pay4_at _ _ _ _).trans ?_
  have e (X : S2048x128.Idx → EReal) := chunk_at X l .f32 (r.val / 128) (by omega) (Fin.ofNat 128 r.val)
  rw [row_up] at e
  refine congrArg₂ (fun p q : EReal => p * q) ?_ (congrArg (fun p : EReal => p * sg p) (e xg))
  refine (pay18_at _ _ _ _ _ _ _ _ _ _ _ (col xc l) (col xu l) (hC xc) (hC xu)).trans ?_
  show rows (F := Ideal) xb (Fin.ofNat k0_t1_loop.trips (r.val / 128)).val (ix2 (Fin.ofNat 128 r.val) l) * conv _ _ _ _ (128 * (Fin.ofNat k0_t1_loop.trips (r.val / 128)).val + (Fin.ofNat 128 r.val).val) = _
  rw [hv, row_up]
  exact congrArg (fun p : EReal => p * _) (e xb)

/-- The scaled and gated product, element by element. -/
theorem fYp_at : fYp (F := Ideal) xs xg xm (ix2 r l) = col xm l r.val * xs (ix3 0 0 l) * (col xg l r.val * sg (col xg l r.val)) := by
  refine (pay7_at _ _ _ _ _).trans ?_
  have e (X : S2048x128.Idx → EReal) := chunk_at X l .f32 (r.val / 128) (by omega) (Fin.ofNat 128 r.val)
  rw [row_up] at e
  exact congrArg₂ (fun p q : EReal => p * q) (congrArg (fun p : EReal => p * _) (e xm)) (congrArg (fun p : EReal => p * sg p) (e xg))

/-- A pooled section, element by element. -/
theorem fPool_at {T : ℕ} [NeZero T] (hT : T = 16) (w : ℕ) (pay : Fin T → Vec Ideal S16x128 .bf16 → Vec Ideal S128x128 .bf16 → FVec Ideal S128x128 .bf16)
    (hp : ∀ (q l : Fin 128) (k : Fin T) (hk : k.val < 16) (H : S16x128.Idx → EReal) (R : S128x128.Idx → EReal) (a : ℕ → EReal) (hV : ∀ p : Fin 144, ext k.val H R (ix2 p l) = sh 16 a (128 * k.val + p.val)),
      pay k H R (ix2 q l) = mean w a (128 * k.val + q.val)) : fPool (F := Ideal) pay xp (ix2 r l) = mean w (col xp l) r.val := by
  have hr := r.isLt
  have hv := step_val (T := T) r hT
  refine (hp _ _ _ (by omega) _ _ (col xp l) fun p => ?_).trans ?_
  · show ext (Fin.ofNat T (r.val / 128)).val (hist (F := Ideal) xp (r.val / 128)) (rows (F := Ideal) xp (r.val / 128)) (ix2 p l) = sh 16 (col xp l) (128 * (Fin.ofNat T (r.val / 128)).val + p.val)
    rw [hv]
    exact ext_at xp l (r.val / 128) (by omega) p
  · show mean w (col xp l) (128 * (Fin.ofNat T (r.val / 128)).val + (Fin.ofNat 128 r.val).val) = _
    rw [hv, row_up]

theorem fPool2_at : fPool2 (F := Ideal) xp (ix2 r l) = mean 2 (col xp l) r.val := fPool_at xp l r trips_pool2 2 k0_pay5 pay5_at
theorem fPool4_at : fPool4 (F := Ideal) xp (ix2 r l) = mean 4 (col xp l) r.val := fPool_at xp l r trips_pool4 4 k0_pay8 pay8_at
theorem fPool8_at : fPool8 (F := Ideal) xp (ix2 r l) = mean 8 (col xp l) r.val := fPool_at xp l r trips_pool8 8 k0_pay11 pay11_at
theorem fPool16_at : fPool16 (F := Ideal) xp (ix2 r l) = mean 16 (col xp l) r.val := fPool_at xp l r trips_pool16 16 k0_pay14 pay14_at

end Blocks

end Cert.MfwdKernelIdeal.Mix

end
-- ==== Proof.MfwdRef.lean ====
module

public import proofs.«01_k».proof.Proof.Gen.MfwdReferenceIdeal.Read
public import proofs.«01_k».proof.Proof.MixReal
public import proofs.«01_k».proof.Proof.MfwdValue
public import Idealize.ShloMosaic.Lib.Pipeline.ValueKit.Point
public import Idealize.ShloMosaic.Lib.ValueIdx

@[expose] public section

set_option maxRecDepth 16384

noncomputable section

namespace Cert.MfwdReferenceIdeal.Mix

open Idealize.ShloMosaic Idealize.ShloMosaic.TcCoe Idealize.SL.Sem
open Cert.MfwdReferenceIdeal.Read MixColumn

/-- Column `j` of the section of the projection that begins at column `b`; zero below the last row. -/
def pc (x0 : S2048x3072.Idx → EReal) (b : Fin 2561) (j : Fin 512) (n : ℕ) : EReal := if h : n < 2048 then x0 (ix2 ⟨n, h⟩ ⟨b.val + j.val, by omega⟩) else 0

theorem pc_at (x0 : S2048x3072.Idx → EReal) (b : Fin 2561) (j : Fin 512) (r : Fin 2048) : pc x0 b j r = x0 (ix2 r ⟨b.val + j.val, by omega⟩) := dif_pos r.isLt

/-- Column `l` of group `k`. -/
abbrev at4 (k : Fin 4) (l : Fin 128) : Fin 512 := ⟨128 * k.val + l.val, by omega⟩

variable (x0 : S2048x3072.Idx → EReal) (x1 : S4x3x512.Idx → EReal) (x2 : S4x4x128x128.Idx → EReal) (x3 : S4x512.Idx → EReal) (r : Fin 2048) (j : Fin 512) (k : Fin 4) (l : Fin 128)

theorem v1_at : val_main_v1 (F := Ideal) x0 (ix2 r j) = pc x0 0 j r := by
  rw [pc_at]; pointwise [val_main_v1, val_main_v0]
theorem v3_at : val_main_v3 (F := Ideal) x0 (ix2 r j) = pc x0 512 j r := by
  rw [pc_at]; pointwise [val_main_v3, val_main_v2]
theorem v5_at : val_main_v5 (F := Ideal) x0 (ix2 r j) = pc x0 1024 j r := by
  rw [pc_at]; pointwise [val_main_v5, val_main_v4]
theorem v7_at : val_main_v7 (F := Ideal) x0 (ix2 r j) = pc x0 1536 j r := by
  rw [pc_at]; pointwise [val_main_v7, val_main_v6]
theorem v9_at : val_main_v9 (F := Ideal) x0 (ix2 r j) = pc x0 2048 j r := by
  rw [pc_at]; pointwise [val_main_v9, val_main_v8]
theorem v11_at : val_main_v11 (F := Ideal) x0 (ix2 r j) = pc x0 2560 j r := by
  rw [pc_at]; pointwise [val_main_v11, val_main_v10]

/-- The column the filter runs over. -/
def ra (n : ℕ) : EReal := pc x0 1024 j n * pc x0 0 j n

theorem v120_at : val_main_v120 (F := Ideal) x0 (ix2 r j) = ra x0 j r := by
  pointwise [val_main_v120]
  rw [v5_at, v1_at]; rfl

/-- An entry of an array under rows of zeros is an entry of the column moved down. -/
theorem shifted {N : ℕ} (X : (⟨2, ![2048, N]⟩ : Shape).Idx → EReal) (z : Fin N) (a : ℕ → EReal) (hX : ∀ r : Fin 2048, X (ix2 r z) = a r) (P i e n : ℕ) (hn : n < 2048) (he : e + i = n + P)
    (h' : ¬e < P → e - P < 2048) : (if h : e < P then (0 : EReal) else X (ix2 ⟨e - P, h' h⟩ z)) = sh i a n := by
  unfold sh
  split
  · rw [if_neg (by omega)]
  · rw [if_pos (by omega), hX]
    exact congrArg a (by show e - P = n - i; omega)

theorem v137_at : val_main_v137 (F := Ideal) x0 (ix2 r j) = sh 0 (ra x0 j) r := by
  refine Eq.trans ?_ (shifted (val_main_v120 (F := Ideal) x0) j (ra x0 j) (fun q => v120_at x0 q j) 2 0 (2 + r.val) r.val r.isLt (by omega) (fun _ => by omega))
  pointwise [val_main_v137, val_main_v121, val_main_v119, val_main_cst_11]

theorem v130_at : val_main_v130 (F := Ideal) x0 (ix2 r j) = sh 1 (ra x0 j) r := by
  refine Eq.trans ?_ (shifted (val_main_v120 (F := Ideal) x0) j (ra x0 j) (fun q => v120_at x0 q j) 2 1 (1 + r.val) r.val r.isLt (by omega) (fun _ => by omega))
  pointwise [val_main_v130, val_main_v121, val_main_v119, val_main_cst_11]

theorem v124_at : val_main_v124 (F := Ideal) x0 (ix2 r j) = sh 2 (ra x0 j) r := by
  refine Eq.trans ?_ (shifted (val_main_v120 (F := Ideal) x0) j (ra x0 j) (fun q => v120_at x0 q j) 2 2 (r.val) r.val r.isLt (by omega) (fun _ => by omega))
  pointwise [val_main_v124, val_main_v121, val_main_v119, val_main_cst_11]

theorem sh_zero (a : ℕ → EReal) (n : ℕ) : sh 0 a n = a n := if_pos (Nat.zero_le n)

/-- The filter's output. -/
theorem v141_at : val_main_v141 (F := Ideal) x0 x1 (ix2 r j) = conv (x1 (ix3 3 0 j)) (x1 (ix3 3 1 j)) (x1 (ix3 3 2 j)) (ra x0 j) r := by
  pointwise [val_main_v141, val_main_v134, val_main_v127, val_main_v126, val_main_v125, val_main_v123, val_main_v122, val_main_v118, val_main_v117, val_main_v133, val_main_v132, val_main_v131, val_main_v129, val_main_v128, val_main_v140, val_main_v139, val_main_v138, val_main_v136, val_main_v135]
  rw [v124_at, v130_at, v137_at, sh_zero, conv_comm]

/-- The gates. -/
theorem v143_at : val_main_v143 (F := Ideal) x0 (ix2 r j) = pc x0 1536 j r * sg (pc x0 1536 j r) := by
  pointwise [val_main_v143, val_main_call0_v5, val_main_call0_v4, val_main_call0_v3, val_main_call0_v2, val_main_call0_v1, val_main_call0_v0, val_main_call0_cst, val_main_call0_cst_0]
  rw [v7_at, logistic_all]
theorem v269_at : val_main_v269 (F := Ideal) x0 (ix2 r j) = pc x0 2560 j r * sg (pc x0 2560 j r) := by
  pointwise [val_main_v269, val_main_call1_v5, val_main_call1_v4, val_main_call1_v3, val_main_call1_v2, val_main_call1_v1, val_main_call1_v0, val_main_call1_cst, val_main_call1_cst_0]
  rw [v11_at, logistic_all]

/-- The first result: the gated convolution. -/
theorem v271_at : val_main_v271 (F := Ideal) x0 x1 (ix2 r j)
    = pc x0 512 j r * conv (x1 (ix3 3 0 j)) (x1 (ix3 3 1 j)) (x1 (ix3 3 2 j)) (ra x0 j) r * (pc x0 1536 j r * sg (pc x0 1536 j r)) := by
  pointwise [val_main_v271, val_main_v144, val_main_v142]
  rw [v3_at, v141_at, v143_at]

/-- A count as a format's word and the row number give it. -/
theorem count_at (w : ℕ) (b : BitVec 32) (hb : Ideal.ofBits FTy.f32 b = (((w : ℕ) : ℝ) : EReal)) :
    min (1 + FloatOps.sitofp (F := Ideal) FTy.f32 (BitVec.ofNat 32 r.val)) (Ideal.ofBits FTy.f32 b) = cnt w r := by
  have hr := r.isLt
  have e : FloatOps.sitofp (F := Ideal) FTy.f32 (BitVec.ofNat 32 r.val) = ((r.val : ℝ) : EReal) := by
    show ((((BitVec.ofNat 32 r.val).toInt : ℝ)) : EReal) = _
    have : (BitVec.ofNat 32 r.val).toInt = (r.val : ℤ) := by
      rw [BitVec.toInt_eq_toNat_of_lt (by simp [BitVec.toNat_ofNat]; omega), BitVec.toNat_ofNat, Nat.mod_eq_of_lt (by omega)]
    rw [this]; norm_cast
  rw [hb, e, ← EReal.coe_one, ← EReal.coe_add, ← EReal.coe_strictMono.monotone.map_min]
  unfold cnt
  congr 1
  push_cast
  rw [add_comm]

theorem lit2 : Ideal.ofBits FTy.f32 0x40000000#32 = (((2 : ℕ) : ℝ) : EReal) := by
  simp [Ideal.ofBits, Ideal.ieee, -EReal.coe_mul]; norm_num

/-- The counts of the window of 2. -/
theorem count2 : val_main_v26 (F := Ideal) (ix2 r 0) = cnt 2 r := by
  refine Eq.trans ?_ (count_at r 2 0x40000000#32 lit2)
  pointwise [val_main_v26, val_main_v19, val_main_v25, val_main_v18, val_main_cst_1, val_main_v17, val_main_v16, val_main_cst]

theorem u2_at : val_main_v12 (F := Ideal) x0 (ix2 r l) = pc x0 2048 (at4 0 l) r := by
  rw [← v9_at]; pointwise [val_main_v12]
  exact congrArg (fun z => val_main_v9 (F := Ideal) x0 (ix2 r z)) (Fin.ext (by show l.val = 128 * 0 + l.val; omega))

theorem s2_0 : val_main_v22 (F := Ideal) x0 (ix2 r l) = sh 0 (pc x0 2048 (at4 0 l)) r := by
  refine Eq.trans ?_ (shifted (val_main_v12 (F := Ideal) x0) l _ (fun q => u2_at x0 q l) 1 0 (1 + r.val) r.val r.isLt (by omega) (fun _ => by omega))
  pointwise [val_main_v22, val_main_v21, val_main_v20, val_main_cst_0]
theorem s2_1 : val_main_v23 (F := Ideal) x0 (ix2 r l) = sh 1 (pc x0 2048 (at4 0 l)) r := by
  refine Eq.trans ?_ (shifted (val_main_v12 (F := Ideal) x0) l _ (fun q => u2_at x0 q l) 1 1 (r.val) r.val r.isLt (by omega) (fun _ => by omega))
  pointwise [val_main_v23, val_main_v21, val_main_v20, val_main_cst_0]

/-- The pooled section of group 0. -/
theorem pool2_at : val_main_v29 (F := Ideal) x0 (ix2 r l) = mean 2 (pc x0 2048 (at4 0 l)) r := by
  pointwise [val_main_v29, val_main_v28, val_main_v27, val_main_v24]
  rw [count2, u2_at, s2_0, s2_1]
  unfold mean
  simp only [Finset.sum_range_succ, Finset.sum_range_zero, zero_add]

theorem lit4 : Ideal.ofBits FTy.f32 0x40800000#32 = (((4 : ℕ) : ℝ) : EReal) := by
  simp [Ideal.ofBits, Ideal.ieee, -EReal.coe_mul]; norm_num

/-- The counts of the window of 4. -/
theorem count4 : val_main_v44 (F := Ideal) (ix2 r 0) = cnt 4 r := by
  refine Eq.trans ?_ (count_at r 4 0x40800000#32 lit4)
  pointwise [val_main_v44, val_main_v33, val_main_v43, val_main_v32, val_main_cst_4, val_main_v31, val_main_v30, val_main_cst_2]

theorem u4_at : val_main_v13 (F := Ideal) x0 (ix2 r l) = pc x0 2048 (at4 1 l) r := by
  rw [← v9_at]; pointwise [val_main_v13]
  exact congrArg (fun z => val_main_v9 (F := Ideal) x0 (ix2 r z)) (Fin.ext (by show 128 + l.val = 128 * 1 + l.val; omega))

theorem s4_0 : val_main_v36 (F := Ideal) x0 (ix2 r l) = sh 0 (pc x0 2048 (at4 1 l)) r := by
  refine Eq.trans ?_ (shifted (val_main_v13 (F := Ideal) x0) l _ (fun q => u4_at x0 q l) 3 0 (3 + r.val) r.val r.isLt (by omega) (fun _ => by omega))
  pointwise [val_main_v36, val_main_v35, val_main_v34, val_main_cst_3]
theorem s4_1 : val_main_v37 (F := Ideal) x0 (ix2 r l) = sh 1 (pc x0 2048 (at4 1 l)) r := by
  refine Eq.trans ?_ (shifted (val_main_v13 (F := Ideal) x0) l _ (fun q => u4_at x0 q l) 3 1 (2 + r.val) r.val r.isLt (by omega) (fun _ => by omega))
  pointwise [val_main_v37, val_main_v35, val_main_v34, val_main_cst_3]
theorem s4_2 : val_main_v39 (F := Ideal) x0 (ix2 r l) = sh 2 (pc x0 2048 (at4 1 l)) r := by
  refine Eq.trans ?_ (shifted (val_main_v13 (F := Ideal) x0) l _ (fun q => u4_at x0 q l) 3 2 (1 + r.val) r.val r.isLt (by omega) (fun _ => by omega))
  pointwise [val_main_v39, val_main_v35, val_main_v34, val_main_cst_3]
theorem s4_3 : val_main_v41 (F := Ideal) x0 (ix2 r l) = sh 3 (pc x0 2048 (at4 1 l)) r := by
  refine Eq.trans ?_ (shifted (val_main_v13 (F := Ideal) x0) l _ (fun q => u4_at x0 q l) 3 3 (r.val) r.val r.isLt (by omega) (fun _ => by omega))
  pointwise [val_main_v41, val_main_v35, val_main_v34, val_main_cst_3]

/-- The pooled section of group 1. -/
theorem pool4_at : val_main_v47 (F := Ideal) x0 (ix2 r l) = mean 4 (pc x0 2048 (at4 1 l)) r := by
  pointwise [val_main_v47, val_main_v46, val_main_v45, val_main_v42, val_main_v40, val_main_v38]
  rw [count4, u4_at, s4_0, s4_1, s4_2, s4_3]
  unfold mean
  simp only [Finset.sum_range_succ, Finset.sum_range_zero, zero_add]

theorem lit8 : Ideal.ofBits FTy.f32 0x41000000#32 = (((8 : ℕ) : ℝ) : EReal) := by
  simp [Ideal.ofBits, Ideal.ieee, -EReal.coe_mul]; norm_num

/-- The counts of the window of 8. -/
theorem count8 : val_main_v70 (F := Ideal) (ix2 r 0) = cnt 8 r := by
  refine Eq.trans ?_ (count_at r 8 0x41000000#32 lit8)
  pointwise [val_main_v70, val_main_v51, val_main_v69, val_main_v50, val_main_cst_7, val_main_v49, val_main_v48, val_main_cst_5]

theorem u8_at : val_main_v14 (F := Ideal) x0 (ix2 r l) = pc x0 2048 (at4 2 l) r := by
  rw [← v9_at]; pointwise [val_main_v14]
  exact congrArg (fun z => val_main_v9 (F := Ideal) x0 (ix2 r z)) (Fin.ext (by show 256 + l.val = 128 * 2 + l.val; omega))

theorem s8_0 : val_main_v54 (F := Ideal) x0 (ix2 r l) = sh 0 (pc x0 2048 (at4 2 l)) r := by
  refine Eq.trans ?_ (shifted (val_main_v14 (F := Ideal) x0) l _ (fun q => u8_at x0 q l) 7 0 (7 + r.val) r.val r.isLt (by omega) (fun _ => by omega))
  pointwise [val_main_v54, val_main_v53, val_main_v52, val_main_cst_6]
theorem s8_1 : val_main_v55 (F := Ideal) x0 (ix2 r l) = sh 1 (pc x0 2048 (at4 2 l)) r := by
  refine Eq.trans ?_ (shifted (val_main_v14 (F := Ideal) x0) l _ (fun q => u8_at x0 q l) 7 1 (6 + r.val) r.val r.isLt (by omega) (fun _ => by omega))
  pointwise [val_main_v55, val_main_v53, val_main_v52, val_main_cst_6]
theorem s8_2 : val_main_v57 (F := Ideal) x0 (ix2 r l) = sh 2 (pc x0 2048 (at4 2 l)) r := by
  refine Eq.trans ?_ (shifted (val_main_v14 (F := Ideal) x0) l _ (fun q => u8_at x0 q l) 7 2 (5 + r.val) r.val r.isLt (by omega) (fun _ => by omega))
  pointwise [val_main_v57, val_main_v53, val_main_v52, val_main_cst_6]
theorem s8_3 : val_main_v59 (F := Ideal) x0 (ix2 r l) = sh 3 (pc x0 2048 (at4 2 l)) r := by
  refine Eq.trans ?_ (shifted (val_main_v14 (F := Ideal) x0) l _ (fun q => u8_at x0 q l) 7 3 (4 + r.val) r.val r.isLt (by omega) (fun _ => by omega))
  pointwise [val_main_v59, val_main_v53, val_main_v52, val_main_cst_6]
theorem s8_4 : val_main_v61 (F := Ideal) x0 (ix2 r l) = sh 4 (pc x0 2048 (at4 2 l)) r := by
  refine Eq.trans ?_ (shifted (val_main_v14 (F := Ideal) x0) l _ (fun q => u8_at x0 q l) 7 4 (3 + r.val) r.val r.isLt (by omega) (fun _ => by omega))
  pointwise [val_main_v61, val_main_v53, val_main_v52, val_main_cst_6]
theorem s8_5 : val_main_v63 (F := Ideal) x0 (ix2 r l) = sh 5 (pc x0 2048 (at4 2 l)) r := by
  refine Eq.trans ?_ (shifted (val_main_v14 (F := Ideal) x0) l _ (fun q => u8_at x0 q l) 7 5 (2 + r.val) r.val r.isLt (by omega) (fun _ => by omega))
  pointwise [val_main_v63, val_main_v53, val_main_v52, val_main_cst_6]
theorem s8_6 : val_main_v65 (F := Ideal) x0 (ix2 r l) = sh 6 (pc x0 2048 (at4 2 l)) r := by
  refine Eq.trans ?_ (shifted (val_main_v14 (F := Ideal) x0) l _ (fun q => u8_at x0 q l) 7 6 (1 + r.val) r.val r.isLt (by omega) (fun _ => by omega))
  pointwise [val_main_v65, val_main_v53, val_main_v52, val_main_cst_6]
theorem s8_7 : val_main_v67 (F := Ideal) x0 (ix2 r l) = sh 7 (pc x0 2048 (at4 2 l)) r := by
  refine Eq.trans ?_ (shifted (val_main_v14 (F := Ideal) x0) l _ (fun q => u8_at x0 q l) 7 7 (r.val) r.val r.isLt (by omega) (fun _ => by omega))
  pointwise [val_main_v67, val_main_v53, val_main_v52, val_main_cst_6]

/-- The pooled section of group 2. -/
theorem pool8_at : val_main_v73 (F := Ideal) x0 (ix2 r l) = mean 8 (pc x0 2048 (at4 2 l)) r := by
  pointwise [val_main_v73, val_main_v72, val_main_v71, val_main_v68, val_main_v66, val_main_v64, val_main_v62, val_main_v60, val_main_v58, val_main_v56]
  rw [count8, u8_at, s8_0, s8_1, s8_2, s8_3, s8_4, s8_5, s8_6, s8_7]
  unfold mean
  simp only [Finset.sum_range_succ, Finset.sum_range_zero, zero_add]

theorem lit16 : Ideal.ofBits FTy.f32 0x41800000#32 = (((16 : ℕ) : ℝ) : EReal) := by
  simp [Ideal.ofBits, Ideal.ieee, -EReal.coe_mul]; norm_num

/-- The counts of the window of 16. -/
theorem count16 : val_main_v112 (F := Ideal) (ix2 r 0) = cnt 16 r := by
  refine Eq.trans ?_ (count_at r 16 0x41800000#32 lit16)
  pointwise [val_main_v112, val_main_v77, val_main_v111, val_main_v76, val_main_cst_10, val_main_v75, val_main_v74, val_main_cst_8]

theorem u16_at : val_main_v15 (F := Ideal) x0 (ix2 r l) = pc x0 2048 (at4 3 l) r := by
  rw [← v9_at]; pointwise [val_main_v15]
  exact congrArg (fun z => val_main_v9 (F := Ideal) x0 (ix2 r z)) (Fin.ext (by show 384 + l.val = 128 * 3 + l.val; omega))

theorem s16_0 : val_main_v80 (F := Ideal) x0 (ix2 r l) = sh 0 (pc x0 2048 (at4 3 l)) r := by
  refine Eq.trans ?_ (shifted (val_main_v15 (F := Ideal) x0) l _ (fun q => u16_at x0 q l) 15 0 (15 + r.val) r.val r.isLt (by omega) (fun _ => by omega))
  pointwise [val_main_v80, val_main_v79, val_main_v78, val_main_cst_9]
theorem s16_1 : val_main_v81 (F := Ideal) x0 (ix2 r l) = sh 1 (pc x0 2048 (at4 3 l)) r := by
  refine Eq.trans ?_ (shifted (val_main_v15 (F := Ideal) x0) l _ (fun q => u16_at x0 q l) 15 1 (14 + r.val) r.val r.isLt (by omega) (fun _ => by omega))
  pointwise [val_main_v81, val_main_v79, val_main_v78, val_main_cst_9]
theorem s16_2 : val_main_v83 (F := Ideal) x0 (ix2 r l) = sh 2 (pc x0 2048 (at4 3 l)) r := by
  refine Eq.trans ?_ (shifted (val_main_v15 (F := Ideal) x0) l _ (fun q => u16_at x0 q l) 15 2 (13 + r.val) r.val r.isLt (by omega) (fun _ => by omega))
  pointwise [val_main_v83, val_main_v79, val_main_v78, val_main_cst_9]
theorem s16_3 : val_main_v85 (F := Ideal) x0 (ix2 r l) = sh 3 (pc x0 2048 (at4 3 l)) r := by
  refine Eq.trans ?_ (shifted (val_main_v15 (F := Ideal) x0) l _ (fun q => u16_at x0 q l) 15 3 (12 + r.val) r.val r.isLt (by omega) (fun _ => by omega))
  pointwise [val_main_v85, val_main_v79, val_main_v78, val_main_cst_9]
theorem s16_4 : val_main_v87 (F := Ideal) x0 (ix2 r l) = sh 4 (pc x0 2048 (at4 3 l)) r := by
  refine Eq.trans ?_ (shifted (val_main_v15 (F := Ideal) x0) l _ (fun q => u16_at x0 q l) 15 4 (11 + r.val) r.val r.isLt (by omega) (fun _ => by omega))
  pointwise [val_main_v87, val_main_v79, val_main_v78, val_main_cst_9]
theorem s16_5 : val_main_v89 (F := Ideal) x0 (ix2 r l) = sh 5 (pc x0 2048 (at4 3 l)) r := by
  refine Eq.trans ?_ (shifted (val_main_v15 (F := Ideal) x0) l _ (fun q => u16_at x0 q l) 15 5 (10 + r.val) r.val r.isLt (by omega) (fun _ => by omega))
  pointwise [val_main_v89, val_main_v79, val_main_v78, val_main_cst_9]
theorem s16_6 : val_main_v91 (F := Ideal) x0 (ix2 r l) = sh 6 (pc x0 2048 (at4 3 l)) r := by
  refine Eq.trans ?_ (shifted (val_main_v15 (F := Ideal) x0) l _ (fun q => u16_at x0 q l) 15 6 (9 + r.val) r.val r.isLt (by omega) (fun _ => by omega))
  pointwise [val_main_v91, val_main_v79, val_main_v78, val_main_cst_9]
theorem s16_7 : val_main_v93 (F := Ideal) x0 (ix2 r l) = sh 7 (pc x0 2048 (at4 3 l)) r := by
  refine Eq.trans ?_ (shifted (val_main_v15 (F := Ideal) x0) l _ (fun q => u16_at x0 q l) 15 7 (8 + r.val) r.val r.isLt (by omega) (fun _ => by omega))
  pointwise [val_main_v93, val_main_v79, val_main_v78, val_main_cst_9]
theorem s16_8 : val_main_v95 (F := Ideal) x0 (ix2 r l) = sh 8 (pc x0 2048 (at4 3 l)) r := by
  refine Eq.trans ?_ (shifted (val_main_v15 (F := Ideal) x0) l _ (fun q => u16_at x0 q l) 15 8 (7 + r.val) r.val r.isLt (by omega) (fun _ => by omega))
  pointwise [val_main_v95, val_main_v79, val_main_v78, val_main_cst_9]
theorem s16_9 : val_main_v97 (F := Ideal) x0 (ix2 r l) = sh 9 (pc x0 2048 (at4 3 l)) r := by
  refine Eq.trans ?_ (shifted (val_main_v15 (F := Ideal) x0) l _ (fun q => u16_at x0 q l) 15 9 (6 + r.val) r.val r.isLt (by omega) (fun _ => by omega))
  pointwise [val_main_v97, val_main_v79, val_main_v78, val_main_cst_9]
theorem s16_10 : val_main_v99 (F := Ideal) x0 (ix2 r l) = sh 10 (pc x0 2048 (at4 3 l)) r := by
  refine Eq.trans ?_ (shifted (val_main_v15 (F := Ideal) x0) l _ (fun q => u16_at x0 q l) 15 10 (5 + r.val) r.val r.isLt (by omega) (fun _ => by omega))
  pointwise [val_main_v99, val_main_v79, val_main_v78, val_main_cst_9]
theorem s16_11 : val_main_v101 (F := Ideal) x0 (ix2 r l) = sh 11 (pc x0 2048 (at4 3 l)) r := by
  refine Eq.trans ?_ (shifted (val_main_v15 (F := Ideal) x0) l _ (fun q => u16_at x0 q l) 15 11 (4 + r.val) r.val r.isLt (by omega) (fun _ => by omega))
  pointwise [val_main_v101, val_main_v79, val_main_v78, val_main_cst_9]
theorem s16_12 : val_main_v103 (F := Ideal) x0 (ix2 r l) = sh 12 (pc x0 2048 (at4 3 l)) r := by
  refine Eq.trans ?_ (shifted (val_main_v15 (F := Ideal) x0) l _ (fun q => u16_at x0 q l) 15 12 (3 + r.val) r.val r.isLt (by omega) (fun _ => by omega))
  pointwise [val_main_v103, val_main_v79, val_main_v78, val_main_cst_9]
theorem s16_13 : val_main_v105 (F := Ideal) x0 (ix2 r l) = sh 13 (pc x0 2048 (at4 3 l)) r := by
  refine Eq.trans ?_ (shifted (val_main_v15 (F := Ideal) x0) l _ (fun q => u16_at x0 q l) 15 13 (2 + r.val) r.val r.isLt (by omega) (fun _ => by omega))
  pointwise [val_main_v105, val_main_v79, val_main_v78, val_main_cst_9]
theorem s16_14 : val_main_v107 (F := Ideal) x0 (ix2 r l) = sh 14 (pc x0 2048 (at4 3 l)) r := by
  refine Eq.trans ?_ (shifted (val_main_v15 (F := Ideal) x0) l _ (fun q => u16_at x0 q l) 15 14 (1 + r.val) r.val r.isLt (by omega) (fun _ => by omega))
  pointwise [val_main_v107, val_main_v79, val_main_v78, val_main_cst_9]
theorem s16_15 : val_main_v109 (F := Ideal) x0 (ix2 r l) = sh 15 (pc x0 2048 (at4 3 l)) r := by
  refine Eq.trans ?_ (shifted (val_main_v15 (F := Ideal) x0) l _ (fun q => u16_at x0 q l) 15 15 (r.val) r.val r.isLt (by omega) (fun _ => by omega))
  pointwise [val_main_v109, val_main_v79, val_main_v78, val_main_cst_9]

/-- The pooled section of group 3. -/
theorem pool16_at : val_main_v115 (F := Ideal) x0 (ix2 r l) = mean 16 (pc x0 2048 (at4 3 l)) r := by
  pointwise [val_main_v115, val_main_v114, val_main_v113, val_main_v110, val_main_v108, val_main_v106, val_main_v104, val_main_v102, val_main_v100, val_main_v98, val_main_v96, val_main_v94, val_main_v92, val_main_v90, val_main_v88, val_main_v86, val_main_v84, val_main_v82]
  rw [count16, u16_at, s16_0, s16_1, s16_2, s16_3, s16_4, s16_5, s16_6, s16_7, s16_8, s16_9, s16_10, s16_11, s16_12, s16_13, s16_14, s16_15]
  unfold mean
  simp only [Finset.sum_range_succ, Finset.sum_range_zero, zero_add]

/-- The pooled section of group `k`. -/
def pooled (k : Fin 4) (l : Fin 128) (n : ℕ) : EReal := mean (![2, 4, 8, 16] k) (pc x0 2048 (at4 k l)) n

/-- The four pooled sections side by side. -/
theorem v116_at : val_main_v116 (F := Ideal) x0 (ix2 r (at4 k l)) = pooled x0 k l r := by
  have hl := l.isLt
  fin_cases k
  · refine Eq.trans ?_ (pool2_at x0 r l)
    pointwise [val_main_v116]
  · refine Eq.trans ?_ (pool4_at x0 r l)
    pointwise [val_main_v116]
  · refine Eq.trans ?_ (pool8_at x0 r l)
    pointwise [val_main_v116]
    rw [dif_neg (by omega), dif_neg (by omega), dif_pos (by omega)]
    exact congrArg (fun z => val_main_v73 (F := Ideal) x0 (ix2 r z)) (Fin.ext (by show 256 + l.val - 128 - 128 = l.val; omega))
  · refine Eq.trans ?_ (pool16_at x0 r l)
    pointwise [val_main_v116]
    rw [dif_neg (by omega), dif_neg (by omega), dif_neg (by omega)]
    exact congrArg (fun z => val_main_v115 (F := Ideal) x0 (ix2 r z)) (Fin.ext (by show 384 + l.val - 128 - 128 - 128 = l.val; omega))

/-- The third result: the pooled sections. -/
theorem v273_at : val_main_v273 (F := Ideal) x0 (ix2 r (at4 k l)) = pooled x0 k l r := by
  refine Eq.trans ?_ (v116_at x0 r k l)
  pointwise [val_main_v273]

/-- The pooling mixer computes the pooled sections again. -/
theorem again2 : val_main_v166 (F := Ideal) x0 = val_main_v29 (F := Ideal) x0 := rfl
theorem again4 : val_main_v184 (F := Ideal) x0 = val_main_v47 (F := Ideal) x0 := rfl
theorem again8 : val_main_v210 (F := Ideal) x0 = val_main_v73 (F := Ideal) x0 := rfl
theorem again16 : val_main_v252 (F := Ideal) x0 = val_main_v115 (F := Ideal) x0 := rfl

/-- The mixed section down a column. -/
def mixed : EReal := ∑ a : Fin 128, pooled x0 k a r * x2 (ix4 3 k a l)

theorem mix0_at : val_main_v255 (F := Ideal) x0 x2 (ix2 r l) = mixed x0 x2 r 0 l := by
  pointwise [val_main_v255, val_main_v254, val_main_v253, val_main_v146, val_main_v145]
  exact Finset.sum_congr rfl fun a _ => congrArg (fun p : EReal => p * _) ((congrFun (again2 x0) _).trans (pool2_at x0 r a))
theorem mix1_at : val_main_v258 (F := Ideal) x0 x2 (ix2 r l) = mixed x0 x2 r 1 l := by
  pointwise [val_main_v258, val_main_v257, val_main_v256, val_main_v146, val_main_v145]
  exact Finset.sum_congr rfl fun a _ => congrArg (fun p : EReal => p * _) ((congrFun (again4 x0) _).trans (pool4_at x0 r a))
theorem mix2_at : val_main_v261 (F := Ideal) x0 x2 (ix2 r l) = mixed x0 x2 r 2 l := by
  pointwise [val_main_v261, val_main_v260, val_main_v259, val_main_v146, val_main_v145]
  exact Finset.sum_congr rfl fun a _ => congrArg (fun p : EReal => p * _) ((congrFun (again8 x0) _).trans (pool8_at x0 r a))
theorem mix3_at : val_main_v264 (F := Ideal) x0 x2 (ix2 r l) = mixed x0 x2 r 3 l := by
  pointwise [val_main_v264, val_main_v263, val_main_v262, val_main_v146, val_main_v145]
  exact Finset.sum_congr rfl fun a _ => congrArg (fun p : EReal => p * _) ((congrFun (again16 x0) _).trans (pool16_at x0 r a))

/-- The four mixed sections side by side. -/
theorem v265_at : val_main_v265 (F := Ideal) x0 x2 (ix2 r (at4 k l)) = mixed x0 x2 r k l := by
  have hl := l.isLt
  fin_cases k
  · refine Eq.trans ?_ (mix0_at x0 x2 r l)
    pointwise [val_main_v265]
  · refine Eq.trans ?_ (mix1_at x0 x2 r l)
    pointwise [val_main_v265]
  · refine Eq.trans ?_ (mix2_at x0 x2 r l)
    pointwise [val_main_v265]
    rw [dif_neg (by omega), dif_neg (by omega), dif_pos (by omega)]
    exact congrArg (fun z => val_main_v261 (F := Ideal) x0 x2 (ix2 r z)) (Fin.ext (by show 256 + l.val - 128 - 128 = l.val; omega))
  · refine Eq.trans ?_ (mix3_at x0 x2 r l)
    pointwise [val_main_v265]
    rw [dif_neg (by omega), dif_neg (by omega), dif_neg (by omega)]
    exact congrArg (fun z => val_main_v264 (F := Ideal) x0 x2 (ix2 r z)) (Fin.ext (by show 384 + l.val - 128 - 128 - 128 = l.val; omega))

/-- The second result: the mixed sections scaled and gated. -/
theorem v272_at : val_main_v272 (F := Ideal) x0 x2 x3 (ix2 r (at4 k l))
    = mixed x0 x2 r k l * x3 (ix2 3 (at4 k l)) * (pc x0 2560 (at4 k l) r * sg (pc x0 2560 (at4 k l) r)) := by
  rw [← v265_at, ← v269_at]
  pointwise [val_main_v272, val_main_v270, val_main_v268, val_main_v267, val_main_v266, val_main_v148, val_main_v147]

end Cert.MfwdReferenceIdeal.Mix

end
-- ==== Proof.MfwdFinal.lean ====
module

public import proofs.«01_k».proof.Proof.MfwdArrays
public import proofs.«01_k».proof.Proof.MfwdRef
public import proofs.«01_k».proof.Defs
public import proofs.«01_k».proof.Proof.Gen.MfwdReferenceIdeal.Run

@[expose] public section

set_option maxRecDepth 16384

noncomputable section

namespace Cert.MfwdKernelIdeal.Mix

open Cert.MfwdKernelIdeal.Gen
open Idealize.ShloMosaic Idealize.ShloMosaic.TcCoe Idealize.SL.Sem
open MixColumn Cert.MfwdReferenceIdeal.Mix Cert.MfwdReferenceIdeal.Read

/-- A block's column is the column of the projection it was cut from. -/
theorem col_pc (X : S2048x128.Idx → EReal) (x0 : S2048x3072.Idx → EReal) (b : Fin 2561) (k : Fin 4) (l : Fin 128)
    (h : ∀ n : Fin 2048, X (ix2 n l) = x0 (ix2 n ⟨b.val + (at4 k l).val, by omega⟩)) : col X l = pc x0 b (at4 k l) := by
  funext n
  unfold col pc
  split
  · exact h _
  · rfl

variable (m : (ℓ : Loc nD τ sig) → Buf (Elt Ideal) ℓ) (c : Dev nD) (k : Fin 4) (l : Fin 128) (r : Fin 2048)

/-- The arguments on one device. -/
abbrev A0 : S2048x3072.Idx → EReal := m ((c : Thread nD τ).loc main_arg0)
abbrev A1 : S4x3x512.Idx → EReal := m ((c : Thread nD τ).loc main_arg1)
abbrev A2 : S4x4x128x128.Idx → EReal := m ((c : Thread nD τ).loc main_arg2)
abbrev A3 : S4x512.Idx → EReal := m ((c : Thread nD τ).loc main_arg3)

theorem col0 : col (iblk m c 0 (cPt k)) l = pc (A0 m c) 0 (at4 k l) :=
  col_pc _ _ 0 k l fun n => (blk0 m c k n l).trans (congrArg (fun q => A0 m c (ix2 n q)) (Fin.ext (by show 128 * (0 + k.val) + l.val = 0 + (128 * k.val + l.val); omega)))
theorem col1 : col (iblk m c 1 (cPt k)) l = pc (A0 m c) 512 (at4 k l) :=
  col_pc _ _ 512 k l fun n => (blk1 m c k n l).trans (congrArg (fun q => A0 m c (ix2 n q)) (Fin.ext (by show 128 * (4 + k.val) + l.val = 512 + (128 * k.val + l.val); omega)))
theorem col2 : col (iblk m c 2 (cPt k)) l = pc (A0 m c) 1024 (at4 k l) :=
  col_pc _ _ 1024 k l fun n => (blk2 m c k n l).trans (congrArg (fun q => A0 m c (ix2 n q)) (Fin.ext (by show 128 * (8 + k.val) + l.val = 1024 + (128 * k.val + l.val); omega)))
theorem col3 : col (iblk m c 3 (cPt k)) l = pc (A0 m c) 1536 (at4 k l) :=
  col_pc _ _ 1536 k l fun n => (blk3 m c k n l).trans (congrArg (fun q => A0 m c (ix2 n q)) (Fin.ext (by show 128 * (12 + k.val) + l.val = 1536 + (128 * k.val + l.val); omega)))
theorem col4 : col (iblk m c 4 (pPt k)) l = pc (A0 m c) 2048 (at4 k l) :=
  col_pc _ _ 2048 k l fun n => (blk4 m c k n l).trans (congrArg (fun q => A0 m c (ix2 n q)) (Fin.ext (by show 128 * (16 + k.val) + l.val = 2048 + (128 * k.val + l.val); omega)))
theorem col5 : col (iblk m c 5 (pPt k)) l = pc (A0 m c) 2560 (at4 k l) :=
  col_pc _ _ 2560 k l fun n => (blk5 m c k n l).trans (congrArg (fun q => A0 m c (ix2 n q)) (Fin.ext (by show 128 * (20 + k.val) + l.val = 2560 + (128 * k.val + l.val); omega)))

theorem tap_at (q : Fin 3) : tap (iblk m c 6 (cPt k)) q (ix4 0 0 0 l) = A1 m c (ix3 3 q (at4 k l)) :=
  (blk6 m c k q l).trans (congrArg (fun z => A1 m c (ix3 3 q z)) (Fin.ext (by show 128 * (0 + k.val) + l.val = 128 * k.val + l.val; omega)))
theorem scale_at : iblk m c 8 (pPt k) (ix3 0 0 l) = A3 m c (ix2 3 (at4 k l)) :=
  (blk8 m c k l).trans (congrArg (fun z => A3 m c (ix2 3 z)) (Fin.ext (by show 128 * (0 + k.val) + l.val = 128 * k.val + l.val; omega)))

/-- The gated convolution at point `k`, element by element. -/
theorem yaAt_at : yaAt m c k (ix2 r l) = pc (A0 m c) 512 (at4 k l) r * conv (A1 m c (ix3 3 0 (at4 k l))) (A1 m c (ix3 3 1 (at4 k l))) (A1 m c (ix3 3 2 (at4 k l))) (ra (A0 m c) (at4 k l)) r
    * (pc (A0 m c) 1536 (at4 k l) r * sg (pc (A0 m c) 1536 (at4 k l) r)) := by
  refine (fYa_at _ _ _ _ _ _ _ _ _).trans ?_
  rw [tap_at, tap_at, tap_at, col0, col1, col2, col3]
  rfl

/-- The pooled section at point `k`, element by element. -/
theorem plAt_at : plAt m c k (ix2 r l) = pooled (A0 m c) k l r := by
  unfold pooled
  rw [← col4]
  fin_cases k
  · exact fPool2_at _ l r
  · exact fPool4_at _ l r
  · exact fPool8_at _ l r
  · exact fPool16_at _ l r

/-- The pooling mixer's result at point `k`, element by element. -/
theorem ypAt_at : ypAt m c k (ix2 r l) = mixed (A0 m c) (A2 m c) r k l * A3 m c (ix2 3 (at4 k l)) * (pc (A0 m c) 2560 (at4 k l) r * sg (pc (A0 m c) 2560 (at4 k l) r)) := by
  refine (fYp_at _ _ _ _ _).trans ?_
  rw [scale_at, col5, col_lt _ _ _ r.isLt]
  refine congrArg₂ (fun p q : EReal => p * q) (congrArg (fun p : EReal => p * _) ?_) rfl
  refine (pay6_at _ _ _ _).trans (Finset.sum_congr rfl fun a _ => ?_)
  rw [plAt_at, blk7]

/-- A result of 512 columns, from its groups of 128. -/
theorem by_groups (f : Fin 4 → S2048x128.Idx → EReal) (Y : S2048x512.Idx → EReal) (h : ∀ k r l, f k (ix2 r l) = Y (ix2 r (at4 k l))) :
    Y = fun i : S2048x512.Idx => f (grp (i 1)) (ix2 (i 0) (lane (i 1))) := by
  funext i
  obtain ⟨a, b, rfl⟩ : ∃ (a : Fin 2048) (b : Fin 512), i = ix2 a b := ⟨i 0, i 1, by funext k; fin_cases k <;> rfl⟩
  refine Eq.trans ?_ (h (grp b) a (lane b)).symm
  exact congrArg (fun z => Y (ix2 a z)) (Fin.ext (by show b.val = 128 * (b.val / 128) + b.val % 128; omega))

set_option maxHeartbeats 4000000 in
/-- The whole claim: the kernel's three results are the reference's. -/
theorem algebraic : Cert.algebraic_MfwdKernelIdeal_MfwdReferenceIdeal := by
  intro m g m' g' _ heq
  refine ⟨fun c => (dats m 0 c).arrAt 9 cfg0.N, fun c => (dats m 0 c).arrAt 10 cfg0.N, fun c => (dats m 0 c).arrAt 11 cfg0.N, run_blocks m g, ?_⟩
  refine (θ_run Cert.MfwdReferenceIdeal.defs _ _).mono (fun r h c => ?_) (Cert.MfwdReferenceIdeal.Value.run m' g')
  obtain ⟨e271, e272, e273, rest⟩ := h c
  obtain ⟨q0, q1, q2, q3⟩ := heq c
  have w0 : StableHlo.launchContents m' c (Proc.tc.devRef Cert.MfwdReferenceIdeal.main_arg0) = A0 m c := q0
  have w1 : StableHlo.launchContents m' c (Proc.tc.devRef Cert.MfwdReferenceIdeal.main_arg1) = A1 m c := q1
  have w2 : StableHlo.launchContents m' c (Proc.tc.devRef Cert.MfwdReferenceIdeal.main_arg2) = A2 m c := q2
  have w3 : StableHlo.launchContents m' c (Proc.tc.devRef Cert.MfwdReferenceIdeal.main_arg3) = A3 m c := q3
  refine ⟨e271.trans ?_, e272.trans ?_, e273.trans ?_, rest⟩
  · refine (val_main_v271_eq _).trans ?_
    rw [w0, w1]
    exact (by_groups (yaAt m c) _ fun k r l => (yaAt_at m c k l r).trans (v271_at _ _ r (at4 k l)).symm).trans (arr9 m c).symm
  · refine (val_main_v272_eq _).trans ?_
    rw [w0, w2, w3]
    exact (by_groups (ypAt m c) _ fun k r l => (ypAt_at m c k l r).trans (v272_at _ _ _ r k l).symm).trans (arr10 m c).symm
  · refine (val_main_v273_eq _).trans ?_
    rw [w0]
    exact (by_groups (plAt m c) _ fun k r l => (plAt_at m c k l r).trans (v273_at _ r k l).symm).trans (arr11 m c).symm

end Cert.MfwdKernelIdeal.Mix

end
-- ==== Proof.lean ====
module

public import proofs.«01_k».proof.Defs
public import proofs.«01_k».proof.Proof.Gen.OutKernel
public import proofs.«01_k».proof.Proof.Gen.OutKernel.Frame
public import proofs.«01_k».proof.Proof.Gen.InKernel
public import proofs.«01_k».proof.Proof.Gen.InKernel.Frame
public import proofs.«01_k».proof.Proof.Gen.Pre_out_finite
public import proofs.«01_k».proof.Proof.Gen.Pre_in_finite
public import proofs.«01_k».proof.Proof.Gen.ProjKernel
public import proofs.«01_k».proof.Proof.Gen.ProjKernel.Frame
public import proofs.«01_k».proof.Proof.Gen.ProjKernelIdeal.Value
public import proofs.«01_k».proof.Proof.Gen.ProjReferenceIdeal.Read
public import proofs.«01_k».proof.Proof.Gen.FwdKernel
public import proofs.«01_k».proof.Proof.Gen.FwdKernel.Frame
public import proofs.«01_k».proof.Proof.Gen.FwdKernelIdeal.Value
public import proofs.«01_k».proof.Proof.Gen.FwdReferenceIdeal.Read
public import proofs.«01_k».proof.Proof.Gen.LossKernel
public import proofs.«01_k».proof.Proof.Gen.LossKernel.Frame
public import proofs.«01_k».proof.Proof.Gen.LossKernelIdeal.Value
public import proofs.«01_k».proof.Proof.Gen.LossReferenceIdeal.Read
public import proofs.«01_k».proof.Proof.OutFinal
public import proofs.«01_k».proof.Proof.InFinal
public import proofs.«01_k».proof.Proof.ProjValue
public import proofs.«01_k».proof.Proof.FwdValue
public import proofs.«01_k».proof.Proof.LossValue
public import proofs.«01_k».proof.Proof.Gen.MixKernel
public import proofs.«01_k».proof.Proof.Gen.MixKernelIdeal.Frame
public import proofs.«01_k».proof.Proof.Gen.MixKernelIdeal.Loops
public import proofs.«01_k».proof.Proof.Gen.MixKernelIdeal.Points
public import proofs.«01_k».proof.Proof.Gen.MixReferenceIdeal.Read
public import proofs.«01_k».proof.Proof.Gen.Pre_mix_finite
public import proofs.«01_k».proof.Proof.Gen.MfwdKernel
public import proofs.«01_k».proof.Proof.Gen.MfwdKernelIdeal.Frame
public import proofs.«01_k».proof.Proof.Gen.MfwdKernelIdeal.Loops
public import proofs.«01_k».proof.Proof.Gen.MfwdKernelIdeal.Points
public import proofs.«01_k».proof.Proof.Gen.MfwdReferenceIdeal.Read
public import proofs.«01_k».proof.Proof.MixBoth
public import proofs.«01_k».proof.Proof.MixFinal
public import proofs.«01_k».proof.Proof.MfwdBoth
public import proofs.«01_k».proof.Proof.MfwdFinal
public import Idealize.ShloMosaic.Lib.Quiescent
public import Idealize.ShloMosaic.Adequacy
public import Idealize.ShloMosaic.Init

@[expose] public section

noncomputable section

namespace Cert.Proof

open Idealize.ShloMosaic Idealize.SL.Sem

/-- The reference `MixReference` has host operations only: its arguments end unchanged, and it has no counters. -/
theorem frame_mixReference : Cert.quiescent_MixReferenceIdeal := fun m ρ _ =>
  (θ_run Cert.MixReferenceIdeal.defs _ _).mono
    (fun r h => ⟨fun c => (h c).2.2.2.2.2.2.2.2.2, sem_eq_zero_of_no_sems (by decide) r.2⟩)
    (Cert.MixReferenceIdeal.Value.run m ρ)

/-- The reference `OutReference` has host operations only: its arguments end unchanged, and it has no counters. -/
theorem frame_outReference : Cert.quiescent_OutReferenceIdeal := fun m ρ _ =>
  (θ_run Cert.OutReferenceIdeal.defs _ _).mono
    (fun r h => ⟨fun c => (h c).2.2.2.2.2, sem_eq_zero_of_no_sems (by decide) r.2⟩)
    (Cert.OutReferenceIdeal.Value.run m ρ)

/-- The reference `InReference` has host operations only: its arguments end unchanged, and it has no counters. -/
theorem frame_inReference : Cert.quiescent_InReferenceIdeal := fun m ρ _ =>
  (θ_run Cert.InReferenceIdeal.defs _ _).mono
    (fun r h => ⟨fun c => (h c).2.2.2.2.2, sem_eq_zero_of_no_sems (by decide) r.2⟩)
    (Cert.InReferenceIdeal.Value.run m ρ)

/-- The reference `ProjReference` has host operations only: its arguments end unchanged, and it has no counters. -/
theorem frame_projReference : Cert.quiescent_ProjReferenceIdeal := fun m ρ _ =>
  (θ_run Cert.ProjReferenceIdeal.defs _ _).mono
    (fun r h => ⟨fun c => (h c).2, sem_eq_zero_of_no_sems (by decide) r.2⟩)
    (Cert.ProjReferenceIdeal.Value.run m ρ)

/-- The reference `FwdReference` has host operations only: its arguments end unchanged, and it has no counters. -/
theorem frame_fwdReference : Cert.quiescent_FwdReferenceIdeal := fun m ρ _ =>
  (θ_run Cert.FwdReferenceIdeal.defs _ _).mono
    (fun r h => ⟨fun c => (h c).2.2, sem_eq_zero_of_no_sems (by decide) r.2⟩)
    (Cert.FwdReferenceIdeal.Value.run m ρ)

/-- The reference `LossReference` has host operations only: its arguments end unchanged, and it has no counters. -/
theorem frame_lossReference : Cert.quiescent_LossReferenceIdeal := fun m ρ _ =>
  (θ_run Cert.LossReferenceIdeal.defs _ _).mono
    (fun r h => ⟨fun c => (h c).2.2.2, sem_eq_zero_of_no_sems (by decide) r.2⟩)
    (Cert.LossReferenceIdeal.Value.run m ρ)

/-- The reference `MfwdReference` has host operations only: its arguments end unchanged, and it has no counters. -/
theorem frame_mfwdReference : Cert.quiescent_MfwdReferenceIdeal := fun m ρ _ =>
  (θ_run Cert.MfwdReferenceIdeal.defs _ _).mono
    (fun r h => ⟨fun c => (h c).2.2.2, sem_eq_zero_of_no_sems (by decide) r.2⟩)
    (Cert.MfwdReferenceIdeal.Value.run m ρ)

/-- The claim: the frames, the (empty) rewrites, and the seven value claims. -/
theorem claim : Cert.Claim := ⟨Cert.MixKernel.Gen.facts, Cert.MixKernelIdeal.Gen.facts, Cert.MixReferenceIdeal.Gen.facts,
  Cert.OutKernel.Gen.facts, Cert.OutKernelIdeal.Gen.facts, Cert.OutReferenceIdeal.Gen.facts,
  Cert.InKernel.Gen.facts, Cert.InKernelIdeal.Gen.facts, Cert.InReferenceIdeal.Gen.facts,
  Cert.ProjKernel.Gen.facts, Cert.ProjKernelIdeal.Gen.facts, Cert.ProjReferenceIdeal.Gen.facts,
  Cert.FwdKernel.Gen.facts, Cert.FwdKernelIdeal.Gen.facts, Cert.FwdReferenceIdeal.Gen.facts,
  Cert.LossKernel.Gen.facts, Cert.LossKernelIdeal.Gen.facts, Cert.LossReferenceIdeal.Gen.facts,
  Cert.MfwdKernel.Gen.facts, Cert.MfwdKernelIdeal.Gen.facts, Cert.MfwdReferenceIdeal.Gen.facts,
  Cert.Pre_mix_finite.Gen.facts, Cert.Pre_out_finite.Gen.facts, Cert.Pre_in_finite.Gen.facts,
  Cert.MixKernelIdeal.Mix.frame_kernel,
  fun m ρ _ => Cert.MixKernelIdeal.Mix.frame m ρ,
  fun m ρ _ => Cert.MixKernelIdeal.Mix.frame m ρ,
  frame_mixReference,
  fun m ρ _ => frame_mixReference m ρ trivial,
  fun m ρ _ => Cert.OutKernel.Gen.frame m ρ,
  fun m ρ _ => Cert.OutKernelIdeal.Gen.frame m ρ,
  fun m ρ _ => Cert.OutKernelIdeal.Gen.frame m ρ,
  frame_outReference,
  fun m ρ _ => frame_outReference m ρ trivial,
  fun m ρ _ => Cert.InKernel.Gen.frame m ρ,
  fun m ρ _ => Cert.InKernelIdeal.Gen.frame m ρ,
  fun m ρ _ => Cert.InKernelIdeal.Gen.frame m ρ,
  frame_inReference,
  fun m ρ _ => frame_inReference m ρ trivial,
  fun m ρ _ => Cert.ProjKernel.Gen.frame m ρ,
  fun m ρ _ => Cert.ProjKernelIdeal.Gen.frame m ρ,
  frame_projReference,
  fun m ρ _ => Cert.FwdKernel.Gen.frame m ρ,
  fun m ρ _ => Cert.FwdKernelIdeal.Gen.frame m ρ,
  frame_fwdReference,
  fun m ρ _ => Cert.LossKernel.Gen.frame m ρ,
  fun m ρ _ => Cert.LossKernelIdeal.Gen.frame m ρ,
  frame_lossReference,
  Cert.MfwdKernelIdeal.Mix.frame_kernel,
  fun m ρ _ => Cert.MfwdKernelIdeal.Mix.frame m ρ,
  frame_mfwdReference,
  trivial, Cert.MixKernelIdeal.Mix.algebraic,
  trivial, Cert.OutKernelIdeal.OutValue.algebraic,
  trivial, Cert.InKernelIdeal.InValue.algebraic,
  trivial, Cert.ProjKernelIdeal.ProjValue.algebraic,
  trivial, Cert.FwdKernelIdeal.FwdValue.algebraic,
  trivial, Cert.LossKernelIdeal.LossValue.algebraic,
  trivial, Cert.MfwdKernelIdeal.Mix.algebraic⟩

end Cert.Proof

end
